-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).2.2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).2.2.2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))).2.2.2.2.2.2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))).2.2.2.2.2.2.2.2.2.2.2 = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_ctx [hPre_finite_ctx : Cert.Pre_finite_ctx.Facts] (m : (ℓ : Loc Cert.CtxIdeal.nD Cert.CtxIdeal.τ Cert.CtxIdeal.sig) → Buf (Elt Ideal) ℓ) : Prop :=
  ∀ c : Dev Cert.CtxIdeal.nD,
    (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.2.1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.2.2.1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.2.2.2.1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.2.2.2.2.1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.2.2.2.2.2.1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.2.2.2.2.2.2.1 = (fun _ => 1#1)
    ∧ (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))).2.2.2.2.2.2.2.2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_ctx [hPre_finite_ctx : Cert.Pre_finite_ctx.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.2.1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.2.2.1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.2.2.2.1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.2.2.2.2.1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.2.2.2.2.2.1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.2.2.2.2.2.2.1 = (fun _ => 1#1)
    ∧ (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))).2.2.2.2.2.2.2.2 = (fun _ => 1#1)

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_StatesIdeal_finite_states [hPre_finite_states : Cert.Pre_finite_states.Facts] (m : (ℓ : Loc Cert.StatesIdeal.nD Cert.StatesIdeal.τ Cert.StatesIdeal.sig) → Buf (Elt Ideal) ℓ) : Prop :=
  ∀ c : Dev Cert.StatesIdeal.nD,
    (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))).1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))).2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))).2.2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))).2.2.2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))).2.2.2.2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))).2.2.2.2.2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))).2.2.2.2.2.2 = (fun _ => 1#1)

def Pre_StatesRefIdeal (m : (ℓ : Loc Cert.StatesRefIdeal.nD Cert.StatesRefIdeal.τ Cert.StatesRefIdeal.sig) → Buf (Elt Ideal) ℓ) : Prop :=
  True

def Pre_StatesRefIdeal_finite_states [hPre_finite_states : Cert.Pre_finite_states.Facts] (m : (ℓ : Loc Cert.StatesRefIdeal.nD Cert.StatesRefIdeal.τ Cert.StatesRefIdeal.sig) → Buf (Elt Ideal) ℓ) : Prop :=
  ∀ c : Dev Cert.StatesRefIdeal.nD,
    (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4)) (m ((c.tc : Thread Cert.StatesRefIdeal.nD Cert.StatesRefIdeal.τ).loc Cert.StatesRefIdeal.main_arg5)) (m ((c.tc : Thread Cert.StatesRefIdeal.nD Cert.StatesRefIdeal.τ).loc Cert.StatesRefIdeal.main_arg6))).1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4)) (m ((c.tc : Thread Cert.StatesRefIdeal.nD Cert.StatesRefIdeal.τ).loc Cert.StatesRefIdeal.main_arg5)) (m ((c.tc : Thread Cert.StatesRefIdeal.nD Cert.StatesRefIdeal.τ).loc Cert.StatesRefIdeal.main_arg6))).2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4)) (m ((c.tc : Thread Cert.StatesRefIdeal.nD Cert.StatesRefIdeal.τ).loc Cert.StatesRefIdeal.main_arg5)) (m ((c.tc : Thread Cert.StatesRefIdeal.nD Cert.StatesRefIdeal.τ).loc Cert.StatesRefIdeal.main_arg6))).2.2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4)) (m ((c.tc : Thread Cert.StatesRefIdeal.nD Cert.StatesRefIdeal.τ).loc Cert.StatesRefIdeal.main_arg5)) (m ((c.tc : Thread Cert.StatesRefIdeal.nD Cert.StatesRefIdeal.τ).loc Cert.StatesRefIdeal.main_arg6))).2.2.2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4)) (m ((c.tc : Thread Cert.StatesRefIdeal.nD Cert.StatesRefIdeal.τ).loc Cert.StatesRefIdeal.main_arg5)) (m ((c.tc : Thread Cert.StatesRefIdeal.nD Cert.StatesRefIdeal.τ).loc Cert.StatesRefIdeal.main_arg6))).2.2.2.2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4)) (m ((c.tc : Thread Cert.StatesRefIdeal.nD Cert.StatesRefIdeal.τ).loc Cert.StatesRefIdeal.main_arg5)) (m ((c.tc : Thread Cert.StatesRefIdeal.nD Cert.StatesRefIdeal.τ).loc Cert.StatesRefIdeal.main_arg6))).2.2.2.2.2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4)) (m ((c.tc : Thread Cert.StatesRefIdeal.nD Cert.StatesRefIdeal.τ).loc Cert.StatesRefIdeal.main_arg5)) (m ((c.tc : Thread Cert.StatesRefIdeal.nD Cert.StatesRefIdeal.τ).loc Cert.StatesRefIdeal.main_arg6))).2.2.2.2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7)
      ∧ r.2.mem ((c.tc : Thread Cert.Ctx.nD Cert.Ctx.τ).loc Cert.Ctx.main_arg8) = m ((c.tc : Thread Cert.Ctx.nD Cert.Ctx.τ).loc Cert.Ctx.main_arg8))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8))
      ∧ r.2.sem = fun _ => 0)

def quiescent_CtxIdeal_pre_finite_ctx [hCtxIdeal : Cert.CtxIdeal.Facts] [hPre_finite_ctx : Cert.Pre_finite_ctx.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_ctx m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8))
      ∧ r.2.sem = fun _ => 0)

def quiescent_CtxRefIdeal_pre_finite_ctx [hCtxRefIdeal : Cert.CtxRefIdeal.Facts] [hPre_finite_ctx : Cert.Pre_finite_ctx.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_ctx m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2)
      ∧ r.2.mem ((c.tc : Thread Cert.States.nD Cert.States.τ).loc Cert.States.main_arg3) = m ((c.tc : Thread Cert.States.nD Cert.States.τ).loc Cert.States.main_arg3)
      ∧ r.2.mem ((c.tc : Thread Cert.States.nD Cert.States.τ).loc Cert.States.main_arg4) = m ((c.tc : Thread Cert.States.nD Cert.States.τ).loc Cert.States.main_arg4)
      ∧ r.2.mem ((c.tc : Thread Cert.States.nD Cert.States.τ).loc Cert.States.main_arg5) = m ((c.tc : Thread Cert.States.nD Cert.States.τ).loc Cert.States.main_arg5)
      ∧ r.2.mem ((c.tc : Thread Cert.States.nD Cert.States.τ).loc Cert.States.main_arg6) = m ((c.tc : Thread Cert.States.nD Cert.States.τ).loc Cert.States.main_arg6))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
      ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
      ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6))
      ∧ r.2.sem = fun _ => 0)

def quiescent_StatesIdeal_pre_finite_states [hStatesIdeal : Cert.StatesIdeal.Facts] [hPre_finite_states : Cert.Pre_finite_states.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal_finite_states m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
      ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
      ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6))
      ∧ r.2.sem = fun _ => 0)

def quiescent_StatesRefIdeal [hStatesRefIdeal : Cert.StatesRefIdeal.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1)
      ∧ r.2.mem ((c.tc : Thread Cert.StatesRefIdeal.nD Cert.StatesRefIdeal.τ).loc Cert.StatesRefIdeal.main_arg2) = m ((c.tc : Thread Cert.StatesRefIdeal.nD Cert.StatesRefIdeal.τ).loc Cert.StatesRefIdeal.main_arg2)
      ∧ r.2.mem ((c.tc : Thread Cert.StatesRefIdeal.nD Cert.StatesRefIdeal.τ).loc Cert.StatesRefIdeal.main_arg3) = m ((c.tc : Thread Cert.StatesRefIdeal.nD Cert.StatesRefIdeal.τ).loc Cert.StatesRefIdeal.main_arg3)
      ∧ r.2.mem ((c.tc : Thread Cert.StatesRefIdeal.nD Cert.StatesRefIdeal.τ).loc Cert.StatesRefIdeal.main_arg4) = m ((c.tc : Thread Cert.StatesRefIdeal.nD Cert.StatesRefIdeal.τ).loc Cert.StatesRefIdeal.main_arg4)
      ∧ r.2.mem ((c.tc : Thread Cert.StatesRefIdeal.nD Cert.StatesRefIdeal.τ).loc Cert.StatesRefIdeal.main_arg5) = m ((c.tc : Thread Cert.StatesRefIdeal.nD Cert.StatesRefIdeal.τ).loc Cert.StatesRefIdeal.main_arg5)
      ∧ r.2.mem ((c.tc : Thread Cert.StatesRefIdeal.nD Cert.StatesRefIdeal.τ).loc Cert.StatesRefIdeal.main_arg6) = m ((c.tc : Thread Cert.StatesRefIdeal.nD Cert.StatesRefIdeal.τ).loc Cert.StatesRefIdeal.main_arg6))
      ∧ r.2.sem = fun _ => 0)

def quiescent_StatesRefIdeal_pre_finite_states [hStatesRefIdeal : Cert.StatesRefIdeal.Facts] [hPre_finite_states : Cert.Pre_finite_states.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal_finite_states m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1)
      ∧ r.2.mem ((c.tc : Thread Cert.StatesRefIdeal.nD Cert.StatesRefIdeal.τ).loc Cert.StatesRefIdeal.main_arg2) = m ((c.tc : Thread Cert.StatesRefIdeal.nD Cert.StatesRefIdeal.τ).loc Cert.StatesRefIdeal.main_arg2)
      ∧ r.2.mem ((c.tc : Thread Cert.StatesRefIdeal.nD Cert.StatesRefIdeal.τ).loc Cert.StatesRefIdeal.main_arg3) = m ((c.tc : Thread Cert.StatesRefIdeal.nD Cert.StatesRefIdeal.τ).loc Cert.StatesRefIdeal.main_arg3)
      ∧ r.2.mem ((c.tc : Thread Cert.StatesRefIdeal.nD Cert.StatesRefIdeal.τ).loc Cert.StatesRefIdeal.main_arg4) = m ((c.tc : Thread Cert.StatesRefIdeal.nD Cert.StatesRefIdeal.τ).loc Cert.StatesRefIdeal.main_arg4)
      ∧ r.2.mem ((c.tc : Thread Cert.StatesRefIdeal.nD Cert.StatesRefIdeal.τ).loc Cert.StatesRefIdeal.main_arg5) = m ((c.tc : Thread Cert.StatesRefIdeal.nD Cert.StatesRefIdeal.τ).loc Cert.StatesRefIdeal.main_arg5)
      ∧ r.2.mem ((c.tc : Thread Cert.StatesRefIdeal.nD Cert.StatesRefIdeal.τ).loc Cert.StatesRefIdeal.main_arg6) = m ((c.tc : Thread Cert.StatesRefIdeal.nD Cert.StatesRefIdeal.τ).loc Cert.StatesRefIdeal.main_arg6))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_InBwd_InBwdIdeal : Prop :=
  True

def algebraic_InBwdIdeal_InRefIdeal_pre_finite_in [hInBwdIdeal : Cert.InBwdIdeal.Facts] [hInRefIdeal : Cert.InRefIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_finite_in m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)
      ∧ m' ((c.tc : Thread Cert.InRefIdeal.nD Cert.InRefIdeal.τ).loc Cert.InRefIdeal.main_arg6) = m ((c.tc : Thread Cert.InBwdIdeal.nD Cert.InBwdIdeal.τ).loc Cert.InBwdIdeal.main_arg6)) →
    ∃ (v0 : (c : Dev Cert.InBwdIdeal.nD) → Buf (Elt Ideal) ((c.tc : Thread Cert.InBwdIdeal.nD Cert.InBwdIdeal.τ).loc Cert.InBwdIdeal.main_v20_0)) (v1 : (c : Dev Cert.InBwdIdeal.nD) → Buf (Elt Ideal) ((c.tc : Thread Cert.InBwdIdeal.nD Cert.InBwdIdeal.τ).loc Cert.InBwdIdeal.main_v20_1)) (v2 : (c : Dev Cert.InBwdIdeal.nD) → Buf (Elt Ideal) ((c.tc : Thread Cert.InBwdIdeal.nD Cert.InBwdIdeal.τ).loc Cert.InBwdIdeal.main_v20_2)) (v3 : (c : Dev Cert.InBwdIdeal.nD) → Buf (Elt Ideal) ((c.tc : Thread Cert.InBwdIdeal.nD Cert.InBwdIdeal.τ).loc Cert.InBwdIdeal.main_v20_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v20_0) = v0 c
          ∧ r.2.mem ((c.tc : Thread Cert.InBwdIdeal.nD Cert.InBwdIdeal.τ).loc Cert.InBwdIdeal.main_v20_1) = v1 c
          ∧ r.2.mem ((c.tc : Thread Cert.InBwdIdeal.nD Cert.InBwdIdeal.τ).loc Cert.InBwdIdeal.main_v20_2) = v2 c
          ∧ r.2.mem ((c.tc : Thread Cert.InBwdIdeal.nD Cert.InBwdIdeal.τ).loc Cert.InBwdIdeal.main_v20_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v49) = v0 c
          ∧ r.2.mem ((c.tc : Thread Cert.InRefIdeal.nD Cert.InRefIdeal.τ).loc Cert.InRefIdeal.main_v24) = v1 c
          ∧ r.2.mem ((c.tc : Thread Cert.InRefIdeal.nD Cert.InRefIdeal.τ).loc Cert.InRefIdeal.main_v27) = v2 c
          ∧ r.2.mem ((c.tc : Thread Cert.InRefIdeal.nD Cert.InRefIdeal.τ).loc Cert.InRefIdeal.main_v32) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)) →
    ∃ (v0 : (c : Dev Cert.MidIdeal.nD) → Buf (Elt Ideal) ((c.tc : Thread Cert.MidIdeal.nD Cert.MidIdeal.τ).loc Cert.MidIdeal.main_v14_0)) (v1 : (c : Dev Cert.MidIdeal.nD) → Buf (Elt Ideal) ((c.tc : Thread Cert.MidIdeal.nD Cert.MidIdeal.τ).loc Cert.MidIdeal.main_v14_1)) (v2 : (c : Dev Cert.MidIdeal.nD) → Buf (Elt Ideal) ((c.tc : Thread Cert.MidIdeal.nD Cert.MidIdeal.τ).loc Cert.MidIdeal.main_v14_2)) (v3 : (c : Dev Cert.MidIdeal.nD) → Buf (Elt Ideal) ((c.tc : Thread Cert.MidIdeal.nD Cert.MidIdeal.τ).loc Cert.MidIdeal.main_v14_3)) (v4 : (c : Dev Cert.MidIdeal.nD) → Buf (Elt Ideal) ((c.tc : Thread Cert.MidIdeal.nD Cert.MidIdeal.τ).loc Cert.MidIdeal.main_v14_4)) (v5 : (c : Dev Cert.MidIdeal.nD) → Buf (Elt Ideal) ((c.tc : Thread Cert.MidIdeal.nD Cert.MidIdeal.τ).loc Cert.MidIdeal.main_v14_5)) (v6 : (c : Dev Cert.MidIdeal.nD) → Buf (Elt Ideal) ((c.tc : Thread Cert.MidIdeal.nD Cert.MidIdeal.τ).loc Cert.MidIdeal.main_v14_6)) (v7 : (c : Dev Cert.MidIdeal.nD) → Buf (Elt Ideal) ((c.tc : Thread Cert.MidIdeal.nD Cert.MidIdeal.τ).loc Cert.MidIdeal.main_v14_7)) (v8 : (c : Dev Cert.MidIdeal.nD) → Buf (Elt Ideal) ((c.tc : Thread Cert.MidIdeal.nD Cert.MidIdeal.τ).loc Cert.MidIdeal.main_v14_8)) (v9 : (c : Dev Cert.MidIdeal.nD) → Buf (Elt Ideal) ((c.tc : Thread Cert.MidIdeal.nD Cert.MidIdeal.τ).loc Cert.MidIdeal.main_v14_9)) (v10 : (c : Dev Cert.MidIdeal.nD) → Buf (Elt Ideal) ((c.tc : Thread Cert.MidIdeal.nD Cert.MidIdeal.τ).loc Cert.MidIdeal.main_v14_10)) (v11 : (c : Dev Cert.MidIdeal.nD) → Buf (Elt Ideal) ((c.tc : Thread Cert.MidIdeal.nD Cert.MidIdeal.τ).loc Cert.MidIdeal.main_v14_11)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v14_0) = v0 c
          ∧ r.2.mem ((c.tc : Thread Cert.MidIdeal.nD Cert.MidIdeal.τ).loc Cert.MidIdeal.main_v14_1) = v1 c
          ∧ r.2.mem ((c.tc : Thread Cert.MidIdeal.nD Cert.MidIdeal.τ).loc Cert.MidIdeal.main_v14_2) = v2 c
          ∧ r.2.mem ((c.tc : Thread Cert.MidIdeal.nD Cert.MidIdeal.τ).loc Cert.MidIdeal.main_v14_3) = v3 c
          ∧ r.2.mem ((c.tc : Thread Cert.MidIdeal.nD Cert.MidIdeal.τ).loc Cert.MidIdeal.main_v14_4) = v4 c
          ∧ r.2.mem ((c.tc : Thread Cert.MidIdeal.nD Cert.MidIdeal.τ).loc Cert.MidIdeal.main_v14_5) = v5 c
          ∧ r.2.mem ((c.tc : Thread Cert.MidIdeal.nD Cert.MidIdeal.τ).loc Cert.MidIdeal.main_v14_6) = v6 c
          ∧ r.2.mem ((c.tc : Thread Cert.MidIdeal.nD Cert.MidIdeal.τ).loc Cert.MidIdeal.main_v14_7) = v7 c
          ∧ r.2.mem ((c.tc : Thread Cert.MidIdeal.nD Cert.MidIdeal.τ).loc Cert.MidIdeal.main_v14_8) = v8 c
          ∧ r.2.mem ((c.tc : Thread Cert.MidIdeal.nD Cert.MidIdeal.τ).loc Cert.MidIdeal.main_v14_9) = v9 c
          ∧ r.2.mem ((c.tc : Thread Cert.MidIdeal.nD Cert.MidIdeal.τ).loc Cert.MidIdeal.main_v14_10) = v10 c
          ∧ r.2.mem ((c.tc : Thread Cert.MidIdeal.nD Cert.MidIdeal.τ).loc Cert.MidIdeal.main_v14_11) = v11 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v99) = v0 c
          ∧ r.2.mem ((c.tc : Thread Cert.MidRefIdeal.nD Cert.MidRefIdeal.τ).loc Cert.MidRefIdeal.main_v165) = v1 c
          ∧ r.2.mem ((c.tc : Thread Cert.MidRefIdeal.nD Cert.MidRefIdeal.τ).loc Cert.MidRefIdeal.main_v166) = v2 c
          ∧ r.2.mem ((c.tc : Thread Cert.MidRefIdeal.nD Cert.MidRefIdeal.τ).loc Cert.MidRefIdeal.main_v167) = v3 c
          ∧ r.2.mem ((c.tc : Thread Cert.MidRefIdeal.nD Cert.MidRefIdeal.τ).loc Cert.MidRefIdeal.main_v168) = v4 c
          ∧ r.2.mem ((c.tc : Thread Cert.MidRefIdeal.nD Cert.MidRefIdeal.τ).loc Cert.MidRefIdeal.main_v169) = v5 c
          ∧ r.2.mem ((c.tc : Thread Cert.MidRefIdeal.nD Cert.MidRefIdeal.τ).loc Cert.MidRefIdeal.main_v170) = v6 c
          ∧ r.2.mem ((c.tc : Thread Cert.MidRefIdeal.nD Cert.MidRefIdeal.τ).loc Cert.MidRefIdeal.main_v171) = v7 c
          ∧ r.2.mem ((c.tc : Thread Cert.MidRefIdeal.nD Cert.MidRefIdeal.τ).loc Cert.MidRefIdeal.main_v83) = v8 c
          ∧ r.2.mem ((c.tc : Thread Cert.MidRefIdeal.nD Cert.MidRefIdeal.τ).loc Cert.MidRefIdeal.main_v104) = v9 c
          ∧ r.2.mem ((c.tc : Thread Cert.MidRefIdeal.nD Cert.MidRefIdeal.τ).loc Cert.MidRefIdeal.main_v141) = v10 c
          ∧ r.2.mem ((c.tc : Thread Cert.MidRefIdeal.nD Cert.MidRefIdeal.τ).loc Cert.MidRefIdeal.main_v172) = v11 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11))

def preserves_Ctx_CtxIdeal : Prop :=
  True

def algebraic_CtxIdeal_CtxRefIdeal_pre_finite_ctx [hCtxIdeal : Cert.CtxIdeal.Facts] [hCtxRefIdeal : Cert.CtxRefIdeal.Facts] [hPre_finite_ctx : Cert.Pre_finite_ctx.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_ctx m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)
      ∧ m' ((c.tc : Thread Cert.CtxRefIdeal.nD Cert.CtxRefIdeal.τ).loc Cert.CtxRefIdeal.main_arg8) = m ((c.tc : Thread Cert.CtxIdeal.nD Cert.CtxIdeal.τ).loc Cert.CtxIdeal.main_arg8)) →
    ∃ (v0 : (c : Dev Cert.CtxIdeal.nD) → Buf (Elt Ideal) ((c.tc : Thread Cert.CtxIdeal.nD Cert.CtxIdeal.τ).loc Cert.CtxIdeal.main_v38_0)) (v1 : (c : Dev Cert.CtxIdeal.nD) → Buf (Elt Ideal) ((c.tc : Thread Cert.CtxIdeal.nD Cert.CtxIdeal.τ).loc Cert.CtxIdeal.main_v38_1)) (v2 : (c : Dev Cert.CtxIdeal.nD) → Buf (Elt Ideal) ((c.tc : Thread Cert.CtxIdeal.nD Cert.CtxIdeal.τ).loc Cert.CtxIdeal.main_v38_2)) (v3 : (c : Dev Cert.CtxIdeal.nD) → Buf (Elt Ideal) ((c.tc : Thread Cert.CtxIdeal.nD Cert.CtxIdeal.τ).loc Cert.CtxIdeal.main_v38_3)) (v4 : (c : Dev Cert.CtxIdeal.nD) → Buf (Elt Ideal) ((c.tc : Thread Cert.CtxIdeal.nD Cert.CtxIdeal.τ).loc Cert.CtxIdeal.main_v38_4)) (v5 : (c : Dev Cert.CtxIdeal.nD) → Buf (Elt Ideal) ((c.tc : Thread Cert.CtxIdeal.nD Cert.CtxIdeal.τ).loc Cert.CtxIdeal.main_v38_6)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v38_0) = v0 c
          ∧ r.2.mem ((c.tc : Thread Cert.CtxIdeal.nD Cert.CtxIdeal.τ).loc Cert.CtxIdeal.main_v38_1) = v1 c
          ∧ r.2.mem ((c.tc : Thread Cert.CtxIdeal.nD Cert.CtxIdeal.τ).loc Cert.CtxIdeal.main_v38_2) = v2 c
          ∧ r.2.mem ((c.tc : Thread Cert.CtxIdeal.nD Cert.CtxIdeal.τ).loc Cert.CtxIdeal.main_v38_3) = v3 c
          ∧ r.2.mem ((c.tc : Thread Cert.CtxIdeal.nD Cert.CtxIdeal.τ).loc Cert.CtxIdeal.main_v38_4) = v4 c
          ∧ r.2.mem ((c.tc : Thread Cert.CtxIdeal.nD Cert.CtxIdeal.τ).loc Cert.CtxIdeal.main_v38_6) = v5 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
          ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v429) = v0 c
          ∧ r.2.mem ((c.tc : Thread Cert.CtxRefIdeal.nD Cert.CtxRefIdeal.τ).loc Cert.CtxRefIdeal.main_v430) = v1 c
          ∧ r.2.mem ((c.tc : Thread Cert.CtxRefIdeal.nD Cert.CtxRefIdeal.τ).loc Cert.CtxRefIdeal.main_v428) = v2 c
          ∧ r.2.mem ((c.tc : Thread Cert.CtxRefIdeal.nD Cert.CtxRefIdeal.τ).loc Cert.CtxRefIdeal.main_v431) = v3 c
          ∧ r.2.mem ((c.tc : Thread Cert.CtxRefIdeal.nD Cert.CtxRefIdeal.τ).loc Cert.CtxRefIdeal.main_v410) = v4 c
          ∧ r.2.mem ((c.tc : Thread Cert.CtxRefIdeal.nD Cert.CtxRefIdeal.τ).loc Cert.CtxRefIdeal.main_v432) = v5 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7)
          ∧ r.2.mem ((c.tc : Thread Cert.CtxRefIdeal.nD Cert.CtxRefIdeal.τ).loc Cert.CtxRefIdeal.main_arg8) = m' ((c.tc : Thread Cert.CtxRefIdeal.nD Cert.CtxRefIdeal.τ).loc Cert.CtxRefIdeal.main_arg8))

def preserves_States_StatesIdeal : Prop :=
  True

def algebraic_StatesIdeal_StatesRefIdeal_pre_finite_states [hStatesIdeal : Cert.StatesIdeal.Facts] [hStatesRefIdeal : Cert.StatesRefIdeal.Facts] [hPre_finite_states : Cert.Pre_finite_states.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesRefIdeal.nD Cert.StatesRefIdeal.τ Cert.StatesRefIdeal.sig) → Buf (Elt Ideal) ℓ) (g' : Dev Cert.StatesRefIdeal.nD → PrngReg), Pre_StatesIdeal_finite_states m →
    (∀ c : Dev Cert.StatesIdeal.nD,
      m' ((c.tc : Thread Cert.StatesRefIdeal.nD Cert.StatesRefIdeal.τ).loc Cert.StatesRefIdeal.main_arg0) = m ((c.tc : Thread Cert.StatesIdeal.nD Cert.StatesIdeal.τ).loc Cert.StatesIdeal.main_arg0)
      ∧ m' ((c.tc : Thread Cert.StatesRefIdeal.nD Cert.StatesRefIdeal.τ).loc Cert.StatesRefIdeal.main_arg1) = m ((c.tc : Thread Cert.StatesIdeal.nD Cert.StatesIdeal.τ).loc Cert.StatesIdeal.main_arg1)
      ∧ m' ((c.tc : Thread Cert.StatesRefIdeal.nD Cert.StatesRefIdeal.τ).loc Cert.StatesRefIdeal.main_arg2) = m ((c.tc : Thread Cert.StatesIdeal.nD Cert.StatesIdeal.τ).loc Cert.StatesIdeal.main_arg2)
      ∧ m' ((c.tc : Thread Cert.StatesRefIdeal.nD Cert.StatesRefIdeal.τ).loc Cert.StatesRefIdeal.main_arg3) = m ((c.tc : Thread Cert.StatesIdeal.nD Cert.StatesIdeal.τ).loc Cert.StatesIdeal.main_arg3)
      ∧ m' ((c.tc : Thread Cert.StatesRefIdeal.nD Cert.StatesRefIdeal.τ).loc Cert.StatesRefIdeal.main_arg4) = m ((c.tc : Thread Cert.StatesIdeal.nD Cert.StatesIdeal.τ).loc Cert.StatesIdeal.main_arg4)
      ∧ m' ((c.tc : Thread Cert.StatesRefIdeal.nD Cert.StatesRefIdeal.τ).loc Cert.StatesRefIdeal.main_arg5) = m ((c.tc : Thread Cert.StatesIdeal.nD Cert.StatesIdeal.τ).loc Cert.StatesIdeal.main_arg5)
      ∧ m' ((c.tc : Thread Cert.StatesRefIdeal.nD Cert.StatesRefIdeal.τ).loc Cert.StatesRefIdeal.main_arg6) = m ((c.tc : Thread Cert.StatesIdeal.nD Cert.StatesIdeal.τ).loc Cert.StatesIdeal.main_arg6)) →
    ∃ (v0 : (c : Dev Cert.StatesIdeal.nD) → Buf (Elt Ideal) ((c.tc : Thread Cert.StatesIdeal.nD Cert.StatesIdeal.τ).loc Cert.StatesIdeal.main_v16_0)) (v1 : (c : Dev Cert.StatesIdeal.nD) → Buf (Elt Ideal) ((c.tc : Thread Cert.StatesIdeal.nD Cert.StatesIdeal.τ).loc Cert.StatesIdeal.main_v16_1)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v16_0) = v0 c
          ∧ r.2.mem ((c.tc : Thread Cert.StatesIdeal.nD Cert.StatesIdeal.τ).loc Cert.StatesIdeal.main_v16_1) = v1 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
          ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
          ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
          ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
          ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6))
      ∧ θ_run (Cert.StatesRefIdeal.defs (F := Ideal)) (onTc (τ := Cert.StatesRefIdeal.τ) (Cert.StatesRefIdeal.main (F := Ideal))) ⟨m', fun _ => 0, g'⟩ (fun r => ∀ c : Dev Cert.StatesRefIdeal.nD,
          r.2.mem ((c.tc : Thread Cert.StatesRefIdeal.nD Cert.StatesRefIdeal.τ).loc Cert.StatesRefIdeal.main_v179) = v0 c
          ∧ r.2.mem ((c.tc : Thread Cert.StatesRefIdeal.nD Cert.StatesRefIdeal.τ).loc Cert.StatesRefIdeal.main_v189) = v1 c
          ∧ r.2.mem ((c.tc : Thread Cert.StatesRefIdeal.nD Cert.StatesRefIdeal.τ).loc Cert.StatesRefIdeal.main_arg0) = m' ((c.tc : Thread Cert.StatesRefIdeal.nD Cert.StatesRefIdeal.τ).loc Cert.StatesRefIdeal.main_arg0)
          ∧ r.2.mem ((c.tc : Thread Cert.StatesRefIdeal.nD Cert.StatesRefIdeal.τ).loc Cert.StatesRefIdeal.main_arg1) = m' ((c.tc : Thread Cert.StatesRefIdeal.nD Cert.StatesRefIdeal.τ).loc Cert.StatesRefIdeal.main_arg1)
          ∧ r.2.mem ((c.tc : Thread Cert.StatesRefIdeal.nD Cert.StatesRefIdeal.τ).loc Cert.StatesRefIdeal.main_arg2) = m' ((c.tc : Thread Cert.StatesRefIdeal.nD Cert.StatesRefIdeal.τ).loc Cert.StatesRefIdeal.main_arg2)
          ∧ r.2.mem ((c.tc : Thread Cert.StatesRefIdeal.nD Cert.StatesRefIdeal.τ).loc Cert.StatesRefIdeal.main_arg3) = m' ((c.tc : Thread Cert.StatesRefIdeal.nD Cert.StatesRefIdeal.τ).loc Cert.StatesRefIdeal.main_arg3)
          ∧ r.2.mem ((c.tc : Thread Cert.StatesRefIdeal.nD Cert.StatesRefIdeal.τ).loc Cert.StatesRefIdeal.main_arg4) = m' ((c.tc : Thread Cert.StatesRefIdeal.nD Cert.StatesRefIdeal.τ).loc Cert.StatesRefIdeal.main_arg4)
          ∧ r.2.mem ((c.tc : Thread Cert.StatesRefIdeal.nD Cert.StatesRefIdeal.τ).loc Cert.StatesRefIdeal.main_arg5) = m' ((c.tc : Thread Cert.StatesRefIdeal.nD Cert.StatesRefIdeal.τ).loc Cert.StatesRefIdeal.main_arg5)
          ∧ r.2.mem ((c.tc : Thread Cert.StatesRefIdeal.nD Cert.StatesRefIdeal.τ).loc Cert.StatesRefIdeal.main_arg6) = m' ((c.tc : Thread Cert.StatesRefIdeal.nD Cert.StatesRefIdeal.τ).loc Cert.StatesRefIdeal.main_arg6))

def preserves_Tail_TailIdeal : Prop :=
  True

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v9_0)) (v1 : (c : Dev Cert.TailIdeal.nD) → Buf (Elt Ideal) ((c.tc : Thread Cert.TailIdeal.nD Cert.TailIdeal.τ).loc Cert.TailIdeal.main_v9_1)) (v2 : (c : Dev Cert.TailIdeal.nD) → Buf (Elt Ideal) ((c.tc : Thread Cert.TailIdeal.nD Cert.TailIdeal.τ).loc Cert.TailIdeal.main_v9_2)) (v3 : (c : Dev Cert.TailIdeal.nD) → Buf (Elt Ideal) ((c.tc : Thread Cert.TailIdeal.nD Cert.TailIdeal.τ).loc Cert.TailIdeal.main_v9_3)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v9_0) = v0 c
          ∧ r.2.mem ((c.tc : Thread Cert.TailIdeal.nD Cert.TailIdeal.τ).loc Cert.TailIdeal.main_v9_1) = v1 c
          ∧ r.2.mem ((c.tc : Thread Cert.TailIdeal.nD Cert.TailIdeal.τ).loc Cert.TailIdeal.main_v9_2) = v2 c
          ∧ r.2.mem ((c.tc : Thread Cert.TailIdeal.nD Cert.TailIdeal.τ).loc Cert.TailIdeal.main_v9_3) = v3 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v51) = v0 c
          ∧ r.2.mem ((c.tc : Thread Cert.TailRefIdeal.nD Cert.TailRefIdeal.τ).loc Cert.TailRefIdeal.main_v32) = v1 c
          ∧ r.2.mem ((c.tc : Thread Cert.TailRefIdeal.nD Cert.TailRefIdeal.τ).loc Cert.TailRefIdeal.main_v45) = v2 c
          ∧ r.2.mem ((c.tc : Thread Cert.TailRefIdeal.nD Cert.TailRefIdeal.τ).loc Cert.TailRefIdeal.main_v41) = v3 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v25) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hInBwd : Cert.InBwd.Facts) (hInBwdIdeal : Cert.InBwdIdeal.Facts) (hInRefIdeal : Cert.InRefIdeal.Facts) (hMid : Cert.Mid.Facts) (hMidIdeal : Cert.MidIdeal.Facts) (hMidRefIdeal : Cert.MidRefIdeal.Facts) (hCtx : Cert.Ctx.Facts) (hCtxIdeal : Cert.CtxIdeal.Facts) (hCtxRefIdeal : Cert.CtxRefIdeal.Facts) (hStates : Cert.States.Facts) (hStatesIdeal : Cert.StatesIdeal.Facts) (hStatesRefIdeal : Cert.StatesRefIdeal.Facts) (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hPre_finite_in : Cert.Pre_finite_in.Facts) (hPre_finite_mid : Cert.Pre_finite_mid.Facts) (hPre_finite_ctx : Cert.Pre_finite_ctx.Facts) (hPre_finite_states : Cert.Pre_finite_states.Facts) (hPre_finite_tail : Cert.Pre_finite_tail.Facts),
    quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_Ctx (hCtx := hCtx)
    ∧ quiescent_CtxIdeal (hCtxIdeal := hCtxIdeal)
    ∧ quiescent_CtxIdeal_pre_finite_ctx (hCtxIdeal := hCtxIdeal) (hPre_finite_ctx := hPre_finite_ctx)
    ∧ quiescent_CtxRefIdeal (hCtxRefIdeal := hCtxRefIdeal)
    ∧ quiescent_CtxRefIdeal_pre_finite_ctx (hCtxRefIdeal := hCtxRefIdeal) (hPre_finite_ctx := hPre_finite_ctx)
    ∧ quiescent_States (hStates := hStates)
    ∧ quiescent_StatesIdeal (hStatesIdeal := hStatesIdeal)
    ∧ quiescent_StatesIdeal_pre_finite_states (hStatesIdeal := hStatesIdeal) (hPre_finite_states := hPre_finite_states)
    ∧ quiescent_StatesRefIdeal (hStatesRefIdeal := hStatesRefIdeal)
    ∧ quiescent_StatesRefIdeal_pre_finite_states (hStatesRefIdeal := hStatesRefIdeal) (hPre_finite_states := hPre_finite_states)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_Proj (hProj := hProj)
    ∧ quiescent_ProjIdeal (hProjIdeal := hProjIdeal)
    ∧ quiescent_ProjRefIdeal (hProjRefIdeal := hProjRefIdeal)
    ∧ preserves_InBwd_InBwdIdeal
    ∧ algebraic_InBwdIdeal_InRefIdeal_pre_finite_in (hInBwdIdeal := hInBwdIdeal) (hInRefIdeal := hInRefIdeal) (hPre_finite_in := hPre_finite_in)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_Ctx_CtxIdeal
    ∧ algebraic_CtxIdeal_CtxRefIdeal_pre_finite_ctx (hCtxIdeal := hCtxIdeal) (hCtxRefIdeal := hCtxRefIdeal) (hPre_finite_ctx := hPre_finite_ctx)
    ∧ preserves_States_StatesIdeal
    ∧ algebraic_StatesIdeal_StatesRefIdeal_pre_finite_states (hStatesIdeal := hStatesIdeal) (hStatesRefIdeal := hStatesRefIdeal) (hPre_finite_states := hPre_finite_states)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_Proj_ProjIdeal
    ∧ algebraic_ProjIdeal_ProjRefIdeal (hProjIdeal := hProjIdeal) (hProjRefIdeal := hProjRefIdeal)
-- ==== Pre_finite_ctx.lean ====
abbrev S256x1024 : Shape := ⟨2, ![256, 1024]⟩
abbrev S1x1024 : Shape := ⟨2, ![1, 1024]⟩
abbrev S1024x5152 : Shape := ⟨2, ![1024, 5152]⟩
abbrev S2x16x256 : Shape := ⟨3, ![2, 16, 256]⟩
abbrev S2x256 : Shape := ⟨2, ![2, 256]⟩
abbrev S4x64x128 : Shape := ⟨3, ![4, 64, 128]⟩
abbrev S_ : Shape := ⟨0, ![]⟩

class Facts : Prop where
  bcast_S_S256x1024 : S_.BroadcastsInDim S256x1024 (![] : Fin 0 → Fin S256x1024.rank)
  bcast_S_S1x1024 : S_.BroadcastsInDim S1x1024 (![] : Fin 0 → Fin S1x1024.rank)
  bcast_S_S1024x5152 : S_.BroadcastsInDim S1024x5152 (![] : Fin 0 → Fin S1024x5152.rank)
  bcast_S_S2x16x256 : S_.BroadcastsInDim S2x16x256 (![] : Fin 0 → Fin S2x16x256.rank)
  bcast_S_S2x256 : S_.BroadcastsInDim S2x256 (![] : Fin 0 → Fin S2x256.rank)
  bcast_S_S4x64x128 : S_.BroadcastsInDim S4x64x128 (![] : Fin 0 → Fin S4x64x128.rank)

variable [Facts]

def fn_part1 {F : FTy → Type} [FloatOps F] (main_arg6 : FVec F S2x256 .f32) (main_arg7 : FVec F S4x64x128 .f32) (main_arg8 : FVec F S4x64x128 .f32) (main_v2 : IVec S256x1024 1) (main_v5 : IVec S1x1024 1) (main_v8 : IVec S1x1024 1) (main_v11 : IVec S1x1024 1) (main_v14 : IVec S1024x5152 1) (main_v17 : IVec S2x16x256 1) : IVec S256x1024 1 × IVec S1x1024 1 × IVec S1x1024 1 × IVec S1x1024 1 × IVec S1024x5152 1 × IVec S2x16x256 1 × IVec S2x256 1 × IVec S4x64x128 1 × IVec S4x64x128 1 :=
  let main_v18 : FVec F S2x256 .f32 := Host.absf main_arg6
  let main_cst_5 : FVec F S_ .f32 := constant S_ .f32 0x7F800000#32
  let main_v19 : FVec F S2x256 .f32 := broadcastInDim S2x256 ![] bcast_S_S2x256 main_cst_5
  let main_v20 : IVec S2x256 1 := cmpf .olt main_v18 main_v19
  let main_v21 : FVec F S4x64x128 .f32 := Host.absf main_arg7
  let main_cst_6 : FVec F S_ .f32 := constant S_ .f32 0x7F800000#32
  let main_v22 : FVec F S4x64x128 .f32 := broadcastInDim S4x64x128 ![] bcast_S_S4x64x128 main_cst_6
  let main_v23 : IVec S4x64x128 1 := cmpf .olt main_v21 main_v22
  let main_v24 : FVec F S4x64x128 .f32 := Host.absf main_arg8
  let main_cst_7 : FVec F S_ .f32 := constant S_ .f32 0x7F800000#32
  let main_v25 : FVec F S4x64x128 .f32 := broadcastInDim S4x64x128 ![] bcast_S_S4x64x128 main_cst_7
  let main_v26 : IVec S4x64x128 1 := cmpf .olt main_v24 main_v25
  (main_v2, main_v5, main_v8, main_v11, main_v14, main_v17, main_v20, main_v23, main_v26)

def fn {F : FTy → Type} [FloatOps F] (main_arg0 : FVec F S256x1024 .f32) (main_arg1 : FVec F S1x1024 .f32) (main_arg2 : FVec F S1x1024 .f32) (main_arg3 : FVec F S1x1024 .f32) (main_arg4 : FVec F S1024x5152 .f32) (main_arg5 : FVec F S2x16x256 .f32) (main_arg6 : FVec F S2x256 .f32) (main_arg7 : FVec F S4x64x128 .f32) (main_arg8 : FVec F S4x64x128 .f32) : IVec S256x1024 1 × IVec S1x1024 1 × IVec S1x1024 1 × IVec S1x1024 1 × IVec S1024x5152 1 × IVec S2x16x256 1 × IVec S2x256 1 × IVec S4x64x128 1 × IVec S4x64x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x5152 .f32 := Host.absf main_arg4
  let main_cst_3 : FVec F S_ .f32 := constant S_ .f32 0x7F800000#32
  let main_v13 : FVec F S1024x5152 .f32 := broadcastInDim S1024x5152 ![] bcast_S_S1024x5152 main_cst_3
  let main_v14 : IVec S1024x5152 1 := cmpf .olt main_v12 main_v13
  let main_v15 : FVec F S2x16x256 .f32 := Host.absf main_arg5
  let main_cst_4 : FVec F S_ .f32 := constant S_ .f32 0x7F800000#32
  let main_v16 : FVec F S2x16x256 .f32 := broadcastInDim S2x16x256 ![] bcast_S_S2x16x256 main_cst_4
  let main_v17 : IVec S2x16x256 1 := cmpf .olt main_v15 main_v16
  fn_part1 (F := F) main_arg6 main_arg7 main_arg8 main_v2 main_v5 main_v8 main_v11 main_v14 main_v17
-- ==== Pre_finite_in.lean ====
abbrev S8192x1024 : Shape := ⟨2, ![8192, 1024]⟩
abbrev S1x1024 : Shape := ⟨2, ![1, 1024]⟩
abbrev S1024x5152 : Shape := ⟨2, ![1024, 5152]⟩
abbrev S8192x5152 : Shape := ⟨2, ![8192, 5152]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5152 : S_.BroadcastsInDim S1024x5152 (![] : Fin 0 → Fin S1024x5152.rank)
  bcast_S_S8192x5152 : S_.BroadcastsInDim S8192x5152 (![] : Fin 0 → Fin S8192x5152.rank)

variable [Facts]

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x5152 .f32) (main_arg5 : FVec F S8192x1024 .f32) (main_arg6 : FVec F S8192x5152 .f32) : IVec S8192x1024 1 × IVec S1x1024 1 × IVec S1x1024 1 × IVec S1024x5152 1 × IVec S8192x5152 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5152 .f32 := Host.absf main_arg4
  let main_cst_2 : FVec F S_ .f32 := constant S_ .f32 0x7F800000#32
  let main_v10 : FVec F S1024x5152 .f32 := broadcastInDim S1024x5152 ![] bcast_S_S1024x5152 main_cst_2
  let main_v11 : IVec S1024x5152 1 := cmpf .olt main_v9 main_v10
  let main_v12 : FVec F S8192x5152 .f32 := Host.absf main_arg6
  let main_cst_3 : FVec F S_ .f32 := constant S_ .f32 0x7F800000#32
  let main_v13 : FVec F S8192x5152 .f32 := broadcastInDim S8192x5152 ![] bcast_S_S8192x5152 main_cst_3
  let main_v14 : IVec S8192x5152 1 := cmpf .olt main_v12 main_v13
  (main_v2, main_v5, main_v8, main_v11, main_v14)
-- ==== Pre_finite_mid.lean ====
abbrev S8192x1024 : Shape := ⟨2, ![8192, 1024]⟩
abbrev S8192x5152 : Shape := ⟨2, ![8192, 5152]⟩
abbrev S8192x512 : Shape := ⟨2, ![8192, 512]⟩
abbrev S1x1024 : Shape := ⟨2, ![1, 1024]⟩
abbrev S1x512 : Shape := ⟨2, ![1, 512]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x5152 : S_.BroadcastsInDim S8192x5152 (![] : Fin 0 → Fin S8192x5152.rank)
  bcast_S_S8192x512 : S_.BroadcastsInDim S8192x512 (![] : Fin 0 → Fin S8192x512.rank)
  bcast_S_S1x1024 : S_.BroadcastsInDim S1x1024 (![] : Fin 0 → Fin S1x1024.rank)
  bcast_S_S1x512 : S_.BroadcastsInDim S1x512 (![] : Fin 0 → Fin S1x512.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn_part1 {F : FTy → Type} [FloatOps F] (main_arg6 : FVec F S1x1024 .f32) (main_arg7 : FVec F S1x1024 .f32) (main_arg8 : FVec F S1x512 .f32) (main_arg9 : FVec F S512x1024 .f32) (main_arg10 : FVec F S512x1024 .f32) (main_arg11 : FVec F S1024x1024 .f32) (main_v2 : IVec S8192x1024 1) (main_v5 : IVec S8192x1024 1) (main_v8 : IVec S8192x5152 1) (main_v11 : IVec S8192x512 1) (main_v14 : IVec S8192x512 1) (main_v17 : IVec S8192x512 1) : IVec S8192x1024 1 × IVec S8192x1024 1 × IVec S8192x5152 1 × IVec S8192x512 1 × IVec S8192x512 1 × IVec S8192x512 1 × IVec S1x1024 1 × IVec S1x1024 1 × IVec S1x512 1 × IVec S512x1024 1 × IVec S512x1024 1 × IVec S1024x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S512x1024 .f32 := Host.absf main_arg9
  let main_cst_8 : FVec F S_ .f32 := constant S_ .f32 0x7F800000#32
  let main_v28 : FVec F S512x1024 .f32 := broadcastInDim S512x1024 ![] bcast_S_S512x1024 main_cst_8
  let main_v29 : IVec S512x1024 1 := cmpf .olt main_v27 main_v28
  let main_v30 : FVec F S512x1024 .f32 := Host.absf main_arg10
  let main_cst_9 : FVec F S_ .f32 := constant S_ .f32 0x7F800000#32
  let main_v31 : FVec F S512x1024 .f32 := broadcastInDim S512x1024 ![] bcast_S_S512x1024 main_cst_9
  let main_v32 : IVec S512x1024 1 := cmpf .olt main_v30 main_v31
  let main_v33 : FVec F S1024x1024 .f32 := Host.absf main_arg11
  let main_cst_10 : FVec F S_ .f32 := constant S_ .f32 0x7F800000#32
  let main_v34 : FVec F S1024x1024 .f32 := broadcastInDim S1024x1024 ![] bcast_S_S1024x1024 main_cst_10
  let main_v35 : IVec S1024x1024 1 := cmpf .olt main_v33 main_v34
  (main_v2, main_v5, main_v8, main_v11, main_v14, main_v17, main_v20, main_v23, main_v26, main_v29, main_v32, main_v35)

def fn {F : FTy → Type} [FloatOps F] (main_arg0 : FVec F S8192x1024 .f32) (main_arg1 : FVec F S8192x1024 .f32) (main_arg2 : FVec F S8192x5152 .f32) (main_arg3 : FVec F S8192x512 .f32) (main_arg4 : FVec F S8192x512 .f32) (main_arg5 : FVec F S8192x512 .f32) (main_arg6 : FVec F S1x1024 .f32) (main_arg7 : FVec F S1x1024 .f32) (main_arg8 : FVec F S1x512 .f32) (main_arg9 : FVec F S512x1024 .f32) (main_arg10 : FVec F S512x1024 .f32) (main_arg11 : FVec F S1024x1024 .f32) : IVec S8192x1024 1 × IVec S8192x1024 1 × IVec S8192x5152 1 × IVec S8192x512 1 × IVec S8192x512 1 × IVec S8192x512 1 × IVec S1x1024 1 × IVec S1x1024 1 × IVec S1x512 1 × IVec S512x1024 1 × IVec S512x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x5152 .f32 := Host.absf main_arg2
  let main_cst_1 : FVec F S_ .f32 := constant S_ .f32 0x7F800000#32
  let main_v7 : FVec F S8192x5152 .f32 := broadcastInDim S8192x5152 ![] bcast_S_S8192x5152 main_cst_1
  let main_v8 : IVec S8192x5152 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_arg9 main_arg10 main_arg11 main_v2 main_v5 main_v8 main_v11 main_v14 main_v17
-- ==== Pre_finite_states.lean ====
abbrev S256x1024 : Shape := ⟨2, ![256, 1024]⟩
abbrev S1x1024 : Shape := ⟨2, ![1, 1024]⟩
abbrev S1024x5152 : Shape := ⟨2, ![1024, 5152]⟩
abbrev S2x16x256 : Shape := ⟨3, ![2, 16, 256]⟩
abbrev S2x256 : Shape := ⟨2, ![2, 256]⟩
abbrev S_ : Shape := ⟨0, ![]⟩

class Facts : Prop where
  bcast_S_S256x1024 : S_.BroadcastsInDim S256x1024 (![] : Fin 0 → Fin S256x1024.rank)
  bcast_S_S1x1024 : S_.BroadcastsInDim S1x1024 (![] : Fin 0 → Fin S1x1024.rank)
  bcast_S_S1024x5152 : S_.BroadcastsInDim S1024x5152 (![] : Fin 0 → Fin S1024x5152.rank)
  bcast_S_S2x16x256 : S_.BroadcastsInDim S2x16x256 (![] : Fin 0 → Fin S2x16x256.rank)
  bcast_S_S2x256 : S_.BroadcastsInDim S2x256 (![] : Fin 0 → Fin S2x256.rank)

variable [Facts]

def fn_part1 {F : FTy → Type} [FloatOps F] (main_arg6 : FVec F S2x256 .f32) (main_v2 : IVec S256x1024 1) (main_v5 : IVec S1x1024 1) (main_v8 : IVec S1x1024 1) (main_v11 : IVec S1x1024 1) (main_v14 : IVec S1024x5152 1) (main_v17 : IVec S2x16x256 1) : IVec S256x1024 1 × IVec S1x1024 1 × IVec S1x1024 1 × IVec S1x1024 1 × IVec S1024x5152 1 × IVec S2x16x256 1 × IVec S2x256 1 :=
  let main_v18 : FVec F S2x256 .f32 := Host.absf main_arg6
  let main_cst_5 : FVec F S_ .f32 := constant S_ .f32 0x7F800000#32
  let main_v19 : FVec F S2x256 .f32 := broadcastInDim S2x256 ![] bcast_S_S2x256 main_cst_5
  let main_v20 : IVec S2x256 1 := cmpf .olt main_v18 main_v19
  (main_v2, main_v5, main_v8, main_v11, main_v14, main_v17, main_v20)

def fn {F : FTy → Type} [FloatOps F] (main_arg0 : FVec F S256x1024 .f32) (main_arg1 : FVec F S1x1024 .f32) (main_arg2 : FVec F S1x1024 .f32) (main_arg3 : FVec F S1x1024 .f32) (main_arg4 : FVec F S1024x5152 .f32) (main_arg5 : FVec F S2x16x256 .f32) (main_arg6 : FVec F S2x256 .f32) : IVec S256x1024 1 × IVec S1x1024 1 × IVec S1x1024 1 × IVec S1x1024 1 × IVec S1024x5152 1 × IVec S2x16x256 1 × IVec S2x256 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x5152 .f32 := Host.absf main_arg4
  let main_cst_3 : FVec F S_ .f32 := constant S_ .f32 0x7F800000#32
  let main_v13 : FVec F S1024x5152 .f32 := broadcastInDim S1024x5152 ![] bcast_S_S1024x5152 main_cst_3
  let main_v14 : IVec S1024x5152 1 := cmpf .olt main_v12 main_v13
  let main_v15 : FVec F S2x16x256 .f32 := Host.absf main_arg5
  let main_cst_4 : FVec F S_ .f32 := constant S_ .f32 0x7F800000#32
  let main_v16 : FVec F S2x16x256 .f32 := broadcastInDim S2x16x256 ![] bcast_S_S2x16x256 main_cst_4
  let main_v17 : IVec S2x16x256 1 := cmpf .olt main_v15 main_v16
  fn_part1 (F := F) main_arg6 main_v2 main_v5 main_v8 main_v11 main_v14 main_v17
-- ==== Pre_finite_tail.lean ====
abbrev S8x1024 : Shape := ⟨2, ![8, 1024]⟩
abbrev S1024 : Shape := ⟨1, ![1024]⟩
abbrev S1x1024x384 : Shape := ⟨3, ![1, 1024, 384]⟩
abbrev S8x2048 : Shape := ⟨2, ![8, 2048]⟩
abbrev S_ : Shape := ⟨0, ![]⟩

class Facts : Prop where
  bcast_S_S1024 : S_.BroadcastsInDim S1024 (![] : Fin 0 → Fin S1024.rank)
  bcast_S_S1x1024x384 : S_.BroadcastsInDim S1x1024x384 (![] : Fin 0 → Fin S1x1024x384.rank)
  bcast_S_S8x2048 : S_.BroadcastsInDim S8x2048 (![] : Fin 0 → Fin S8x2048.rank)

variable [Facts]

def fn {F : FTy → Type} [FloatOps F] (main_arg0 : FVec F S8x1024 .f32) (main_arg1 : FVec F S1024 .f32) (main_arg2 : FVec F S1x1024x384 .f32) (main_arg3 : FVec F S8x1024 .f32) (main_arg4 : FVec F S8x1024 .f32) (main_arg5 : FVec F S8x1024 .f32) (main_arg6 : FVec F S8x1024 .f32) (main_arg7 : FVec F S8x1024 .f32) (main_arg8 : FVec F S8x2048 .f32) : IVec S1024 1 × IVec S1x1024x384 1 × IVec S8x2048 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1x1024x384 .f32 := Host.absf main_arg2
  let main_cst_0 : FVec F S_ .f32 := constant S_ .f32 0x7F800000#32
  let main_v4 : FVec F S1x1024x384 .f32 := broadcastInDim S1x1024x384 ![] bcast_S_S1x1024x384 main_cst_0
  let main_v5 : IVec S1x1024x384 1 := cmpf .olt main_v3 main_v4
  let main_v6 : FVec F S8x2048 .f32 := Host.absf main_arg8
  let main_cst_1 : FVec F S_ .f32 := constant S_ .f32 0x7F800000#32
  let main_v7 : FVec F S8x2048 .f32 := broadcastInDim S8x2048 ![] bcast_S_S8x2048 main_cst_1
  let main_v8 : IVec S8x2048 1 := cmpf .olt main_v6 main_v7
  (main_v2, main_v5, main_v8)
-- ==== InBwd.lean ====
abbrev S8192x1024 : Shape := ⟨2, ![8192, 1024]⟩
abbrev S1x1024 : Shape := ⟨2, ![1, 1024]⟩
abbrev S1024x5152 : Shape := ⟨2, ![1024, 5152]⟩
abbrev S8192x5152 : Shape := ⟨2, ![8192, 5152]⟩
abbrev S8192x32 : Shape := ⟨2, ![8192, 32]⟩
abbrev S_ : Shape := ⟨0, ![]⟩
abbrev S8192x96 : Shape := ⟨2, ![8192, 96]⟩
abbrev S8192x128 : Shape := ⟨2, ![8192, 128]⟩
abbrev S8192x512 : Shape := ⟨2, ![8192, 512]⟩
abbrev S8192x2560 : Shape := ⟨2, ![8192, 2560]⟩
abbrev S1024x32 : Shape := ⟨2, ![1024, 32]⟩
abbrev S1024x96 : Shape := ⟨2, ![1024, 96]⟩
abbrev S1024x128 : Shape := ⟨2, ![1024, 128]⟩
abbrev S1024x1024 : Shape := ⟨2, ![1024, 1024]⟩
abbrev S1024x4096 : Shape := ⟨2, ![1024, 4096]⟩
abbrev S1024x4224 : Shape := ⟨2, ![1024, 4224]⟩
abbrev S1024x5248 : Shape := ⟨2, ![1024, 5248]⟩
abbrev S512x1024 : Shape := ⟨2, ![512, 1024]⟩
abbrev S512x512 : Shape := ⟨2, ![512, 512]⟩
abbrev S512x2560 : Shape := ⟨2, ![512, 2560]⟩
abbrev S512x128 : Shape := ⟨2, ![512, 128]⟩
abbrev S1024x512 : Shape := ⟨2, ![1024, 512]⟩
abbrev S1024x2560 : Shape := ⟨2, ![1024, 2560]⟩
abbrev S512 : Shape := ⟨1, ![512]⟩
abbrev S512x1 : Shape := ⟨2, ![512, 1]⟩
abbrev S1024 : Shape := ⟨1, ![1024]⟩

abbrev nBuf : Space → Nat
  | .hbm => 33
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5152, .f32⟩
  | .hbm, ⟨5, _⟩ => ⟨S8192x1024, .f32⟩
  | .hbm, ⟨6, _⟩ => ⟨S8192x5152, .f32⟩
  | .hbm, ⟨7, _⟩ => ⟨S8192x1024, .f32⟩
  | .hbm, ⟨8, _⟩ => ⟨S8192x1024, .bf16⟩
  | .hbm, ⟨9, _⟩ => ⟨S8192x32, .f32⟩
  | .hbm, ⟨10, _⟩ => ⟨S_, .f32⟩
  | .hbm, ⟨11, _⟩ => ⟨S8192x96, .f32⟩
  | .hbm, ⟨12, _⟩ => ⟨S8192x128, .f32⟩
  | .hbm, ⟨13, _⟩ => ⟨S8192x128, .bf16⟩
  | .hbm, ⟨14, _⟩ => ⟨S8192x1024, .f32⟩
  | .hbm, ⟨15, _⟩ => ⟨S8192x1024, .bf16⟩
  | .hbm, ⟨16, _⟩ => ⟨S8192x512, .f32⟩
  | .hbm, ⟨17, _⟩ => ⟨S8192x512, .bf16⟩
  | .hbm, ⟨18, _⟩ => ⟨S8192x2560, .f32⟩
  | .hbm, ⟨19, _⟩ => ⟨S8192x2560, .bf16⟩
  | .hbm, ⟨20, _⟩ => ⟨S1024x32, .f32⟩
  | .hbm, ⟨21, _⟩ => ⟨S_, .f32⟩
  | .hbm, ⟨22, _⟩ => ⟨S1024x96, .f32⟩
  | .hbm, ⟨23, _⟩ => ⟨S1024x128, .f32⟩
  | .hbm, ⟨24, _⟩ => ⟨S1024x1024, .f32⟩
  | .hbm, ⟨25, _⟩ => ⟨S1024x4096, .f32⟩
  | .hbm, ⟨26, _⟩ => ⟨S1024x4224, .f32⟩
  | .hbm, ⟨27, _⟩ => ⟨S1024x5248, .f32⟩
  | .hbm, ⟨28, _⟩ => ⟨S1024x5248, .bf16⟩
  | .hbm, ⟨29, _⟩ => ⟨S8192x1024, .f32⟩
  | .hbm, ⟨30, _⟩ => ⟨S1x1024, .f32⟩
  | .hbm, ⟨31, _⟩ => ⟨S1x1024, .f32⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x2560, .bf16⟩
  | .local _ .vmem, ⟨11, _⟩ => ⟨S512x2560, .bf16⟩
  | .local _ .vmem, ⟨12, _⟩ => ⟨S512x128, .bf16⟩
  | .local _ .vmem, ⟨13, _⟩ => ⟨S512x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x2560, .bf16⟩
  | .local _ .vmem, ⟨18, _⟩ => ⟨S1024x128, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_11 (i : grid0.Coords) : Fin 2 → Nat :=
  let arg0 : BitVec 32 := BitVec.ofNat 32 (i 0).val
  let c0_i32 : BitVec 32 := 0#32
  let c40_i32 : BitVec 32 := 40#32
  let c0_i32_0 : BitVec 32 := 0#32
  ![c0_i32.toNat, c40_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== InRefIdeal.lean ====
abbrev S8192x1024 : Shape := ⟨2, ![8192, 1024]⟩
abbrev S1x1024 : Shape := ⟨2, ![1, 1024]⟩
abbrev S1024x5152 : Shape := ⟨2, ![1024, 5152]⟩
abbrev S8192x5152 : Shape := ⟨2, ![8192, 5152]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5152, .f32⟩
  | .hbm, ⟨5, _⟩ => ⟨S8192x1024, .f32⟩
  | .hbm, ⟨6, _⟩ => ⟨S8192x5152, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x5152, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Mid.lean ====
abbrev S8192x1024 : Shape := ⟨2, ![8192, 1024]⟩
abbrev S8192x5152 : Shape := ⟨2, ![8192, 5152]⟩
abbrev S8192x512 : Shape := ⟨2, ![8192, 512]⟩
abbrev S1x1024 : Shape := ⟨2, ![1, 1024]⟩
abbrev S1x512 : Shape := ⟨2, ![1, 512]⟩
abbrev S512x1024 : Shape := ⟨2, ![512, 1024]⟩
abbrev S1024x1024 : Shape := ⟨2, ![1024, 1024]⟩
abbrev S8192x32 : Shape := ⟨2, ![8192, 32]⟩
abbrev S_ : Shape := ⟨0, ![]⟩
abbrev S8192x96 : Shape := ⟨2, ![8192, 96]⟩
abbrev S8192x128 : Shape := ⟨2, ![8192, 128]⟩
abbrev S8192x4096 : Shape := ⟨2, ![8192, 4096]⟩
abbrev S8192x4224 : Shape := ⟨2, ![8192, 4224]⟩
abbrev S8192x5248 : Shape := ⟨2, ![8192, 5248]⟩
abbrev S8192x2560 : Shape := ⟨2, ![8192, 2560]⟩
abbrev S1x1 : Shape := ⟨2, ![1, 1]⟩
abbrev S256x1024 : Shape := ⟨2, ![256, 1024]⟩
abbrev S256x512 : Shape := ⟨2, ![256, 512]⟩
abbrev S256x2560 : Shape := ⟨2, ![256, 2560]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1024 : Shape := ⟨1, ![1024]⟩
abbrev S512 : Shape := ⟨1, ![512]⟩

abbrev nBuf : Space → Nat
  | .hbm => 39
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5152, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1x1024, .f32⟩
  | .hbm, ⟨7, _⟩ => ⟨S1x1024, .f32⟩
  | .hbm, ⟨8, _⟩ => ⟨S1x512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S8192x32, .f32⟩
  | .hbm, ⟨13, _⟩ => ⟨S_, .f32⟩
  | .hbm, ⟨14, _⟩ => ⟨S8192x96, .f32⟩
  | .hbm, ⟨15, _⟩ => ⟨S8192x128, .f32⟩
  | .hbm, ⟨16, _⟩ => ⟨S8192x1024, .f32⟩
  | .hbm, ⟨17, _⟩ => ⟨S8192x4096, .f32⟩
  | .hbm, ⟨18, _⟩ => ⟨S8192x4224, .f32⟩
  | .hbm, ⟨19, _⟩ => ⟨S8192x5248, .f32⟩
  | .hbm, ⟨20, _⟩ => ⟨S8192x5248, .bf16⟩
  | .hbm, ⟨21, _⟩ => ⟨S8192x512, .bf16⟩
  | .hbm, ⟨22, _⟩ => ⟨S8192x512, .bf16⟩
  | .hbm, ⟨23, _⟩ => ⟨S8192x512, .bf16⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S8192x1024, .f32⟩
  | .hbm, ⟨28, _⟩ => ⟨S8192x1024, .bf16⟩
  | .hbm, ⟨29, _⟩ => ⟨S8192x2560, .bf16⟩
  | .hbm, ⟨30, _⟩ => ⟨S8192x512, .bf16⟩
  | .hbm, ⟨31, _⟩ => ⟨S8192x512, .bf16⟩
  | .hbm, ⟨32, _⟩ => ⟨S1024x1024, .bf16⟩
  | .hbm, ⟨33, _⟩ => ⟨S512x1024, .bf16⟩
  | .hbm, ⟨34, _⟩ => ⟨S512x1024, .bf16⟩
  | .hbm, ⟨35, _⟩ => ⟨S1x1024, .f32⟩
  | .hbm, ⟨36, _⟩ => ⟨S1x1024, .f32⟩
  | .hbm, ⟨37, _⟩ => ⟨S1x512, .f32⟩
  | .hbm, ⟨38, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S1x1024, .f32⟩
  | .local _ .vmem, ⟨21, _⟩ => ⟨S1x1024, .f32⟩
  | .local _ .vmem, ⟨22, _⟩ => ⟨S1x512, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S256x2560, .bf16⟩
  | .local _ .vmem, ⟨31, _⟩ => ⟨S256x2560, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S1024x1024, .bf16⟩
  | .local _ .vmem, ⟨37, _⟩ => ⟨S512x1024, .bf16⟩
  | .local _ .vmem, ⟨38, _⟩ => ⟨S512x1024, .bf16⟩
  | .local _ .vmem, ⟨39, _⟩ => ⟨S1x1024, .f32⟩
  | .local _ .vmem, ⟨40, _⟩ => ⟨S1x1024, .f32⟩
  | .local _ .vmem, ⟨41, _⟩ => ⟨S1x512, .f32⟩
  | .local _ .vmem, ⟨42, _⟩ => ⟨S1x1, .f32⟩
  | .local _ .vmem, ⟨43, _⟩ => ⟨S1024x1024, .f32⟩
  | .local _ .vmem, ⟨44, _⟩ => ⟨S512x1024, .f32⟩
  | .local _ .vmem, ⟨45, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev main_v14_6 : Ref sig .tc := ⟨.hbm, 33, rfl⟩
abbrev main_v14_7 : Ref sig .tc := ⟨.hbm, 34, rfl⟩
abbrev main_v14_8 : Ref sig .tc := ⟨.hbm, 35, rfl⟩
abbrev main_v14_9 : Ref sig .tc := ⟨.hbm, 36, rfl⟩
abbrev main_v14_10 : Ref sig .tc := ⟨.hbm, 37, rfl⟩
abbrev main_v14_11 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40
abbrev cc0_sem26_0 : DmaSem sig := 41
abbrev cc0_sem27_0 : DmaSem sig := 42

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v316 : BitVec 1 := Scalar.cmpi .eq arg0 c31_i32
  let v317 : BitVec 32 := Scalar.extui v316
  let c0_i32_144 : BitVec 32 := 0#32
  let v318 : BitVec 1 := Scalar.cmpi .ne v317 c0_i32_144
  v318

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2560 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== MidRefIdeal.lean ====
abbrev S8192x1024 : Shape := ⟨2, ![8192, 1024]⟩
abbrev S8192x5152 : Shape := ⟨2, ![8192, 5152]⟩
abbrev S8192x512 : Shape := ⟨2, ![8192, 512]⟩
abbrev S1x1024 : Shape := ⟨2, ![1, 1024]⟩
abbrev S1x512 : Shape := ⟨2, ![1, 512]⟩
abbrev S512x1024 : Shape := ⟨2, ![512, 1024]⟩
abbrev S1024x1024 : Shape := ⟨2, ![1024, 1024]⟩
abbrev S1x8192x4x128 : Shape := ⟨4, ![1, 8192, 4, 128]⟩
abbrev S1x8192x512 : Shape := ⟨3, ![1, 8192, 512]⟩
abbrev S_ : Shape := ⟨0, ![]⟩
abbrev S1x8192x4 : Shape := ⟨3, ![1, 8192, 4]⟩
abbrev S1x8192x4x1 : Shape := ⟨4, ![1, 8192, 4, 1]⟩
abbrev S4x128 : Shape := ⟨2, ![4, 128]⟩
abbrev S1x1x4x128 : Shape := ⟨4, ![1, 1, 4, 128]⟩
abbrev S1x8192x1024 : Shape := ⟨3, ![1, 8192, 1024]⟩
abbrev S8192x2048 : Shape := ⟨2, ![8192, 2048]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩
abbrev S1x4x128 : Shape := ⟨3, ![1, 4, 128]⟩
abbrev S8192x4 : Shape := ⟨2, ![8192, 4]⟩
abbrev S8192x2560 : Shape := ⟨2, ![8192, 2560]⟩
abbrev S1x1 : Shape := ⟨2, ![1, 1]⟩

abbrev nBuf : Space → Nat
  | .hbm => 251
  | .vmem => 0
  | .smem => 0
  | _ => 0

abbrev hbmTy0_0 (i : Nat) : BufTy := match i % 128 with
  | 0 => ⟨S8192x1024, .f32⟩
  | 1 => ⟨S8192x1024, .f32⟩
  | 2 => ⟨S8192x5152, .f32⟩
  | 3 => ⟨S8192x512, .f32⟩
  | 4 => ⟨S8192x512, .f32⟩
  | 5 => ⟨S8192x512, .f32⟩
  | 6 => ⟨S1x1024, .f32⟩
  | 7 => ⟨S1x1024, .f32⟩
  | 8 => ⟨S1x512, .f32⟩
  | 9 => ⟨S512x1024, .f32⟩
  | 10 => ⟨S512x1024, .f32⟩
  | 11 => ⟨S1024x1024, .f32⟩
  | 12 => ⟨S8192x512, .f32⟩
  | 13 => ⟨S8192x512, .f32⟩
  | 14 => ⟨S1x8192x4x128, .f32⟩
  | 15 => ⟨S8192x512, .f32⟩
  | 16 => ⟨S1x8192x512, .f32⟩
  | 17 => ⟨S1x8192x4x128, .f32⟩
  | 18 => ⟨S_, .f32⟩
  | 19 => ⟨S1x8192x4, .f32⟩
  | 20 => ⟨S1x8192x4x1, .f32⟩
  | 21 => ⟨S_, .f32⟩
  | 22 => ⟨S1x8192x4x1, .f32⟩
  | 23 => ⟨S1x8192x4x1, .f32⟩
  | 24 => ⟨S_, .f32⟩
  | 25 => ⟨S1x8192x4x1, .f32⟩
  | 26 => ⟨S1x8192x4x1, .f32⟩
  | 27 => ⟨S1x8192x4x1, .f32⟩
  | 28 => ⟨S1x8192x4x1, .f32⟩
  | 29 => ⟨S_, .f32⟩
  | 30 => ⟨S1x8192x4x1, .f32⟩
  | 31 => ⟨S1x8192x4x1, .f32⟩
  | 32 => ⟨S1x8192x4x128, .f32⟩
  | 33 => ⟨S1x8192x4x128, .f32⟩
  | 34 => ⟨S4x128, .f32⟩
  | 35 => ⟨S1x1x4x128, .f32⟩
  | 36 => ⟨S1x8192x4x128, .f32⟩
  | 37 => ⟨S1x8192x4x128, .f32⟩
  | 38 => ⟨S1x8192x512, .f32⟩
  | 39 => ⟨S1x8192x512, .f32⟩
  | 40 => ⟨S1x8192x512, .f32⟩
  | 41 => ⟨S_, .f32⟩
  | 42 => ⟨S1x8192x512, .f32⟩
  | 43 => ⟨S1x8192x512, .f32⟩
  | 44 => ⟨S_, .f32⟩
  | 45 => ⟨S1x8192x512, .f32⟩
  | 46 => ⟨S1x8192x512, .f32⟩
  | 47 => ⟨S_, .f32⟩
  | 48 => ⟨S1x8192x512, .f32⟩
  | 49 => ⟨S1x8192x512, .f32⟩
  | 50 => ⟨S1x8192x512, .f32⟩
  | 51 => ⟨S1x8192x512, .f32⟩
  | 52 => ⟨S1x8192x512, .f32⟩
  | 53 => ⟨S1x8192x1024, .f32⟩
  | 54 => ⟨S8192x1024, .f32⟩
  | 55 => ⟨S8192x512, .f32⟩
  | 56 => ⟨S8192x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S8192x1024, .f32⟩
  | 72 => ⟨S8192x2048, .f32⟩
  | 73 => ⟨S8192x2048, .f32⟩
  | 74 => ⟨S8192x2048, .f32⟩
  | 75 => ⟨S_, .f32⟩
  | 76 => ⟨S8192x2048, .f32⟩
  | 77 => ⟨S8192x2048, .f32⟩
  | 78 => ⟨S_, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S8192x2048, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S_, .f32⟩
  | 119 => ⟨S8192, .f32⟩
  | 120 => ⟨S_, .f32⟩
  | 121 => ⟨S8192, .f32⟩
  | 122 => ⟨S8192, .f32⟩
  | 123 => ⟨S_, .f32⟩
  | 124 => ⟨S_, .f32⟩
  | 125 => ⟨S_, .f32⟩
  | 126 => ⟨S_, .f32⟩
  | 127 => ⟨S_, .f32⟩
  | _ => ⟨S8192x1024, .f32⟩

abbrev hbmTy0_1 (i : Nat) : BufTy := match i % 128 with
  | 0 => ⟨S_, .f32⟩
  | 1 => ⟨S_, .f32⟩
  | 2 => ⟨S8192, .f32⟩
  | 3 => ⟨S_, .f32⟩
  | 4 => ⟨S8192, .f32⟩
  | 5 => ⟨S8192, .f32⟩
  | 6 => ⟨S8192x1024, .f32⟩
  | 7 => ⟨S8192x1024, .f32⟩
  | 8 => ⟨S8192x1024, .f32⟩
  | 9 => ⟨S_, .f32⟩
  | 10 => ⟨S1024, .f32⟩
  | 11 => ⟨S1x1024, .f32⟩
  | 12 => ⟨S8192x1024, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S8192x1024, .f32⟩
  | 19 => ⟨S8192x1024, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S1024x1024, .f32⟩
  | 38 => ⟨S1024x1024, .f32⟩
  | 39 => ⟨S8192x1024, .f32⟩
  | 40 => ⟨S8192x1024, .f32⟩
  | 41 => ⟨S8192x1024, .f32⟩
  | 42 => ⟨S_, .f32⟩
  | 43 => ⟨S8192x2048, .f32⟩
  | 44 => ⟨S8192x1024, .f32⟩
  | 45 => ⟨S8192x1024, .f32⟩
  | 46 => ⟨S_, .f32⟩
  | 47 => ⟨S8192x2048, .f32⟩
  | 48 => ⟨S8192x2048, .f32⟩
  | 49 => ⟨S8192x2048, .f32⟩
  | 50 => ⟨S_, .f32⟩
  | 51 => ⟨S8192x5152, .f32⟩
  | 52 => ⟨S1024x512, .f32⟩
  | 53 => ⟨S512x1024, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S_, .f32⟩
  | 64 => ⟨S8192x5152, .f32⟩
  | 65 => ⟨S8192x5152, .f32⟩
  | 66 => ⟨S1x8192x1024, .f32⟩
  | 67 => ⟨S1024x512, .f32⟩
  | 68 => ⟨S512x1024, .f32⟩
  | 69 => ⟨S1x8192x512, .f32⟩
  | 70 => ⟨S1x8192x512, .f32⟩
  | 71 => ⟨S1x8192x512, .f32⟩
  | 72 => ⟨S1x8192x512, .f32⟩
  | 73 => ⟨S1x8192x512, .f32⟩
  | 74 => ⟨S1x8192x512, .f32⟩
  | 75 => ⟨S1x8192x512, .f32⟩
  | 76 => ⟨S1x8192x4x128, .f32⟩
  | 77 => ⟨S1x8192x4x128, .f32⟩
  | 78 => ⟨S_, .f32⟩
  | 79 => ⟨S1x4x128, .f32⟩
  | 80 => ⟨S1x1x4x128, .f32⟩
  | 81 => ⟨S1x8192x4x128, .f32⟩
  | 82 => ⟨S1x8192x4x128, .f32⟩
  | 83 => ⟨S_, .f32⟩
  | 84 => ⟨S4x128, .f32⟩
  | 85 => ⟨S1x512, .f32⟩
  | 86 => ⟨S1x8192x4x128, .f32⟩
  | 87 => ⟨S_, .f32⟩
  | 88 => ⟨S1x8192x4, .f32⟩
  | 89 => ⟨S1x8192x4x1, .f32⟩
  | 90 => ⟨S1x8192x4x128, .f32⟩
  | 91 => ⟨S1x8192x4x128, .f32⟩
  | 92 => ⟨S1x8192x4x1, .f32⟩
  | 93 => ⟨S_, .f32⟩
  | 94 => ⟨S1x8192x4x1, .f32⟩
  | 95 => ⟨S1x8192x4x1, .f32⟩
  | 96 => ⟨S_, .f32⟩
  | 97 => ⟨S8192x4, .f32⟩
  | 98 => ⟨S1x8192x4, .f32⟩
  | 99 => ⟨S1x8192x4x128, .f32⟩
  | 100 => ⟨S1x8192x4x128, .f32⟩
  | 101 => ⟨S1x8192x4x128, .f32⟩
  | 102 => ⟨S1x8192x4x128, .f32⟩
  | 103 => ⟨S1x8192x4x128, .f32⟩
  | 104 => ⟨S_, .f32⟩
  | 105 => ⟨S8192x512, .f32⟩
  | 106 => ⟨S_, .f32⟩
  | 107 => ⟨S8192x5152, .f32⟩
  | 108 => ⟨S8192x5152, .f32⟩
  | 109 => ⟨S8192x512, .f32⟩
  | 110 => ⟨S_, .f32⟩
  | 111 => ⟨S8192x5152, .f32⟩
  | 112 => ⟨S8192x5152, .f32⟩
  | 113 => ⟨S8192x1024, .f32⟩
  | 114 => ⟨S8192x2560, .f32⟩
  | 115 => ⟨S8192x1024, .bf16⟩
  | 116 => ⟨S8192x2560, .bf16⟩
  | 117 => ⟨S8192x512, .bf16⟩
  | 118 => ⟨S8192x512, .bf16⟩
  | 119 => ⟨S1024x1024, .bf16⟩
  | 120 => ⟨S512x1024, .bf16⟩
  | 121 => ⟨S512x1024, .bf16⟩
  | 122 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v23_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v23_1 : Ref sig .tc := ⟨.hbm, 50, rfl⟩
abbrev main_v23_0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v29_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v29_1 : Ref sig .tc := ⟨.hbm, 68, rfl⟩
abbrev main_v29_0 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_3 : Ref sig .tc := ⟨.hbm, 75, rfl⟩
abbrev main_v35 : Ref sig .tc := ⟨.hbm, 76, rfl⟩
abbrev main_v36 : Ref sig .tc := ⟨.hbm, 77, rfl⟩
abbrev main_cst_4 : Ref sig .tc := ⟨.hbm, 78, rfl⟩
abbrev main_v37 : Ref sig .tc := ⟨.hbm, 79, rfl⟩
abbrev main_v38 : Ref sig .tc := ⟨.hbm, 80, rfl⟩
abbrev main_cst_5 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩
abbrev main_cst_7 : Ref sig .tc := ⟨.hbm, 98, rfl⟩
abbrev main_v54 : Ref sig .tc := ⟨.hbm, 99, rfl⟩
abbrev main_v55 : Ref sig .tc := ⟨.hbm, 100, rfl⟩
abbrev main_cst_8 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_9 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_10 : Ref sig .tc := ⟨.hbm, 115, rfl⟩
abbrev main_v68 : Ref sig .tc := ⟨.hbm, 116, rfl⟩
abbrev main_v69 : Ref sig .tc := ⟨.hbm, 117, rfl⟩
abbrev main_cst_11 : Ref sig .tc := ⟨.hbm, 118, rfl⟩
abbrev main_v70 : Ref sig .tc := ⟨.hbm, 119, rfl⟩
abbrev main_cst_12 : Ref sig .tc := ⟨.hbm, 120, rfl⟩
abbrev main_v71 : Ref sig .tc := ⟨.hbm, 121, rfl⟩
abbrev main_v72 : Ref sig .tc := ⟨.hbm, 122, rfl⟩
abbrev main_cst_13 : Ref sig .tc := ⟨.hbm, 123, rfl⟩
abbrev main_v73 : Ref sig .tc := ⟨.hbm, 124, rfl⟩
abbrev main_cst_14 : Ref sig .tc := ⟨.hbm, 125, rfl⟩
abbrev main_v74 : Ref sig .tc := ⟨.hbm, 126, rfl⟩
abbrev main_cst_15 : Ref sig .tc := ⟨.hbm, 127, rfl⟩
abbrev main_cst_16 : Ref sig .tc := ⟨.hbm, 128, rfl⟩
abbrev main_v75 : Ref sig .tc := ⟨.hbm, 129, rfl⟩
abbrev main_v76 : Ref sig .tc := ⟨.hbm, 130, rfl⟩
abbrev main_cst_17 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_18 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_19 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_20 : Ref sig .tc := ⟨.hbm, 149, rfl⟩
abbrev main_v92 : Ref sig .tc := ⟨.hbm, 150, rfl⟩
abbrev main_v93 : Ref sig .tc := ⟨.hbm, 151, rfl⟩
abbrev main_cst_21 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_22 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_23 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_24 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_25 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_call2_v0 : Ref sig .tc := ⟨.hbm, 185, rfl⟩
abbrev main_call2_v1 : Ref sig .tc := ⟨.hbm, 186, rfl⟩
abbrev main_call2_v2 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_26 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_call3_v0 : Ref sig .tc := ⟨.hbm, 200, rfl⟩
abbrev main_call3_v1 : Ref sig .tc := ⟨.hbm, 201, rfl⟩
abbrev main_call3_v2 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_27 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_cst_28 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_cst_29 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_30 : Ref sig .tc := ⟨.hbm, 221, rfl⟩
abbrev main_v148 : Ref sig .tc := ⟨.hbm, 222, rfl⟩
abbrev main_v149 : Ref sig .tc := ⟨.hbm, 223, rfl⟩
abbrev main_cst_31 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_cst_32 : Ref sig .tc := ⟨.hbm, 232, rfl⟩
abbrev main_v157 : Ref sig .tc := ⟨.hbm, 233, rfl⟩
abbrev main_cst_33 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_cst_34 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩

abbrev nD : Nat := 1
abbrev τ : Topo := Topo.v7x

variable {F : FTy → Type} [FloatOps F]
-- ==== Ctx.lean ====
abbrev S256x1024 : Shape := ⟨2, ![256, 1024]⟩
abbrev S1x1024 : Shape := ⟨2, ![1, 1024]⟩
abbrev S1024x5152 : Shape := ⟨2, ![1024, 5152]⟩
abbrev S2x16x256 : Shape := ⟨3, ![2, 16, 256]⟩
abbrev S2x256 : Shape := ⟨2, ![2, 256]⟩
abbrev S4x64x128 : Shape := ⟨3, ![4, 64, 128]⟩
abbrev S4x4 : Shape := ⟨2, ![4, 4]⟩
abbrev S_ : Shape := ⟨0, ![]⟩
abbrev S128x256 : Shape := ⟨2, ![128, 256]⟩
abbrev S1x256 : Shape := ⟨2, ![1, 256]⟩
abbrev S1024x32 : Shape := ⟨2, ![1024, 32]⟩
abbrev S1024x96 : Shape := ⟨2, ![1024, 96]⟩
abbrev S1024x128 : Shape := ⟨2, ![1024, 128]⟩
abbrev S1024x1024 : Shape := ⟨2, ![1024, 1024]⟩
abbrev S1024x4096 : Shape := ⟨2, ![1024, 4096]⟩
abbrev S1024x4224 : Shape := ⟨2, ![1024, 4224]⟩
abbrev S1024x5248 : Shape := ⟨2, ![1024, 5248]⟩
abbrev S1x16x256 : Shape := ⟨3, ![1, 16, 256]⟩
abbrev S16x256 : Shape := ⟨2, ![16, 256]⟩
abbrev S4x128x64 : Shape := ⟨3, ![4, 128, 64]⟩
abbrev S4x128x1x64 : Shape := ⟨4, ![4, 128, 1, 64]⟩
abbrev S4x1x4x1 : Shape := ⟨4, ![4, 1, 4, 1]⟩
abbrev S4x128x4x64 : Shape := ⟨4, ![4, 128, 4, 64]⟩
abbrev S512x256 : Shape := ⟨2, ![512, 256]⟩
abbrev S1024x256 : Shape := ⟨2, ![1024, 256]⟩
abbrev S1024x512 : Shape := ⟨2, ![1024, 512]⟩
abbrev S1x2048 : Shape := ⟨2, ![1, 2048]⟩
abbrev S2x128x256 : Shape := ⟨3, ![2, 128, 256]⟩
abbrev S2x1x256 : Shape := ⟨3, ![2, 1, 256]⟩
abbrev S8x9x128 : Shape := ⟨3, ![8, 9, 128]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S256x128 : Shape := ⟨2, ![256, 128]⟩
abbrev S64x64 : Shape := ⟨2, ![64, 64]⟩
abbrev S64x128 : Shape := ⟨2, ![64, 128]⟩
abbrev S64x256 : Shape := ⟨2, ![64, 256]⟩
abbrev S64x512 : Shape := ⟨2, ![64, 512]⟩
abbrev S1x128x256 : Shape := ⟨3, ![1, 128, 256]⟩
abbrev S1x1x256 : Shape := ⟨3, ![1, 1, 256]⟩
abbrev S1x32 : Shape := ⟨2, ![1, 32]⟩
abbrev S1x1x32 : Shape := ⟨3, ![1, 1, 32]⟩
abbrev S1024 : Shape := ⟨1, ![1024]⟩

abbrev nBuf : Space → Nat
  | .hbm => 63
  | .vmem => 25
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5152, .f32⟩
  | .hbm, ⟨5, _⟩ => ⟨S2x16x256, .f32⟩
  | .hbm, ⟨6, _⟩ => ⟨S2x256, .f32⟩
  | .hbm, ⟨7, _⟩ => ⟨S4x64x128, .f32⟩
  | .hbm, ⟨8, _⟩ => ⟨S4x64x128, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S_, .f32⟩
  | .hbm, ⟨17, _⟩ => ⟨S128x256, .f32⟩
  | .hbm, ⟨18, _⟩ => ⟨S_, .f32⟩
  | .hbm, ⟨19, _⟩ => ⟨S1x256, .f32⟩
  | .hbm, ⟨20, _⟩ => ⟨S1024x32, .f32⟩
  | .hbm, ⟨21, _⟩ => ⟨S_, .f32⟩
  | .hbm, ⟨22, _⟩ => ⟨S1024x96, .f32⟩
  | .hbm, ⟨23, _⟩ => ⟨S1024x128, .f32⟩
  | .hbm, ⟨24, _⟩ => ⟨S1024x1024, .f32⟩
  | .hbm, ⟨25, _⟩ => ⟨S1024x4096, .f32⟩
  | .hbm, ⟨26, _⟩ => ⟨S1024x4224, .f32⟩
  | .hbm, ⟨27, _⟩ => ⟨S1024x5248, .f32⟩
  | .hbm, ⟨28, _⟩ => ⟨S1024x5248, .bf16⟩
  | .hbm, ⟨29, _⟩ => ⟨S1x16x256, .f32⟩
  | .hbm, ⟨30, _⟩ => ⟨S16x256, .f32⟩
  | .hbm, ⟨31, _⟩ => ⟨S_, .i32⟩
  | .hbm, ⟨32, _⟩ => ⟨S_, .f32⟩
  | .hbm, ⟨33, _⟩ => ⟨S128x256, .f32⟩
  | .hbm, ⟨34, _⟩ => ⟨S1x16x256, .f32⟩
  | .hbm, ⟨35, _⟩ => ⟨S16x256, .f32⟩
  | .hbm, ⟨36, _⟩ => ⟨S_, .i32⟩
  | .hbm, ⟨37, _⟩ => ⟨S_, .f32⟩
  | .hbm, ⟨38, _⟩ => ⟨S128x256, .f32⟩
  | .hbm, ⟨39, _⟩ => ⟨S1x256, .f32⟩
  | .hbm, ⟨40, _⟩ => ⟨S1x256, .f32⟩
  | .hbm, ⟨41, _⟩ => ⟨S4x128x64, .f32⟩
  | .hbm, ⟨42, _⟩ => ⟨S4x128x1x64, .f32⟩
  | .hbm, ⟨43, _⟩ => ⟨S4x1x4x1, .f32⟩
  | .hbm, ⟨44, _⟩ => ⟨S4x128x4x64, .f32⟩
  | .hbm, ⟨45, _⟩ => ⟨S4x128x4x64, .f32⟩
  | .hbm, ⟨46, _⟩ => ⟨S4x128x4x64, .f32⟩
  | .hbm, ⟨47, _⟩ => ⟨S512x256, .f32⟩
  | .hbm, ⟨48, _⟩ => ⟨S4x128x64, .f32⟩
  | .hbm, ⟨49, _⟩ => ⟨S4x128x1x64, .f32⟩
  | .hbm, ⟨50, _⟩ => ⟨S4x1x4x1, .f32⟩
  | .hbm, ⟨51, _⟩ => ⟨S4x128x4x64, .f32⟩
  | .hbm, ⟨52, _⟩ => ⟨S4x128x4x64, .f32⟩
  | .hbm, ⟨53, _⟩ => ⟨S4x128x4x64, .f32⟩
  | .hbm, ⟨54, _⟩ => ⟨S512x256, .f32⟩
  | .hbm, ⟨55, _⟩ => ⟨S1024x256, .f32⟩
  | .hbm, ⟨56, _⟩ => ⟨S1024x512, .f32⟩
  | .hbm, ⟨57, _⟩ => ⟨S1024x128, .f32⟩
  | .hbm, ⟨58, _⟩ => ⟨S1x2048, .f32⟩
  | .hbm, ⟨59, _⟩ => ⟨S1x1024, .f32⟩
  | .hbm, ⟨60, _⟩ => ⟨S2x128x256, .f32⟩
  | .hbm, ⟨61, _⟩ => ⟨S2x1x256, .f32⟩
  | .hbm, ⟨62, _⟩ => ⟨S8x9x128, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1024x256, .bf16⟩
  | .local _ .vmem, ⟨5, _⟩ => ⟨S1024x512, .bf16⟩
  | .local _ .vmem, ⟨6, _⟩ => ⟨S1024x128, .bf16⟩
  | .local _ .vmem, ⟨7, _⟩ => ⟨S128x256, .f32⟩
  | .local _ .vmem, ⟨8, _⟩ => ⟨S128x256, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S128x256, .f32⟩
  | .local _ .vmem, ⟨14, _⟩ => ⟨S128x256, .f32⟩
  | .local _ .vmem, ⟨15, _⟩ => ⟨S1x256, .f32⟩
  | .local _ .vmem, ⟨16, _⟩ => ⟨S1x256, .f32⟩
  | .local _ .vmem, ⟨17, _⟩ => ⟨S1024x256, .f32⟩
  | .local _ .vmem, ⟨18, _⟩ => ⟨S1024x512, .f32⟩
  | .local _ .vmem, ⟨19, _⟩ => ⟨S1024x128, .f32⟩
  | .local _ .vmem, ⟨20, _⟩ => ⟨S1x2048, .f32⟩
  | .local _ .vmem, ⟨21, _⟩ => ⟨S1x1024, .f32⟩
  | .local _ .vmem, ⟨22, _⟩ => ⟨S2x128x256, .f32⟩
  | .local _ .vmem, ⟨23, _⟩ => ⟨S2x1x256, .f32⟩
  | .local _ .vmem, ⟨24, _⟩ => ⟨S8x9x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev main_v38_4 : Ref sig .tc := ⟨.hbm, 59, rfl⟩
abbrev main_v38_5 : Ref sig .tc := ⟨.hbm, 60, rfl⟩
abbrev main_v38_6 : Ref sig .tc := ⟨.hbm, 61, rfl⟩
abbrev main_v38_7 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c40_i32 : BitVec 32 := 40#32
  let c0_i32_0 : BitVec 32 := 0#32
  ![c0_i32.toNat, c40_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2x128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2x1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x9x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== CtxRefIdeal.lean ====
abbrev S256x1024 : Shape := ⟨2, ![256, 1024]⟩
abbrev S1x1024 : Shape := ⟨2, ![1, 1024]⟩
abbrev S1024x5152 : Shape := ⟨2, ![1024, 5152]⟩
abbrev S2x16x256 : Shape := ⟨3, ![2, 16, 256]⟩
abbrev S2x256 : Shape := ⟨2, ![2, 256]⟩
abbrev S4x64x128 : Shape := ⟨3, ![4, 64, 128]⟩
abbrev S1024x800 : Shape := ⟨2, ![1024, 800]⟩
abbrev S_ : Shape := ⟨0, ![]⟩
abbrev S256 : Shape := ⟨1, ![256]⟩
abbrev S256x1 : Shape := ⟨2, ![256, 1]⟩
abbrev S256x800 : Shape := ⟨2, ![256, 800]⟩
abbrev S1x256x800 : Shape := ⟨3, ![1, 256, 800]⟩
abbrev S1x256x256 : Shape := ⟨3, ![1, 256, 256]⟩
abbrev S1x256x4x64 : Shape := ⟨4, ![1, 256, 4, 64]⟩
abbrev S1x256x512 : Shape := ⟨3, ![1, 256, 512]⟩
abbrev S1x256x4x128 : Shape := ⟨4, ![1, 256, 4, 128]⟩
abbrev S1x256x32 : Shape := ⟨3, ![1, 256, 32]⟩
abbrev S1x256x2x16 : Shape := ⟨4, ![1, 256, 2, 16]⟩
abbrev S2x256x1x256 : Shape := ⟨4, ![2, 256, 1, 256]⟩
abbrev S1x256x2x256 : Shape := ⟨4, ![1, 256, 2, 256]⟩
abbrev S1x1x2x256 : Shape := ⟨4, ![1, 1, 2, 256]⟩
abbrev S1x256x2x4x64 : Shape := ⟨5, ![1, 256, 2, 4, 64]⟩
abbrev S1x256x1x4x64 : Shape := ⟨5, ![1, 256, 1, 4, 64]⟩
abbrev S1x4x64x128 : Shape := ⟨4, ![1, 4, 64, 128]⟩
abbrev S1x4x64x4x64 : Shape := ⟨5, ![1, 4, 64, 4, 64]⟩
abbrev S1x4x4x64x64 : Shape := ⟨5, ![1, 4, 4, 64, 64]⟩
abbrev S1x4x64x4x128 : Shape := ⟨5, ![1, 4, 64, 4, 128]⟩
abbrev S1x4x4x64x128 : Shape := ⟨5, ![1, 4, 4, 64, 128]⟩
abbrev S1x4x4x1x64 : Shape := ⟨5, ![1, 4, 4, 1, 64]⟩
abbrev S1x4x4x64 : Shape := ⟨4, ![1, 4, 4, 64]⟩
abbrev S4x1x4x64 : Shape := ⟨4, ![4, 1, 4, 64]⟩
abbrev S4x1x4x64x128 : Shape := ⟨5, ![4, 1, 4, 64, 128]⟩
abbrev S0x1x4x64 : Shape := ⟨4, ![0, 1, 4, 64]⟩
abbrev S0x1x4x64x128 : Shape := ⟨5, ![0, 1, 4, 64, 128]⟩
abbrev S0x1x4x64x1 : Shape := ⟨5, ![0, 1, 4, 64, 1]⟩
abbrev S1x1x4x64 : Shape := ⟨4, ![1, 1, 4, 64]⟩
abbrev S1x4x64 : Shape := ⟨3, ![1, 4, 64]⟩
abbrev S1x1x4x64x128 : Shape := ⟨5, ![1, 1, 4, 64, 128]⟩
abbrev S1x4x64x1 : Shape := ⟨4, ![1, 4, 64, 1]⟩
abbrev S1x1x4x64x1 : Shape := ⟨5, ![1, 1, 4, 64, 1]⟩
abbrev S4x1x4x64x1 : Shape := ⟨5, ![4, 1, 4, 64, 1]⟩
abbrev S4x64 : Shape := ⟨2, ![4, 64]⟩
abbrev S1x4x4x128x64 : Shape := ⟨5, ![1, 4, 4, 128, 64]⟩
abbrev S4x4x64 : Shape := ⟨3, ![4, 4, 64]⟩
abbrev S1x2x256 : Shape := ⟨3, ![1, 2, 256]⟩
abbrev S2x1x256x16 : Shape := ⟨4, ![2, 1, 256, 16]⟩
abbrev S2x256x16 : Shape := ⟨3, ![2, 256, 16]⟩
abbrev S800x1024 : Shape := ⟨2, ![800, 1024]⟩
abbrev S1024 : Shape := ⟨1, ![1024]⟩
abbrev S1024x32 : Shape := ⟨2, ![1024, 32]⟩
abbrev S1024x128 : Shape := ⟨2, ![1024, 128]⟩
abbrev S1024x256 : Shape := ⟨2, ![1024, 256]⟩
abbrev S1024x512 : Shape := ⟨2, ![1024, 512]⟩
abbrev S1x2048 : Shape := ⟨2, ![1, 2048]⟩
abbrev S2x1x256 : Shape := ⟨3, ![2, 1, 256]⟩

abbrev nBuf : Space → Nat
  | .hbm => 555
  | .vmem => 0
  | .smem => 0
  | _ => 0

abbrev hbmTy0_0 (i : Nat) : BufTy := match i % 128 with
  | 0 => ⟨S256x1024, .f32⟩
  | 1 => ⟨S1x1024, .f32⟩
  | 2 => ⟨S1x1024, .f32⟩
  | 3 => ⟨S1x1024, .f32⟩
  | 4 => ⟨S1024x5152, .f32⟩
  | 5 => ⟨S2x16x256, .f32⟩
  | 6 => ⟨S2x256, .f32⟩
  | 7 => ⟨S4x64x128, .f32⟩
  | 8 => ⟨S4x64x128, .f32⟩
  | 9 => ⟨S1024x800, .f32⟩
  | 10 => ⟨S256x1024, .f32⟩
  | 11 => ⟨S_, .f32⟩
  | 12 => ⟨S256, .f32⟩
  | 13 => ⟨S256x1, .f32⟩
  | 14 => ⟨S_, .f32⟩
  | 15 => ⟨S256x1, .f32⟩
  | 16 => ⟨S256x1, .f32⟩
  | 17 => ⟨S_, .f32⟩
  | 18 => ⟨S256x1, .f32⟩
  | 19 => ⟨S256x1, .f32⟩
  | 20 => ⟨S256x1, .f32⟩
  | 21 => ⟨S256x1, .f32⟩
  | 22 => ⟨S_, .f32⟩
  | 23 => ⟨S256x1, .f32⟩
  | 24 => ⟨S256x1, .f32⟩
  | 25 => ⟨S256x1024, .f32⟩
  | 26 => ⟨S256x1024, .f32⟩
  | 27 => ⟨S256x1024, .f32⟩
  | 28 => ⟨S256x1024, .f32⟩
  | 29 => ⟨S_, .f32⟩
  | 30 => ⟨S1x1024, .f32⟩
  | 31 => ⟨S1x1024, .f32⟩
  | 32 => ⟨S256x1024, .f32⟩
  | 33 => ⟨S256x1024, .f32⟩
  | 34 => ⟨S256x1024, .f32⟩
  | 35 => ⟨S256x1024, .f32⟩
  | 36 => ⟨S256x800, .f32⟩
  | 37 => ⟨S1x256x800, .f32⟩
  | 38 => ⟨S1x256x256, .f32⟩
  | 39 => ⟨S1x256x4x64, .f32⟩
  | 40 => ⟨S1x256x512, .f32⟩
  | 41 => ⟨S1x256x4x128, .f32⟩
  | 42 => ⟨S1x256x32, .f32⟩
  | 43 => ⟨S1x256x2x16, .f32⟩
  | 44 => ⟨S2x256x1x256, .f32⟩
  | 45 => ⟨S1x256x2x256, .f32⟩
  | 46 => ⟨S1x1x2x256, .f32⟩
  | 47 => ⟨S1x256x2x256, .f32⟩
  | 48 => ⟨S1x256x2x256, .f32⟩
  | 49 => ⟨S1x256x2x256, .f32⟩
  | 50 => ⟨S_, .f32⟩
  | 51 => ⟨S1x256x2x256, .f32⟩
  | 52 => ⟨S1x256x2x256, .f32⟩
  | 53 => ⟨S1x256x2x256, .f32⟩
  | 54 => ⟨S1x256x2x256, .f32⟩
  | 55 => ⟨S1x256x2x256, .i1⟩
  | 56 => ⟨S1x256x2x256, .f32⟩
  | 57 => ⟨S1x256x2x256, .f32⟩
  | 58 => ⟨S1x256x2x256, .f32⟩
  | 59 => ⟨S1x256x2x256, .f32⟩
  | 60 => ⟨S1x256x2x256, .f32⟩
  | 61 => ⟨S1x256x2x256, .f32⟩
  | 62 => ⟨S1x256x2x256, .f32⟩
  | 63 => ⟨S1x256x2x256, .f32⟩
  | 64 => ⟨S_, .f32⟩
  | 65 => ⟨S1x256x2x256, .f32⟩
  | 66 => ⟨S1x256x2x256, .i1⟩
  | 67 => ⟨S_, .f32⟩
  | 68 => ⟨S1x256x2x256, .f32⟩
  | 69 => ⟨S1x256x2x256, .f32⟩
  | 70 => ⟨S_, .f32⟩
  | 71 => ⟨S1x256x2x256, .f32⟩
  | 72 => ⟨S1x256x2x256, .i1⟩
  | 73 => ⟨S_, .f32⟩
  | 74 => ⟨S1x256x2x256, .f32⟩
  | 75 => ⟨S1x256x2x256, .f32⟩
  | 76 => ⟨S1x256x2x256, .f32⟩
  | 77 => ⟨S1x256x2x256, .f32⟩
  | 78 => ⟨S_, .f32⟩
  | 79 => ⟨S_, .f32⟩
  | 80 => ⟨S_, .i1⟩
  | 81 => ⟨S_, .f32⟩
  | 82 => ⟨S_, .f32⟩
  | 83 => ⟨S_, .f32⟩
  | 84 => ⟨S_, .f32⟩
  | 85 => ⟨S1x256x2x256, .f32⟩
  | 86 => ⟨S1x256x2x256, .i1⟩
  | 87 => ⟨S_, .f32⟩
  | 88 => ⟨S1x256x2x256, .f32⟩
  | 89 => ⟨S1x256x2x256, .f32⟩
  | 90 => ⟨S1x256x2x256, .f32⟩
  | 91 => ⟨S1x256x2x256, .f32⟩
  | 92 => ⟨S1x256x2x256, .f32⟩
  | 93 => ⟨S_, .f32⟩
  | 94 => ⟨S1x256x2x256, .f32⟩
  | 95 => ⟨S1x256x2x256, .f32⟩
  | 96 => ⟨S1x256x2x256, .f32⟩
  | 97 => ⟨S_, .f32⟩
  | 98 => ⟨S1x256x2x256, .f32⟩
  | 99 => ⟨S1x256x2x256, .f32⟩
  | 100 => ⟨S1x256x2x4x64, .f32⟩
  | 101 => ⟨S1x256x1x4x64, .f32⟩
  | 102 => ⟨S1x256x4x64, .f32⟩
  | 103 => ⟨S1x256x1x4x64, .f32⟩
  | 104 => ⟨S1x256x4x64, .f32⟩
  | 105 => ⟨S_, .f32⟩
  | 106 => ⟨S1x4x64x128, .f32⟩
  | 107 => ⟨S1x4x64x4x64, .f32⟩
  | 108 => ⟨S1x4x4x64x64, .f32⟩
  | 109 => ⟨S1x4x64x4x128, .f32⟩
  | 110 => ⟨S1x4x4x64x128, .f32⟩
  | 111 => ⟨S1x4x64x4x64, .f32⟩
  | 112 => ⟨S1x4x4x64x64, .f32⟩
  | 113 => ⟨S_, .f32⟩
  | 114 => ⟨S_, .f32⟩
  | 115 => ⟨S1x4x4x64x64, .f32⟩
  | 116 => ⟨S1x4x4x1x64, .f32⟩
  | 117 => ⟨S1x4x4x64, .f32⟩
  | 118 => ⟨S1x4x4x1x64, .f32⟩
  | 119 => ⟨S1x4x4x64x64, .f32⟩
  | 120 => ⟨S1x4x4x64x64, .f32⟩
  | 121 => ⟨S1x4x4x64x64, .f32⟩
  | 122 => ⟨S1x4x4x64x64, .f32⟩
  | 123 => ⟨S1x4x4x64x128, .f32⟩
  | 124 => ⟨S1x4x4x64, .f32⟩
  | 125 => ⟨S4x1x4x64, .f32⟩
  | 126 => ⟨S4x1x4x64x128, .f32⟩
  | 127 => ⟨S0x1x4x64, .f32⟩
  | _ => ⟨S256x1024, .f32⟩

abbrev hbmTy0_1 (i : Nat) : BufTy := match i % 128 with
  | 0 => ⟨S4x1x4x64, .f32⟩
  | 1 => ⟨S0x1x4x64x128, .f32⟩
  | 2 => ⟨S4x1x4x64x128, .f32⟩
  | 3 => ⟨S_, .f32⟩
  | 4 => ⟨S0x1x4x64x128, .f32⟩
  | 5 => ⟨S_, .f32⟩
  | 6 => ⟨S0x1x4x64x1, .f32⟩
  | 7 => ⟨S1x1x4x64, .f32⟩
  | 8 => ⟨S1x4x64, .f32⟩
  | 9 => ⟨S1x1x4x64x128, .f32⟩
  | 10 => ⟨S1x4x64x128, .f32⟩
  | 11 => ⟨S1x4x64x1, .f32⟩
  | 12 => ⟨S1x4x64x128, .f32⟩
  | 13 => ⟨S1x4x64x128, .f32⟩
  | 14 => ⟨S1x4x64x128, .f32⟩
  | 15 => ⟨S1x1x4x64, .f32⟩
  | 16 => ⟨S1x4x64, .f32⟩
  | 17 => ⟨S1x1x4x64x128, .f32⟩
  | 18 => ⟨S1x4x64x128, .f32⟩
  | 19 => ⟨S1x4x64x1, .f32⟩
  | 20 => ⟨S1x4x64x128, .f32⟩
  | 21 => ⟨S1x4x64x128, .f32⟩
  | 22 => ⟨S1x4x64x128, .f32⟩
  | 23 => ⟨S1x1x4x64, .f32⟩
  | 24 => ⟨S1x4x64, .f32⟩
  | 25 => ⟨S1x1x4x64x128, .f32⟩
  | 26 => ⟨S1x4x64x128, .f32⟩
  | 27 => ⟨S1x4x64x1, .f32⟩
  | 28 => ⟨S1x4x64x128, .f32⟩
  | 29 => ⟨S1x4x64x128, .f32⟩
  | 30 => ⟨S1x4x64x128, .f32⟩
  | 31 => ⟨S1x1x4x64, .f32⟩
  | 32 => ⟨S1x4x64, .f32⟩
  | 33 => ⟨S1x1x4x64x128, .f32⟩
  | 34 => ⟨S1x4x64x128, .f32⟩
  | 35 => ⟨S1x4x64x1, .f32⟩
  | 36 => ⟨S1x4x64x128, .f32⟩
  | 37 => ⟨S1x4x64x128, .f32⟩
  | 38 => ⟨S1x4x64x128, .f32⟩
  | 39 => ⟨S1x1x4x64x128, .f32⟩
  | 40 => ⟨S1x1x4x64x128, .f32⟩
  | 41 => ⟨S1x1x4x64x128, .f32⟩
  | 42 => ⟨S1x1x4x64x128, .f32⟩
  | 43 => ⟨S4x1x4x64x128, .f32⟩
  | 44 => ⟨S1x1x4x64x1, .f32⟩
  | 45 => ⟨S1x1x4x64x1, .f32⟩
  | 46 => ⟨S1x1x4x64x1, .f32⟩
  | 47 => ⟨S1x1x4x64x1, .f32⟩
  | 48 => ⟨S4x1x4x64x1, .f32⟩
  | 49 => ⟨S4x1x4x64x128, .f32⟩
  | 50 => ⟨S4x1x4x64x1, .f32⟩
  | 51 => ⟨S1x4x4x64x128, .f32⟩
  | 52 => ⟨S4x64x128, .f32⟩
  | 53 => ⟨S1x256x4x64, .f32⟩
  | 54 => ⟨S1x256x4x128, .f32⟩
  | 55 => ⟨S1x256x4x64, .f32⟩
  | 56 => ⟨S1x4x64x4x64, .f32⟩
  | 57 => ⟨S1x4x4x64x64, .f32⟩
  | 58 => ⟨S1x4x64x4x128, .f32⟩
  | 59 => ⟨S1x4x4x64x128, .f32⟩
  | 60 => ⟨S1x4x64x4x64, .f32⟩
  | 61 => ⟨S1x4x4x64x64, .f32⟩
  | 62 => ⟨S_, .f32⟩
  | 63 => ⟨S_, .f32⟩
  | 64 => ⟨S1x4x4x64x64, .f32⟩
  | 65 => ⟨S1x4x4x1x64, .f32⟩
  | 66 => ⟨S1x4x4x64, .f32⟩
  | 67 => ⟨S1x4x4x1x64, .f32⟩
  | 68 => ⟨S1x4x4x64x64, .f32⟩
  | 69 => ⟨S1x4x4x64x64, .f32⟩
  | 70 => ⟨S1x4x4x64x64, .f32⟩
  | 71 => ⟨S1x4x4x64x64, .f32⟩
  | 72 => ⟨S1x4x4x64x128, .f32⟩
  | 73 => ⟨S1x4x4x64, .f32⟩
  | 74 => ⟨S4x1x4x64, .f32⟩
  | 75 => ⟨S4x1x4x64x128, .f32⟩
  | 76 => ⟨S0x1x4x64, .f32⟩
  | 77 => ⟨S4x1x4x64, .f32⟩
  | 78 => ⟨S0x1x4x64x128, .f32⟩
  | 79 => ⟨S4x1x4x64x128, .f32⟩
  | 80 => ⟨S_, .f32⟩
  | 81 => ⟨S0x1x4x64x128, .f32⟩
  | 82 => ⟨S_, .f32⟩
  | 83 => ⟨S0x1x4x64x1, .f32⟩
  | 84 => ⟨S1x1x4x64, .f32⟩
  | 85 => ⟨S1x4x64, .f32⟩
  | 86 => ⟨S1x1x4x64x128, .f32⟩
  | 87 => ⟨S1x4x64x128, .f32⟩
  | 88 => ⟨S1x4x64x1, .f32⟩
  | 89 => ⟨S1x4x64x128, .f32⟩
  | 90 => ⟨S1x4x64x128, .f32⟩
  | 91 => ⟨S1x4x64x128, .f32⟩
  | 92 => ⟨S1x1x4x64, .f32⟩
  | 93 => ⟨S1x4x64, .f32⟩
  | 94 => ⟨S1x1x4x64x128, .f32⟩
  | 95 => ⟨S1x4x64x128, .f32⟩
  | 96 => ⟨S1x4x64x1, .f32⟩
  | 97 => ⟨S1x4x64x128, .f32⟩
  | 98 => ⟨S1x4x64x128, .f32⟩
  | 99 => ⟨S1x4x64x128, .f32⟩
  | 100 => ⟨S1x1x4x64, .f32⟩
  | 101 => ⟨S1x4x64, .f32⟩
  | 102 => ⟨S1x1x4x64x128, .f32⟩
  | 103 => ⟨S1x4x64x128, .f32⟩
  | 104 => ⟨S1x4x64x1, .f32⟩
  | 105 => ⟨S1x4x64x128, .f32⟩
  | 106 => ⟨S1x4x64x128, .f32⟩
  | 107 => ⟨S1x4x64x128, .f32⟩
  | 108 => ⟨S1x1x4x64, .f32⟩
  | 109 => ⟨S1x4x64, .f32⟩
  | 110 => ⟨S1x1x4x64x128, .f32⟩
  | 111 => ⟨S1x4x64x128, .f32⟩
  | 112 => ⟨S1x4x64x1, .f32⟩
  | 113 => ⟨S1x4x64x128, .f32⟩
  | 114 => ⟨S1x4x64x128, .f32⟩
  | 115 => ⟨S1x4x64x128, .f32⟩
  | 116 => ⟨S1x1x4x64x128, .f32⟩
  | 117 => ⟨S1x1x4x64x128, .f32⟩
  | 118 => ⟨S1x1x4x64x128, .f32⟩
  | 119 => ⟨S1x1x4x64x128, .f32⟩
  | 120 => ⟨S4x1x4x64x128, .f32⟩
  | 121 => ⟨S1x1x4x64x1, .f32⟩
  | 122 => ⟨S1x1x4x64x1, .f32⟩
  | 123 => ⟨S1x1x4x64x1, .f32⟩
  | 124 => ⟨S1x1x4x64x1, .f32⟩
  | 125 => ⟨S4x1x4x64x1, .f32⟩
  | 126 => ⟨S4x1x4x64x128, .f32⟩
  | 127 => ⟨S4x1x4x64x1, .f32⟩
  | _ => ⟨S256x1024, .f32⟩

abbrev hbmTy0_2 (i : Nat) : BufTy := match i % 128 with
  | 0 => ⟨S1x4x4x64x128, .f32⟩
  | 1 => ⟨S4x64x128, .f32⟩
  | 2 => ⟨S_, .f32⟩
  | 3 => ⟨S1x4x64x128, .f32⟩
  | 4 => ⟨S_, .f32⟩
  | 5 => ⟨S1x4x64x128, .f32⟩
  | 6 => ⟨S1x4x64x128, .f32⟩
  | 7 => ⟨S4x1x4x64x128, .f32⟩
  | 8 => ⟨S0x1x4x64x128, .f32⟩
  | 9 => ⟨S4x1x4x64x1, .f32⟩
  | 10 => ⟨S0x1x4x64x1, .f32⟩
  | 11 => ⟨S_, .f32⟩
  | 12 => ⟨S0x1x4x64, .f32⟩
  | 13 => ⟨S_, .f32⟩
  | 14 => ⟨S0x1x4x64x128, .f32⟩
  | 15 => ⟨S1x1x4x64x128, .f32⟩
  | 16 => ⟨S1x4x64x128, .f32⟩
  | 17 => ⟨S1x1x4x64x1, .f32⟩
  | 18 => ⟨S1x4x64x1, .f32⟩
  | 19 => ⟨S1x4x64x128, .f32⟩
  | 20 => ⟨S1x4x64x128, .f32⟩
  | 21 => ⟨S1x4x64x128, .f32⟩
  | 22 => ⟨S_, .f32⟩
  | 23 => ⟨S1x4x64, .f32⟩
  | 24 => ⟨S1x4x64x1, .f32⟩
  | 25 => ⟨S_, .f32⟩
  | 26 => ⟨S4x64, .f32⟩
  | 27 => ⟨S1x4x64, .f32⟩
  | 28 => ⟨S1x1x4x64x128, .f32⟩
  | 29 => ⟨S1x4x64x128, .f32⟩
  | 30 => ⟨S1x1x4x64x1, .f32⟩
  | 31 => ⟨S1x4x64x1, .f32⟩
  | 32 => ⟨S1x4x64x128, .f32⟩
  | 33 => ⟨S1x4x64x128, .f32⟩
  | 34 => ⟨S1x4x64x128, .f32⟩
  | 35 => ⟨S_, .f32⟩
  | 36 => ⟨S1x4x64, .f32⟩
  | 37 => ⟨S1x4x64x1, .f32⟩
  | 38 => ⟨S_, .f32⟩
  | 39 => ⟨S4x64, .f32⟩
  | 40 => ⟨S1x4x64, .f32⟩
  | 41 => ⟨S1x1x4x64x128, .f32⟩
  | 42 => ⟨S1x4x64x128, .f32⟩
  | 43 => ⟨S1x1x4x64x1, .f32⟩
  | 44 => ⟨S1x4x64x1, .f32⟩
  | 45 => ⟨S1x4x64x128, .f32⟩
  | 46 => ⟨S1x4x64x128, .f32⟩
  | 47 => ⟨S1x4x64x128, .f32⟩
  | 48 => ⟨S_, .f32⟩
  | 49 => ⟨S1x4x64, .f32⟩
  | 50 => ⟨S1x4x64x1, .f32⟩
  | 51 => ⟨S_, .f32⟩
  | 52 => ⟨S4x64, .f32⟩
  | 53 => ⟨S1x4x64, .f32⟩
  | 54 => ⟨S1x1x4x64x128, .f32⟩
  | 55 => ⟨S1x4x64x128, .f32⟩
  | 56 => ⟨S1x1x4x64x1, .f32⟩
  | 57 => ⟨S1x4x64x1, .f32⟩
  | 58 => ⟨S1x4x64x128, .f32⟩
  | 59 => ⟨S1x4x64x128, .f32⟩
  | 60 => ⟨S1x4x64x128, .f32⟩
  | 61 => ⟨S_, .f32⟩
  | 62 => ⟨S1x4x64, .f32⟩
  | 63 => ⟨S1x4x64x1, .f32⟩
  | 64 => ⟨S_, .f32⟩
  | 65 => ⟨S4x64, .f32⟩
  | 66 => ⟨S1x4x64, .f32⟩
  | 67 => ⟨S1x1x4x64, .f32⟩
  | 68 => ⟨S1x1x4x64, .f32⟩
  | 69 => ⟨S1x1x4x64, .f32⟩
  | 70 => ⟨S1x1x4x64, .f32⟩
  | 71 => ⟨S4x1x4x64, .f32⟩
  | 72 => ⟨S1x1x4x64x128, .f32⟩
  | 73 => ⟨S1x1x4x64x128, .f32⟩
  | 74 => ⟨S1x1x4x64x128, .f32⟩
  | 75 => ⟨S1x1x4x64x128, .f32⟩
  | 76 => ⟨S4x1x4x64x128, .f32⟩
  | 77 => ⟨S4x1x4x64, .f32⟩
  | 78 => ⟨S4x1x4x64x128, .f32⟩
  | 79 => ⟨S1x4x4x64x128, .f32⟩
  | 80 => ⟨S1x4x4x64, .f32⟩
  | 81 => ⟨S1x4x4x64, .f32⟩
  | 82 => ⟨S1x4x4x128x64, .f32⟩
  | 83 => ⟨S1x4x4x64x128, .f32⟩
  | 84 => ⟨S1x4x4x64x64, .f32⟩
  | 85 => ⟨S1x4x4x64x64, .f32⟩
  | 86 => ⟨S1x4x4x64x64, .f32⟩
  | 87 => ⟨S1x4x4x64x64, .f32⟩
  | 88 => ⟨S1x4x4x64x64, .f32⟩
  | 89 => ⟨S_, .f32⟩
  | 90 => ⟨S1x4x4x64, .f32⟩
  | 91 => ⟨S1x4x4x1x64, .f32⟩
  | 92 => ⟨S1x4x4x64x64, .f32⟩
  | 93 => ⟨S_, .f32⟩
  | 94 => ⟨S4x4x64, .f32⟩
  | 95 => ⟨S1x4x4x64, .f32⟩
  | 96 => ⟨S1x4x4x64, .f32⟩
  | 97 => ⟨S1x4x4x1x64, .f32⟩
  | 98 => ⟨S_, .f32⟩
  | 99 => ⟨S1x4x4x64x64, .f32⟩
  | 100 => ⟨S1x4x4x64x64, .f32⟩
  | 101 => ⟨S_, .f32⟩
  | 102 => ⟨S_, .f32⟩
  | 103 => ⟨S1x4x4x64x64, .f32⟩
  | 104 => ⟨S1x4x64x4x64, .f32⟩
  | 105 => ⟨S1x256x4x64, .f32⟩
  | 106 => ⟨S1x4x64x4x128, .f32⟩
  | 107 => ⟨S1x256x4x128, .f32⟩
  | 108 => ⟨S1x4x64x4x64, .f32⟩
  | 109 => ⟨S1x256x4x64, .f32⟩
  | 110 => ⟨S1x256x4x64, .f32⟩
  | 111 => ⟨S1x256x4x128, .f32⟩
  | 112 => ⟨S1x256x4x64, .f32⟩
  | 113 => ⟨S1x4x64x128, .f32⟩
  | 114 => ⟨S4x1x4x64x128, .f32⟩
  | 115 => ⟨S0x1x4x64x128, .f32⟩
  | 116 => ⟨S4x1x4x64x1, .f32⟩
  | 117 => ⟨S0x1x4x64x1, .f32⟩
  | 118 => ⟨S_, .f32⟩
  | 119 => ⟨S0x1x4x64, .f32⟩
  | 120 => ⟨S_, .f32⟩
  | 121 => ⟨S0x1x4x64x128, .f32⟩
  | 122 => ⟨S1x1x4x64x128, .f32⟩
  | 123 => ⟨S1x4x64x128, .f32⟩
  | 124 => ⟨S1x1x4x64x1, .f32⟩
  | 125 => ⟨S1x4x64x1, .f32⟩
  | 126 => ⟨S1x4x64x128, .f32⟩
  | 127 => ⟨S1x4x64x128, .f32⟩
  | _ => ⟨S256x1024, .f32⟩

abbrev hbmTy0_3 (i : Nat) : BufTy := match i % 128 with
  | 0 => ⟨S1x4x64x128, .f32⟩
  | 1 => ⟨S_, .f32⟩
  | 2 => ⟨S1x4x64, .f32⟩
  | 3 => ⟨S1x4x64x1, .f32⟩
  | 4 => ⟨S_, .f32⟩
  | 5 => ⟨S4x64, .f32⟩
  | 6 => ⟨S1x4x64, .f32⟩
  | 7 => ⟨S1x1x4x64x128, .f32⟩
  | 8 => ⟨S1x4x64x128, .f32⟩
  | 9 => ⟨S1x1x4x64x1, .f32⟩
  | 10 => ⟨S1x4x64x1, .f32⟩
  | 11 => ⟨S1x4x64x128, .f32⟩
  | 12 => ⟨S1x4x64x128, .f32⟩
  | 13 => ⟨S1x4x64x128, .f32⟩
  | 14 => ⟨S_, .f32⟩
  | 15 => ⟨S1x4x64, .f32⟩
  | 16 => ⟨S1x4x64x1, .f32⟩
  | 17 => ⟨S_, .f32⟩
  | 18 => ⟨S4x64, .f32⟩
  | 19 => ⟨S1x4x64, .f32⟩
  | 20 => ⟨S1x1x4x64x128, .f32⟩
  | 21 => ⟨S1x4x64x128, .f32⟩
  | 22 => ⟨S1x1x4x64x1, .f32⟩
  | 23 => ⟨S1x4x64x1, .f32⟩
  | 24 => ⟨S1x4x64x128, .f32⟩
  | 25 => ⟨S1x4x64x128, .f32⟩
  | 26 => ⟨S1x4x64x128, .f32⟩
  | 27 => ⟨S_, .f32⟩
  | 28 => ⟨S1x4x64, .f32⟩
  | 29 => ⟨S1x4x64x1, .f32⟩
  | 30 => ⟨S_, .f32⟩
  | 31 => ⟨S4x64, .f32⟩
  | 32 => ⟨S1x4x64, .f32⟩
  | 33 => ⟨S1x1x4x64x128, .f32⟩
  | 34 => ⟨S1x4x64x128, .f32⟩
  | 35 => ⟨S1x1x4x64x1, .f32⟩
  | 36 => ⟨S1x4x64x1, .f32⟩
  | 37 => ⟨S1x4x64x128, .f32⟩
  | 38 => ⟨S1x4x64x128, .f32⟩
  | 39 => ⟨S1x4x64x128, .f32⟩
  | 40 => ⟨S_, .f32⟩
  | 41 => ⟨S1x4x64, .f32⟩
  | 42 => ⟨S1x4x64x1, .f32⟩
  | 43 => ⟨S_, .f32⟩
  | 44 => ⟨S4x64, .f32⟩
  | 45 => ⟨S1x4x64, .f32⟩
  | 46 => ⟨S1x1x4x64, .f32⟩
  | 47 => ⟨S1x1x4x64, .f32⟩
  | 48 => ⟨S1x1x4x64, .f32⟩
  | 49 => ⟨S1x1x4x64, .f32⟩
  | 50 => ⟨S4x1x4x64, .f32⟩
  | 51 => ⟨S1x1x4x64x128, .f32⟩
  | 52 => ⟨S1x1x4x64x128, .f32⟩
  | 53 => ⟨S1x1x4x64x128, .f32⟩
  | 54 => ⟨S1x1x4x64x128, .f32⟩
  | 55 => ⟨S4x1x4x64x128, .f32⟩
  | 56 => ⟨S4x1x4x64, .f32⟩
  | 57 => ⟨S4x1x4x64x128, .f32⟩
  | 58 => ⟨S1x4x4x64x128, .f32⟩
  | 59 => ⟨S1x4x4x64, .f32⟩
  | 60 => ⟨S1x4x4x64, .f32⟩
  | 61 => ⟨S1x4x4x128x64, .f32⟩
  | 62 => ⟨S1x4x4x64x128, .f32⟩
  | 63 => ⟨S1x4x4x64x64, .f32⟩
  | 64 => ⟨S1x4x4x64x64, .f32⟩
  | 65 => ⟨S1x4x4x64x64, .f32⟩
  | 66 => ⟨S1x4x4x64x64, .f32⟩
  | 67 => ⟨S1x4x4x64x64, .f32⟩
  | 68 => ⟨S_, .f32⟩
  | 69 => ⟨S1x4x4x64, .f32⟩
  | 70 => ⟨S1x4x4x1x64, .f32⟩
  | 71 => ⟨S1x4x4x64x64, .f32⟩
  | 72 => ⟨S_, .f32⟩
  | 73 => ⟨S4x4x64, .f32⟩
  | 74 => ⟨S1x4x4x64, .f32⟩
  | 75 => ⟨S1x4x4x64, .f32⟩
  | 76 => ⟨S1x4x4x1x64, .f32⟩
  | 77 => ⟨S_, .f32⟩
  | 78 => ⟨S1x4x4x64x64, .f32⟩
  | 79 => ⟨S1x4x4x64x64, .f32⟩
  | 80 => ⟨S_, .f32⟩
  | 81 => ⟨S_, .f32⟩
  | 82 => ⟨S1x4x4x64x64, .f32⟩
  | 83 => ⟨S1x4x64x4x64, .f32⟩
  | 84 => ⟨S1x256x4x64, .f32⟩
  | 85 => ⟨S1x4x64x4x128, .f32⟩
  | 86 => ⟨S1x256x4x128, .f32⟩
  | 87 => ⟨S1x256x4x128, .f32⟩
  | 88 => ⟨S1x4x64x4x64, .f32⟩
  | 89 => ⟨S1x256x4x64, .f32⟩
  | 90 => ⟨S1x256x4x64, .f32⟩
  | 91 => ⟨S1x256x1x4x64, .f32⟩
  | 92 => ⟨S_, .f32⟩
  | 93 => ⟨S1x256x2x4x64, .f32⟩
  | 94 => ⟨S1x256x1x4x64, .f32⟩
  | 95 => ⟨S_, .f32⟩
  | 96 => ⟨S1x256x2x4x64, .f32⟩
  | 97 => ⟨S1x256x2x4x64, .f32⟩
  | 98 => ⟨S1x256x2x256, .f32⟩
  | 99 => ⟨S_, .f32⟩
  | 100 => ⟨S1x256x2x256, .f32⟩
  | 101 => ⟨S1x256x2x256, .f32⟩
  | 102 => ⟨S1x256x2x256, .f32⟩
  | 103 => ⟨S1x256x2x256, .f32⟩
  | 104 => ⟨S1x256x2x256, .f32⟩
  | 105 => ⟨S_, .f32⟩
  | 106 => ⟨S1x2x256, .f32⟩
  | 107 => ⟨S1x1x2x256, .f32⟩
  | 108 => ⟨S_, .f32⟩
  | 109 => ⟨S2x256, .f32⟩
  | 110 => ⟨S2x256x1x256, .f32⟩
  | 111 => ⟨S2x1x256x16, .f32⟩
  | 112 => ⟨S1x256x2x16, .f32⟩
  | 113 => ⟨S2x256x16, .f32⟩
  | 114 => ⟨S2x16x256, .f32⟩
  | 115 => ⟨S1x256x32, .f32⟩
  | 116 => ⟨S_, .f32⟩
  | 117 => ⟨S1x256x800, .f32⟩
  | 118 => ⟨S1x256x512, .f32⟩
  | 119 => ⟨S_, .f32⟩
  | 120 => ⟨S1x256x800, .f32⟩
  | 121 => ⟨S1x256x800, .f32⟩
  | 122 => ⟨S1x256x256, .f32⟩
  | 123 => ⟨S_, .f32⟩
  | 124 => ⟨S1x256x800, .f32⟩
  | 125 => ⟨S1x256x800, .f32⟩
  | 126 => ⟨S_, .f32⟩
  | 127 => ⟨S256x800, .f32⟩
  | _ => ⟨S256x1024, .f32⟩

abbrev hbmTy0_4 (i : Nat) : BufTy := match i % 128 with
  | 0 => ⟨S800x1024, .f32⟩
  | 1 => ⟨S1024x800, .f32⟩
  | 2 => ⟨S256x1024, .f32⟩
  | 3 => ⟨S_, .f32⟩
  | 4 => ⟨S1024, .f32⟩
  | 5 => ⟨S1x1024, .f32⟩
  | 6 => ⟨S256x1024, .f32⟩
  | 7 => ⟨S_, .f32⟩
  | 8 => ⟨S1024, .f32⟩
  | 9 => ⟨S1x1024, .f32⟩
  | 10 => ⟨S256x1024, .f32⟩
  | 11 => ⟨S256x1024, .f32⟩
  | 12 => ⟨S256x1024, .f32⟩
  | 13 => ⟨S_, .f32⟩
  | 14 => ⟨S1024, .f32⟩
  | 15 => ⟨S1x1024, .f32⟩
  | 16 => ⟨S256x1024, .f32⟩
  | 17 => ⟨S256x1024, .f32⟩
  | 18 => ⟨S256x1024, .f32⟩
  | 19 => ⟨S_, .f32⟩
  | 20 => ⟨S256, .f32⟩
  | 21 => ⟨S256x1, .f32⟩
  | 22 => ⟨S256x1024, .f32⟩
  | 23 => ⟨S256x1024, .f32⟩
  | 24 => ⟨S256x1, .f32⟩
  | 25 => ⟨S_, .f32⟩
  | 26 => ⟨S256x1, .f32⟩
  | 27 => ⟨S256x1, .f32⟩
  | 28 => ⟨S_, .f32⟩
  | 29 => ⟨S256, .f32⟩
  | 30 => ⟨S256x1024, .f32⟩
  | 31 => ⟨S256x1024, .f32⟩
  | 32 => ⟨S256x1024, .f32⟩
  | 33 => ⟨S256x1024, .f32⟩
  | 34 => ⟨S256x1024, .f32⟩
  | 35 => ⟨S1024x32, .f32⟩
  | 36 => ⟨S_, .i32⟩
  | 37 => ⟨S_, .f32⟩
  | 38 => ⟨S1024x128, .f32⟩
  | 39 => ⟨S1024x256, .f32⟩
  | 40 => ⟨S1024x512, .f32⟩
  | 41 => ⟨S1x2048, .f32⟩
  | 42 => ⟨S2x1x256, .f32⟩
  | _ => ⟨S256x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1_0 : Ref sig .tc := ⟨.hbm, 63, rfl⟩
abbrev main_call0_call0_cst_0 : Ref sig .tc := ⟨.hbm, 64, rfl⟩
abbrev main_call0_call0_v13 : Ref sig .tc := ⟨.hbm, 65, rfl⟩
abbrev main_call0_call0_v14 : Ref sig .tc := ⟨.hbm, 66, rfl⟩
abbrev main_call0_call0_cst_1 : Ref sig .tc := ⟨.hbm, 67, rfl⟩
abbrev main_call0_call0_v15 : Ref sig .tc := ⟨.hbm, 68, rfl⟩
abbrev main_call0_call0_v16 : Ref sig .tc := ⟨.hbm, 69, rfl⟩
abbrev main_call0_call0_cst_2 : Ref sig .tc := ⟨.hbm, 70, rfl⟩
abbrev main_call0_call0_v17 : Ref sig .tc := ⟨.hbm, 71, rfl⟩
abbrev main_call0_call0_v18 : Ref sig .tc := ⟨.hbm, 72, rfl⟩
abbrev main_call0_call0_cst_3 : Ref sig .tc := ⟨.hbm, 73, rfl⟩
abbrev main_call0_call0_v19 : Ref sig .tc := ⟨.hbm, 74, rfl⟩
abbrev main_call0_call0_v20 : Ref sig .tc := ⟨.hbm, 75, rfl⟩
abbrev main_call0_call0_v21 : Ref sig .tc := ⟨.hbm, 76, rfl⟩
abbrev main_v35_1 : Ref sig .tc := ⟨.hbm, 77, rfl⟩
abbrev main_call0_call0_cst_4 : Ref sig .tc := ⟨.hbm, 78, rfl⟩
abbrev main_call0_call0_cst_5 : Ref sig .tc := ⟨.hbm, 79, rfl⟩
abbrev main_call0_call0_v23 : Ref sig .tc := ⟨.hbm, 80, rfl⟩
abbrev main_call0_call0_cst_6 : Ref sig .tc := ⟨.hbm, 81, rfl⟩
abbrev main_call0_call0_cst_7 : Ref sig .tc := ⟨.hbm, 82, rfl⟩
abbrev main_call0_call0_v24 : Ref sig .tc := ⟨.hbm, 83, rfl⟩
abbrev main_call0_call0_cst_8 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_cst_9 : Ref sig .tc := ⟨.hbm, 87, rfl⟩
abbrev main_call0_call0_v27 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_v30 : Ref sig .tc := ⟨.hbm, 91, rfl⟩
abbrev main_call0_call0_v31 : Ref sig .tc := ⟨.hbm, 92, rfl⟩
abbrev main_call0_call0_cst_10 : Ref sig .tc := ⟨.hbm, 93, rfl⟩
abbrev main_call0_call0_v32 : Ref sig .tc := ⟨.hbm, 94, rfl⟩
abbrev main_v35_2 : Ref sig .tc := ⟨.hbm, 95, rfl⟩
abbrev main_v35_0 : Ref sig .tc := ⟨.hbm, 96, rfl⟩
abbrev main_cst_4 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_5 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_call1_call0_cst : Ref sig .tc := ⟨.hbm, 113, rfl⟩
abbrev main_call1_call0_v0 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_6 : Ref sig .tc := ⟨.hbm, 131, rfl⟩
abbrev main_v66 : Ref sig .tc := ⟨.hbm, 132, rfl⟩
abbrev main_cst_7 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_call5_call0_cst : Ref sig .tc := ⟨.hbm, 190, rfl⟩
abbrev main_call5_call0_v0 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_8 : Ref sig .tc := ⟨.hbm, 208, rfl⟩
abbrev main_v139 : Ref sig .tc := ⟨.hbm, 209, rfl⟩
abbrev main_cst_9 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_10 : Ref sig .tc := ⟨.hbm, 258, rfl⟩
abbrev main_v187 : Ref sig .tc := ⟨.hbm, 259, rfl⟩
abbrev main_cst_11 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_cst_12 : Ref sig .tc := ⟨.hbm, 267, rfl⟩
abbrev main_v194 : Ref sig .tc := ⟨.hbm, 268, rfl⟩
abbrev main_cst_13 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_cst_14 : Ref sig .tc := ⟨.hbm, 278, rfl⟩
abbrev main_v203 : Ref sig .tc := ⟨.hbm, 279, rfl⟩
abbrev main_v204 : Ref sig .tc := ⟨.hbm, 280, rfl⟩
abbrev main_cst_15 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_cst_16 : Ref sig .tc := ⟨.hbm, 291, rfl⟩
abbrev main_v214 : Ref sig .tc := ⟨.hbm, 292, rfl⟩
abbrev main_v215 : Ref sig .tc := ⟨.hbm, 293, rfl⟩
abbrev main_cst_17 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_cst_18 : Ref sig .tc := ⟨.hbm, 304, rfl⟩
abbrev main_v225 : Ref sig .tc := ⟨.hbm, 305, rfl⟩
abbrev main_v226 : Ref sig .tc := ⟨.hbm, 306, rfl⟩
abbrev main_cst_19 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_cst_20 : Ref sig .tc := ⟨.hbm, 317, rfl⟩
abbrev main_v236 : Ref sig .tc := ⟨.hbm, 318, rfl⟩
abbrev main_v237 : Ref sig .tc := ⟨.hbm, 319, rfl⟩
abbrev main_cst_21 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_cst_22 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_cst_23 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_cst_24 : Ref sig .tc := ⟨.hbm, 354, rfl⟩
abbrev main_v269 : Ref sig .tc := ⟨.hbm, 355, rfl⟩
abbrev main_v270 : Ref sig .tc := ⟨.hbm, 356, rfl⟩
abbrev main_call6_call0_cst : Ref sig .tc := ⟨.hbm, 357, rfl⟩
abbrev main_call6_call0_v0 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_cst_25 : Ref sig .tc := ⟨.hbm, 374, rfl⟩
abbrev main_v286 : Ref sig .tc := ⟨.hbm, 375, rfl⟩
abbrev main_cst_26 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_cst_27 : Ref sig .tc := ⟨.hbm, 385, rfl⟩
abbrev main_v295 : Ref sig .tc := ⟨.hbm, 386, rfl⟩
abbrev main_v296 : Ref sig .tc := ⟨.hbm, 387, rfl⟩
abbrev main_cst_28 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_cst_29 : Ref sig .tc := ⟨.hbm, 398, rfl⟩
abbrev main_v306 : Ref sig .tc := ⟨.hbm, 399, rfl⟩
abbrev main_v307 : Ref sig .tc := ⟨.hbm, 400, rfl⟩
abbrev main_cst_30 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_cst_31 : Ref sig .tc := ⟨.hbm, 411, rfl⟩
abbrev main_v317 : Ref sig .tc := ⟨.hbm, 412, rfl⟩
abbrev main_v318 : Ref sig .tc := ⟨.hbm, 413, rfl⟩
abbrev main_cst_32 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_cst_33 : Ref sig .tc := ⟨.hbm, 424, rfl⟩
abbrev main_v328 : Ref sig .tc := ⟨.hbm, 425, rfl⟩
abbrev main_v329 : Ref sig .tc := ⟨.hbm, 426, rfl⟩
abbrev main_cst_34 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_v352 : Ref sig .tc := ⟨.hbm, 450, rfl⟩
abbrev main_v353 : Ref sig .tc := ⟨.hbm, 451, rfl⟩
abbrev main_cst_35 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_cst_36 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_cst_37 : Ref sig .tc := ⟨.hbm, 461, rfl⟩
abbrev main_v361 : Ref sig .tc := ⟨.hbm, 462, rfl⟩
abbrev main_v362 : Ref sig .tc := ⟨.hbm, 463, rfl⟩
abbrev main_call10_call0_cst : Ref sig .tc := ⟨.hbm, 464, rfl⟩
abbrev main_call10_call0_v0 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_cst_38 : Ref sig .tc := ⟨.hbm, 476, rfl⟩
abbrev main_v373 : Ref sig .tc := ⟨.hbm, 477, rfl⟩
abbrev main_v374 : Ref sig .tc := ⟨.hbm, 478, rfl⟩
abbrev main_cst_39 : Ref sig .tc := ⟨.hbm, 479, rfl⟩
abbrev main_v375 : Ref sig .tc := ⟨.hbm, 480, rfl⟩
abbrev main_v376 : Ref sig .tc := ⟨.hbm, 481, rfl⟩
abbrev main_v377 : Ref sig .tc := ⟨.hbm, 482, rfl⟩
abbrev main_cst_40 : Ref sig .tc := ⟨.hbm, 483, rfl⟩
abbrev main_v378 : Ref sig .tc := ⟨.hbm, 484, rfl⟩
abbrev main_v379 : Ref sig .tc := ⟨.hbm, 485, rfl⟩
abbrev main_call11_v0 : Ref sig .tc := ⟨.hbm, 486, rfl⟩
abbrev main_call11_v1 : Ref sig .tc := ⟨.hbm, 487, rfl⟩
abbrev main_v380 : Ref sig .tc := ⟨.hbm, 488, rfl⟩
abbrev main_cst_41 : Ref sig .tc := ⟨.hbm, 489, rfl⟩
abbrev main_v381 : Ref sig .tc := ⟨.hbm, 490, rfl⟩
abbrev main_v382 : Ref sig .tc := ⟨.hbm, 491, rfl⟩
abbrev main_cst_42 : Ref sig .tc := ⟨.hbm, 492, rfl⟩
abbrev main_v383 : Ref sig .tc := ⟨.hbm, 493, rfl⟩
abbrev main_v384 : Ref sig .tc := ⟨.hbm, 494, rfl⟩
abbrev main_v385 : Ref sig .tc := ⟨.hbm, 495, rfl⟩
abbrev main_v386 : Ref sig .tc := ⟨.hbm, 496, rfl⟩
abbrev main_v387 : Ref sig .tc := ⟨.hbm, 497, rfl⟩
abbrev main_v388 : Ref sig .tc := ⟨.hbm, 498, rfl⟩
abbrev main_v389 : Ref sig .tc := ⟨.hbm, 499, rfl⟩
abbrev main_cst_43 : Ref sig .tc := ⟨.hbm, 500, rfl⟩
abbrev main_v390 : Ref sig .tc := ⟨.hbm, 501, rfl⟩
abbrev main_v391 : Ref sig .tc := ⟨.hbm, 502, rfl⟩
abbrev main_cst_44 : Ref sig .tc := ⟨.hbm, 503, rfl⟩
abbrev main_v392 : Ref sig .tc := ⟨.hbm, 504, rfl⟩
abbrev main_v393 : Ref sig .tc := ⟨.hbm, 505, rfl⟩
abbrev main_v394 : Ref sig .tc := ⟨.hbm, 506, rfl⟩
abbrev main_cst_45 : Ref sig .tc := ⟨.hbm, 507, rfl⟩
abbrev main_v395 : Ref sig .tc := ⟨.hbm, 508, rfl⟩
abbrev main_v396 : Ref sig .tc := ⟨.hbm, 509, rfl⟩
abbrev main_cst_46 : Ref sig .tc := ⟨.hbm, 510, rfl⟩
abbrev main_v397 : Ref sig .tc := ⟨.hbm, 511, rfl⟩
abbrev main_v398 : Ref sig .tc := ⟨.hbm, 512, rfl⟩
abbrev main_v399 : Ref sig .tc := ⟨.hbm, 513, rfl⟩
abbrev main_v400 : Ref sig .tc := ⟨.hbm, 514, rfl⟩
abbrev main_cst_47 : Ref sig .tc := ⟨.hbm, 515, rfl⟩
abbrev main_v401 : Ref sig .tc := ⟨.hbm, 516, rfl⟩
abbrev main_v402 : Ref sig .tc := ⟨.hbm, 517, rfl⟩
abbrev main_v403 : Ref sig .tc := ⟨.hbm, 518, rfl⟩
abbrev main_cst_48 : Ref sig .tc := ⟨.hbm, 519, rfl⟩
abbrev main_v404 : Ref sig .tc := ⟨.hbm, 520, rfl⟩
abbrev main_v405 : Ref sig .tc := ⟨.hbm, 521, rfl⟩
abbrev main_v406 : Ref sig .tc := ⟨.hbm, 522, rfl⟩
abbrev main_v407 : Ref sig .tc := ⟨.hbm, 523, rfl⟩
abbrev main_v408 : Ref sig .tc := ⟨.hbm, 524, rfl⟩
abbrev main_cst_49 : Ref sig .tc := ⟨.hbm, 525, rfl⟩
abbrev main_v409 : Ref sig .tc := ⟨.hbm, 526, rfl⟩
abbrev main_v410 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_cst_50 : Ref sig .tc := ⟨.hbm, 531, rfl⟩
abbrev main_v414 : Ref sig .tc := ⟨.hbm, 532, rfl⟩
abbrev main_v415 : Ref sig .tc := ⟨.hbm, 533, rfl⟩
abbrev main_v416 : Ref sig .tc := ⟨.hbm, 534, rfl⟩
abbrev main_v417 : Ref sig .tc := ⟨.hbm, 535, rfl⟩
abbrev main_v418 : Ref sig .tc := ⟨.hbm, 536, rfl⟩
abbrev main_cst_51 : Ref sig .tc := ⟨.hbm, 537, rfl⟩
abbrev main_v419 : Ref sig .tc := ⟨.hbm, 538, rfl⟩
abbrev main_v420 : Ref sig .tc := ⟨.hbm, 539, rfl⟩
abbrev main_cst_52 : Ref sig .tc := ⟨.hbm, 540, rfl⟩
abbrev main_v421 : Ref sig .tc := ⟨.hbm, 541, rfl⟩
abbrev main_v422 : Ref sig .tc := ⟨.hbm, 542, rfl⟩
abbrev main_v423 : Ref sig .tc := ⟨.hbm, 543, rfl⟩
abbrev main_v424 : Ref sig .tc := ⟨.hbm, 544, rfl⟩
abbrev main_v425 : Ref sig .tc := ⟨.hbm, 545, rfl⟩
abbrev main_v426 : Ref sig .tc := ⟨.hbm, 546, rfl⟩
abbrev main_v427 : Ref sig .tc := ⟨.hbm, 547, rfl⟩
abbrev main_c : Ref sig .tc := ⟨.hbm, 548, rfl⟩
abbrev main_call12_v0 : Ref sig .tc := ⟨.hbm, 549, rfl⟩
abbrev main_v428 : Ref sig .tc := ⟨.hbm, 550, rfl⟩
abbrev main_v429 : Ref sig .tc := ⟨.hbm, 551, rfl⟩
abbrev main_v430 : Ref sig .tc := ⟨.hbm, 552, rfl⟩
abbrev main_v431 : Ref sig .tc := ⟨.hbm, 553, rfl⟩
abbrev main_v432 : Ref sig .tc := ⟨.hbm, 554, rfl⟩

abbrev nD : Nat := 1
abbrev τ : Topo := Topo.v7x

variable {F : FTy → Type} [FloatOps F]
-- ==== States.lean ====
abbrev S256x1024 : Shape := ⟨2, ![256, 1024]⟩
abbrev S1x1024 : Shape := ⟨2, ![1, 1024]⟩
abbrev S1024x5152 : Shape := ⟨2, ![1024, 5152]⟩
abbrev S2x16x256 : Shape := ⟨3, ![2, 16, 256]⟩
abbrev S2x256 : Shape := ⟨2, ![2, 256]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S1024x1024 : Shape := ⟨2, ![1024, 1024]⟩
abbrev S1024x4096 : Shape := ⟨2, ![1024, 4096]⟩
abbrev S1024x4224 : Shape := ⟨2, ![1024, 4224]⟩
abbrev S1024x5248 : Shape := ⟨2, ![1024, 5248]⟩
abbrev S1x16x256 : Shape := ⟨3, ![1, 16, 256]⟩
abbrev S16x256 : Shape := ⟨2, ![16, 256]⟩
abbrev S128x256 : Shape := ⟨2, ![128, 256]⟩
abbrev S1x256 : Shape := ⟨2, ![1, 256]⟩
abbrev S512x256 : Shape := ⟨2, ![512, 256]⟩
abbrev S1024x256 : Shape := ⟨2, ![1024, 256]⟩
abbrev S1024x512 : Shape := ⟨2, ![1024, 512]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S256x128 : Shape := ⟨2, ![256, 128]⟩
abbrev S64x64 : Shape := ⟨2, ![64, 64]⟩
abbrev S64x128 : Shape := ⟨2, ![64, 128]⟩
abbrev S64x256 : Shape := ⟨2, ![64, 256]⟩
abbrev S64x512 : Shape := ⟨2, ![64, 512]⟩

abbrev nBuf : Space → Nat
  | .hbm => 30
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5152, .f32⟩
  | .hbm, ⟨5, _⟩ => ⟨S2x16x256, .f32⟩
  | .hbm, ⟨6, _⟩ => ⟨S2x256, .f32⟩
  | .hbm, ⟨7, _⟩ => ⟨S1024x32, .f32⟩
  | .hbm, ⟨8, _⟩ => ⟨S_, .f32⟩
  | .hbm, ⟨9, _⟩ => ⟨S1024x96, .f32⟩
  | .hbm, ⟨10, _⟩ => ⟨S1024x128, .f32⟩
  | .hbm, ⟨11, _⟩ => ⟨S1024x1024, .f32⟩
  | .hbm, ⟨12, _⟩ => ⟨S1024x4096, .f32⟩
  | .hbm, ⟨13, _⟩ => ⟨S1024x4224, .f32⟩
  | .hbm, ⟨14, _⟩ => ⟨S1024x5248, .f32⟩
  | .hbm, ⟨15, _⟩ => ⟨S1024x5248, .bf16⟩
  | .hbm, ⟨16, _⟩ => ⟨S1x16x256, .f32⟩
  | .hbm, ⟨17, _⟩ => ⟨S16x256, .f32⟩
  | .hbm, ⟨18, _⟩ => ⟨S_, .i32⟩
  | .hbm, ⟨19, _⟩ => ⟨S_, .f32⟩
  | .hbm, ⟨20, _⟩ => ⟨S128x256, .f32⟩
  | .hbm, ⟨21, _⟩ => ⟨S1x16x256, .f32⟩
  | .hbm, ⟨22, _⟩ => ⟨S16x256, .f32⟩
  | .hbm, ⟨23, _⟩ => ⟨S_, .i32⟩
  | .hbm, ⟨24, _⟩ => ⟨S_, .f32⟩
  | .hbm, ⟨25, _⟩ => ⟨S128x256, .f32⟩
  | .hbm, ⟨26, _⟩ => ⟨S1x256, .f32⟩
  | .hbm, ⟨27, _⟩ => ⟨S1x256, .f32⟩
  | .hbm, ⟨28, _⟩ => ⟨S512x256, .f32⟩
  | .hbm, ⟨29, _⟩ => ⟨S512x256, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1024x256, .bf16⟩
  | .local _ .vmem, ⟨5, _⟩ => ⟨S1024x512, .bf16⟩
  | .local _ .vmem, ⟨6, _⟩ => ⟨S1024x128, .bf16⟩
  | .local _ .vmem, ⟨7, _⟩ => ⟨S128x256, .f32⟩
  | .local _ .vmem, ⟨8, _⟩ => ⟨S128x256, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c40_i32 : BitVec 32 := 40#32
  let c0_i32_0 : BitVec 32 := 0#32
  ![c0_i32.toNat, c40_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== StatesRefIdeal.lean ====
abbrev S256x1024 : Shape := ⟨2, ![256, 1024]⟩
abbrev S1x1024 : Shape := ⟨2, ![1, 1024]⟩
abbrev S1024x5152 : Shape := ⟨2, ![1024, 5152]⟩
abbrev S2x16x256 : Shape := ⟨3, ![2, 16, 256]⟩
abbrev S2x256 : Shape := ⟨2, ![2, 256]⟩
abbrev S1024x800 : Shape := ⟨2, ![1024, 800]⟩
abbrev S_ : Shape := ⟨0, ![]⟩
abbrev S256 : Shape := ⟨1, ![256]⟩
abbrev S256x1 : Shape := ⟨2, ![256, 1]⟩
abbrev S256x800 : Shape := ⟨2, ![256, 800]⟩
abbrev S1x256x800 : Shape := ⟨3, ![1, 256, 800]⟩
abbrev S1x256x256 : Shape := ⟨3, ![1, 256, 256]⟩
abbrev S1x256x4x64 : Shape := ⟨4, ![1, 256, 4, 64]⟩
abbrev S1x256x512 : Shape := ⟨3, ![1, 256, 512]⟩
abbrev S1x256x4x128 : Shape := ⟨4, ![1, 256, 4, 128]⟩
abbrev S1x256x32 : Shape := ⟨3, ![1, 256, 32]⟩
abbrev S1x256x2x16 : Shape := ⟨4, ![1, 256, 2, 16]⟩
abbrev S2x256x1x256 : Shape := ⟨4, ![2, 256, 1, 256]⟩
abbrev S1x256x2x256 : Shape := ⟨4, ![1, 256, 2, 256]⟩
abbrev S1x1x2x256 : Shape := ⟨4, ![1, 1, 2, 256]⟩
abbrev S1x256x2x4x64 : Shape := ⟨5, ![1, 256, 2, 4, 64]⟩
abbrev S1x256x1x4x64 : Shape := ⟨5, ![1, 256, 1, 4, 64]⟩
abbrev S1x4x64x128 : Shape := ⟨4, ![1, 4, 64, 128]⟩
abbrev S1x4x64x4x64 : Shape := ⟨5, ![1, 4, 64, 4, 64]⟩
abbrev S1x4x4x64x64 : Shape := ⟨5, ![1, 4, 4, 64, 64]⟩
abbrev S1x4x64x4x128 : Shape := ⟨5, ![1, 4, 64, 4, 128]⟩
abbrev S1x4x4x64x128 : Shape := ⟨5, ![1, 4, 4, 64, 128]⟩
abbrev S1x4x4x1x64 : Shape := ⟨5, ![1, 4, 4, 1, 64]⟩
abbrev S1x4x4x64 : Shape := ⟨4, ![1, 4, 4, 64]⟩
abbrev S4x1x4x64 : Shape := ⟨4, ![4, 1, 4, 64]⟩
abbrev S4x1x4x64x128 : Shape := ⟨5, ![4, 1, 4, 64, 128]⟩
abbrev S0x1x4x64 : Shape := ⟨4, ![0, 1, 4, 64]⟩
abbrev S0x1x4x64x128 : Shape := ⟨5, ![0, 1, 4, 64, 128]⟩
abbrev S1x1x4x64 : Shape := ⟨4, ![1, 1, 4, 64]⟩
abbrev S1x4x64 : Shape := ⟨3, ![1, 4, 64]⟩
abbrev S1x1x4x64x128 : Shape := ⟨5, ![1, 1, 4, 64, 128]⟩
abbrev S1x4x64x1 : Shape := ⟨4, ![1, 4, 64, 1]⟩
abbrev S4x64x128 : Shape := ⟨3, ![4, 64, 128]⟩
abbrev S4x4 : Shape := ⟨2, ![4, 4]⟩
abbrev S4x1x4x1 : Shape := ⟨4, ![4, 1, 4, 1]⟩
abbrev S4x128x64 : Shape := ⟨3, ![4, 128, 64]⟩
abbrev S4x128x1x64 : Shape := ⟨4, ![4, 128, 1, 64]⟩
abbrev S4x128x4x64 : Shape := ⟨4, ![4, 128, 4, 64]⟩
abbrev S512x256 : Shape := ⟨2, ![512, 256]⟩

abbrev nBuf : Space → Nat
  | .hbm => 236
  | .vmem => 0
  | .smem => 0
  | _ => 0

abbrev hbmTy0_0 (i : Nat) : BufTy := match i % 128 with
  | 0 => ⟨S256x1024, .f32⟩
  | 1 => ⟨S1x1024, .f32⟩
  | 2 => ⟨S1x1024, .f32⟩
  | 3 => ⟨S1x1024, .f32⟩
  | 4 => ⟨S1024x5152, .f32⟩
  | 5 => ⟨S2x16x256, .f32⟩
  | 6 => ⟨S2x256, .f32⟩
  | 7 => ⟨S1024x800, .f32⟩
  | 8 => ⟨S256x1024, .f32⟩
  | 9 => ⟨S_, .f32⟩
  | 10 => ⟨S256, .f32⟩
  | 11 => ⟨S256x1, .f32⟩
  | 12 => ⟨S_, .f32⟩
  | 13 => ⟨S256x1, .f32⟩
  | 14 => ⟨S256x1, .f32⟩
  | 15 => ⟨S_, .f32⟩
  | 16 => ⟨S256x1, .f32⟩
  | 17 => ⟨S256x1, .f32⟩
  | 18 => ⟨S256x1, .f32⟩
  | 19 => ⟨S256x1024, .f32⟩
  | 20 => ⟨S256x1024, .f32⟩
  | 21 => ⟨S256x1024, .f32⟩
  | 22 => ⟨S256x1024, .f32⟩
  | 23 => ⟨S_, .f32⟩
  | 24 => ⟨S1x1024, .f32⟩
  | 25 => ⟨S1x1024, .f32⟩
  | 26 => ⟨S256x1024, .f32⟩
  | 27 => ⟨S256x1024, .f32⟩
  | 28 => ⟨S256x1024, .f32⟩
  | 29 => ⟨S256x1024, .f32⟩
  | 30 => ⟨S256x800, .f32⟩
  | 31 => ⟨S1x256x800, .f32⟩
  | 32 => ⟨S1x256x256, .f32⟩
  | 33 => ⟨S1x256x4x64, .f32⟩
  | 34 => ⟨S1x256x512, .f32⟩
  | 35 => ⟨S1x256x4x128, .f32⟩
  | 36 => ⟨S1x256x32, .f32⟩
  | 37 => ⟨S1x256x2x16, .f32⟩
  | 38 => ⟨S2x256x1x256, .f32⟩
  | 39 => ⟨S1x256x2x256, .f32⟩
  | 40 => ⟨S1x1x2x256, .f32⟩
  | 41 => ⟨S1x256x2x256, .f32⟩
  | 42 => ⟨S1x256x2x256, .f32⟩
  | 43 => ⟨S1x256x2x256, .f32⟩
  | 44 => ⟨S_, .f32⟩
  | 45 => ⟨S1x256x2x256, .f32⟩
  | 46 => ⟨S1x256x2x256, .f32⟩
  | 47 => ⟨S1x256x2x256, .f32⟩
  | 48 => ⟨S1x256x2x256, .f32⟩
  | 49 => ⟨S1x256x2x256, .i1⟩
  | 50 => ⟨S1x256x2x256, .f32⟩
  | 51 => ⟨S1x256x2x256, .f32⟩
  | 52 => ⟨S1x256x2x256, .f32⟩
  | 53 => ⟨S1x256x2x256, .f32⟩
  | 54 => ⟨S1x256x2x256, .f32⟩
  | 55 => ⟨S1x256x2x256, .f32⟩
  | 56 => ⟨S1x256x2x256, .f32⟩
  | 57 => ⟨S1x256x2x256, .f32⟩
  | 58 => ⟨S1x256x2x256, .f32⟩
  | 59 => ⟨S_, .f32⟩
  | 60 => ⟨S1x256x2x256, .f32⟩
  | 61 => ⟨S1x256x2x256, .f32⟩
  | 62 => ⟨S1x256x2x4x64, .f32⟩
  | 63 => ⟨S1x256x1x4x64, .f32⟩
  | 64 => ⟨S1x256x4x64, .f32⟩
  | 65 => ⟨S1x256x1x4x64, .f32⟩
  | 66 => ⟨S1x256x4x64, .f32⟩
  | 67 => ⟨S_, .f32⟩
  | 68 => ⟨S1x4x64x128, .f32⟩
  | 69 => ⟨S1x4x64x4x64, .f32⟩
  | 70 => ⟨S1x4x4x64x64, .f32⟩
  | 71 => ⟨S1x4x64x4x128, .f32⟩
  | 72 => ⟨S1x4x4x64x128, .f32⟩
  | 73 => ⟨S1x4x64x4x64, .f32⟩
  | 74 => ⟨S1x4x4x64x64, .f32⟩
  | 75 => ⟨S_, .f32⟩
  | 76 => ⟨S_, .f32⟩
  | 77 => ⟨S1x4x4x64x64, .f32⟩
  | 78 => ⟨S1x4x4x1x64, .f32⟩
  | 79 => ⟨S1x4x4x64, .f32⟩
  | 80 => ⟨S1x4x4x1x64, .f32⟩
  | 81 => ⟨S1x4x4x64x64, .f32⟩
  | 82 => ⟨S1x4x4x64x64, .f32⟩
  | 83 => ⟨S1x4x4x64x64, .f32⟩
  | 84 => ⟨S1x4x4x64x64, .f32⟩
  | 85 => ⟨S1x4x4x64x128, .f32⟩
  | 86 => ⟨S1x4x4x64, .f32⟩
  | 87 => ⟨S4x1x4x64, .f32⟩
  | 88 => ⟨S4x1x4x64x128, .f32⟩
  | 89 => ⟨S0x1x4x64, .f32⟩
  | 90 => ⟨S4x1x4x64, .f32⟩
  | 91 => ⟨S0x1x4x64x128, .f32⟩
  | 92 => ⟨S4x1x4x64x128, .f32⟩
  | 93 => ⟨S_, .f32⟩
  | 94 => ⟨S0x1x4x64x128, .f32⟩
  | 95 => ⟨S1x1x4x64, .f32⟩
  | 96 => ⟨S1x4x64, .f32⟩
  | 97 => ⟨S1x1x4x64x128, .f32⟩
  | 98 => ⟨S1x4x64x128, .f32⟩
  | 99 => ⟨S1x4x64x1, .f32⟩
  | 100 => ⟨S1x4x64x128, .f32⟩
  | 101 => ⟨S1x4x64x128, .f32⟩
  | 102 => ⟨S1x4x64x128, .f32⟩
  | 103 => ⟨S1x1x4x64, .f32⟩
  | 104 => ⟨S1x4x64, .f32⟩
  | 105 => ⟨S1x1x4x64x128, .f32⟩
  | 106 => ⟨S1x4x64x128, .f32⟩
  | 107 => ⟨S1x4x64x1, .f32⟩
  | 108 => ⟨S1x4x64x128, .f32⟩
  | 109 => ⟨S1x4x64x128, .f32⟩
  | 110 => ⟨S1x4x64x128, .f32⟩
  | 111 => ⟨S1x1x4x64, .f32⟩
  | 112 => ⟨S1x4x64, .f32⟩
  | 113 => ⟨S1x1x4x64x128, .f32⟩
  | 114 => ⟨S1x4x64x128, .f32⟩
  | 115 => ⟨S1x4x64x1, .f32⟩
  | 116 => ⟨S1x4x64x128, .f32⟩
  | 117 => ⟨S1x4x64x128, .f32⟩
  | 118 => ⟨S1x4x64x128, .f32⟩
  | 119 => ⟨S1x1x4x64, .f32⟩
  | 120 => ⟨S1x4x64, .f32⟩
  | 121 => ⟨S1x1x4x64x128, .f32⟩
  | 122 => ⟨S1x4x64x128, .f32⟩
  | 123 => ⟨S1x4x64x1, .f32⟩
  | 124 => ⟨S1x4x64x128, .f32⟩
  | 125 => ⟨S1x4x64x128, .f32⟩
  | 126 => ⟨S1x4x64x128, .f32⟩
  | 127 => ⟨S1x1x4x64x128, .f32⟩
  | _ => ⟨S256x1024, .f32⟩

abbrev hbmTy0_1 (i : Nat) : BufTy := match i % 128 with
  | 0 => ⟨S1x1x4x64x128, .f32⟩
  | 1 => ⟨S1x1x4x64x128, .f32⟩
  | 2 => ⟨S1x1x4x64x128, .f32⟩
  | 3 => ⟨S4x1x4x64x128, .f32⟩
  | 4 => ⟨S4x1x4x64x128, .f32⟩
  | 5 => ⟨S1x4x4x64x128, .f32⟩
  | 6 => ⟨S4x64x128, .f32⟩
  | 7 => ⟨S1x256x4x64, .f32⟩
  | 8 => ⟨S1x256x4x128, .f32⟩
  | 9 => ⟨S1x256x4x64, .f32⟩
  | 10 => ⟨S1x4x64x4x64, .f32⟩
  | 11 => ⟨S1x4x4x64x64, .f32⟩
  | 12 => ⟨S1x4x64x4x128, .f32⟩
  | 13 => ⟨S1x4x4x64x128, .f32⟩
  | 14 => ⟨S1x4x64x4x64, .f32⟩
  | 15 => ⟨S1x4x4x64x64, .f32⟩
  | 16 => ⟨S_, .f32⟩
  | 17 => ⟨S_, .f32⟩
  | 18 => ⟨S1x4x4x64x64, .f32⟩
  | 19 => ⟨S1x4x4x1x64, .f32⟩
  | 20 => ⟨S1x4x4x64, .f32⟩
  | 21 => ⟨S1x4x4x1x64, .f32⟩
  | 22 => ⟨S1x4x4x64x64, .f32⟩
  | 23 => ⟨S1x4x4x64x64, .f32⟩
  | 24 => ⟨S1x4x4x64x64, .f32⟩
  | 25 => ⟨S1x4x4x64x64, .f32⟩
  | 26 => ⟨S1x4x4x64x128, .f32⟩
  | 27 => ⟨S1x4x4x64, .f32⟩
  | 28 => ⟨S4x1x4x64, .f32⟩
  | 29 => ⟨S4x1x4x64x128, .f32⟩
  | 30 => ⟨S0x1x4x64, .f32⟩
  | 31 => ⟨S4x1x4x64, .f32⟩
  | 32 => ⟨S0x1x4x64x128, .f32⟩
  | 33 => ⟨S4x1x4x64x128, .f32⟩
  | 34 => ⟨S_, .f32⟩
  | 35 => ⟨S0x1x4x64x128, .f32⟩
  | 36 => ⟨S1x1x4x64, .f32⟩
  | 37 => ⟨S1x4x64, .f32⟩
  | 38 => ⟨S1x1x4x64x128, .f32⟩
  | 39 => ⟨S1x4x64x128, .f32⟩
  | 40 => ⟨S1x4x64x1, .f32⟩
  | 41 => ⟨S1x4x64x128, .f32⟩
  | 42 => ⟨S1x4x64x128, .f32⟩
  | 43 => ⟨S1x4x64x128, .f32⟩
  | 44 => ⟨S1x1x4x64, .f32⟩
  | 45 => ⟨S1x4x64, .f32⟩
  | 46 => ⟨S1x1x4x64x128, .f32⟩
  | 47 => ⟨S1x4x64x128, .f32⟩
  | 48 => ⟨S1x4x64x1, .f32⟩
  | 49 => ⟨S1x4x64x128, .f32⟩
  | 50 => ⟨S1x4x64x128, .f32⟩
  | 51 => ⟨S1x4x64x128, .f32⟩
  | 52 => ⟨S1x1x4x64, .f32⟩
  | 53 => ⟨S1x4x64, .f32⟩
  | 54 => ⟨S1x1x4x64x128, .f32⟩
  | 55 => ⟨S1x4x64x128, .f32⟩
  | 56 => ⟨S1x4x64x1, .f32⟩
  | 57 => ⟨S1x4x64x128, .f32⟩
  | 58 => ⟨S1x4x64x128, .f32⟩
  | 59 => ⟨S1x4x64x128, .f32⟩
  | 60 => ⟨S1x1x4x64, .f32⟩
  | 61 => ⟨S1x4x64, .f32⟩
  | 62 => ⟨S1x1x4x64x128, .f32⟩
  | 63 => ⟨S1x4x64x128, .f32⟩
  | 64 => ⟨S1x4x64x1, .f32⟩
  | 65 => ⟨S1x4x64x128, .f32⟩
  | 66 => ⟨S1x4x64x128, .f32⟩
  | 67 => ⟨S1x4x64x128, .f32⟩
  | 68 => ⟨S1x1x4x64x128, .f32⟩
  | 69 => ⟨S1x1x4x64x128, .f32⟩
  | 70 => ⟨S1x1x4x64x128, .f32⟩
  | 71 => ⟨S1x1x4x64x128, .f32⟩
  | 72 => ⟨S4x1x4x64x128, .f32⟩
  | 73 => ⟨S4x1x4x64x128, .f32⟩
  | 74 => ⟨S1x4x4x64x128, .f32⟩
  | 75 => ⟨S4x64x128, .f32⟩
  | 76 => ⟨S4x4, .i32⟩
  | 77 => ⟨S4x4, .i32⟩
  | 78 => ⟨S_, .i32⟩
  | 79 => ⟨S4x4, .i32⟩
  | 80 => ⟨S4x4, .i32⟩
  | 81 => ⟨S4x4, .i1⟩
  | 82 => ⟨S4x1x4x1, .i1⟩
  | 83 => ⟨S4x128x64, .f32⟩
  | 84 => ⟨S4x128x1x64, .f32⟩
  | 85 => ⟨S_, .f32⟩
  | 86 => ⟨S_, .f32⟩
  | 87 => ⟨S4x128x4x64, .i1⟩
  | 88 => ⟨S4x128x4x64, .f32⟩
  | 89 => ⟨S4x128x4x64, .f32⟩
  | 90 => ⟨S4x128x4x64, .f32⟩
  | 91 => ⟨S512x256, .f32⟩
  | 92 => ⟨S4x4, .i32⟩
  | 93 => ⟨S4x4, .i32⟩
  | 94 => ⟨S_, .i32⟩
  | 95 => ⟨S4x4, .i32⟩
  | 96 => ⟨S4x4, .i32⟩
  | 97 => ⟨S4x4, .i1⟩
  | 98 => ⟨S4x1x4x1, .i1⟩
  | 99 => ⟨S4x128x64, .f32⟩
  | 100 => ⟨S4x128x1x64, .f32⟩
  | 101 => ⟨S_, .f32⟩
  | 102 => ⟨S_, .f32⟩
  | 103 => ⟨S4x128x4x64, .i1⟩
  | 104 => ⟨S4x128x4x64, .f32⟩
  | 105 => ⟨S4x128x4x64, .f32⟩
  | 106 => ⟨S4x128x4x64, .f32⟩
  | 107 => ⟨S512x256, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_call0_cst : Ref sig .tc := ⟨.hbm, 75, rfl⟩
abbrev main_call1_call0_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_call5_call0_cst : Ref sig .tc := ⟨.hbm, 144, rfl⟩
abbrev main_call5_call0_v0 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_6 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_c : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_cst_7 : Ref sig .tc := ⟨.hbm, 213, rfl⟩
abbrev main_call6_v0 : Ref sig .tc := ⟨.hbm, 214, rfl⟩
abbrev main_call6_v1 : Ref sig .tc := ⟨.hbm, 215, rfl⟩
abbrev main_call6_v2 : Ref sig .tc := ⟨.hbm, 216, rfl⟩
abbrev main_call6_v3 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_c_8 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_cst_9 : Ref sig .tc := ⟨.hbm, 229, rfl⟩
abbrev main_call7_v0 : Ref sig .tc := ⟨.hbm, 230, rfl⟩
abbrev main_call7_v1 : Ref sig .tc := ⟨.hbm, 231, rfl⟩
abbrev main_call7_v2 : Ref sig .tc := ⟨.hbm, 232, rfl⟩
abbrev main_call7_v3 : Ref sig .tc := ⟨.hbm, 233, rfl⟩
abbrev main_v188 : Ref sig .tc := ⟨.hbm, 234, rfl⟩
abbrev main_v189 : Ref sig .tc := ⟨.hbm, 235, rfl⟩

abbrev nD : Nat := 1
abbrev τ : Topo := Topo.v7x

variable {F : FTy → Type} [FloatOps F]
-- ==== Tail.lean ====
abbrev S8x1024 : Shape := ⟨2, ![8, 1024]⟩
abbrev S1024 : Shape := ⟨1, ![1024]⟩
abbrev S1x1024x384 : Shape := ⟨3, ![1, 1024, 384]⟩
abbrev S8x2048 : Shape := ⟨2, ![8, 2048]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S8x1x1024 : Shape := ⟨3, ![8, 1, 1024]⟩
abbrev S8x1x2048 : Shape := ⟨3, ![8, 1, 2048]⟩
abbrev S1x3072 : Shape := ⟨2, ![1, 3072]⟩
abbrev S8x1x3072 : Shape := ⟨3, ![8, 1, 3072]⟩
abbrev S16x3072 : Shape := ⟨2, ![16, 3072]⟩
abbrev S1x1x1024 : Shape := ⟨3, ![1, 1, 1024]⟩
abbrev S1x1x2048 : Shape := ⟨3, ![1, 1, 2048]⟩
abbrev S1x2048 : Shape := ⟨2, ![1, 2048]⟩
abbrev S1x1x3072 : Shape := ⟨3, ![1, 1, 3072]⟩
abbrev S7x3072 : Shape := ⟨2, ![7, 3072]⟩
abbrev S16x384 : Shape := ⟨2, ![16, 384]⟩
abbrev S1x384 : Shape := ⟨2, ![1, 384]⟩
abbrev S1024x384 : Shape := ⟨2, ![1024, 384]⟩

abbrev nBuf : Space → Nat
  | .hbm => 23
  | .vmem => 16
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x384, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x2048, .f32⟩
  | .hbm, ⟨9, _⟩ => ⟨S1x1024, .f32⟩
  | .hbm, ⟨10, _⟩ => ⟨S_, .f32⟩
  | .hbm, ⟨11, _⟩ => ⟨S7x1024, .f32⟩
  | .hbm, ⟨12, _⟩ => ⟨S16x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x2048, .f32⟩
  | .hbm, ⟨19, _⟩ => ⟨S1x1024x384, .f32⟩
  | .hbm, ⟨20, _⟩ => ⟨S1x1024, .f32⟩
  | .hbm, ⟨21, _⟩ => ⟨S1x3072, .f32⟩
  | .hbm, ⟨22, _⟩ => ⟨S1x1024, .f32⟩
  | .local _ .vmem, ⟨0, _⟩ => ⟨S8x1x1024, .f32⟩
  | .local _ .vmem, ⟨1, _⟩ => ⟨S8x1x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x2048, .f32⟩
  | .local _ .vmem, ⟨6, _⟩ => ⟨S16x1024, .f32⟩
  | .local _ .vmem, ⟨7, _⟩ => ⟨S1x1024x384, .f32⟩
  | .local _ .vmem, ⟨8, _⟩ => ⟨S1x1024x384, .f32⟩
  | .local _ .vmem, ⟨9, _⟩ => ⟨S1x1024, .f32⟩
  | .local _ .vmem, ⟨10, _⟩ => ⟨S1x3072, .f32⟩
  | .local _ .vmem, ⟨11, _⟩ => ⟨S1x1024, .f32⟩
  | .local _ .vmem, ⟨12, _⟩ => ⟨S8x1x1024, .f32⟩
  | .local _ .vmem, ⟨13, _⟩ => ⟨S8x1x3072, .f32⟩
  | .local _ .vmem, ⟨14, _⟩ => ⟨S16x3072, .f32⟩
  | .local _ .vmem, ⟨15, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== TailRefIdeal.lean ====
abbrev S8x1024 : Shape := ⟨2, ![8, 1024]⟩
abbrev S1024 : Shape := ⟨1, ![1024]⟩
abbrev S1x1024x384 : Shape := ⟨3, ![1, 1024, 384]⟩
abbrev S8x2048 : Shape := ⟨2, ![8, 2048]⟩
abbrev S1x1024 : Shape := ⟨2, ![1, 1024]⟩
abbrev S_ : Shape := ⟨0, ![]⟩
abbrev S1x3072 : Shape := ⟨2, ![1, 3072]⟩
abbrev S1024x384 : Shape := ⟨2, ![1024, 384]⟩
abbrev S8x384 : Shape := ⟨2, ![8, 384]⟩
abbrev S8x2688 : Shape := ⟨2, ![8, 2688]⟩
abbrev S8x3072 : Shape := ⟨2, ![8, 3072]⟩
abbrev S1x384 : Shape := ⟨2, ![1, 384]⟩
abbrev S1x2688 : Shape := ⟨2, ![1, 2688]⟩
abbrev S1x2048 : Shape := ⟨2, ![1, 2048]⟩
abbrev S2048 : Shape := ⟨1, ![2048]⟩
abbrev S384x1024 : Shape := ⟨2, ![384, 1024]⟩
abbrev S3072 : Shape := ⟨1, ![3072]⟩

abbrev nBuf : Space → Nat
  | .hbm => 96
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x384, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x2048, .f32⟩
  | .hbm, ⟨9, _⟩ => ⟨S1x1024, .f32⟩
  | .hbm, ⟨10, _⟩ => ⟨S_, .f32⟩
  | .hbm, ⟨11, _⟩ => ⟨S1x3072, .f32⟩
  | .hbm, ⟨12, _⟩ => ⟨S_, .f32⟩
  | .hbm, ⟨13, _⟩ => ⟨S1x1024, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S1024x384, .f32⟩
  | .hbm, ⟨24, _⟩ => ⟨S8x384, .f32⟩
  | .hbm, ⟨25, _⟩ => ⟨S_, .f32⟩
  | .hbm, ⟨26, _⟩ => ⟨S8x2688, .f32⟩
  | .hbm, ⟨27, _⟩ => ⟨S8x3072, .f32⟩
  | .hbm, ⟨28, _⟩ => ⟨S_, .f32⟩
  | .hbm, ⟨29, _⟩ => ⟨S8x2688, .f32⟩
  | .hbm, ⟨30, _⟩ => ⟨S8x3072, .f32⟩
  | .hbm, ⟨31, _⟩ => ⟨S8x3072, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1024x384, .f32⟩
  | .hbm, ⟨49, _⟩ => ⟨S1x384, .f32⟩
  | .hbm, ⟨50, _⟩ => ⟨S_, .f32⟩
  | .hbm, ⟨51, _⟩ => ⟨S1x2688, .f32⟩
  | .hbm, ⟨52, _⟩ => ⟨S1x3072, .f32⟩
  | .hbm, ⟨53, _⟩ => ⟨S_, .f32⟩
  | .hbm, ⟨54, _⟩ => ⟨S1x2688, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S8x1024, .f32⟩
  | .hbm, ⟨59, _⟩ => ⟨S8x1024, .f32⟩
  | .hbm, ⟨60, _⟩ => ⟨S8x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x3072, .f32⟩
  | .hbm, ⟨73, _⟩ => ⟨S_, .f32⟩
  | .hbm, ⟨74, _⟩ => ⟨S1x3072, .f32⟩
  | .hbm, ⟨75, _⟩ => ⟨S1x384, .f32⟩
  | .hbm, ⟨76, _⟩ => ⟨S1x2688, .f32⟩
  | .hbm, ⟨77, _⟩ => ⟨S384x1024, .f32⟩
  | .hbm, ⟨78, _⟩ => ⟨S1024x384, .f32⟩
  | .hbm, ⟨79, _⟩ => ⟨S1x1024, .f32⟩
  | .hbm, ⟨80, _⟩ => ⟨S1x1024x384, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S8x3072, .f32⟩
  | .hbm, ⟨86, _⟩ => ⟨S_, .f32⟩
  | .hbm, ⟨87, _⟩ => ⟨S3072, .f32⟩
  | .hbm, ⟨88, _⟩ => ⟨S1x3072, .f32⟩
  | .hbm, ⟨89, _⟩ => ⟨S1x3072, .f32⟩
  | .hbm, ⟨90, _⟩ => ⟨S8x384, .f32⟩
  | .hbm, ⟨91, _⟩ => ⟨S8x2688, .f32⟩
  | .hbm, ⟨92, _⟩ => ⟨S384x1024, .f32⟩
  | .hbm, ⟨93, _⟩ => ⟨S1024x384, .f32⟩
  | .hbm, ⟨94, _⟩ => ⟨S1x1024x384, .f32⟩
  | .hbm, ⟨95, _⟩ => ⟨S1x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_v14_2 : Ref sig .tc := ⟨.hbm, 42, rfl⟩
abbrev main_call1_cst_1 : Ref sig .tc := ⟨.hbm, 43, rfl⟩
abbrev main_call1_v6 : Ref sig .tc := ⟨.hbm, 44, rfl⟩
abbrev main_call1_v7 : Ref sig .tc := ⟨.hbm, 45, rfl⟩
abbrev main_v14_1 : Ref sig .tc := ⟨.hbm, 46, rfl⟩
abbrev main_v14_0 : Ref sig .tc := ⟨.hbm, 47, rfl⟩
abbrev main_v15 : Ref sig .tc := ⟨.hbm, 48, rfl⟩
abbrev main_v16 : Ref sig .tc := ⟨.hbm, 49, rfl⟩
abbrev main_cst_3 : Ref sig .tc := ⟨.hbm, 50, rfl⟩
abbrev main_v17 : Ref sig .tc := ⟨.hbm, 51, rfl⟩
abbrev main_v18 : Ref sig .tc := ⟨.hbm, 52, rfl⟩
abbrev main_cst_4 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_cst_6 : Ref sig .tc := ⟨.hbm, 64, rfl⟩
abbrev main_v28 : Ref sig .tc := ⟨.hbm, 65, rfl⟩
abbrev main_v29 : Ref sig .tc := ⟨.hbm, 66, rfl⟩
abbrev main_cst_7 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_8 : Ref sig .tc := ⟨.hbm, 71, rfl⟩
abbrev main_v33 : Ref sig .tc := ⟨.hbm, 72, rfl⟩
abbrev main_cst_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v41 : Ref sig .tc := ⟨.hbm, 84, rfl⟩
abbrev main_v42 : Ref sig .tc := ⟨.hbm, 85, rfl⟩
abbrev main_cst_10 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1024x5152 : Shape := ⟨2, ![1024, 5152]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S1024x1024 : Shape := ⟨2, ![1024, 1024]⟩
abbrev S1024x4096 : Shape := ⟨2, ![1024, 4096]⟩
abbrev S1024x4224 : Shape := ⟨2, ![1024, 4224]⟩
abbrev S1024x5248 : Shape := ⟨2, ![1024, 5248]⟩
abbrev S8192x5248 : Shape := ⟨2, ![8192, 5248]⟩
abbrev S512x1024 : Shape := ⟨2, ![512, 1024]⟩
abbrev S512x5248 : Shape := ⟨2, ![512, 5248]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5152, .f32⟩
  | .hbm, ⟨5, _⟩ => ⟨S1024x32, .f32⟩
  | .hbm, ⟨6, _⟩ => ⟨S_, .f32⟩
  | .hbm, ⟨7, _⟩ => ⟨S1024x96, .f32⟩
  | .hbm, ⟨8, _⟩ => ⟨S1024x128, .f32⟩
  | .hbm, ⟨9, _⟩ => ⟨S1024x1024, .f32⟩
  | .hbm, ⟨10, _⟩ => ⟨S1024x4096, .f32⟩
  | .hbm, ⟨11, _⟩ => ⟨S1024x4224, .f32⟩
  | .hbm, ⟨12, _⟩ => ⟨S1024x5248, .f32⟩
  | .hbm, ⟨13, _⟩ => ⟨S1024x5248, .bf16⟩
  | .hbm, ⟨14, _⟩ => ⟨S8192x5248, .bf16⟩
  | .hbm, ⟨15, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x5248, .bf16⟩
  | .local _ .vmem, ⟨7, _⟩ => ⟨S512x5248, .bf16⟩
  | .local _ .vmem, ⟨8, _⟩ => ⟨S512x5248, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5248 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5248 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S8192x1024 : Shape := ⟨2, ![8192, 1024]⟩
abbrev S1x1024 : Shape := ⟨2, ![1, 1024]⟩
abbrev S1024x5152 : Shape := ⟨2, ![1024, 5152]⟩
abbrev S_ : Shape := ⟨0, ![]⟩
abbrev S8192 : Shape := ⟨1, ![8192]⟩
abbrev S8192x1 : Shape := ⟨2, ![8192, 1]⟩
abbrev S8192x5152 : Shape := ⟨2, ![8192, 5152]⟩
abbrev S8192x4096 : Shape := ⟨2, ![8192, 4096]⟩
abbrev S8192x32 : Shape := ⟨2, ![8192, 32]⟩
abbrev S8192x96 : Shape := ⟨2, ![8192, 96]⟩
abbrev S8192x5248 : Shape := ⟨2, ![8192, 5248]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5152, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5152, .f32⟩
  | .hbm, ⟨28, _⟩ => ⟨S8192x1024, .f32⟩
  | .hbm, ⟨29, _⟩ => ⟨S8192x4096, .f32⟩
  | .hbm, ⟨30, _⟩ => ⟨S8192x32, .f32⟩
  | .hbm, ⟨31, _⟩ => ⟨S_, .f32⟩
  | .hbm, ⟨32, _⟩ => ⟨S8192x96, .f32⟩
  | .hbm, ⟨33, _⟩ => ⟨S8192x5248, .f32⟩
  | .hbm, ⟨34, _⟩ => ⟨S8192x5248, .bf16⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.InBwd.Blocks.lean ====
module

public import proofs.«01_k».proof.Proof.Gen.InBwdIdeal.Value
public import Idealize.ShloMosaic.Lib.Pipeline.ValueKit
public import Idealize.ShloMosaic.Lib.Claim
public import Idealize.ShloMosaic.Lib.Pointwise

/-! What the blocks of the fused input gradient hold: the rows of a grid point's block in the whole arrays, the host's
    regrouped cotangent and the host's padded weight. -/

@[expose] public section

set_option maxRecDepth 16384

noncomputable section

namespace Cert.InBwdIdeal.Value

open Idealize.ShloMosaic Idealize.ShloMosaic.TcCoe Idealize.SL.Sem
open Idealize.ShloMosaic.Pipeline (Dat)
open Cert.InBwdIdeal Cert.InBwdIdeal.Gen

variable (m : (ℓ : Loc nD τ sig) → Buf (Elt Ideal) ℓ)

/-- Where each window's block of a grid point lies. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![0, 1]
    ∧ win0_9.index t = ![0, 4] ∧ win0_10.index t = ![0, 1] ∧ win0_11.index t = ![0, 40] ∧ win0_12.index t = ![0, 0] ∧ win0_13.index t = ![0, 0]
    ∧ win0_14.index t = ![t.val, 0] :=
  (by decide +kernel : ∀ t : Fin grid0.N, _)

/-- The row of the whole array that is row `a` of grid point `t`'s block. -/
def row (t : Fin cfg0.N) (a : Fin 512) : Fin 8192 := ⟨512 * t.val + a.val, by have h : t.val < 16 := lt_of_lt_of_eq t.isLt N_0; omega⟩

/-- The arguments, by name: activations, norm gain, scale, weight, and the two cotangents. -/
abbrev argX (c : Dev nD) : FVec Ideal S8192x1024 .f32 := m ((c.tc : Thread nD τ).loc main_arg0)
abbrev argG (c : Dev nD) : FVec Ideal S1x1024 .f32 := m ((c.tc : Thread nD τ).loc main_arg1)
abbrev argS (c : Dev nD) : FVec Ideal S1x1024 .f32 := m ((c.tc : Thread nD τ).loc main_arg2)
abbrev argW (c : Dev nD) : FVec Ideal S1024x5152 .f32 := m ((c.tc : Thread nD τ).loc main_arg4)
abbrev argCX (c : Dev nD) : FVec Ideal S8192x1024 .f32 := m ((c.tc : Thread nD τ).loc main_arg5)
abbrev argP (c : Dev nD) : FVec Ideal S8192x5152 .f32 := m ((c.tc : Thread nD τ).loc main_arg6)

theorem blk_x (c : Dev nD) (t : Fin cfg0.N) (a : Fin 512) (k : Fin 1024) :
    (iblk m c 0 t : FVec Ideal S512x1024 .f32) (ix2 a k) = argX m c (ix2 (row t a) k) := by
  have : (iblk m c 0 t : FVec Ideal S512x1024 .f32) (ix2 a k) = (V m c main_arg0 : FVec Ideal S8192x1024 .f32) (ix2 (row t a) k) := by
    unfold row; blk_ext [iblk, idx t]
  rw [this, V_main_arg0]

theorem blk_cx (c : Dev nD) (t : Fin cfg0.N) (a : Fin 512) (k : Fin 1024) :
    (iblk m c 1 t : FVec Ideal S512x1024 .f32) (ix2 a k) = argCX m c (ix2 (row t a) k) := by
  have : (iblk m c 1 t : FVec Ideal S512x1024 .f32) (ix2 a k) = (V m c main_arg5 : FVec Ideal S8192x1024 .f32) (ix2 (row t a) k) := by
    unfold row; blk_ext [iblk, idx t]
  rw [this, V_main_arg5]

theorem blk_g (c : Dev nD) (t : Fin cfg0.N) (k : Fin 1024) :
    (iblk m c 12 t : FVec Ideal S1x1024 .f32) (ix2 0 k) = argG m c (ix2 0 k) := by
  have : (iblk m c 12 t : FVec Ideal S1x1024 .f32) (ix2 0 k) = (V m c main_arg1 : FVec Ideal S1x1024 .f32) (ix2 0 k) := by
    blk_ext [iblk, idx t]
  rw [this, V_main_arg1]

theorem blk_s (c : Dev nD) (t : Fin cfg0.N) (k : Fin 1024) :
    (iblk m c 13 t : FVec Ideal S1x1024 .f32) (ix2 0 k) = argS m c (ix2 0 k) := by
  have : (iblk m c 13 t : FVec Ideal S1x1024 .f32) (ix2 0 k) = (V m c main_arg2 : FVec Ideal S1x1024 .f32) (ix2 0 k) := by
    blk_ext [iblk, idx t]
  rw [this, V_main_arg2]

/-! The cotangent's column groups. -/

theorem blk_qkv (c : Dev nD) (t : Fin cfg0.N) (a : Fin 512) (j : Fin 1024) :
    (iblk m c 2 t : FVec Ideal S512x1024 .bf16) (ix2 a j) = argP m c (ix2 (row t a) ⟨j.val, by omega⟩) := by
  have : (iblk m c 2 t : FVec Ideal S512x1024 .bf16) (ix2 a j) = (V m c main_v1 : FVec Ideal S8192x1024 .bf16) (ix2 (row t a) j) := by
    unfold row; blk_ext [iblk, idx t]
  rw [this]; entry_read; pointwise

theorem blk_zbua (c : Dev nD) (t : Fin cfg0.N) (a : Fin 512) (j : Fin 1024) :
    (iblk m c 3 t : FVec Ideal S512x1024 .bf16) (ix2 a j) = argP m c (ix2 (row t a) ⟨1056 + j.val, by omega⟩) := by
  have : (iblk m c 3 t : FVec Ideal S512x1024 .bf16) (ix2 a j) = (V m c main_v7 : FVec Ideal S8192x1024 .bf16) (ix2 (row t a) j) := by
    unfold row; blk_ext [iblk, idx t]
  rw [this]; entry_read; pointwise

theorem blk_va (c : Dev nD) (t : Fin cfg0.N) (a : Fin 512) (j : Fin 512) :
    (iblk m c 4 t : FVec Ideal S512x512 .bf16) (ix2 a j) = argP m c (ix2 (row t a) ⟨2080 + j.val, by omega⟩) := by
  have : (iblk m c 4 t : FVec Ideal S512x512 .bf16) (ix2 a j) = (V m c main_v9 : FVec Ideal S8192x512 .bf16) (ix2 (row t a) j) := by
    unfold row; blk_ext [iblk, idx t]
  rw [this]; entry_read; pointwise

theorem blk_zag (c : Dev nD) (t : Fin cfg0.N) (a : Fin 512) (j : Fin 2560) :
    (iblk m c 5 t : FVec Ideal S512x2560 .bf16) (ix2 a j) = argP m c (ix2 (row t a) ⟨2592 + j.val, by omega⟩) := by
  have : (iblk m c 5 t : FVec Ideal S512x2560 .bf16) (ix2 a j) = (V m c main_v11 : FVec Ideal S8192x2560 .bf16) (ix2 (row t a) j) := by
    unfold row; blk_ext [iblk, idx t]
  rw [this]; entry_read; pointwise

theorem blk_lr (c : Dev nD) (t : Fin cfg0.N) (a : Fin 512) (j : Fin 128) :
    (iblk m c 6 t : FVec Ideal S512x128 .bf16) (ix2 a j)
      = if h : j.val < 32 then argP m c (ix2 (row t a) ⟨1024 + j.val, by omega⟩) else 0 := by
  have : (iblk m c 6 t : FVec Ideal S512x128 .bf16) (ix2 a j) = (V m c main_v5 : FVec Ideal S8192x128 .bf16) (ix2 (row t a) j) := by
    unfold row; blk_ext [iblk, idx t]
  rw [this]; entry_read; pointwise

/-- The padded weight: its first columns, the columns after the low-rank group, that group, and zeros. -/
theorem padded (c : Dev nD) (i : Fin 1024) (j : Fin 5248) : (V m c main_v19 : FVec Ideal S1024x5248 .bf16) (ix2 i j)
    = if h : j.val < 1024 then argW m c (ix2 i ⟨j.val, by omega⟩)
      else if h1 : j.val - 1024 < 4096 then argW m c (ix2 i ⟨1056 + (j.val - 1024), by omega⟩)
      else if h2 : j.val - 1024 - 4096 < 32 then argW m c (ix2 i ⟨1024 + (j.val - 1024 - 4096), by omega⟩) else 0 := by
  entry_read
  pointwise

theorem blk_w7 (c : Dev nD) (t : Fin cfg0.N) (k : Fin 1024) (j : Fin 1024) :
    X0_7 m c t (ix2 k j) = argW m c (ix2 k ⟨j.val, by omega⟩) := by
  have : X0_7 m c t (ix2 k j) = (V m c main_v19 : FVec Ideal S1024x5248 .bf16) (ix2 k ⟨j.val, by omega⟩) := by
    unfold X0_7; unfold Pipeline.Window.fill; rw [dif_pos (moved0_7 t _)]; blk_ext [iblk, idx t]
  rw [this, padded, dif_pos (show j.val < 1024 from j.isLt)]

theorem blk_w8 (c : Dev nD) (t : Fin cfg0.N) (k : Fin 1024) (j : Fin 1024) :
    X0_8 m c t (ix2 k j) = argW m c (ix2 k ⟨1056 + j.val, by omega⟩) := by
  have : X0_8 m c t (ix2 k j) = (V m c main_v19 : FVec Ideal S1024x5248 .bf16) (ix2 k ⟨1024 + j.val, by omega⟩) := by
    unfold X0_8; unfold Pipeline.Window.fill; rw [dif_pos (moved0_8 t _)]; blk_ext [iblk, idx t]
  rw [this, padded, dif_neg (by dsimp only; omega), dif_pos (by dsimp only; omega)]
  congr 3; dsimp only; omega

theorem blk_w9 (c : Dev nD) (t : Fin cfg0.N) (k : Fin 1024) (j : Fin 512) :
    X0_9 m c t (ix2 k j) = argW m c (ix2 k ⟨2080 + j.val, by omega⟩) := by
  have : X0_9 m c t (ix2 k j) = (V m c main_v19 : FVec Ideal S1024x5248 .bf16) (ix2 k ⟨2048 + j.val, by omega⟩) := by
    unfold X0_9; unfold Pipeline.Window.fill; rw [dif_pos (moved0_9 t _)]; blk_ext [iblk, idx t]
  rw [this, padded, dif_neg (by dsimp only; omega), dif_pos (by dsimp only; omega)]
  congr 3; dsimp only; omega

theorem blk_w10 (c : Dev nD) (t : Fin cfg0.N) (k : Fin 1024) (j : Fin 2560) :
    X0_10 m c t (ix2 k j) = argW m c (ix2 k ⟨2592 + j.val, by omega⟩) := by
  have : X0_10 m c t (ix2 k j) = (V m c main_v19 : FVec Ideal S1024x5248 .bf16) (ix2 k ⟨2560 + j.val, by omega⟩) := by
    unfold X0_10; unfold Pipeline.Window.fill; rw [dif_pos (moved0_10 t _)]; blk_ext [iblk, idx t]
  rw [this, padded, dif_neg (by dsimp only; omega), dif_pos (by dsimp only; omega)]
  congr 3; dsimp only; omega

set_option maxRecDepth 65536 in
theorem blk_w11 (c : Dev nD) (t : Fin cfg0.N) (k : Fin 1024) (j : Fin 128) :
    (iblk m c 11 t : FVec Ideal S1024x128 .bf16) (ix2 k j)
      = if h : j.val < 32 then argW m c (ix2 k ⟨1024 + j.val, by omega⟩) else 0 := by
  have : (iblk m c 11 t : FVec Ideal S1024x128 .bf16) (ix2 k j) = (V m c main_v19 : FVec Ideal S1024x5248 .bf16) (ix2 k ⟨5120 + j.val, by omega⟩) := by
    blk_ext [iblk, idx t]
  rw [this, padded, dif_neg (by dsimp only; omega), dif_neg (by dsimp only; omega)]
  by_cases h : j.val < 32
  · rw [dif_pos (by dsimp only; omega), dif_pos h]; congr 3; dsimp only; omega
  · rw [dif_neg (by dsimp only; omega), dif_neg h]

end Cert.InBwdIdeal.Value
-- ==== Proof.Common.Real.lean ====
/- Extended reals that are real numbers: finite arrays as arrays of reals, sums, quotients and roots of real numbers
   read among the extended reals, and the real numbers that the printed float constants are. -/
module

public import Idealize.ShloMosaic.Lib.Pointwise
public import Idealize.ShloMosaic.Lib.IdealHost

@[expose] public section

noncomputable section

namespace Cert.Common

open Idealize.ShloMosaic
open scoped BigOperators

/-- A sum of real numbers, read among the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers by one that is not zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal root of a positive real number. -/
theorem rsqrt_real {a : ℝ} (ha : 0 < a) : Ideal.rsqrt (a : EReal) = (((Real.sqrt a)⁻¹ : ℝ) : EReal) := by
  rw [Ideal.rsqrt_coe, if_neg (not_lt.mpr ha.le), if_neg ha.ne']

/-- An extended real whose absolute value is below `+∞` is a real number. -/
theorem real_of_abs_lt {x : EReal} (h : max x (-x) < ⊤) : ((x.toReal : ℝ) : EReal) = x := by
  refine EReal.coe_toReal ?_ ?_
  · rintro rfl; simp at h
  · rintro rfl; simp at h

/-- The float word of `+∞`. -/
theorem ofBits_inf : Ideal.ofBits .f32 0x7F800000#32 = ⊤ := by simp [Ideal.ofBits, Ideal.ieee]

/-- The float word of zero. -/
theorem ofBits_0 : Ideal.ofBits .f32 0x00000000#32 = ((0 : ℝ) : EReal) := by simp [Ideal.ofBits, Ideal.ieee]

/-- The float word of one. -/
theorem ofBits_1 : Ideal.ofBits .f32 0x3F800000#32 = ((1 : ℝ) : EReal) := by
  simp [Ideal.ofBits, Ideal.ieee, -EReal.coe_mul]; norm_num

/-- The float word of 1024. -/
theorem ofBits_1024 : Ideal.ofBits .f32 0x44800000#32 = ((1024 : ℝ) : EReal) := by
  simp [Ideal.ofBits, Ideal.ieee, -EReal.coe_mul]; norm_num

/-- The float word of minus one half. -/
theorem ofBits_neg_half : Ideal.ofBits .f32 0xBF000000#32 = ((-(1 / 2) : ℝ) : EReal) := by
  simp [Ideal.ofBits, Ideal.ieee, -EReal.coe_mul, -EReal.coe_neg]; norm_num

/-- The small positive number that the norms add under the root: the float nearest to 10⁻⁶. -/
def eps : ℝ := 8796093 * (2 : ℝ) ^ (-43 : ℤ)

theorem eps_pos : 0 < eps := by unfold eps; positivity

/-- The float word of `eps`. -/
theorem ofBits_eps : Ideal.ofBits .f32 0x358637BD#32 = ((eps : ℝ) : EReal) := by
  unfold eps
  simp [Ideal.ofBits, Ideal.ieee, -EReal.coe_mul]

/-- The test of a finiteness precondition, read at one element: where it says yes the element is a real number. -/
theorem real_of_test {s : Shape} (x : FVec Ideal s .f32) (b : FVec Ideal s .f32) (i : s.Idx) (hb : b i = ⊤)
    (h : cmpf .olt (Host.absf x) b i = 1#1) : (((x i).toReal : ℝ) : EReal) = x i := by
  refine real_of_abs_lt ?_
  have h' : Ideal.cmp .olt (max (x i) (-(x i))) (b i) = 1#1 := h
  rw [hb] at h'
  by_contra hc
  simp [Ideal.cmp, hc] at h'

end Cert.Common

end
-- ==== Proof.InBwd.Formula.lean ====
module

public import proofs.«01_k».proof.Proof.Common.Real
public import Idealize.ShloMosaic.Lib.Pointwise

/-! The gradient of the normed, scaled and shifted input, over the real numbers, and the two ways to write its first
    result: through the root's derivative, and through the normed input. -/

@[expose] public section

noncomputable section

namespace Cert.InBwd

open Cert.Common

variable (x : Fin 8192 → Fin 1024 → ℝ) (g s : Fin 1024 → ℝ) (w : Fin 1024 → Fin 5152 → ℝ) (p : Fin 8192 → Fin 5152 → ℝ)

/-- The mean square of a row, and the small number. -/
def ms (i : Fin 8192) : ℝ := (∑ l, x i l * x i l) / 1024 + eps

/-- The reciprocal root mean square. -/
def rs (i : Fin 8192) : ℝ := (Real.sqrt (ms x i))⁻¹

/-- The normed input. -/
def xn (i : Fin 8192) (k : Fin 1024) : ℝ := x i k * rs x i

/-- The cotangent of the projection's operand. -/
def dh (i : Fin 8192) (k : Fin 1024) : ℝ := ∑ j, p i j * w k j

/-- The norm's part of the gradient of `x`. -/
def gx (i : Fin 8192) (k : Fin 1024) : ℝ :=
  rs x i * (dh w p i k * (g k * (1 + s k)) - xn x i k * ((∑ l, dh w p i l * (g l * (1 + s l)) * xn x i l) / 1024))

/-- The gradient of the shift, of the scale and of the norm's gain. -/
def dsh (k : Fin 1024) : ℝ := ∑ i, dh w p i k
def dsc (k : Fin 1024) : ℝ := ∑ i, dh w p i k * xn x i k * g k
def dg (k : Fin 1024) : ℝ := ∑ i, dh w p i k * xn x i k * (1 + s k)

theorem ms_pos (i : Fin 8192) : 0 < ms x i := by
  have h : 0 ≤ ∑ l, x i l * x i l := Finset.sum_nonneg fun l _ => mul_self_nonneg _
  have := eps_pos
  unfold ms; positivity

/-- A sum over the projection's columns, group by group, in the order of the padded weight. -/
theorem sum_groups (f : Fin 5152 → ℝ) :
    ∑ j, f j = ∑ j : Fin 1024, f ⟨j.val, by omega⟩ + ∑ j : Fin 1024, f ⟨1056 + j.val, by omega⟩
      + ∑ j : Fin 512, f ⟨2080 + j.val, by omega⟩ + ∑ j : Fin 2560, f ⟨2592 + j.val, by omega⟩
      + ∑ j : Fin 128, (if h : j.val < 32 then f ⟨1024 + j.val, by omega⟩ else 0) := by
  let F : ℕ → ℝ := fun n => if h : n < 5152 then f ⟨n, h⟩ else 0
  have hF : ∀ n (h : n < 5152), f ⟨n, h⟩ = F n := fun n h => by simp only [F, dif_pos h]
  simp only [hF, dite_eq_ite]
  rw [Fin.sum_univ_eq_sum_range F 5152, Fin.sum_univ_eq_sum_range F 1024,
    Fin.sum_univ_eq_sum_range (fun n => F (1056 + n)) 1024, Fin.sum_univ_eq_sum_range (fun n => F (2080 + n)) 512,
    Fin.sum_univ_eq_sum_range (fun n => F (2592 + n)) 2560,
    Fin.sum_univ_eq_sum_range (fun n => if n < 32 then F (1024 + n) else 0) 128]
  rw [show (5152 : ℕ) = 1024 + 32 + 1024 + 512 + 2560 from rfl, Finset.sum_range_add, Finset.sum_range_add,
    Finset.sum_range_add, Finset.sum_range_add, show (128 : ℕ) = 32 + 96 from rfl, Finset.sum_range_add]
  rw [Finset.sum_congr rfl (fun n hn => if_pos (Finset.mem_range.mp hn) :
      ∀ n ∈ Finset.range 32, (if n < 32 then F (1024 + n) else 0) = F (1024 + n)),
    Finset.sum_eq_zero (fun n _ => if_neg (by omega) : ∀ n ∈ Finset.range 96, (if 32 + n < 32 then F (1024 + (32 + n)) else 0) = 0)]
  norm_num
  ring

/-- The gradient of `x` as the derivative of the product with the root: the root's own derivative is
    `−½ · r / ms`, and `x²` has the derivative `2x`. -/
theorem gx_eq (i : Fin 8192) (k : Fin 1024) :
    gx x g s w p i k = dh w p i k * (1 + s k) * g k * rs x i
      + (x i k * ((∑ l, x i l * (dh w p i l * (1 + s l) * g l)) * (-(1 / 2) * (rs x i / ms x i)) / 1024)
        + (∑ l, x i l * (dh w p i l * (1 + s l) * g l)) * (-(1 / 2) * (rs x i / ms x i)) / 1024 * x i k) := by
  have hm := ms_pos x i
  have hr : rs x i * rs x i = (ms x i)⁻¹ := by
    unfold rs; rw [← mul_inv, Real.mul_self_sqrt hm.le]
  have hs : ∑ l, dh w p i l * (g l * (1 + s l)) * xn x i l
      = rs x i * ∑ l, x i l * (dh w p i l * (1 + s l) * g l) := by
    rw [Finset.mul_sum]; refine Finset.sum_congr rfl fun l _ => ?_; unfold xn; ring
  unfold gx
  rw [hs, div_eq_mul_inv (rs x i) (ms x i), ← hr]
  unfold xn
  ring

end Cert.InBwd

end
-- ==== Proof.InBwd.Points.lean ====
module

public import proofs.«01_k».proof.Proof.InBwd.Blocks
public import proofs.«01_k».proof.Proof.InBwd.Formula
public import Idealize.ShloMosaic.Lib.Pipeline.ValueKit
public import Idealize.ShloMosaic.Lib.Claim
public import Idealize.ShloMosaic.Lib.Pointwise

/-! What the fused input gradient's four result arrays hold where the arguments are real. -/

@[expose] public section

set_option maxRecDepth 16384

noncomputable section

namespace Cert.InBwdIdeal.Value

open Idealize.ShloMosaic Idealize.ShloMosaic.TcCoe Idealize.SL.Sem
open Idealize.ShloMosaic.Pipeline (Dat)
open Cert.InBwdIdeal Cert.InBwdIdeal.Gen Cert.InBwd Cert.Common

variable (m : (ℓ : Loc nD τ sig) → Buf (Elt Ideal) ℓ)

/-- The arguments of which the gradients are claimed to be real, as real arrays. -/
structure Reals (c : Dev nD) (x : Fin 8192 → Fin 1024 → ℝ) (g s : Fin 1024 → ℝ) (w : Fin 1024 → Fin 5152 → ℝ)
    (p : Fin 8192 → Fin 5152 → ℝ) : Prop where
  hx : ∀ i k, argX m c (ix2 i k) = (x i k : EReal)
  hg : ∀ k, argG m c (ix2 0 k) = (g k : EReal)
  hs : ∀ k, argS m c (ix2 0 k) = (s k : EReal)
  hw : ∀ k j, argW m c (ix2 k j) = (w k j : EReal)
  hp : ∀ i j, argP m c (ix2 i j) = (p i j : EReal)

variable {m} {c : Dev nD} {x : Fin 8192 → Fin 1024 → ℝ} {g s : Fin 1024 → ℝ} {w : Fin 1024 → Fin 5152 → ℝ}
  {p : Fin 8192 → Fin 5152 → ℝ}

/-- A column group's product of real rows. -/
theorem dot_real {n : ℕ} {A B : Fin n → EReal} {a b : Fin n → ℝ} (hA : ∀ j, A j = (a j : EReal)) (hB : ∀ j, B j = (b j : EReal)) :
    ∑ j, A j * B j = ((∑ j, a j * b j : ℝ) : EReal) := by
  rw [coe_sum]; exact Finset.sum_congr rfl fun j _ => by rw [hA, hB, EReal.coe_mul]

/-- The projection's cotangent at a point: the five products make the one. -/
theorem pt_dh (R : Reals m c x g s w p) (t : Fin cfg0.N) (a : Fin 512) (k : Fin 1024) :
    k0_pay7 (F := Ideal) (k0_pay5 (iblk m c 2 t) (X0_7 m c t) (iblk m c 3 t) (X0_8 m c t) (iblk m c 4 t) (X0_9 m c t) (iblk m c 5 t) (X0_10 m c t))
      (k0_pay6 (iblk m c 6 t) (iblk m c 11 t)) (ix2 a k) = (dh w p (row t a) k : EReal) := by
  have e (a0 a1 a2 a3 a4 a5 a6 a7 a8 a9) : k0_pay7 (F := Ideal) (k0_pay5 a0 a1 a2 a3 a4 a5 a6 a7) (k0_pay6 a8 a9) (ix2 a k)
      = ∑ j, a0 (ix2 a j) * a1 (ix2 k j) + ∑ j, a2 (ix2 a j) * a3 (ix2 k j) + ∑ j, a4 (ix2 a j) * a5 (ix2 k j)
        + ∑ j, a6 (ix2 a j) * a7 (ix2 k j) + ∑ j, a8 (ix2 a j) * a9 (ix2 k j) := by
    pointwise [k0_pay7, k0_pay5, k0_pay6]
  rw [e]
  rw [dot_real (fun j => (blk_qkv m c t a j).trans (R.hp _ _)) (fun j => (blk_w7 m c t k j).trans (R.hw _ _)),
    dot_real (fun j => (blk_zbua m c t a j).trans (R.hp _ _)) (fun j => (blk_w8 m c t k j).trans (R.hw _ _)),
    dot_real (fun j => (blk_va m c t a j).trans (R.hp _ _)) (fun j => (blk_w9 m c t k j).trans (R.hw _ _)),
    dot_real (fun j => (blk_zag m c t a j).trans (R.hp _ _)) (fun j => (blk_w10 m c t k j).trans (R.hw _ _)),
    dot_real (a := fun j : Fin 128 => if h : j.val < 32 then p (row t a) ⟨1024 + j.val, by omega⟩ else 0)
      (b := fun j : Fin 128 => if h : j.val < 32 then w k ⟨1024 + j.val, by omega⟩ else 0)
      (fun j => (blk_lr m c t a j).trans (by split_ifs with h <;> simp [R.hp]))
      (fun j => (blk_w11 m c t k j).trans (by split_ifs with h <;> simp [R.hw]))]
  rw [← EReal.coe_add, ← EReal.coe_add, ← EReal.coe_add, ← EReal.coe_add]
  unfold dh
  rw [sum_groups]
  congr 2
  refine Finset.sum_congr rfl fun j _ => ?_
  by_cases h : j.val < 32
  · simp only [dif_pos h]
  · simp only [dif_neg h, mul_zero]

/-- The reciprocal root mean square of a block's row. -/
theorem pt_rs (R : Reals m c x g s w p) (t : Fin cfg0.N) (a : Fin 512) :
    k0_pay8 (F := Ideal) (iblk m c 0 t) (ix2 a 0) = (rs x (row t a) : EReal) := by
  have e (a0) : k0_pay8 (F := Ideal) a0 (ix2 a 0) = Ideal.rsqrt (Ideal.div (∑ l, a0 (ix2 a l) * a0 (ix2 a l))
      (Ideal.ofBits .f32 0x44800000#32) + Ideal.ofBits .f32 0x358637BD#32) := by pointwise [k0_pay8]
  rw [e, dot_real (fun l => (blk_x m c t a l).trans (R.hx _ _)) (fun l => (blk_x m c t a l).trans (R.hx _ _)),
    ofBits_1024, ofBits_eps, div_real _ (by norm_num), ← EReal.coe_add]
  exact rsqrt_real (ms_pos x (row t a))

/-- The normed input at a point. -/
theorem pt_xn (R : Reals m c x g s w p) (t : Fin cfg0.N) (a : Fin 512) (k : Fin 1024) :
    k0_pay9 (F := Ideal) (iblk m c 0 t) (ix2 a k) = (xn x (row t a) k : EReal) := by
  have e (a0) : k0_pay9 (F := Ideal) a0 (ix2 a k) = a0 (ix2 a k) * k0_pay8 a0 (ix2 a 0) := by pointwise [k0_pay9]
  rw [e, pt_rs R t a, blk_x, R.hx, ← EReal.coe_mul]; rfl

/-- What a point writes of the gradient of `x`. -/
theorem pt_gx (R : Reals m c x g s w p) (t : Fin cfg0.N) (a : Fin 512) (k : Fin 1024) :
    (outsAt0 m c t.val t.isLt).1 (ix2 a k) = argCX m c (ix2 (row t a) k) + (gx x g s w p (row t a) k : EReal) := by
  have e (a0 a1 a2 a3 a4 a5) : k0_pay1 (F := Ideal) a0 a1 a2 a3 a4 a5 (ix2 a k)
      = a5 (ix2 a k) + a1 (ix2 a 0) * (a0 (ix2 a k) * (a3 (ix2 0 k) * (1 + a4 (ix2 0 k))) - a2 (ix2 a k) *
          Ideal.div (∑ l, a0 (ix2 a l) * (a3 (ix2 0 l) * (1 + a4 (ix2 0 l))) * a2 (ix2 a l)) (Ideal.ofBits .f32 0x44800000#32)) := by
    pointwise [k0_pay1]
  have h : (outsAt0 m c t.val t.isLt).1 (ix2 a k) = k0_pay1 (F := Ideal) (k0_pay7 (k0_pay5 (iblk m c 2 t) (X0_7 m c t) (iblk m c 3 t) (X0_8 m c t) (iblk m c 4 t) (X0_9 m c t) (iblk m c 5 t) (X0_10 m c t))
      (k0_pay6 (iblk m c 6 t) (iblk m c 11 t))) (k0_pay8 (iblk m c 0 t)) (k0_pay9 (iblk m c 0 t)) (iblk m c 12 t) (iblk m c 13 t) (iblk m c 1 t) (ix2 a k) := by
    by_cases h : t.val % 16 = 0
    · rw [outsAt0_A m c t h]; frame_out
    · rw [outsAt0_B m c t h]; frame_out
  rw [h, e, blk_cx]
  simp only [pt_dh R, pt_rs R, pt_xn R, blk_g, blk_s, R.hg, R.hs, ofBits_1024]
  simp only [← EReal.coe_one, ← EReal.coe_add, ← EReal.coe_mul, ← coe_sum]
  rw [div_real _ (by norm_num)]
  simp only [← EReal.coe_sub, ← EReal.coe_mul]
  rfl

/-- The point whose write-back is an accumulator's last. -/
theorem last_val : t0_15.val + 1 = cfg0.N := by rw [show cfg0.N = 16 from N_0]; rfl

/-- The sum over the points' rows is the sum over the array's rows. -/
theorem sum_rows (f : Fin 8192 → ℝ) : ∑ t : Fin cfg0.N, (((∑ a, f (row t a) : ℝ)) : EReal) = ((∑ i, f i : ℝ) : EReal) := by
  rw [← coe_sum]
  refine congrArg _ (Fin.sum_mul_add_congr (fun t a h => congrArg f (Fin.ext ?_)) (by rw [show cfg0.N = 16 from N_0]))
  show 512 * t.val + a.val = t.val * 512 + a.val
  rw [mul_comm]

end Cert.InBwdIdeal.Value
-- ==== Proof.InBwd.Arrays.lean ====
module

public import proofs.«01_k».proof.Proof.InBwd.Points
public import Idealize.ShloMosaic.Lib.Pipeline.ValueKit
public import Idealize.ShloMosaic.Lib.Claim
public import Idealize.ShloMosaic.Lib.Pointwise

/-! The four result arrays of the fused input gradient after the run. -/

@[expose] public section

set_option maxRecDepth 16384

noncomputable section

namespace Cert.InBwdIdeal.Value

open Idealize.ShloMosaic Idealize.ShloMosaic.TcCoe Idealize.SL.Sem
open Idealize.ShloMosaic.Pipeline (Dat)
open Cert.InBwdIdeal Cert.InBwdIdeal.Gen Cert.InBwd Cert.Common

variable (m : (ℓ : Loc nD τ sig) → Buf (Elt Ideal) ℓ)

variable {m} {c : Dev nD} {x : Fin 8192 → Fin 1024 → ℝ} {g s : Fin 1024 → ℝ} {w : Fin 1024 → Fin 5152 → ℝ}
  {p : Fin 8192 → Fin 5152 → ℝ}

/-- The first result: the incoming cotangent and the norm's part. -/
theorem final_gx (R : Reals m c x g s w p) :
    (dats m 0 c).arrAt 14 cfg0.N
      = ((fun y : S8192x1024.Idx => argCX m c y + (gx x g s w p (y 0) (y 1) : EReal)) : S8192x1024.Idx → EReal) := by
  refine (dats m 0 c).arrAt_eq_of_covers 14 _ (by decide +kernel) fun t hf y => ?_
  obtain ⟨a, k, rfl⟩ : ∃ (a : Fin 512) (k : Fin 1024), y = ix2 a k := ⟨y 0, y 1, eq_ix2 (n0 := 512) (n1 := 1024) y⟩
  blk_simp
  rw [after0_14, pt_gx R t a k]
  have e : ((win0_14.blk t).view.emb (ix2 a k) : S8192x1024.Idx) = ix2 (row t a) k := by unfold row; blk_ext [idx t]
  rw [e]; rfl

/-- An accumulator whose points add real sums over their rows, from zero, ends as the sum over all rows. -/
theorem acc_last (f : (n : ℕ) → n < cfg0.N → S1x1024.Idx → EReal) (F : Fin 1024 → Fin 8192 → ℝ)
    (h0 : ∀ t : Fin cfg0.N, t.val % 16 = 0 → ∀ k, f t.val t.isLt (ix2 0 k) = 0 + ((∑ a, F k (row t a) : ℝ) : EReal))
    (hs : ∀ t : Fin cfg0.N, ¬t.val % 16 = 0 → ∀ k, f t.val t.isLt (ix2 0 k)
      = f (t.val - 1) (Nat.lt_of_le_of_lt (Nat.sub_le _ _) t.isLt) (ix2 0 k) + ((∑ a, F k (row t a) : ℝ) : EReal)) (k : Fin 1024) :
    f t0_15.val t0_15.isLt (ix2 0 k) = ((∑ i, F k i : ℝ) : EReal) := by
  have := Pipeline.eq_sum_fin_of_reset_step_apply_last (fun n h k => f n h (ix2 0 k)) 16 (fun _ => 0)
    (fun t k => ((∑ a, F k (row t a) : ℝ) : EReal)) h0 hs (le_of_eq N_0) t0_15 last_val k
  rw [this, zero_add, sum_rows (F k)]

/-- A point's sum of real rows. -/
theorem sum_coe {n : ℕ} {A : Fin n → EReal} {a : Fin n → ℝ} (h : ∀ j, A j = (a j : EReal)) : ∑ j, A j = ((∑ j, a j : ℝ) : EReal) := by
  rw [coe_sum]; exact Finset.sum_congr rfl fun j _ => h j

theorem pay_dsh (A B acc) (k : Fin 1024) :
    k0_pay11 (F := Ideal) A B acc (ix2 0 k) = acc (ix2 0 k) + ∑ a : Fin 512, k0_pay7 A B (ix2 a k) := by
  pointwise [k0_pay11]

theorem pay_dsc (A B X acc G) (k : Fin 1024) :
    k0_pay12 (F := Ideal) A B X acc G (ix2 0 k)
      = acc (ix2 0 k) + (∑ a : Fin 512, k0_pay7 A B (ix2 a k) * k0_pay9 X (ix2 a k)) * G (ix2 0 k) := by
  pointwise [k0_pay12, k0_pay10]

theorem pay_dg (A B X acc S) (k : Fin 1024) :
    k0_pay13 (F := Ideal) A B X acc S (ix2 0 k)
      = acc (ix2 0 k) + (∑ a : Fin 512, k0_pay7 A B (ix2 a k) * k0_pay9 X (ix2 a k)) * (1 + S (ix2 0 k)) := by
  pointwise [k0_pay13, k0_pay10]

theorem zero_fill2 (y : S1x1024.Idx) : k0_pay2 (F := Ideal) y = 0 := by pointwise [k0_pay2]
theorem zero_fill3 (y : S1x1024.Idx) : k0_pay3 (F := Ideal) y = 0 := by pointwise [k0_pay3]
theorem zero_fill4 (y : S1x1024.Idx) : k0_pay4 (F := Ideal) y = 0 := by pointwise [k0_pay4]

/-- A point's share of the shift's, the scale's and the gain's gradient. -/
theorem part_dsh (R : Reals m c x g s w p) (t : Fin cfg0.N) (acc) (k : Fin 1024) :
    k0_pay11 (F := Ideal) (k0_pay5 (iblk m c 2 t) (X0_7 m c t) (iblk m c 3 t) (X0_8 m c t) (iblk m c 4 t) (X0_9 m c t) (iblk m c 5 t) (X0_10 m c t))
      (k0_pay6 (iblk m c 6 t) (iblk m c 11 t)) acc (ix2 0 k) = acc (ix2 0 k) + ((∑ a, dh w p (row t a) k : ℝ) : EReal) := by
  rw [pay_dsh, sum_coe fun a => pt_dh R t a k]

theorem part_dsc (R : Reals m c x g s w p) (t : Fin cfg0.N) (acc) (k : Fin 1024) :
    k0_pay12 (F := Ideal) (k0_pay5 (iblk m c 2 t) (X0_7 m c t) (iblk m c 3 t) (X0_8 m c t) (iblk m c 4 t) (X0_9 m c t) (iblk m c 5 t) (X0_10 m c t))
      (k0_pay6 (iblk m c 6 t) (iblk m c 11 t)) (iblk m c 0 t) acc (iblk m c 12 t) (ix2 0 k)
      = acc (ix2 0 k) + ((∑ a, dh w p (row t a) k * xn x (row t a) k * g k : ℝ) : EReal) := by
  rw [pay_dsc, dot_real (fun a => pt_dh R t a k) (fun a => pt_xn R t a k), blk_g, R.hg, ← EReal.coe_mul, Finset.sum_mul]

theorem part_dg (R : Reals m c x g s w p) (t : Fin cfg0.N) (acc) (k : Fin 1024) :
    k0_pay13 (F := Ideal) (k0_pay5 (iblk m c 2 t) (X0_7 m c t) (iblk m c 3 t) (X0_8 m c t) (iblk m c 4 t) (X0_9 m c t) (iblk m c 5 t) (X0_10 m c t))
      (k0_pay6 (iblk m c 6 t) (iblk m c 11 t)) (iblk m c 0 t) acc (iblk m c 13 t) (ix2 0 k)
      = acc (ix2 0 k) + ((∑ a, dh w p (row t a) k * xn x (row t a) k * (1 + s k) : ℝ) : EReal) := by
  rw [pay_dg, dot_real (fun a => pt_dh R t a k) (fun a => pt_xn R t a k), blk_s, R.hs, ← EReal.coe_one, ← EReal.coe_add,
    ← EReal.coe_mul, Finset.sum_mul]

/-- The second, third and fourth result. -/
theorem final_dsh (R : Reals m c x g s w p) :
    (dats m 0 c).arrAt 15 cfg0.N = ((fun y : S1x1024.Idx => (dsh w p (y 1) : EReal)) : S1x1024.Idx → EReal) := by
  refine (dats m 0 c).arrAt_eq_of_after_last 15 t0_15 (by decide +kernel) _ fun y => ?_
  obtain ⟨i, k, rfl⟩ : ∃ (i : Fin 1) (k : Fin 1024), y = ix2 i k := ⟨y 0, y 1, eq_ix2 (n0 := 1) (n1 := 1024) y⟩
  obtain rfl : i = 0 := Subsingleton.elim _ _
  blk_simp
  rw [after0_15]
  exact acc_last (fun n h => (outsAt0 m c n h).2.1) (fun k i => dh w p i k)
    (fun t h k => by rw [outsAt0_A m c t h]; frame_out; rw [part_dsh R, zero_fill2])
    (fun t h k => by rw [outsAt0_B m c t h]; frame_out; rw [part_dsh R]) k

theorem final_dsc (R : Reals m c x g s w p) :
    (dats m 0 c).arrAt 16 cfg0.N = ((fun y : S1x1024.Idx => (dsc x g w p (y 1) : EReal)) : S1x1024.Idx → EReal) := by
  refine (dats m 0 c).arrAt_eq_of_after_last 16 t0_15 (by decide +kernel) _ fun y => ?_
  obtain ⟨i, k, rfl⟩ : ∃ (i : Fin 1) (k : Fin 1024), y = ix2 i k := ⟨y 0, y 1, eq_ix2 (n0 := 1) (n1 := 1024) y⟩
  obtain rfl : i = 0 := Subsingleton.elim _ _
  blk_simp
  rw [after0_16]
  exact acc_last (fun n h => (outsAt0 m c n h).2.2.1) (fun k i => dh w p i k * xn x i k * g k)
    (fun t h k => by rw [outsAt0_A m c t h]; frame_out; rw [part_dsc R, zero_fill3])
    (fun t h k => by rw [outsAt0_B m c t h]; frame_out; rw [part_dsc R]) k

theorem final_dg (R : Reals m c x g s w p) :
    (dats m 0 c).arrAt 17 cfg0.N = ((fun y : S1x1024.Idx => (dg x s w p (y 1) : EReal)) : S1x1024.Idx → EReal) := by
  refine (dats m 0 c).arrAt_eq_of_after_last 17 t0_15 (by decide +kernel) _ fun y => ?_
  obtain ⟨i, k, rfl⟩ : ∃ (i : Fin 1) (k : Fin 1024), y = ix2 i k := ⟨y 0, y 1, eq_ix2 (n0 := 1) (n1 := 1024) y⟩
  obtain rfl : i = 0 := Subsingleton.elim _ _
  blk_simp
  rw [after0_17]
  exact acc_last (fun n h => (outsAt0 m c n h).2.2.2) (fun k i => dh w p i k * xn x i k * (1 + s k))
    (fun t h k => by rw [outsAt0_A m c t h]; frame_out; rw [part_dg R, zero_fill4])
    (fun t h k => by rw [outsAt0_B m c t h]; frame_out; rw [part_dg R]) k

end Cert.InBwdIdeal.Value
-- ==== Proof.InBwd.Ref.lean ====
module

public import proofs.«01_k».proof.Proof.Gen.InRefIdeal.Read
public import proofs.«01_k».proof.Proof.InBwd.Formula

/-! The reference's four results where its arguments are real. -/

@[expose] public section

set_option maxRecDepth 16384

noncomputable section

namespace Cert.InRefIdeal.Read

open Idealize.ShloMosaic Idealize.ShloMosaic.TcCoe Idealize.SL.Sem
open Cert.InRefIdeal Cert.InRefIdeal.Gen Cert.InBwd Cert.Common

variable {x0 : FVec Ideal S8192x1024 .f32} {x1 x2 : FVec Ideal S1x1024 .f32} {x4 : FVec Ideal S1024x5152 .f32}
  {x5 : FVec Ideal S8192x1024 .f32} {x6 : FVec Ideal S8192x5152 .f32}
  {x : Fin 8192 → Fin 1024 → ℝ} {g s : Fin 1024 → ℝ} {w : Fin 1024 → Fin 5152 → ℝ} {p : Fin 8192 → Fin 5152 → ℝ}

theorem r6 (hx : ∀ i k, x0 (ix2 i k) = (x i k : EReal)) (i : Fin 8192) : val_main_v6 (F := Ideal) x0 (ix2 i 0) = (ms x i : EReal) := by
  have e : val_main_v6 (F := Ideal) x0 (ix2 i 0) = Ideal.div (∑ l, x0 (ix2 i l) * x0 (ix2 i l)) (Ideal.ofBits .f32 0x44800000#32)
      + Ideal.ofBits .f32 0x358637BD#32 := by
    pointwise [val_main_v6, val_main_v5, val_main_v4, val_main_v3, val_main_v2, val_main_v1, val_main_v0, val_main_cst, val_main_cst_0, val_main_cst_1]
  rw [e]
  simp only [hx, ← EReal.coe_mul, ← coe_sum, ofBits_1024, ofBits_eps]
  rw [div_real _ (by norm_num), ← EReal.coe_add]; rfl

theorem r7 (hx : ∀ i k, x0 (ix2 i k) = (x i k : EReal)) (i : Fin 8192) : val_main_v7 (F := Ideal) x0 (ix2 i 0) = (rs x i : EReal) := by
  have e : val_main_v7 (F := Ideal) x0 (ix2 i 0) = Ideal.rsqrt (val_main_v6 (F := Ideal) x0 (ix2 i 0)) := by pointwise [val_main_v7]
  rw [e, r6 hx, rsqrt_real (ms_pos x i)]; rfl

theorem r10 (hx : ∀ i k, x0 (ix2 i k) = (x i k : EReal)) (i : Fin 8192) :
    val_main_v10 (F := Ideal) x0 (ix2 i 0) = ((-(1 / 2) * (rs x i / ms x i) : ℝ) : EReal) := by
  have e : val_main_v10 (F := Ideal) x0 (ix2 i 0)
      = Ideal.ofBits .f32 0xBF000000#32 * Ideal.div (val_main_v7 (F := Ideal) x0 (ix2 i 0)) (val_main_v6 (F := Ideal) x0 (ix2 i 0)) := by
    pointwise [val_main_v10, val_main_v9, val_main_v8, val_main_cst_2]
  rw [e, r6 hx, r7 hx, div_real _ (ms_pos x i).ne', ofBits_neg_half, ← EReal.coe_mul]

theorem r22 (hw : ∀ k j, x4 (ix2 k j) = (w k j : EReal)) (hp : ∀ i j, x6 (ix2 i j) = (p i j : EReal)) (i : Fin 8192) (k : Fin 1024) :
    val_main_v22 (F := Ideal) x4 x6 (ix2 i k) = (dh w p i k : EReal) := by
  have e : val_main_v22 (F := Ideal) x4 x6 (ix2 i k) = ∑ j, x6 (ix2 i j) * x4 (ix2 k j) := by pointwise [val_main_v22]
  rw [e]; simp only [hw, hp, ← EReal.coe_mul, ← coe_sum]; rfl

theorem r12 (hx : ∀ i k, x0 (ix2 i k) = (x i k : EReal)) (i : Fin 8192) (k : Fin 1024) :
    val_main_v12 (F := Ideal) x0 (ix2 i k) = (xn x i k : EReal) := by
  have e : val_main_v12 (F := Ideal) x0 (ix2 i k) = x0 (ix2 i k) * val_main_v7 (F := Ideal) x0 (ix2 i 0) := by pointwise [val_main_v12, val_main_v11]
  rw [e, hx, r7 hx, ← EReal.coe_mul]; rfl

/-- The shift's gradient. -/
theorem ref_dsh (hw : ∀ k j, x4 (ix2 k j) = (w k j : EReal)) (hp : ∀ i j, x6 (ix2 i j) = (p i j : EReal)) (k : Fin 1024) :
    val_main_v24 (F := Ideal) x4 x6 (ix2 0 k) = (dsh w p k : EReal) := by
  have e : val_main_v24 (F := Ideal) x4 x6 (ix2 0 k) = ∑ i, val_main_v22 (F := Ideal) x4 x6 (ix2 i k) := by
    pointwise [val_main_v24, val_main_v23, val_main_cst_4]
  rw [e]; simp only [r22 hw hp, ← coe_sum]; rfl

/-- The scale's gradient. -/
theorem ref_dsc (hx : ∀ i k, x0 (ix2 i k) = (x i k : EReal)) (hg : ∀ k, x1 (ix2 0 k) = (g k : EReal))
    (hw : ∀ k j, x4 (ix2 k j) = (w k j : EReal)) (hp : ∀ i j, x6 (ix2 i j) = (p i j : EReal)) (k : Fin 1024) :
    val_main_v27 (F := Ideal) x0 x1 x4 x6 (ix2 0 k) = (dsc x g w p k : EReal) := by
  have e : val_main_v27 (F := Ideal) x0 x1 x4 x6 (ix2 0 k)
      = ∑ i, val_main_v12 (F := Ideal) x0 (ix2 i k) * x1 (ix2 0 k) * val_main_v22 (F := Ideal) x4 x6 (ix2 i k) := by
    pointwise [val_main_v27, val_main_v26, val_main_v25, val_main_v14, val_main_v13, val_main_cst_5]
  rw [e]; simp only [r22 hw hp, r12 hx, hg, ← EReal.coe_mul, ← coe_sum]
  exact congrArg _ (Finset.sum_congr rfl fun i _ => by ring)

/-- The norm's gain's gradient. -/
theorem ref_dg (hx : ∀ i k, x0 (ix2 i k) = (x i k : EReal)) (hs : ∀ k, x2 (ix2 0 k) = (s k : EReal))
    (hw : ∀ k j, x4 (ix2 k j) = (w k j : EReal)) (hp : ∀ i j, x6 (ix2 i j) = (p i j : EReal)) (k : Fin 1024) :
    val_main_v32 (F := Ideal) x0 x2 x4 x6 (ix2 0 k) = (dg x s w p k : EReal) := by
  have e : val_main_v32 (F := Ideal) x0 x2 x4 x6 (ix2 0 k)
      = ∑ i, (val_main_v12 (F := Ideal) x0 (ix2 i k) : EReal) * ((val_main_v22 (F := Ideal) x4 x6 (ix2 i k) : EReal) * ((1 : EReal) + x2 (ix2 0 k))) := by
    pointwise [val_main_v32, val_main_v31, val_main_v30, val_main_v29, val_main_v28, val_main_v16, val_main_v15, val_main_cst_3, val_main_cst_6]
  rw [e]; simp only [r22 hw hp, r12 hx, hs, ← EReal.coe_one, ← EReal.coe_add, ← EReal.coe_mul, ← coe_sum]
  unfold dg
  exact congrArg Real.toEReal (Finset.sum_congr rfl fun i _ => by ring)

/-- The gradient of `x`. -/
theorem ref_gx (hx : ∀ i k, x0 (ix2 i k) = (x i k : EReal)) (hg : ∀ k, x1 (ix2 0 k) = (g k : EReal)) (hs : ∀ k, x2 (ix2 0 k) = (s k : EReal))
    (hw : ∀ k j, x4 (ix2 k j) = (w k j : EReal)) (hp : ∀ i j, x6 (ix2 i j) = (p i j : EReal)) (i : Fin 8192) (k : Fin 1024) :
    val_main_v49 (F := Ideal) x0 x1 x2 x4 x5 x6 (ix2 i k) = x5 (ix2 i k) + (gx x g s w p i k : EReal) := by
  have e34 (k : Fin 1024) : val_main_v34 (F := Ideal) x1 x2 x4 x6 (ix2 i k)
      = ((dh w p i k * (1 + s k) * g k : ℝ) : EReal) := by
    have e : val_main_v34 (F := Ideal) x1 x2 x4 x6 (ix2 i k) = val_main_v22 (F := Ideal) x4 x6 (ix2 i k) * (1 + x2 (ix2 0 k)) * x1 (ix2 0 k) := by
      pointwise [val_main_v34, val_main_v33, val_main_v29, val_main_v28, val_main_v16, val_main_v15, val_main_cst_3]
    rw [e, r22 hw hp, hs, hg, ← EReal.coe_one, ← EReal.coe_add, ← EReal.coe_mul, ← EReal.coe_mul]
  have e45 : val_main_v45 (F := Ideal) x0 x1 x2 x4 x6 (ix2 i k) = (((∑ l, x i l * (dh w p i l * (1 + s l) * g l)) * (-(1 / 2) * (rs x i / ms x i)) / 1024 : ℝ) : EReal) := by
    have e : val_main_v45 (F := Ideal) x0 x1 x2 x4 x6 (ix2 i k)
        = Ideal.div ((∑ l, x0 (ix2 i l) * val_main_v34 (F := Ideal) x1 x2 x4 x6 (ix2 i l)) * val_main_v10 (F := Ideal) x0 (ix2 i 0)) (Ideal.ofBits .f32 0x44800000#32) := by
      pointwise [val_main_v45, val_main_v44, val_main_v43, val_main_v42, val_main_v41, val_main_v37, val_main_v36, val_main_v35, val_main_cst_7, val_main_cst_8, val_main_cst_9]
      rw [Fin.sum_univ_one]
    rw [e]; simp only [e34, hx, r10 hx, ← EReal.coe_mul, ← coe_sum, ofBits_1024]
    rw [div_real _ (by norm_num)]
  have e : val_main_v49 (F := Ideal) x0 x1 x2 x4 x5 x6 (ix2 i k)
      = x5 (ix2 i k) + val_main_v34 (F := Ideal) x1 x2 x4 x6 (ix2 i k) * val_main_v7 (F := Ideal) x0 (ix2 i 0)
        + x0 (ix2 i k) * val_main_v45 (F := Ideal) x0 x1 x2 x4 x6 (ix2 i k) + val_main_v45 (F := Ideal) x0 x1 x2 x4 x6 (ix2 i k) * x0 (ix2 i k) := by
    pointwise [val_main_v49, val_main_v48, val_main_v47, val_main_v46, val_main_v40, val_main_v39, val_main_v38]
  rw [e, e34, e45, hx, r7 hx, gx_eq]
  simp only [← EReal.coe_mul]
  rw [add_assoc, add_assoc, EReal.coe_add, EReal.coe_add]

end Cert.InRefIdeal.Read

end
-- ==== Proof.InBwd.Claim.lean ====
module

public import proofs.«01_k».proof.Defs
public import proofs.«01_k».proof.Proof.Gen.Pre_finite_in
public import proofs.«01_k».proof.Proof.InBwd.Arrays
public import proofs.«01_k».proof.Proof.InBwd.Ref

/-! The claim about the fused input gradient: under finite arguments its four results are the reference's. -/

@[expose] public section

set_option maxRecDepth 16384

noncomputable section

namespace Cert.InBwdClaim

open Idealize.ShloMosaic Idealize.ShloMosaic.TcCoe Idealize.SL.Sem Cert.Common Cert.InBwdIdeal.Value

/-- The precondition says that the arguments are real arrays. -/
theorem reals (m : (ℓ : Loc Cert.InBwdIdeal.nD Cert.InBwdIdeal.τ Cert.InBwdIdeal.sig) → Buf (Elt Ideal) ℓ)
    (h : Cert.Pre_InBwdIdeal_finite_in m) (c : Dev Cert.InBwdIdeal.nD) :
    Reals m c (fun i k => (argX m c (ix2 i k)).toReal) (fun k => (argG m c (ix2 0 k)).toReal) (fun k => (argS m c (ix2 0 k)).toReal)
      (fun k j => (argW m c (ix2 k j)).toReal) (fun i j => (argP m c (ix2 i j)).toReal) := by
  obtain ⟨h1, h2, h3, h4, h5⟩ := h c
  exact ⟨fun i k => (real_of_test _ _ _ ofBits_inf (congrFun h1 (ix2 i k))).symm,
    fun k => (real_of_test _ _ _ ofBits_inf (congrFun h2 (ix2 0 k))).symm,
    fun k => (real_of_test _ _ _ ofBits_inf (congrFun h3 (ix2 0 k))).symm,
    fun k j => (real_of_test _ _ _ ofBits_inf (congrFun h4 (ix2 k j))).symm,
    fun i j => (real_of_test _ _ _ ofBits_inf (congrFun h5 (ix2 i j))).symm⟩

open Cert.InRefIdeal Cert.InRefIdeal.Read in
/-- The reference's run, each result read operation by operation. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      let a0 := m ((c.tc : Thread nD τ).loc main_arg0); let a1 := m ((c.tc : Thread nD τ).loc main_arg1)
      let a2 := m ((c.tc : Thread nD τ).loc main_arg2); let a4 := m ((c.tc : Thread nD τ).loc main_arg4)
      let a5 := m ((c.tc : Thread nD τ).loc main_arg5); let a6 := m ((c.tc : Thread nD τ).loc main_arg6)
      r.2.mem ((c.tc : Thread nD τ).loc main_v49) = val_main_v49 a0 a1 a2 a4 a5 a6
      ∧ r.2.mem ((c.tc : Thread nD τ).loc main_v24) = val_main_v24 a4 a6
      ∧ r.2.mem ((c.tc : Thread nD τ).loc main_v27) = val_main_v27 a0 a1 a4 a6
      ∧ r.2.mem ((c.tc : Thread nD τ).loc main_v32) = val_main_v32 a0 a2 a4 a6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, h3, h4⟩ := h c
    exact ⟨h0.trans (val_main_v49_eq m c), h1, h2, h3, h4⟩) (Cert.InRefIdeal.Value.run m g)

/-- The reference leaves its arguments unchanged; it has no semaphores. -/
theorem frame_ref : Cert.quiescent_InRefIdeal := fun m g _ =>
  (θ_run Cert.InRefIdeal.defs _ _).mono (fun r h => ⟨fun c => (h c).2.2.2.2, sem_eq_zero_of_no_sems (by decide) r.2⟩) (run_ref m g)

/-- An array of rank two whose elements are known is the array of them. -/
theorem ext2 {a b : ℕ} {f h : (⟨2, ![a, b]⟩ : Shape).Idx → EReal} (e : ∀ i k, f (ix2 i k) = h (ix2 i k)) : f = h :=
  funext fun y => by rw [eq_ix2 y]; exact e _ _

theorem ext1 {b : ℕ} {f h : (⟨2, ![1, b]⟩ : Shape).Idx → EReal} (e : ∀ k, f (ix2 0 k) = h (ix2 0 k)) : f = h :=
  ext2 fun i k => by rw [Subsingleton.elim i 0]; exact e k

open Cert.InRefIdeal.Read in
theorem algebraic : Cert.algebraic_InBwdIdeal_InRefIdeal_pre_finite_in := by
  intro m g m' g' hpre hagree
  refine ⟨_, _, _, _, run_blocks m g, (θ_run _ _ _).mono (fun r h c => ?_) (run_ref m' g')⟩
  obtain ⟨h0, h1, h2, h3, h4⟩ := h c
  have R := reals m hpre c
  obtain ⟨e0, e1, e2, -, e4, e5, e6⟩ := hagree c
  rw [e0, e1, e2, e4, e5, e6] at h0
  rw [e4, e6] at h1
  rw [e0, e1, e4, e6] at h2
  rw [e0, e2, e4, e6] at h3
  refine ⟨h0.trans ?_, h1.trans ?_, h2.trans ?_, h3.trans ?_, h4⟩
  · exact (ext2 (a := 8192) (b := 1024) fun i k => ref_gx R.hx R.hg R.hs R.hw R.hp i k).trans (final_gx R).symm
  · exact (ext1 (b := 1024) fun k => ref_dsh R.hw R.hp k).trans (final_dsh R).symm
  · exact (ext1 (b := 1024) fun k => ref_dsc R.hx R.hg R.hw R.hp k).trans (final_dsc R).symm
  · exact (ext1 (b := 1024) fun k => ref_dg R.hx R.hs R.hw R.hp k).trans (final_dg R).symm

end Cert.InBwdClaim

end
-- ==== Proof.Mid.Run.lean ====
module

public import proofs.«01_k».proof.Proof.Gen.MidIdeal.Frame.Runs
public import Idealize.ShloMosaic.Lib.Pipeline.ValueKit
public import Idealize.ShloMosaic.Lib.VecWindow

/-! One grid point of the fused middle of the step: what its body leaves in every buffer, at the first point, at the points
    between and at the last point. -/

@[expose] public section

set_option maxRecDepth 16384

noncomputable section

namespace Cert.MidIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MidIdeal Cert.MidIdeal.Gen

variable {F : FTy → Type} [FloatOps F]

local notation "𝕄" => MT nD τ sig Unit (Elt F) ℕ (UR sig nD τ) ℕ

/-- The buffers a point works on: its sixteen inputs, its twelve outputs and the three accumulators it carries. -/
structure Bufs where
  x : Memref sig .tc .vmem S256x1024 .f32
  x_whole : x.IsWhole
  tgt : Memref sig .tc .vmem S256x1024 .f32
  tgt_whole : tgt.IsWhole
  zb : Memref sig .tc .vmem S256x512 .bf16
  zb_whole : zb.IsWhole
  ua : Memref sig .tc .vmem S256x512 .bf16
  ua_whole : ua.IsWhole
  za : Memref sig .tc .vmem S256x512 .bf16
  za_whole : za.IsWhole
  g1 : Memref sig .tc .vmem S256x1024 .bf16
  g1_whole : g1.IsWhole
  g2 : Memref sig .tc .vmem S256x1024 .bf16
  g2_whole : g2.IsWhole
  oF : Memref sig .tc .vmem S256x512 .bf16
  oF_whole : oF.IsWhole
  oB : Memref sig .tc .vmem S256x512 .bf16
  oB_whole : oB.IsWhole
  sv : Memref sig .tc .vmem S256x512 .bf16
  sv_whole : sv.IsWhole
  gate : Memref sig .tc .vmem S1x1024 .f32
  gate_whole : gate.IsWhole
  gf : Memref sig .tc .vmem S1x1024 .f32
  gf_whole : gf.IsWhole
  gbn : Memref sig .tc .vmem S1x512 .f32
  gbn_whole : gbn.IsWhole
  wpa : Memref sig .tc .vmem S512x1024 .bf16
  wpa_whole : wpa.IsWhole
  wpb : Memref sig .tc .vmem S512x1024 .bf16
  wpb_whole : wpb.IsWhole
  wout : Memref sig .tc .vmem S1024x1024 .bf16
  wout_whole : wout.IsWhole
  dx : Memref sig .tc .vmem S256x1024 .f32
  dx_whole : dx.IsWhole
  dzbua : Memref sig .tc .vmem S256x1024 .bf16
  dzbua_whole : dzbua.IsWhole
  dzag : Memref sig .tc .vmem S256x2560 .bf16
  dzag_whole : dzag.IsWhole
  dsv : Memref sig .tc .vmem S256x512 .bf16
  dsv_whole : dsv.IsWhole
  dO : Memref sig .tc .vmem S256x512 .bf16
  dO_whole : dO.IsWhole
  wo16 : Memref sig .tc .vmem S1024x1024 .bf16
  wo16_whole : wo16.IsWhole
  wa16 : Memref sig .tc .vmem S512x1024 .bf16
  wa16_whole : wa16.IsWhole
  wb16 : Memref sig .tc .vmem S512x1024 .bf16
  wb16_whole : wb16.IsWhole
  dgf : Memref sig .tc .vmem S1x1024 .f32
  dgf_whole : dgf.IsWhole
  dgate : Memref sig .tc .vmem S1x1024 .f32
  dgate_whole : dgate.IsWhole
  dgbn : Memref sig .tc .vmem S1x512 .f32
  dgbn_whole : dgbn.IsWhole
  loss : Memref sig .tc .vmem S1x1 .f32
  loss_whole : loss.IsWhole
  ao : Memref sig .tc .vmem S1024x1024 .f32
  ao_whole : ao.IsWhole
  aa : Memref sig .tc .vmem S512x1024 .f32
  aa_whole : aa.IsWhole
  ab : Memref sig .tc .vmem S512x1024 .f32
  ab_whole : ab.IsWhole

/-- The blocks a point reads. -/
structure Ins (F : FTy → Type) where
  x : Vec F S256x1024 .f32
  tgt : Vec F S256x1024 .f32
  zb : Vec F S256x512 .bf16
  ua : Vec F S256x512 .bf16
  za : Vec F S256x512 .bf16
  g1 : Vec F S256x1024 .bf16
  g2 : Vec F S256x1024 .bf16
  oF : Vec F S256x512 .bf16
  oB : Vec F S256x512 .bf16
  sv : Vec F S256x512 .bf16
  gate : Vec F S1x1024 .f32
  gf : Vec F S1x1024 .f32
  gbn : Vec F S1x512 .f32
  wpa : Vec F S512x1024 .bf16
  wpb : Vec F S512x1024 .bf16
  wout : Vec F S1024x1024 .bf16

/-- What the outputs written at every point, or only at the last, hold. -/
structure Outs (F : FTy → Type) where
  dx : Vec F S256x1024 .f32
  dzbua : Vec F S256x1024 .bf16
  dzag : Vec F S256x2560 .bf16
  dsv : Vec F S256x512 .bf16
  dO : Vec F S256x512 .bf16
  wo16 : Vec F S1024x1024 .bf16
  wa16 : Vec F S512x1024 .bf16
  wb16 : Vec F S512x1024 .bf16

/-- What the sums carried from point to point hold. -/
structure Sums (F : FTy → Type) where
  dgf : Vec F S1x1024 .f32
  dgate : Vec F S1x1024 .f32
  dgbn : Vec F S1x512 .f32
  loss : Vec F S1x1 .f32
  ao : Vec F S1024x1024 .f32
  aa : Vec F S512x1024 .f32
  ab : Vec F S512x1024 .f32

/-- The inputs' buffers at the blocks `x`. -/
def held (B : Bufs) (c : Dev nD) (x : Ins F) : sProp 𝕄 :=
  iprop(owns (c : Thread nD τ) B.x fullShare x.x
    ∗ owns (c : Thread nD τ) B.tgt fullShare x.tgt
    ∗ owns (c : Thread nD τ) B.zb fullShare x.zb
    ∗ owns (c : Thread nD τ) B.ua fullShare x.ua
    ∗ owns (c : Thread nD τ) B.za fullShare x.za
    ∗ owns (c : Thread nD τ) B.g1 fullShare x.g1
    ∗ owns (c : Thread nD τ) B.g2 fullShare x.g2
    ∗ owns (c : Thread nD τ) B.oF fullShare x.oF
    ∗ owns (c : Thread nD τ) B.oB fullShare x.oB
    ∗ owns (c : Thread nD τ) B.sv fullShare x.sv
    ∗ owns (c : Thread nD τ) B.gate fullShare x.gate
    ∗ owns (c : Thread nD τ) B.gf fullShare x.gf
    ∗ owns (c : Thread nD τ) B.gbn fullShare x.gbn
    ∗ owns (c : Thread nD τ) B.wpa fullShare x.wpa
    ∗ owns (c : Thread nD τ) B.wpb fullShare x.wpb
    ∗ owns (c : Thread nD τ) B.wout fullShare x.wout)

/-- The outputs' buffers at `u`. -/
def left (B : Bufs) (c : Dev nD) (u : Outs F) : sProp 𝕄 :=
  iprop(owns (c : Thread nD τ) B.dx fullShare u.dx
    ∗ owns (c : Thread nD τ) B.dzbua fullShare u.dzbua
    ∗ owns (c : Thread nD τ) B.dzag fullShare u.dzag
    ∗ owns (c : Thread nD τ) B.dsv fullShare u.dsv
    ∗ owns (c : Thread nD τ) B.dO fullShare u.dO
    ∗ owns (c : Thread nD τ) B.wo16 fullShare u.wo16
    ∗ owns (c : Thread nD τ) B.wa16 fullShare u.wa16
    ∗ owns (c : Thread nD τ) B.wb16 fullShare u.wb16)

/-- The carried sums' buffers at `s`. -/
def carried (B : Bufs) (c : Dev nD) (s : Sums F) : sProp 𝕄 :=
  iprop(owns (c : Thread nD τ) B.dgf fullShare s.dgf
    ∗ owns (c : Thread nD τ) B.dgate fullShare s.dgate
    ∗ owns (c : Thread nD τ) B.dgbn fullShare s.dgbn
    ∗ owns (c : Thread nD τ) B.loss fullShare s.loss
    ∗ owns (c : Thread nD τ) B.ao fullShare s.ao
    ∗ owns (c : Thread nD τ) B.aa fullShare s.aa
    ∗ owns (c : Thread nD τ) B.ab fullShare s.ab)

/-- Owning a whole buffer at a value is owning its cells at the one contents that reads as that value. -/
theorem owns_whole (c : Dev nD) {sh : Shape} {e : EltTy} (a : Memref sig .tc .vmem sh e) (h : a.IsWhole) (X : sh.Idx → Elt F e) :
    (owns (c : Thread nD τ) a fullShare X : sProp 𝕄) = (a.view.loc (c : Thread nD τ) ↦[a.view.set]{fullShare} h.unread X) := by
  refine Entails.antisymm (show (_ : sProp 𝕄) ⊢ _ from ?_) (show (_ : sProp 𝕄) ⊢ _ from ?_)
  · unfold owns
    iintro ⟨%f, %hf, H⟩
    rw [h.eq_unread hf]
    iexact H
  · unfold owns
    iintro H
    iexists _
    isplitr
    · ipureintro; exact h.read_unread X
    iexact H

/-- The same two for contents that read as the value. -/
theorem owns_read (c : Dev nD) {sh : Shape} {e : EltTy} (a : Memref sig .tc .vmem sh e) (X : sh.Idx → Elt F e) (f : a.view.ty.Contents (Elt F))
    (h : a.view.read (Elt F) f = X) :
    (a.view.loc (c : Thread nD τ) ↦[a.view.set]{fullShare} f : sProp 𝕄) ⊢ owns (c : Thread nD τ) a fullShare X := by
  unfold owns
  iintro H
  iexists _
  isplitr
  · ipureintro; exact h
  iexact H

/-- A buffer whose last store was of the whole of it is owned at what that store wrote. -/
theorem owns_full (c : Dev nD) {sh : Shape} {e : EltTy} (a : Memref sig .tc .vmem sh e) (f : a.view.ty.Contents (Elt F))
    (L : List (View.Piece (Elt F) sh e)) {off : Fin sh.rank → ℕ} (inb : ∀ k, off k + sh.size k ≤ sh.size k)
    (w : (Rect.unit off sh.size inb).shape.Idx → Elt F e) :
    (a.view.loc (c : Thread nD τ) ↦[a.view.set]{fullShare} a.view.writes (Elt F) f (⟨Rect.unit off sh.size inb, w⟩ :: L) : sProp 𝕄)
      ⊢ owns (c : Thread nD τ) a fullShare w :=
  owns_read c a w _ (View.read_writes_full a.view f inb w L)

/-- A buffer that its stores cover is owned at what they left, read through any view of its shape. -/
theorem owns_covered (c : Dev nD) {sh : Shape} {e : EltTy} (a : Memref sig .tc .vmem sh e) (v : View sig .tc .vmem sh e)
    (f : a.view.ty.Contents (Elt F)) (L : List (View.Piece (Elt F) sh e)) :
    (iprop(⌜∀ y : sh.Idx, ∃ p ∈ L, y ∈ p.1.set⌝ ∗ (a.view.loc (c : Thread nD τ) ↦[a.view.set]{fullShare} a.view.writes (Elt F) f L)) : sProp 𝕄)
      ⊢ owns (c : Thread nD τ) a fullShare (v.read (Elt F) (v.writes (Elt F) v.junk L)) := by
  iintro ⟨%h, H⟩
  iapply (owns_read c a _ _ (View.read_writes_of_cover _ _ _ _ _ h))
  iexact H

/-- The body on the buffers `B`. -/
abbrev body (B : Bufs) (i : grid0.Coords) : Prog (TpuEff nD τ sig (Elt F) Λ₀ .tc) PUnit :=
  cc0_mid i B.x B.x_whole B.tgt B.tgt_whole B.zb B.zb_whole B.ua B.ua_whole B.za B.za_whole B.g1 B.g1_whole B.g2 B.g2_whole B.oF B.oF_whole B.oB B.oB_whole B.sv B.sv_whole B.gate B.gate_whole B.gf B.gf_whole B.gbn B.gbn_whole B.wpa B.wpa_whole B.wpb B.wpb_whole B.wout B.wout_whole B.dx B.dx_whole B.dzbua B.dzbua_whole B.dzag B.dzag_whole B.dsv B.dsv_whole B.dO B.dO_whole B.wo16 B.wo16_whole B.wa16 B.wa16_whole B.wb16 B.wb16_whole B.dgf B.dgf_whole B.dgate B.dgate_whole B.dgbn B.dgbn_whole B.loss B.loss_whole B.ao B.ao_whole B.aa B.aa_whole B.ab B.ab_whole

set_option maxHeartbeats 0 in
/-- A first point: the sums start at zero. -/
def first (B : Bufs) (c : Dev nD) (i : grid0.Coords) (h0 : cond0_0 i) (h1 : ¬cond0_1 i) (x : Ins F) :
    { r : Outs F × Sums F // ∀ (u : Outs F) (s : Sums F) (K : PUnit → sProp 𝕄),
      iprop(held B c x ∗ left B c u ∗ carried B c s ∗ ((held B c x ∗ left B c { r.1 with wo16 := u.wo16, wa16 := u.wa16, wb16 := u.wb16 } ∗ carried B c r.2) -∗ K ⟨⟩))
      ⊢ wp frame (wpE (defs₀ (F := F)) Variants.none c none) Set.univ (body B i) K } := by
  refine ⟨⟨⟨?_, VO0_17.read (Elt F) (VO0_17.writes (Elt F) VO0_17.junk ?_), VO0_18.read (Elt F) (VO0_18.writes (Elt F) VO0_18.junk ?_), ?_, ?_, VO0_21.read (Elt F) VO0_21.junk, VO0_22.read (Elt F) VO0_22.junk, VO0_23.read (Elt F) VO0_23.junk⟩, ⟨?_, ?_, ?_, ?_, ?_, ?_, ?_⟩⟩, fun u s K => ?run⟩
  case run =>
    unfold held left carried
    simp only [body, cc0_mid_eq_skeleton]; unfold cc0_mid_skel
    simp only [k0_part1_eq_skeleton, k0_part2_eq_skeleton, k0_part3_eq_skeleton, k0_part4_eq_skeleton, k0_part5_eq_skeleton, k0_part6_eq_skeleton, k0_part7_eq_skeleton, k0_part8_eq_skeleton]
    rw [owns_whole c B.x B.x_whole, owns_whole c B.tgt B.tgt_whole, owns_whole c B.zb B.zb_whole, owns_whole c B.ua B.ua_whole, owns_whole c B.za B.za_whole, owns_whole c B.g1 B.g1_whole, owns_whole c B.g2 B.g2_whole, owns_whole c B.oF B.oF_whole, owns_whole c B.oB B.oB_whole, owns_whole c B.sv B.sv_whole, owns_whole c B.gate B.gate_whole, owns_whole c B.gf B.gf_whole, owns_whole c B.gbn B.gbn_whole, owns_whole c B.wpa B.wpa_whole, owns_whole c B.wpb B.wpb_whole, owns_whole c B.wout B.wout_whole, owns_whole c B.dx B.dx_whole, owns_whole c B.dzbua B.dzbua_whole, owns_whole c B.dzag B.dzag_whole, owns_whole c B.dsv B.dsv_whole, owns_whole c B.dO B.dO_whole, owns_whole c B.wo16 B.wo16_whole, owns_whole c B.wa16 B.wa16_whole, owns_whole c B.wb16 B.wb16_whole, owns_whole c B.dgf B.dgf_whole, owns_whole c B.dgate B.dgate_whole, owns_whole c B.dgbn B.dgbn_whole, owns_whole c B.loss B.loss_whole, owns_whole c B.ao B.ao_whole, owns_whole c B.aa B.aa_whole, owns_whole c B.ab B.ab_whole]
    iintro ⟨⟨Hx, Htgt, Hzb, Hua, Hza, Hg1, Hg2, HoF, HoB, Hsv, Hgate, Hgf, Hgbn, Hwpa, Hwpb, Hwout⟩, ⟨Hdx, Hdzbua, Hdzag, Hdsv, HdO, Hwo16, Hwa16, Hwb16⟩, ⟨Hdgf, Hdgate, Hdgbn, Hloss, Hao, Haa, Hab⟩, Hk⟩
    sl_exec (disch := first | sl_exact h0 | sl_exact h1)
    sl_step
    iapply Hk
    isplitl [Hx Htgt Hzb Hua Hza Hg1 Hg2 HoF HoB Hsv Hgate Hgf Hgbn Hwpa Hwpb Hwout]
    · iframe
    isplitl [Hdx Hdzbua Hdzag Hdsv HdO Hwo16 Hwa16 Hwb16]
    · isplitl [Hdx]
      · iapply (owns_full c B.dx); iexact Hdx
      isplitl [Hdzbua]
      · iapply (owns_covered c B.dzbua VO0_17); isplitr; swap; · iexact Hdzbua
        ipureintro; exact View.cover_of_tiledBy _ ![256, 512] (by sl_kernel_rfl)
      isplitl [Hdzag]
      · iapply (owns_covered c B.dzag VO0_18); isplitr; swap; · iexact Hdzag
        ipureintro; exact View.cover_of_tiledBy _ ![256, 512] (by sl_kernel_rfl)
      isplitl [Hdsv]
      · iapply (owns_full c B.dsv); iexact Hdsv
      isplitl [HdO]
      · iapply (owns_full c B.dO); iexact HdO
      isplitl [Hwo16]
      · iexact Hwo16
      isplitl [Hwa16]
      · iexact Hwa16
      iexact Hwb16
    isplitl [Hdgf]
    · iapply (owns_full c B.dgf); iexact Hdgf
    isplitl [Hdgate]
    · iapply (owns_full c B.dgate); iexact Hdgate
    isplitl [Hdgbn]
    · iapply (owns_full c B.dgbn); iexact Hdgbn
    isplitl [Hloss]
    · iapply (owns_full c B.loss); iexact Hloss
    isplitl [Hao]
    · iapply (owns_full c B.ao); iexact Hao
    isplitl [Haa]
    · iapply (owns_full c B.aa); iexact Haa
    iapply (owns_full c B.ab); iexact Hab

set_option maxHeartbeats 0 in
/-- A point that is neither the first nor the last. -/
def between (B : Bufs) (c : Dev nD) (i : grid0.Coords) (h0 : ¬cond0_0 i) (h1 : ¬cond0_1 i) (x : Ins F) (s : Sums F) :
    { r : Outs F × Sums F // ∀ (u : Outs F) (K : PUnit → sProp 𝕄),
      iprop(held B c x ∗ left B c u ∗ carried B c s ∗ ((held B c x ∗ left B c { r.1 with wo16 := u.wo16, wa16 := u.wa16, wb16 := u.wb16 } ∗ carried B c r.2) -∗ K ⟨⟩))
      ⊢ wp frame (wpE (defs₀ (F := F)) Variants.none c none) Set.univ (body B i) K } := by
  refine ⟨⟨⟨?_, VO0_17.read (Elt F) (VO0_17.writes (Elt F) VO0_17.junk ?_), VO0_18.read (Elt F) (VO0_18.writes (Elt F) VO0_18.junk ?_), ?_, ?_, VO0_21.read (Elt F) VO0_21.junk, VO0_22.read (Elt F) VO0_22.junk, VO0_23.read (Elt F) VO0_23.junk⟩, ⟨?_, ?_, ?_, ?_, ?_, ?_, ?_⟩⟩, fun u K => ?run⟩
  case run =>
    unfold held left carried
    simp only [body, cc0_mid_eq_skeleton]; unfold cc0_mid_skel
    simp only [k0_part1_eq_skeleton, k0_part2_eq_skeleton, k0_part3_eq_skeleton, k0_part4_eq_skeleton, k0_part5_eq_skeleton, k0_part6_eq_skeleton, k0_part7_eq_skeleton, k0_part8_eq_skeleton]
    rw [owns_whole c B.x B.x_whole, owns_whole c B.tgt B.tgt_whole, owns_whole c B.zb B.zb_whole, owns_whole c B.ua B.ua_whole, owns_whole c B.za B.za_whole, owns_whole c B.g1 B.g1_whole, owns_whole c B.g2 B.g2_whole, owns_whole c B.oF B.oF_whole, owns_whole c B.oB B.oB_whole, owns_whole c B.sv B.sv_whole, owns_whole c B.gate B.gate_whole, owns_whole c B.gf B.gf_whole, owns_whole c B.gbn B.gbn_whole, owns_whole c B.wpa B.wpa_whole, owns_whole c B.wpb B.wpb_whole, owns_whole c B.wout B.wout_whole, owns_whole c B.dx B.dx_whole, owns_whole c B.dzbua B.dzbua_whole, owns_whole c B.dzag B.dzag_whole, owns_whole c B.dsv B.dsv_whole, owns_whole c B.dO B.dO_whole, owns_whole c B.wo16 B.wo16_whole, owns_whole c B.wa16 B.wa16_whole, owns_whole c B.wb16 B.wb16_whole, owns_whole c B.dgf B.dgf_whole, owns_whole c B.dgate B.dgate_whole, owns_whole c B.dgbn B.dgbn_whole, owns_whole c B.loss B.loss_whole, owns_whole c B.ao B.ao_whole, owns_whole c B.aa B.aa_whole, owns_whole c B.ab B.ab_whole]
    iintro ⟨⟨Hx, Htgt, Hzb, Hua, Hza, Hg1, Hg2, HoF, HoB, Hsv, Hgate, Hgf, Hgbn, Hwpa, Hwpb, Hwout⟩, ⟨Hdx, Hdzbua, Hdzag, Hdsv, HdO, Hwo16, Hwa16, Hwb16⟩, ⟨Hdgf, Hdgate, Hdgbn, Hloss, Hao, Haa, Hab⟩, Hk⟩
    sl_exec (disch := first | sl_exact h0 | sl_exact h1)
    sl_step
    iapply Hk
    isplitl [Hx Htgt Hzb Hua Hza Hg1 Hg2 HoF HoB Hsv Hgate Hgf Hgbn Hwpa Hwpb Hwout]
    · iframe
    isplitl [Hdx Hdzbua Hdzag Hdsv HdO Hwo16 Hwa16 Hwb16]
    · isplitl [Hdx]
      · iapply (owns_full c B.dx); iexact Hdx
      isplitl [Hdzbua]
      · iapply (owns_covered c B.dzbua VO0_17); isplitr; swap; · iexact Hdzbua
        ipureintro; exact View.cover_of_tiledBy _ ![256, 512] (by sl_kernel_rfl)
      isplitl [Hdzag]
      · iapply (owns_covered c B.dzag VO0_18); isplitr; swap; · iexact Hdzag
        ipureintro; exact View.cover_of_tiledBy _ ![256, 512] (by sl_kernel_rfl)
      isplitl [Hdsv]
      · iapply (owns_full c B.dsv); iexact Hdsv
      isplitl [HdO]
      · iapply (owns_full c B.dO); iexact HdO
      isplitl [Hwo16]
      · iexact Hwo16
      isplitl [Hwa16]
      · iexact Hwa16
      iexact Hwb16
    isplitl [Hdgf]
    · iapply (owns_full c B.dgf); iexact Hdgf
    isplitl [Hdgate]
    · iapply (owns_full c B.dgate); iexact Hdgate
    isplitl [Hdgbn]
    · iapply (owns_full c B.dgbn); iexact Hdgbn
    isplitl [Hloss]
    · iapply (owns_full c B.loss); iexact Hloss
    isplitl [Hao]
    · iapply (owns_full c B.ao); iexact Hao
    isplitl [Haa]
    · iapply (owns_full c B.aa); iexact Haa
    iapply (owns_full c B.ab); iexact Hab

set_option maxHeartbeats 0 in
/-- The last point: the carried weight gradients are written out. -/
def last (B : Bufs) (c : Dev nD) (i : grid0.Coords) (h0 : ¬cond0_0 i) (h1 : cond0_1 i) (x : Ins F) (s : Sums F) :
    { r : Outs F × Sums F // ∀ (u : Outs F) (K : PUnit → sProp 𝕄),
      iprop(held B c x ∗ left B c u ∗ carried B c s ∗ ((held B c x ∗ left B c r.1 ∗ carried B c r.2) -∗ K ⟨⟩))
      ⊢ wp frame (wpE (defs₀ (F := F)) Variants.none c none) Set.univ (body B i) K } := by
  refine ⟨⟨⟨?_, VO0_17.read (Elt F) (VO0_17.writes (Elt F) VO0_17.junk ?_), VO0_18.read (Elt F) (VO0_18.writes (Elt F) VO0_18.junk ?_), ?_, ?_, ?_, ?_, ?_⟩, ⟨?_, ?_, ?_, ?_, ?_, ?_, ?_⟩⟩, fun u K => ?run⟩
  case run =>
    unfold held left carried
    simp only [body, cc0_mid_eq_skeleton]; unfold cc0_mid_skel
    simp only [k0_part1_eq_skeleton, k0_part2_eq_skeleton, k0_part3_eq_skeleton, k0_part4_eq_skeleton, k0_part5_eq_skeleton, k0_part6_eq_skeleton, k0_part7_eq_skeleton, k0_part8_eq_skeleton]
    rw [owns_whole c B.x B.x_whole, owns_whole c B.tgt B.tgt_whole, owns_whole c B.zb B.zb_whole, owns_whole c B.ua B.ua_whole, owns_whole c B.za B.za_whole, owns_whole c B.g1 B.g1_whole, owns_whole c B.g2 B.g2_whole, owns_whole c B.oF B.oF_whole, owns_whole c B.oB B.oB_whole, owns_whole c B.sv B.sv_whole, owns_whole c B.gate B.gate_whole, owns_whole c B.gf B.gf_whole, owns_whole c B.gbn B.gbn_whole, owns_whole c B.wpa B.wpa_whole, owns_whole c B.wpb B.wpb_whole, owns_whole c B.wout B.wout_whole, owns_whole c B.dx B.dx_whole, owns_whole c B.dzbua B.dzbua_whole, owns_whole c B.dzag B.dzag_whole, owns_whole c B.dsv B.dsv_whole, owns_whole c B.dO B.dO_whole, owns_whole c B.wo16 B.wo16_whole, owns_whole c B.wa16 B.wa16_whole, owns_whole c B.wb16 B.wb16_whole, owns_whole c B.dgf B.dgf_whole, owns_whole c B.dgate B.dgate_whole, owns_whole c B.dgbn B.dgbn_whole, owns_whole c B.loss B.loss_whole, owns_whole c B.ao B.ao_whole, owns_whole c B.aa B.aa_whole, owns_whole c B.ab B.ab_whole]
    iintro ⟨⟨Hx, Htgt, Hzb, Hua, Hza, Hg1, Hg2, HoF, HoB, Hsv, Hgate, Hgf, Hgbn, Hwpa, Hwpb, Hwout⟩, ⟨Hdx, Hdzbua, Hdzag, Hdsv, HdO, Hwo16, Hwa16, Hwb16⟩, ⟨Hdgf, Hdgate, Hdgbn, Hloss, Hao, Haa, Hab⟩, Hk⟩
    sl_exec (disch := first | sl_exact h0 | sl_exact h1)
    sl_step
    iapply Hk
    isplitl [Hx Htgt Hzb Hua Hza Hg1 Hg2 HoF HoB Hsv Hgate Hgf Hgbn Hwpa Hwpb Hwout]
    · iframe
    isplitl [Hdx Hdzbua Hdzag Hdsv HdO Hwo16 Hwa16 Hwb16]
    · isplitl [Hdx]
      · iapply (owns_full c B.dx); iexact Hdx
      isplitl [Hdzbua]
      · iapply (owns_covered c B.dzbua VO0_17); isplitr; swap; · iexact Hdzbua
        ipureintro; exact View.cover_of_tiledBy _ ![256, 512] (by sl_kernel_rfl)
      isplitl [Hdzag]
      · iapply (owns_covered c B.dzag VO0_18); isplitr; swap; · iexact Hdzag
        ipureintro; exact View.cover_of_tiledBy _ ![256, 512] (by sl_kernel_rfl)
      isplitl [Hdsv]
      · iapply (owns_full c B.dsv); iexact Hdsv
      isplitl [HdO]
      · iapply (owns_full c B.dO); iexact HdO
      isplitl [Hwo16]
      · iapply (owns_full c B.wo16); iexact Hwo16
      isplitl [Hwa16]
      · iapply (owns_full c B.wa16); iexact Hwa16
      iapply (owns_full c B.wb16); iexact Hwb16
    isplitl [Hdgf]
    · iapply (owns_full c B.dgf); iexact Hdgf
    isplitl [Hdgate]
    · iapply (owns_full c B.dgate); iexact Hdgate
    isplitl [Hdgbn]
    · iapply (owns_full c B.dgbn); iexact Hdgbn
    isplitl [Hloss]
    · iapply (owns_full c B.loss); iexact Hloss
    isplitl [Hao]
    · iapply (owns_full c B.ao); iexact Hao
    isplitl [Haa]
    · iapply (owns_full c B.aa); iexact Haa
    iapply (owns_full c B.ab); iexact Hab

end Cert.MidIdeal.Body

end
-- ==== Proof.Mid.Frame.lean ====
module

public import proofs.«01_k».proof.Proof.Mid.Run
public import Idealize.ShloMosaic.Lib.Claim

/-! The fused middle of the step runs: its grid's points one after another, what they leave, and the frame. -/

@[expose] public section

set_option maxRecDepth 16384

noncomputable section

namespace Cert.MidIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MidIdeal Cert.MidIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of grid point `t`. -/
abbrev bufs (t : Fin cfg0.N) : Bufs where
  x := ms0_0 t
  x_whole := hs0_0 t
  tgt := ms0_1 t
  tgt_whole := hs0_1 t
  zb := ms0_2 t
  zb_whole := hs0_2 t
  ua := ms0_3 t
  ua_whole := hs0_3 t
  za := ms0_4 t
  za_whole := hs0_4 t
  g1 := ms0_5 t
  g1_whole := hs0_5 t
  g2 := ms0_6 t
  g2_whole := hs0_6 t
  oF := ms0_7 t
  oF_whole := hs0_7 t
  oB := ms0_8 t
  oB_whole := hs0_8 t
  sv := ms0_9 t
  sv_whole := hs0_9 t
  gate := ms0_10 t
  gate_whole := hs0_10 t
  gf := ms0_11 t
  gf_whole := hs0_11 t
  gbn := ms0_12 t
  gbn_whole := hs0_12 t
  wpa := ms0_13 t
  wpa_whole := hs0_13 t
  wpb := ms0_14 t
  wpb_whole := hs0_14 t
  wout := ms0_15 t
  wout_whole := hs0_15 t
  dx := ms0_16 t
  dx_whole := hs0_16 t
  dzbua := ms0_17 t
  dzbua_whole := hs0_17 t
  dzag := ms0_18 t
  dzag_whole := hs0_18 t
  dsv := ms0_19 t
  dsv_whole := hs0_19 t
  dO := ms0_20 t
  dO_whole := hs0_20 t
  wo16 := ms0_21 t
  wo16_whole := hs0_21 t
  wa16 := ms0_22 t
  wa16_whole := hs0_22 t
  wb16 := ms0_23 t
  wb16_whole := hs0_23 t
  dgf := ms0_24 t
  dgf_whole := hs0_24 t
  dgate := ms0_25 t
  dgate_whole := hs0_25 t
  dgbn := ms0_26 t
  dgbn_whole := hs0_26 t
  loss := ms0_27 t
  loss_whole := hs0_27 t
  ao := scM0_0
  ao_whole := Memref.isWhole_whole _
  aa := scM0_1
  aa_whole := Memref.isWhole_whole _
  ab := scM0_2
  ab_whole := Memref.isWhole_whole _

/-- The blocks of grid point `t`. -/
abbrev blks (c : Dev nD) (t : Fin cfg0.N) : Ins F where
  x := iblk m c 0 t
  tgt := iblk m c 1 t
  zb := X0_2 m c t
  ua := X0_3 m c t
  za := X0_4 m c t
  g1 := X0_5 m c t
  g2 := X0_6 m c t
  oF := iblk m c 7 t
  oB := iblk m c 8 t
  sv := iblk m c 9 t
  gate := iblk m c 10 t
  gf := iblk m c 11 t
  gbn := iblk m c 12 t
  wpa := iblk m c 13 t
  wpb := iblk m c 14 t
  wout := iblk m c 15 t

/-- What point `t` leaves when the carried sums are at `s` before it. -/
@[irreducible] def point (c : Dev nD) (t : Fin cfg0.N) (s : Sums F) : Outs F × Sums F :=
  if h0 : t.val % 32 = 0 then
    (first (bufs t) c (grid0.coords t) ((hcond0_0 t).mpr h0) (fun h => by have := (hcond0_1 t).mp h; omega) (blks m c t)).1
  else if h1 : t.val % 32 = 31 then
    (last (bufs t) c (grid0.coords t) (fun h => h0 ((hcond0_0 t).mp h)) ((hcond0_1 t).mpr h1) (blks m c t) s).1
  else
    (between (bufs t) c (grid0.coords t) (fun h => h0 ((hcond0_0 t).mp h)) (fun h => h1 ((hcond0_1 t).mp h)) (blks m c t) s).1

/-- At the first point it does not matter what the sums' buffers held. -/
theorem point_start (c : Dev nD) (t : Fin cfg0.N) (h : t.val % 32 = 0) (s s' : Sums F) : point m c t s = point m c t s' := by
  unfold point; rw [dif_pos h, dif_pos h]

/-- What the outputs' buffers hold after point `t`: the weight gradients' are only written at the last. -/
def shown (t : Fin cfg0.N) (u r : Outs F) : Outs F :=
  if t.val % 32 = 31 then r else { r with wo16 := u.wo16, wa16 := u.wa16, wb16 := u.wb16 }

/-- The body's run at point `t`. -/
theorem point_runs (c : Dev nD) (t : Fin cfg0.N) (s : Sums F) (u : Outs F) (K : PUnit → sProp 𝕄) :
    iprop(held (bufs t) c (blks m c t) ∗ left (bufs t) c u ∗ carried (bufs t) c s
      ∗ ((held (bufs t) c (blks m c t) ∗ left (bufs t) c (shown t u (point m c t s).1) ∗ carried (bufs t) c (point m c t s).2) -∗ K ⟨⟩))
      ⊢ wp frame (wpE (defs₀ (F := F)) Variants.none c none) Set.univ (bodyAt0 t) K := by
  by_cases h0 : t.val % 32 = 0
  · have h1 : ¬t.val % 32 = 31 := by omega
    unfold point shown; rw [dif_pos h0, if_neg h1]
    exact (first (bufs t) c (grid0.coords t) _ _ (blks m c t)).2 u s K
  · by_cases h1 : t.val % 32 = 31
    · unfold point shown; rw [dif_neg h0, dif_pos h1, if_pos h1]
      exact (last (bufs t) c (grid0.coords t) _ _ (blks m c t) s).2 u K
    · unfold point shown; rw [dif_neg h0, dif_neg h1, if_neg h1]
      exact (between (bufs t) c (grid0.coords t) _ _ (blks m c t) s).2 u K

/-- What every buffer holds after a point: the sums carried from the point before. -/
def outsAt (c : Dev nD) : (n : ℕ) → n < cfg0.N → Outs F × Sums F
  | 0, h => point m c ⟨0, h⟩ ⟨VO0_24.read (Elt F) VO0_24.junk, VO0_25.read (Elt F) VO0_25.junk, VO0_26.read (Elt F) VO0_26.junk, VO0_27.read (Elt F) VO0_27.junk, VS0_0.read (Elt F) VS0_0.junk, VS0_1.read (Elt F) VS0_1.junk, VS0_2.read (Elt F) VS0_2.junk⟩
  | n + 1, h => point m c ⟨n + 1, h⟩ (outsAt c n (Nat.lt_of_succ_lt h)).2

theorem outsAt_start (c : Dev nD) (t : Fin cfg0.N) (h : t.val = 0) (s : Sums F) : outsAt m c t.val t.isLt = point m c t s := by
  obtain ⟨n, hn⟩ := t
  subst h
  exact point_start m c _ (Nat.zero_mod _) _ _

theorem outsAt_next (c : Dev nD) (t : Fin cfg0.N) (h : t.val ≠ 0) :
    outsAt m c t.val t.isLt = point m c t (outsAt m c (t.val - 1) (Nat.lt_of_le_of_lt (Nat.sub_le _ _) t.isLt)).2 := by
  obtain ⟨n, hn⟩ := t
  cases n with
  | zero => exact absurd rfl h
  | succ n => rfl

/-- The three accumulators between points: at anything before the first, then at what the last point left in them. -/
def between_points (c : Dev nD) : (n : ℕ) → n ≤ cfg0.N → sProp 𝕄
  | 0, _ => Pipeline.ΦA spec0 c
  | n + 1, h => iprop(iprop(owns (c : Thread nD τ) scM0_0 fullShare (outsAt m c n h).2.ao ∗ owns (c : Thread nD τ) scM0_1 fullShare (outsAt m c n h).2.aa
      ∗ owns (c : Thread nD τ) scM0_2 fullShare (outsAt m c n h).2.ab) ∗ (∃ r, prngReg c r))

theorem between_zero (c : Dev nD) (n : ℕ) (h : n ≤ cfg0.N) (hz : n = 0) : between_points m c n h = Pipeline.ΦA spec0 c := by
  subst hz; rfl

theorem between_pos (c : Dev nD) (n : ℕ) (h : n ≤ cfg0.N) (hz : n ≠ 0) :
    between_points m c n h = iprop(iprop(owns (c : Thread nD τ) scM0_0 fullShare (outsAt m c (n - 1) (by omega)).2.ao
      ∗ owns (c : Thread nD τ) scM0_1 fullShare (outsAt m c (n - 1) (by omega)).2.aa
      ∗ owns (c : Thread nD τ) scM0_2 fullShare (outsAt m c (n - 1) (by omega)).2.ab) ∗ (∃ r, prngReg c r)) := by
  cases n with
  | zero => exact absurd rfl hz
  | succ n => rfl

/-- What the pipeline's buffers hold: the inputs' their blocks, the outputs' what the points leave. -/
def dats (_ : Fin 1) (c : Dev nD) : Dat τ (Elt F) Unit ℕ (UR sig nD τ) ℕ cfg0 c where
  A w := V m c (Pipeline.arrRef spec0 w)
  after w t := match w with
    | ⟨0, _⟩ => (blks m c t).x
    | ⟨1, _⟩ => (blks m c t).tgt
    | ⟨2, _⟩ => (blks m c t).zb
    | ⟨3, _⟩ => (blks m c t).ua
    | ⟨4, _⟩ => (blks m c t).za
    | ⟨5, _⟩ => (blks m c t).g1
    | ⟨6, _⟩ => (blks m c t).g2
    | ⟨7, _⟩ => (blks m c t).oF
    | ⟨8, _⟩ => (blks m c t).oB
    | ⟨9, _⟩ => (blks m c t).sv
    | ⟨10, _⟩ => (blks m c t).gate
    | ⟨11, _⟩ => (blks m c t).gf
    | ⟨12, _⟩ => (blks m c t).gbn
    | ⟨13, _⟩ => (blks m c t).wpa
    | ⟨14, _⟩ => (blks m c t).wpb
    | ⟨15, _⟩ => (blks m c t).wout
    | ⟨16, _⟩ => (outsAt m c t.val t.isLt).1.dx
    | ⟨17, _⟩ => (outsAt m c t.val t.isLt).1.dzbua
    | ⟨18, _⟩ => (outsAt m c t.val t.isLt).1.dzag
    | ⟨19, _⟩ => (outsAt m c t.val t.isLt).1.dsv
    | ⟨20, _⟩ => (outsAt m c t.val t.isLt).1.dO
    | ⟨21, _⟩ => (outsAt m c t.val t.isLt).1.wo16
    | ⟨22, _⟩ => (outsAt m c t.val t.isLt).1.wa16
    | ⟨23, _⟩ => (outsAt m c t.val t.isLt).1.wb16
    | ⟨24, _⟩ => (outsAt m c t.val t.isLt).2.dgf
    | ⟨25, _⟩ => (outsAt m c t.val t.isLt).2.dgate
    | ⟨26, _⟩ => (outsAt m c t.val t.isLt).2.dgbn
    | ⟨27, _⟩ => (outsAt m c t.val t.isLt).2.loss
    | ⟨_ + 28, h⟩ => absurd h (Nat.not_lt.2 (Nat.le_add_left _ _))
  Φ t := between_points m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = between_points m c t.val (Nat.le_of_lt t.isLt) := by
  dsimp only [dats]; exact Pipeline.Dat.Φ_castSucc (between_points m c) t

theorem after_x (c : Dev nD) (t : Fin cfg0.N) : (dats m 0 c).after 0 t = (blks m c t).x := by dsimp only [dats]
theorem after_tgt (c : Dev nD) (t : Fin cfg0.N) : (dats m 0 c).after 1 t = (blks m c t).tgt := by dsimp only [dats]
theorem after_zb (c : Dev nD) (t : Fin cfg0.N) : (dats m 0 c).after 2 t = (blks m c t).zb := by dsimp only [dats]
theorem after_ua (c : Dev nD) (t : Fin cfg0.N) : (dats m 0 c).after 3 t = (blks m c t).ua := by dsimp only [dats]
theorem after_za (c : Dev nD) (t : Fin cfg0.N) : (dats m 0 c).after 4 t = (blks m c t).za := by dsimp only [dats]
theorem after_g1 (c : Dev nD) (t : Fin cfg0.N) : (dats m 0 c).after 5 t = (blks m c t).g1 := by dsimp only [dats]
theorem after_g2 (c : Dev nD) (t : Fin cfg0.N) : (dats m 0 c).after 6 t = (blks m c t).g2 := by dsimp only [dats]
theorem after_oF (c : Dev nD) (t : Fin cfg0.N) : (dats m 0 c).after 7 t = (blks m c t).oF := by dsimp only [dats]
theorem after_oB (c : Dev nD) (t : Fin cfg0.N) : (dats m 0 c).after 8 t = (blks m c t).oB := by dsimp only [dats]
theorem after_sv (c : Dev nD) (t : Fin cfg0.N) : (dats m 0 c).after 9 t = (blks m c t).sv := by dsimp only [dats]
theorem after_gate (c : Dev nD) (t : Fin cfg0.N) : (dats m 0 c).after 10 t = (blks m c t).gate := by dsimp only [dats]
theorem after_gf (c : Dev nD) (t : Fin cfg0.N) : (dats m 0 c).after 11 t = (blks m c t).gf := by dsimp only [dats]
theorem after_gbn (c : Dev nD) (t : Fin cfg0.N) : (dats m 0 c).after 12 t = (blks m c t).gbn := by dsimp only [dats]
theorem after_wpa (c : Dev nD) (t : Fin cfg0.N) : (dats m 0 c).after 13 t = (blks m c t).wpa := by dsimp only [dats]
theorem after_wpb (c : Dev nD) (t : Fin cfg0.N) : (dats m 0 c).after 14 t = (blks m c t).wpb := by dsimp only [dats]
theorem after_wout (c : Dev nD) (t : Fin cfg0.N) : (dats m 0 c).after 15 t = (blks m c t).wout := by dsimp only [dats]
theorem after_dx (c : Dev nD) (t : Fin cfg0.N) : (dats m 0 c).after 16 t = (outsAt m c t.val t.isLt).1.dx := by dsimp only [dats]
theorem after_dzbua (c : Dev nD) (t : Fin cfg0.N) : (dats m 0 c).after 17 t = (outsAt m c t.val t.isLt).1.dzbua := by dsimp only [dats]
theorem after_dzag (c : Dev nD) (t : Fin cfg0.N) : (dats m 0 c).after 18 t = (outsAt m c t.val t.isLt).1.dzag := by dsimp only [dats]
theorem after_dsv (c : Dev nD) (t : Fin cfg0.N) : (dats m 0 c).after 19 t = (outsAt m c t.val t.isLt).1.dsv := by dsimp only [dats]
theorem after_dO (c : Dev nD) (t : Fin cfg0.N) : (dats m 0 c).after 20 t = (outsAt m c t.val t.isLt).1.dO := by dsimp only [dats]
theorem after_wo16 (c : Dev nD) (t : Fin cfg0.N) : (dats m 0 c).after 21 t = (outsAt m c t.val t.isLt).1.wo16 := by dsimp only [dats]
theorem after_wa16 (c : Dev nD) (t : Fin cfg0.N) : (dats m 0 c).after 22 t = (outsAt m c t.val t.isLt).1.wa16 := by dsimp only [dats]
theorem after_wb16 (c : Dev nD) (t : Fin cfg0.N) : (dats m 0 c).after 23 t = (outsAt m c t.val t.isLt).1.wb16 := by dsimp only [dats]
theorem after_dgf (c : Dev nD) (t : Fin cfg0.N) : (dats m 0 c).after 24 t = (outsAt m c t.val t.isLt).2.dgf := by dsimp only [dats]
theorem after_dgate (c : Dev nD) (t : Fin cfg0.N) : (dats m 0 c).after 25 t = (outsAt m c t.val t.isLt).2.dgate := by dsimp only [dats]
theorem after_dgbn (c : Dev nD) (t : Fin cfg0.N) : (dats m 0 c).after 26 t = (outsAt m c t.val t.isLt).2.dgbn := by dsimp only [dats]
theorem after_loss (c : Dev nD) (t : Fin cfg0.N) : (dats m 0 c).after 27 t = (outsAt m c t.val t.isLt).2.loss := by dsimp only [dats]

/-! The inputs' buffers hold their blocks before a point too. -/

theorem before_x (c : Dev nD) (t : Fin cfg0.N) (d) : (dats m 0 c).before 0 t d = (blks m c t).x :=
  before0_0_of m (dats m 0 c) (A_eq m c 0) (after_x m c) t d
theorem before_tgt (c : Dev nD) (t : Fin cfg0.N) (d) : (dats m 0 c).before 1 t d = (blks m c t).tgt :=
  before0_1_of m (dats m 0 c) (A_eq m c 1) (after_tgt m c) t d
theorem before_zb (c : Dev nD) (t : Fin cfg0.N) (d) : (dats m 0 c).before 2 t d = (blks m c t).zb :=
  before0_2_of m (dats m 0 c) (A_eq m c 2) (after_zb m c) t d
theorem before_ua (c : Dev nD) (t : Fin cfg0.N) (d) : (dats m 0 c).before 3 t d = (blks m c t).ua :=
  before0_3_of m (dats m 0 c) (A_eq m c 3) (after_ua m c) t d
theorem before_za (c : Dev nD) (t : Fin cfg0.N) (d) : (dats m 0 c).before 4 t d = (blks m c t).za :=
  before0_4_of m (dats m 0 c) (A_eq m c 4) (after_za m c) t d
theorem before_g1 (c : Dev nD) (t : Fin cfg0.N) (d) : (dats m 0 c).before 5 t d = (blks m c t).g1 :=
  before0_5_of m (dats m 0 c) (A_eq m c 5) (after_g1 m c) t d
theorem before_g2 (c : Dev nD) (t : Fin cfg0.N) (d) : (dats m 0 c).before 6 t d = (blks m c t).g2 :=
  before0_6_of m (dats m 0 c) (A_eq m c 6) (after_g2 m c) t d
theorem before_oF (c : Dev nD) (t : Fin cfg0.N) (d) : (dats m 0 c).before 7 t d = (blks m c t).oF :=
  before0_7_of m (dats m 0 c) (A_eq m c 7) (after_oF m c) t d
theorem before_oB (c : Dev nD) (t : Fin cfg0.N) (d) : (dats m 0 c).before 8 t d = (blks m c t).oB :=
  before0_8_of m (dats m 0 c) (A_eq m c 8) (after_oB m c) t d
theorem before_sv (c : Dev nD) (t : Fin cfg0.N) (d) : (dats m 0 c).before 9 t d = (blks m c t).sv :=
  before0_9_of m (dats m 0 c) (A_eq m c 9) (after_sv m c) t d
theorem before_gate (c : Dev nD) (t : Fin cfg0.N) (d) : (dats m 0 c).before 10 t d = (blks m c t).gate :=
  before0_10_of m (dats m 0 c) (A_eq m c 10) (after_gate m c) t d
theorem before_gf (c : Dev nD) (t : Fin cfg0.N) (d) : (dats m 0 c).before 11 t d = (blks m c t).gf :=
  before0_11_of m (dats m 0 c) (A_eq m c 11) (after_gf m c) t d
theorem before_gbn (c : Dev nD) (t : Fin cfg0.N) (d) : (dats m 0 c).before 12 t d = (blks m c t).gbn :=
  before0_12_of m (dats m 0 c) (A_eq m c 12) (after_gbn m c) t d
theorem before_wpa (c : Dev nD) (t : Fin cfg0.N) (d) : (dats m 0 c).before 13 t d = (blks m c t).wpa :=
  before0_13_of m (dats m 0 c) (A_eq m c 13) (after_wpa m c) t d
theorem before_wpb (c : Dev nD) (t : Fin cfg0.N) (d) : (dats m 0 c).before 14 t d = (blks m c t).wpb :=
  before0_14_of m (dats m 0 c) (A_eq m c 14) (after_wpb m c) t d
theorem before_wout (c : Dev nD) (t : Fin cfg0.N) (d) : (dats m 0 c).before 15 t d = (blks m c t).wout :=
  before0_15_of m (dats m 0 c) (A_eq m c 15) (after_wout m c) t d

/-! The small sums' buffers hold what the point before left. -/

theorem before_dgf (c : Dev nD) (t : Fin cfg0.N) (h : t.val ≠ 0) (d) :
    (dats m 0 c).before 24 t d = (outsAt m c (t.val - 1) (Nat.lt_of_le_of_lt (Nat.sub_le _ _) t.isLt)).2.dgf := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]
theorem before_dgate (c : Dev nD) (t : Fin cfg0.N) (h : t.val ≠ 0) (d) :
    (dats m 0 c).before 25 t d = (outsAt m c (t.val - 1) (Nat.lt_of_le_of_lt (Nat.sub_le _ _) t.isLt)).2.dgate := by
  have hN : t.val < 32 := lt_of_lt_of_eq t.isLt (show cfg0.N = 32 from N_0)
  rw [Dat.before_out_kept _ 25 rfl t (by omega) (Bool.eq_false_iff.mpr fun h => by have := (flush0_25 _).mp h; dsimp only at this; omega)
    (fun _ => rfl) (fun _ _ => rfl)]
  dsimp only [dats]
theorem before_dgbn (c : Dev nD) (t : Fin cfg0.N) (h : t.val ≠ 0) (d) :
    (dats m 0 c).before 26 t d = (outsAt m c (t.val - 1) (Nat.lt_of_le_of_lt (Nat.sub_le _ _) t.isLt)).2.dgbn := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]
theorem before_loss (c : Dev nD) (t : Fin cfg0.N) (h : t.val ≠ 0) (d) :
    (dats m 0 c).before 27 t d = (outsAt m c (t.val - 1) (Nat.lt_of_le_of_lt (Nat.sub_le _ _) t.isLt)).2.loss := by
  have hN : t.val < 32 := lt_of_lt_of_eq t.isLt (show cfg0.N = 32 from N_0)
  rw [Dat.before_out_kept _ 27 rfl t (by omega) (Bool.eq_false_iff.mpr fun h => by have := (flush0_27 _).mp h; dsimp only at this; omega)
    (fun _ => rfl) (fun _ _ => rfl)]
  dsimp only [dats]

/-- A window that no point leaves idle ends a point at what the body left. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What a point finds. -/
def finds (c : Dev nD) (t : Fin cfg0.N) : sProp 𝕄 :=
  iprop((∃ d, owns (c : Thread nD τ) (bufs t).x fullShare ((dats m 0 c).before 0 t d))
    ∗ (∃ d, owns (c : Thread nD τ) (bufs t).tgt fullShare ((dats m 0 c).before 1 t d))
    ∗ (∃ d, owns (c : Thread nD τ) (bufs t).zb fullShare ((dats m 0 c).before 2 t d))
    ∗ (∃ d, owns (c : Thread nD τ) (bufs t).ua fullShare ((dats m 0 c).before 3 t d))
    ∗ (∃ d, owns (c : Thread nD τ) (bufs t).za fullShare ((dats m 0 c).before 4 t d))
    ∗ (∃ d, owns (c : Thread nD τ) (bufs t).g1 fullShare ((dats m 0 c).before 5 t d))
    ∗ (∃ d, owns (c : Thread nD τ) (bufs t).g2 fullShare ((dats m 0 c).before 6 t d))
    ∗ (∃ d, owns (c : Thread nD τ) (bufs t).oF fullShare ((dats m 0 c).before 7 t d))
    ∗ (∃ d, owns (c : Thread nD τ) (bufs t).oB fullShare ((dats m 0 c).before 8 t d))
    ∗ (∃ d, owns (c : Thread nD τ) (bufs t).sv fullShare ((dats m 0 c).before 9 t d))
    ∗ (∃ d, owns (c : Thread nD τ) (bufs t).gate fullShare ((dats m 0 c).before 10 t d))
    ∗ (∃ d, owns (c : Thread nD τ) (bufs t).gf fullShare ((dats m 0 c).before 11 t d))
    ∗ (∃ d, owns (c : Thread nD τ) (bufs t).gbn fullShare ((dats m 0 c).before 12 t d))
    ∗ (∃ d, owns (c : Thread nD τ) (bufs t).wpa fullShare ((dats m 0 c).before 13 t d))
    ∗ (∃ d, owns (c : Thread nD τ) (bufs t).wpb fullShare ((dats m 0 c).before 14 t d))
    ∗ (∃ d, owns (c : Thread nD τ) (bufs t).wout fullShare ((dats m 0 c).before 15 t d))
    ∗ (∃ d, owns (c : Thread nD τ) (bufs t).dx fullShare ((dats m 0 c).before 16 t d))
    ∗ (∃ d, owns (c : Thread nD τ) (bufs t).dzbua fullShare ((dats m 0 c).before 17 t d))
    ∗ (∃ d, owns (c : Thread nD τ) (bufs t).dzag fullShare ((dats m 0 c).before 18 t d))
    ∗ (∃ d, owns (c : Thread nD τ) (bufs t).dsv fullShare ((dats m 0 c).before 19 t d))
    ∗ (∃ d, owns (c : Thread nD τ) (bufs t).dO fullShare ((dats m 0 c).before 20 t d))
    ∗ (∃ d, owns (c : Thread nD τ) (bufs t).wo16 fullShare ((dats m 0 c).before 21 t d))
    ∗ (∃ d, owns (c : Thread nD τ) (bufs t).wa16 fullShare ((dats m 0 c).before 22 t d))
    ∗ (∃ d, owns (c : Thread nD τ) (bufs t).wb16 fullShare ((dats m 0 c).before 23 t d))
    ∗ (∃ d, owns (c : Thread nD τ) (bufs t).dgf fullShare ((dats m 0 c).before 24 t d))
    ∗ (∃ d, owns (c : Thread nD τ) (bufs t).dgate fullShare ((dats m 0 c).before 25 t d))
    ∗ (∃ d, owns (c : Thread nD τ) (bufs t).dgbn fullShare ((dats m 0 c).before 26 t d))
    ∗ (∃ d, owns (c : Thread nD τ) (bufs t).loss fullShare ((dats m 0 c).before 27 t d)))

/-- What it leaves. -/
def leaves (c : Dev nD) (t : Fin cfg0.N) : sProp 𝕄 :=
  iprop((dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t)

/-! What each window is left at. -/

theorem leaves_x (c : Dev nD) (t : Fin cfg0.N) : (dats m 0 c).leavesExact 0 t = owns (c : Thread nD τ) (bufs t).x fullShare (blks m c t).x := by
  have h := leaves_live m c 0 t (liveAt0_0 t); rw [after_x] at h; exact h
theorem leaves_tgt (c : Dev nD) (t : Fin cfg0.N) : (dats m 0 c).leavesExact 1 t = owns (c : Thread nD τ) (bufs t).tgt fullShare (blks m c t).tgt := by
  have h := leaves_live m c 1 t (liveAt0_1 t); rw [after_tgt] at h; exact h
theorem leaves_zb (c : Dev nD) (t : Fin cfg0.N) : (dats m 0 c).leavesExact 2 t = owns (c : Thread nD τ) (bufs t).zb fullShare (blks m c t).zb := by
  have h := leaves_live m c 2 t (liveAt0_2 t); rw [after_zb] at h; exact h
theorem leaves_ua (c : Dev nD) (t : Fin cfg0.N) : (dats m 0 c).leavesExact 3 t = owns (c : Thread nD τ) (bufs t).ua fullShare (blks m c t).ua := by
  have h := leaves_live m c 3 t (liveAt0_3 t); rw [after_ua] at h; exact h
theorem leaves_za (c : Dev nD) (t : Fin cfg0.N) : (dats m 0 c).leavesExact 4 t = owns (c : Thread nD τ) (bufs t).za fullShare (blks m c t).za := by
  have h := leaves_live m c 4 t (liveAt0_4 t); rw [after_za] at h; exact h
theorem leaves_g1 (c : Dev nD) (t : Fin cfg0.N) : (dats m 0 c).leavesExact 5 t = owns (c : Thread nD τ) (bufs t).g1 fullShare (blks m c t).g1 := by
  have h := leaves_live m c 5 t (liveAt0_5 t); rw [after_g1] at h; exact h
theorem leaves_g2 (c : Dev nD) (t : Fin cfg0.N) : (dats m 0 c).leavesExact 6 t = owns (c : Thread nD τ) (bufs t).g2 fullShare (blks m c t).g2 := by
  have h := leaves_live m c 6 t (liveAt0_6 t); rw [after_g2] at h; exact h
theorem leaves_oF (c : Dev nD) (t : Fin cfg0.N) : (dats m 0 c).leavesExact 7 t = owns (c : Thread nD τ) (bufs t).oF fullShare (blks m c t).oF := by
  have h := leaves_live m c 7 t (liveAt0_7 t); rw [after_oF] at h; exact h
theorem leaves_oB (c : Dev nD) (t : Fin cfg0.N) : (dats m 0 c).leavesExact 8 t = owns (c : Thread nD τ) (bufs t).oB fullShare (blks m c t).oB := by
  have h := leaves_live m c 8 t (liveAt0_8 t); rw [after_oB] at h; exact h
theorem leaves_sv (c : Dev nD) (t : Fin cfg0.N) : (dats m 0 c).leavesExact 9 t = owns (c : Thread nD τ) (bufs t).sv fullShare (blks m c t).sv := by
  have h := leaves_live m c 9 t (liveAt0_9 t); rw [after_sv] at h; exact h
theorem leaves_gate (c : Dev nD) (t : Fin cfg0.N) : (dats m 0 c).leavesExact 10 t = owns (c : Thread nD τ) (bufs t).gate fullShare (blks m c t).gate := by
  have h := leaves_live m c 10 t (liveAt0_10 t); rw [after_gate] at h; exact h
theorem leaves_gf (c : Dev nD) (t : Fin cfg0.N) : (dats m 0 c).leavesExact 11 t = owns (c : Thread nD τ) (bufs t).gf fullShare (blks m c t).gf := by
  have h := leaves_live m c 11 t (liveAt0_11 t); rw [after_gf] at h; exact h
theorem leaves_gbn (c : Dev nD) (t : Fin cfg0.N) : (dats m 0 c).leavesExact 12 t = owns (c : Thread nD τ) (bufs t).gbn fullShare (blks m c t).gbn := by
  have h := leaves_live m c 12 t (liveAt0_12 t); rw [after_gbn] at h; exact h
theorem leaves_wpa (c : Dev nD) (t : Fin cfg0.N) : (dats m 0 c).leavesExact 13 t = owns (c : Thread nD τ) (bufs t).wpa fullShare (blks m c t).wpa := by
  have h := leaves_live m c 13 t (liveAt0_13 t); rw [after_wpa] at h; exact h
theorem leaves_wpb (c : Dev nD) (t : Fin cfg0.N) : (dats m 0 c).leavesExact 14 t = owns (c : Thread nD τ) (bufs t).wpb fullShare (blks m c t).wpb := by
  have h := leaves_live m c 14 t (liveAt0_14 t); rw [after_wpb] at h; exact h
theorem leaves_wout (c : Dev nD) (t : Fin cfg0.N) : (dats m 0 c).leavesExact 15 t = owns (c : Thread nD τ) (bufs t).wout fullShare (blks m c t).wout := by
  have h := leaves_live m c 15 t (liveAt0_15 t); rw [after_wout] at h; exact h
theorem leaves_dx (c : Dev nD) (t : Fin cfg0.N) : (dats m 0 c).leavesExact 16 t = owns (c : Thread nD τ) (bufs t).dx fullShare (outsAt m c t.val t.isLt).1.dx := by
  have h := leaves_live m c 16 t (liveAt0_16 t); rw [after_dx] at h; exact h
theorem leaves_dzbua (c : Dev nD) (t : Fin cfg0.N) : (dats m 0 c).leavesExact 17 t = owns (c : Thread nD τ) (bufs t).dzbua fullShare (outsAt m c t.val t.isLt).1.dzbua := by
  have h := leaves_live m c 17 t (liveAt0_17 t); rw [after_dzbua] at h; exact h
theorem leaves_dzag (c : Dev nD) (t : Fin cfg0.N) : (dats m 0 c).leavesExact 18 t = owns (c : Thread nD τ) (bufs t).dzag fullShare (outsAt m c t.val t.isLt).1.dzag := by
  have h := leaves_live m c 18 t (liveAt0_18 t); rw [after_dzag] at h; exact h
theorem leaves_dsv (c : Dev nD) (t : Fin cfg0.N) : (dats m 0 c).leavesExact 19 t = owns (c : Thread nD τ) (bufs t).dsv fullShare (outsAt m c t.val t.isLt).1.dsv := by
  have h := leaves_live m c 19 t (liveAt0_19 t); rw [after_dsv] at h; exact h
theorem leaves_dO (c : Dev nD) (t : Fin cfg0.N) : (dats m 0 c).leavesExact 20 t = owns (c : Thread nD τ) (bufs t).dO fullShare (outsAt m c t.val t.isLt).1.dO := by
  have h := leaves_live m c 20 t (liveAt0_20 t); rw [after_dO] at h; exact h
theorem leaves_wo16 (c : Dev nD) (t : Fin cfg0.N) (h : t.val % 32 = 31) : (dats m 0 c).leavesExact 21 t = owns (c : Thread nD τ) (bufs t).wo16 fullShare (outsAt m c t.val t.isLt).1.wo16 := by
  have h := leaves_live m c 21 t (liveAt0_21_C t (fun h' => by have := (hcond0_0 t).mp h'; omega) ((hcond0_1 t).mpr h)); rw [after_wo16] at h; exact h
theorem leaves_wa16 (c : Dev nD) (t : Fin cfg0.N) (h : t.val % 32 = 31) : (dats m 0 c).leavesExact 22 t = owns (c : Thread nD τ) (bufs t).wa16 fullShare (outsAt m c t.val t.isLt).1.wa16 := by
  have h := leaves_live m c 22 t (liveAt0_22_C t (fun h' => by have := (hcond0_0 t).mp h'; omega) ((hcond0_1 t).mpr h)); rw [after_wa16] at h; exact h
theorem leaves_wb16 (c : Dev nD) (t : Fin cfg0.N) (h : t.val % 32 = 31) : (dats m 0 c).leavesExact 23 t = owns (c : Thread nD τ) (bufs t).wb16 fullShare (outsAt m c t.val t.isLt).1.wb16 := by
  have h := leaves_live m c 23 t (liveAt0_23_C t (fun h' => by have := (hcond0_0 t).mp h'; omega) ((hcond0_1 t).mpr h)); rw [after_wb16] at h; exact h
theorem leaves_dgf (c : Dev nD) (t : Fin cfg0.N) : (dats m 0 c).leavesExact 24 t = owns (c : Thread nD τ) (bufs t).dgf fullShare (outsAt m c t.val t.isLt).2.dgf := by
  have h := leaves_live m c 24 t (liveAt0_24 t); rw [after_dgf] at h; exact h
theorem leaves_dgate (c : Dev nD) (t : Fin cfg0.N) : (dats m 0 c).leavesExact 25 t = owns (c : Thread nD τ) (bufs t).dgate fullShare (outsAt m c t.val t.isLt).2.dgate := by
  have h := leaves_live m c 25 t (liveAt0_25 t); rw [after_dgate] at h; exact h
theorem leaves_dgbn (c : Dev nD) (t : Fin cfg0.N) : (dats m 0 c).leavesExact 26 t = owns (c : Thread nD τ) (bufs t).dgbn fullShare (outsAt m c t.val t.isLt).2.dgbn := by
  have h := leaves_live m c 26 t (liveAt0_26 t); rw [after_dgbn] at h; exact h
theorem leaves_loss (c : Dev nD) (t : Fin cfg0.N) : (dats m 0 c).leavesExact 27 t = owns (c : Thread nD τ) (bufs t).loss fullShare (outsAt m c t.val t.isLt).2.loss := by
  have h := leaves_live m c 27 t (liveAt0_27 t); rw [after_loss] at h; exact h

/-! Before the last point the weight gradients' windows stay as they are. -/

theorem idle_wo16 (c : Dev nD) (t : Fin cfg0.N) (h : ¬t.val % 32 = 31) :
    (dats m 0 c).leavesExact 21 t = iprop(∃ d, owns (c : Thread nD τ) (bufs t).wo16 fullShare ((dats m 0 c).before 21 t d)) := by
  by_cases h0 : t.val % 32 = 0
  · exact Dat.leavesExact_idle (dats m 0 c) 21 t (idleAt0_21_A t ((hcond0_0 t).mpr h0) (fun h' => h ((hcond0_1 t).mp h'))) (noFlush0_21_A t ((hcond0_0 t).mpr h0) (fun h' => h ((hcond0_1 t).mp h')))
  · exact Dat.leavesExact_idle (dats m 0 c) 21 t (idleAt0_21_B t (fun h' => h0 ((hcond0_0 t).mp h')) (fun h' => h ((hcond0_1 t).mp h'))) (noFlush0_21_B t (fun h' => h0 ((hcond0_0 t).mp h')) (fun h' => h ((hcond0_1 t).mp h')))

theorem idle_wa16 (c : Dev nD) (t : Fin cfg0.N) (h : ¬t.val % 32 = 31) :
    (dats m 0 c).leavesExact 22 t = iprop(∃ d, owns (c : Thread nD τ) (bufs t).wa16 fullShare ((dats m 0 c).before 22 t d)) := by
  by_cases h0 : t.val % 32 = 0
  · exact Dat.leavesExact_idle (dats m 0 c) 22 t (idleAt0_22_A t ((hcond0_0 t).mpr h0) (fun h' => h ((hcond0_1 t).mp h'))) (noFlush0_22_A t ((hcond0_0 t).mpr h0) (fun h' => h ((hcond0_1 t).mp h')))
  · exact Dat.leavesExact_idle (dats m 0 c) 22 t (idleAt0_22_B t (fun h' => h0 ((hcond0_0 t).mp h')) (fun h' => h ((hcond0_1 t).mp h'))) (noFlush0_22_B t (fun h' => h0 ((hcond0_0 t).mp h')) (fun h' => h ((hcond0_1 t).mp h')))

theorem idle_wb16 (c : Dev nD) (t : Fin cfg0.N) (h : ¬t.val % 32 = 31) :
    (dats m 0 c).leavesExact 23 t = iprop(∃ d, owns (c : Thread nD τ) (bufs t).wb16 fullShare ((dats m 0 c).before 23 t d)) := by
  by_cases h0 : t.val % 32 = 0
  · exact Dat.leavesExact_idle (dats m 0 c) 23 t (idleAt0_23_A t ((hcond0_0 t).mpr h0) (fun h' => h ((hcond0_1 t).mp h'))) (noFlush0_23_A t ((hcond0_0 t).mpr h0) (fun h' => h ((hcond0_1 t).mp h')))
  · exact Dat.leavesExact_idle (dats m 0 c) 23 t (idleAt0_23_B t (fun h' => h0 ((hcond0_0 t).mp h')) (fun h' => h ((hcond0_1 t).mp h'))) (noFlush0_23_B t (fun h' => h0 ((hcond0_0 t).mp h')) (fun h' => h ((hcond0_1 t).mp h')))

theorem phi_succ (c : Dev nD) (t : Fin cfg0.N) : (dats m 0 c).Φ t.succ = iprop(iprop(owns (c : Thread nD τ) (bufs t).ao fullShare (outsAt m c t.val t.isLt).2.ao
    ∗ owns (c : Thread nD τ) (bufs t).aa fullShare (outsAt m c t.val t.isLt).2.aa ∗ owns (c : Thread nD τ) (bufs t).ab fullShare (outsAt m c t.val t.isLt).2.ab)
    ∗ (∃ r, prngReg c r)) := rfl

set_option maxHeartbeats 0 in
/-- What the body's run leaves is what the point is to leave. -/
theorem run_leaves (c : Dev nD) (t : Fin cfg0.N) (u : Outs F) (d21 d22 d23)
    (h21 : u.wo16 = (dats m 0 c).before 21 t d21) (h22 : u.wa16 = (dats m 0 c).before 22 t d22) (h23 : u.wb16 = (dats m 0 c).before 23 t d23) :
    iprop(held (bufs t) c (blks m c t) ∗ left (bufs t) c (shown t u (outsAt m c t.val t.isLt).1) ∗ carried (bufs t) c (outsAt m c t.val t.isLt).2
      ∗ (∃ r, prngReg c r) ∗ (dats m 0 c).owesAt () t.castSucc)
    ⊢ (iprop((dats m 0 c).Φ t.succ ∗ (dats m 0 c).owesAt () t.succ ∗ leaves m c t) : sProp 𝕄) := by
  rw [show (dats m 0 c).owesAt () t.succ = (dats m 0 c).owesAt () t.castSucc from rfl, phi_succ]
  unfold held left carried leaves shown
  simp only [leaves_x, leaves_tgt, leaves_zb, leaves_ua, leaves_za, leaves_g1, leaves_g2, leaves_oF, leaves_oB, leaves_sv, leaves_gate, leaves_gf, leaves_gbn, leaves_wpa, leaves_wpb, leaves_wout, leaves_dx, leaves_dzbua, leaves_dzag, leaves_dsv, leaves_dO, leaves_dgf, leaves_dgate, leaves_dgbn, leaves_loss]
  by_cases h1 : t.val % 32 = 31
  · rw [if_pos h1, leaves_wo16 m c t h1, leaves_wa16 m c t h1, leaves_wb16 m c t h1]
    iintro ⟨⟨Hx, Htgt, Hzb, Hua, Hza, Hg1, Hg2, HoF, HoB, Hsv, Hgate, Hgf, Hgbn, Hwpa, Hwpb, Hwout⟩, ⟨Hdx, Hdzbua, Hdzag, Hdsv, HdO, Hwo16, Hwa16, Hwb16⟩, ⟨Hdgf, Hdgate, Hdgbn, Hloss, Hao, Haa, Hab⟩, Hr, Hw⟩
    iframe
  · rw [if_neg h1, idle_wo16 m c t h1, idle_wa16 m c t h1, idle_wb16 m c t h1]
    dsimp only
    rw [h21, h22, h23]
    iintro ⟨⟨Hx, Htgt, Hzb, Hua, Hza, Hg1, Hg2, HoF, HoB, Hsv, Hgate, Hgf, Hgbn, Hwpa, Hwpb, Hwout⟩, ⟨Hdx, Hdzbua, Hdzag, Hdsv, HdO, Hwo16, Hwa16, Hwb16⟩, ⟨Hdgf, Hdgate, Hdgbn, Hloss, Hao, Haa, Hab⟩, Hr, Hw⟩
    isplitl [Hao Haa Hab Hr]; · iframe
    isplitl [Hw]; · iframe
    isplitl [Hx]; · iexact Hx
    isplitl [Htgt]; · iexact Htgt
    isplitl [Hzb]; · iexact Hzb
    isplitl [Hua]; · iexact Hua
    isplitl [Hza]; · iexact Hza
    isplitl [Hg1]; · iexact Hg1
    isplitl [Hg2]; · iexact Hg2
    isplitl [HoF]; · iexact HoF
    isplitl [HoB]; · iexact HoB
    isplitl [Hsv]; · iexact Hsv
    isplitl [Hgate]; · iexact Hgate
    isplitl [Hgf]; · iexact Hgf
    isplitl [Hgbn]; · iexact Hgbn
    isplitl [Hwpa]; · iexact Hwpa
    isplitl [Hwpb]; · iexact Hwpb
    isplitl [Hwout]; · iexact Hwout
    isplitl [Hdx]; · iexact Hdx
    isplitl [Hdzbua]; · iexact Hdzbua
    isplitl [Hdzag]; · iexact Hdzag
    isplitl [Hdsv]; · iexact Hdsv
    isplitl [HdO]; · iexact HdO
    isplitl [Hwo16]; · iexists d21; iexact Hwo16
    isplitl [Hwa16]; · iexists d22; iexact Hwa16
    isplitl [Hwb16]; · iexists d23; iexact Hwb16
    isplitl [Hdgf]; · iexact Hdgf
    isplitl [Hdgate]; · iexact Hdgate
    isplitl [Hdgbn]; · iexact Hdgbn
    iexact Hloss

set_option maxHeartbeats 0 in
/-- The run of a point, from what it finds to what it is to leave. -/
theorem sound (c : Dev nD) (t : Fin cfg0.N) :
    iprop((dats m 0 c).Φ t.castSucc ∗ (dats m 0 c).owesAt () t.castSucc ∗ finds m c t)
    ⊢ wp frame (wpE (defs₀ (F := F)) Variants.none c none) Set.univ (bodyAt0 t)
        (fun _ => iprop((dats m 0 c).Φ t.succ ∗ (dats m 0 c).owesAt () t.succ ∗ leaves m c t)) := by
  rw [phi_castSucc]
  unfold finds
  simp only [before_x, before_tgt, before_zb, before_ua, before_za, before_g1, before_g2, before_oF, before_oB, before_sv, before_gate, before_gf, before_gbn, before_wpa, before_wpb, before_wout]
  by_cases hz : t.val = 0
  · rw [between_zero m c _ _ hz, PhiA0_eq]
    iintro ⟨⟨⟨⟨%dao, Hao⟩, ⟨%daa, Haa⟩, ⟨%dab, Hab⟩⟩, Hr⟩, Hw, ⟨%d0, Hx⟩, ⟨%d1, Htgt⟩, ⟨%d2, Hzb⟩, ⟨%d3, Hua⟩, ⟨%d4, Hza⟩, ⟨%d5, Hg1⟩, ⟨%d6, Hg2⟩, ⟨%d7, HoF⟩, ⟨%d8, HoB⟩, ⟨%d9, Hsv⟩, ⟨%d10, Hgate⟩, ⟨%d11, Hgf⟩, ⟨%d12, Hgbn⟩, ⟨%d13, Hwpa⟩, ⟨%d14, Hwpb⟩, ⟨%d15, Hwout⟩, ⟨%d16, Hdx⟩, ⟨%d17, Hdzbua⟩, ⟨%d18, Hdzag⟩, ⟨%d19, Hdsv⟩, ⟨%d20, HdO⟩, ⟨%d21, Hwo16⟩, ⟨%d22, Hwa16⟩, ⟨%d23, Hwb16⟩, ⟨%d24, Hdgf⟩, ⟨%d25, Hdgate⟩, ⟨%d26, Hdgbn⟩, ⟨%d27, Hloss⟩⟩
    iapply (point_runs m c t ⟨(dats m 0 c).before 24 t d24, (dats m 0 c).before 25 t d25, (dats m 0 c).before 26 t d26, (dats m 0 c).before 27 t d27, dao, daa, dab⟩ ⟨(dats m 0 c).before 16 t d16, (dats m 0 c).before 17 t d17, (dats m 0 c).before 18 t d18, (dats m 0 c).before 19 t d19, (dats m 0 c).before 20 t d20, (dats m 0 c).before 21 t d21, (dats m 0 c).before 22 t d22, (dats m 0 c).before 23 t d23⟩ _)
    rw [← outsAt_start m c t hz]
    isplitl [Hx Htgt Hzb Hua Hza Hg1 Hg2 HoF HoB Hsv Hgate Hgf Hgbn Hwpa Hwpb Hwout]; · unfold held; iframe
    isplitl [Hdx Hdzbua Hdzag Hdsv HdO Hwo16 Hwa16 Hwb16]; · unfold left; iframe
    isplitl [Hdgf Hdgate Hdgbn Hloss Hao Haa Hab]; · unfold carried; iframe
    iintro ⟨Hh, Hl, Hc⟩
    iapply (run_leaves m c t ⟨(dats m 0 c).before 16 t d16, (dats m 0 c).before 17 t d17, (dats m 0 c).before 18 t d18, (dats m 0 c).before 19 t d19, (dats m 0 c).before 20 t d20, (dats m 0 c).before 21 t d21, (dats m 0 c).before 22 t d22, (dats m 0 c).before 23 t d23⟩ d21 d22 d23 rfl rfl rfl)
    iframe
  · rw [between_pos m c _ _ hz]
    simp only [before_dgf m c t hz, before_dgate m c t hz, before_dgbn m c t hz, before_loss m c t hz]
    iintro ⟨⟨⟨Hao, Haa, Hab⟩, Hr⟩, Hw, ⟨%d0, Hx⟩, ⟨%d1, Htgt⟩, ⟨%d2, Hzb⟩, ⟨%d3, Hua⟩, ⟨%d4, Hza⟩, ⟨%d5, Hg1⟩, ⟨%d6, Hg2⟩, ⟨%d7, HoF⟩, ⟨%d8, HoB⟩, ⟨%d9, Hsv⟩, ⟨%d10, Hgate⟩, ⟨%d11, Hgf⟩, ⟨%d12, Hgbn⟩, ⟨%d13, Hwpa⟩, ⟨%d14, Hwpb⟩, ⟨%d15, Hwout⟩, ⟨%d16, Hdx⟩, ⟨%d17, Hdzbua⟩, ⟨%d18, Hdzag⟩, ⟨%d19, Hdsv⟩, ⟨%d20, HdO⟩, ⟨%d21, Hwo16⟩, ⟨%d22, Hwa16⟩, ⟨%d23, Hwb16⟩, ⟨%d24, Hdgf⟩, ⟨%d25, Hdgate⟩, ⟨%d26, Hdgbn⟩, ⟨%d27, Hloss⟩⟩
    iapply (point_runs m c t (outsAt m c (t.val - 1) (Nat.lt_of_le_of_lt (Nat.sub_le _ _) t.isLt)).2 ⟨(dats m 0 c).before 16 t d16, (dats m 0 c).before 17 t d17, (dats m 0 c).before 18 t d18, (dats m 0 c).before 19 t d19, (dats m 0 c).before 20 t d20, (dats m 0 c).before 21 t d21, (dats m 0 c).before 22 t d22, (dats m 0 c).before 23 t d23⟩ _)
    rw [← outsAt_next m c t hz]
    isplitl [Hx Htgt Hzb Hua Hza Hg1 Hg2 HoF HoB Hsv Hgate Hgf Hgbn Hwpa Hwpb Hwout]; · unfold held; iframe
    isplitl [Hdx Hdzbua Hdzag Hdsv HdO Hwo16 Hwa16 Hwb16]; · unfold left; iframe
    isplitl [Hdgf Hdgate Hdgbn Hloss Hao Haa Hab]; · unfold carried; iframe
    iintro ⟨Hh, Hl, Hc⟩
    iapply (run_leaves m c t ⟨(dats m 0 c).before 16 t d16, (dats m 0 c).before 17 t d17, (dats m 0 c).before 18 t d18, (dats m 0 c).before 19 t d19, (dats m 0 c).before 20 t d20, (dats m 0 c).before 21 t d21, (dats m 0 c).before 22 t d22, (dats m 0 c).before 23 t d23⟩ d21 d22 d23 rfl rfl rfl)
    iframe

theorem defs₀_row (t : Fin cfg0.N) : defs₀ (F := F) .tc cfg0.body (cfg0.bodyArgs t (cfg0.slots t)) = bodyAt0 t := by
  unfold defs₀; rw [Defs.onTc_tc]

set_option maxHeartbeats 0 in
theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem hin (c : Dev nD) : Pipeline.ΦA spec0 c ⊢ (dats (F := F) m 0 c).Φ 0 := by
  rw [show (dats (F := F) m 0 c).Φ 0 = between_points m c 0 (Nat.zero_le _) from rfl, between_zero m c 0 _ rfl]

theorem phi_out (c : Dev nD) (t : Fin (cfg0.N + 1)) (ht : t.val ≠ 0) : (dats (F := F) m 0 c).Φ t ⊢ Pipeline.ΦA spec0 c := by
  rw [show (dats (F := F) m 0 c).Φ t = between_points m c t.val (Nat.le_of_lt_succ t.isLt) from rfl, between_pos m c _ _ ht, PhiA0_eq]
  iintro ⟨⟨Hao, Haa, Hab⟩, Hr⟩
  iframe Hr
  isplitl [Hao]; · iexists _; iexact Hao
  isplitl [Haa]; · iexists _; iexact Haa
  iexists _; iexact Hab

theorem hout (c : Dev nD) : (dats (F := F) m 0 c).Φ (Fin.last cfg0.N) ⊢ Pipeline.ΦA spec0 c :=
  phi_out m c _ (by rw [Fin.val_last]; have : cfg0.N = 32 := N_0; omega)

set_option backward.isDefEq.respectTransparency.types false in
/-- The whole program runs, and its arrays end as the points left them. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.MidIdeal.Body

end
-- ==== Proof.Common.Gates.lean ====
module

public import proofs.«01_k».proof.Proof.Common.Real

/-! The gates and the norm that every branch uses, over the real numbers and as extended reals. -/

@[expose] public section

noncomputable section

namespace Cert.Common

open Idealize.ShloMosaic
open scoped BigOperators

/-- The logistic function, the gate made of it, and that gate's derivative. -/
def sig (z : ℝ) : ℝ := 1 / (1 + Real.exp (-z))
def silu (z : ℝ) : ℝ := z * sig z
def dsilu (z : ℝ) : ℝ := sig z * (1 + z * (1 - sig z))

theorem sig_real (z : ℝ) : Ideal.div 1 (1 + Ideal.exp (-(z : EReal))) = (sig z : EReal) := by
  rw [← EReal.coe_neg, Ideal.exp_coe, ← EReal.coe_one, ← EReal.coe_add, div_real _ (by positivity)]; rfl

theorem sig_real' (z : ℝ) : Ideal.div 1 (1 + Ideal.exp (0 - (z : EReal))) = (sig z : EReal) := by
  rw [zero_sub, sig_real]

/-- A mean square and the small number are positive together. -/
theorem mean_pos {ι : Type*} [Fintype ι] (f : ι → ℝ) {n : ℝ} (hn : 0 < n) : 0 < (∑ l, f l * f l) / n + eps := by
  have h : 0 ≤ ∑ l, f l * f l := Finset.sum_nonneg fun l _ => mul_self_nonneg _
  have := eps_pos
  positivity

/-- The gradient through a norm, written by the root's own derivative `−½ · r / m` and the square's `2x`, and written by the normed value. -/
theorem norm_grad {m : ℝ} (hm : 0 < m) (d x s n : ℝ) :
    d * (Real.sqrt m)⁻¹ + x * (s * (-(1 / 2) * ((Real.sqrt m)⁻¹ / m)) / n) + s * (-(1 / 2) * ((Real.sqrt m)⁻¹ / m)) / n * x
      = (Real.sqrt m)⁻¹ * (d - x * (Real.sqrt m)⁻¹ * ((s * (Real.sqrt m)⁻¹) / n)) := by
  have hr : (Real.sqrt m)⁻¹ * (Real.sqrt m)⁻¹ = m⁻¹ := by rw [← mul_inv, Real.mul_self_sqrt hm.le]
  rw [div_eq_mul_inv (Real.sqrt m)⁻¹ m, ← hr]
  ring

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

end Cert.Common

end
-- ==== Proof.Mid.Formula.lean ====
module

public import proofs.«01_k».proof.Proof.Common.Gates
public import Idealize.ShloMosaic.Lib.Pointwise

/-! The fused middle of the step over the real numbers: the gated branches, the loss, and every gradient. -/

@[expose] public section

noncomputable section

namespace Cert.Mid

open Cert.Common

/-- The arguments as real arrays. -/
structure Args where
  x : Fin 8192 → Fin 1024 → ℝ
  tgt : Fin 8192 → Fin 1024 → ℝ
  p : Fin 8192 → Fin 5152 → ℝ
  oF : Fin 8192 → Fin 512 → ℝ
  oB : Fin 8192 → Fin 512 → ℝ
  sv : Fin 8192 → Fin 512 → ℝ
  gate : Fin 1024 → ℝ
  gf : Fin 1024 → ℝ
  gbn : Fin 512 → ℝ
  wa : Fin 512 → Fin 1024 → ℝ
  wb : Fin 512 → Fin 1024 → ℝ
  wo : Fin 1024 → Fin 1024 → ℝ

/-- Column `l` of head `h`. -/
def cell (h : Fin 4) (l : Fin 128) : Fin 512 := ⟨h.val * 128 + l.val, by omega⟩

/-- The head of a column, and its place in it. -/
def head (j : Fin 512) : Fin 4 := ⟨j.val / 128, by omega⟩
def place (j : Fin 512) : Fin 128 := ⟨j.val % 128, by omega⟩

theorem head_cell (h : Fin 4) (l : Fin 128) : head (cell h l) = h := Fin.ext (by simp only [head, cell]; omega)

theorem cell_head (j : Fin 512) : cell (head j) (place j) = j := Fin.ext (by simp only [head, cell, place]; omega)

namespace Args

variable (A : Args) (i : Fin 8192)

/-! The columns of the projection that the middle reads. -/

def zb (j : Fin 512) : ℝ := A.p i ⟨1056 + j.val, by omega⟩
def ua (j : Fin 512) : ℝ := A.p i ⟨1568 + j.val, by omega⟩
def za (j : Fin 512) : ℝ := A.p i ⟨2592 + j.val, by omega⟩
def z1 (k : Fin 1024) : ℝ := A.p i ⟨3104 + k.val, by omega⟩
def z2 (k : Fin 1024) : ℝ := A.p i ⟨4128 + k.val, by omega⟩

/-! The branches and the loss. -/

/-- The recurrence's output, and its norm over each head. -/
def o (j : Fin 512) : ℝ := A.oF i j + A.oB i j
def mo (h : Fin 4) : ℝ := (∑ l, A.o i (cell h l) * A.o i (cell h l)) / 128 + eps
def rr (h : Fin 4) : ℝ := (Real.sqrt (A.mo i h))⁻¹
def oh (j : Fin 512) : ℝ := A.o i j * A.rr i (head j)
def on (j : Fin 512) : ℝ := A.oh i j * A.gbn j
/-- The two branches before their products. -/
def tb (j : Fin 512) : ℝ := A.on i j * silu (A.zb i j)
def ta (j : Fin 512) : ℝ := A.ua i j * A.sv i j * silu (A.za i j)
def ya (k : Fin 1024) : ℝ := ∑ j, A.ta i j * A.wa j k
def yb (k : Fin 1024) : ℝ := ∑ j, A.tb i j * A.wb j k
/-- The gates and the merged branches. -/
def g1 (k : Fin 1024) : ℝ := sig (A.z1 i k)
def g2 (k : Fin 1024) : ℝ := sig (A.z2 i k)
def mg (k : Fin 1024) : ℝ := A.g1 i k * A.ya i k + A.g2 i k * A.yb i k
def y2 (k : Fin 1024) : ℝ := ∑ l, A.mg i l * A.wo l k
def x1 (k : Fin 1024) : ℝ := A.x i k + A.gate k * A.y2 i k
/-- The final norm and the error. -/
def m1 : ℝ := (∑ k, A.x1 i k * A.x1 i k) / 1024 + eps
def r1 : ℝ := (Real.sqrt (A.m1 i))⁻¹
def x1n (k : Fin 1024) : ℝ := A.x1 i k * A.r1 i
def err (k : Fin 1024) : ℝ := A.x1n i k * A.gf k - A.tgt i k
def loss : ℝ := ∑ i, (∑ k, A.err i k * A.err i k) * (1 / 2048)

/-! The gradients. -/

def dout (k : Fin 1024) : ℝ := A.err i k * (1 / 1024)
def dgf (k : Fin 1024) : ℝ := ∑ i, A.dout i k * A.x1n i k
def dxn (k : Fin 1024) : ℝ := A.dout i k * A.gf k
def dx (k : Fin 1024) : ℝ := A.r1 i * (A.dxn i k - A.x1n i k * ((∑ l, A.dxn i l * A.x1n i l) / 1024))
def dgate (k : Fin 1024) : ℝ := ∑ i, A.dx i k * A.y2 i k
def dy (k : Fin 1024) : ℝ := A.dx i k * A.gate k
def dwo (k l : Fin 1024) : ℝ := ∑ i, A.mg i k * A.dy i l
def dm (k : Fin 1024) : ℝ := ∑ l, A.dy i l * A.wo k l
def da (k : Fin 1024) : ℝ := A.dm i k * A.g1 i k
def db (k : Fin 1024) : ℝ := A.dm i k * A.g2 i k
def dz1 (k : Fin 1024) : ℝ := A.dm i k * A.ya i k * A.g1 i k * (1 - A.g1 i k)
def dz2 (k : Fin 1024) : ℝ := A.dm i k * A.yb i k * A.g2 i k * (1 - A.g2 i k)
def dwa (j : Fin 512) (k : Fin 1024) : ℝ := ∑ i, A.ta i j * A.da i k
def dwb (j : Fin 512) (k : Fin 1024) : ℝ := ∑ i, A.tb i j * A.db i k
def dta (j : Fin 512) : ℝ := ∑ k, A.da i k * A.wa j k
def dtb (j : Fin 512) : ℝ := ∑ k, A.db i k * A.wb j k
def dua (j : Fin 512) : ℝ := A.dta i j * A.sv i j * silu (A.za i j)
def dsv (j : Fin 512) : ℝ := A.dta i j * A.ua i j * silu (A.za i j)
def dza (j : Fin 512) : ℝ := A.dta i j * A.ua i j * A.sv i j * dsilu (A.za i j)
def dzb (j : Fin 512) : ℝ := A.dtb i j * A.on i j * dsilu (A.zb i j)
def don (j : Fin 512) : ℝ := A.dtb i j * silu (A.zb i j)
def dgbn (j : Fin 512) : ℝ := ∑ i, A.don i j * A.oh i j
def doh (j : Fin 512) : ℝ := A.don i j * A.gbn j
def dO (j : Fin 512) : ℝ := A.rr i (head j) * (A.doh i j - A.oh i j * ((∑ l, A.doh i (cell (head j) l) * A.oh i (cell (head j) l)) / 128))

/-- The gradients of the projection's columns, in the two groups in which they are stored. -/
def dzbua (j : Fin 1024) : ℝ := if h : j.val < 512 then A.dzb i ⟨j.val, h⟩ else A.dua i ⟨j.val - 512, by omega⟩
def dzag (j : Fin 2560) : ℝ := if h : j.val < 512 then A.dza i ⟨j.val, h⟩
  else if h1 : j.val < 1536 then A.dz1 i ⟨j.val - 512, by omega⟩ else A.dz2 i ⟨j.val - 1536, by omega⟩

theorem mo_pos (h : Fin 4) : 0 < A.mo i h := mean_pos _ (by norm_num)
theorem m1_pos : 0 < A.m1 i := mean_pos _ (by norm_num)

end Args

end Cert.Mid

end
-- ==== Proof.Mid.Points.lean ====
module

public import proofs.«01_k».proof.Proof.Mid.Run
public import proofs.«01_k».proof.Proof.Mid.Formula
public import Idealize.ShloMosaic.Lib.Pipeline.ValueKit
public import Idealize.ShloMosaic.Lib.Pointwise

/-! What a grid point of the fused middle computes where its blocks are real. -/

@[expose] public section

set_option maxRecDepth 16384

noncomputable section

namespace Cert.MidIdeal.Body

open Idealize.ShloMosaic Idealize.ShloMosaic.TcCoe
open Cert.MidIdeal Cert.MidIdeal.Gen Cert.Mid Cert.Common

/-! The values of a point, by name. -/

section Names

variable (x : Ins Ideal)

abbrev vO := k0_pay11 x.oF x.oB
abbrev vRr := k0_pay15 (vO x) (k0_pay12 x.oF x.oB) (k0_pay13 x.oF x.oB) (k0_pay14 x.oF x.oB)
abbrev vOh := k0_pay16 (vO x) (k0_pay12 x.oF x.oB) (k0_pay13 x.oF x.oB) (k0_pay14 x.oF x.oB)
abbrev vOn := k0_pay17 (vO x) (k0_pay12 x.oF x.oB) (k0_pay13 x.oF x.oB) (k0_pay14 x.oF x.oB) x.gbn
abbrev vTb := k0_pay22 (vO x) (k0_pay12 x.oF x.oB) (k0_pay13 x.oF x.oB) (k0_pay14 x.oF x.oB) x.gbn x.zb
abbrev vTa := k0_pay30 (k0_pay23 x.ua) (k0_pay24 x.sv) (k0_pay25 x.za)
abbrev vYa := k0_pay31 (k0_pay23 x.ua) (k0_pay24 x.sv) (k0_pay25 x.za) x.wpa
abbrev vYb := k0_pay32 (vTb x) x.wpb
abbrev vG1 := k0_pay33 x.g1
abbrev vG2 := k0_pay35 (k0_pay34 x.g2)
abbrev vMg := k0_pay36 (vYa x) (vYb x) (vG1 x) (k0_pay34 x.g2)
abbrev vY2 := k0_pay37 (vYa x) (vYb x) (vG1 x) (k0_pay34 x.g2) x.wout
abbrev vX1 := k0_pay38 (vYa x) (vYb x) (vG1 x) (k0_pay34 x.g2) x.wout x.x x.gate
abbrev vR1 := k0_pay39 (vYa x) (vYb x) (vG1 x) (k0_pay34 x.g2) x.wout x.x x.gate
abbrev vXn := k0_pay40 (vYa x) (vYb x) (vG1 x) (k0_pay34 x.g2) x.wout x.x x.gate
abbrev vErr := k0_pay41 (vYa x) (vYb x) (vG1 x) (k0_pay34 x.g2) x.wout x.x x.gate x.gf x.tgt
abbrev vDx := k0_pay48 (vR1 x) (vXn x) (vErr x) x.gf
abbrev vDm := k0_pay53 (vDx x) (k0_pay50 x.gate) x.wout
abbrev vDa := k0_pay54 (vG1 x) (vDx x) (k0_pay50 x.gate) x.wout
abbrev vDb := k0_pay55 (vG2 x) (vDx x) (k0_pay50 x.gate) x.wout
abbrev vDta := k0_pay59 (vDa x) x.wpa
abbrev vDtb := k0_pay64 (vDb x) x.wpb
abbrev vDon := k0_pay65 (k0_pay20 x.zb) (vDb x) x.wpb

end Names

/-- The blocks hold the rows `row` of the real arguments `A`. -/
structure Holds (b : Ins Ideal) (A : Args) (row : Fin 256 → Fin 8192) : Prop where
  x : ∀ a k, b.x (ix2 a k) = (A.x (row a) k : EReal)
  tgt : ∀ a k, b.tgt (ix2 a k) = (A.tgt (row a) k : EReal)
  zb : ∀ a j, b.zb (ix2 a j) = (A.zb (row a) j : EReal)
  ua : ∀ a j, b.ua (ix2 a j) = (A.ua (row a) j : EReal)
  za : ∀ a j, b.za (ix2 a j) = (A.za (row a) j : EReal)
  g1 : ∀ a k, b.g1 (ix2 a k) = (A.z1 (row a) k : EReal)
  g2 : ∀ a k, b.g2 (ix2 a k) = (A.z2 (row a) k : EReal)
  oF : ∀ a j, b.oF (ix2 a j) = (A.oF (row a) j : EReal)
  oB : ∀ a j, b.oB (ix2 a j) = (A.oB (row a) j : EReal)
  sv : ∀ a j, b.sv (ix2 a j) = (A.sv (row a) j : EReal)
  gate : ∀ k, b.gate (ix2 (0 : Fin 1) k) = (A.gate k : EReal)
  gf : ∀ k, b.gf (ix2 (0 : Fin 1) k) = (A.gf k : EReal)
  gbn : ∀ j, b.gbn (ix2 (0 : Fin 1) j) = (A.gbn j : EReal)
  wpa : ∀ j k, b.wpa (ix2 j k) = (A.wa j k : EReal)
  wpb : ∀ j k, b.wpb (ix2 j k) = (A.wb j k : EReal)
  wout : ∀ k l, b.wout (ix2 k l) = (A.wo k l : EReal)

variable {x : Ins Ideal} {A : Args} {row : Fin 256 → Fin 8192}

theorem on_o (R : Holds x A row) (a : Fin 256) (j : Fin 512) : vO x (ix2 a j) = ((A.o (row a) j : ℝ) : EReal) := by
  rw [show vO x (ix2 a j) = x.oF (ix2 a j) + x.oB (ix2 a j) by pointwise [vO, k0_pay11]]
  simp only [R.oF, R.oB, ← EReal.coe_one, ← EReal.coe_add, ← EReal.coe_sub, ← EReal.coe_mul, ← coe_sum]
  rfl

/-- The reciprocal root mean square of a head, from the head's columns. -/
theorem head_root (R : Holds x A row) (a : Fin 256) (h : Fin 4) (f : Fin 128 → Fin 512) (hf : ∀ l, f l = cell h l) :
    Ideal.rsqrt (Ideal.div (∑ l, vO x (ix2 a (f l)) * vO x (ix2 a (f l))) (Ideal.ofBits .f32 0x43000000#32) + Ideal.ofBits .f32 0x358637BD#32)
      = (A.rr (row a) h : EReal) := by
  simp only [on_o R, hf, ← EReal.coe_mul, ← coe_sum, ofBits_128, ofBits_eps]
  rw [div_real _ (by norm_num), ← EReal.coe_add]
  exact rsqrt_real (A.mo_pos (row a) h)

theorem on_rr (R : Holds x A row) (a : Fin 256) (j : Fin 512) : vRr x (ix2 a j) = (A.rr (row a) (head j) : EReal) := by
  have e0 (l : Fin 128) : k0_pay12 x.oF x.oB (ix2 a l) = (A.rr (row a) 0 : EReal) := by
    rw [← head_root R a 0 (fun l => ⟨l.val, by omega⟩) (fun l => Fin.ext (by simp [cell]))]
    pointwise [k0_pay12]
  have e1 (l : Fin 128) : k0_pay13 x.oF x.oB (ix2 a l) = (A.rr (row a) 1 : EReal) := by
    rw [← head_root R a 1 (fun l => ⟨128 + l.val, by omega⟩) (fun l => Fin.ext (by show _ = _ * 128 + l.val; simp; try omega))]
    pointwise [k0_pay13]
  have e2 (l : Fin 128) : k0_pay14 x.oF x.oB (ix2 a l) = (A.rr (row a) 2 : EReal) := by
    rw [← head_root R a 2 (fun l => ⟨256 + l.val, by omega⟩) (fun l => Fin.ext (by show _ = _ * 128 + l.val; simp; try omega))]
    pointwise [k0_pay14]
  have e3 := head_root R a 3 (fun l => ⟨384 + l.val, by omega⟩) (fun l => Fin.ext (by show _ = _ * 128 + l.val; simp; try omega))
  have e (v9 v20 v31 v42) : k0_pay15 (F := Ideal) v9 v20 v31 v42 (ix2 a j) = if h : j.val < 128 then v20 (ix2 a ⟨j.val, h⟩)
      else if h : j.val - 128 < 128 then v31 (ix2 a ⟨j.val - 128, h⟩)
      else if h : j.val - 128 - 128 < 128 then v42 (ix2 a ⟨j.val - 128 - 128, h⟩)
      else Ideal.rsqrt (Ideal.div (∑ l : Fin 128, v9 (ix2 a ⟨384 + l.val, by omega⟩) * v9 (ix2 a ⟨384 + l.val, by omega⟩)) (Ideal.ofBits .f32 0x43000000#32)
          + Ideal.ofBits .f32 0x358637BD#32) := by
    pointwise [k0_pay15]
  rw [show vRr x (ix2 a j) = k0_pay15 (vO x) (k0_pay12 x.oF x.oB) (k0_pay13 x.oF x.oB) (k0_pay14 x.oF x.oB) (ix2 a j) from rfl, e, e3]
  simp only [e0, e1, e2]
  split_ifs with h0 h1 h2
  · rw [show head j = 0 from Fin.ext (by simp [head]; omega)]
  · rw [show head j = 1 from Fin.ext (by simp [head]; omega)]
  · rw [show head j = 2 from Fin.ext (by simp [head]; omega)]
  · rw [show head j = 3 from Fin.ext (by simp [head]; omega)]

theorem on_oh (R : Holds x A row) (a : Fin 256) (j : Fin 512) : vOh x (ix2 a j) = ((A.oh (row a) j : ℝ) : EReal) := by
  rw [show vOh x (ix2 a j) = vO x (ix2 a j) * vRr x (ix2 a j) by pointwise [vOh, k0_pay16]]
  simp only [on_o R, on_rr R, ← EReal.coe_one, ← EReal.coe_add, ← EReal.coe_sub, ← EReal.coe_mul, ← coe_sum]
  rfl

theorem on_on (R : Holds x A row) (a : Fin 256) (j : Fin 512) : vOn x (ix2 a j) = ((A.on (row a) j : ℝ) : EReal) := by
  rw [show vOn x (ix2 a j) = vOh x (ix2 a j) * x.gbn (ix2 (0 : Fin 1) j) by pointwise [vOn, k0_pay17]]
  simp only [on_oh R, R.gbn, ← EReal.coe_one, ← EReal.coe_add, ← EReal.coe_sub, ← EReal.coe_mul, ← coe_sum]
  rfl

theorem on_sgb (R : Holds x A row) (a : Fin 256) (j : Fin 512) : k0_pay19 x.zb (ix2 a j) = ((Common.sig (A.zb (row a) j) : ℝ) : EReal) := by
  rw [show k0_pay19 x.zb (ix2 a j) = Ideal.div 1 (1 + Ideal.exp (0 - x.zb (ix2 a j))) by pointwise [k0_pay19, k0_pay18, k0_pay25]]
  rw [R.zb, sig_real']

theorem on_silub (R : Holds x A row) (a : Fin 256) (j : Fin 512) : k0_pay20 x.zb (ix2 a j) = ((silu (A.zb (row a) j) : ℝ) : EReal) := by
  rw [show k0_pay20 x.zb (ix2 a j) = x.zb (ix2 a j) * k0_pay19 x.zb (ix2 a j) by pointwise [k0_pay20, k0_pay18, k0_pay25]]
  simp only [on_sgb R, R.zb, ← EReal.coe_one, ← EReal.coe_add, ← EReal.coe_sub, ← EReal.coe_mul, ← coe_sum]
  rfl

theorem on_dsilub (R : Holds x A row) (a : Fin 256) (j : Fin 512) : k0_pay21 x.zb (ix2 a j) = ((dsilu (A.zb (row a) j) : ℝ) : EReal) := by
  rw [show k0_pay21 x.zb (ix2 a j) = k0_pay19 x.zb (ix2 a j) * (1 + x.zb (ix2 a j) * (1 - k0_pay19 x.zb (ix2 a j))) by pointwise [k0_pay21, k0_pay18, k0_pay25]]
  simp only [on_sgb R, R.zb, ← EReal.coe_one, ← EReal.coe_add, ← EReal.coe_sub, ← EReal.coe_mul, ← coe_sum]
  rfl

theorem on_sga (R : Holds x A row) (a : Fin 256) (j : Fin 512) : k0_pay27 (k0_pay25 x.za) (ix2 a j) = ((Common.sig (A.za (row a) j) : ℝ) : EReal) := by
  rw [show k0_pay27 (k0_pay25 x.za) (ix2 a j) = Ideal.div 1 (1 + Ideal.exp (0 - x.za (ix2 a j))) by pointwise [k0_pay27, k0_pay26, k0_pay25]]
  rw [R.za, sig_real']

theorem on_silua (R : Holds x A row) (a : Fin 256) (j : Fin 512) : k0_pay28 (k0_pay25 x.za) (ix2 a j) = ((silu (A.za (row a) j) : ℝ) : EReal) := by
  rw [show k0_pay28 (k0_pay25 x.za) (ix2 a j) = x.za (ix2 a j) * k0_pay27 (k0_pay25 x.za) (ix2 a j) by pointwise [k0_pay28, k0_pay26, k0_pay25]]
  simp only [on_sga R, R.za, ← EReal.coe_one, ← EReal.coe_add, ← EReal.coe_sub, ← EReal.coe_mul, ← coe_sum]
  rfl

theorem on_dsilua (R : Holds x A row) (a : Fin 256) (j : Fin 512) : k0_pay29 (k0_pay25 x.za) (ix2 a j) = ((dsilu (A.za (row a) j) : ℝ) : EReal) := by
  rw [show k0_pay29 (k0_pay25 x.za) (ix2 a j) = k0_pay27 (k0_pay25 x.za) (ix2 a j) * (1 + x.za (ix2 a j) * (1 - k0_pay27 (k0_pay25 x.za) (ix2 a j))) by pointwise [k0_pay29, k0_pay26, k0_pay25]]
  simp only [on_sga R, R.za, ← EReal.coe_one, ← EReal.coe_add, ← EReal.coe_sub, ← EReal.coe_mul, ← coe_sum]
  rfl

theorem on_tb (R : Holds x A row) (a : Fin 256) (j : Fin 512) : vTb x (ix2 a j) = ((A.tb (row a) j : ℝ) : EReal) := by
  rw [show vTb x (ix2 a j) = vOn x (ix2 a j) * k0_pay20 x.zb (ix2 a j) by pointwise [vTb, k0_pay22]]
  simp only [on_on R, on_silub R, ← EReal.coe_one, ← EReal.coe_add, ← EReal.coe_sub, ← EReal.coe_mul, ← coe_sum]
  rfl

theorem on_ta (R : Holds x A row) (a : Fin 256) (j : Fin 512) : vTa x (ix2 a j) = ((A.ta (row a) j : ℝ) : EReal) := by
  rw [show vTa x (ix2 a j) = x.ua (ix2 a j) * x.sv (ix2 a j) * k0_pay28 (k0_pay25 x.za) (ix2 a j) by pointwise [vTa, k0_pay30, k0_pay23, k0_pay24]]
  simp only [R.ua, R.sv, on_silua R, ← EReal.coe_one, ← EReal.coe_add, ← EReal.coe_sub, ← EReal.coe_mul, ← coe_sum]
  rfl

theorem on_ya (R : Holds x A row) (a : Fin 256) (k : Fin 1024) : vYa x (ix2 a k) = ((A.ya (row a) k : ℝ) : EReal) := by
  rw [show vYa x (ix2 a k) = ∑ j, vTa x (ix2 a j) * x.wpa (ix2 j k) by pointwise [vYa, k0_pay31]]
  simp only [on_ta R, R.wpa, ← EReal.coe_one, ← EReal.coe_add, ← EReal.coe_sub, ← EReal.coe_mul, ← coe_sum]
  rfl

theorem on_yb (R : Holds x A row) (a : Fin 256) (k : Fin 1024) : vYb x (ix2 a k) = ((A.yb (row a) k : ℝ) : EReal) := by
  rw [show vYb x (ix2 a k) = ∑ j, vTb x (ix2 a j) * x.wpb (ix2 j k) by pointwise [vYb, k0_pay32]]
  simp only [on_tb R, R.wpb, ← EReal.coe_one, ← EReal.coe_add, ← EReal.coe_sub, ← EReal.coe_mul, ← coe_sum]
  rfl

theorem on_g1 (R : Holds x A row) (a : Fin 256) (k : Fin 1024) : vG1 x (ix2 a k) = ((A.g1 (row a) k : ℝ) : EReal) := by
  rw [show vG1 x (ix2 a k) = Ideal.div 1 (1 + Ideal.exp (0 - x.g1 (ix2 a k))) by pointwise [vG1, k0_pay33]]
  rw [R.g1, sig_real']; rfl

theorem on_g2 (R : Holds x A row) (a : Fin 256) (k : Fin 1024) : vG2 x (ix2 a k) = ((A.g2 (row a) k : ℝ) : EReal) := by
  rw [show vG2 x (ix2 a k) = Ideal.div 1 (1 + Ideal.exp (0 - x.g2 (ix2 a k))) by pointwise [vG2, k0_pay35, k0_pay34]]
  rw [R.g2, sig_real']; rfl

theorem on_mg (R : Holds x A row) (a : Fin 256) (k : Fin 1024) : vMg x (ix2 a k) = ((A.mg (row a) k : ℝ) : EReal) := by
  rw [show vMg x (ix2 a k) = vG1 x (ix2 a k) * vYa x (ix2 a k) + vG2 x (ix2 a k) * vYb x (ix2 a k) by pointwise [vMg, k0_pay36]]
  simp only [on_g1 R, on_g2 R, on_ya R, on_yb R, ← EReal.coe_one, ← EReal.coe_add, ← EReal.coe_sub, ← EReal.coe_mul, ← coe_sum]
  rfl

theorem on_y2 (R : Holds x A row) (a : Fin 256) (k : Fin 1024) : vY2 x (ix2 a k) = ((A.y2 (row a) k : ℝ) : EReal) := by
  rw [show vY2 x (ix2 a k) = ∑ l, vMg x (ix2 a l) * x.wout (ix2 l k) by pointwise [vY2, k0_pay37]]
  simp only [on_mg R, R.wout, ← EReal.coe_one, ← EReal.coe_add, ← EReal.coe_sub, ← EReal.coe_mul, ← coe_sum]
  rfl

theorem on_x1 (R : Holds x A row) (a : Fin 256) (k : Fin 1024) : vX1 x (ix2 a k) = ((A.x1 (row a) k : ℝ) : EReal) := by
  rw [show vX1 x (ix2 a k) = x.x (ix2 a k) + x.gate (ix2 (0 : Fin 1) k) * vY2 x (ix2 a k) by pointwise [vX1, k0_pay38]]
  simp only [on_y2 R, R.x, R.gate, ← EReal.coe_one, ← EReal.coe_add, ← EReal.coe_sub, ← EReal.coe_mul, ← coe_sum]
  rfl

theorem on_r1 (R : Holds x A row) (a : Fin 256) : vR1 x (ix2 a 0) = ((A.r1 (row a) : ℝ) : EReal) := by
  rw [show vR1 x (ix2 a 0) = Ideal.rsqrt (Ideal.div (∑ k, vX1 x (ix2 a k) * vX1 x (ix2 a k)) (Ideal.ofBits .f32 0x44800000#32) + Ideal.ofBits .f32 0x358637BD#32) by pointwise [vR1, k0_pay39]]
  simp only [on_x1 R, ofBits_1024, ofBits_eps, ← EReal.coe_one, ← EReal.coe_add, ← EReal.coe_sub, ← EReal.coe_mul, ← coe_sum]
  rw [div_real _ (by norm_num), ← EReal.coe_add]
  exact rsqrt_real (A.m1_pos (row a))

theorem on_xn (R : Holds x A row) (a : Fin 256) (k : Fin 1024) : vXn x (ix2 a k) = ((A.x1n (row a) k : ℝ) : EReal) := by
  rw [show vXn x (ix2 a k) = vX1 x (ix2 a k) * vR1 x (ix2 a 0) by pointwise [vXn, k0_pay40]]
  simp only [on_x1 R, on_r1 R, ← EReal.coe_one, ← EReal.coe_add, ← EReal.coe_sub, ← EReal.coe_mul, ← coe_sum]
  rfl

theorem on_err (R : Holds x A row) (a : Fin 256) (k : Fin 1024) : vErr x (ix2 a k) = ((A.err (row a) k : ℝ) : EReal) := by
  rw [show vErr x (ix2 a k) = vXn x (ix2 a k) * x.gf (ix2 (0 : Fin 1) k) - x.tgt (ix2 a k) by pointwise [vErr, k0_pay41]]
  simp only [on_xn R, R.gf, R.tgt, ← EReal.coe_one, ← EReal.coe_add, ← EReal.coe_sub, ← EReal.coe_mul, ← coe_sum]
  rfl

theorem on_dx (R : Holds x A row) (a : Fin 256) (k : Fin 1024) : vDx x (ix2 a k) = ((A.dx (row a) k : ℝ) : EReal) := by
  rw [show vDx x (ix2 a k) = vR1 x (ix2 a 0) * (vErr x (ix2 a k) * Ideal.ofBits .f32 0x3A800000#32 * x.gf (ix2 (0 : Fin 1) k) - vXn x (ix2 a k)
      * Ideal.div (∑ l, vErr x (ix2 a l) * Ideal.ofBits .f32 0x3A800000#32 * x.gf (ix2 (0 : Fin 1) l) * vXn x (ix2 a l)) (Ideal.ofBits .f32 0x44800000#32)) by pointwise [vDx, k0_pay48, k0_pay46]]
  simp only [on_r1 R, on_err R, on_xn R, R.gf, ofBits_1024, ofBits_inv_1024, ← EReal.coe_one, ← EReal.coe_add, ← EReal.coe_sub, ← EReal.coe_mul, ← coe_sum]
  rw [div_real _ (by norm_num)]
  simp only [← EReal.coe_sub, ← EReal.coe_mul]
  rfl

theorem on_dm (R : Holds x A row) (a : Fin 256) (k : Fin 1024) : vDm x (ix2 a k) = ((A.dm (row a) k : ℝ) : EReal) := by
  rw [show vDm x (ix2 a k) = ∑ l, vDx x (ix2 a l) * x.gate (ix2 (0 : Fin 1) l) * x.wout (ix2 k l) by pointwise [vDm, k0_pay53, k0_pay51, k0_pay50]]
  simp only [on_dx R, R.gate, R.wout, ← EReal.coe_one, ← EReal.coe_add, ← EReal.coe_sub, ← EReal.coe_mul, ← coe_sum]
  rfl

theorem on_da (R : Holds x A row) (a : Fin 256) (k : Fin 1024) : vDa x (ix2 a k) = ((A.da (row a) k : ℝ) : EReal) := by
  rw [show vDa x (ix2 a k) = vDm x (ix2 a k) * vG1 x (ix2 a k) by pointwise [vDa, k0_pay54]]
  simp only [on_dm R, on_g1 R, ← EReal.coe_one, ← EReal.coe_add, ← EReal.coe_sub, ← EReal.coe_mul, ← coe_sum]
  rfl

theorem on_db (R : Holds x A row) (a : Fin 256) (k : Fin 1024) : vDb x (ix2 a k) = ((A.db (row a) k : ℝ) : EReal) := by
  rw [show vDb x (ix2 a k) = vDm x (ix2 a k) * vG2 x (ix2 a k) by pointwise [vDb, k0_pay55]]
  simp only [on_dm R, on_g2 R, ← EReal.coe_one, ← EReal.coe_add, ← EReal.coe_sub, ← EReal.coe_mul, ← coe_sum]
  rfl

theorem on_dta (R : Holds x A row) (a : Fin 256) (j : Fin 512) : vDta x (ix2 a j) = ((A.dta (row a) j : ℝ) : EReal) := by
  rw [show vDta x (ix2 a j) = ∑ k, vDa x (ix2 a k) * x.wpa (ix2 j k) by pointwise [vDta, k0_pay59]]
  simp only [on_da R, R.wpa, ← EReal.coe_one, ← EReal.coe_add, ← EReal.coe_sub, ← EReal.coe_mul, ← coe_sum]
  rfl

theorem on_dtb (R : Holds x A row) (a : Fin 256) (j : Fin 512) : vDtb x (ix2 a j) = ((A.dtb (row a) j : ℝ) : EReal) := by
  rw [show vDtb x (ix2 a j) = ∑ k, vDb x (ix2 a k) * x.wpb (ix2 j k) by pointwise [vDtb, k0_pay64]]
  simp only [on_db R, R.wpb, ← EReal.coe_one, ← EReal.coe_add, ← EReal.coe_sub, ← EReal.coe_mul, ← coe_sum]
  rfl

theorem on_don (R : Holds x A row) (a : Fin 256) (j : Fin 512) : vDon x (ix2 a j) = ((A.don (row a) j : ℝ) : EReal) := by
  rw [show vDon x (ix2 a j) = vDtb x (ix2 a j) * k0_pay20 x.zb (ix2 a j) by pointwise [vDon, k0_pay65]]
  simp only [on_dtb R, on_silub R, ← EReal.coe_one, ← EReal.coe_add, ← EReal.coe_sub, ← EReal.coe_mul, ← coe_sum]
  rfl

/-! What a point writes of the row-wise gradients. -/

theorem on_dz1 (R : Holds x A row) (a : Fin 256) (k : Fin 1024) : k0_pay56 (vYa x) (vG1 x) (vDx x) (k0_pay50 x.gate) x.wout (ix2 a k) = ((A.dz1 (row a) k : ℝ) : EReal) := by
  rw [show k0_pay56 (vYa x) (vG1 x) (vDx x) (k0_pay50 x.gate) x.wout (ix2 a k) = vDm x (ix2 a k) * vYa x (ix2 a k) * vG1 x (ix2 a k) * (1 - vG1 x (ix2 a k)) by pointwise [k0_pay56]]
  simp only [on_dm R, on_g1 R, on_ya R, ← EReal.coe_one, ← EReal.coe_add, ← EReal.coe_sub, ← EReal.coe_mul, ← coe_sum]
  rfl

theorem on_dz2 (R : Holds x A row) (a : Fin 256) (k : Fin 1024) : k0_pay57 (vYb x) (vG2 x) (vDx x) (k0_pay50 x.gate) x.wout (ix2 a k) = ((A.dz2 (row a) k : ℝ) : EReal) := by
  rw [show k0_pay57 (vYb x) (vG2 x) (vDx x) (k0_pay50 x.gate) x.wout (ix2 a k) = vDm x (ix2 a k) * vYb x (ix2 a k) * vG2 x (ix2 a k) * (1 - vG2 x (ix2 a k)) by pointwise [k0_pay57]]
  simp only [on_dm R, on_g2 R, on_yb R, ← EReal.coe_one, ← EReal.coe_add, ← EReal.coe_sub, ← EReal.coe_mul, ← coe_sum]
  rfl

theorem on_dua (R : Holds x A row) (a : Fin 256) (j : Fin 512) : k0_pay60 (k0_pay24 x.sv) (k0_pay28 (k0_pay25 x.za)) (vDa x) x.wpa (ix2 a j) = ((A.dua (row a) j : ℝ) : EReal) := by
  rw [show k0_pay60 (k0_pay24 x.sv) (k0_pay28 (k0_pay25 x.za)) (vDa x) x.wpa (ix2 a j) = vDta x (ix2 a j) * x.sv (ix2 a j) * k0_pay28 (k0_pay25 x.za) (ix2 a j) by pointwise [k0_pay60, k0_pay24]]
  simp only [on_dta R, R.sv, on_silua R, ← EReal.coe_one, ← EReal.coe_add, ← EReal.coe_sub, ← EReal.coe_mul, ← coe_sum]
  rfl

theorem on_dsv (R : Holds x A row) (a : Fin 256) (j : Fin 512) : k0_pay61 (k0_pay23 x.ua) (k0_pay28 (k0_pay25 x.za)) (vDa x) x.wpa (ix2 a j) = ((A.dsv (row a) j : ℝ) : EReal) := by
  rw [show k0_pay61 (k0_pay23 x.ua) (k0_pay28 (k0_pay25 x.za)) (vDa x) x.wpa (ix2 a j) = vDta x (ix2 a j) * x.ua (ix2 a j) * k0_pay28 (k0_pay25 x.za) (ix2 a j) by pointwise [k0_pay61, k0_pay23]]
  simp only [on_dta R, R.ua, on_silua R, ← EReal.coe_one, ← EReal.coe_add, ← EReal.coe_sub, ← EReal.coe_mul, ← coe_sum]
  rfl

theorem on_dza (R : Holds x A row) (a : Fin 256) (j : Fin 512) : k0_pay62 (k0_pay23 x.ua) (k0_pay24 x.sv) (k0_pay29 (k0_pay25 x.za)) (vDa x) x.wpa (ix2 a j) = ((A.dza (row a) j : ℝ) : EReal) := by
  rw [show k0_pay62 (k0_pay23 x.ua) (k0_pay24 x.sv) (k0_pay29 (k0_pay25 x.za)) (vDa x) x.wpa (ix2 a j) = vDta x (ix2 a j) * x.ua (ix2 a j) * x.sv (ix2 a j) * k0_pay29 (k0_pay25 x.za) (ix2 a j) by pointwise [k0_pay62, k0_pay23, k0_pay24]]
  simp only [on_dta R, R.ua, R.sv, on_dsilua R, ← EReal.coe_one, ← EReal.coe_add, ← EReal.coe_sub, ← EReal.coe_mul, ← coe_sum]
  rfl

theorem on_dzb (R : Holds x A row) (a : Fin 256) (j : Fin 512) : k0_pay66 (vOn x) (k0_pay21 x.zb) (vDb x) x.wpb (ix2 a j) = ((A.dzb (row a) j : ℝ) : EReal) := by
  rw [show k0_pay66 (vOn x) (k0_pay21 x.zb) (vDb x) x.wpb (ix2 a j) = vDtb x (ix2 a j) * vOn x (ix2 a j) * k0_pay21 x.zb (ix2 a j) by pointwise [k0_pay66]]
  simp only [on_dtb R, on_on R, on_dsilub R, ← EReal.coe_one, ← EReal.coe_add, ← EReal.coe_sub, ← EReal.coe_mul, ← coe_sum]
  rfl

/-- The mean over a head of the norm's product, from the head's columns. -/
theorem head_mean (R : Holds x A row) (a : Fin 256) (h : Fin 4) (f : Fin 128 → Fin 512) (hf : ∀ l, f l = cell h l) :
    Ideal.div (∑ l, vDon x (ix2 a (f l)) * x.gbn (ix2 (0 : Fin 1) (f l)) * vOh x (ix2 a (f l))) (Ideal.ofBits .f32 0x43000000#32)
      = (((∑ l, A.doh (row a) (cell h l) * A.oh (row a) (cell h l)) / 128 : ℝ) : EReal) := by
  simp only [on_don R, on_oh R, R.gbn, hf, ← EReal.coe_mul, ← coe_sum, ofBits_128]
  rw [div_real _ (by norm_num)]; rfl

theorem on_dO (R : Holds x A row) (a : Fin 256) (j : Fin 512) : k0_pay68 (vRr x) (vOh x) (vDon x) x.gbn (ix2 a j) = (A.dO (row a) j : EReal) := by
  have e (v54 v55 v266 v278) : k0_pay68 (F := Ideal) v54 v55 v266 v278 (ix2 a j) = v54 (ix2 a j) * (v266 (ix2 a j) * v278 (ix2 (0 : Fin 1) j) - v55 (ix2 a j) *
      if j.val < 128 then Ideal.div (∑ l : Fin 128, v266 (ix2 a ⟨l.val, by omega⟩) * v278 (ix2 (0 : Fin 1) ⟨l.val, by omega⟩) * v55 (ix2 a ⟨l.val, by omega⟩)) (Ideal.ofBits .f32 0x43000000#32)
      else if j.val - 128 < 128 then Ideal.div (∑ l : Fin 128, v266 (ix2 a ⟨128 + l.val, by omega⟩) * v278 (ix2 (0 : Fin 1) ⟨128 + l.val, by omega⟩) * v55 (ix2 a ⟨128 + l.val, by omega⟩)) (Ideal.ofBits .f32 0x43000000#32)
      else if j.val - 128 - 128 < 128 then Ideal.div (∑ l : Fin 128, v266 (ix2 a ⟨256 + l.val, by omega⟩) * v278 (ix2 (0 : Fin 1) ⟨256 + l.val, by omega⟩) * v55 (ix2 a ⟨256 + l.val, by omega⟩)) (Ideal.ofBits .f32 0x43000000#32)
      else Ideal.div (∑ l : Fin 128, v266 (ix2 a ⟨384 + l.val, by omega⟩) * v278 (ix2 (0 : Fin 1) ⟨384 + l.val, by omega⟩) * v55 (ix2 a ⟨384 + l.val, by omega⟩)) (Ideal.ofBits .f32 0x43000000#32)) := by
    pointwise [k0_pay68]
    try simp only [dite_eq_ite]
  rw [e, head_mean R a 0 (fun l => ⟨l.val, by omega⟩) (fun l => Fin.ext (by simp [cell])),
    head_mean R a 1 (fun l => ⟨128 + l.val, by omega⟩) (fun l => Fin.ext (by show _ = _ * 128 + l.val; simp; try omega)),
    head_mean R a 2 (fun l => ⟨256 + l.val, by omega⟩) (fun l => Fin.ext (by show _ = _ * 128 + l.val; simp; try omega)),
    head_mean R a 3 (fun l => ⟨384 + l.val, by omega⟩) (fun l => Fin.ext (by show _ = _ * 128 + l.val; simp; try omega))]
  simp only [on_rr R, on_don R, on_oh R, R.gbn]
  unfold Args.dO
  split_ifs with h0 h1 h2
  · rw [show head j = 0 from Fin.ext (by simp [head]; omega)]; rfl
  · rw [show head j = 1 from Fin.ext (by simp [head]; omega)]; rfl
  · rw [show head j = 2 from Fin.ext (by simp [head]; omega)]; rfl
  · rw [show head j = 3 from Fin.ext (by simp [head]; omega)]; rfl

/-! What a point adds to the carried sums. -/

theorem add_dgf (R : Holds x A row) (s : Vec Ideal S1x1024 .f32) (k : Fin 1024) : k0_pay47 (vXn x) (vErr x) s (ix2 (0 : Fin 1) k) = s (ix2 (0 : Fin 1) k) + ((∑ a, A.dout (row a) k * A.x1n (row a) k : ℝ) : EReal) := by
  rw [show k0_pay47 (vXn x) (vErr x) s (ix2 (0 : Fin 1) k) = s (ix2 (0 : Fin 1) k) + ∑ a, vErr x (ix2 a k) * Ideal.ofBits .f32 0x3A800000#32 * vXn x (ix2 a k) by pointwise [k0_pay47, k0_pay46]]
  simp only [on_err R, on_xn R, ofBits_inv_1024, ← EReal.coe_one, ← EReal.coe_add, ← EReal.coe_sub, ← EReal.coe_mul, ← coe_sum]
  try rfl

theorem add_dgate (R : Holds x A row) (s : Vec Ideal S1x1024 .f32) (k : Fin 1024) : k0_pay49 (vY2 x) (vR1 x) (vXn x) (vErr x) x.gf s (ix2 (0 : Fin 1) k) = s (ix2 (0 : Fin 1) k) + ((∑ a, A.dx (row a) k * A.y2 (row a) k : ℝ) : EReal) := by
  rw [show k0_pay49 (vY2 x) (vR1 x) (vXn x) (vErr x) x.gf s (ix2 (0 : Fin 1) k) = s (ix2 (0 : Fin 1) k) + ∑ a, vDx x (ix2 a k) * vY2 x (ix2 a k) by pointwise [k0_pay49]]
  simp only [on_dx R, on_y2 R, ← EReal.coe_one, ← EReal.coe_add, ← EReal.coe_sub, ← EReal.coe_mul, ← coe_sum]
  try rfl

theorem add_dgbn (R : Holds x A row) (s : Vec Ideal S1x512 .f32) (j : Fin 512) : k0_pay67 (vOh x) (vDon x) s (ix2 (0 : Fin 1) j) = s (ix2 (0 : Fin 1) j) + ((∑ a, A.don (row a) j * A.oh (row a) j : ℝ) : EReal) := by
  rw [show k0_pay67 (vOh x) (vDon x) s (ix2 (0 : Fin 1) j) = s (ix2 (0 : Fin 1) j) + ∑ a, vDon x (ix2 a j) * vOh x (ix2 a j) by pointwise [k0_pay67]]
  simp only [on_don R, on_oh R, ← EReal.coe_one, ← EReal.coe_add, ← EReal.coe_sub, ← EReal.coe_mul, ← coe_sum]
  try rfl

theorem add_loss (R : Holds x A row) (s : Vec Ideal S1x1 .f32) :
    k0_pay45 (k0_pay42 s) (k0_pay43 (vYa x) (vYb x) (vG1 x) (k0_pay34 x.g2) x.wout x.x x.gate x.gf x.tgt) k0_pay44 (ix2 (0 : Fin 1) 0)
      = s (ix2 (0 : Fin 1) 0) + ((∑ a, (∑ k, A.err (row a) k * A.err (row a) k) * (1 / 2048) : ℝ) : EReal) := by
  have e (a0 a1) : k0_pay45 (F := Ideal) (k0_pay42 a0) a1 k0_pay44 (ix2 (0 : Fin 1) 0) = a0 (ix2 (0 : Fin 1) 0) + a1 (ix2 (0 : Fin 1) 0) * Ideal.ofBits .f32 0x3A000000#32 := by
    pointwise [k0_pay45, k0_pay42, k0_pay44]
  have e' (a0 a1 a2 a3 a4 a5 a6 a7 a8) : k0_pay43 (F := Ideal) a0 a1 a2 a3 a4 a5 a6 a7 a8 (ix2 (0 : Fin 1) 0)
      = ∑ a, ∑ k, k0_pay41 a0 a1 a2 a3 a4 a5 a6 a7 a8 (ix2 a k) * k0_pay41 a0 a1 a2 a3 a4 a5 a6 a7 a8 (ix2 a k) := by
    pointwise [k0_pay43]
  rw [e, e']
  simp only [on_err R, ofBits_inv_2048, ← EReal.coe_mul, ← coe_sum]
  rw [Finset.sum_mul]

theorem add_dwo (R : Holds x A row) (s : Vec Ideal S1024x1024 .f32) (k l : Fin 1024) : k0_pay52 (vMg x) (vDx x) (k0_pay50 x.gate) s (ix2 k l) = s (ix2 k l) + ((∑ a, A.mg (row a) k * A.dy (row a) l : ℝ) : EReal) := by
  rw [show k0_pay52 (vMg x) (vDx x) (k0_pay50 x.gate) s (ix2 k l) = s (ix2 k l) + ∑ a, vMg x (ix2 a k) * (vDx x (ix2 a l) * x.gate (ix2 (0 : Fin 1) l)) by pointwise [k0_pay52, k0_pay51, k0_pay50]]
  simp only [on_mg R, on_dx R, R.gate, ← EReal.coe_one, ← EReal.coe_add, ← EReal.coe_sub, ← EReal.coe_mul, ← coe_sum]
  try rfl

theorem add_dwa (R : Holds x A row) (s : Vec Ideal S512x1024 .f32) (j : Fin 512) (k : Fin 1024) : k0_pay58 (vTa x) (vG1 x) (vDx x) (k0_pay50 x.gate) x.wout s (ix2 j k) = s (ix2 j k) + ((∑ a, A.ta (row a) j * A.da (row a) k : ℝ) : EReal) := by
  rw [show k0_pay58 (vTa x) (vG1 x) (vDx x) (k0_pay50 x.gate) x.wout s (ix2 j k) = s (ix2 j k) + ∑ a, vTa x (ix2 a j) * vDa x (ix2 a k) by pointwise [k0_pay58]]
  simp only [on_ta R, on_da R, ← EReal.coe_one, ← EReal.coe_add, ← EReal.coe_sub, ← EReal.coe_mul, ← coe_sum]
  try rfl

theorem add_dwb (R : Holds x A row) (s : Vec Ideal S512x1024 .f32) (j : Fin 512) (k : Fin 1024) : k0_pay63 (vTb x) (vDb x) s (ix2 j k) = s (ix2 j k) + ((∑ a, A.tb (row a) j * A.db (row a) k : ℝ) : EReal) := by
  rw [show k0_pay63 (vTb x) (vDb x) s (ix2 j k) = s (ix2 j k) + ∑ a, vTb x (ix2 a j) * vDb x (ix2 a k) by pointwise [k0_pay63]]
  simp only [on_tb R, on_db R, ← EReal.coe_one, ← EReal.coe_add, ← EReal.coe_sub, ← EReal.coe_mul, ← coe_sum]
  try rfl

end Cert.MidIdeal.Body

end
-- ==== Proof.Mid.Steps.lean ====
module

public import proofs.«01_k».proof.Proof.Mid.Frame
public import proofs.«01_k».proof.Proof.Mid.Points

/-! What a grid point leaves, in terms of its blocks and of the sums before it. -/

@[expose] public section

set_option maxRecDepth 16384

noncomputable section

namespace Cert.MidIdeal.Body

open Idealize.ShloMosaic Idealize.ShloMosaic.TcCoe
open Cert.MidIdeal Cert.MidIdeal.Gen Cert.Mid Cert.Common

variable (m : (ℓ : Loc nD τ sig) → Buf (Elt Ideal) ℓ)

/-- The sums that a point starts from. -/
def zeros : Sums Ideal := ⟨k0_pay7 (F := Ideal), k0_pay8 (F := Ideal), k0_pay9 (F := Ideal), k0_pay10 (F := Ideal), k0_pay4 (F := Ideal), k0_pay5 (F := Ideal), k0_pay6 (F := Ideal)⟩

/-- The sums after a point with blocks `x`. -/
def step (x : Ins Ideal) (s : Sums Ideal) : Sums Ideal where
  dgf := k0_pay47 (vXn x) (vErr x) s.dgf
  dgate := k0_pay49 (vY2 x) (vR1 x) (vXn x) (vErr x) x.gf s.dgate
  dgbn := k0_pay67 (vOh x) (vDon x) s.dgbn
  loss := k0_pay45 (k0_pay42 s.loss) (k0_pay43 (vYa x) (vYb x) (vG1 x) (k0_pay34 x.g2) x.wout x.x x.gate x.gf x.tgt) k0_pay44
  ao := k0_pay52 (vMg x) (vDx x) (k0_pay50 x.gate) s.ao
  aa := k0_pay58 (vTa x) (vG1 x) (vDx x) (k0_pay50 x.gate) x.wout s.aa
  ab := k0_pay63 (vTb x) (vDb x) s.ab

/-- The row-wise gradients of a point are the real ones. -/
structure Rows (o : Outs Ideal) (A : Args) (row : Fin 256 → Fin 8192) : Prop where
  dx : ∀ a k, o.dx (ix2 a k) = (A.dx (row a) k : EReal)
  dzbua : ∀ a j, o.dzbua (ix2 a j) = (A.dzbua (row a) j : EReal)
  dzag : ∀ a j, o.dzag (ix2 a j) = (A.dzag (row a) j : EReal)
  dsv : ∀ a j, o.dsv (ix2 a j) = (A.dsv (row a) j : EReal)
  dO : ∀ a j, o.dO (ix2 a j) = (A.dO (row a) j : EReal)

variable {x : Ins Ideal} {A : Args} {row : Fin 256 → Fin 8192} {o : Outs Ideal}

/-- An index of rank two from its coordinates. -/
theorem at2 {n k : ℕ} {x : (⟨2, ![n, k]⟩ : Shape).Idx} (a : Fin n) (j : Fin k) (h0 : (x 0).val = a.val) (h1 : (x 1).val = j.val) : x = ix2 a j := by
  rw [eq_ix2 x, show (x 0 : Fin n) = a from Fin.ext h0, show (x 1 : Fin k) = j from Fin.ext h1]

/-- The two groups of columns, each stored in tiles of the block. -/
theorem two_tiles (R : Holds x A row) (a : Fin 256) (j : Fin 1024) :
    View.canon (Val := Elt Ideal) (e := .bf16) [⟨Rect.unit ![0, 0] ![256, 512] inb_S256x1024_S256x512_0_0, k0_pay66 (vOn x) (k0_pay21 x.zb) (vDb x) x.wpb⟩,
      ⟨Rect.unit ![0, 512] ![256, 512] inb_S256x1024_S256x512_0_512, k0_pay60 (k0_pay24 x.sv) (k0_pay28 (k0_pay25 x.za)) (vDa x) x.wpa⟩] (ix2 a j)
      = (A.dzbua (row a) j : EReal) := by
  canon_tiles y h
  · have e1 : j.val = (y 1).val := h1
    rw [at2 (x := y) a ⟨j.val, by omega⟩ h0.symm e1.symm, on_dzb R]
    unfold Args.dzbua; rw [dif_pos (by omega)]
  · have e1 : j.val = 512 + (y 1).val := h1
    rw [at2 (x := y) a ⟨j.val - 512, by omega⟩ h0.symm (by dsimp only; omega), on_dua R]
    unfold Args.dzbua; rw [dif_neg (by omega)]

theorem three_tiles (R : Holds x A row) (a : Fin 256) (j : Fin 2560) :
    View.canon (Val := Elt Ideal) (e := .bf16) [⟨Rect.unit ![0, 0] ![256, 512] inb_S256x2560_S256x512_0_0, k0_pay62 (k0_pay23 x.ua) (k0_pay24 x.sv) (k0_pay29 (k0_pay25 x.za)) (vDa x) x.wpa⟩,
      ⟨Rect.unit ![0, 1536] ![256, 1024] inb_S256x2560_S256x1024_0_1536, k0_pay57 (vYb x) (vG2 x) (vDx x) (k0_pay50 x.gate) x.wout⟩,
      ⟨Rect.unit ![0, 512] ![256, 1024] inb_S256x2560_S256x1024_0_512, k0_pay56 (vYa x) (vG1 x) (vDx x) (k0_pay50 x.gate) x.wout⟩] (ix2 a j)
      = (A.dzag (row a) j : EReal) := by
  canon_tiles y h using View.cover_of_tiledBy (s := S256x2560) _ ![256, 512] (by sl_kernel_rfl) _
  · have e1 : j.val = (y 1).val := h1
    rw [at2 (x := y) a ⟨j.val, by omega⟩ h0.symm e1.symm, on_dza R]
    unfold Args.dzag; rw [dif_pos (by omega)]
  · have e1 : j.val = 1536 + (y 1).val := h1
    rw [at2 (x := y) a ⟨j.val - 1536, by omega⟩ h0.symm (by dsimp only; omega), on_dz2 R]
    unfold Args.dzag; rw [dif_neg (by omega), dif_neg (by omega)]
  · have e1 : j.val = 512 + (y 1).val := h1
    have l1 : (y 1).val < 1024 := y1_lt
    rw [at2 (x := y) a ⟨j.val - 512, by omega⟩ h0.symm (by dsimp only; omega), on_dz1 R]
    unfold Args.dzag; rw [dif_neg (by omega), dif_pos (by omega)]

theorem first_rows (B : Bufs) (c : Dev nD) (i : grid0.Coords) (h0 : cond0_0 i) (h1 : ¬cond0_1 i) (R : Holds x A row) :
    Rows (first B c i h0 h1 x).1.1 A row where
  dx a k := by unfold first; frame_out; exact on_dx R a k
  dzbua a j := by unfold first; frame_out; exact two_tiles R a j
  dzag a j := by unfold first; frame_out; exact three_tiles R a j
  dsv a j := by unfold first; frame_out; exact on_dsv R a j
  dO a j := by unfold first; frame_out; exact on_dO R a j

theorem first_sums (B : Bufs) (c : Dev nD) (i : grid0.Coords) (h0 : cond0_0 i) (h1 : ¬cond0_1 i) : (first B c i h0 h1 x).1.2 = step x zeros := by
  unfold first; frame_out
  rfl

theorem between_rows (B : Bufs) (c : Dev nD) (i : grid0.Coords) (h0 : ¬cond0_0 i) (h1 : ¬cond0_1 i) (s : Sums Ideal) (R : Holds x A row) :
    Rows (between B c i h0 h1 x s).1.1 A row where
  dx a k := by unfold between; frame_out; exact on_dx R a k
  dzbua a j := by unfold between; frame_out; exact two_tiles R a j
  dzag a j := by unfold between; frame_out; exact three_tiles R a j
  dsv a j := by unfold between; frame_out; exact on_dsv R a j
  dO a j := by unfold between; frame_out; exact on_dO R a j

theorem between_sums (B : Bufs) (c : Dev nD) (i : grid0.Coords) (h0 : ¬cond0_0 i) (h1 : ¬cond0_1 i) (s : Sums Ideal) : (between B c i h0 h1 x s).1.2 = step x s := by
  unfold between; frame_out
  rfl

theorem last_rows (B : Bufs) (c : Dev nD) (i : grid0.Coords) (h0 : ¬cond0_0 i) (h1 : cond0_1 i) (s : Sums Ideal) (R : Holds x A row) :
    Rows (last B c i h0 h1 x s).1.1 A row where
  dx a k := by unfold last; frame_out; exact on_dx R a k
  dzbua a j := by unfold last; frame_out; exact two_tiles R a j
  dzag a j := by unfold last; frame_out; exact three_tiles R a j
  dsv a j := by unfold last; frame_out; exact on_dsv R a j
  dO a j := by unfold last; frame_out; exact on_dO R a j

theorem last_sums (B : Bufs) (c : Dev nD) (i : grid0.Coords) (h0 : ¬cond0_0 i) (h1 : cond0_1 i) (s : Sums Ideal) : (last B c i h0 h1 x s).1.2 = step x s := by
  unfold last; frame_out
  rfl

/-- At the last point the weights' gradients are the sums. -/
theorem last_cast (B : Bufs) (c : Dev nD) (i : grid0.Coords) (h0 : ¬cond0_0 i) (h1 : cond0_1 i) (s : Sums Ideal) :
    (last B c i h0 h1 x s).1.1.wo16 = k0_pay1 (step x s).ao ∧ (last B c i h0 h1 x s).1.1.wa16 = k0_pay2 (step x s).aa
      ∧ (last B c i h0 h1 x s).1.1.wb16 = k0_pay3 (step x s).ab := by
  refine ⟨?_, ?_, ?_⟩ <;> unfold last <;> frame_out <;> rfl

/-! A point's results. -/

variable {m}

theorem rows_at (c : Dev nD) (t : Fin cfg0.N) (s : Sums Ideal) (R : Holds (blks m c t) A row) : Rows (point m c t s).1 A row := by
  unfold point
  split_ifs with h0 h1
  · exact first_rows _ _ _ _ _ R
  · exact last_rows _ _ _ _ _ _ R
  · exact between_rows _ _ _ _ _ _ R

theorem sums_at (c : Dev nD) (t : Fin cfg0.N) (s : Sums Ideal) :
    (point m c t s).2 = step (blks m c t) (if t.val % 32 = 0 then zeros else s) := by
  unfold point
  split_ifs with h0 h1
  · exact first_sums _ _ _ _ _
  · exact last_sums _ _ _ _ _ _
  · exact between_sums _ _ _ _ _ _

theorem cast_at (c : Dev nD) (t : Fin cfg0.N) (s : Sums Ideal) (h : t.val % 32 = 31) :
    (point m c t s).1.wo16 = k0_pay1 (point m c t s).2.ao ∧ (point m c t s).1.wa16 = k0_pay2 (point m c t s).2.aa
      ∧ (point m c t s).1.wb16 = k0_pay3 (point m c t s).2.ab := by
  rw [sums_at]
  unfold point
  rw [if_neg (by omega), dif_neg (by omega), dif_pos h]
  exact last_cast _ _ _ _ _ _

end Cert.MidIdeal.Body

end
-- ==== Proof.Mid.Blocks.lean ====
module

public import proofs.«01_k».proof.Proof.Mid.Steps
public import Idealize.ShloMosaic.Lib.Claim

/-! What the blocks of the fused middle hold: the rows of a grid point's block in the argument arrays. -/

@[expose] public section

set_option maxRecDepth 16384

noncomputable section

namespace Cert.MidIdeal.Body

open Idealize.ShloMosaic Idealize.ShloMosaic.TcCoe Idealize.SL.Sem
open Idealize.ShloMosaic.Pipeline (Dat)
open Cert.MidIdeal Cert.MidIdeal.Gen Cert.Mid Cert.Common

variable (m : (ℓ : Loc nD τ sig) → Buf (Elt Ideal) ℓ)

/-- Where each window's block of a grid point lies. -/
theorem idx : ∀ t : Fin cfg0.N, win0_0.index t = ![t.val, 0] ∧ win0_1.index t = ![t.val, 0] ∧ win0_2.index t = ![t.val, 2] ∧ win0_3.index t = ![t.val, 3]
    ∧ win0_4.index t = ![t.val, 5] ∧ win0_5.index t = ![t.val, 3] ∧ win0_6.index t = ![t.val, 4] ∧ win0_7.index t = ![t.val, 0] ∧ win0_8.index t = ![t.val, 0]
    ∧ win0_9.index t = ![t.val, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![t.val, 0] ∧ win0_17.index t = ![t.val, 0] ∧ win0_18.index t = ![t.val, 0]
    ∧ win0_19.index t = ![t.val, 0] ∧ win0_20.index t = ![t.val, 0] :=
  (by decide +kernel : ∀ t : Fin grid0.N, _)

/-- The row of the whole array that is row `a` of grid point `t`'s block. -/
def row (t : Fin cfg0.N) (a : Fin 256) : Fin 8192 := ⟨256 * t.val + a.val, by have h : t.val < 32 := lt_of_lt_of_eq t.isLt N_0; omega⟩

/-- The arguments are the real arrays `A`. -/
structure Reals (c : Dev nD) (A : Args) : Prop where
  x : ∀ i k, (m ((c.tc : Thread nD τ).loc main_arg0) : FVec Ideal S8192x1024 .f32) (ix2 i k) = (A.x i k : EReal)
  tgt : ∀ i k, (m ((c.tc : Thread nD τ).loc main_arg1) : FVec Ideal S8192x1024 .f32) (ix2 i k) = (A.tgt i k : EReal)
  p : ∀ i k, (m ((c.tc : Thread nD τ).loc main_arg2) : FVec Ideal S8192x5152 .f32) (ix2 i k) = (A.p i k : EReal)
  oF : ∀ i k, (m ((c.tc : Thread nD τ).loc main_arg3) : FVec Ideal S8192x512 .f32) (ix2 i k) = (A.oF i k : EReal)
  oB : ∀ i k, (m ((c.tc : Thread nD τ).loc main_arg4) : FVec Ideal S8192x512 .f32) (ix2 i k) = (A.oB i k : EReal)
  sv : ∀ i k, (m ((c.tc : Thread nD τ).loc main_arg5) : FVec Ideal S8192x512 .f32) (ix2 i k) = (A.sv i k : EReal)
  gate : ∀ k, (m ((c.tc : Thread nD τ).loc main_arg6) : FVec Ideal S1x1024 .f32) (ix2 (0 : Fin 1) k) = (A.gate k : EReal)
  gf : ∀ k, (m ((c.tc : Thread nD τ).loc main_arg7) : FVec Ideal S1x1024 .f32) (ix2 (0 : Fin 1) k) = (A.gf k : EReal)
  gbn : ∀ k, (m ((c.tc : Thread nD τ).loc main_arg8) : FVec Ideal S1x512 .f32) (ix2 (0 : Fin 1) k) = (A.gbn k : EReal)
  wa : ∀ i k, (m ((c.tc : Thread nD τ).loc main_arg9) : FVec Ideal S512x1024 .f32) (ix2 i k) = (A.wa i k : EReal)
  wb : ∀ i k, (m ((c.tc : Thread nD τ).loc main_arg10) : FVec Ideal S512x1024 .f32) (ix2 i k) = (A.wb i k : EReal)
  wo : ∀ i k, (m ((c.tc : Thread nD τ).loc main_arg11) : FVec Ideal S1024x1024 .f32) (ix2 i k) = (A.wo i k : EReal)

/-- The padded projection: its first columns, then the columns after the low-rank group, then that group and zeros. -/
theorem padded (c : Dev nD) (i : Fin 8192) (j : Fin 5248) (h : 1024 ≤ j.val) (h' : j.val < 5120) : (V m c main_v7 : FVec Ideal S8192x5248 .bf16) (ix2 i j)
    = (m ((c.tc : Thread nD τ).loc main_arg2) : FVec Ideal S8192x5152 .f32) (ix2 i ⟨j.val + 32, by omega⟩) := by
  have : (V m c main_v7 : FVec Ideal S8192x5248 .bf16) (ix2 i j)
      = if h : j.val < 1024 then (m ((c.tc : Thread nD τ).loc main_arg2) : FVec Ideal S8192x5152 .f32) (ix2 i ⟨j.val, by omega⟩)
        else if h1 : j.val - 1024 < 4096 then (m ((c.tc : Thread nD τ).loc main_arg2) : FVec Ideal S8192x5152 .f32) (ix2 i ⟨1056 + (j.val - 1024), by omega⟩)
        else if h2 : j.val - 1024 - 4096 < 32 then (m ((c.tc : Thread nD τ).loc main_arg2) : FVec Ideal S8192x5152 .f32) (ix2 i ⟨1024 + (j.val - 1024 - 4096), by omega⟩) else (0 : EReal) := by
    entry_read
    pointwise
  rw [this, dif_neg (by omega), dif_pos (by omega)]
  congr 3; omega

variable {m} {c : Dev nD} {A : Args}

theorem blk_zb (R : Reals m c A) (t : Fin cfg0.N) (a : Fin 256) (k : Fin 512) : X0_2 m c t (ix2 a k) = (A.zb (row t a) k : EReal) := by
  have e : X0_2 m c t (ix2 a k) = (V m c main_v7 : FVec Ideal S8192x5248 .bf16) (ix2 (row t a) ⟨1024 + k.val, by omega⟩) := by
    unfold X0_2; unfold Pipeline.Window.fill; rw [dif_pos (moved0_2 t _)]; unfold row; blk_ext [iblk, idx t]
  refine e.trans ((padded m c _ _ (by dsimp only; omega) (by dsimp only; omega)).trans ((R.p _ _).trans (congrArg Real.toEReal ?_)))
  unfold Args.zb; congr 1; apply Fin.ext; dsimp only; omega

theorem blk_ua (R : Reals m c A) (t : Fin cfg0.N) (a : Fin 256) (k : Fin 512) : X0_3 m c t (ix2 a k) = (A.ua (row t a) k : EReal) := by
  have e : X0_3 m c t (ix2 a k) = (V m c main_v7 : FVec Ideal S8192x5248 .bf16) (ix2 (row t a) ⟨1536 + k.val, by omega⟩) := by
    unfold X0_3; unfold Pipeline.Window.fill; rw [dif_pos (moved0_3 t _)]; unfold row; blk_ext [iblk, idx t]
  refine e.trans ((padded m c _ _ (by dsimp only; omega) (by dsimp only; omega)).trans ((R.p _ _).trans (congrArg Real.toEReal ?_)))
  unfold Args.ua; congr 1; apply Fin.ext; dsimp only; omega

theorem blk_za (R : Reals m c A) (t : Fin cfg0.N) (a : Fin 256) (k : Fin 512) : X0_4 m c t (ix2 a k) = (A.za (row t a) k : EReal) := by
  have e : X0_4 m c t (ix2 a k) = (V m c main_v7 : FVec Ideal S8192x5248 .bf16) (ix2 (row t a) ⟨2560 + k.val, by omega⟩) := by
    unfold X0_4; unfold Pipeline.Window.fill; rw [dif_pos (moved0_4 t _)]; unfold row; blk_ext [iblk, idx t]
  refine e.trans ((padded m c _ _ (by dsimp only; omega) (by dsimp only; omega)).trans ((R.p _ _).trans (congrArg Real.toEReal ?_)))
  unfold Args.za; congr 1; apply Fin.ext; dsimp only; omega

theorem blk_g1 (R : Reals m c A) (t : Fin cfg0.N) (a : Fin 256) (k : Fin 1024) : X0_5 m c t (ix2 a k) = (A.z1 (row t a) k : EReal) := by
  have e : X0_5 m c t (ix2 a k) = (V m c main_v7 : FVec Ideal S8192x5248 .bf16) (ix2 (row t a) ⟨3072 + k.val, by omega⟩) := by
    unfold X0_5; unfold Pipeline.Window.fill; rw [dif_pos (moved0_5 t _)]; unfold row; blk_ext [iblk, idx t]
  refine e.trans ((padded m c _ _ (by dsimp only; omega) (by dsimp only; omega)).trans ((R.p _ _).trans (congrArg Real.toEReal ?_)))
  unfold Args.z1; congr 1; apply Fin.ext; dsimp only; omega

theorem blk_g2 (R : Reals m c A) (t : Fin cfg0.N) (a : Fin 256) (k : Fin 1024) : X0_6 m c t (ix2 a k) = (A.z2 (row t a) k : EReal) := by
  have e : X0_6 m c t (ix2 a k) = (V m c main_v7 : FVec Ideal S8192x5248 .bf16) (ix2 (row t a) ⟨4096 + k.val, by omega⟩) := by
    unfold X0_6; unfold Pipeline.Window.fill; rw [dif_pos (moved0_6 t _)]; unfold row; blk_ext [iblk, idx t]
  refine e.trans ((padded m c _ _ (by dsimp only; omega) (by dsimp only; omega)).trans ((R.p _ _).trans (congrArg Real.toEReal ?_)))
  unfold Args.z2; congr 1; apply Fin.ext; dsimp only; omega

set_option maxHeartbeats 1600000 in
/-- The blocks of a grid point hold its rows of the arguments. -/
theorem holds (R : Reals m c A) (t : Fin cfg0.N) : Holds (blks m c t) A (row t) where
  x a k := by
    have e : (iblk m c 0 t : FVec Ideal S256x1024 .f32) (ix2 a k) = (V m c main_arg0 : FVec Ideal S8192x1024 .f32) (ix2 (row t a) k) := by
      unfold row; blk_ext [iblk, idx t]
    exact e.trans ((congrFun (V_main_arg0 m c) _).trans (R.x (row t a) k))
  tgt a k := by
    have e : (iblk m c 1 t : FVec Ideal S256x1024 .f32) (ix2 a k) = (V m c main_arg1 : FVec Ideal S8192x1024 .f32) (ix2 (row t a) k) := by
      unfold row; blk_ext [iblk, idx t]
    exact e.trans ((congrFun (V_main_arg1 m c) _).trans (R.tgt (row t a) k))
  oF a k := by
    have e : (iblk m c 7 t : FVec Ideal S256x512 .bf16) (ix2 a k) = (V m c main_v8 : FVec Ideal S8192x512 .bf16) (ix2 (row t a) k) := by
      unfold row; blk_ext [iblk, idx t]
    refine e.trans (Eq.trans (b := (m ((c.tc : Thread nD τ).loc main_arg3) : FVec Ideal S8192x512 .f32) (ix2 (row t a) k)) ?_ (R.oF (row t a) k))
    entry_read; pointwise
  oB a k := by
    have e : (iblk m c 8 t : FVec Ideal S256x512 .bf16) (ix2 a k) = (V m c main_v9 : FVec Ideal S8192x512 .bf16) (ix2 (row t a) k) := by
      unfold row; blk_ext [iblk, idx t]
    refine e.trans (Eq.trans (b := (m ((c.tc : Thread nD τ).loc main_arg4) : FVec Ideal S8192x512 .f32) (ix2 (row t a) k)) ?_ (R.oB (row t a) k))
    entry_read; pointwise
  sv a k := by
    have e : (iblk m c 9 t : FVec Ideal S256x512 .bf16) (ix2 a k) = (V m c main_v10 : FVec Ideal S8192x512 .bf16) (ix2 (row t a) k) := by
      unfold row; blk_ext [iblk, idx t]
    refine e.trans (Eq.trans (b := (m ((c.tc : Thread nD τ).loc main_arg5) : FVec Ideal S8192x512 .f32) (ix2 (row t a) k)) ?_ (R.sv (row t a) k))
    entry_read; pointwise
  gate k := by
    have e : (iblk m c 10 t : FVec Ideal S1x1024 .f32) (ix2 (0 : Fin 1) k) = (V m c main_arg6 : FVec Ideal S1x1024 .f32) (ix2 (0 : Fin 1) k) := by
      blk_ext [iblk, idx t]
    exact e.trans ((congrFun (V_main_arg6 m c) _).trans (R.gate k))
  gf k := by
    have e : (iblk m c 11 t : FVec Ideal S1x1024 .f32) (ix2 (0 : Fin 1) k) = (V m c main_arg7 : FVec Ideal S1x1024 .f32) (ix2 (0 : Fin 1) k) := by
      blk_ext [iblk, idx t]
    exact e.trans ((congrFun (V_main_arg7 m c) _).trans (R.gf k))
  gbn k := by
    have e : (iblk m c 12 t : FVec Ideal S1x512 .f32) (ix2 (0 : Fin 1) k) = (V m c main_arg8 : FVec Ideal S1x512 .f32) (ix2 (0 : Fin 1) k) := by
      blk_ext [iblk, idx t]
    exact e.trans ((congrFun (V_main_arg8 m c) _).trans (R.gbn k))
  wpa j k := by
    have e : (iblk m c 13 t : FVec Ideal S512x1024 .bf16) (ix2 j k) = (V m c main_v11 : FVec Ideal S512x1024 .bf16) (ix2 j k) := by
      blk_ext [iblk, idx t]
    refine e.trans (Eq.trans (b := (m ((c.tc : Thread nD τ).loc main_arg9) : FVec Ideal S512x1024 .f32) (ix2 j k)) ?_ (R.wa j k))
    entry_read; pointwise
  wpb j k := by
    have e : (iblk m c 14 t : FVec Ideal S512x1024 .bf16) (ix2 j k) = (V m c main_v12 : FVec Ideal S512x1024 .bf16) (ix2 j k) := by
      blk_ext [iblk, idx t]
    refine e.trans (Eq.trans (b := (m ((c.tc : Thread nD τ).loc main_arg10) : FVec Ideal S512x1024 .f32) (ix2 j k)) ?_ (R.wb j k))
    entry_read; pointwise
  wout j k := by
    have e : (iblk m c 15 t : FVec Ideal S1024x1024 .bf16) (ix2 j k) = (V m c main_v13 : FVec Ideal S1024x1024 .bf16) (ix2 j k) := by
      blk_ext [iblk, idx t]
    refine e.trans (Eq.trans (b := (m ((c.tc : Thread nD τ).loc main_arg11) : FVec Ideal S1024x1024 .f32) (ix2 j k)) ?_ (R.wo j k))
    entry_read; pointwise
  zb a k := blk_zb R t a k
  ua a k := blk_ua R t a k
  za a k := blk_za R t a k
  g1 a k := blk_g1 R t a k
  g2 a k := blk_g2 R t a k

end Cert.MidIdeal.Body

end
-- ==== Proof.Mid.Arrays.lean ====
module

public import proofs.«01_k».proof.Proof.Mid.Blocks
public import Idealize.ShloMosaic.Lib.Pipeline.ValueKit

/-! The twelve result arrays of the fused middle after the run. -/

@[expose] public section

set_option maxRecDepth 16384

noncomputable section

namespace Cert.MidIdeal.Body

open Idealize.ShloMosaic Idealize.ShloMosaic.TcCoe Idealize.SL.Sem
open Idealize.ShloMosaic.Pipeline (Dat)
open Cert.MidIdeal Cert.MidIdeal.Gen Cert.Mid Cert.Common

variable {m : (ℓ : Loc nD τ sig) → Buf (Elt Ideal) ℓ} {c : Dev nD} {A : Args}

/-- The last grid point. -/
def final : Fin cfg0.N := ⟨31, lt_of_lt_of_eq (by decide : 31 < 32) N_0.symm⟩

theorem final_val : final.val + 1 = cfg0.N := N_0.symm

/-- The sum over the points' rows is the sum over the array's rows. -/
theorem sum_rows (f : Fin 8192 → ℝ) : ∑ t : Fin cfg0.N, (((∑ a, f (row t a) : ℝ)) : EReal) = ((∑ i, f i : ℝ) : EReal) := by
  rw [← coe_sum]
  refine congrArg _ (Fin.sum_mul_add_congr (fun t a h => congrArg f (Fin.ext ?_)) (by rw [show cfg0.N = 32 from N_0]))
  show 256 * t.val + a.val = t.val * 256 + a.val
  rw [mul_comm]

/-- The row-wise results of every point. -/
theorem rows_of (R : Reals m c A) (t : Fin cfg0.N) : Rows (outsAt m c t.val t.isLt).1 A (row t) := by
  by_cases h : t.val = 0
  · rw [outsAt_start m c t h zeros]; exact rows_at c t _ (holds R t)
  · rw [outsAt_next m c t h]; exact rows_at c t _ (holds R t)

/-- An entry of the sums that starts at zero, and to which every point adds its rows' reals, ends as the sum over all rows. -/
theorem sum_of (g : Sums Ideal → EReal) (f : Fin 8192 → ℝ) (h0 : g zeros = 0)
    (hs : ∀ (t : Fin cfg0.N) (s : Sums Ideal), g (step (blks m c t) s) = g s + ((∑ a, f (row t a) : ℝ) : EReal)) :
    g (outsAt m c final.val final.isLt).2 = ((∑ i, f i : ℝ) : EReal) := by
  have := Pipeline.eq_sum_fin_of_reset_step_apply_last (fun n h (_ : Unit) => g (outsAt m c n h).2) 32 (fun _ => 0)
    (fun t _ => ((∑ a, f (row t a) : ℝ) : EReal))
    (fun t h k => by
      show g (outsAt m c t.val t.isLt).2 = _
      rw [outsAt_start m c t (by have := lt_of_lt_of_eq t.isLt N_0; omega) zeros, sums_at, ite_self, hs, h0])
    (fun t h k => by
      show g (outsAt m c t.val t.isLt).2 = _
      rw [outsAt_next m c t (by omega), sums_at, if_neg h, hs])
    (le_of_eq N_0) final final_val ()
  exact this.trans (by rw [zero_add, sum_rows f])

theorem final_dx (R : Reals m c A) :
    (dats m 0 c).arrAt 16 cfg0.N = ((fun y : S8192x1024.Idx => (A.dx (y 0) (y 1) : EReal)) : S8192x1024.Idx → EReal) := by
  refine (dats m 0 c).arrAt_eq_of_covers 16 _ (by decide +kernel) fun t hf y => ?_
  obtain ⟨a, k, rfl⟩ : ∃ (a : Fin 256) (k : Fin 1024), y = ix2 a k := ⟨y 0, y 1, eq_ix2 (n0 := 256) (n1 := 1024) y⟩
  blk_simp
  rw [after_dx, (rows_of R t).dx a k]
  have e : ((win0_16.blk t).view.emb (ix2 a k) : S8192x1024.Idx) = ix2 (row t a) k := by unfold row; blk_ext [idx t]
  rw [e]; rfl

theorem final_dzbua (R : Reals m c A) :
    (dats m 0 c).arrAt 17 cfg0.N = ((fun y : S8192x1024.Idx => (A.dzbua (y 0) (y 1) : EReal)) : S8192x1024.Idx → EReal) := by
  refine (dats m 0 c).arrAt_eq_of_covers 17 _ (by decide +kernel) fun t hf y => ?_
  obtain ⟨a, k, rfl⟩ : ∃ (a : Fin 256) (k : Fin 1024), y = ix2 a k := ⟨y 0, y 1, eq_ix2 (n0 := 256) (n1 := 1024) y⟩
  blk_simp
  rw [after_dzbua, (rows_of R t).dzbua a k]
  have e : ((win0_17.blk t).view.emb (ix2 a k) : S8192x1024.Idx) = ix2 (row t a) k := by unfold row; blk_ext [idx t]
  rw [e]; rfl

theorem final_dzag (R : Reals m c A) :
    (dats m 0 c).arrAt 18 cfg0.N = ((fun y : S8192x2560.Idx => (A.dzag (y 0) (y 1) : EReal)) : S8192x2560.Idx → EReal) := by
  refine (dats m 0 c).arrAt_eq_of_covers 18 _ (by decide +kernel) fun t hf y => ?_
  obtain ⟨a, k, rfl⟩ : ∃ (a : Fin 256) (k : Fin 2560), y = ix2 a k := ⟨y 0, y 1, eq_ix2 (n0 := 256) (n1 := 2560) y⟩
  blk_simp
  rw [after_dzag, (rows_of R t).dzag a k]
  have e : ((win0_18.blk t).view.emb (ix2 a k) : S8192x2560.Idx) = ix2 (row t a) k := by unfold row; blk_ext [idx t]
  rw [e]; rfl

theorem final_dsv (R : Reals m c A) :
    (dats m 0 c).arrAt 19 cfg0.N = ((fun y : S8192x512.Idx => (A.dsv (y 0) (y 1) : EReal)) : S8192x512.Idx → EReal) := by
  refine (dats m 0 c).arrAt_eq_of_covers 19 _ (by decide +kernel) fun t hf y => ?_
  obtain ⟨a, k, rfl⟩ : ∃ (a : Fin 256) (k : Fin 512), y = ix2 a k := ⟨y 0, y 1, eq_ix2 (n0 := 256) (n1 := 512) y⟩
  blk_simp
  rw [after_dsv, (rows_of R t).dsv a k]
  have e : ((win0_19.blk t).view.emb (ix2 a k) : S8192x512.Idx) = ix2 (row t a) k := by unfold row; blk_ext [idx t]
  rw [e]; rfl

theorem final_dO (R : Reals m c A) :
    (dats m 0 c).arrAt 20 cfg0.N = ((fun y : S8192x512.Idx => (A.dO (y 0) (y 1) : EReal)) : S8192x512.Idx → EReal) := by
  refine (dats m 0 c).arrAt_eq_of_covers 20 _ (by decide +kernel) fun t hf y => ?_
  obtain ⟨a, k, rfl⟩ : ∃ (a : Fin 256) (k : Fin 512), y = ix2 a k := ⟨y 0, y 1, eq_ix2 (n0 := 256) (n1 := 512) y⟩
  blk_simp
  rw [after_dO, (rows_of R t).dO a k]
  have e : ((win0_20.blk t).view.emb (ix2 a k) : S8192x512.Idx) = ix2 (row t a) k := by unfold row; blk_ext [idx t]
  rw [e]; rfl

/-! The sums over all rows. -/

theorem sum_dgf (R : Reals m c A) (k : Fin 1024) : (outsAt m c final.val final.isLt).2.dgf (ix2 (0 : Fin 1) k) = (A.dgf k : EReal) :=
  sum_of (fun s => s.dgf (ix2 (0 : Fin 1) k)) _ (by unfold zeros; pointwise [k0_pay7]) (fun t s => add_dgf (holds R t) s.dgf k)

theorem sum_dgate (R : Reals m c A) (k : Fin 1024) : (outsAt m c final.val final.isLt).2.dgate (ix2 (0 : Fin 1) k) = (A.dgate k : EReal) :=
  sum_of (fun s => s.dgate (ix2 (0 : Fin 1) k)) _ (by unfold zeros; pointwise [k0_pay8]) (fun t s => add_dgate (holds R t) s.dgate k)

theorem sum_dgbn (R : Reals m c A) (j : Fin 512) : (outsAt m c final.val final.isLt).2.dgbn (ix2 (0 : Fin 1) j) = (A.dgbn j : EReal) :=
  sum_of (fun s => s.dgbn (ix2 (0 : Fin 1) j)) _ (by unfold zeros; pointwise [k0_pay9]) (fun t s => add_dgbn (holds R t) s.dgbn j)

theorem sum_loss (R : Reals m c A) : (outsAt m c final.val final.isLt).2.loss (ix2 (0 : Fin 1) (0 : Fin 1)) = (A.loss : EReal) :=
  sum_of (fun s => s.loss (ix2 (0 : Fin 1) (0 : Fin 1))) _ (by unfold zeros; pointwise [k0_pay10]) (fun t s => add_loss (holds R t) s.loss)

theorem sum_dwo (R : Reals m c A) (k l : Fin 1024) : (outsAt m c final.val final.isLt).2.ao (ix2 k l) = (A.dwo k l : EReal) :=
  sum_of (fun s => s.ao (ix2 k l)) _ (by unfold zeros; pointwise [k0_pay4]) (fun t s => add_dwo (holds R t) s.ao k l)

theorem sum_dwa (R : Reals m c A) (j : Fin 512) (k : Fin 1024) : (outsAt m c final.val final.isLt).2.aa (ix2 j k) = (A.dwa j k : EReal) :=
  sum_of (fun s => s.aa (ix2 j k)) _ (by unfold zeros; pointwise [k0_pay5]) (fun t s => add_dwa (holds R t) s.aa j k)

theorem sum_dwb (R : Reals m c A) (j : Fin 512) (k : Fin 1024) : (outsAt m c final.val final.isLt).2.ab (ix2 j k) = (A.dwb j k : EReal) :=
  sum_of (fun s => s.ab (ix2 j k)) _ (by unfold zeros; pointwise [k0_pay6]) (fun t s => add_dwb (holds R t) s.ab j k)

/-- The last point writes the weights' gradients from the sums. -/
theorem cast_final (c : Dev nD) : (outsAt m c final.val final.isLt).1.wo16 = k0_pay1 (outsAt m c final.val final.isLt).2.ao
    ∧ (outsAt m c final.val final.isLt).1.wa16 = k0_pay2 (outsAt m c final.val final.isLt).2.aa
    ∧ (outsAt m c final.val final.isLt).1.wb16 = k0_pay3 (outsAt m c final.val final.isLt).2.ab := by
  rw [outsAt_next m c final (by decide)]
  exact cast_at c final _ (by decide)

theorem final_dwo (R : Reals m c A) : (dats m 0 c).arrAt 21 cfg0.N = ((fun y : S1024x1024.Idx => (A.dwo (y 0) (y 1) : EReal)) : S1024x1024.Idx → EReal) := by
  refine (dats m 0 c).arrAt_eq_of_after_last 21 final (by decide +kernel) _ fun y => ?_
  obtain ⟨i, k, rfl⟩ : ∃ (i : Fin 1024) (k : Fin 1024), y = ix2 i k := ⟨y 0, y 1, eq_ix2 (n0 := 1024) (n1 := 1024) y⟩
  blk_simp
  rw [after_wo16, (cast_final c).1]
  refine Eq.trans ?_ (sum_dwo R i k)
  pointwise [k0_pay1]

theorem final_dwa (R : Reals m c A) : (dats m 0 c).arrAt 22 cfg0.N = ((fun y : S512x1024.Idx => (A.dwa (y 0) (y 1) : EReal)) : S512x1024.Idx → EReal) := by
  refine (dats m 0 c).arrAt_eq_of_after_last 22 final (by decide +kernel) _ fun y => ?_
  obtain ⟨i, k, rfl⟩ : ∃ (i : Fin 512) (k : Fin 1024), y = ix2 i k := ⟨y 0, y 1, eq_ix2 (n0 := 512) (n1 := 1024) y⟩
  blk_simp
  rw [after_wa16, (cast_final c).2.1]
  refine Eq.trans ?_ (sum_dwa R i k)
  pointwise [k0_pay2]

theorem final_dwb (R : Reals m c A) : (dats m 0 c).arrAt 23 cfg0.N = ((fun y : S512x1024.Idx => (A.dwb (y 0) (y 1) : EReal)) : S512x1024.Idx → EReal) := by
  refine (dats m 0 c).arrAt_eq_of_after_last 23 final (by decide +kernel) _ fun y => ?_
  obtain ⟨i, k, rfl⟩ : ∃ (i : Fin 512) (k : Fin 1024), y = ix2 i k := ⟨y 0, y 1, eq_ix2 (n0 := 512) (n1 := 1024) y⟩
  blk_simp
  rw [after_wb16, (cast_final c).2.2]
  refine Eq.trans ?_ (sum_dwb R i k)
  pointwise [k0_pay3]

theorem final_dgf (R : Reals m c A) : (dats m 0 c).arrAt 24 cfg0.N = ((fun y : S1x1024.Idx => (A.dgf (y 1) : EReal)) : S1x1024.Idx → EReal) := by
  refine (dats m 0 c).arrAt_eq_of_after_last 24 final (by decide +kernel) _ fun y => ?_
  obtain ⟨i, k, rfl⟩ : ∃ (i : Fin 1) (k : Fin 1024), y = ix2 i k := ⟨y 0, y 1, eq_ix2 (n0 := 1) (n1 := 1024) y⟩
  obtain rfl : i = 0 := Subsingleton.elim _ _
  blk_simp
  rw [after_dgf]; exact sum_dgf R k

theorem final_dgate (R : Reals m c A) : (dats m 0 c).arrAt 25 cfg0.N = ((fun y : S1x1024.Idx => (A.dgate (y 1) : EReal)) : S1x1024.Idx → EReal) := by
  refine (dats m 0 c).arrAt_eq_of_after_last 25 final (by decide +kernel) _ fun y => ?_
  obtain ⟨i, k, rfl⟩ : ∃ (i : Fin 1) (k : Fin 1024), y = ix2 i k := ⟨y 0, y 1, eq_ix2 (n0 := 1) (n1 := 1024) y⟩
  obtain rfl : i = 0 := Subsingleton.elim _ _
  blk_simp
  rw [after_dgate]; exact sum_dgate R k

theorem final_dgbn (R : Reals m c A) : (dats m 0 c).arrAt 26 cfg0.N = ((fun y : S1x512.Idx => (A.dgbn (y 1) : EReal)) : S1x512.Idx → EReal) := by
  refine (dats m 0 c).arrAt_eq_of_after_last 26 final (by decide +kernel) _ fun y => ?_
  obtain ⟨i, k, rfl⟩ : ∃ (i : Fin 1) (k : Fin 512), y = ix2 i k := ⟨y 0, y 1, eq_ix2 (n0 := 1) (n1 := 512) y⟩
  obtain rfl : i = 0 := Subsingleton.elim _ _
  blk_simp
  rw [after_dgbn]; exact sum_dgbn R k

theorem final_loss (R : Reals m c A) : (dats m 0 c).arrAt 27 cfg0.N = ((fun y : S1x1.Idx => (A.loss : EReal)) : S1x1.Idx → EReal) := by
  refine (dats m 0 c).arrAt_eq_of_after_last 27 final (by decide +kernel) _ fun y => ?_
  obtain ⟨i, k, rfl⟩ : ∃ (i k : Fin 1), y = ix2 i k := ⟨y 0, y 1, eq_ix2 (n0 := 1) (n1 := 1) y⟩
  obtain rfl : i = 0 := Subsingleton.elim _ _
  obtain rfl : k = 0 := Subsingleton.elim _ _
  blk_simp
  rw [after_loss]; exact sum_loss R

/-- The run leaves the result arrays as the points left them, and the arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14_0) = (dats m 0 c).arrAt 16 cfg0.N
      ∧ r.2.mem ((c.tc : Thread nD τ).loc main_v14_1) = (dats m 0 c).arrAt 17 cfg0.N
      ∧ r.2.mem ((c.tc : Thread nD τ).loc main_v14_2) = (dats m 0 c).arrAt 18 cfg0.N
      ∧ r.2.mem ((c.tc : Thread nD τ).loc main_v14_3) = (dats m 0 c).arrAt 19 cfg0.N
      ∧ r.2.mem ((c.tc : Thread nD τ).loc main_v14_4) = (dats m 0 c).arrAt 20 cfg0.N
      ∧ r.2.mem ((c.tc : Thread nD τ).loc main_v14_5) = (dats m 0 c).arrAt 21 cfg0.N
      ∧ r.2.mem ((c.tc : Thread nD τ).loc main_v14_6) = (dats m 0 c).arrAt 22 cfg0.N
      ∧ r.2.mem ((c.tc : Thread nD τ).loc main_v14_7) = (dats m 0 c).arrAt 23 cfg0.N
      ∧ r.2.mem ((c.tc : Thread nD τ).loc main_v14_8) = (dats m 0 c).arrAt 24 cfg0.N
      ∧ r.2.mem ((c.tc : Thread nD τ).loc main_v14_9) = (dats m 0 c).arrAt 25 cfg0.N
      ∧ r.2.mem ((c.tc : Thread nD τ).loc main_v14_10) = (dats m 0 c).arrAt 26 cfg0.N
      ∧ r.2.mem ((c.tc : Thread nD τ).loc main_v14_11) = (dats m 0 c).arrAt 27 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, h.2 c⟩)
    (θ_run_and (run_main m ρ) (frame_of m ρ (dats m) (A_eq m) (run_main m ρ)))

end Cert.MidIdeal.Body

end
-- ==== Proof.Mid.Frames.lean ====
module

public import proofs.«01_k».proof.Defs
public import proofs.«01_k».proof.Proof.Mid.Frame
public import proofs.«01_k».proof.Proof.Gen.Mid

/-! The two frames of the fused middle, both from its one run. -/

@[expose] public section

set_option maxRecDepth 16384

namespace Cert.MidClaim

open Idealize.ShloMosaic Idealize.SL.Sem Cert.MidIdeal.Body

theorem frame_ideal : Cert.quiescent_MidIdeal := fun m ρ _ =>
  θ_run_and (Cert.MidIdeal.Gen.frame_of m ρ (dats m) (A_eq m) (run_main m ρ))
    ((θ_run Cert.MidIdeal.defs _ _).mono (fun _ h => h.2) (run_main_quiescent m ρ))

/-- The machine's program has the same text. -/
theorem frame_kernel : Cert.quiescent_Mid := by
  have h := fun (m : (ℓ : Loc Cert.MidIdeal.nD Cert.MidIdeal.τ Cert.MidIdeal.sig) → Buf (Elt Bits) ℓ) (ρ : Dev Cert.MidIdeal.nD → PrngReg) (_ : True) =>
    θ_run_and (Cert.MidIdeal.Gen.frame_of (F := Bits) m ρ (dats m) (A_eq m) (run_main m ρ))
      ((θ_run Cert.MidIdeal.defs _ _).mono (fun _ h => h.2) (run_main_quiescent m ρ))
  exact (show _ = Cert.quiescent_Mid by sl_kernel_rfl).mp h

end Cert.MidClaim

end
-- ==== Proof.Common.Reduce.lean ====
module

public import Idealize.ShloMosaic.PureOps.Ideal
public import Idealize.ShloMosaic.Lib.Pointwise

/-! Sums over axes of size one. -/

@[expose] public section

set_option maxRecDepth 16384

noncomputable section

namespace Cert.Common

open Idealize.ShloMosaic Idealize.ShloMosaic.TcCoe

/-- A sum over the first and the last axis, both of size one, is the element. -/
theorem reduce_ends {b c : ℕ} (h : (⟨4, ![1, b, c, 1]⟩ : Shape).ReducesTo [0, 3] ⟨2, ![b, c]⟩) (v : (⟨4, ![1, b, c, 1]⟩ : Shape).Idx → EReal)
    (i : Fin b) (k : Fin c) : Ideal.hostReduceAdd h v 0 (ix2 i k) = v (ix4 (0 : Fin 1) i k (0 : Fin 1)) := by
  rw [Ideal.hostReduceAdd, zero_add]
  refine Finset.sum_eq_single_of_mem _ ?_ fun y hy hn => absurd ?_ hn
  · rw [Finset.mem_filter]
    refine ⟨Finset.mem_univ _, funext fun a => Fin.ext ?_⟩
    match a with
    | ⟨0, _⟩ => exact h.drop_apply_val_of_eq _ _ 1 (hb := (by decide : (0 : ℕ) < 2)) (hc := rfl)
    | ⟨1, _⟩ => exact h.drop_apply_val_of_eq _ _ 2 (hb := (by decide : (1 : ℕ) < 2)) (hc := rfl)
  · have e := (Finset.mem_filter.mp hy).2
    have e0 := congrArg Fin.val (congrFun e 0)
    have e1 := congrArg Fin.val (congrFun e 1)
    rw [h.drop_apply_val_of_eq _ _ 1 (hb := (by decide : (0 : ℕ) < 2)) (hc := rfl)] at e0
    rw [h.drop_apply_val_of_eq _ _ 2 (hb := (by decide : (1 : ℕ) < 2)) (hc := rfl)] at e1
    refine funext fun a => Fin.ext ?_
    match a with
    | ⟨0, _⟩ => exact congrArg Fin.val (Subsingleton.elim (α := Fin 1) _ _)
    | ⟨1, _⟩ => exact e0
    | ⟨2, _⟩ => exact e1
    | ⟨3, _⟩ => exact congrArg Fin.val (Subsingleton.elim (α := Fin 1) _ _)

/-- The same over the first two axes. -/
theorem reduce_front {b c : ℕ} (h : (⟨4, ![1, 1, b, c]⟩ : Shape).ReducesTo [0, 1] ⟨2, ![b, c]⟩) (v : (⟨4, ![1, 1, b, c]⟩ : Shape).Idx → EReal)
    (i : Fin b) (k : Fin c) : Ideal.hostReduceAdd h v 0 (ix2 i k) = v (ix4 (0 : Fin 1) (0 : Fin 1) i k) := by
  rw [Ideal.hostReduceAdd, zero_add]
  refine Finset.sum_eq_single_of_mem _ ?_ fun y hy hn => absurd ?_ hn
  · rw [Finset.mem_filter]
    refine ⟨Finset.mem_univ _, funext fun a => Fin.ext ?_⟩
    match a with
    | ⟨0, _⟩ => exact h.drop_apply_val_of_eq _ _ 2 (hb := (by decide : (0 : ℕ) < 2)) (hc := rfl)
    | ⟨1, _⟩ => exact h.drop_apply_val_of_eq _ _ 3 (hb := (by decide : (1 : ℕ) < 2)) (hc := rfl)
  · have e := (Finset.mem_filter.mp hy).2
    have e0 := congrArg Fin.val (congrFun e 0)
    have e1 := congrArg Fin.val (congrFun e 1)
    rw [h.drop_apply_val_of_eq _ _ 2 (hb := (by decide : (0 : ℕ) < 2)) (hc := rfl)] at e0
    rw [h.drop_apply_val_of_eq _ _ 3 (hb := (by decide : (1 : ℕ) < 2)) (hc := rfl)] at e1
    refine funext fun a => Fin.ext ?_
    match a with
    | ⟨0, _⟩ => exact congrArg Fin.val (Subsingleton.elim (α := Fin 1) _ _)
    | ⟨1, _⟩ => exact congrArg Fin.val (Subsingleton.elim (α := Fin 1) _ _)
    | ⟨2, _⟩ => exact e0
    | ⟨3, _⟩ => exact e1

/-- The same of five axes, over the first and the fourth. -/
theorem reduce_ends5 {b c d : ℕ} (h : (⟨5, ![1, b, c, 1, d]⟩ : Shape).ReducesTo [0, 3] ⟨3, ![b, c, d]⟩) (v : (⟨5, ![1, b, c, 1, d]⟩ : Shape).Idx → EReal)
    (i : Fin b) (j : Fin c) (k : Fin d) : Ideal.hostReduceAdd h v 0 (ix3 i j k) = v (ix5 (0 : Fin 1) i j (0 : Fin 1) k) := by
  rw [Ideal.hostReduceAdd, zero_add]
  refine Finset.sum_eq_single_of_mem _ ?_ fun y hy hn => absurd ?_ hn
  · rw [Finset.mem_filter]
    refine ⟨Finset.mem_univ _, funext fun a => Fin.ext ?_⟩
    match a with
    | ⟨0, _⟩ => exact h.drop_apply_val_of_eq _ _ 1 (hb := (by decide : (0 : ℕ) < 3)) (hc := rfl)
    | ⟨1, _⟩ => exact h.drop_apply_val_of_eq _ _ 2 (hb := (by decide : (1 : ℕ) < 3)) (hc := rfl)
    | ⟨2, _⟩ => exact h.drop_apply_val_of_eq _ _ 4 (hb := (by decide : (2 : ℕ) < 3)) (hc := rfl)
  · have e := (Finset.mem_filter.mp hy).2
    have e0 := congrArg Fin.val (congrFun e 0)
    have e1 := congrArg Fin.val (congrFun e 1)
    have e2 := congrArg Fin.val (congrFun e 2)
    rw [h.drop_apply_val_of_eq _ _ 1 (hb := (by decide : (0 : ℕ) < 3)) (hc := rfl)] at e0
    rw [h.drop_apply_val_of_eq _ _ 2 (hb := (by decide : (1 : ℕ) < 3)) (hc := rfl)] at e1
    rw [h.drop_apply_val_of_eq _ _ 4 (hb := (by decide : (2 : ℕ) < 3)) (hc := rfl)] at e2
    refine funext fun a => Fin.ext ?_
    match a with
    | ⟨0, _⟩ => exact congrArg Fin.val (Subsingleton.elim (α := Fin 1) _ _)
    | ⟨1, _⟩ => exact e0
    | ⟨2, _⟩ => exact e1
    | ⟨3, _⟩ => exact congrArg Fin.val (Subsingleton.elim (α := Fin 1) _ _)
    | ⟨4, _⟩ => exact e2

end Cert.Common

end
-- ==== Proof.Mid.Ref.lean ====
module

public import proofs.«01_k».proof.Proof.Gen.MidRefIdeal.Read
public import proofs.«01_k».proof.Proof.Mid.Formula
public import proofs.«01_k».proof.Proof.Common.Reduce

/-! The reference's twelve results where its arguments are real. -/

@[expose] public section

set_option maxRecDepth 16384

noncomputable section

namespace Cert.MidRefIdeal.Read

open Idealize.ShloMosaic Idealize.ShloMosaic.TcCoe Idealize.SL.Sem
open Cert.MidRefIdeal Cert.MidRefIdeal.Gen Cert.Mid Cert.Common

variable {x0 x1 : FVec Ideal S8192x1024 .f32} {x2 : FVec Ideal S8192x5152 .f32} {x3 x4 x5 : FVec Ideal S8192x512 .f32}
  {x6 x7 : FVec Ideal S1x1024 .f32} {x8 : FVec Ideal S1x512 .f32} {x9 x10 : FVec Ideal S512x1024 .f32} {x11 : FVec Ideal S1024x1024 .f32}
  {A : Args}

/-- The reference's arguments hold the real arrays `A`. -/
structure Given (x0 x1 : FVec Ideal S8192x1024 .f32) (x2 : FVec Ideal S8192x5152 .f32) (x3 x4 x5 : FVec Ideal S8192x512 .f32)
    (x6 x7 : FVec Ideal S1x1024 .f32) (x8 : FVec Ideal S1x512 .f32) (x9 x10 : FVec Ideal S512x1024 .f32) (x11 : FVec Ideal S1024x1024 .f32)
    (A : Args) : Prop where
  x : ∀ i k, x0 (ix2 i k) = (A.x i k : EReal)
  tgt : ∀ i k, x1 (ix2 i k) = (A.tgt i k : EReal)
  p : ∀ i k, x2 (ix2 i k) = (A.p i k : EReal)
  oF : ∀ i k, x3 (ix2 i k) = (A.oF i k : EReal)
  oB : ∀ i k, x4 (ix2 i k) = (A.oB i k : EReal)
  sv : ∀ i k, x5 (ix2 i k) = (A.sv i k : EReal)
  gate : ∀ k, x6 (ix2 (0 : Fin 1) k) = (A.gate k : EReal)
  gf : ∀ k, x7 (ix2 (0 : Fin 1) k) = (A.gf k : EReal)
  gbn : ∀ k, x8 (ix2 (0 : Fin 1) k) = (A.gbn k : EReal)
  wa : ∀ i k, x9 (ix2 i k) = (A.wa i k : EReal)
  wb : ∀ i k, x10 (ix2 i k) = (A.wb i k : EReal)
  wo : ∀ i k, x11 (ix2 i k) = (A.wo i k : EReal)

variable (G : Given x0 x1 x2 x3 x4 x5 x6 x7 x8 x9 x10 x11 A)
include G

theorem r_o (i : Fin 8192) (h : Fin 4) (l : Fin 128) : val_main_v2 (F := Ideal) x3 x4 (ix4 (0 : Fin 1) i h l) = ((A.o i (cell h l) : ℝ) : EReal) := by
  have e : (val_main_v2 (F := Ideal) x3 x4 (ix4 (0 : Fin 1) i h l) : EReal) =
      x3 (ix2 i ⟨h.val * 128 + l.val, by omega⟩) + x4 (ix2 i ⟨h.val * 128 + l.val, by omega⟩) := by
    pointwise [val_main_v2, val_main_v1]
  rw [e]
  simp only [G.oF, G.oB, ← EReal.coe_one, ← EReal.coe_add, ← EReal.coe_sub, ← EReal.coe_mul, ← coe_sum]
  rfl

theorem r_mo (i : Fin 8192) (h : Fin 4) : val_main_v11 (F := Ideal) x3 x4 (ix4 (0 : Fin 1) i h (0 : Fin 1)) = ((A.mo i h : ℝ) : EReal) := by
  have e : (val_main_v11 (F := Ideal) x3 x4 (ix4 (0 : Fin 1) i h (0 : Fin 1)) : EReal) =
      Ideal.div (∑ l, (val_main_v2 (F := Ideal) x3 x4 (ix4 (0 : Fin 1) i h l) : EReal) * (val_main_v2 (F := Ideal) x3 x4 (ix4 (0 : Fin 1) i h l) : EReal)) (Ideal.ofBits .f32 0x43000000#32) + Ideal.ofBits .f32 0x358637BD#32 := by
    pointwise [val_main_v11, val_main_v10, val_main_v9, val_main_cst_1, val_main_v7, val_main_v8, val_main_v6, val_main_cst_0, val_main_cst, val_main_v5]
  rw [e]
  simp only [r_o G, ofBits_128, ofBits_eps, ← EReal.coe_one, ← EReal.coe_add, ← EReal.coe_sub, ← EReal.coe_mul, ← coe_sum]
  rw [div_real _ (by norm_num), ← EReal.coe_add]
  rfl

theorem r_rr (i : Fin 8192) (h : Fin 4) : val_main_v12 (F := Ideal) x3 x4 (ix4 (0 : Fin 1) i h (0 : Fin 1)) = ((A.rr i h : ℝ) : EReal) := by
  have e : (val_main_v12 (F := Ideal) x3 x4 (ix4 (0 : Fin 1) i h (0 : Fin 1)) : EReal) =
      Ideal.rsqrt (val_main_v11 (F := Ideal) x3 x4 (ix4 (0 : Fin 1) i h (0 : Fin 1)) : EReal) := by
    pointwise [val_main_v12]
  rw [e]
  rw [r_mo G, rsqrt_real (A.mo_pos i h)]
  rfl

theorem r_rh (i : Fin 8192) (h : Fin 4) : val_main_v15 (F := Ideal) x3 x4 (ix4 (0 : Fin 1) i h (0 : Fin 1)) = ((-(1 / 2) * (A.rr i h / A.mo i h) : ℝ) : EReal) := by
  have e : (val_main_v15 (F := Ideal) x3 x4 (ix4 (0 : Fin 1) i h (0 : Fin 1)) : EReal) =
      Ideal.ofBits .f32 0xBF000000#32 * Ideal.div (val_main_v12 (F := Ideal) x3 x4 (ix4 (0 : Fin 1) i h (0 : Fin 1)) : EReal) (val_main_v11 (F := Ideal) x3 x4 (ix4 (0 : Fin 1) i h (0 : Fin 1)) : EReal) := by
    pointwise [val_main_v15, val_main_v13, val_main_v14, val_main_cst_2]
  rw [e]
  rw [r_mo G, r_rr G, div_real _ (A.mo_pos i h).ne', ofBits_neg_half, ← EReal.coe_mul]

theorem r_oh (i : Fin 8192) (h : Fin 4) (l : Fin 128) : val_main_v17 (F := Ideal) x3 x4 (ix4 (0 : Fin 1) i h l) = ((A.o i (cell h l) * A.rr i h : ℝ) : EReal) := by
  have e : (val_main_v17 (F := Ideal) x3 x4 (ix4 (0 : Fin 1) i h l) : EReal) =
      (val_main_v2 (F := Ideal) x3 x4 (ix4 (0 : Fin 1) i h l) : EReal) * (val_main_v12 (F := Ideal) x3 x4 (ix4 (0 : Fin 1) i h (0 : Fin 1)) : EReal) := by
    pointwise [val_main_v17, val_main_v16]
  rw [e]
  simp only [r_o G, r_rr G, ← EReal.coe_one, ← EReal.coe_add, ← EReal.coe_sub, ← EReal.coe_mul, ← coe_sum]

theorem r_on4 (i : Fin 8192) (h : Fin 4) (l : Fin 128) : val_main_v21 (F := Ideal) x3 x4 x8 (ix4 (0 : Fin 1) i h l) = ((A.on i (cell h l) : ℝ) : EReal) := by
  have e : (val_main_v21 (F := Ideal) x3 x4 x8 (ix4 (0 : Fin 1) i h l) : EReal) =
      (val_main_v17 (F := Ideal) x3 x4 (ix4 (0 : Fin 1) i h l) : EReal) * x8 (ix2 (0 : Fin 1) ⟨h.val * 128 + l.val, by omega⟩) := by
    pointwise [val_main_v21, val_main_v20, val_main_v19, val_main_v18]
  rw [e]
  simp only [r_oh G, G.gbn, ← EReal.coe_one, ← EReal.coe_add, ← EReal.coe_sub, ← EReal.coe_mul, ← coe_sum]
  rw [show A.on i (cell h l) = A.o i (cell h l) * A.rr i (head (cell h l)) * A.gbn (cell h l) from rfl, head_cell]
  rfl

theorem r_on (i : Fin 8192) (j : Fin 512) : val_main_v22 (F := Ideal) x3 x4 x8 (ix3 (0 : Fin 1) i j) = ((A.on i j : ℝ) : EReal) := by
  have e : (val_main_v22 (F := Ideal) x3 x4 x8 (ix3 (0 : Fin 1) i j) : EReal) =
      (val_main_v21 (F := Ideal) x3 x4 x8 (ix4 (0 : Fin 1) i ⟨j.val / 128, by omega⟩ ⟨j.val % 128, by omega⟩) : EReal) := by
    pointwise [val_main_v22]
  rw [e]
  rw [r_on4 G]
  exact congrArg (fun j => (A.on i j : EReal)) (cell_head j)

theorem r_sgb (i : Fin 8192) (j : Fin 512) : val_main_v23_2 (F := Ideal) x2 (ix3 (0 : Fin 1) i j) = ((Common.sig (A.zb i j) : ℝ) : EReal) := by
  have e : (val_main_v23_2 (F := Ideal) x2 (ix3 (0 : Fin 1) i j) : EReal) =
      Ideal.div 1 (1 + Ideal.exp (-x2 (ix2 i ⟨1056 + j.val, by omega⟩))) := by
    pointwise [val_main_v23_2, val_main_call0_v3, val_main_call0_v4, val_main_call0_v1, val_main_call0_v2, val_main_call0_cst_0, val_main_call0_v0, val_main_call0_cst, val_main_v4, val_main_v3]
  rw [e]
  rw [G.p, sig_real]
  rfl

theorem r_silub (i : Fin 8192) (j : Fin 512) : val_main_v23_0 (F := Ideal) x2 (ix3 (0 : Fin 1) i j) = ((silu (A.zb i j) : ℝ) : EReal) := by
  have e : (val_main_v23_0 (F := Ideal) x2 (ix3 (0 : Fin 1) i j) : EReal) =
      x2 (ix2 i ⟨1056 + j.val, by omega⟩) * (val_main_v23_2 (F := Ideal) x2 (ix3 (0 : Fin 1) i j) : EReal) := by
    pointwise [val_main_v23_0, val_main_v4, val_main_v3]
  rw [e]
  simp only [G.p, r_sgb G, ← EReal.coe_one, ← EReal.coe_add, ← EReal.coe_sub, ← EReal.coe_mul, ← coe_sum]
  rfl

theorem r_dsb (i : Fin 8192) (j : Fin 512) : val_main_v23_1 (F := Ideal) x2 (ix3 (0 : Fin 1) i j) = ((Common.sig (A.zb i j) * (1 - Common.sig (A.zb i j)) : ℝ) : EReal) := by
  have e : (val_main_v23_1 (F := Ideal) x2 (ix3 (0 : Fin 1) i j) : EReal) =
      (val_main_v23_2 (F := Ideal) x2 (ix3 (0 : Fin 1) i j) : EReal) * ((1 : EReal) - (val_main_v23_2 (F := Ideal) x2 (ix3 (0 : Fin 1) i j) : EReal)) := by
    pointwise [val_main_v23_1, val_main_call0_v7, val_main_call0_v6, val_main_call0_cst_1]
  rw [e]
  simp only [r_sgb G, ← EReal.coe_one, ← EReal.coe_add, ← EReal.coe_sub, ← EReal.coe_mul, ← coe_sum]

theorem r_sga (i : Fin 8192) (j : Fin 512) : val_main_v29_2 (F := Ideal) x2 (ix2 i j) = ((Common.sig (A.za i j) : ℝ) : EReal) := by
  have e : (val_main_v29_2 (F := Ideal) x2 (ix2 i j) : EReal) =
      Ideal.div 1 (1 + Ideal.exp (-x2 (ix2 i ⟨2592 + j.val, by omega⟩))) := by
    pointwise [val_main_v29_2, val_main_call1_v3, val_main_call1_v4, val_main_call1_v1, val_main_call1_v2, val_main_call1_cst_0, val_main_call1_v0, val_main_call1_cst, val_main_v0]
  rw [e]
  rw [G.p, sig_real]
  rfl

theorem r_silua (i : Fin 8192) (j : Fin 512) : val_main_v29_0 (F := Ideal) x2 (ix2 i j) = ((silu (A.za i j) : ℝ) : EReal) := by
  have e : (val_main_v29_0 (F := Ideal) x2 (ix2 i j) : EReal) =
      x2 (ix2 i ⟨2592 + j.val, by omega⟩) * (val_main_v29_2 (F := Ideal) x2 (ix2 i j) : EReal) := by
    pointwise [val_main_v29_0, val_main_v0]
  rw [e]
  simp only [G.p, r_sga G, ← EReal.coe_one, ← EReal.coe_add, ← EReal.coe_sub, ← EReal.coe_mul, ← coe_sum]
  rfl

theorem r_dsa (i : Fin 8192) (j : Fin 512) : val_main_v29_1 (F := Ideal) x2 (ix2 i j) = ((Common.sig (A.za i j) * (1 - Common.sig (A.za i j)) : ℝ) : EReal) := by
  have e : (val_main_v29_1 (F := Ideal) x2 (ix2 i j) : EReal) =
      (val_main_v29_2 (F := Ideal) x2 (ix2 i j) : EReal) * ((1 : EReal) - (val_main_v29_2 (F := Ideal) x2 (ix2 i j) : EReal)) := by
    pointwise [val_main_v29_1, val_main_call1_v7, val_main_call1_v6, val_main_call1_cst_1]
  rw [e]
  simp only [r_sga G, ← EReal.coe_one, ← EReal.coe_add, ← EReal.coe_sub, ← EReal.coe_mul, ← coe_sum]

theorem r_tb (i : Fin 8192) (j : Fin 512) : val_main_v24 (F := Ideal) x2 x3 x4 x8 (ix3 (0 : Fin 1) i j) = ((A.tb i j : ℝ) : EReal) := by
  have e : (val_main_v24 (F := Ideal) x2 x3 x4 x8 (ix3 (0 : Fin 1) i j) : EReal) =
      (val_main_v22 (F := Ideal) x3 x4 x8 (ix3 (0 : Fin 1) i j) : EReal) * (val_main_v23_0 (F := Ideal) x2 (ix3 (0 : Fin 1) i j) : EReal) := by
    pointwise [val_main_v24]
  rw [e]
  simp only [r_on G, r_silub G, ← EReal.coe_one, ← EReal.coe_add, ← EReal.coe_sub, ← EReal.coe_mul, ← coe_sum]
  rfl

theorem r_yb (i : Fin 8192) (k : Fin 1024) : val_main_v26 (F := Ideal) x2 x3 x4 x8 x10 (ix2 i k) = ((A.yb i k : ℝ) : EReal) := by
  have e : (val_main_v26 (F := Ideal) x2 x3 x4 x8 x10 (ix2 i k) : EReal) =
      ∑ j, (val_main_v24 (F := Ideal) x2 x3 x4 x8 (ix3 (0 : Fin 1) i j) : EReal) * x10 (ix2 j k) := by
    pointwise [val_main_v26, val_main_v25]
  rw [e]
  simp only [r_tb G, G.wb, ← EReal.coe_one, ← EReal.coe_add, ← EReal.coe_sub, ← EReal.coe_mul, ← coe_sum]
  rfl

theorem r_us (i : Fin 8192) (j : Fin 512) : val_main_v28 (F := Ideal) x2 x5 (ix2 i j) = ((A.ua i j * A.sv i j : ℝ) : EReal) := by
  have e : (val_main_v28 (F := Ideal) x2 x5 (ix2 i j) : EReal) =
      x2 (ix2 i ⟨1568 + j.val, by omega⟩) * x5 (ix2 i j) := by
    pointwise [val_main_v28, val_main_v27]
  rw [e]
  simp only [G.p, G.sv, ← EReal.coe_one, ← EReal.coe_add, ← EReal.coe_sub, ← EReal.coe_mul, ← coe_sum]
  rfl

theorem r_ta (i : Fin 8192) (j : Fin 512) : val_main_v30 (F := Ideal) x2 x5 (ix2 i j) = ((A.ta i j : ℝ) : EReal) := by
  have e : (val_main_v30 (F := Ideal) x2 x5 (ix2 i j) : EReal) =
      (val_main_v28 (F := Ideal) x2 x5 (ix2 i j) : EReal) * (val_main_v29_0 (F := Ideal) x2 (ix2 i j) : EReal) := by
    pointwise [val_main_v30]
  rw [e]
  simp only [r_us G, r_silua G, ← EReal.coe_one, ← EReal.coe_add, ← EReal.coe_sub, ← EReal.coe_mul, ← coe_sum]
  rfl

theorem r_ya (i : Fin 8192) (k : Fin 1024) : val_main_v31 (F := Ideal) x2 x5 x9 (ix2 i k) = ((A.ya i k : ℝ) : EReal) := by
  have e : (val_main_v31 (F := Ideal) x2 x5 x9 (ix2 i k) : EReal) =
      ∑ j, (val_main_v30 (F := Ideal) x2 x5 (ix2 i j) : EReal) * x9 (ix2 j k) := by
    pointwise [val_main_v31]
  rw [e]
  simp only [r_ta G, G.wa, ← EReal.coe_one, ← EReal.coe_add, ← EReal.coe_sub, ← EReal.coe_mul, ← coe_sum]
  rfl

theorem r_gs (i : Fin 8192) (q : Fin 2048) : val_main_v38 (F := Ideal) x2 (ix2 i q) = ((Common.sig (A.p i ⟨3104 + q.val, by omega⟩) : ℝ) : EReal) := by
  have e : (val_main_v38 (F := Ideal) x2 (ix2 i q) : EReal) =
      Ideal.div 1 (1 + Ideal.exp (-x2 (ix2 i ⟨3104 + q.val, by omega⟩))) := by
    pointwise [val_main_v38, val_main_v36, val_main_v37, val_main_v34, val_main_v35, val_main_cst_4, val_main_v33, val_main_cst_3, val_main_v32]
  rw [e]
  rw [G.p, sig_real]

theorem r_g1 (i : Fin 8192) (k : Fin 1024) : val_main_v42 (F := Ideal) x2 (ix2 i k) = ((A.g1 i k : ℝ) : EReal) := by
  have e : (val_main_v42 (F := Ideal) x2 (ix2 i k) : EReal) =
      (val_main_v38 (F := Ideal) x2 (ix2 i ⟨k.val, by omega⟩) : EReal) := by
    pointwise [val_main_v42]
  rw [e]
  simp only [r_gs G, ← EReal.coe_one, ← EReal.coe_add, ← EReal.coe_sub, ← EReal.coe_mul, ← coe_sum]
  rfl

theorem r_g2 (i : Fin 8192) (k : Fin 1024) : val_main_v44 (F := Ideal) x2 (ix2 i k) = ((A.g2 i k : ℝ) : EReal) := by
  have e : (val_main_v44 (F := Ideal) x2 (ix2 i k) : EReal) =
      (val_main_v38 (F := Ideal) x2 (ix2 i ⟨1024 + k.val, by omega⟩) : EReal) := by
    pointwise [val_main_v44]
  rw [e]
  simp only [r_gs G, ← EReal.coe_one, ← EReal.coe_add, ← EReal.coe_sub, ← EReal.coe_mul, ← coe_sum]
  exact congrArg (fun q => ((Common.sig (A.p i q) : ℝ) : EReal)) (Fin.ext (by simp only; omega))

theorem r_mg (i : Fin 8192) (k : Fin 1024) : val_main_v46 (F := Ideal) x2 x3 x4 x5 x8 x9 x10 (ix2 i k) = ((A.mg i k : ℝ) : EReal) := by
  have e : (val_main_v46 (F := Ideal) x2 x3 x4 x5 x8 x9 x10 (ix2 i k) : EReal) =
      (val_main_v42 (F := Ideal) x2 (ix2 i k) : EReal) * (val_main_v31 (F := Ideal) x2 x5 x9 (ix2 i k) : EReal) + (val_main_v44 (F := Ideal) x2 (ix2 i k) : EReal) * (val_main_v26 (F := Ideal) x2 x3 x4 x8 x10 (ix2 i k) : EReal) := by
    pointwise [val_main_v46, val_main_v43, val_main_v45]
  rw [e]
  simp only [r_g1 G, r_g2 G, r_ya G, r_yb G, ← EReal.coe_one, ← EReal.coe_add, ← EReal.coe_sub, ← EReal.coe_mul, ← coe_sum]
  rfl

theorem r_y2 (i : Fin 8192) (k : Fin 1024) : val_main_v47 (F := Ideal) x2 x3 x4 x5 x8 x9 x10 x11 (ix2 i k) = ((A.y2 i k : ℝ) : EReal) := by
  have e : (val_main_v47 (F := Ideal) x2 x3 x4 x5 x8 x9 x10 x11 (ix2 i k) : EReal) =
      ∑ l, (val_main_v46 (F := Ideal) x2 x3 x4 x5 x8 x9 x10 (ix2 i l) : EReal) * x11 (ix2 l k) := by
    pointwise [val_main_v47]
  rw [e]
  simp only [r_mg G, G.wo, ← EReal.coe_one, ← EReal.coe_add, ← EReal.coe_sub, ← EReal.coe_mul, ← coe_sum]
  rfl

theorem r_x1 (i : Fin 8192) (k : Fin 1024) : val_main_v50 (F := Ideal) x0 x2 x3 x4 x5 x6 x8 x9 x10 x11 (ix2 i k) = ((A.x1 i k : ℝ) : EReal) := by
  have e : (val_main_v50 (F := Ideal) x0 x2 x3 x4 x5 x6 x8 x9 x10 x11 (ix2 i k) : EReal) =
      x0 (ix2 i k) + x6 (ix2 (0 : Fin 1) k) * (val_main_v47 (F := Ideal) x2 x3 x4 x5 x8 x9 x10 x11 (ix2 i k) : EReal) := by
    pointwise [val_main_v50, val_main_v49, val_main_v48]
  rw [e]
  simp only [G.x, G.gate, r_y2 G, ← EReal.coe_one, ← EReal.coe_add, ← EReal.coe_sub, ← EReal.coe_mul, ← coe_sum]
  rfl

theorem r_m1 (i : Fin 8192) : val_main_v57 (F := Ideal) x0 x2 x3 x4 x5 x6 x8 x9 x10 x11 (ix2 i (0 : Fin 1)) = ((A.m1 i : ℝ) : EReal) := by
  have e : (val_main_v57 (F := Ideal) x0 x2 x3 x4 x5 x6 x8 x9 x10 x11 (ix2 i (0 : Fin 1)) : EReal) =
      Ideal.div (∑ k, (val_main_v50 (F := Ideal) x0 x2 x3 x4 x5 x6 x8 x9 x10 x11 (ix2 i k) : EReal) * (val_main_v50 (F := Ideal) x0 x2 x3 x4 x5 x6 x8 x9 x10 x11 (ix2 i k) : EReal)) (Ideal.ofBits .f32 0x44800000#32) + Ideal.ofBits .f32 0x358637BD#32 := by
    pointwise [val_main_v57, val_main_v55, val_main_v56, val_main_v53, val_main_v54, val_main_cst_8, val_main_v52, val_main_cst_7, val_main_cst_6, val_main_v51]
  rw [e]
  simp only [r_x1 G, ofBits_1024, ofBits_eps, ← EReal.coe_one, ← EReal.coe_add, ← EReal.coe_sub, ← EReal.coe_mul, ← coe_sum]
  rw [div_real _ (by norm_num), ← EReal.coe_add]
  rfl

theorem r_r1 (i : Fin 8192) : val_main_v58 (F := Ideal) x0 x2 x3 x4 x5 x6 x8 x9 x10 x11 (ix2 i (0 : Fin 1)) = ((A.r1 i : ℝ) : EReal) := by
  have e : (val_main_v58 (F := Ideal) x0 x2 x3 x4 x5 x6 x8 x9 x10 x11 (ix2 i (0 : Fin 1)) : EReal) =
      Ideal.rsqrt (val_main_v57 (F := Ideal) x0 x2 x3 x4 x5 x6 x8 x9 x10 x11 (ix2 i (0 : Fin 1)) : EReal) := by
    pointwise [val_main_v58]
  rw [e]
  rw [r_m1 G, rsqrt_real (A.m1_pos i)]
  rfl

theorem r_h1 (i : Fin 8192) : val_main_v61 (F := Ideal) x0 x2 x3 x4 x5 x6 x8 x9 x10 x11 (ix2 i (0 : Fin 1)) = ((-(1 / 2) * (A.r1 i / A.m1 i) : ℝ) : EReal) := by
  have e : (val_main_v61 (F := Ideal) x0 x2 x3 x4 x5 x6 x8 x9 x10 x11 (ix2 i (0 : Fin 1)) : EReal) =
      Ideal.ofBits .f32 0xBF000000#32 * Ideal.div (val_main_v58 (F := Ideal) x0 x2 x3 x4 x5 x6 x8 x9 x10 x11 (ix2 i (0 : Fin 1)) : EReal) (val_main_v57 (F := Ideal) x0 x2 x3 x4 x5 x6 x8 x9 x10 x11 (ix2 i (0 : Fin 1)) : EReal) := by
    pointwise [val_main_v61, val_main_v59, val_main_v60, val_main_cst_9]
  rw [e]
  rw [r_m1 G, r_r1 G, div_real _ (A.m1_pos i).ne', ofBits_neg_half, ← EReal.coe_mul]

theorem r_xn (i : Fin 8192) (k : Fin 1024) : val_main_v63 (F := Ideal) x0 x2 x3 x4 x5 x6 x8 x9 x10 x11 (ix2 i k) = ((A.x1n i k : ℝ) : EReal) := by
  have e : (val_main_v63 (F := Ideal) x0 x2 x3 x4 x5 x6 x8 x9 x10 x11 (ix2 i k) : EReal) =
      (val_main_v50 (F := Ideal) x0 x2 x3 x4 x5 x6 x8 x9 x10 x11 (ix2 i k) : EReal) * (val_main_v58 (F := Ideal) x0 x2 x3 x4 x5 x6 x8 x9 x10 x11 (ix2 i (0 : Fin 1)) : EReal) := by
    pointwise [val_main_v63, val_main_v62]
  rw [e]
  simp only [r_x1 G, r_r1 G, ← EReal.coe_one, ← EReal.coe_add, ← EReal.coe_sub, ← EReal.coe_mul, ← coe_sum]
  rfl

theorem r_err (i : Fin 8192) (k : Fin 1024) : val_main_v66 (F := Ideal) x0 x1 x2 x3 x4 x5 x6 x7 x8 x9 x10 x11 (ix2 i k) = ((A.err i k : ℝ) : EReal) := by
  have e : (val_main_v66 (F := Ideal) x0 x1 x2 x3 x4 x5 x6 x7 x8 x9 x10 x11 (ix2 i k) : EReal) =
      (val_main_v63 (F := Ideal) x0 x2 x3 x4 x5 x6 x8 x9 x10 x11 (ix2 i k) : EReal) * x7 (ix2 (0 : Fin 1) k) - x1 (ix2 i k) := by
    pointwise [val_main_v66, val_main_v65, val_main_v64]
  rw [e]
  simp only [r_xn G, G.gf, G.tgt, ← EReal.coe_one, ← EReal.coe_add, ← EReal.coe_sub, ← EReal.coe_mul, ← coe_sum]
  rfl

theorem r_dout (i : Fin 8192) (k : Fin 1024) : val_main_v80 (F := Ideal) x0 x1 x2 x3 x4 x5 x6 x7 x8 x9 x10 x11 (ix2 i k) = ((A.dout i k : ℝ) : EReal) := by
  have e : (val_main_v80 (F := Ideal) x0 x1 x2 x3 x4 x5 x6 x7 x8 x9 x10 x11 (ix2 i k) : EReal) =
      Ideal.div (Ideal.ofBits .f32 0x3F000000#32 * (1 : EReal)) (Ideal.ofBits .f32 0x44800000#32) * (Ideal.ofBits .f32 0x40000000#32 * (val_main_v66 (F := Ideal) x0 x1 x2 x3 x4 x5 x6 x7 x8 x9 x10 x11 (ix2 i k) : EReal)) := by
    pointwise [val_main_v80, val_main_v69, val_main_v79, val_main_v68, val_main_v78, val_main_cst_10, val_main_v76, val_main_v77, val_main_v75, val_main_cst_17, val_main_cst_15, val_main_cst_16]
  rw [e]
  simp only [r_err G, ofBits_half, ofBits_2, ofBits_1024, ← EReal.coe_one, ← EReal.coe_add, ← EReal.coe_sub, ← EReal.coe_mul, ← coe_sum]
  rw [div_real _ (by norm_num), ← EReal.coe_mul]
  exact congrArg _ (by unfold Args.dout; ring)

/-- The loss. -/
theorem r_loss  : val_main_v172 (F := Ideal) x0 x1 x2 x3 x4 x5 x6 x7 x8 x9 x10 x11 (ix2 (0 : Fin 1) (0 : Fin 1)) = ((A.loss : ℝ) : EReal) := by
  have e : (val_main_v172 (F := Ideal) x0 x1 x2 x3 x4 x5 x6 x7 x8 x9 x10 x11 (ix2 (0 : Fin 1) (0 : Fin 1)) : EReal) =
      Ideal.ofBits .f32 0x3F000000#32 * ∑ i, Ideal.div (∑ k, (val_main_v66 (F := Ideal) x0 x1 x2 x3 x4 x5 x6 x7 x8 x9 x10 x11 (ix2 i k) : EReal) * (val_main_v66 (F := Ideal) x0 x1 x2 x3 x4 x5 x6 x7 x8 x9 x10 x11 (ix2 i k) : EReal)) (Ideal.ofBits .f32 0x44800000#32) := by
    pointwise [val_main_v172, val_main_v74, val_main_cst_14, val_main_v73, val_main_cst_13, val_main_v72, val_main_v70, val_main_v71, val_main_cst_11, val_main_v67, val_main_cst_12]
  rw [e]
  simp only [r_err G, ofBits_half, ofBits_1024, ← EReal.coe_one, ← EReal.coe_add, ← EReal.coe_sub, ← EReal.coe_mul, ← coe_sum]
  simp only [div_real _ (show (1024 : ℝ) ≠ 0 by norm_num), ← coe_sum, ← EReal.coe_mul]
  refine congrArg _ ?_
  rw [Finset.mul_sum]
  exact Finset.sum_congr rfl fun i _ => by ring

/-- The last norm's gain's gradient. -/
theorem r_dgf (k : Fin 1024) : val_main_v83 (F := Ideal) x0 x1 x2 x3 x4 x5 x6 x7 x8 x9 x10 x11 (ix2 (0 : Fin 1) k) = ((A.dgf k : ℝ) : EReal) := by
  have e : (val_main_v83 (F := Ideal) x0 x1 x2 x3 x4 x5 x6 x7 x8 x9 x10 x11 (ix2 (0 : Fin 1) k) : EReal) =
      ∑ i, (val_main_v63 (F := Ideal) x0 x2 x3 x4 x5 x6 x8 x9 x10 x11 (ix2 i k) : EReal) * (val_main_v80 (F := Ideal) x0 x1 x2 x3 x4 x5 x6 x7 x8 x9 x10 x11 (ix2 i k) : EReal) := by
    pointwise [val_main_v83, val_main_v82, val_main_cst_18, val_main_v81]
  rw [e]
  simp only [r_xn G, r_dout G, ← EReal.coe_one, ← EReal.coe_add, ← EReal.coe_sub, ← EReal.coe_mul, ← coe_sum]
  exact congrArg _ (Finset.sum_congr rfl fun i _ => mul_comm _ _)

theorem r_dxn (i : Fin 8192) (k : Fin 1024) : val_main_v85 (F := Ideal) x0 x1 x2 x3 x4 x5 x6 x7 x8 x9 x10 x11 (ix2 i k) = ((A.dxn i k : ℝ) : EReal) := by
  have e : (val_main_v85 (F := Ideal) x0 x1 x2 x3 x4 x5 x6 x7 x8 x9 x10 x11 (ix2 i k) : EReal) =
      (val_main_v80 (F := Ideal) x0 x1 x2 x3 x4 x5 x6 x7 x8 x9 x10 x11 (ix2 i k) : EReal) * x7 (ix2 (0 : Fin 1) k) := by
    pointwise [val_main_v85, val_main_v84]
  rw [e]
  simp only [r_dout G, G.gf, ← EReal.coe_one, ← EReal.coe_add, ← EReal.coe_sub, ← EReal.coe_mul, ← coe_sum]
  rfl

theorem r_t1 (i : Fin 8192) : val_main_v93 (F := Ideal) x0 x1 x2 x3 x4 x5 x6 x7 x8 x9 x10 x11 (ix2 i (0 : Fin 1)) = (((∑ l, A.x1 i l * A.dxn i l) * (-(1 / 2) * (A.r1 i / A.m1 i)) / 1024 : ℝ) : EReal) := by
  have e : (val_main_v93 (F := Ideal) x0 x1 x2 x3 x4 x5 x6 x7 x8 x9 x10 x11 (ix2 i (0 : Fin 1)) : EReal) =
      Ideal.div ((∑ l, (val_main_v50 (F := Ideal) x0 x2 x3 x4 x5 x6 x8 x9 x10 x11 (ix2 i l) : EReal) * (val_main_v85 (F := Ideal) x0 x1 x2 x3 x4 x5 x6 x7 x8 x9 x10 x11 (ix2 i l) : EReal)) * (val_main_v61 (F := Ideal) x0 x2 x3 x4 x5 x6 x8 x9 x10 x11 (ix2 i (0 : Fin 1)) : EReal)) (Ideal.ofBits .f32 0x44800000#32) := by
    pointwise [val_main_v93, val_main_v91, val_main_v92, val_main_v88, val_main_cst_20, val_main_v87, val_main_cst_19, val_main_v86]
  rw [e]
  simp only [r_x1 G, r_dxn G, r_h1 G, ofBits_1024, ← EReal.coe_one, ← EReal.coe_add, ← EReal.coe_sub, ← EReal.coe_mul, ← coe_sum]
  rw [div_real _ (by norm_num)]

/-- The residual's gradient. -/
theorem r_dx (i : Fin 8192) (k : Fin 1024) : val_main_v99 (F := Ideal) x0 x1 x2 x3 x4 x5 x6 x7 x8 x9 x10 x11 (ix2 i k) = ((A.dx i k : ℝ) : EReal) := by
  have e : (val_main_v99 (F := Ideal) x0 x1 x2 x3 x4 x5 x6 x7 x8 x9 x10 x11 (ix2 i k) : EReal) =
      (val_main_v85 (F := Ideal) x0 x1 x2 x3 x4 x5 x6 x7 x8 x9 x10 x11 (ix2 i k) : EReal) * (val_main_v58 (F := Ideal) x0 x2 x3 x4 x5 x6 x8 x9 x10 x11 (ix2 i (0 : Fin 1)) : EReal) + (val_main_v50 (F := Ideal) x0 x2 x3 x4 x5 x6 x8 x9 x10 x11 (ix2 i k) : EReal) * (val_main_v93 (F := Ideal) x0 x1 x2 x3 x4 x5 x6 x7 x8 x9 x10 x11 (ix2 i (0 : Fin 1)) : EReal) + (val_main_v93 (F := Ideal) x0 x1 x2 x3 x4 x5 x6 x7 x8 x9 x10 x11 (ix2 i (0 : Fin 1)) : EReal) * (val_main_v50 (F := Ideal) x0 x2 x3 x4 x5 x6 x8 x9 x10 x11 (ix2 i k) : EReal) := by
    pointwise [val_main_v99, val_main_v97, val_main_v98, val_main_v90, val_main_v96, val_main_v95, val_main_v89, val_main_v94, val_main_cst_21]
    simp only [Fin.sum_univ_one]
  rw [e]
  simp only [r_dxn G, r_x1 G, r_r1 G, r_t1 G, ← EReal.coe_one, ← EReal.coe_add, ← EReal.coe_sub, ← EReal.coe_mul, ← coe_sum]
  refine congrArg _ ((norm_grad (A.m1_pos i) (A.dxn i k) (A.x1 i k) (∑ l, A.x1 i l * A.dxn i l) 1024).trans ?_)
  rw [Finset.sum_mul]
  refine congrArg (fun z => A.r1 i * (A.dxn i k - A.x1n i k * (z / 1024))) (Finset.sum_congr rfl fun l _ => ?_)
  rw [show A.x1n i l = A.x1 i l * A.r1 i from rfl, show A.r1 i = (Real.sqrt (A.m1 i))⁻¹ from rfl]; ring

/-- The residual gate's gradient. -/
theorem r_dgate (k : Fin 1024) : val_main_v104 (F := Ideal) x0 x1 x2 x3 x4 x5 x6 x7 x8 x9 x10 x11 (ix2 (0 : Fin 1) k) = ((A.dgate k : ℝ) : EReal) := by
  have e : (val_main_v104 (F := Ideal) x0 x1 x2 x3 x4 x5 x6 x7 x8 x9 x10 x11 (ix2 (0 : Fin 1) k) : EReal) =
      ∑ i, (val_main_v99 (F := Ideal) x0 x1 x2 x3 x4 x5 x6 x7 x8 x9 x10 x11 (ix2 i k) : EReal) * (val_main_v47 (F := Ideal) x2 x3 x4 x5 x8 x9 x10 x11 (ix2 i k) : EReal) := by
    pointwise [val_main_v104, val_main_v103, val_main_cst_22, val_main_v102]
  rw [e]
  simp only [r_dx G, r_y2 G, ← EReal.coe_one, ← EReal.coe_add, ← EReal.coe_sub, ← EReal.coe_mul, ← coe_sum]
  rfl

theorem r_dy (i : Fin 8192) (k : Fin 1024) : val_main_v101 (F := Ideal) x0 x1 x2 x3 x4 x5 x6 x7 x8 x9 x10 x11 (ix2 i k) = ((A.dy i k : ℝ) : EReal) := by
  have e : (val_main_v101 (F := Ideal) x0 x1 x2 x3 x4 x5 x6 x7 x8 x9 x10 x11 (ix2 i k) : EReal) =
      x6 (ix2 (0 : Fin 1) k) * (val_main_v99 (F := Ideal) x0 x1 x2 x3 x4 x5 x6 x7 x8 x9 x10 x11 (ix2 i k) : EReal) := by
    pointwise [val_main_v101, val_main_v100]
  rw [e]
  simp only [r_dx G, G.gate, ← EReal.coe_one, ← EReal.coe_add, ← EReal.coe_sub, ← EReal.coe_mul, ← coe_sum]
  exact congrArg _ (mul_comm _ _)

/-- The output projection's gradient. -/
theorem r_dwo (k l : Fin 1024) : val_main_v169 (F := Ideal) x0 x1 x2 x3 x4 x5 x6 x7 x8 x9 x10 x11 (ix2 k l) = ((A.dwo k l : ℝ) : EReal) := by
  have e : (val_main_v169 (F := Ideal) x0 x1 x2 x3 x4 x5 x6 x7 x8 x9 x10 x11 (ix2 k l) : EReal) =
      ∑ i, (val_main_v101 (F := Ideal) x0 x1 x2 x3 x4 x5 x6 x7 x8 x9 x10 x11 (ix2 i l) : EReal) * (val_main_v46 (F := Ideal) x2 x3 x4 x5 x8 x9 x10 (ix2 i k) : EReal) := by
    pointwise [val_main_v169, val_main_v106, val_main_v105]
  rw [e]
  simp only [r_dy G, r_mg G, ← EReal.coe_one, ← EReal.coe_add, ← EReal.coe_sub, ← EReal.coe_mul, ← coe_sum]
  exact congrArg _ (Finset.sum_congr rfl fun i _ => mul_comm _ _)

theorem r_dm (i : Fin 8192) (k : Fin 1024) : val_main_v107 (F := Ideal) x0 x1 x2 x3 x4 x5 x6 x7 x8 x9 x10 x11 (ix2 i k) = ((A.dm i k : ℝ) : EReal) := by
  have e : (val_main_v107 (F := Ideal) x0 x1 x2 x3 x4 x5 x6 x7 x8 x9 x10 x11 (ix2 i k) : EReal) =
      ∑ l, (val_main_v101 (F := Ideal) x0 x1 x2 x3 x4 x5 x6 x7 x8 x9 x10 x11 (ix2 i l) : EReal) * x11 (ix2 k l) := by
    pointwise [val_main_v107]
  rw [e]
  simp only [r_dy G, G.wo, ← EReal.coe_one, ← EReal.coe_add, ← EReal.coe_sub, ← EReal.coe_mul, ← coe_sum]
  rfl

theorem r_db (i : Fin 8192) (k : Fin 1024) : val_main_v108 (F := Ideal) x0 x1 x2 x3 x4 x5 x6 x7 x8 x9 x10 x11 (ix2 i k) = ((A.db i k : ℝ) : EReal) := by
  have e : (val_main_v108 (F := Ideal) x0 x1 x2 x3 x4 x5 x6 x7 x8 x9 x10 x11 (ix2 i k) : EReal) =
      (val_main_v44 (F := Ideal) x2 (ix2 i k) : EReal) * (val_main_v107 (F := Ideal) x0 x1 x2 x3 x4 x5 x6 x7 x8 x9 x10 x11 (ix2 i k) : EReal) := by
    pointwise [val_main_v108]
  rw [e]
  simp only [r_g2 G, r_dm G, ← EReal.coe_one, ← EReal.coe_add, ← EReal.coe_sub, ← EReal.coe_mul, ← coe_sum]
  exact congrArg _ (mul_comm _ _)

theorem r_da (i : Fin 8192) (k : Fin 1024) : val_main_v111 (F := Ideal) x0 x1 x2 x3 x4 x5 x6 x7 x8 x9 x10 x11 (ix2 i k) = ((A.da i k : ℝ) : EReal) := by
  have e : (val_main_v111 (F := Ideal) x0 x1 x2 x3 x4 x5 x6 x7 x8 x9 x10 x11 (ix2 i k) : EReal) =
      (val_main_v42 (F := Ideal) x2 (ix2 i k) : EReal) * (val_main_v107 (F := Ideal) x0 x1 x2 x3 x4 x5 x6 x7 x8 x9 x10 x11 (ix2 i k) : EReal) := by
    pointwise [val_main_v111]
  rw [e]
  simp only [r_g1 G, r_dm G, ← EReal.coe_one, ← EReal.coe_add, ← EReal.coe_sub, ← EReal.coe_mul, ← coe_sum]
  exact congrArg _ (mul_comm _ _)

theorem r_gd (i : Fin 8192) (q : Fin 2048) : val_main_v41 (F := Ideal) x2 (ix2 i q) = ((Common.sig (A.p i ⟨3104 + q.val, by omega⟩) * (1 - Common.sig (A.p i ⟨3104 + q.val, by omega⟩)) : ℝ) : EReal) := by
  have e : (val_main_v41 (F := Ideal) x2 (ix2 i q) : EReal) =
      (val_main_v38 (F := Ideal) x2 (ix2 i q) : EReal) * ((1 : EReal) - (val_main_v38 (F := Ideal) x2 (ix2 i q) : EReal)) := by
    pointwise [val_main_v41, val_main_v40, val_main_v39, val_main_cst_5]
  rw [e]
  simp only [r_gs G, ← EReal.coe_one, ← EReal.coe_add, ← EReal.coe_sub, ← EReal.coe_mul, ← coe_sum]

/-- The first branch's weight gradient. -/
theorem r_dwa (j : Fin 512) (k : Fin 1024) : val_main_v170 (F := Ideal) x0 x1 x2 x3 x4 x5 x6 x7 x8 x9 x10 x11 (ix2 j k) = ((A.dwa j k : ℝ) : EReal) := by
  have e : (val_main_v170 (F := Ideal) x0 x1 x2 x3 x4 x5 x6 x7 x8 x9 x10 x11 (ix2 j k) : EReal) =
      ∑ i, (val_main_v111 (F := Ideal) x0 x1 x2 x3 x4 x5 x6 x7 x8 x9 x10 x11 (ix2 i k) : EReal) * (val_main_v30 (F := Ideal) x2 x5 (ix2 i j) : EReal) := by
    pointwise [val_main_v170, val_main_v118, val_main_v117]
  rw [e]
  simp only [r_da G, r_ta G, ← EReal.coe_one, ← EReal.coe_add, ← EReal.coe_sub, ← EReal.coe_mul, ← coe_sum]
  exact congrArg _ (Finset.sum_congr rfl fun i _ => mul_comm _ _)

/-- The second branch's weight gradient. -/
theorem r_dwb (j : Fin 512) (k : Fin 1024) : val_main_v171 (F := Ideal) x0 x1 x2 x3 x4 x5 x6 x7 x8 x9 x10 x11 (ix2 j k) = ((A.dwb j k : ℝ) : EReal) := by
  have e : (val_main_v171 (F := Ideal) x0 x1 x2 x3 x4 x5 x6 x7 x8 x9 x10 x11 (ix2 j k) : EReal) =
      ∑ i, (val_main_v108 (F := Ideal) x0 x1 x2 x3 x4 x5 x6 x7 x8 x9 x10 x11 (ix2 i k) : EReal) * (val_main_v24 (F := Ideal) x2 x3 x4 x8 (ix3 (0 : Fin 1) i j) : EReal) := by
    pointwise [val_main_v171, val_main_v129, val_main_v128, val_main_v127]
    simp only [Fin.sum_univ_one]
  rw [e]
  simp only [r_db G, r_tb G, ← EReal.coe_one, ← EReal.coe_add, ← EReal.coe_sub, ← EReal.coe_mul, ← coe_sum]
  exact congrArg _ (Finset.sum_congr rfl fun i _ => mul_comm _ _)

theorem r_dta (i : Fin 8192) (j : Fin 512) : val_main_v119 (F := Ideal) x0 x1 x2 x3 x4 x5 x6 x7 x8 x9 x10 x11 (ix2 i j) = ((A.dta i j : ℝ) : EReal) := by
  have e : (val_main_v119 (F := Ideal) x0 x1 x2 x3 x4 x5 x6 x7 x8 x9 x10 x11 (ix2 i j) : EReal) =
      ∑ k, (val_main_v111 (F := Ideal) x0 x1 x2 x3 x4 x5 x6 x7 x8 x9 x10 x11 (ix2 i k) : EReal) * x9 (ix2 j k) := by
    pointwise [val_main_v119]
  rw [e]
  simp only [r_da G, G.wa, ← EReal.coe_one, ← EReal.coe_add, ← EReal.coe_sub, ← EReal.coe_mul, ← coe_sum]
  rfl

theorem r_dtb (i : Fin 8192) (j : Fin 512) : val_main_v130 (F := Ideal) x0 x1 x2 x3 x4 x5 x6 x7 x8 x9 x10 x11 (ix3 (0 : Fin 1) i j) = ((A.dtb i j : ℝ) : EReal) := by
  have e : (val_main_v130 (F := Ideal) x0 x1 x2 x3 x4 x5 x6 x7 x8 x9 x10 x11 (ix3 (0 : Fin 1) i j) : EReal) =
      ∑ k, (val_main_v108 (F := Ideal) x0 x1 x2 x3 x4 x5 x6 x7 x8 x9 x10 x11 (ix2 i k) : EReal) * x10 (ix2 j k) := by
    pointwise [val_main_v130, val_main_v127]
  rw [e]
  simp only [r_db G, G.wb, ← EReal.coe_one, ← EReal.coe_add, ← EReal.coe_sub, ← EReal.coe_mul, ← coe_sum]
  rfl

/-- The mixed values' gradient. -/
theorem r_dsv (i : Fin 8192) (j : Fin 512) : val_main_v167 (F := Ideal) x0 x1 x2 x3 x4 x5 x6 x7 x8 x9 x10 x11 (ix2 i j) = ((A.dsv i j : ℝ) : EReal) := by
  have e : (val_main_v167 (F := Ideal) x0 x1 x2 x3 x4 x5 x6 x7 x8 x9 x10 x11 (ix2 i j) : EReal) =
      x2 (ix2 i ⟨1568 + j.val, by omega⟩) * ((val_main_v119 (F := Ideal) x0 x1 x2 x3 x4 x5 x6 x7 x8 x9 x10 x11 (ix2 i j) : EReal) * (val_main_v29_0 (F := Ideal) x2 (ix2 i j) : EReal)) := by
    pointwise [val_main_v167, val_main_v123, val_main_v121, val_main_v27]
  rw [e]
  simp only [G.p, r_dta G, r_silua G, ← EReal.coe_one, ← EReal.coe_add, ← EReal.coe_sub, ← EReal.coe_mul, ← coe_sum]
  exact congrArg _ (by unfold Args.dsv Args.ua; ring)

theorem r_dua (i : Fin 8192) (j : Fin 512) : val_main_v124 (F := Ideal) x0 x1 x2 x3 x4 x5 x6 x7 x8 x9 x10 x11 (ix2 i j) = ((A.dua i j : ℝ) : EReal) := by
  have e : (val_main_v124 (F := Ideal) x0 x1 x2 x3 x4 x5 x6 x7 x8 x9 x10 x11 (ix2 i j) : EReal) =
      (val_main_v119 (F := Ideal) x0 x1 x2 x3 x4 x5 x6 x7 x8 x9 x10 x11 (ix2 i j) : EReal) * (val_main_v29_0 (F := Ideal) x2 (ix2 i j) : EReal) * x5 (ix2 i j) := by
    pointwise [val_main_v124, val_main_v121]
  rw [e]
  simp only [G.sv, r_dta G, r_silua G, ← EReal.coe_one, ← EReal.coe_add, ← EReal.coe_sub, ← EReal.coe_mul, ← coe_sum]
  exact congrArg _ (by unfold Args.dua; ring)

theorem r_dza (i : Fin 8192) (j : Fin 512) : val_main_v122 (F := Ideal) x0 x1 x2 x3 x4 x5 x6 x7 x8 x9 x10 x11 (ix2 i j) = ((A.dza i j : ℝ) : EReal) := by
  have e : (val_main_v122 (F := Ideal) x0 x1 x2 x3 x4 x5 x6 x7 x8 x9 x10 x11 (ix2 i j) : EReal) =
      (val_main_v28 (F := Ideal) x2 x5 (ix2 i j) : EReal) * (val_main_v119 (F := Ideal) x0 x1 x2 x3 x4 x5 x6 x7 x8 x9 x10 x11 (ix2 i j) : EReal) * (val_main_v29_2 (F := Ideal) x2 (ix2 i j) : EReal) + x2 (ix2 i ⟨2592 + j.val, by omega⟩) * ((val_main_v28 (F := Ideal) x2 x5 (ix2 i j) : EReal) * (val_main_v119 (F := Ideal) x0 x1 x2 x3 x4 x5 x6 x7 x8 x9 x10 x11 (ix2 i j) : EReal)) * (val_main_v29_1 (F := Ideal) x2 (ix2 i j) : EReal) := by
    pointwise [val_main_v122, val_main_call2_v1, val_main_call2_v2, val_main_v120, val_main_call2_v0, val_main_v0]
  rw [e]
  simp only [r_us G, r_dta G, r_sga G, r_dsa G, G.p, ← EReal.coe_one, ← EReal.coe_add, ← EReal.coe_sub, ← EReal.coe_mul, ← coe_sum]
  exact congrArg _ (by unfold Args.dza Args.za dsilu; ring)

theorem r_dzb (i : Fin 8192) (j : Fin 512) : val_main_v133 (F := Ideal) x0 x1 x2 x3 x4 x5 x6 x7 x8 x9 x10 x11 (ix3 (0 : Fin 1) i j) = ((A.dzb i j : ℝ) : EReal) := by
  have e : (val_main_v133 (F := Ideal) x0 x1 x2 x3 x4 x5 x6 x7 x8 x9 x10 x11 (ix3 (0 : Fin 1) i j) : EReal) =
      (val_main_v22 (F := Ideal) x3 x4 x8 (ix3 (0 : Fin 1) i j) : EReal) * (val_main_v130 (F := Ideal) x0 x1 x2 x3 x4 x5 x6 x7 x8 x9 x10 x11 (ix3 (0 : Fin 1) i j) : EReal) * (val_main_v23_2 (F := Ideal) x2 (ix3 (0 : Fin 1) i j) : EReal) + x2 (ix2 i ⟨1056 + j.val, by omega⟩) * ((val_main_v22 (F := Ideal) x3 x4 x8 (ix3 (0 : Fin 1) i j) : EReal) * (val_main_v130 (F := Ideal) x0 x1 x2 x3 x4 x5 x6 x7 x8 x9 x10 x11 (ix3 (0 : Fin 1) i j) : EReal)) * (val_main_v23_1 (F := Ideal) x2 (ix3 (0 : Fin 1) i j) : EReal) := by
    pointwise [val_main_v133, val_main_call3_v1, val_main_call3_v2, val_main_v131, val_main_call3_v0, val_main_v4, val_main_v3]
  rw [e]
  simp only [r_on G, r_dtb G, r_sgb G, r_dsb G, G.p, ← EReal.coe_one, ← EReal.coe_add, ← EReal.coe_sub, ← EReal.coe_mul, ← coe_sum]
  exact congrArg _ (by unfold Args.dzb Args.zb dsilu; ring)

theorem r_don (i : Fin 8192) (j : Fin 512) : val_main_v132 (F := Ideal) x0 x1 x2 x3 x4 x5 x6 x7 x8 x9 x10 x11 (ix3 (0 : Fin 1) i j) = ((A.don i j : ℝ) : EReal) := by
  have e : (val_main_v132 (F := Ideal) x0 x1 x2 x3 x4 x5 x6 x7 x8 x9 x10 x11 (ix3 (0 : Fin 1) i j) : EReal) =
      (val_main_v130 (F := Ideal) x0 x1 x2 x3 x4 x5 x6 x7 x8 x9 x10 x11 (ix3 (0 : Fin 1) i j) : EReal) * (val_main_v23_0 (F := Ideal) x2 (ix3 (0 : Fin 1) i j) : EReal) := by
    pointwise [val_main_v132]
  rw [e]
  simp only [r_dtb G, r_silub G, ← EReal.coe_one, ← EReal.coe_add, ← EReal.coe_sub, ← EReal.coe_mul, ← coe_sum]
  rfl

/-- The head norm's gain's gradient. -/
theorem r_dgbn (j : Fin 512) : val_main_v141 (F := Ideal) x0 x1 x2 x3 x4 x5 x6 x7 x8 x9 x10 x11 (ix2 (0 : Fin 1) j) = ((A.dgbn j : ℝ) : EReal) := by
  have e : (val_main_v141 (F := Ideal) x0 x1 x2 x3 x4 x5 x6 x7 x8 x9 x10 x11 (ix2 (0 : Fin 1) j) : EReal) =
      ∑ i, (val_main_v17 (F := Ideal) x3 x4 (ix4 (0 : Fin 1) i ⟨j.val / 128, by omega⟩ ⟨j.val % 128, by omega⟩) : EReal) * (val_main_v132 (F := Ideal) x0 x1 x2 x3 x4 x5 x6 x7 x8 x9 x10 x11 (ix3 (0 : Fin 1) i j) : EReal) := by
    pointwise [val_main_v141, val_main_v140, val_main_cst_28, val_main_v137, val_main_v136, val_main_cst_27, val_main_v135, val_main_v134]
    rw [reduce_front]
    pointwise
  rw [e]
  simp only [r_oh G, r_don G, ← EReal.coe_one, ← EReal.coe_add, ← EReal.coe_sub, ← EReal.coe_mul, ← coe_sum]
  refine congrArg _ (Finset.sum_congr rfl fun i _ => ?_)
  rw [show (cell ⟨j.val / 128, by omega⟩ ⟨j.val % 128, by omega⟩ : Fin 512) = j from cell_head j]
  exact mul_comm _ _

theorem r_doh (i : Fin 8192) (h : Fin 4) (l : Fin 128) : val_main_v139 (F := Ideal) x0 x1 x2 x3 x4 x5 x6 x7 x8 x9 x10 x11 (ix4 (0 : Fin 1) i h l) = ((A.doh i (cell h l) : ℝ) : EReal) := by
  have e : (val_main_v139 (F := Ideal) x0 x1 x2 x3 x4 x5 x6 x7 x8 x9 x10 x11 (ix4 (0 : Fin 1) i h l) : EReal) =
      (val_main_v132 (F := Ideal) x0 x1 x2 x3 x4 x5 x6 x7 x8 x9 x10 x11 (ix3 (0 : Fin 1) i ⟨h.val * 128 + l.val, by omega⟩) : EReal) * x8 (ix2 (0 : Fin 1) ⟨h.val * 128 + l.val, by omega⟩) := by
    pointwise [val_main_v139, val_main_v134, val_main_v138, val_main_v19, val_main_v18]
  rw [e]
  simp only [r_don G, G.gbn, ← EReal.coe_one, ← EReal.coe_add, ← EReal.coe_sub, ← EReal.coe_mul, ← coe_sum]
  rfl

theorem r_t2 (i : Fin 8192) (h : Fin 4) : val_main_v149 (F := Ideal) x0 x1 x2 x3 x4 x5 x6 x7 x8 x9 x10 x11 (ix4 (0 : Fin 1) i h (0 : Fin 1)) = (((∑ l, A.o i (cell h l) * A.doh i (cell h l)) * (-(1 / 2) * (A.rr i h / A.mo i h)) / 128 : ℝ) : EReal) := by
  have e : (val_main_v149 (F := Ideal) x0 x1 x2 x3 x4 x5 x6 x7 x8 x9 x10 x11 (ix4 (0 : Fin 1) i h (0 : Fin 1)) : EReal) =
      Ideal.div ((∑ l, (val_main_v2 (F := Ideal) x3 x4 (ix4 (0 : Fin 1) i h l) : EReal) * (val_main_v139 (F := Ideal) x0 x1 x2 x3 x4 x5 x6 x7 x8 x9 x10 x11 (ix4 (0 : Fin 1) i h l) : EReal)) * (val_main_v15 (F := Ideal) x3 x4 (ix4 (0 : Fin 1) i h (0 : Fin 1)) : EReal)) (Ideal.ofBits .f32 0x43000000#32) := by
    pointwise [val_main_v149, val_main_v147, val_main_v148, val_main_v144, val_main_cst_30, val_main_v143, val_main_cst_29, val_main_v142]
  rw [e]
  simp only [r_o G, r_doh G, r_rh G, ofBits_128, ← EReal.coe_one, ← EReal.coe_add, ← EReal.coe_sub, ← EReal.coe_mul, ← coe_sum]
  rw [div_real _ (by norm_num)]

theorem r_dO4 (i : Fin 8192) (h : Fin 4) (l : Fin 128) : val_main_v156 (F := Ideal) x0 x1 x2 x3 x4 x5 x6 x7 x8 x9 x10 x11 (ix4 (0 : Fin 1) i h l) = ((A.dO i (cell h l) : ℝ) : EReal) := by
  have e : (val_main_v156 (F := Ideal) x0 x1 x2 x3 x4 x5 x6 x7 x8 x9 x10 x11 (ix4 (0 : Fin 1) i h l) : EReal) =
      (val_main_v139 (F := Ideal) x0 x1 x2 x3 x4 x5 x6 x7 x8 x9 x10 x11 (ix4 (0 : Fin 1) i h l) : EReal) * (val_main_v12 (F := Ideal) x3 x4 (ix4 (0 : Fin 1) i h (0 : Fin 1)) : EReal) + (val_main_v2 (F := Ideal) x3 x4 (ix4 (0 : Fin 1) i h l) : EReal) * (val_main_v149 (F := Ideal) x0 x1 x2 x3 x4 x5 x6 x7 x8 x9 x10 x11 (ix4 (0 : Fin 1) i h (0 : Fin 1)) : EReal) + (val_main_v149 (F := Ideal) x0 x1 x2 x3 x4 x5 x6 x7 x8 x9 x10 x11 (ix4 (0 : Fin 1) i h (0 : Fin 1)) : EReal) * (val_main_v2 (F := Ideal) x3 x4 (ix4 (0 : Fin 1) i h l) : EReal) := by
    pointwise [val_main_v156, val_main_v154, val_main_v155, val_main_v146, val_main_v153, val_main_v152, val_main_v145, val_main_v151, val_main_v150, val_main_cst_31]
    simp only [reduce_ends]
  rw [e]
  simp only [r_doh G, r_o G, r_rr G, r_t2 G, ← EReal.coe_one, ← EReal.coe_add, ← EReal.coe_sub, ← EReal.coe_mul, ← coe_sum]
  refine congrArg _ ((norm_grad (A.mo_pos i h) (A.doh i (cell h l)) (A.o i (cell h l)) (∑ l, A.o i (cell h l) * A.doh i (cell h l)) 128).trans ?_)
  rw [Finset.sum_mul, Args.dO, head_cell, show A.oh i (cell h l) = A.o i (cell h l) * A.rr i (head (cell h l)) from rfl, head_cell]
  refine congrArg (fun z => A.rr i h * (A.doh i (cell h l) - A.o i (cell h l) * A.rr i h * (z / 128))) (Finset.sum_congr rfl fun l _ => ?_)
  rw [show A.oh i (cell h l) = A.o i (cell h l) * A.rr i (head (cell h l)) from rfl, head_cell, show A.rr i h = (Real.sqrt (A.mo i h))⁻¹ from rfl]; ring

/-- The recurrence's output's gradient. -/
theorem r_dO (i : Fin 8192) (j : Fin 512) : val_main_v168 (F := Ideal) x0 x1 x2 x3 x4 x5 x6 x7 x8 x9 x10 x11 (ix2 i j) = ((A.dO i j : ℝ) : EReal) := by
  have e : (val_main_v168 (F := Ideal) x0 x1 x2 x3 x4 x5 x6 x7 x8 x9 x10 x11 (ix2 i j) : EReal) =
      (val_main_v156 (F := Ideal) x0 x1 x2 x3 x4 x5 x6 x7 x8 x9 x10 x11 (ix4 (0 : Fin 1) i ⟨j.val / 128, by omega⟩ ⟨j.val % 128, by omega⟩) : EReal) := by
    pointwise [val_main_v168, val_main_v160]
  rw [e]
  rw [r_dO4 G]
  exact congrArg (fun j => (A.dO i j : EReal)) (cell_head j)

theorem r_dz1 (i : Fin 8192) (k : Fin 1024) : val_main_v115 (F := Ideal) x0 x1 x2 x3 x4 x5 x6 x7 x8 x9 x10 x11 (ix2 i ⟨k.val, by omega⟩) = ((A.dz1 i k : ℝ) : EReal) := by
  have e : (val_main_v115 (F := Ideal) x0 x1 x2 x3 x4 x5 x6 x7 x8 x9 x10 x11 (ix2 i ⟨k.val, by omega⟩) : EReal) =
      (val_main_v107 (F := Ideal) x0 x1 x2 x3 x4 x5 x6 x7 x8 x9 x10 x11 (ix2 i k) : EReal) * (val_main_v31 (F := Ideal) x2 x5 x9 (ix2 i k) : EReal) * (val_main_v41 (F := Ideal) x2 (ix2 i ⟨k.val, by omega⟩) : EReal) := by
    pointwise [val_main_v115, val_main_v114, val_main_v110, val_main_v113, val_main_cst_23, val_main_v109, val_main_cst_24, val_main_v112]
    simp
  rw [e]
  simp only [r_dm G, r_ya G, r_gd G, ← EReal.coe_one, ← EReal.coe_add, ← EReal.coe_sub, ← EReal.coe_mul, ← coe_sum]
  exact congrArg _ (by unfold Args.dz1 Args.g1 Args.z1; ring)

theorem r_dz2 (i : Fin 8192) (k : Fin 1024) : val_main_v115 (F := Ideal) x0 x1 x2 x3 x4 x5 x6 x7 x8 x9 x10 x11 (ix2 i ⟨1024 + k.val, by omega⟩) = ((A.dz2 i k : ℝ) : EReal) := by
  have e : (val_main_v115 (F := Ideal) x0 x1 x2 x3 x4 x5 x6 x7 x8 x9 x10 x11 (ix2 i ⟨1024 + k.val, by omega⟩) : EReal) =
      (val_main_v107 (F := Ideal) x0 x1 x2 x3 x4 x5 x6 x7 x8 x9 x10 x11 (ix2 i k) : EReal) * (val_main_v26 (F := Ideal) x2 x3 x4 x8 x10 (ix2 i k) : EReal) * (val_main_v41 (F := Ideal) x2 (ix2 i ⟨1024 + k.val, by omega⟩) : EReal) := by
    pointwise [val_main_v115, val_main_v114, val_main_v110, val_main_v113, val_main_cst_23, val_main_v109, val_main_cst_24, val_main_v112]
  rw [e]
  simp only [r_dm G, r_yb G, r_gd G, ← EReal.coe_one, ← EReal.coe_add, ← EReal.coe_sub, ← EReal.coe_mul, ← coe_sum]
  rw [show (⟨3104 + (1024 + k.val), by omega⟩ : Fin 5152) = ⟨4128 + k.val, by omega⟩ from Fin.ext (by simp only; omega)]
  exact congrArg _ (by unfold Args.dz2 Args.g2 Args.z2; ring)

/-- The gradient of the whole projection, by columns. -/
theorem r_cols (i : Fin 8192) (q : Fin 5152) : (val_main_v162 (F := Ideal) x0 x1 x2 x3 x4 x5 x6 x7 x8 x9 x10 x11 (ix2 i q) : EReal) = (if h : 3104 ≤ q.val ∧ q.val - 3104 < 2048 then (val_main_v115 (F := Ideal) x0 x1 x2 x3 x4 x5 x6 x7 x8 x9 x10 x11 (ix2 i ⟨q.val - 3104, h.2⟩) : EReal) else 0) + (if h : 1568 ≤ q.val ∧ q.val - 1568 < 512 then (val_main_v124 (F := Ideal) x0 x1 x2 x3 x4 x5 x6 x7 x8 x9 x10 x11 (ix2 i ⟨q.val - 1568, h.2⟩) : EReal) else 0)
      + (if h : 1056 ≤ q.val ∧ q.val - 1056 < 512 then (val_main_v133 (F := Ideal) x0 x1 x2 x3 x4 x5 x6 x7 x8 x9 x10 x11 (ix3 (0 : Fin 1) i ⟨q.val - 1056, h.2⟩) : EReal) else 0) + (if h : 2592 ≤ q.val ∧ q.val - 2592 < 512 then (val_main_v122 (F := Ideal) x0 x1 x2 x3 x4 x5 x6 x7 x8 x9 x10 x11 (ix2 i ⟨q.val - 2592, h.2⟩) : EReal) else 0) := by
  pointwise [val_main_v162, val_main_v159, val_main_v161, val_main_v126, val_main_v158, val_main_cst_34, val_main_v116, val_main_v125, val_main_cst_33, val_main_v157, val_main_cst_25, val_main_cst_26, val_main_cst_32]
  simp only [Fin.sum_univ_one]

theorem r_c0 (i : Fin 8192) (j : Fin 512) : val_main_v165 (F := Ideal) x0 x1 x2 x3 x4 x5 x6 x7 x8 x9 x10 x11 (ix2 i ⟨j.val, by omega⟩) = ((A.dzb i j : ℝ) : EReal) := by
  rw [show (val_main_v165 (F := Ideal) x0 x1 x2 x3 x4 x5 x6 x7 x8 x9 x10 x11 (ix2 i ⟨j.val, by omega⟩) : EReal) = (val_main_v162 (F := Ideal) x0 x1 x2 x3 x4 x5 x6 x7 x8 x9 x10 x11 (ix2 i ⟨1056 + j.val, by omega⟩) : EReal) by pointwise [val_main_v165, val_main_v163], r_cols G]
  rw [dif_neg (by simp only; omega), dif_neg (by simp only; omega), dif_pos (by simp only; omega), dif_neg (by simp only; omega)]
  simp only [zero_add, add_zero]
  refine Eq.trans ?_ (r_dzb G i j)
  exact congrArg (fun q => (val_main_v133 (F := Ideal) x0 x1 x2 x3 x4 x5 x6 x7 x8 x9 x10 x11 (ix3 (0 : Fin 1) i q) : EReal)) (Fin.ext (by simp only; omega))

theorem r_c1 (i : Fin 8192) (j : Fin 512) : val_main_v165 (F := Ideal) x0 x1 x2 x3 x4 x5 x6 x7 x8 x9 x10 x11 (ix2 i ⟨512 + j.val, by omega⟩) = ((A.dua i j : ℝ) : EReal) := by
  rw [show (val_main_v165 (F := Ideal) x0 x1 x2 x3 x4 x5 x6 x7 x8 x9 x10 x11 (ix2 i ⟨512 + j.val, by omega⟩) : EReal) = (val_main_v162 (F := Ideal) x0 x1 x2 x3 x4 x5 x6 x7 x8 x9 x10 x11 (ix2 i ⟨1056 + (512 + j.val), by omega⟩) : EReal) by pointwise [val_main_v165, val_main_v163], r_cols G]
  rw [dif_neg (by simp only; omega), dif_pos (by simp only; omega), dif_neg (by simp only; omega), dif_neg (by simp only; omega)]
  simp only [zero_add, add_zero]
  refine Eq.trans ?_ (r_dua G i j)
  exact congrArg (fun q => (val_main_v124 (F := Ideal) x0 x1 x2 x3 x4 x5 x6 x7 x8 x9 x10 x11 (ix2 i q) : EReal)) (Fin.ext (by simp only; omega))

theorem r_c2 (i : Fin 8192) (j : Fin 512) : val_main_v166 (F := Ideal) x0 x1 x2 x3 x4 x5 x6 x7 x8 x9 x10 x11 (ix2 i ⟨j.val, by omega⟩) = ((A.dza i j : ℝ) : EReal) := by
  rw [show (val_main_v166 (F := Ideal) x0 x1 x2 x3 x4 x5 x6 x7 x8 x9 x10 x11 (ix2 i ⟨j.val, by omega⟩) : EReal) = (val_main_v162 (F := Ideal) x0 x1 x2 x3 x4 x5 x6 x7 x8 x9 x10 x11 (ix2 i ⟨2592 + j.val, by omega⟩) : EReal) by pointwise [val_main_v166, val_main_v164], r_cols G]
  rw [dif_neg (by simp only; omega), dif_neg (by simp only; omega), dif_neg (by simp only; omega), dif_pos (by simp only; omega)]
  simp only [zero_add, add_zero]
  refine Eq.trans ?_ (r_dza G i j)
  exact congrArg (fun q => (val_main_v122 (F := Ideal) x0 x1 x2 x3 x4 x5 x6 x7 x8 x9 x10 x11 (ix2 i q) : EReal)) (Fin.ext (by simp only; omega))

theorem r_c3 (i : Fin 8192) (k : Fin 1024) : val_main_v166 (F := Ideal) x0 x1 x2 x3 x4 x5 x6 x7 x8 x9 x10 x11 (ix2 i ⟨512 + k.val, by omega⟩) = ((A.dz1 i k : ℝ) : EReal) := by
  rw [show (val_main_v166 (F := Ideal) x0 x1 x2 x3 x4 x5 x6 x7 x8 x9 x10 x11 (ix2 i ⟨512 + k.val, by omega⟩) : EReal) = (val_main_v162 (F := Ideal) x0 x1 x2 x3 x4 x5 x6 x7 x8 x9 x10 x11 (ix2 i ⟨2592 + (512 + k.val), by omega⟩) : EReal) by pointwise [val_main_v166, val_main_v164], r_cols G]
  rw [dif_pos (by simp only; omega), dif_neg (by simp only; omega), dif_neg (by simp only; omega), dif_neg (by simp only; omega)]
  simp only [zero_add, add_zero]
  refine Eq.trans ?_ (r_dz1 G i k)
  exact congrArg (fun q => (val_main_v115 (F := Ideal) x0 x1 x2 x3 x4 x5 x6 x7 x8 x9 x10 x11 (ix2 i q) : EReal)) (Fin.ext (by simp only; omega))

theorem r_c4 (i : Fin 8192) (k : Fin 1024) : val_main_v166 (F := Ideal) x0 x1 x2 x3 x4 x5 x6 x7 x8 x9 x10 x11 (ix2 i ⟨1536 + k.val, by omega⟩) = ((A.dz2 i k : ℝ) : EReal) := by
  rw [show (val_main_v166 (F := Ideal) x0 x1 x2 x3 x4 x5 x6 x7 x8 x9 x10 x11 (ix2 i ⟨1536 + k.val, by omega⟩) : EReal) = (val_main_v162 (F := Ideal) x0 x1 x2 x3 x4 x5 x6 x7 x8 x9 x10 x11 (ix2 i ⟨2592 + (1536 + k.val), by omega⟩) : EReal) by pointwise [val_main_v166, val_main_v164], r_cols G]
  rw [dif_pos (by simp only; omega), dif_neg (by simp only; omega), dif_neg (by simp only; omega), dif_neg (by simp only; omega)]
  simp only [zero_add, add_zero]
  refine Eq.trans ?_ (r_dz2 G i k)
  exact congrArg (fun q => (val_main_v115 (F := Ideal) x0 x1 x2 x3 x4 x5 x6 x7 x8 x9 x10 x11 (ix2 i q) : EReal)) (Fin.ext (by simp only; omega))

/-- The gradients of the projection's columns, first group. -/
theorem r_dzbua (i : Fin 8192) (j : Fin 1024) : val_main_v165 (F := Ideal) x0 x1 x2 x3 x4 x5 x6 x7 x8 x9 x10 x11 (ix2 i j) = (A.dzbua i j : EReal) := by
  unfold Args.dzbua
  split_ifs with h
  · exact r_c0 G i ⟨j.val, h⟩
  · rw [← r_c1 G i ⟨j.val - 512, by omega⟩]
    exact congrArg (fun q => (val_main_v165 (F := Ideal) x0 x1 x2 x3 x4 x5 x6 x7 x8 x9 x10 x11 (ix2 i q) : EReal)) (Fin.ext (by simp only; omega))

/-- The gradients of the projection's columns, second group. -/
theorem r_dzag (i : Fin 8192) (j : Fin 2560) : val_main_v166 (F := Ideal) x0 x1 x2 x3 x4 x5 x6 x7 x8 x9 x10 x11 (ix2 i j) = (A.dzag i j : EReal) := by
  unfold Args.dzag
  split_ifs with h h1
  · exact r_c2 G i ⟨j.val, h⟩
  · rw [← r_c3 G i ⟨j.val - 512, by omega⟩]
    exact congrArg (fun q => (val_main_v166 (F := Ideal) x0 x1 x2 x3 x4 x5 x6 x7 x8 x9 x10 x11 (ix2 i q) : EReal)) (Fin.ext (by simp only; omega))
  · rw [← r_c4 G i ⟨j.val - 1536, by omega⟩]
    exact congrArg (fun q => (val_main_v166 (F := Ideal) x0 x1 x2 x3 x4 x5 x6 x7 x8 x9 x10 x11 (ix2 i q) : EReal)) (Fin.ext (by simp only; omega))

end Cert.MidRefIdeal.Read

end
-- ==== Proof.Mid.Claim.lean ====
module

public import proofs.«01_k».proof.Defs
public import proofs.«01_k».proof.Proof.Gen.Pre_finite_mid
public import proofs.«01_k».proof.Proof.InBwd.Claim
public import proofs.«01_k».proof.Proof.Mid.Arrays
public import proofs.«01_k».proof.Proof.Mid.Frames
public import proofs.«01_k».proof.Proof.Mid.Ref

/-! The claim about the fused middle: under finite arguments its twelve results are the reference's. -/

@[expose] public section

set_option maxRecDepth 16384

noncomputable section

namespace Cert.MidClaim

open Idealize.ShloMosaic Idealize.ShloMosaic.TcCoe Idealize.SL.Sem Cert.Common
open Cert.InBwdClaim (ext1 ext2)

/-- The arguments' real parts. -/
def args (m : (ℓ : Loc Cert.MidIdeal.nD Cert.MidIdeal.τ Cert.MidIdeal.sig) → Buf (Elt Ideal) ℓ) (c : Dev Cert.MidIdeal.nD) : Cert.Mid.Args where
  x i k := ((m ((c.tc : Thread Cert.MidIdeal.nD Cert.MidIdeal.τ).loc Cert.MidIdeal.main_arg0) : FVec Ideal Cert.MidIdeal.S8192x1024 .f32) (ix2 i k)).toReal
  tgt i k := ((m ((c.tc : Thread Cert.MidIdeal.nD Cert.MidIdeal.τ).loc Cert.MidIdeal.main_arg1) : FVec Ideal Cert.MidIdeal.S8192x1024 .f32) (ix2 i k)).toReal
  p i k := ((m ((c.tc : Thread Cert.MidIdeal.nD Cert.MidIdeal.τ).loc Cert.MidIdeal.main_arg2) : FVec Ideal Cert.MidIdeal.S8192x5152 .f32) (ix2 i k)).toReal
  oF i k := ((m ((c.tc : Thread Cert.MidIdeal.nD Cert.MidIdeal.τ).loc Cert.MidIdeal.main_arg3) : FVec Ideal Cert.MidIdeal.S8192x512 .f32) (ix2 i k)).toReal
  oB i k := ((m ((c.tc : Thread Cert.MidIdeal.nD Cert.MidIdeal.τ).loc Cert.MidIdeal.main_arg4) : FVec Ideal Cert.MidIdeal.S8192x512 .f32) (ix2 i k)).toReal
  sv i k := ((m ((c.tc : Thread Cert.MidIdeal.nD Cert.MidIdeal.τ).loc Cert.MidIdeal.main_arg5) : FVec Ideal Cert.MidIdeal.S8192x512 .f32) (ix2 i k)).toReal
  gate k := ((m ((c.tc : Thread Cert.MidIdeal.nD Cert.MidIdeal.τ).loc Cert.MidIdeal.main_arg6) : FVec Ideal Cert.MidIdeal.S1x1024 .f32) (ix2 (0 : Fin 1) k)).toReal
  gf k := ((m ((c.tc : Thread Cert.MidIdeal.nD Cert.MidIdeal.τ).loc Cert.MidIdeal.main_arg7) : FVec Ideal Cert.MidIdeal.S1x1024 .f32) (ix2 (0 : Fin 1) k)).toReal
  gbn k := ((m ((c.tc : Thread Cert.MidIdeal.nD Cert.MidIdeal.τ).loc Cert.MidIdeal.main_arg8) : FVec Ideal Cert.MidIdeal.S1x512 .f32) (ix2 (0 : Fin 1) k)).toReal
  wa i k := ((m ((c.tc : Thread Cert.MidIdeal.nD Cert.MidIdeal.τ).loc Cert.MidIdeal.main_arg9) : FVec Ideal Cert.MidIdeal.S512x1024 .f32) (ix2 i k)).toReal
  wb i k := ((m ((c.tc : Thread Cert.MidIdeal.nD Cert.MidIdeal.τ).loc Cert.MidIdeal.main_arg10) : FVec Ideal Cert.MidIdeal.S512x1024 .f32) (ix2 i k)).toReal
  wo i k := ((m ((c.tc : Thread Cert.MidIdeal.nD Cert.MidIdeal.τ).loc Cert.MidIdeal.main_arg11) : FVec Ideal Cert.MidIdeal.S1024x1024 .f32) (ix2 i k)).toReal

/-- The precondition says that the arguments are real arrays. -/
theorem reals (m : (ℓ : Loc Cert.MidIdeal.nD Cert.MidIdeal.τ Cert.MidIdeal.sig) → Buf (Elt Ideal) ℓ)
    (h : Cert.Pre_MidIdeal_finite_mid m) (c : Dev Cert.MidIdeal.nD) : Cert.MidIdeal.Body.Reals m c (args m c) := by
  obtain ⟨h0, h1, h2, h3, h4, h5, h6, h7, h8, h9, h10, h11⟩ := h c
  exact ⟨fun i k => (real_of_test _ _ _ ofBits_inf (congrFun h0 (ix2 i k))).symm,
    fun i k => (real_of_test _ _ _ ofBits_inf (congrFun h1 (ix2 i k))).symm,
    fun i k => (real_of_test _ _ _ ofBits_inf (congrFun h2 (ix2 i k))).symm,
    fun i k => (real_of_test _ _ _ ofBits_inf (congrFun h3 (ix2 i k))).symm,
    fun i k => (real_of_test _ _ _ ofBits_inf (congrFun h4 (ix2 i k))).symm,
    fun i k => (real_of_test _ _ _ ofBits_inf (congrFun h5 (ix2 i k))).symm,
    fun k => (real_of_test _ _ _ ofBits_inf (congrFun h6 (ix2 0 k))).symm,
    fun k => (real_of_test _ _ _ ofBits_inf (congrFun h7 (ix2 0 k))).symm,
    fun k => (real_of_test _ _ _ ofBits_inf (congrFun h8 (ix2 0 k))).symm,
    fun i k => (real_of_test _ _ _ ofBits_inf (congrFun h9 (ix2 i k))).symm,
    fun i k => (real_of_test _ _ _ ofBits_inf (congrFun h10 (ix2 i k))).symm,
    fun i k => (real_of_test _ _ _ ofBits_inf (congrFun h11 (ix2 i k))).symm⟩

open Cert.MidRefIdeal Cert.MidRefIdeal.Read in
/-- The reference's run, each result read operation by operation. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      let a0 := m ((c.tc : Thread nD τ).loc main_arg0)
      let a1 := m ((c.tc : Thread nD τ).loc main_arg1)
      let a2 := m ((c.tc : Thread nD τ).loc main_arg2)
      let a3 := m ((c.tc : Thread nD τ).loc main_arg3)
      let a4 := m ((c.tc : Thread nD τ).loc main_arg4)
      let a5 := m ((c.tc : Thread nD τ).loc main_arg5)
      let a6 := m ((c.tc : Thread nD τ).loc main_arg6)
      let a7 := m ((c.tc : Thread nD τ).loc main_arg7)
      let a8 := m ((c.tc : Thread nD τ).loc main_arg8)
      let a9 := m ((c.tc : Thread nD τ).loc main_arg9)
      let a10 := m ((c.tc : Thread nD τ).loc main_arg10)
      let a11 := m ((c.tc : Thread nD τ).loc main_arg11)
      r.2.mem ((c.tc : Thread nD τ).loc main_v99) = val_main_v99 a0 a1 a2 a3 a4 a5 a6 a7 a8 a9 a10 a11
      ∧ r.2.mem ((c.tc : Thread nD τ).loc main_v165) = val_main_v165 a0 a1 a2 a3 a4 a5 a6 a7 a8 a9 a10 a11
      ∧ r.2.mem ((c.tc : Thread nD τ).loc main_v166) = val_main_v166 a0 a1 a2 a3 a4 a5 a6 a7 a8 a9 a10 a11
      ∧ r.2.mem ((c.tc : Thread nD τ).loc main_v167) = val_main_v167 a0 a1 a2 a3 a4 a5 a6 a7 a8 a9 a10 a11
      ∧ r.2.mem ((c.tc : Thread nD τ).loc main_v168) = val_main_v168 a0 a1 a2 a3 a4 a5 a6 a7 a8 a9 a10 a11
      ∧ r.2.mem ((c.tc : Thread nD τ).loc main_v169) = val_main_v169 a0 a1 a2 a3 a4 a5 a6 a7 a8 a9 a10 a11
      ∧ r.2.mem ((c.tc : Thread nD τ).loc main_v170) = val_main_v170 a0 a1 a2 a3 a4 a5 a6 a7 a8 a9 a10 a11
      ∧ r.2.mem ((c.tc : Thread nD τ).loc main_v171) = val_main_v171 a0 a1 a2 a3 a4 a5 a6 a7 a8 a9 a10 a11
      ∧ r.2.mem ((c.tc : Thread nD τ).loc main_v83) = val_main_v83 a0 a1 a2 a3 a4 a5 a6 a7 a8 a9 a10 a11
      ∧ r.2.mem ((c.tc : Thread nD τ).loc main_v104) = val_main_v104 a0 a1 a2 a3 a4 a5 a6 a7 a8 a9 a10 a11
      ∧ r.2.mem ((c.tc : Thread nD τ).loc main_v141) = val_main_v141 a0 a1 a2 a3 a4 a5 a6 a7 a8 a9 a10 a11
      ∧ r.2.mem ((c.tc : Thread nD τ).loc main_v172) = val_main_v172 a0 a1 a2 a3 a4 a5 a6 a7 a8 a9 a10 a11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, h6, h7, h8, h9, h10, h11, hr⟩ := h c
    exact ⟨h0.trans (val_main_v99_eq (StableHlo.launchContents m c)), h1.trans (val_main_v165_eq (StableHlo.launchContents m c)), h2.trans (val_main_v166_eq (StableHlo.launchContents m c)), h3.trans (val_main_v167_eq (StableHlo.launchContents m c)), h4.trans (val_main_v168_eq (StableHlo.launchContents m c)), h5.trans (val_main_v169_eq (StableHlo.launchContents m c)), h6.trans (val_main_v170_eq (StableHlo.launchContents m c)), h7.trans (val_main_v171_eq (StableHlo.launchContents m c)), h8.trans (val_main_v83_eq (StableHlo.launchContents m c)), h9.trans (val_main_v104_eq (StableHlo.launchContents m c)), h10.trans (val_main_v141_eq (StableHlo.launchContents m c)), h11.trans (val_main_v172_eq (StableHlo.launchContents m c)), hr⟩) (Cert.MidRefIdeal.Value.run m g)

/-- The reference leaves its arguments unchanged; it has no semaphores. -/
theorem frame_ref : Cert.quiescent_MidRefIdeal := fun m g _ =>
  (θ_run Cert.MidRefIdeal.defs _ _).mono (fun r h => ⟨fun c => (h c).2.2.2.2.2.2.2.2.2.2.2.2, sem_eq_zero_of_no_sems (by decide) r.2⟩) (run_ref m g)

open Cert.MidRefIdeal.Read Cert.MidIdeal.Body in
theorem algebraic : Cert.algebraic_MidIdeal_MidRefIdeal_pre_finite_mid := by
  intro m g m' g' hpre hagree
  refine ⟨_, _, _, _, _, _, _, _, _, _, _, _, run_blocks m g, (θ_run _ _ _).mono (fun r h c => ?_) (run_ref m' g')⟩
  obtain ⟨h0, h1, h2, h3, h4, h5, h6, h7, h8, h9, h10, h11, hr⟩ := h c
  have R := reals m hpre c
  obtain ⟨e0, e1, e2, e3, e4, e5, e6, e7, e8, e9, e10, e11⟩ := hagree c
  have G : Given (m' ((c.tc : Thread Cert.MidRefIdeal.nD Cert.MidRefIdeal.τ).loc Cert.MidRefIdeal.main_arg0)) (m' ((c.tc : Thread Cert.MidRefIdeal.nD Cert.MidRefIdeal.τ).loc Cert.MidRefIdeal.main_arg1)) (m' ((c.tc : Thread Cert.MidRefIdeal.nD Cert.MidRefIdeal.τ).loc Cert.MidRefIdeal.main_arg2)) (m' ((c.tc : Thread Cert.MidRefIdeal.nD Cert.MidRefIdeal.τ).loc Cert.MidRefIdeal.main_arg3)) (m' ((c.tc : Thread Cert.MidRefIdeal.nD Cert.MidRefIdeal.τ).loc Cert.MidRefIdeal.main_arg4)) (m' ((c.tc : Thread Cert.MidRefIdeal.nD Cert.MidRefIdeal.τ).loc Cert.MidRefIdeal.main_arg5)) (m' ((c.tc : Thread Cert.MidRefIdeal.nD Cert.MidRefIdeal.τ).loc Cert.MidRefIdeal.main_arg6)) (m' ((c.tc : Thread Cert.MidRefIdeal.nD Cert.MidRefIdeal.τ).loc Cert.MidRefIdeal.main_arg7)) (m' ((c.tc : Thread Cert.MidRefIdeal.nD Cert.MidRefIdeal.τ).loc Cert.MidRefIdeal.main_arg8)) (m' ((c.tc : Thread Cert.MidRefIdeal.nD Cert.MidRefIdeal.τ).loc Cert.MidRefIdeal.main_arg9)) (m' ((c.tc : Thread Cert.MidRefIdeal.nD Cert.MidRefIdeal.τ).loc Cert.MidRefIdeal.main_arg10)) (m' ((c.tc : Thread Cert.MidRefIdeal.nD Cert.MidRefIdeal.τ).loc Cert.MidRefIdeal.main_arg11)) (args m c) := by
    rw [e0, e1, e2, e3, e4, e5, e6, e7, e8, e9, e10, e11]
    exact ⟨R.x, R.tgt, R.p, R.oF, R.oB, R.sv, R.gate, R.gf, R.gbn, R.wa, R.wb, R.wo⟩
  refine ⟨h0.trans ?_, h1.trans ?_, h2.trans ?_, h3.trans ?_, h4.trans ?_, h5.trans ?_, h6.trans ?_, h7.trans ?_, h8.trans ?_, h9.trans ?_, h10.trans ?_, h11.trans ?_, hr⟩
  · exact (ext2 (a := 8192) (b := 1024) fun i k => r_dx G i k).trans (final_dx R).symm
  · exact (ext2 (a := 8192) (b := 1024) fun i k => r_dzbua G i k).trans (final_dzbua R).symm
  · exact (ext2 (a := 8192) (b := 2560) fun i k => r_dzag G i k).trans (final_dzag R).symm
  · exact (ext2 (a := 8192) (b := 512) fun i k => r_dsv G i k).trans (final_dsv R).symm
  · exact (ext2 (a := 8192) (b := 512) fun i k => r_dO G i k).trans (final_dO R).symm
  · exact (ext2 (a := 1024) (b := 1024) fun i k => r_dwo G i k).trans (final_dwo R).symm
  · exact (ext2 (a := 512) (b := 1024) fun i k => r_dwa G i k).trans (final_dwa R).symm
  · exact (ext2 (a := 512) (b := 1024) fun i k => r_dwb G i k).trans (final_dwb R).symm
  · exact (ext1 (b := 1024) fun k => r_dgf G k).trans (final_dgf R).symm
  · exact (ext1 (b := 1024) fun k => r_dgate G k).trans (final_dgate R).symm
  · exact (ext1 (b := 512) fun k => r_dgbn G k).trans (final_dgbn R).symm
  · exact (ext1 (b := 1) fun k => by rw [Subsingleton.elim k 0]; exact r_loss G).trans (final_loss R).symm

end Cert.MidClaim

end
-- ==== Proof.Common.Decay.lean ====
module

public import proofs.«01_k».proof.Proof.Common.Gates

/-! The logarithm of the logistic function, written by the smaller and by the larger of the argument and zero. -/

@[expose] public section

noncomputable section

namespace Cert.Common

open Idealize.ShloMosaic
open scoped BigOperators

/-- The logarithm of the logistic function. -/
def lsig (z : ℝ) : ℝ := -Real.log (1 + Real.exp (-z))

theorem log_abs (z : ℝ) : Real.log (1 + Real.exp (-|z|)) = min z 0 - lsig z := by
  unfold lsig
  rcases le_total 0 z with h | h
  · rw [abs_of_nonneg h, min_eq_right h]; ring
  · rw [abs_of_nonpos h, min_eq_left h, neg_neg]
    have e : 1 + Real.exp (-z) = Real.exp (-z) * (1 + Real.exp z) := by
      rw [mul_add, mul_one, ← Real.exp_add, neg_add_cancel, Real.exp_zero]; ring
    rw [e, Real.log_mul (Real.exp_pos _).ne' (by positivity), Real.log_exp]; ring

theorem log_one_add (z : ℝ) : Ideal.log (1 + Ideal.exp (z : EReal)) = ((Real.log (1 + Real.exp z) : ℝ) : EReal) := by
  rw [Ideal.exp_coe, ← EReal.coe_one, ← EReal.coe_add, Ideal.log_coe, if_neg (not_le.mpr (by positivity))]

theorem max_neg (z : ℝ) : max (z : EReal) (-(z : EReal)) = ((|z| : ℝ) : EReal) := by
  rw [← EReal.coe_neg, ← EReal.coe_strictMono.monotone.map_max]; rfl

/-- By the smaller of the argument and zero. -/
theorem lsig_min (z : ℝ) : min (z : EReal) 0 - Ideal.log (1 + Ideal.exp (0 - max (z : EReal) (-(z : EReal)))) = (lsig z : EReal) := by
  rw [max_neg, zero_sub, ← EReal.coe_neg, log_one_add, log_abs, ← EReal.coe_zero, ← EReal.coe_strictMono.monotone.map_min, ← EReal.coe_sub]
  exact congrArg _ (by ring)

/-- By the larger of the negated argument and zero. -/
theorem lsig_max (z : ℝ) : max (-(z : EReal)) 0 + Ideal.log1p (Ideal.exp (-max (-(z : EReal)) (-(-(z : EReal))))) = ((-lsig z : ℝ) : EReal) := by
  rw [← EReal.coe_neg, max_neg, ← EReal.coe_neg, abs_neg, Ideal.log1p, log_one_add, log_abs, ← EReal.coe_zero, ← EReal.coe_strictMono.monotone.map_max,
    ← EReal.coe_add]
  refine congrArg _ ?_
  rcases le_total 0 z with h | h
  · rw [max_eq_right (by linarith), min_eq_right h]; ring
  · rw [max_eq_left (by linarith), min_eq_left h]; ring

/-- Its derivative, by the exponential of a difference. -/
theorem exp_lsig (z : ℝ) : Real.exp (-z + lsig z) = sig (-z) := by
  unfold lsig sig
  rw [Real.exp_add, Real.exp_neg (Real.log _), Real.exp_log (by positivity), neg_neg]
  have e : 1 + Real.exp (-z) = Real.exp (-z) * (1 + Real.exp z) := by
    rw [mul_add, mul_one, ← Real.exp_add, neg_add_cancel, Real.exp_zero]; ring
  rw [e, mul_inv, ← mul_assoc, mul_inv_cancel₀ (Real.exp_pos _).ne', one_mul, one_div]

theorem ofBits_16 : Ideal.ofBits .f32 0x41800000#32 = ((16 : ℝ) : EReal) := by
  simp [Ideal.ofBits, Ideal.ieee, -EReal.coe_mul]; norm_num

theorem ofBits_inv_16 : Ideal.ofBits .f32 0x3D800000#32 = ((1 / 16 : ℝ) : EReal) := by
  simp [Ideal.ofBits, Ideal.ieee, -EReal.coe_mul]; norm_num

/-- A product of a choice between one and zero. -/
theorem ite_mul_real (p : Prop) [Decidable p] (x : ℝ) : (if p then (1 : EReal) else 0) * (x : EReal) = ((if p then x else 0 : ℝ) : EReal) := by
  split_ifs <;> simp

theorem mul_ite_real (p : Prop) [Decidable p] (x : ℝ) : (x : EReal) * (if p then (1 : EReal) else 0) = ((if p then x else 0 : ℝ) : EReal) := by
  rw [mul_comm, ite_mul_real]

end Cert.Common

end
-- ==== Proof.Ctx.Formula.lean ====
module

public import proofs.«01_k».proof.Proof.Common.Decay
public import Idealize.ShloMosaic.Lib.Pointwise

/-! The gradient of the context's two states, over the real numbers. Each direction's recurrence is written in the order in which that direction takes
    the rows: four chunks of sixty-four. -/

@[expose] public section

noncomputable section

namespace Cert.Ctx

open Cert.Common
open scoped BigOperators

/-- One direction: keys, values and gate logits by chunk and row, and the gradient of the state it leaves. -/
structure Dir where
  K : Fin 4 → Fin 64 → Fin 256 → ℝ
  V : Fin 4 → Fin 64 → Fin 512 → ℝ
  lg : Fin 4 → Fin 64 → Fin 256 → ℝ
  ds : Fin 512 → Fin 256 → ℝ

namespace Dir

variable (D : Dir) (n : Fin 4) (a : Fin 64) (x : Fin 256) (v : Fin 512)

/-- A row's log decay, its sum up to a row of the chunk, and its sum over the chunk. -/
def al : ℝ := lsig (D.lg n a x) / 16
def c : ℝ := ∑ b, if b ≤ a then D.al n b x else 0
def cl : ℝ := ∑ b, D.al n b x

/-- The decay from a row to the chunk's end, and the decayed key. -/
def ed : ℝ := Real.exp (D.cl n x - D.c n a x)
def kd : ℝ := D.K n a x * D.ed n a x

/-- The value's head and the key's head are the same. -/
def same (v : Fin 512) (x : Fin 256) : Prop := v.val / 128 = x.val / 64

instance (v : Fin 512) (x : Fin 256) : Decidable (same v x) := inferInstanceAs (Decidable (_ = _))

/-- What a chunk adds to the state. -/
def up : ℝ := if same v x then ∑ a, D.V n a v * D.kd n a x else 0

/-- The state before a chunk. -/
def st : ℕ → Fin 512 → Fin 256 → ℝ
  | 0, _, _ => 0
  | n + 1, v, x => st n v x * Real.exp (D.cl (Fin.ofNat 4 n) x) + D.up (Fin.ofNat 4 n) x v

/-- Between the heads the state is zero. -/
theorem off_st {v : Fin 512} {x : Fin 256} (h : ¬same v x) : ∀ n, D.st n v x = 0
  | 0 => rfl
  | n + 1 => by
    show D.st n v x * _ + D.up _ x v = 0
    rw [off_st h n, zero_mul, zero_add]; exact if_neg h

/-- The gradient of the state, by how many chunks from the end. -/
def dst : ℕ → Fin 512 → Fin 256 → ℝ
  | 0, v, x => D.ds v x
  | k + 1, v, x => dst k v x * Real.exp (D.cl (Fin.ofNat 4 (3 - k)) x)

/-- The gradient of the state after a chunk. -/
def dS : ℝ := D.dst (3 - n.val) v x

/-- The gradients of the decayed key, of the value and of the key. -/
def dkd : ℝ := ∑ v, D.V n a v * D.dS n x v
def dV : ℝ := ∑ x, D.kd n a x * D.dS n x v
def dK : ℝ := D.dkd n a x * D.ed n a x

/-- The gradient of the chunk's whole log decay. -/
def dcl : ℝ := (∑ v, D.dS n x v * D.st n.val v x) * Real.exp (D.cl n x) + ∑ a, D.dkd n a x * D.kd n a x

/-- The gradient of a row's log decay, and of its logit. -/
def da : ℝ := (∑ b, if a ≤ b then -(D.dkd n b x * D.kd n b x) else 0) + D.dcl n x
def dlg : ℝ := D.da n a x * sig (-D.lg n a x) * (1 / 16)

end Dir

/-- The arguments. -/
structure Args where
  x : Fin 256 → Fin 1024 → ℝ
  g : Fin 1024 → ℝ
  sc : Fin 1024 → ℝ
  sh : Fin 1024 → ℝ
  w : Fin 1024 → Fin 5152 → ℝ
  w2 : Fin 2 → Fin 16 → Fin 256 → ℝ
  gb : Fin 2 → Fin 256 → ℝ
  dsF : Fin 4 → Fin 64 → Fin 128 → ℝ
  dsB : Fin 4 → Fin 64 → Fin 128 → ℝ

/-- The row a direction takes as row `a` of chunk `n`, and the row's place in that order. -/
def rowF (n : Fin 4) (a : Fin 64) : Fin 256 := ⟨64 * n.val + a.val, by omega⟩
def rowB (n : Fin 4) (a : Fin 64) : Fin 256 := ⟨255 - (64 * n.val + a.val), by omega⟩
def chF (i : Fin 256) : Fin 4 := ⟨i.val / 64, by omega⟩
def inF (i : Fin 256) : Fin 64 := ⟨i.val % 64, by omega⟩
def chB (i : Fin 256) : Fin 4 := ⟨(255 - i.val) / 64, by omega⟩
def inB (i : Fin 256) : Fin 64 := ⟨(255 - i.val) % 64, by omega⟩

/-- A state by heads, as one array with zeros between the heads. -/
def wide (s : Fin 4 → Fin 64 → Fin 128 → ℝ) (v : Fin 512) (x : Fin 256) : ℝ :=
  if Dir.same v x then s ⟨x.val / 64, by omega⟩ ⟨x.val % 64, by omega⟩ ⟨v.val % 128, by omega⟩ else 0

namespace Args

variable (A : Args) (i : Fin 256) (e : Fin 1024)

/-- The norm, and the scaled and shifted hidden rows. -/
def ms : ℝ := (∑ l, A.x i l * A.x i l) / 1024 + eps
def xn : ℝ := A.x i e * (Real.sqrt (A.ms i))⁻¹
def hc : ℝ := A.xn i e * (A.g e * (1 + A.sc e)) + A.sh e

theorem ms_pos : 0 < A.ms i := mean_pos _ (by norm_num)

/-- Keys, values, gate features and logits. -/
def K (x : Fin 256) : ℝ := ∑ e, A.hc i e * A.w e ⟨256 + x.val, by omega⟩
def V (v : Fin 512) : ℝ := ∑ e, A.hc i e * A.w e ⟨512 + v.val, by omega⟩
def L (q : Fin 32) : ℝ := ∑ e, A.hc i e * A.w e ⟨1024 + q.val, by omega⟩
def lg (d : Fin 2) (x : Fin 256) : ℝ := (∑ r : Fin 16, A.L i ⟨16 * d.val + r.val, by omega⟩ * A.w2 d r x) + A.gb d x

/-- The two directions. -/
def F : Dir := ⟨fun n a => A.K (rowF n a), fun n a => A.V (rowF n a), fun n a => A.lg (rowF n a) 0, wide A.dsF⟩
def B : Dir := ⟨fun n a => A.K (rowB n a), fun n a => A.V (rowB n a), fun n a => A.lg (rowB n a) 1, wide A.dsB⟩

/-- The gradients of keys, values, logits and gate features. -/
def dk (x : Fin 256) : ℝ := A.F.dK (chF i) (inF i) x + A.B.dK (chB i) (inB i) x
def dv (v : Fin 512) : ℝ := A.F.dV (chF i) (inF i) v + A.B.dV (chB i) (inB i) v
def gate (d : Fin 2) (q : Fin 128) (x : Fin 256) : ℝ := if h : 16 * d.val ≤ q.val ∧ q.val - 16 * d.val < 16 then A.w2 d ⟨q.val - 16 * d.val, h.2⟩ x else 0
def dl (q : Fin 128) : ℝ := (∑ x, A.F.dlg (chF i) (inF i) x * A.gate 0 q x) + ∑ x, A.B.dlg (chB i) (inB i) x * A.gate 1 q x

/-- The weight's gradients, by groups of columns. -/
def dwk (x : Fin 256) : ℝ := ∑ i, A.hc i e * A.dk i x
def dwv (v : Fin 512) : ℝ := ∑ i, A.hc i e * A.dv i v
def dwl (q : Fin 128) : ℝ := ∑ i, A.hc i e * A.dl i q

/-- The gradient of the hidden rows. -/
def wl (q : Fin 128) : ℝ := if h : q.val < 32 then A.w e ⟨1024 + q.val, by omega⟩ else 0
def dh : ℝ := (∑ x, A.dk i x * A.w e ⟨256 + x.val, by omega⟩) + (∑ v, A.dv i v * A.w e ⟨512 + v.val, by omega⟩) + ∑ q, A.dl i q * A.wl e q

/-- The gradients of shift, scale and gain. -/
def dsh : ℝ := ∑ i, A.dh i e
def dsc : ℝ := (∑ i, A.dh i e * A.xn i e) * A.g e
def dg : ℝ := (∑ i, A.dh i e * A.xn i e) * (1 + A.sc e)

/-- The gradient of the gate's offset. -/
def dgb (d : Fin 2) (x : Fin 256) : ℝ := if d = 0 then ∑ n, ∑ a, A.F.dlg n a x else ∑ n, ∑ a, A.B.dlg n a x

end Args

/-- The gradients of shift and scale, one after the other. -/
def mods (A : Args) (x : Fin 2048) : ℝ := if h : x.val < 1024 then A.dsh ⟨x.val, h⟩ else A.dsc ⟨x.val - 1024, by omega⟩

end Cert.Ctx

end
-- ==== Proof.Ctx.Chunk.lean ====
module

public import proofs.«01_k».proof.Proof.Gen.CtxIdeal.Value
public import proofs.«01_k».proof.Proof.Ctx.Formula
public import Idealize.ShloMosaic.Lib.Pipeline.ValueKit
public import Idealize.ShloMosaic.Lib.Claim
public import Idealize.ShloMosaic.Lib.Pointwise

/-! One chunk of the context's recurrence and of its gradient, for both directions and every chunk at once: the kernel's blocks by the chunk's number in
    the direction's order, and what they hold where the operands are real. -/

@[expose] public section

set_option maxRecDepth 16384

noncomputable section

namespace Cert.CtxIdeal.Value

open Idealize.ShloMosaic Idealize.ShloMosaic.TcCoe Idealize.SL.Sem
open Cert.CtxIdeal Cert.CtxIdeal.Gen Cert.Ctx Cert.Common

/-- A direction's operands: gate features, keys, values, the gate's weight and offset, and the gradient of the state it leaves. -/
structure Ops where
  L : FVec Ideal S256x128 .f32
  K : FVec Ideal S256x256 .f32
  V : FVec Ideal S256x512 .f32
  w : FVec Ideal S128x256 .f32
  b : FVec Ideal S1x256 .f32
  ds : FVec Ideal S512x256 .f32

/-- The chunk's number from the array's top, and the row's place in the chunk's block. -/
def place : Bool → Fin 4 → Fin 4
  | false, n => n
  | true, n => ⟨3 - n.val, by omega⟩

def flip : Bool → Equiv.Perm (Fin 64)
  | false => Equiv.refl _
  | true => Fin.revPerm

def rowsL (L : FVec Ideal S256x128 .f32) (j : Fin 4) : FVec Ideal S64x128 .f32 :=
  extractStridedSlice S64x128 ![64 * j.val, 0] L (by revert j; decide)
def rowsK (K : FVec Ideal S256x256 .f32) (j : Fin 4) : FVec Ideal S64x256 .f32 :=
  extractStridedSlice S64x256 ![64 * j.val, 0] K (by revert j; decide)
def rowsV (V : FVec Ideal S256x512 .f32) (j : Fin 4) : FVec Ideal S64x512 .f32 :=
  extractStridedSlice S64x512 ![64 * j.val, 0] V (by revert j; decide)

/-- The triangles of a chunk: a sum up to a row, and a sum from a row on, in the direction's order. -/
def upto : Bool → FVec Ideal S64x64 .f32
  | false => k0_pay20
  | true => k0_pay249
def from_ : Bool → FVec Ideal S64x64 .f32
  | false => k0_pay46
  | true => k0_pay274

/-- Where the value's head is the key's. -/
def mask : FVec Ideal S512x256 .f32 := k0_pay19 k0_pay14 k0_pay15 k0_pay16 k0_pay17 k0_pay18

namespace Ops

variable (o : Ops) (r : Bool)

def lw : FVec Ideal S128x256 .bf16 := k0_pay39 o.w
def lb : FVec Ideal S1x256 .f32 := k0_pay37 o.b
def ll (n : Fin 4) : FVec Ideal S64x128 .bf16 := truncf .bf16 (rowsL o.L (place r n)) bitsLt_bf16_f32
def lgt (n : Fin 4) : FVec Ideal S64x256 .f32 := k0_pay40 o.lb (o.ll r n) o.lw
def cum (n : Fin 4) : FVec Ideal S64x256 .f32 := k0_pay41 (upto r) o.lb (o.ll r n) o.lw
def kk (n : Fin 4) : FVec Ideal S64x256 .f32 := rowsK o.K (place r n)
def vv (n : Fin 4) : FVec Ideal S64x512 .f32 := rowsV o.V (place r n)

def last : Bool → FVec Ideal S64x256 .f32 → FVec Ideal S1x256 .f32
  | false, c => extractStridedSlice S1x256 ![63, 0] c (by decide)
  | true, c => k0_pay253 c
def en (n : Fin 4) : FVec Ideal S1x256 .f32 := last r (o.cum r n)

def stt : ℕ → FVec Ideal S512x256 .f32
  | 0 => k0_pay21
  | n + 1 => k0_pay28 mask (stt n) (o.cum r (Fin.ofNat 4 n)) (o.en r (Fin.ofNat 4 n)) (o.kk r (Fin.ofNat 4 n)) (o.vv r (Fin.ofNat 4 n))
      (broadcastTo S512x256 (exp (o.en r (Fin.ofNat 4 n))) (by decide))

def dstt : ℕ → FVec Ideal S512x256 .f32
  | 0 => k0_pay43 o.ds
  | k + 1 => k0_pay69 (o.en r (Fin.ofNat 4 (3 - k))) (dstt k)
def dss (n : Fin 4) : FVec Ideal S512x256 .f32 := o.dstt r (3 - n.val)

def gk (n : Fin 4) : FVec Ideal S64x256 .f32 := k0_pay68 (o.cum r n) (o.en r n) (o.dss r n) (o.vv r n)
def gv (n : Fin 4) : FVec Ideal S64x512 .f32 := k0_pay66 (o.cum r n) (o.en r n) (o.dss r n) (o.kk r n)
def glg (n : Fin 4) : FVec Ideal S64x256 .f32 :=
  k0_pay70 (o.stt r n.val) (o.lgt r n) (o.cum r n) (o.en r n) (o.dss r n) (o.kk r n) (o.vv r n) (from_ r)
def gl (n : Fin 4) : FVec Ideal S64x128 .f32 :=
  k0_pay71 (o.stt r n.val) (o.lgt r n) (o.cum r n) (o.en r n) (o.dss r n) (o.kk r n) (o.vv r n) (from_ r) o.w
def gb : ℕ → FVec Ideal S1x256 .f32
  | 0 => k0_pay45
  | k + 1 => k0_pay74 (gb k) (o.glg r (Fin.ofNat 4 (3 - k)))

end Ops

/-- The kernel's operands: rows, norm gain, scale, shift, the three column groups of the weight, and by direction the gate's weight, its offset and the
    gradient of the state. -/
structure Blk where
  x : FVec Ideal S256x1024 .f32
  g : FVec Ideal S1x1024 .f32
  sc : FVec Ideal S1x1024 .f32
  sh : FVec Ideal S1x1024 .f32
  wk : FVec Ideal S1024x256 .bf16
  wv : FVec Ideal S1024x512 .bf16
  wl : FVec Ideal S1024x128 .bf16
  w : Bool → FVec Ideal S128x256 .f32
  b : Bool → FVec Ideal S1x256 .f32
  ds : Bool → FVec Ideal S512x256 .f32

namespace Blk

variable (p : Blk)

def hc : FVec Ideal S256x1024 .f32 := k0_pay8 p.x p.g p.sc p.sh
def dir (r : Bool) : Ops := ⟨k0_pay13 (k0_pay11 p.wl) (k0_pay12 p.x p.g p.sc p.sh), k0_pay9 p.x p.g p.sc p.sh p.wk, k0_pay10 p.x p.g p.sc p.sh p.wv, p.w r, p.b r, p.ds r⟩

/-- Both directions' gradients of a block of keys, values and gate features. -/
def dk (j : Fin 4) : FVec Ideal S64x256 .f32 := addf ((p.dir false).gk false j) ((p.dir true).gk true (place true j))
def dv (j : Fin 4) : FVec Ideal S64x512 .f32 := addf ((p.dir false).gv false j) ((p.dir true).gv true (place true j))
def dl (j : Fin 4) : FVec Ideal S64x128 .f32 := addf ((p.dir false).gl false j) ((p.dir true).gl true (place true j))
def dK : FVec Ideal S256x256 .f32 := k0_pay491 (p.dk 0) (p.dk 1) (p.dk 2) (p.dk 3)
def dV : FVec Ideal S256x512 .f32 := k0_pay492 (p.dv 0) (p.dv 1) (p.dv 2) (p.dv 3)
def dL : FVec Ideal S256x128 .f32 := k0_pay493 (p.dl 0) (p.dl 1) (p.dl 2) (p.dl 3)

/-- The results. -/
def dwk : FVec Ideal S1024x256 .f32 := k0_pay494 p.hc (p.dk 0) (p.dk 1) (p.dk 2) (p.dk 3)
def dwv : FVec Ideal S1024x512 .f32 := k0_pay495 p.hc (p.dv 0) (p.dv 1) (p.dv 2) (p.dv 3)
def dwl : FVec Ideal S1024x128 .f32 := k0_pay496 p.hc (p.dl 0) (p.dl 1) (p.dl 2) (p.dl 3)
def dsh : FVec Ideal S1x1024 .f32 := k0_pay3 p.dK p.dV p.dL p.wk p.wv p.wl
def dsc : FVec Ideal S1x1024 .f32 := k0_pay4 (k0_pay7 p.x) p.dK p.dV p.dL p.wk p.wv p.wl p.g
def dg : FVec Ideal S1x1024 .f32 := k0_pay5 (k0_pay7 p.x) p.dK p.dV p.dL p.wk p.wv p.wl p.sc
def dgb (r : Bool) : FVec Ideal S1x1x256 .f32 := k0_pay334 ((p.dir r).gb r 4)

end Blk

end Cert.CtxIdeal.Value

end
-- ==== Proof.Ctx.Blocks.lean ====
module

public import proofs.«01_k».proof.Proof.Ctx.Chunk

/-! What the blocks of the context's backward hold: the arguments, the weight's column groups, the gate's padded weight and the gradients of the
    states as one array with zeros between the heads. -/

@[expose] public section

set_option maxRecDepth 16384

noncomputable section

namespace Cert.CtxIdeal.Value

open Idealize.ShloMosaic Idealize.ShloMosaic.TcCoe Idealize.SL.Sem
open Idealize.ShloMosaic.Pipeline (Dat)
open Cert.CtxIdeal Cert.CtxIdeal.Gen Cert.Ctx Cert.Common

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 1] ∧ win0_5.index t = ![0, 1] ∧ win0_6.index t = ![0, 40] ∧ win0_7.index t = ![0, 0] ∧ win0_8.index t = ![0, 0]
    ∧ win0_9.index t = ![0, 0] ∧ win0_10.index t = ![0, 0] ∧ win0_11.index t = ![0, 0] ∧ win0_12.index t = ![0, 0] ∧ win0_17.index t = ![0, 0]
    ∧ win0_18.index t = ![0, 0] ∧ win0_19.index t = ![0, 0] ∧ win0_20.index t = ![0, 0] ∧ win0_21.index t = ![0, 0] ∧ win0_23.index t = ![0, 0, 0] :=
  (by decide +kernel : ∀ t : Fin grid0.N, _)

/-- The arguments, by name: rows, norm gain, scale, shift, weight, the gate's weight and offset, and the gradients of the two states. -/
abbrev argX (c : Dev nD) : FVec Ideal S256x1024 .f32 := m ((c.tc : Thread nD τ).loc main_arg0)
abbrev argG (c : Dev nD) : FVec Ideal S1x1024 .f32 := m ((c.tc : Thread nD τ).loc main_arg1)
abbrev argSc (c : Dev nD) : FVec Ideal S1x1024 .f32 := m ((c.tc : Thread nD τ).loc main_arg2)
abbrev argSh (c : Dev nD) : FVec Ideal S1x1024 .f32 := m ((c.tc : Thread nD τ).loc main_arg3)
abbrev argW (c : Dev nD) : FVec Ideal S1024x5152 .f32 := m ((c.tc : Thread nD τ).loc main_arg4)
abbrev argW2 (c : Dev nD) : FVec Ideal S2x16x256 .f32 := m ((c.tc : Thread nD τ).loc main_arg5)
abbrev argGb (c : Dev nD) : FVec Ideal S2x256 .f32 := m ((c.tc : Thread nD τ).loc main_arg6)
abbrev argF (c : Dev nD) : FVec Ideal S4x64x128 .f32 := m ((c.tc : Thread nD τ).loc main_arg7)
abbrev argB (c : Dev nD) : FVec Ideal S4x64x128 .f32 := m ((c.tc : Thread nD τ).loc main_arg8)

theorem blk_x (c : Dev nD) (t : Fin cfg0.N) (a : Fin 256) (k : Fin 1024) : (iblk m c 0 t : FVec Ideal S256x1024 .f32) (ix2 a k) = argX m c (ix2 a k) := by
  have : (iblk m c 0 t : FVec Ideal S256x1024 .f32) (ix2 a k) = (V m c main_arg0 : FVec Ideal S256x1024 .f32) (ix2 a k) := by blk_ext [iblk, idx t]
  rw [this, V_main_arg0]

theorem blk_g (c : Dev nD) (t : Fin cfg0.N) (k : Fin 1024) : (iblk m c 1 t : FVec Ideal S1x1024 .f32) (ix2 0 k) = argG m c (ix2 0 k) := by
  have : (iblk m c 1 t : FVec Ideal S1x1024 .f32) (ix2 0 k) = (V m c main_arg1 : FVec Ideal S1x1024 .f32) (ix2 0 k) := by blk_ext [iblk, idx t]
  rw [this, V_main_arg1]

theorem blk_sc (c : Dev nD) (t : Fin cfg0.N) (k : Fin 1024) : (iblk m c 2 t : FVec Ideal S1x1024 .f32) (ix2 0 k) = argSc m c (ix2 0 k) := by
  have : (iblk m c 2 t : FVec Ideal S1x1024 .f32) (ix2 0 k) = (V m c main_arg2 : FVec Ideal S1x1024 .f32) (ix2 0 k) := by blk_ext [iblk, idx t]
  rw [this, V_main_arg2]

theorem blk_sh (c : Dev nD) (t : Fin cfg0.N) (k : Fin 1024) : (iblk m c 3 t : FVec Ideal S1x1024 .f32) (ix2 0 k) = argSh m c (ix2 0 k) := by
  have : (iblk m c 3 t : FVec Ideal S1x1024 .f32) (ix2 0 k) = (V m c main_arg3 : FVec Ideal S1x1024 .f32) (ix2 0 k) := by blk_ext [iblk, idx t]
  rw [this, V_main_arg3]

/-- The padded weight: its first columns, the columns after the low-rank group, that group, and zeros. -/
theorem padded (c : Dev nD) (i : Fin 1024) (j : Fin 5248) : (V m c main_v15 : FVec Ideal S1024x5248 .bf16) (ix2 i j)
    = if h : j.val < 1024 then argW m c (ix2 i ⟨j.val, by omega⟩)
      else if h1 : j.val - 1024 < 4096 then argW m c (ix2 i ⟨1056 + (j.val - 1024), by omega⟩)
      else if h2 : j.val - 1024 - 4096 < 32 then argW m c (ix2 i ⟨1024 + (j.val - 1024 - 4096), by omega⟩) else 0 := by
  simp only [V, hostOps0, hostOps0_1, hostOps0_2, hostOps0_3, hostOps0_4, List.flatten_cons, List.flatten_nil, List.append_nil, List.cons_append, List.nil_append]; entry_read
  pointwise

theorem blk_wk (c : Dev nD) (t : Fin cfg0.N) (k : Fin 1024) (j : Fin 256) : X0_4 m c t (ix2 k j) = argW m c (ix2 k ⟨256 + j.val, by omega⟩) := by
  have : X0_4 m c t (ix2 k j) = (V m c main_v15 : FVec Ideal S1024x5248 .bf16) (ix2 k ⟨256 + j.val, by omega⟩) := by
    unfold X0_4; unfold Pipeline.Window.fill; rw [dif_pos (moved0_4 t _)]; blk_ext [iblk, idx t]
  rw [this, padded, dif_pos (by dsimp only; omega)]

theorem blk_wv (c : Dev nD) (t : Fin cfg0.N) (k : Fin 1024) (j : Fin 512) : X0_5 m c t (ix2 k j) = argW m c (ix2 k ⟨512 + j.val, by omega⟩) := by
  have : X0_5 m c t (ix2 k j) = (V m c main_v15 : FVec Ideal S1024x5248 .bf16) (ix2 k ⟨512 + j.val, by omega⟩) := by
    unfold X0_5; unfold Pipeline.Window.fill; rw [dif_pos (moved0_5 t _)]; blk_ext [iblk, idx t]
  rw [this, padded, dif_pos (by dsimp only; omega)]

set_option maxRecDepth 65536 in
theorem blk_wl (c : Dev nD) (t : Fin cfg0.N) (k : Fin 1024) (j : Fin 128) :
    (iblk m c 6 t : FVec Ideal S1024x128 .bf16) (ix2 k j) = if h : j.val < 32 then argW m c (ix2 k ⟨1024 + j.val, by omega⟩) else 0 := by
  have : (iblk m c 6 t : FVec Ideal S1024x128 .bf16) (ix2 k j) = (V m c main_v15 : FVec Ideal S1024x5248 .bf16) (ix2 k ⟨5120 + j.val, by omega⟩) := by
    blk_ext [iblk, idx t]
  rw [this, padded, dif_neg (by dsimp only; omega), dif_neg (by dsimp only; omega)]
  by_cases h : j.val < 32
  · rw [dif_pos (by dsimp only; omega), dif_pos h]; congr 3; dsimp only; omega
  · rw [dif_neg (by dsimp only; omega), dif_neg h]

/-- The gate's weight among zeros. -/
theorem blk_wF (c : Dev nD) (t : Fin cfg0.N) (q : Fin 128) (x : Fin 256) :
    (iblk m c 7 t : FVec Ideal S128x256 .f32) (ix2 q x) = if h : q.val < 16 then argW2 m c (ix3 0 ⟨q.val, h⟩ x) else 0 := by
  have : (iblk m c 7 t : FVec Ideal S128x256 .f32) (ix2 q x) = (V m c main_v18 : FVec Ideal S128x256 .f32) (ix2 q x) := by blk_ext [iblk, idx t]
  rw [this]; simp only [V, hostOps0, hostOps0_1, hostOps0_2, hostOps0_3, hostOps0_4, List.flatten_cons, List.flatten_nil, List.append_nil, List.cons_append, List.nil_append]; entry_read; simp -implicitDefEqProofs only [StableHlo.TRef.toBuf, StableHlo.TRef.ofBuf, cast_cast, cast_eq]; pointwise
  have z : FloatOps.sitofp (F := Ideal) FTy.f32 0#32 = 0 := by show ((_ : ℝ) : EReal) = _; norm_num
  rw [z]

theorem blk_wB (c : Dev nD) (t : Fin cfg0.N) (q : Fin 128) (x : Fin 256) :
    (iblk m c 8 t : FVec Ideal S128x256 .f32) (ix2 q x) = if h : 16 ≤ q.val ∧ q.val - 16 < 16 then argW2 m c (ix3 1 ⟨q.val - 16, h.2⟩ x) else 0 := by
  have : (iblk m c 8 t : FVec Ideal S128x256 .f32) (ix2 q x) = (V m c main_v21 : FVec Ideal S128x256 .f32) (ix2 q x) := by blk_ext [iblk, idx t]
  rw [this]; simp only [V, hostOps0, hostOps0_1, hostOps0_2, hostOps0_3, hostOps0_4, List.flatten_cons, List.flatten_nil, List.append_nil, List.cons_append, List.nil_append]; entry_read; simp -implicitDefEqProofs only [StableHlo.TRef.toBuf, StableHlo.TRef.ofBuf, cast_cast, cast_eq]; pointwise
  have z : FloatOps.sitofp (F := Ideal) FTy.f32 0#32 = 0 := by show ((_ : ℝ) : EReal) = _; norm_num
  rw [z]

theorem blk_bF (c : Dev nD) (t : Fin cfg0.N) (x : Fin 256) : (iblk m c 9 t : FVec Ideal S1x256 .f32) (ix2 0 x) = argGb m c (ix2 0 x) := by
  have : (iblk m c 9 t : FVec Ideal S1x256 .f32) (ix2 0 x) = (V m c main_v22 : FVec Ideal S1x256 .f32) (ix2 0 x) := by blk_ext [iblk, idx t]
  rw [this]; simp only [V, hostOps0, hostOps0_1, hostOps0_2, hostOps0_3, hostOps0_4, List.flatten_cons, List.flatten_nil, List.append_nil, List.cons_append, List.nil_append]; entry_read; pointwise

theorem blk_bB (c : Dev nD) (t : Fin cfg0.N) (x : Fin 256) : (iblk m c 10 t : FVec Ideal S1x256 .f32) (ix2 0 x) = argGb m c (ix2 1 x) := by
  have : (iblk m c 10 t : FVec Ideal S1x256 .f32) (ix2 0 x) = (V m c main_v23 : FVec Ideal S1x256 .f32) (ix2 0 x) := by blk_ext [iblk, idx t]
  rw [this]; simp only [V, hostOps0, hostOps0_1, hostOps0_2, hostOps0_3, hostOps0_4, List.flatten_cons, List.flatten_nil, List.append_nil, List.cons_append, List.nil_append]; entry_read; pointwise

/-- An identity matrix of the heads, from equal counts. -/
theorem eye_at (v : Fin 512) (x : Fin 256) : FloatOps.uitofp (F := Ideal) FTy.f32
    (IntOp.cmpi CmpIPredicate.eq (IntOp.addi (BitVec.ofNat 32 (v.val / 128)) 0#32) (BitVec.ofNat 32 (x.val / 64))) = if Dir.same v x then (1 : EReal) else 0 := by
  have h : ∀ a b : Fin 4, IntOp.cmpi CmpIPredicate.eq (IntOp.addi (BitVec.ofNat 32 a.val) 0#32) (BitVec.ofNat 32 b.val) = if a.val = b.val then 1#1 else 0#1 := by
    decide +kernel
  have := h ⟨v.val / 128, by omega⟩ ⟨x.val / 64, by omega⟩
  dsimp only at this
  rw [this]
  by_cases e : v.val / 128 = x.val / 64
  · rw [if_pos e, if_pos (show Dir.same v x from e)]; show ((_ : ℝ) : EReal) = _; norm_num
  · rw [if_neg e, if_neg (show ¬Dir.same v x from e)]; show ((_ : ℝ) : EReal) = _; norm_num

set_option maxHeartbeats 2000000 in
/-- The states' gradients among zeros. -/
theorem blk_dF (c : Dev nD) (t : Fin cfg0.N) (v : Fin 512) (x : Fin 256) : (iblk m c 11 t : FVec Ideal S512x256 .f32) (ix2 v x)
    = argF m c (ix3 ⟨v.val / 128, by omega⟩ ⟨x.val % 64, by omega⟩ ⟨v.val % 128, by omega⟩) * (if Dir.same v x then 1 else 0) := by
  have : (iblk m c 11 t : FVec Ideal S512x256 .f32) (ix2 v x) = (V m c main_v30 : FVec Ideal S512x256 .f32) (ix2 v x) := by blk_ext [iblk, idx t]
  rw [this]; simp only [V, hostOps0, hostOps0_1, hostOps0_2, hostOps0_3, hostOps0_4, List.flatten_cons, List.flatten_nil, List.append_nil, List.cons_append, List.nil_append]; entry_read; pointwise; rw [eye_at]

set_option maxHeartbeats 2000000 in
theorem blk_dB (c : Dev nD) (t : Fin cfg0.N) (v : Fin 512) (x : Fin 256) : (iblk m c 12 t : FVec Ideal S512x256 .f32) (ix2 v x)
    = argB m c (ix3 ⟨v.val / 128, by omega⟩ ⟨x.val % 64, by omega⟩ ⟨v.val % 128, by omega⟩) * (if Dir.same v x then 1 else 0) := by
  have : (iblk m c 12 t : FVec Ideal S512x256 .f32) (ix2 v x) = (V m c main_v37 : FVec Ideal S512x256 .f32) (ix2 v x) := by blk_ext [iblk, idx t]
  rw [this]; simp only [V, hostOps0, hostOps0_1, hostOps0_2, hostOps0_3, hostOps0_4, List.flatten_cons, List.flatten_nil, List.append_nil, List.cons_append, List.nil_append]; entry_read; pointwise; rw [eye_at]

end Cert.CtxIdeal.Value

end
-- ==== Proof.Ctx.Outs.lean ====
module

public import proofs.«01_k».proof.Proof.Ctx.Chunk

/-! The run's result blocks, as the chunks' functions of the operands' blocks. -/

@[expose] public section

set_option maxRecDepth 16384

noncomputable section

namespace Cert.CtxIdeal.Value

open Idealize.ShloMosaic Idealize.ShloMosaic.TcCoe Idealize.SL.Sem
open Cert.CtxIdeal Cert.CtxIdeal.Gen Cert.Ctx Cert.Common

variable (m : (ℓ : Loc nD τ sig) → Buf (Elt Ideal) ℓ)

/-- The operands' blocks. -/
def blk (c : Dev nD) (t : Fin cfg0.N) : Blk := ⟨iblk m c 0 t, iblk m c 1 t, iblk m c 2 t, iblk m c 3 t, X0_4 m c t, X0_5 m c t, iblk m c 6 t,
  fun r => match r with | false => iblk m c 7 t | true => iblk m c 8 t, fun r => match r with | false => iblk m c 9 t | true => iblk m c 10 t,
  fun r => match r with | false => iblk m c 11 t | true => iblk m c 12 t⟩

theorem out17 (c : Dev nD) (t : Fin cfg0.N) (a : Fin 1024) (x : Fin 256) : (outsAt0 m c t).1 (ix2 a x) = (blk m c t).dwk (ix2 a x) := by
  unfold outsAt0
  frame_out
  sl_kernel_rfl

theorem out18 (c : Dev nD) (t : Fin cfg0.N) (a : Fin 1024) (x : Fin 512) : (outsAt0 m c t).2.1 (ix2 a x) = (blk m c t).dwv (ix2 a x) := by
  unfold outsAt0
  frame_out
  sl_kernel_rfl

theorem out19 (c : Dev nD) (t : Fin cfg0.N) (a : Fin 1024) (x : Fin 128) : (outsAt0 m c t).2.2.1 (ix2 a x) = (blk m c t).dwl (ix2 a x) := by
  unfold outsAt0
  frame_out
  sl_kernel_rfl

theorem out21 (c : Dev nD) (t : Fin cfg0.N) (x : Fin 1024) : (outsAt0 m c t).2.2.2.2.1 (ix2 0 x) = (blk m c t).dg (ix2 0 x) := by
  unfold outsAt0
  frame_out
  sl_kernel_rfl

/-- Two rows beside one another, and two rows below one another. -/
theorem two_mods (A B : FVec Ideal S1x1024 .f32) (x : Fin 2048) :
    View.canon (Val := Elt Ideal) (e := .f32) [⟨Rect.unit ![0, 1024] ![1, 1024] inb_S1x2048_S1x1024_0_1024, A⟩,
      ⟨Rect.unit ![0, 0] ![1, 1024] inb_S1x2048_S1x1024_0_0, B⟩] (ix2 0 x)
      = if h : x.val < 1024 then B (ix2 0 ⟨x.val, h⟩) else A (ix2 0 ⟨x.val - 1024, by omega⟩) := by
  canon_tiles y h
  · have e1 : x.val = 1024 + (y 1).val := h1
    rw [dif_neg (by omega)]
    congr 1
    refine (eq_ix2 y).trans (congrArg₂ ix2 (Subsingleton.elim (α := Fin 1) _ _) (Fin.ext (by dsimp only; omega)))
  · have e1 : x.val = (y 1).val := h1
    have l1 : (y 1).val < 1024 := y1_lt
    rw [dif_pos (by omega)]
    congr 1
    refine (eq_ix2 y).trans (congrArg₂ ix2 (Subsingleton.elim (α := Fin 1) _ _) (Fin.ext (by dsimp only; omega)))

theorem two_gates (A B : FVec Ideal S1x1x256 .f32) (d : Fin 2) (x : Fin 256) :
    View.canon (Val := Elt Ideal) (e := .f32) [⟨Rect.unit ![1, 0, 0] ![1, 1, 256] inb_S2x1x256_S1x1x256_1_0_0, A⟩,
      ⟨Rect.unit ![0, 0, 0] ![1, 1, 256] inb_S2x1x256_S1x1x256_0_0_0, B⟩] (ix3 d 0 x)
      = if d = 0 then B (ix3 0 0 x) else A (ix3 0 0 x) := by
  canon_tiles y h
  · have e0 : d.val = 1 + (y 0).val := h0
    have e2 : x.val = (y 2).val := h2
    rw [if_neg (by rintro rfl; simp at e0)]
    congr 1
    refine (eq_ix3 y).trans (congr (congrArg₂ ix3 (Subsingleton.elim (α := Fin 1) _ _) (Subsingleton.elim (α := Fin 1) _ _)) (Fin.ext e2.symm))
  · have e0 : d.val = (y 0).val := h0
    have l0 : (y 0).val < 1 := y0_lt
    have e2 : x.val = (y 2).val := h2
    rw [if_pos (Fin.ext (by simp; omega))]
    congr 1
    refine (eq_ix3 y).trans (congr (congrArg₂ ix3 (Subsingleton.elim (α := Fin 1) _ _) (Subsingleton.elim (α := Fin 1) _ _)) (Fin.ext e2.symm))

theorem out20 (c : Dev nD) (t : Fin cfg0.N) (x : Fin 2048) : (outsAt0 m c t).2.2.2.1 (ix2 0 x)
    = if h : x.val < 1024 then (blk m c t).dsh (ix2 0 ⟨x.val, h⟩) else (blk m c t).dsc (ix2 0 ⟨x.val - 1024, by omega⟩) := by
  rw [← two_mods]
  unfold outsAt0
  frame_out
  sl_kernel_rfl

theorem out23 (c : Dev nD) (t : Fin cfg0.N) (d : Fin 2) (x : Fin 256) : (outsAt0 m c t).2.2.2.2.2.2.1 (ix3 d 0 x)
    = if d = 0 then (blk m c t).dgb false (ix3 0 0 x) else (blk m c t).dgb true (ix3 0 0 x) := by
  rw [← two_gates]
  unfold outsAt0
  frame_out
  sl_kernel_rfl

end Cert.CtxIdeal.Value

end
-- ==== Proof.Ctx.Steps.lean ====
module

public import proofs.«01_k».proof.Proof.Ctx.Chunk

/-! What a chunk's blocks hold where a direction's operands are real. -/

@[expose] public section

set_option maxRecDepth 16384

noncomputable section

namespace Cert.CtxIdeal.Value

open Idealize.ShloMosaic Idealize.ShloMosaic.TcCoe Idealize.SL.Sem
open Cert.CtxIdeal Cert.CtxIdeal.Gen Cert.Ctx Cert.Common
open scoped BigOperators

theorem dot_real {n : ℕ} {A B : Fin n → EReal} {a b : Fin n → ℝ} (hA : ∀ j, A j = (a j : EReal)) (hB : ∀ j, B j = (b j : EReal)) :
    ∑ j, A j * B j = ((∑ j, a j * b j : ℝ) : EReal) := by
  rw [coe_sum]; exact Finset.sum_congr rfl fun j _ => by rw [hA, hB, EReal.coe_mul]

theorem sum_real {n : ℕ} {A : Fin n → EReal} {a : Fin n → ℝ} (hA : ∀ j, A j = (a j : EReal)) : ∑ j, A j = ((∑ j, a j : ℝ) : EReal) := by
  rw [coe_sum]; exact Finset.sum_congr rfl fun j _ => hA j

/-- Integers that count heads. -/
theorem head_v : ∀ v : Fin 512, k0_pay14 (ix2 v 0) = BitVec.ofNat 32 (v.val / 128) := by
  have e (v : Fin 512) : k0_pay14 (ix2 v 0) = Scalar.select (IntOp.andi
      (IntOp.cmpi CmpIPredicate.ne (IntOp.subi (BitVec.setWidth 32 (IntOp.cmpi CmpIPredicate.sgt (BitVec.ofNat 32 v.val) 0#32))
        (BitVec.setWidth 32 (IntOp.cmpi CmpIPredicate.slt (BitVec.ofNat 32 v.val) 0#32))) 1#32)
      (IntOp.cmpi CmpIPredicate.ne (IntOp.remsi ArithUnit.vector (BitVec.ofNat 32 v.val) 128#32) 0#32))
      (IntOp.subi (IntOp.divsi ArithUnit.vector (BitVec.ofNat 32 v.val) 128#32) 1#32) (IntOp.divsi ArithUnit.vector (BitVec.ofNat 32 v.val) 128#32) := by
    pointwise [k0_pay14]; rfl
  intro v; rw [e]; revert v; decide +kernel

theorem head_x : ∀ x : Fin 256, Scalar.select (IntOp.andi (k0_pay16 (ix2 0 x)) (IntOp.cmpi CmpIPredicate.ne (k0_pay17 (ix2 0 x)) 0#32))
    (IntOp.subi (k0_pay15 (ix2 0 x)) 1#32) (k0_pay15 (ix2 0 x)) = BitVec.ofNat 32 (x.val / 64) := by
  decide +kernel

/-- The mask. -/
theorem mask_at (v : Fin 512) (x : Fin 256) : mask (ix2 v x) = if Dir.same v x then (1 : EReal) else 0 := by
  have e : mask (ix2 v x) = Scalar.select (IntOp.cmpi CmpIPredicate.eq (k0_pay14 (ix2 v 0)) (Scalar.select (IntOp.andi (k0_pay16 (ix2 0 x))
      (IntOp.cmpi CmpIPredicate.ne (k0_pay17 (ix2 0 x)) 0#32)) (IntOp.subi (k0_pay15 (ix2 0 x)) 1#32) (k0_pay15 (ix2 0 x)))) (1 : EReal) 0 := by
    pointwise [mask, k0_pay19, k0_pay14, k0_pay15, k0_pay16, k0_pay17, k0_pay18]
  rw [e, head_v, head_x]
  unfold Dir.same
  have h : ∀ a : Fin 4, ∀ b : Fin 4, Scalar.select (IntOp.cmpi CmpIPredicate.eq (BitVec.ofNat 32 a.val) (BitVec.ofNat 32 b.val)) (1 : EReal) 0
      = if a.val = b.val then 1 else 0 := by
    intro a b
    have : IntOp.cmpi CmpIPredicate.eq (BitVec.ofNat 32 a.val) (BitVec.ofNat 32 b.val) = if a.val = b.val then 1#1 else 0#1 := by
      revert a b; decide +kernel
    rw [this]; split_ifs <;> rfl
  exact h ⟨v.val / 128, by omega⟩ ⟨x.val / 64, by omega⟩

/-- The triangles. -/
theorem upto_at (r : Bool) (a b : Fin 64) : upto r (ix2 (flip r a) (flip r b)) = if b ≤ a then (1 : EReal) else 0 := by
  cases r
  · have e : upto false (ix2 a b) = Scalar.select (IntOp.cmpi CmpIPredicate.sle (BitVec.ofNat 32 b.val) (BitVec.ofNat 32 a.val)) (1 : EReal) 0 := by
      pointwise [upto, k0_pay20]
    have h : IntOp.cmpi CmpIPredicate.sle (BitVec.ofNat 32 b.val) (BitVec.ofNat 32 a.val) = if b ≤ a then 1#1 else 0#1 := by
      clear e; revert a b; decide +kernel
    refine e.trans ?_
    rw [h]; split_ifs <;> rfl
  · have e (a b : Fin 64) : upto true (ix2 a b) = Scalar.select (IntOp.cmpi CmpIPredicate.sge (BitVec.ofNat 32 b.val) (BitVec.ofNat 32 a.val)) (1 : EReal) 0 := by
      pointwise [upto, k0_pay249]
    have h : IntOp.cmpi CmpIPredicate.sge (BitVec.ofNat 32 (Fin.rev b).val) (BitVec.ofNat 32 (Fin.rev a).val) = if b ≤ a then 1#1 else 0#1 := by
      revert a b; decide +kernel
    refine (e (Fin.rev a) (Fin.rev b)).trans ?_
    rw [h]; split_ifs <;> rfl

theorem from_at (r : Bool) (a b : Fin 64) : from_ r (ix2 (flip r a) (flip r b)) = if a ≤ b then (1 : EReal) else 0 := by
  cases r
  · have e : from_ false (ix2 a b) = Scalar.select (IntOp.cmpi CmpIPredicate.sge (BitVec.ofNat 32 b.val) (BitVec.ofNat 32 a.val)) (1 : EReal) 0 := by
      pointwise [from_, k0_pay46]
    have h : IntOp.cmpi CmpIPredicate.sge (BitVec.ofNat 32 b.val) (BitVec.ofNat 32 a.val) = if a ≤ b then 1#1 else 0#1 := by
      clear e; revert a b; decide +kernel
    refine e.trans ?_
    rw [h]; split_ifs <;> rfl
  · have e (a b : Fin 64) : from_ true (ix2 a b) = Scalar.select (IntOp.cmpi CmpIPredicate.sle (BitVec.ofNat 32 b.val) (BitVec.ofNat 32 a.val)) (1 : EReal) 0 := by
      pointwise [from_, k0_pay274]
    have h : IntOp.cmpi CmpIPredicate.sle (BitVec.ofNat 32 (Fin.rev b).val) (BitVec.ofNat 32 (Fin.rev a).val) = if a ≤ b then 1#1 else 0#1 := by
      revert a b; decide +kernel
    refine (e (Fin.rev a) (Fin.rev b)).trans ?_
    rw [h]; split_ifs <;> rfl

/-- A direction's operands hold a direction's real arrays, chunk by chunk. -/
structure Reads (o : Ops) (r : Bool) (D : Dir) : Prop where
  hK : ∀ n a x, o.kk r n (ix2 (flip r a) x) = (D.K n a x : EReal)
  hV : ∀ n a v, o.vv r n (ix2 (flip r a) v) = (D.V n a v : EReal)
  hlg : ∀ n a x, o.lgt r n (ix2 (flip r a) x) = (D.lg n a x : EReal)
  hds : ∀ v x, o.ds (ix2 v x) = (D.ds v x : EReal)

namespace Reads

variable {o : Ops} {r : Bool} {D : Dir} (R : Reads o r D)
include R

theorem cum (n : Fin 4) (a : Fin 64) (x : Fin 256) : o.cum r n (ix2 (flip r a) x) = (D.c n a x : EReal) := by
  have e (t b l w) (i : Fin 64) : k0_pay41 (F := Ideal) t b l w (ix2 i x) = ∑ k, t (ix2 i k) * ((min (k0_pay40 b l w (ix2 k x)) 0
      - Ideal.log (1 + Ideal.exp (0 - max (k0_pay40 b l w (ix2 k x)) (-(k0_pay40 b l w (ix2 k x)))))) * Ideal.ofBits FTy.f32 0x3D800000#32) := by
    pointwise [k0_pay41]; rfl
  unfold Ops.cum
  rw [e, ← Equiv.sum_comp (flip r)]
  unfold Dir.c
  rw [coe_sum]
  refine Finset.sum_congr rfl fun b _ => ?_
  have h := R.hlg n b x
  unfold Ops.lgt at h
  rw [upto_at, h, lsig_min, ofBits_inv_16, ← EReal.coe_mul, ite_mul_real]
  unfold Dir.al
  exact congrArg _ (by rw [mul_one_div])

theorem en (n : Fin 4) (x : Fin 256) : o.en r n (ix2 0 x) = (D.cl n x : EReal) := by
  have e : o.en r n (ix2 0 x) = o.cum r n (ix2 (flip r 63) x) := by
    cases r
    · show Ops.last false _ _ = _
      pointwise [Ops.last]; rfl
    · show Ops.last true _ _ = _
      pointwise [Ops.last, k0_pay253]; rfl
  rw [e, R.cum]
  unfold Dir.c Dir.cl
  exact congrArg _ (Finset.sum_congr rfl fun b _ => if_pos (by omega))

theorem ed (n : Fin 4) (a : Fin 64) (x : Fin 256) : k0_pay64 (o.cum r n) (o.en r n) (ix2 (flip r a) x) = (D.ed n a x : EReal) := by
  have e (c l) (i : Fin 64) : k0_pay64 (F := Ideal) c l (ix2 i x) = Ideal.exp (l (ix2 0 x) - c (ix2 i x)) := by pointwise [k0_pay64]
  rw [e, R.en, R.cum, ← EReal.coe_sub, Ideal.exp_coe]; rfl

theorem kd (n : Fin 4) (a : Fin 64) (x : Fin 256) : k0_pay65 (o.cum r n) (o.en r n) (o.kk r n) (ix2 (flip r a) x) = (D.kd n a x : EReal) := by
  have e (c l k) (i : Fin 64) : k0_pay65 (F := Ideal) c l k (ix2 i x) = k (ix2 i x) * k0_pay64 c l (ix2 i x) := by pointwise [k0_pay65]
  rw [e, R.ed, R.hK, ← EReal.coe_mul]; rfl

theorem stt (n : ℕ) (v : Fin 512) (x : Fin 256) : o.stt r n (ix2 v x) = (D.st n v x : EReal) := by
  induction n with
  | zero =>
    show k0_pay21 (F := Ideal) (ix2 v x) = _
    rw [show k0_pay21 (F := Ideal) (ix2 v x) = 0 from by pointwise [k0_pay21]]; rfl
  | succ n ih =>
    have e (a s c e k w) (h) : k0_pay28 (F := Ideal) a s c e k w (broadcastTo S512x256 (exp e) h) (ix2 v x)
        = s (ix2 v x) * Ideal.exp (e (ix2 0 x)) + a (ix2 v x) * ∑ i, w (ix2 i v) * k0_pay65 c e k (ix2 i x) := by
      pointwise [k0_pay28, k0_pay65, k0_pay64]
    show k0_pay28 (F := Ideal) _ _ _ _ _ _ _ _ = _
    rw [e, ih, R.en, mask_at, ← Equiv.sum_comp (flip r), dot_real (fun a => R.hV _ a v) (fun a => R.kd _ a x), Ideal.exp_coe, ite_mul_real, ← EReal.coe_mul,
      ← EReal.coe_add]
    rfl

theorem dstt (n : ℕ) (v : Fin 512) (x : Fin 256) : o.dstt r n (ix2 v x) = (D.dst n v x : EReal) := by
  induction n with
  | zero =>
    show k0_pay43 (F := Ideal) o.ds (ix2 v x) = _
    rw [show k0_pay43 (F := Ideal) o.ds (ix2 v x) = o.ds (ix2 v x) from by pointwise [k0_pay43], R.hds]; rfl
  | succ n ih =>
    have e (s c) : k0_pay69 (F := Ideal) c s (ix2 v x) = s (ix2 v x) * Ideal.exp (c (ix2 0 x)) := by pointwise [k0_pay69, k0_pay63]
    show k0_pay69 (F := Ideal) _ _ _ = _
    rw [e, ih, R.en, Ideal.exp_coe, ← EReal.coe_mul]; rfl

theorem dss (n : Fin 4) (v : Fin 512) (x : Fin 256) : o.dss r n (ix2 v x) = (D.dS n x v : EReal) := R.dstt _ v x

theorem dkd (n : Fin 4) (a : Fin 64) (x : Fin 256) : k0_pay67 (o.dss r n) (o.vv r n) (ix2 (flip r a) x) = (D.dkd n a x : EReal) := by
  have e (s w) (i : Fin 64) : k0_pay67 (F := Ideal) s w (ix2 i x) = ∑ v, w (ix2 i v) * s (ix2 v x) := by pointwise [k0_pay67]
  rw [e, dot_real (fun v => R.hV n a v) (fun v => R.dss n v x)]; rfl

theorem gk (n : Fin 4) (a : Fin 64) (x : Fin 256) : o.gk r n (ix2 (flip r a) x) = (D.dK n a x : EReal) := by
  have e (c l s w) (i : Fin 64) : k0_pay68 (F := Ideal) c l s w (ix2 i x) = k0_pay67 s w (ix2 i x) * k0_pay64 c l (ix2 i x) := by pointwise [k0_pay68]
  unfold Ops.gk
  rw [e, R.dkd, R.ed, ← EReal.coe_mul]; rfl

theorem gv (n : Fin 4) (a : Fin 64) (v : Fin 512) : o.gv r n (ix2 (flip r a) v) = (D.dV n a v : EReal) := by
  have e (c l s k) (i : Fin 64) : k0_pay66 (F := Ideal) c l s k (ix2 i v) = ∑ x, k0_pay65 c l k (ix2 i x) * s (ix2 v x) := by pointwise [k0_pay66]
  unfold Ops.gv
  rw [e, dot_real (fun x => R.kd n a x) (fun x => R.dss n v x)]; rfl

theorem glg (n : Fin 4) (a : Fin 64) (x : Fin 256) : o.glg r n (ix2 (flip r a) x) = (D.dlg n a x : EReal) := by
  have e (a s c e k v d t) (u : Fin 64) : k0_pay70 (F := Ideal) a s c e k v d t (ix2 u x)
      = (∑ i, t (ix2 u i) * ((0 - k0_pay67 k d (ix2 i x)) * k0_pay65 c e v (ix2 i x)) +
          ((∑ i, k (ix2 i x) * a (ix2 i x)) * Ideal.exp (e (ix2 0 x)) + ∑ i, k0_pay67 k d (ix2 i x) * k0_pay65 c e v (ix2 i x))) *
        Ideal.div 1 (1 + Ideal.exp (0 - (0 - s (ix2 u x)))) * Ideal.ofBits FTy.f32 0x3D800000#32 := by
    pointwise [k0_pay70, k0_pay63]
  unfold Ops.glg
  rw [e, ← Equiv.sum_comp (flip r) (fun i => from_ r _ * _), ← Equiv.sum_comp (flip r) (fun i => k0_pay67 _ _ _ * _),
    dot_real (fun v => R.dss n v x) (fun v => R.stt n.val v x), dot_real (fun b => R.dkd n b x) (fun b => R.kd n b x), R.en, Ideal.exp_coe, R.hlg,
    ofBits_inv_16]
  have h1 : ∑ b, from_ r (ix2 (flip r a) (flip r b)) * ((0 - k0_pay67 (o.dss r n) (o.vv r n) (ix2 (flip r b) x))
        * k0_pay65 (o.cum r n) (o.en r n) (o.kk r n) (ix2 (flip r b) x))
      = ((∑ b, if a ≤ b then -(D.dkd n b x * D.kd n b x) else 0 : ℝ) : EReal) := by
    refine sum_real fun b => ?_
    rw [from_at, R.dkd, R.kd, zero_sub, ← EReal.coe_neg, ← EReal.coe_mul, ite_mul_real, neg_mul]
  rw [h1]
  have h2 : Ideal.div 1 (1 + Ideal.exp (0 - (0 - (D.lg n a x : EReal)))) = (Common.sig (-D.lg n a x) : EReal) := by
    rw [zero_sub (D.lg n a x : EReal), ← EReal.coe_neg, sig_real']
  rw [h2, ← EReal.coe_mul, ← EReal.coe_add, ← EReal.coe_add, ← EReal.coe_mul, ← EReal.coe_mul]; rfl

theorem gl (n : Fin 4) (a : Fin 64) (q : Fin 128) {W : Fin 128 → Fin 256 → ℝ} (hw : ∀ q x, o.w (ix2 q x) = (W q x : EReal)) :
    o.gl r n (ix2 (flip r a) q) = ((∑ x, D.dlg n a x * W q x : ℝ) : EReal) := by
  have e (a s c e k v d t w) (u : Fin 64) : k0_pay71 (F := Ideal) a s c e k v d t w (ix2 u q) = ∑ x, k0_pay70 a s c e k v d t (ix2 u x) * w (ix2 q x) := by
    pointwise [k0_pay71]
  unfold Ops.gl
  rw [e]; exact dot_real (fun x => R.glg n a x) (fun x => hw q x)

theorem gb (x : Fin 256) : o.gb r 4 (ix2 0 x) = ((∑ n, ∑ a, D.dlg n a x : ℝ) : EReal) := by
  have e (k : ℕ) : o.gb r (k + 1) (ix2 0 x) = o.gb r k (ix2 0 x) + ((∑ a, D.dlg (Fin.ofNat 4 (3 - k)) a x : ℝ) : EReal) := by
    have e (b s) : k0_pay74 (F := Ideal) b s (ix2 0 x) = b (ix2 0 x) + ∑ i, s (ix2 i x) := by pointwise [k0_pay74]
    show k0_pay74 (F := Ideal) _ _ _ = _
    rw [e, ← Equiv.sum_comp (flip r), sum_real (fun a => R.glg _ a x)]
  rw [e, e, e, e, show o.gb r 0 (ix2 0 x) = 0 from by show k0_pay45 (F := Ideal) _ = _; pointwise [k0_pay45], zero_add, ← EReal.coe_add, ← EReal.coe_add,
    ← EReal.coe_add]
  refine congrArg _ ?_
  rw [Fin.sum_univ_four]
  show ∑ a, D.dlg 3 a x + ∑ a, D.dlg 2 a x + ∑ a, D.dlg 1 a x + ∑ a, D.dlg 0 a x = _
  ring

end Reads

end Cert.CtxIdeal.Value

end
-- ==== Proof.Ctx.Points.lean ====
module

public import proofs.«01_k».proof.Proof.Ctx.Blocks
public import proofs.«01_k».proof.Proof.Ctx.Outs
public import proofs.«01_k».proof.Proof.Ctx.Steps

/-! What the context backward's result blocks hold where the arguments are real. -/

@[expose] public section

set_option maxRecDepth 16384

noncomputable section

namespace Cert.CtxIdeal.Value

open Idealize.ShloMosaic Idealize.ShloMosaic.TcCoe Idealize.SL.Sem
open Idealize.ShloMosaic.Pipeline (Dat)
open Cert.CtxIdeal Cert.CtxIdeal.Gen Cert.Ctx Cert.Common
open scoped BigOperators

variable (m : (ℓ : Loc nD τ sig) → Buf (Elt Ideal) ℓ)

/-- The arguments are real arrays. -/
structure Reals (c : Dev nD) (A : Args) : Prop where
  hx : ∀ i e, argX m c (ix2 i e) = (A.x i e : EReal)
  hg : ∀ e, argG m c (ix2 0 e) = (A.g e : EReal)
  hsc : ∀ e, argSc m c (ix2 0 e) = (A.sc e : EReal)
  hsh : ∀ e, argSh m c (ix2 0 e) = (A.sh e : EReal)
  hw : ∀ e j, argW m c (ix2 e j) = (A.w e j : EReal)
  hw2 : ∀ d r x, argW2 m c (ix3 d r x) = (A.w2 d r x : EReal)
  hgb : ∀ d x, argGb m c (ix2 d x) = (A.gb d x : EReal)
  hF : ∀ h k v, argF m c (ix3 h k v) = (A.dsF h k v : EReal)
  hB : ∀ h k v, argB m c (ix3 h k v) = (A.dsB h k v : EReal)

/-- The same of the blocks. -/
structure Holds (p : Blk) (A : Args) : Prop where
  hx : ∀ i e, p.x (ix2 i e) = (A.x i e : EReal)
  hg : ∀ e, p.g (ix2 0 e) = (A.g e : EReal)
  hsc : ∀ e, p.sc (ix2 0 e) = (A.sc e : EReal)
  hsh : ∀ e, p.sh (ix2 0 e) = (A.sh e : EReal)
  hwk : ∀ e (x : Fin 256), p.wk (ix2 e x) = (A.w e ⟨256 + x.val, by omega⟩ : EReal)
  hwv : ∀ e (x : Fin 512), p.wv (ix2 e x) = (A.w e ⟨512 + x.val, by omega⟩ : EReal)
  hwl : ∀ e q, p.wl (ix2 e q) = (A.wl e q : EReal)
  hwF : ∀ q x, p.w false (ix2 q x) = (A.gate 0 q x : EReal)
  hwB : ∀ q x, p.w true (ix2 q x) = (A.gate 1 q x : EReal)
  hbF : ∀ x, p.b false (ix2 0 x) = (A.gb 0 x : EReal)
  hbB : ∀ x, p.b true (ix2 0 x) = (A.gb 1 x : EReal)
  hdF : ∀ v x, p.ds false (ix2 v x) = (wide A.dsF v x : EReal)
  hdB : ∀ v x, p.ds true (ix2 v x) = (wide A.dsB v x : EReal)

/-- The gate's weight among zeros, by direction. -/
theorem gate_first {f : FVec Ideal S2x16x256 .f32} {A : Args} (H : ∀ d r x, f (ix3 d r x) = (A.w2 d r x : EReal)) (q : Fin 128) (x : Fin 256) :
    (if h : q.val < 16 then f (ix3 0 ⟨q.val, h⟩ x) else 0) = (A.gate 0 q x : EReal) := by
  unfold Args.gate
  by_cases h : q.val < 16
  · rw [dif_pos h, dif_pos (show 16 * (0 : Fin 2).val ≤ q.val ∧ q.val - 16 * (0 : Fin 2).val < 16 from ⟨Nat.zero_le _, h⟩)]; exact H 0 _ x
  · rw [dif_neg h, dif_neg (show ¬(16 * (0 : Fin 2).val ≤ q.val ∧ q.val - 16 * (0 : Fin 2).val < 16) from fun k => h k.2)]; rfl

theorem gate_second {f : FVec Ideal S2x16x256 .f32} {A : Args} (H : ∀ d r x, f (ix3 d r x) = (A.w2 d r x : EReal)) (q : Fin 128) (x : Fin 256) :
    (if h : 16 ≤ q.val ∧ q.val - 16 < 16 then f (ix3 1 ⟨q.val - 16, h.2⟩ x) else 0) = (A.gate 1 q x : EReal) := by
  unfold Args.gate
  by_cases h : 16 ≤ q.val ∧ q.val - 16 < 16
  · rw [dif_pos h, dif_pos (show 16 * (1 : Fin 2).val ≤ q.val ∧ q.val - 16 * (1 : Fin 2).val < 16 from h)]; exact H 1 _ x
  · rw [dif_neg h, dif_neg (show ¬(16 * (1 : Fin 2).val ≤ q.val ∧ q.val - 16 * (1 : Fin 2).val < 16) from h)]; rfl

variable {m} {c : Dev nD} {A : Args}

set_option maxHeartbeats 2000000 in
theorem holds (R : Reals m c A) (t : Fin cfg0.N) : Holds (blk m c t) A where
  hx i e := (blk_x m c t i e).trans (R.hx i e)
  hg e := (blk_g m c t e).trans (R.hg e)
  hsc e := (blk_sc m c t e).trans (R.hsc e)
  hsh e := (blk_sh m c t e).trans (R.hsh e)
  hwk e x := (blk_wk m c t e x).trans (R.hw e _)
  hwv e x := (blk_wv m c t e x).trans (R.hw e _)
  hwl e q := (blk_wl m c t e q).trans (by unfold Args.wl; split_ifs with h; exacts [R.hw e _, rfl])
  hwF q x := (blk_wF m c t q x).trans (gate_first R.hw2 q x)
  hwB q x := (blk_wB m c t q x).trans (gate_second R.hw2 q x)
  hbF x := (blk_bF m c t x).trans (R.hgb 0 x)
  hbB x := (blk_bB m c t x).trans (R.hgb 1 x)
  hdF v x := (blk_dF m c t v x).trans (by
    rw [R.hF, mul_ite_real]; unfold wide
    by_cases h : Dir.same v x
    · rw [if_pos h, if_pos h]; congr 3
    · rw [if_neg h, if_neg h])
  hdB v x := (blk_dB m c t v x).trans (by
    rw [R.hB, mul_ite_real]; unfold wide
    by_cases h : Dir.same v x
    · rw [if_pos h, if_pos h]; congr 3
    · rw [if_neg h, if_neg h])

/-- A sum over the gate's padded features is the sum over its own sixteen. -/
theorem sum_gate (f : Fin 32 → ℝ) (u : Fin 16 → ℝ) (d : Fin 2) :
    ∑ q : Fin 128, (if h : q.val < 32 then f ⟨q.val, h⟩ else 0) * (if h : 16 * d.val ≤ q.val ∧ q.val - 16 * d.val < 16 then u ⟨q.val - 16 * d.val, h.2⟩ else 0)
      = ∑ r : Fin 16, f ⟨16 * d.val + r.val, by omega⟩ * u r := by
  symm
  refine Finset.sum_of_injOn (fun r : Fin 16 => (⟨16 * d.val + r.val, by omega⟩ : Fin 128)) ?_ ?_ ?_ ?_
  · intro a _ b _ e; have := congrArg Fin.val e; dsimp only at this; exact Fin.ext (by omega)
  · intro a _; exact Finset.mem_coe.2 (Finset.mem_univ _)
  · intro q _ hq
    rw [dif_neg (c := 16 * d.val ≤ q.val ∧ _), mul_zero]
    intro h
    exact hq ⟨⟨q.val - 16 * d.val, h.2⟩, Finset.mem_coe.2 (Finset.mem_univ _), Fin.ext (by dsimp only; omega)⟩
  · intro r _
    have hd := d.isLt
    rw [dif_pos (by dsimp only; omega), dif_pos (by dsimp only; omega)]
    congr 2; exact Fin.ext (by dsimp only; omega)

variable {p : Blk} (H : Holds p A)
include H

theorem pt_xn (i : Fin 256) (e : Fin 1024) : k0_pay7 (F := Ideal) p.x (ix2 i e) = (A.xn i e : EReal) := by
  have h (X) : k0_pay7 (F := Ideal) X (ix2 i e) = X (ix2 i e) * Ideal.rsqrt (Ideal.div (∑ l, X (ix2 i l) * X (ix2 i l)) (Ideal.ofBits FTy.f32 0x44800000#32)
      + Ideal.ofBits FTy.f32 0x358637BD#32) := by pointwise [k0_pay7]
  rw [h, dot_real (fun l => H.hx i l) (fun l => H.hx i l), ofBits_1024, ofBits_eps, div_real _ (by norm_num), ← EReal.coe_add,
    show (∑ l, A.x i l * A.x i l) / 1024 + eps = A.ms i from rfl, rsqrt_real (A.ms_pos i), H.hx, ← EReal.coe_mul]; rfl

theorem pt_hc (i : Fin 256) (e : Fin 1024) : k0_pay8 (F := Ideal) p.x p.g p.sc p.sh (ix2 i e) = (A.hc i e : EReal) := by
  have h (X g s b) : k0_pay8 (F := Ideal) X g s b (ix2 i e) = k0_pay7 X (ix2 i e) * (g (ix2 0 e) * (1 + s (ix2 0 e))) + b (ix2 0 e) := by pointwise [k0_pay8]
  rw [h, pt_xn H, H.hg, H.hsc, H.hsh, ← EReal.coe_one, ← EReal.coe_add, ← EReal.coe_mul, ← EReal.coe_mul, ← EReal.coe_add]; rfl

theorem pt_K (r : Bool) (i : Fin 256) (x : Fin 256) : (p.dir r).K (ix2 i x) = (A.K i x : EReal) := by
  have h (X g s b w) : k0_pay9 (F := Ideal) X g s b w (ix2 i x) = ∑ e, k0_pay8 X g s b (ix2 i e) * w (ix2 e x) := by pointwise [k0_pay9]
  exact (h _ _ _ _ _).trans (dot_real (fun e => pt_hc H i e) (fun e => H.hwk e x))

theorem pt_V (r : Bool) (i : Fin 256) (x : Fin 512) : (p.dir r).V (ix2 i x) = (A.V i x : EReal) := by
  have h (X g s b w) : k0_pay10 (F := Ideal) X g s b w (ix2 i x) = ∑ e, k0_pay8 X g s b (ix2 i e) * w (ix2 e x) := by pointwise [k0_pay10]
  exact (h _ _ _ _ _).trans (dot_real (fun e => pt_hc H i e) (fun e => H.hwv e x))

theorem pt_L (r : Bool) (i : Fin 256) (q : Fin 128) : (p.dir r).L (ix2 i q) = ((if h : q.val < 32 then A.L i ⟨q.val, h⟩ else 0 : ℝ) : EReal) := by
  have h (X g s b w) : k0_pay13 (F := Ideal) (k0_pay11 w) (k0_pay12 X g s b) (ix2 i q) = ∑ e, k0_pay8 X g s b (ix2 i e) * w (ix2 e q) := by
    pointwise [k0_pay13, k0_pay11, k0_pay12]
  refine (h _ _ _ _ _).trans ((dot_real (fun e => pt_hc H i e) (fun e => H.hwl e q)).trans (congrArg _ ?_))
  unfold Args.wl
  split_ifs with hq
  · rfl
  · simp

/-- The row that a direction takes. -/
def rowOf : Bool → Fin 4 → Fin 64 → Fin 256
  | false => rowF
  | true => rowB

omit H in
theorem row_val (r : Bool) (n : Fin 4) (a : Fin 64) : (rowOf r n a).val = 64 * (place r n).val + (flip r a).val := by
  cases r
  · rfl
  · show 255 - (64 * n.val + a.val) = 64 * (3 - n.val) + (Fin.rev a).val
    rw [Fin.val_rev]; omega

theorem pt_kk (r : Bool) (n : Fin 4) (a : Fin 64) (x : Fin 256) : (p.dir r).kk r n (ix2 (flip r a) x) = (A.K (rowOf r n a) x : EReal) := by
  have h (K j) (i : Fin 64) : rowsK K j (ix2 i x) = K (ix2 ⟨64 * j.val + i.val, by omega⟩ x) := by pointwise [rowsK]
  unfold Ops.kk
  rw [h, ← pt_K H r]; congr 2; exact Fin.ext (row_val r n a).symm

theorem pt_vv (r : Bool) (n : Fin 4) (a : Fin 64) (x : Fin 512) : (p.dir r).vv r n (ix2 (flip r a) x) = (A.V (rowOf r n a) x : EReal) := by
  have h (K j) (i : Fin 64) : rowsV K j (ix2 i x) = K (ix2 ⟨64 * j.val + i.val, by omega⟩ x) := by pointwise [rowsV]
  unfold Ops.vv
  rw [h, ← pt_V H r]; congr 2; exact Fin.ext (row_val r n a).symm

theorem pt_lgt (r : Bool) (d : Fin 2) (hw : ∀ q x, p.w r (ix2 q x) = (A.gate d q x : EReal)) (hb : ∀ x, p.b r (ix2 0 x) = (A.gb d x : EReal))
    (n : Fin 4) (a : Fin 64) (x : Fin 256) : (p.dir r).lgt r n (ix2 (flip r a) x) = (A.lg (rowOf r n a) d x : EReal) := by
  have h (b l w) (i : Fin 64) : k0_pay40 (F := Ideal) (k0_pay37 b) l (k0_pay39 w) (ix2 i x) = ∑ q, l (ix2 i q) * w (ix2 q x) + b (ix2 0 x) := by
    pointwise [k0_pay40, k0_pay37, k0_pay39]
  have h2 (L j) (i : Fin 64) (q : Fin 128) : truncf (F := Ideal) .bf16 (rowsL L j) bitsLt_bf16_f32 (ix2 i q) = L (ix2 ⟨64 * j.val + i.val, by omega⟩ q) := by
    pointwise [rowsL]
  unfold Ops.lgt Ops.lb Ops.lw Ops.ll
  have h3 (q : Fin 128) : truncf (F := Ideal) .bf16 (rowsL (p.dir r).L (place r n)) bitsLt_bf16_f32 (ix2 (flip r a) q)
      = ((if h : q.val < 32 then A.L (rowOf r n a) ⟨q.val, h⟩ else 0 : ℝ) : EReal) := by
    rw [h2, ← pt_L H r]; congr 2; exact Fin.ext (row_val r n a).symm
  refine (h _ _ _ _).trans ((congrArg₂ (· + ·) (dot_real h3 (fun q => hw q x)) (hb x)).trans ?_)
  rw [← EReal.coe_add]
  unfold Args.gate Args.lg
  rw [sum_gate (A.L (rowOf r n a)) (fun r => A.w2 d r x) d]

theorem readsF : Reads (p.dir false) false A.F := ⟨pt_kk H false, pt_vv H false, pt_lgt H false 0 H.hwF H.hbF, H.hdF⟩
theorem readsB : Reads (p.dir true) true A.B := ⟨pt_kk H true, pt_vv H true, pt_lgt H true 1 H.hwB H.hbB, H.hdB⟩

omit H in
/-- The place of a row in the other direction's order. -/
theorem back (i : Fin 256) : place true (chF i) = chB i ∧ flip true (inB i) = inF i := by
  refine ⟨Fin.ext ?_, Fin.ext ?_⟩
  · show 3 - i.val / 64 = (255 - i.val) / 64; omega
  · show (Fin.rev (inB i)).val = i.val % 64
    rw [Fin.val_rev]; show 64 - ((255 - i.val) % 64 + 1) = i.val % 64; omega

theorem pt_dk (i : Fin 256) (x : Fin 256) : p.dk (chF i) (ix2 (inF i) x) = (A.dk i x : EReal) := by
  show (p.dir false).gk false (chF i) (ix2 (flip false (inF i)) x) + (p.dir true).gk true (place true (chF i)) (ix2 (inF i) x) = _
  have e := (readsB H).gk (chB i) (inB i) x
  rw [(back i).2] at e
  rw [(readsF H).gk, (back i).1, e, ← EReal.coe_add]; rfl

theorem pt_dv (i : Fin 256) (x : Fin 512) : p.dv (chF i) (ix2 (inF i) x) = (A.dv i x : EReal) := by
  show (p.dir false).gv false (chF i) (ix2 (flip false (inF i)) x) + (p.dir true).gv true (place true (chF i)) (ix2 (inF i) x) = _
  have e := (readsB H).gv (chB i) (inB i) x
  rw [(back i).2] at e
  rw [(readsF H).gv, (back i).1, e, ← EReal.coe_add]; rfl

theorem pt_dl (i : Fin 256) (x : Fin 128) : p.dl (chF i) (ix2 (inF i) x) = (A.dl i x : EReal) := by
  show (p.dir false).gl false (chF i) (ix2 (flip false (inF i)) x) + (p.dir true).gl true (place true (chF i)) (ix2 (inF i) x) = _
  have e := (readsB H).gl (chB i) (inB i) x H.hwB
  rw [(back i).2] at e
  rw [(readsF H).gl _ _ _ H.hwF, (back i).1, e, ← EReal.coe_add]; rfl

theorem pt_dK (i : Fin 256) (x : Fin 256) : p.dK (ix2 i x) = (A.dk i x : EReal) := by
  rw [← pt_dk H]
  unfold Blk.dK
  generalize p.dk = f
  have e (a b c d) : k0_pay491 (F := Ideal) a b c d (ix2 i x) = if h : i.val < 64 then a (ix2 ⟨i.val, h⟩ x) else if h1 : i.val - 64 < 64 then b (ix2 ⟨i.val - 64, h1⟩ x)
      else if h2 : i.val - 64 - 64 < 64 then c (ix2 ⟨i.val - 64 - 64, h2⟩ x) else d (ix2 ⟨i.val - 64 - 64 - 64, by omega⟩ x) := by pointwise [k0_pay491]
  rw [e]
  split_ifs <;> exact congr (congrArg f (Fin.ext (by unfold chF; dsimp only; omega))) (congrArg (ix2 · x) (Fin.ext (by unfold inF; dsimp only; omega)))

theorem pt_dV (i : Fin 256) (x : Fin 512) : p.dV (ix2 i x) = (A.dv i x : EReal) := by
  rw [← pt_dv H]
  unfold Blk.dV
  generalize p.dv = f
  have e (a b c d) : k0_pay492 (F := Ideal) a b c d (ix2 i x) = if h : i.val < 64 then a (ix2 ⟨i.val, h⟩ x) else if h1 : i.val - 64 < 64 then b (ix2 ⟨i.val - 64, h1⟩ x)
      else if h2 : i.val - 64 - 64 < 64 then c (ix2 ⟨i.val - 64 - 64, h2⟩ x) else d (ix2 ⟨i.val - 64 - 64 - 64, by omega⟩ x) := by pointwise [k0_pay492]
  rw [e]
  split_ifs <;> exact congr (congrArg f (Fin.ext (by unfold chF; dsimp only; omega))) (congrArg (ix2 · x) (Fin.ext (by unfold inF; dsimp only; omega)))

theorem pt_dL (i : Fin 256) (x : Fin 128) : p.dL (ix2 i x) = (A.dl i x : EReal) := by
  rw [← pt_dl H]
  unfold Blk.dL
  generalize p.dl = f
  have e (a b c d) : k0_pay493 (F := Ideal) a b c d (ix2 i x) = if h : i.val < 64 then a (ix2 ⟨i.val, h⟩ x) else if h1 : i.val - 64 < 64 then b (ix2 ⟨i.val - 64, h1⟩ x)
      else if h2 : i.val - 64 - 64 < 64 then c (ix2 ⟨i.val - 64 - 64, h2⟩ x) else d (ix2 ⟨i.val - 64 - 64 - 64, by omega⟩ x) := by pointwise [k0_pay493]
  rw [e]
  split_ifs <;> exact congr (congrArg f (Fin.ext (by unfold chF; dsimp only; omega))) (congrArg (ix2 · x) (Fin.ext (by unfold inF; dsimp only; omega)))

/-- The weight's gradients. -/
theorem pt_dwk (e : Fin 1024) (x : Fin 256) : p.dwk (ix2 e x) = (A.dwk e x : EReal) := by
  have h (H a b c d) : k0_pay494 (F := Ideal) H a b c d (ix2 e x) = ∑ i, H (ix2 i e) * k0_pay491 a b c d (ix2 i x) := by pointwise [k0_pay494]
  exact (h _ _ _ _ _).trans (dot_real (fun i => pt_hc H i e) (fun i => pt_dK H i x))

theorem pt_dwv (e : Fin 1024) (x : Fin 512) : p.dwv (ix2 e x) = (A.dwv e x : EReal) := by
  have h (H a b c d) : k0_pay495 (F := Ideal) H a b c d (ix2 e x) = ∑ i, H (ix2 i e) * k0_pay492 a b c d (ix2 i x) := by pointwise [k0_pay495]
  exact (h _ _ _ _ _).trans (dot_real (fun i => pt_hc H i e) (fun i => pt_dV H i x))

theorem pt_dwl (e : Fin 1024) (x : Fin 128) : p.dwl (ix2 e x) = (A.dwl e x : EReal) := by
  have h (H a b c d) : k0_pay496 (F := Ideal) H a b c d (ix2 e x) = ∑ i, H (ix2 i e) * k0_pay493 a b c d (ix2 i x) := by pointwise [k0_pay496]
  exact (h _ _ _ _ _).trans (dot_real (fun i => pt_hc H i e) (fun i => pt_dL H i x))

/-- The gradient of the hidden rows, and its sums. -/
theorem pt_dh (i : Fin 256) (e : Fin 1024) : k0_pay1 (F := Ideal) p.dK p.dV p.dL p.wk p.wv p.wl (ix2 i e) = (A.dh i e : EReal) := by
  have h (K V L a b c) : k0_pay1 (F := Ideal) K V L a b c (ix2 i e)
      = ∑ x, K (ix2 i x) * a (ix2 e x) + ∑ x, V (ix2 i x) * b (ix2 e x) + ∑ x, L (ix2 i x) * c (ix2 e x) := by pointwise [k0_pay1]
  rw [h, dot_real (fun x => pt_dK H i x) (fun x => H.hwk e x), dot_real (fun x => pt_dV H i x) (fun x => H.hwv e x),
    dot_real (fun x => pt_dL H i x) (fun x => H.hwl e x), ← EReal.coe_add, ← EReal.coe_add]; rfl

theorem pt_dsh (e : Fin 1024) : p.dsh (ix2 0 e) = (A.dsh e : EReal) := by
  have h (K V L a b c) : k0_pay3 (F := Ideal) K V L a b c (ix2 0 e) = ∑ i, k0_pay1 K V L a b c (ix2 i e) := by pointwise [k0_pay3]
  exact (h _ _ _ _ _ _).trans (sum_real fun i => pt_dh H i e)

theorem pt_dsc (e : Fin 1024) : p.dsc (ix2 0 e) = (A.dsc e : EReal) := by
  have h (X K V L a b c g) : k0_pay4 (F := Ideal) X K V L a b c g (ix2 0 e) = (∑ i, k0_pay1 K V L a b c (ix2 i e) * X (ix2 i e)) * g (ix2 0 e) := by
    pointwise [k0_pay4, k0_pay2]
  refine (h _ _ _ _ _ _ _ _).trans ?_
  rw [dot_real (fun i => pt_dh H i e) (fun i => pt_xn H i e), H.hg, ← EReal.coe_mul]; rfl

theorem pt_dg (e : Fin 1024) : p.dg (ix2 0 e) = (A.dg e : EReal) := by
  have h (X K V L a b c g) : k0_pay5 (F := Ideal) X K V L a b c g (ix2 0 e) = (∑ i, k0_pay1 K V L a b c (ix2 i e) * X (ix2 i e)) * (1 + g (ix2 0 e)) := by
    pointwise [k0_pay5, k0_pay2]
  refine (h _ _ _ _ _ _ _ _).trans ?_
  rw [dot_real (fun i => pt_dh H i e) (fun i => pt_xn H i e), H.hsc, ← EReal.coe_one, ← EReal.coe_add, ← EReal.coe_mul]; rfl

omit H in
/-- The gradient of the gate's offset. -/
theorem pt_dgb (r : Bool) (D : Dir) (R : Reads (p.dir r) r D) (x : Fin 256) : p.dgb r (ix3 0 0 x) = ((∑ n, ∑ a, D.dlg n a x : ℝ) : EReal) := by
  have h (b) : k0_pay334 (F := Ideal) b (ix3 0 0 x) = b (ix2 0 x) := by pointwise [k0_pay334]
  exact (h _).trans (R.gb x)

end Cert.CtxIdeal.Value

end
-- ==== Proof.Ctx.Arrays.lean ====
module

public import proofs.«01_k».proof.Proof.Ctx.Points

/-! The context backward's result arrays after the run. -/

@[expose] public section

set_option maxRecDepth 16384

noncomputable section

namespace Cert.CtxIdeal.Value

open Idealize.ShloMosaic Idealize.ShloMosaic.TcCoe Idealize.SL.Sem
open Idealize.ShloMosaic.Pipeline (Dat)
open Cert.CtxIdeal Cert.CtxIdeal.Gen Cert.Ctx Cert.Common

variable {m : (ℓ : Loc nD τ sig) → Buf (Elt Ideal) ℓ} {c : Dev nD} {A : Args}

/-- The weight's gradients, by groups of columns. -/
theorem final_dwk (R : Reals m c A) :
    (dats m 0 c).arrAt 17 cfg0.N = ((fun y : S1024x256.Idx => (A.dwk (y 0) (y 1) : EReal)) : S1024x256.Idx → EReal) := by
  refine (dats m 0 c).arrAt_eq_of_covers 17 _ (by decide +kernel) fun t hf y => ?_
  obtain ⟨a, k, rfl⟩ : ∃ (a : Fin 1024) (k : Fin 256), y = ix2 a k := ⟨y 0, y 1, eq_ix2 (n0 := 1024) (n1 := 256) y⟩
  blk_simp
  rw [after0_17, out17, pt_dwk (holds R t)]
  have e : ((win0_17.blk t).view.emb (ix2 a k) : S1024x256.Idx) = ix2 a k := by blk_ext [idx t]
  rw [e]; rfl

theorem final_dwv (R : Reals m c A) :
    (dats m 0 c).arrAt 18 cfg0.N = ((fun y : S1024x512.Idx => (A.dwv (y 0) (y 1) : EReal)) : S1024x512.Idx → EReal) := by
  refine (dats m 0 c).arrAt_eq_of_covers 18 _ (by decide +kernel) fun t hf y => ?_
  obtain ⟨a, k, rfl⟩ : ∃ (a : Fin 1024) (k : Fin 512), y = ix2 a k := ⟨y 0, y 1, eq_ix2 (n0 := 1024) (n1 := 512) y⟩
  blk_simp
  rw [after0_18, out18, pt_dwv (holds R t)]
  have e : ((win0_18.blk t).view.emb (ix2 a k) : S1024x512.Idx) = ix2 a k := by blk_ext [idx t]
  rw [e]; rfl

theorem final_dwl (R : Reals m c A) :
    (dats m 0 c).arrAt 19 cfg0.N = ((fun y : S1024x128.Idx => (A.dwl (y 0) (y 1) : EReal)) : S1024x128.Idx → EReal) := by
  refine (dats m 0 c).arrAt_eq_of_covers 19 _ (by decide +kernel) fun t hf y => ?_
  obtain ⟨a, k, rfl⟩ : ∃ (a : Fin 1024) (k : Fin 128), y = ix2 a k := ⟨y 0, y 1, eq_ix2 (n0 := 1024) (n1 := 128) y⟩
  blk_simp
  rw [after0_19, out19, pt_dwl (holds R t)]
  have e : ((win0_19.blk t).view.emb (ix2 a k) : S1024x128.Idx) = ix2 a k := by blk_ext [idx t]
  rw [e]; rfl

theorem final_mod (R : Reals m c A) :
    (dats m 0 c).arrAt 20 cfg0.N = ((fun y : S1x2048.Idx => (mods A (y 1) : EReal)) : S1x2048.Idx → EReal) := by
  refine (dats m 0 c).arrAt_eq_of_covers 20 _ (by decide +kernel) fun t hf y => ?_
  obtain ⟨i, k, rfl⟩ : ∃ (i : Fin 1) (k : Fin 2048), y = ix2 i k := ⟨y 0, y 1, eq_ix2 (n0 := 1) (n1 := 2048) y⟩
  obtain rfl : i = 0 := Subsingleton.elim _ _
  blk_simp
  have e : ((win0_20.blk t).view.emb (ix2 0 k) : S1x2048.Idx) = ix2 0 k := by blk_ext [idx t]
  rw [after0_20, out20, e]
  show _ = (mods A k : EReal)
  unfold mods
  split_ifs with h
  · exact pt_dsh (holds R t) _
  · exact pt_dsc (holds R t) _

theorem final_dg (R : Reals m c A) :
    (dats m 0 c).arrAt 21 cfg0.N = ((fun y : S1x1024.Idx => (A.dg (y 1) : EReal)) : S1x1024.Idx → EReal) := by
  refine (dats m 0 c).arrAt_eq_of_covers 21 _ (by decide +kernel) fun t hf y => ?_
  obtain ⟨i, k, rfl⟩ : ∃ (i : Fin 1) (k : Fin 1024), y = ix2 i k := ⟨y 0, y 1, eq_ix2 (n0 := 1) (n1 := 1024) y⟩
  obtain rfl : i = 0 := Subsingleton.elim _ _
  blk_simp
  rw [after0_21, out21, pt_dg (holds R t)]
  have e : ((win0_21.blk t).view.emb (ix2 0 k) : S1x1024.Idx) = ix2 0 k := by blk_ext [idx t]
  rw [e]; rfl

theorem final_dgb (R : Reals m c A) :
    (dats m 0 c).arrAt 23 cfg0.N = ((fun y : S2x1x256.Idx => (A.dgb (y 0) (y 2) : EReal)) : S2x1x256.Idx → EReal) := by
  refine (dats m 0 c).arrAt_eq_of_covers 23 _ (by decide +kernel) fun t hf y => ?_
  obtain ⟨d, i, k, rfl⟩ : ∃ (d : Fin 2) (i : Fin 1) (k : Fin 256), y = ix3 d i k := ⟨y 0, y 1, y 2, eq_ix3 (n0 := 2) (n1 := 1) (n2 := 256) y⟩
  obtain rfl : i = 0 := Subsingleton.elim _ _
  blk_simp
  have e : ((win0_23.blk t).view.emb (ix3 d 0 k) : S2x1x256.Idx) = ix3 d 0 k := by blk_ext [idx t]
  rw [after0_23, out23, e]
  show _ = (A.dgb d k : EReal)
  unfold Args.dgb
  split_ifs with h
  · exact pt_dgb false _ (readsF (holds R t)) k
  · exact pt_dgb true _ (readsB (holds R t)) k

end Cert.CtxIdeal.Value

end
-- ==== Proof.Ctx.Window.lean ====
module

public import proofs.«01_k».proof.Proof.Ctx.Formula
public import Idealize.ShloMosaic.Lib.Pointwise

/-! A running sum along one axis of sixty-four, as a window of sixty-four over a padded array: up to an element, and from an element on. -/

@[expose] public section

set_option maxRecDepth 16384

noncomputable section

namespace Cert.Ctx

open Idealize.ShloMosaic Idealize.ShloMosaic.TcCoe
open scoped BigOperators

/-- Chunks of rows by head: one batch, the head, the chunk, the row and the column. -/
abbrev Rows : Shape := ⟨5, ![1, 4, 4, 64, 64]⟩

/-- A window's places. -/
abbrev Win : Shape := ⟨5, ![1, 1, 1, 64, 1]⟩

/-- A window's places by the row. -/
def winRow : Win.Idx ≃ Fin 64 where
  toFun w := w 3
  invFun b := ix5 (0 : Fin 1) (0 : Fin 1) (0 : Fin 1) b (0 : Fin 1)
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv b := rfl

/-- A window's sum is a sum over its rows. -/
theorem window_sum {lo hi : Fin 5 → ℕ} (W : Rows.ReduceWindows ![1, 1, 1, 64, 1] ![1, 1, 1, 1, 1] lo hi Rows) (x : Rows.Idx → EReal)
    {z : EReal} (hz : z = 0) (h n : Fin 4) (a k : Fin 64) :
    Ideal.hostReduceWindowAdd ![1, 1, 1, 64, 1] ![1, 1, 1, 1, 1] lo hi W x z (ix5 (0 : Fin 1) h n a k)
      = ∑ b : Fin 64, if hin : ∀ c, lo c ≤ (ix5 (0 : Fin 1) h n a k : Rows.Idx) c * ![1, 1, 1, 1, 1] c + (winRow.symm b c).val
            ∧ (ix5 (0 : Fin 1) h n a k : Rows.Idx) c * ![1, 1, 1, 1, 1] c + (winRow.symm b c).val - lo c < Rows.size c
          then x (fun c => ⟨(ix5 (0 : Fin 1) h n a k : Rows.Idx) c * ![1, 1, 1, 1, 1] c + (winRow.symm b c).val - lo c, (hin c).2⟩) else 0 := by
  subst hz
  unfold Ideal.hostReduceWindowAdd Host.reduceWindow
  dsimp only
  have fold (N : ℕ) (f : Fin N → EReal) : (List.finRange N).foldl (fun r n => r + f n) 0 = ∑ n, f n := by
    rw [Fin.sum_univ_def, List.sum_eq_foldl, List.foldl_map]
  refine (fold _ _).trans ?_
  refine Fintype.sum_equiv (Win.rowMajor.symm.trans winRow) _ _ fun i => ?_
  rw [Equiv.trans_apply, Equiv.symm_apply_apply]
  exact dite_congr rfl (fun _ => rfl) fun _ => rfl

/-- The sum up to an element. -/
theorem window_upto (W : Rows.ReduceWindows ![1, 1, 1, 64, 1] ![1, 1, 1, 1, 1] ![0, 0, 0, 63, 0] ![0, 0, 0, 0, 0] Rows) (x : Rows.Idx → EReal)
    {z : EReal} (hz : z = 0) (h n : Fin 4) (a k : Fin 64) :
    Ideal.hostReduceWindowAdd ![1, 1, 1, 64, 1] ![1, 1, 1, 1, 1] ![0, 0, 0, 63, 0] ![0, 0, 0, 0, 0] W x z (ix5 (0 : Fin 1) h n a k)
      = ∑ b : Fin 64, if b ≤ a then x (ix5 (0 : Fin 1) h n b k) else 0 := by
  rw [window_sum W x hz, ← Finset.sum_filter]
  rw [← Finset.sum_filter_of_ne (p := fun b : Fin 64 => 63 ≤ a.val + b.val)]
  · refine Finset.sum_nbij' (fun b => Fin.ofNat 64 (a.val + b.val - 63)) (fun b => Fin.ofNat 64 (b.val + 63 - a.val)) ?_ ?_ ?_ ?_ ?_
    · intro b hb
      have hb := (Finset.mem_filter.1 hb).2
      refine Finset.mem_filter.2 ⟨Finset.mem_univ _, Fin.le_def.2 ?_⟩
      rw [Fin.val_ofNat]; omega
    · intro b hb
      have hb := Fin.le_def.1 (Finset.mem_filter.1 hb).2
      refine Finset.mem_filter.2 ⟨Finset.mem_univ _, ?_⟩
      rw [Fin.val_ofNat]; omega
    · intro b hb
      have hb := (Finset.mem_filter.1 hb).2
      refine Fin.ext ?_
      rw [Fin.val_ofNat, Fin.val_ofNat]; omega
    · intro b hb
      have hb := Fin.le_def.1 (Finset.mem_filter.1 hb).2
      refine Fin.ext ?_
      rw [Fin.val_ofNat, Fin.val_ofNat]; omega
    · intro b hb
      have hb := (Finset.mem_filter.1 hb).2
      rw [dif_pos]
      · refine congrArg x (funext fun c => Fin.ext ?_)
        fin_cases c
        · rfl
        · show h.val * 1 + 0 - 0 = h.val; omega
        · show n.val * 1 + 0 - 0 = n.val; omega
        · show a.val * 1 + b.val - 63 = (Fin.ofNat 64 (a.val + b.val - 63)).val
          rw [Fin.val_ofNat]; omega
        · show k.val * 1 + 0 - 0 = k.val; omega
      · intro c
        fin_cases c
        · exact ⟨Nat.zero_le _, Nat.zero_lt_one⟩
        · show 0 ≤ h.val * 1 + 0 ∧ h.val * 1 + 0 - 0 < 4; omega
        · show 0 ≤ n.val * 1 + 0 ∧ n.val * 1 + 0 - 0 < 4; omega
        · show 63 ≤ a.val * 1 + b.val ∧ a.val * 1 + b.val - 63 < 64; omega
        · show 0 ≤ k.val * 1 + 0 ∧ k.val * 1 + 0 - 0 < 64; omega
  · intro b _ hne
    by_contra hb
    refine hne (dif_neg fun hin => hb ?_)
    have := (hin 3).1
    have e : 63 ≤ a.val * 1 + b.val := this
    omega

/-- The sum from an element on. -/
theorem window_from (W : Rows.ReduceWindows ![1, 1, 1, 64, 1] ![1, 1, 1, 1, 1] ![0, 0, 0, 0, 0] ![0, 0, 0, 63, 0] Rows) (x : Rows.Idx → EReal)
    {z : EReal} (hz : z = 0) (h n : Fin 4) (a k : Fin 64) :
    Ideal.hostReduceWindowAdd ![1, 1, 1, 64, 1] ![1, 1, 1, 1, 1] ![0, 0, 0, 0, 0] ![0, 0, 0, 63, 0] W x z (ix5 (0 : Fin 1) h n a k)
      = ∑ b : Fin 64, if a ≤ b then x (ix5 (0 : Fin 1) h n b k) else 0 := by
  rw [window_sum W x hz, ← Finset.sum_filter]
  rw [← Finset.sum_filter_of_ne (p := fun b : Fin 64 => a.val + b.val < 64)]
  · refine Finset.sum_nbij' (fun b => Fin.ofNat 64 (a.val + b.val)) (fun b => Fin.ofNat 64 (b.val - a.val)) ?_ ?_ ?_ ?_ ?_
    · intro b hb
      have hb := (Finset.mem_filter.1 hb).2
      refine Finset.mem_filter.2 ⟨Finset.mem_univ _, Fin.le_def.2 ?_⟩
      rw [Fin.val_ofNat]; omega
    · intro b hb
      have hb := Fin.le_def.1 (Finset.mem_filter.1 hb).2
      refine Finset.mem_filter.2 ⟨Finset.mem_univ _, ?_⟩
      rw [Fin.val_ofNat]; omega
    · intro b hb
      have hb := (Finset.mem_filter.1 hb).2
      refine Fin.ext ?_
      rw [Fin.val_ofNat, Fin.val_ofNat]; omega
    · intro b hb
      have hb := Fin.le_def.1 (Finset.mem_filter.1 hb).2
      refine Fin.ext ?_
      rw [Fin.val_ofNat, Fin.val_ofNat]; omega
    · intro b hb
      have hb := (Finset.mem_filter.1 hb).2
      rw [dif_pos]
      · refine congrArg x (funext fun c => Fin.ext ?_)
        fin_cases c
        · rfl
        · show h.val * 1 + 0 - 0 = h.val; omega
        · show n.val * 1 + 0 - 0 = n.val; omega
        · show a.val * 1 + b.val - 0 = (Fin.ofNat 64 (a.val + b.val)).val
          rw [Fin.val_ofNat]; omega
        · show k.val * 1 + 0 - 0 = k.val; omega
      · intro c
        fin_cases c
        · exact ⟨Nat.zero_le _, Nat.zero_lt_one⟩
        · show 0 ≤ h.val * 1 + 0 ∧ h.val * 1 + 0 - 0 < 4; omega
        · show 0 ≤ n.val * 1 + 0 ∧ n.val * 1 + 0 - 0 < 4; omega
        · show 0 ≤ a.val * 1 + b.val ∧ a.val * 1 + b.val - 0 < 64; omega
        · show 0 ≤ k.val * 1 + 0 ∧ k.val * 1 + 0 - 0 < 64; omega
  · intro b _ hne
    by_contra hb
    refine hne (dif_neg fun hin => hb ?_)
    have := (hin 3).2
    have e : a.val * 1 + b.val - 0 < 64 := this
    omega

end Cert.Ctx

end
-- ==== Proof.Ctx.Chain.lean ====
module

public import proofs.«01_k».proof.Proof.Ctx.Formula
public import proofs.«01_k».proof.Proof.Common.Decay

/-! One direction's recurrence and its gradient by heads, as equations between elements, and what they give where the operands are real: the same
    numbers as with zeros between the heads. -/

@[expose] public section

set_option maxRecDepth 16384

noncomputable section

namespace Cert.Ctx

open Idealize.ShloMosaic Cert.Common
open scoped BigOperators

/-- A head's column of keys and of values, in the arrays without heads. -/
def kcol (h : Fin 4) (k : Fin 64) : Fin 256 := ⟨64 * h.val + k.val, by omega⟩
def vcol (h : Fin 4) (v : Fin 128) : Fin 512 := ⟨128 * h.val + v.val, by omega⟩

/-- The recurrence's elements, by head, chunk, row and column: keys, values, log decays and their running sums; the states before the chunks and
    the gradients of the states after them; the gradients of the decays' sums, of values, keys and log decays. -/
structure Chain where
  K : Fin 4 → Fin 4 → Fin 64 → Fin 64 → EReal
  V : Fin 4 → Fin 4 → Fin 64 → Fin 128 → EReal
  a : Fin 4 → Fin 4 → Fin 64 → Fin 64 → EReal
  c : Fin 4 → Fin 4 → Fin 64 → Fin 64 → EReal
  S : Fin 4 → Fin 4 → Fin 64 → Fin 128 → EReal
  G : Fin 4 → Fin 4 → Fin 64 → Fin 128 → EReal
  dV : Fin 4 → Fin 4 → Fin 64 → Fin 128 → EReal
  dK : Fin 4 → Fin 4 → Fin 64 → Fin 64 → EReal
  dkd : Fin 4 → Fin 4 → Fin 64 → Fin 64 → EReal
  m : Fin 4 → Fin 4 → Fin 64 → Fin 64 → EReal
  dcl : Fin 4 → Fin 4 → Fin 64 → EReal
  da : Fin 4 → Fin 4 → Fin 64 → Fin 64 → EReal
  sum : ∀ h n b k, c h n b k = ∑ i, if i ≤ b then a h n i k else 0
  S0 : ∀ h k v, S 0 h k v = 0
  S1 : ∀ h k v, S 1 h k v = Ideal.exp (c h 0 63 k) * S 0 h k v + ∑ b, (K h 0 b k * Ideal.exp (c h 0 63 k - c h 0 b k)) * V h 0 b v
  S2 : ∀ h k v, S 2 h k v = Ideal.exp (c h 1 63 k) * S 1 h k v + ∑ b, (K h 1 b k * Ideal.exp (c h 1 63 k - c h 1 b k)) * V h 1 b v
  S3 : ∀ h k v, S 3 h k v = Ideal.exp (c h 2 63 k) * S 2 h k v + ∑ b, (K h 2 b k * Ideal.exp (c h 2 63 k - c h 2 b k)) * V h 2 b v
  G2 : ∀ h k v, G 2 h k v = Ideal.exp (c h 3 63 k) * G 3 h k v
  G1 : ∀ h k v, G 1 h k v = Ideal.exp (c h 2 63 k) * G 2 h k v
  G0 : ∀ h k v, G 0 h k v = Ideal.exp (c h 1 63 k) * G 1 h k v
  edV : ∀ h n b v, dV h n b v = ∑ k, G n h k v * (K h n b k * Ideal.exp (c h n 63 k - c h n b k))
  edkd : ∀ h n b k, dkd h n b k = ∑ v, G n h k v * V h n b v
  edK : ∀ h n b k, dK h n b k = dkd h n b k * Ideal.exp (c h n 63 k - c h n b k)
  em : ∀ h n b k, m h n b k = K h n b k * dkd h n b k * Ideal.exp (c h n 63 k - c h n b k)
  edcl : ∀ h n k, dcl h n k = (∑ v, G n h k v * S n h k v) * Ideal.exp (c h n 63 k) + ∑ b, m h n b k
  eda : ∀ h n b k, da h n b k = ∑ i : Fin 64, if b ≤ i then -m h n i k + (if 63 ≤ i.val then dcl h n k else 0) else 0

namespace Chain

/-- The operands are a direction's real arrays, and the gradient of its state has zeros between the heads. -/
structure Reads (C : Chain) (D : Dir) : Prop where
  hK : ∀ h n b k, C.K h n b k = (D.K n b (kcol h k) : EReal)
  hV : ∀ h n b v, C.V h n b v = (D.V n b (vcol h v) : EReal)
  ha : ∀ h n b k, C.a h n b k = (D.al n b (kcol h k) : EReal)
  hG : ∀ h k v, C.G 3 h k v = (D.ds (vcol h v) (kcol h k) : EReal)
  off : ∀ v x, ¬Dir.same v x → D.ds v x = 0

variable {C : Chain} {D : Dir} (R : Reads C D)

theorem same_cols (h : Fin 4) (k : Fin 64) (v : Fin 128) : Dir.same (vcol h v) (kcol h k) := by
  show (128 * h.val + v.val) / 128 = (64 * h.val + k.val) / 64; omega

/-- A sum that is zero outside a head is the sum over the head. -/
theorem sum_values (h : Fin 4) (k : Fin 64) (f : Fin 512 → ℝ) (z : ∀ v, ¬Dir.same v (kcol h k) → f v = 0) : ∑ v, f (vcol h v) = ∑ v, f v := by
  refine Finset.sum_of_injOn (vcol h) (fun a _ b _ e => ?_) (fun a _ => Finset.mem_coe.2 (Finset.mem_univ _)) (fun v _ hv => z v fun e => hv ?_) fun _ _ => rfl
  · have := congrArg Fin.val e; dsimp only [vcol] at this; exact Fin.ext (by omega)
  · have e : v.val / 128 = (64 * h.val + k.val) / 64 := e
    exact ⟨⟨v.val % 128, by omega⟩, Finset.mem_coe.2 (Finset.mem_univ _), Fin.ext (by dsimp only [vcol]; omega)⟩

theorem sum_keys (h : Fin 4) (v : Fin 128) (f : Fin 256 → ℝ) (z : ∀ x, ¬Dir.same (vcol h v) x → f x = 0) : ∑ k, f (kcol h k) = ∑ x, f x := by
  refine Finset.sum_of_injOn (kcol h) (fun a _ b _ e => ?_) (fun a _ => Finset.mem_coe.2 (Finset.mem_univ _)) (fun x _ hx => z x fun e => hx ?_) fun _ _ => rfl
  · have := congrArg Fin.val e; dsimp only [kcol] at this; exact Fin.ext (by omega)
  · have e : (128 * h.val + v.val) / 128 = x.val / 64 := e
    exact ⟨⟨x.val % 64, by omega⟩, Finset.mem_coe.2 (Finset.mem_univ _), Fin.ext (by dsimp only [kcol]; omega)⟩

include R

theorem off_dst (n : ℕ) (v : Fin 512) (x : Fin 256) (h : ¬Dir.same v x) : D.dst n v x = 0 := by
  induction n with
  | zero => exact R.off v x h
  | succ n ih => show D.dst n v x * _ = 0; rw [ih, zero_mul]

theorem c_at (h n : Fin 4) (b k : Fin 64) : C.c h n b k = (D.c n b (kcol h k) : EReal) := by
  rw [C.sum]; unfold Dir.c; rw [coe_sum]
  refine Finset.sum_congr rfl fun i _ => ?_
  rw [R.ha]; split_ifs <;> rfl

theorem cl_at (h n : Fin 4) (k : Fin 64) : C.c h n 63 k = (D.cl n (kcol h k) : EReal) := by
  rw [c_at R]
  unfold Dir.c Dir.cl
  exact congrArg _ (Finset.sum_congr rfl fun b _ => if_pos (by omega))

theorem ed_at (h n : Fin 4) (b k : Fin 64) : Ideal.exp (C.c h n 63 k - C.c h n b k) = (D.ed n b (kcol h k) : EReal) := by
  rw [cl_at R, c_at R, ← EReal.coe_sub, Ideal.exp_coe]; rfl

theorem kd_at (h n : Fin 4) (b k : Fin 64) : C.K h n b k * Ideal.exp (C.c h n 63 k - C.c h n b k) = (D.kd n b (kcol h k) : EReal) := by
  rw [ed_at R, R.hK, ← EReal.coe_mul]; rfl

theorem up_at (h n : Fin 4) (k : Fin 64) (v : Fin 128) :
    ∑ b, (C.K h n b k * Ideal.exp (C.c h n 63 k - C.c h n b k)) * C.V h n b v = (D.up n (kcol h k) (vcol h v) : EReal) := by
  unfold Dir.up
  rw [if_pos (same_cols h k v), coe_sum]
  exact Finset.sum_congr rfl fun b _ => by rw [kd_at R, R.hV, ← EReal.coe_mul, mul_comm]

theorem step_at (h n : Fin 4) (k : Fin 64) (v : Fin 128) {s : EReal} {z : ℝ} (e : s = (z : EReal)) :
    Ideal.exp (C.c h n 63 k) * s = ((z * Real.exp (D.cl n (kcol h k)) : ℝ) : EReal) := by
  rw [e, cl_at R, Ideal.exp_coe, ← EReal.coe_mul, mul_comm]

theorem S_at : ∀ (n h : Fin 4) (k : Fin 64) (v : Fin 128), C.S n h k v = (D.st n.val (vcol h v) (kcol h k) : EReal) := by
  have h0 (h k v) : C.S 0 h k v = (D.st 0 (vcol h v) (kcol h k) : EReal) := by rw [C.S0]; rfl
  have h1 (h k v) : C.S 1 h k v = (D.st 1 (vcol h v) (kcol h k) : EReal) := by rw [C.S1, step_at R h 0 k v (h0 h k v), up_at R, ← EReal.coe_add]; rfl
  have h2 (h k v) : C.S 2 h k v = (D.st 2 (vcol h v) (kcol h k) : EReal) := by rw [C.S2, step_at R h 1 k v (h1 h k v), up_at R, ← EReal.coe_add]; rfl
  have h3 (h k v) : C.S 3 h k v = (D.st 3 (vcol h v) (kcol h k) : EReal) := by rw [C.S3, step_at R h 2 k v (h2 h k v), up_at R, ← EReal.coe_add]; rfl
  intro n
  match n with
  | 0 => exact h0
  | 1 => exact h1
  | 2 => exact h2
  | 3 => exact h3

/-- The state after the last chunk. -/
theorem last_at (h : Fin 4) (k : Fin 64) (v : Fin 128) : Ideal.exp (C.c h 3 63 k) * C.S 3 h k v
    + ∑ b, (C.K h 3 b k * Ideal.exp (C.c h 3 63 k - C.c h 3 b k)) * C.V h 3 b v = (D.st 4 (vcol h v) (kcol h k) : EReal) := by
  rw [step_at R h 3 k v (S_at R 3 h k v), up_at R, ← EReal.coe_add]; rfl

theorem G_at : ∀ (n h : Fin 4) (k : Fin 64) (v : Fin 128), C.G n h k v = (D.dS n (kcol h k) (vcol h v) : EReal) := by
  have h3 (h k v) : C.G 3 h k v = (D.dst 0 (vcol h v) (kcol h k) : EReal) := R.hG h k v
  have h2 (h k v) : C.G 2 h k v = (D.dst 1 (vcol h v) (kcol h k) : EReal) := by rw [C.G2, step_at R h 3 k v (h3 h k v)]; rfl
  have h1 (h k v) : C.G 1 h k v = (D.dst 2 (vcol h v) (kcol h k) : EReal) := by rw [C.G1, step_at R h 2 k v (h2 h k v)]; rfl
  have h0 (h k v) : C.G 0 h k v = (D.dst 3 (vcol h v) (kcol h k) : EReal) := by rw [C.G0, step_at R h 1 k v (h1 h k v)]; rfl
  intro n
  match n with
  | 0 => exact h0
  | 1 => exact h1
  | 2 => exact h2
  | 3 => exact h3

theorem dV_at (h n : Fin 4) (b : Fin 64) (v : Fin 128) : C.dV h n b v = (D.dV n b (vcol h v) : EReal) := by
  rw [C.edV]; unfold Dir.dV
  rw [← sum_keys h v (fun x => D.kd n b x * D.dS n x (vcol h v)) fun x hx => by unfold Dir.dS; rw [off_dst R _ _ _ hx, mul_zero], coe_sum]
  exact Finset.sum_congr rfl fun k _ => by rw [kd_at R, G_at R, ← EReal.coe_mul, mul_comm]

theorem dkd_at (h n : Fin 4) (b k : Fin 64) : C.dkd h n b k = (D.dkd n b (kcol h k) : EReal) := by
  rw [C.edkd]; unfold Dir.dkd
  rw [← sum_values h k (fun v => D.V n b v * D.dS n (kcol h k) v) fun v hv => by unfold Dir.dS; rw [off_dst R _ _ _ hv, mul_zero], coe_sum]
  exact Finset.sum_congr rfl fun v _ => by rw [R.hV, G_at R, ← EReal.coe_mul, mul_comm]

theorem dK_at (h n : Fin 4) (b k : Fin 64) : C.dK h n b k = (D.dK n b (kcol h k) : EReal) := by
  rw [C.edK, dkd_at R, ed_at R, ← EReal.coe_mul]; rfl

theorem m_at (h n : Fin 4) (b k : Fin 64) : C.m h n b k = ((D.dkd n b (kcol h k) * D.kd n b (kcol h k) : ℝ) : EReal) := by
  rw [C.em, R.hK, dkd_at R, ed_at R, ← EReal.coe_mul, ← EReal.coe_mul]
  exact congrArg _ (by unfold Dir.kd; ring)

theorem dcl_at (h n : Fin 4) (k : Fin 64) : C.dcl h n k = (D.dcl n (kcol h k) : EReal) := by
  have e : ∑ v, C.G n h k v * C.S n h k v = ((∑ v, D.dS n (kcol h k) v * D.st n.val v (kcol h k) : ℝ) : EReal) := by
    rw [← sum_values h k (fun v => D.dS n (kcol h k) v * D.st n.val v (kcol h k)) fun v hv => by unfold Dir.dS; rw [off_dst R _ _ _ hv, zero_mul], coe_sum]
    exact Finset.sum_congr rfl fun v _ => by rw [G_at R, S_at R, ← EReal.coe_mul]
  rw [C.edcl, e, cl_at R, Ideal.exp_coe, ← EReal.coe_mul]
  unfold Dir.dcl
  rw [EReal.coe_add, coe_sum]
  exact congrArg _ (Finset.sum_congr rfl fun b _ => m_at R h n b k)

theorem da_at (h n : Fin 4) (b k : Fin 64) : C.da h n b k = (D.da n b (kcol h k) : EReal) := by
  have e : ∑ i : Fin 64, (if b ≤ i then -(D.dkd n i (kcol h k) * D.kd n i (kcol h k)) + (if 63 ≤ i.val then D.dcl n (kcol h k) else 0) else 0) = D.da n b (kcol h k) := by
    unfold Dir.da
    have s (i : Fin 64) : (if b ≤ i then -(D.dkd n i (kcol h k) * D.kd n i (kcol h k)) + (if 63 ≤ i.val then D.dcl n (kcol h k) else 0) else 0)
        = (if b ≤ i then -(D.dkd n i (kcol h k) * D.kd n i (kcol h k)) else 0) + if i = 63 then D.dcl n (kcol h k) else 0 := by
      by_cases hi : i = 63
      · subst hi; rw [if_pos (Fin.le_def.2 (by show b.val ≤ 63; omega)), if_pos (by decide), if_pos (Fin.le_def.2 (by show b.val ≤ 63; omega)), if_pos rfl]
      · rw [if_neg hi, if_neg (show ¬63 ≤ i.val from fun q => hi (Fin.ext (by simp; omega))), add_zero, add_zero]
    rw [Finset.sum_congr rfl fun i _ => s i, Finset.sum_add_distrib, Finset.sum_ite_eq' Finset.univ (63 : Fin 64), if_pos (Finset.mem_univ _)]
  rw [C.eda, ← e, coe_sum]
  refine Finset.sum_congr rfl fun i _ => ?_
  rw [m_at R, dcl_at R]
  split_ifs
  · rw [EReal.coe_add, EReal.coe_neg]
  · rw [EReal.coe_add, EReal.coe_neg]; rfl
  · rfl

end Chain

end Cert.Ctx

end
-- ==== Proof.Ctx.Heads.lean ====
module

public import proofs.«01_k».proof.Proof.Gen.CtxRefIdeal.Read
public import proofs.«01_k».proof.Proof.Ctx.Window
public import proofs.«01_k».proof.Proof.Ctx.Chain
public import proofs.«01_k».proof.Proof.Common.Reduce

/-! The reference's two recurrences, from the first row on and from the last row back, as equations between elements. -/

@[expose] public section

set_option maxRecDepth 16384

noncomputable section

namespace Cert.CtxRefIdeal.Read

open Idealize.ShloMosaic Idealize.ShloMosaic.TcCoe Idealize.SL.Sem
open Cert.CtxRefIdeal Cert.CtxRefIdeal.Gen Cert.Ctx Cert.Common

variable (x0 : FVec Ideal S256x1024 .f32) (x1 x2 x3 : FVec Ideal S1x1024 .f32) (x4 : FVec Ideal S1024x5152 .f32)
  (x5 : FVec Ideal S2x16x256 .f32) (x6 : FVec Ideal S2x256 .f32) (x7 x8 : FVec Ideal S4x64x128 .f32)

/-- The products of states and their gradients, from the first row on. -/
theorem sum_F (h n : Fin 4) (k : Fin 64) : (val_main_v345 (F := Ideal) x0 x1 x2 x3 x4 x5 x6 x7 (ix4 (0 : Fin 1) h n k) : EReal) = ∑ v, (val_main_v344 (F := Ideal) x0 x1 x2 x3 x4 x5 x6 x7 (ix5 (0 : Fin 1) h n k v) : EReal) * (val_main_v112 (F := Ideal) x0 x1 x2 x3 x4 x5 x6 (ix5 (0 : Fin 1) h n k v) : EReal) := by
  have e (v : Fin 128) : (val_main_v112 (F := Ideal) x0 x1 x2 x3 x4 x5 x6 (ix5 (0 : Fin 1) h n k v) : EReal) = (val_main_v282 (F := Ideal) x0 x1 x2 x3 x4 x5 x6 (ix5 n (0 : Fin 1) h k v) : EReal) := by
    pointwise [val_main_v112, val_main_v282]
  simp only [e]
  have hn : n = 0 ∨ n = 1 ∨ n = 2 ∨ n = 3 := by omega
  rcases hn with rfl | rfl | rfl | rfl <;>
    (pointwise [val_main_v345, val_main_v342, val_main_v286, val_main_v336, val_main_cst_25, val_main_v332, val_main_v333, val_main_v334, val_main_v335, val_main_v331, val_main_v320, val_main_v309, val_main_v298, val_main_v330, val_main_v319, val_main_v308, val_main_v297, val_main_cst_34, val_main_v329, val_main_cst_32, val_main_v318, val_main_cst_30, val_main_v307, val_main_cst_28, val_main_v296, val_main_v328, val_main_v317, val_main_v306, val_main_v295, val_main_cst_33, val_main_v327, val_main_cst_31, val_main_v316, val_main_cst_29, val_main_v305, val_main_cst_27, val_main_v294, val_main_v322, val_main_v311, val_main_v300, val_main_v289, val_main_v321, val_main_v310, val_main_v299, val_main_v288, val_main_v344, val_main_v343, val_main_v287, val_main_v341, val_main_cst_26, val_main_v337, val_main_v338, val_main_v339, val_main_v340]; simp only [reduce_ends]; pointwise)

set_option maxHeartbeats 2000000 in
/-- The recurrence from the first row on. -/
def chain_F : Chain where
  K h n b k := (val_main_v45 (F := Ideal) x0 x1 x2 x3 x4 (ix5 (0 : Fin 1) h n b k) : EReal)
  V h n b v := (val_main_v47 (F := Ideal) x0 x1 x2 x3 x4 (ix5 (0 : Fin 1) h n b v) : EReal)
  a h n b k := (val_main_v49 (F := Ideal) x0 x1 x2 x3 x4 x5 x6 (ix5 (0 : Fin 1) h n b k) : EReal)
  c h n b k := (val_main_v50 (F := Ideal) x0 x1 x2 x3 x4 x5 x6 (ix5 (0 : Fin 1) h n b k) : EReal)
  S n h k v := (val_main_v112 (F := Ideal) x0 x1 x2 x3 x4 x5 x6 (ix5 (0 : Fin 1) h n k v) : EReal)
  G n h k v := (val_main_v344 (F := Ideal) x0 x1 x2 x3 x4 x5 x6 x7 (ix5 (0 : Fin 1) h n k v) : EReal)
  dV h n b v := (val_main_v348 (F := Ideal) x0 x1 x2 x3 x4 x5 x6 x7 (ix5 (0 : Fin 1) h n b v) : EReal)
  dK h n b k := (val_main_v352 (F := Ideal) x0 x1 x2 x3 x4 x5 x6 x7 (ix5 (0 : Fin 1) h n b k) : EReal)
  dkd h n b k := (val_main_v350 (F := Ideal) x0 x1 x2 x3 x4 x5 x6 x7 (ix5 (0 : Fin 1) h n b k) : EReal)
  m h n b k := (val_main_v353 (F := Ideal) x0 x1 x2 x3 x4 x5 x6 x7 (ix5 (0 : Fin 1) h n b k) : EReal)
  dcl h n k := (val_main_v359 (F := Ideal) x0 x1 x2 x3 x4 x5 x6 x7 (ix4 (0 : Fin 1) h n k) : EReal)
  da h n b k := (val_main_v363 (F := Ideal) x0 x1 x2 x3 x4 x5 x6 x7 (ix5 (0 : Fin 1) h n b k) : EReal)
  sum h n b k := window_upto reduceWindows_S1x4x4x64x64_S1x4x4x64x64_w1s1p0_0_w1s1p0_0_w1s1p0_0_w64s1p63_0_w1s1p0_0 _ ofBits_0 h n b k
  S0 h k v := by pointwise [val_main_v112, val_main_v110, val_main_v104, val_main_v66, val_main_v100, val_main_v101, val_main_v102, val_main_v103, val_main_cst_6, val_main_v43, val_main_cst_5]
  S1 h k v := by pointwise [val_main_v112, val_main_v110, val_main_v104, val_main_v66, val_main_v100, val_main_v101, val_main_v102, val_main_v103, val_main_cst_6, val_main_v43, val_main_v75, val_main_cst_5, val_main_v71, val_main_v74, val_main_v70, val_main_v73, val_main_v65, val_main_v72, val_main_v61, val_main_v69, val_main_v58, val_main_v68, val_main_v57, val_main_v63, val_main_v56, val_main_v60, val_main_v55, val_main_v59, val_main_v54, val_main_v52, val_main_v53, val_main_v51]
  S2 h k v := by pointwise [val_main_v112, val_main_v110, val_main_v104, val_main_v66, val_main_v100, val_main_v101, val_main_v102, val_main_v103, val_main_cst_6, val_main_v43, val_main_v83, val_main_cst_5, val_main_v79, val_main_v82, val_main_v78, val_main_v81, val_main_v65, val_main_v80, val_main_v61, val_main_v77, val_main_v58, val_main_v76, val_main_v57, val_main_v63, val_main_v56, val_main_v60, val_main_v55, val_main_v59, val_main_v54, val_main_v52, val_main_v53, val_main_v51]
  S3 h k v := by pointwise [val_main_v112, val_main_v110, val_main_v104, val_main_v66, val_main_v100, val_main_v101, val_main_v102, val_main_v103, val_main_cst_6, val_main_v43, val_main_v91, val_main_cst_5, val_main_v87, val_main_v90, val_main_v86, val_main_v89, val_main_v65, val_main_v88, val_main_v61, val_main_v85, val_main_v58, val_main_v84, val_main_v57, val_main_v63, val_main_v56, val_main_v60, val_main_v55, val_main_v59, val_main_v54, val_main_v52, val_main_v53, val_main_v51]
  G2 h k v := by pointwise [val_main_v344, val_main_v343, val_main_v287, val_main_v341, val_main_cst_26, val_main_v337, val_main_v338, val_main_v339, val_main_v340, val_main_v293, val_main_v292, val_main_v291, val_main_v290, val_main_v284, val_main_v111, val_main_v109, val_main_v67, val_main_v105, val_main_v106, val_main_v107, val_main_v108, val_main_cst_7, val_main_v72, val_main_v80, val_main_v88, val_main_v96, val_main_v69, val_main_v77, val_main_v85, val_main_v93, val_main_v68, val_main_v76, val_main_v84, val_main_v92, val_main_v63, val_main_v60, val_main_v59, val_main_v52, val_main_v51]
  G1 h k v := by pointwise [val_main_v344, val_main_v343, val_main_v287, val_main_v341, val_main_cst_26, val_main_v337, val_main_v338, val_main_v339, val_main_v340, val_main_v304, val_main_v303, val_main_v302, val_main_v301, val_main_v284, val_main_v111, val_main_v109, val_main_v67, val_main_v105, val_main_v106, val_main_v107, val_main_v108, val_main_cst_7, val_main_v72, val_main_v80, val_main_v88, val_main_v96, val_main_v69, val_main_v77, val_main_v85, val_main_v93, val_main_v68, val_main_v76, val_main_v84, val_main_v92, val_main_v63, val_main_v60, val_main_v59, val_main_v52, val_main_v51]
  G0 h k v := by pointwise [val_main_v344, val_main_v343, val_main_v287, val_main_v341, val_main_cst_26, val_main_v337, val_main_v338, val_main_v339, val_main_v340, val_main_v315, val_main_v314, val_main_v313, val_main_v312, val_main_v284, val_main_v111, val_main_v109, val_main_v67, val_main_v105, val_main_v106, val_main_v107, val_main_v108, val_main_cst_7, val_main_v72, val_main_v80, val_main_v88, val_main_v96, val_main_v69, val_main_v77, val_main_v85, val_main_v93, val_main_v68, val_main_v76, val_main_v84, val_main_v92, val_main_v63, val_main_v60, val_main_v59, val_main_v52, val_main_v51]
  edV h n b v := by pointwise [val_main_v348, val_main_v347, val_main_v57, val_main_v56, val_main_v55, val_main_v54, val_main_v53, val_main_v52, val_main_v51]
  edkd h n b k := by pointwise [val_main_v350, val_main_v349]
  edK h n b k := by pointwise [val_main_v352, val_main_v56, val_main_v55, val_main_v54, val_main_v53, val_main_v52, val_main_v51]
  em h n b k := by pointwise [val_main_v353, val_main_v351, val_main_v56, val_main_v55, val_main_v54, val_main_v53, val_main_v52, val_main_v51]
  edcl h n k := by
    rw [← sum_F]
    pointwise [val_main_v359, val_main_v346, val_main_v358, val_main_v59, val_main_v357, val_main_v52, val_main_cst_36, val_main_v355, val_main_v51, val_main_v354, val_main_cst_35]
    simp only [reduce_ends5]
    pointwise
  eda h n b k := (window_from reduceWindows_S1x4x4x64x64_S1x4x4x64x64_w1s1p0_0_w1s1p0_0_w1s1p0_0_w64s1p0_63_w1s1p0_0 _ ofBits_0 h n b k).trans (Finset.sum_congr rfl fun i _ => congrArg (fun t : EReal => if b ≤ i then t else 0) (by
    refine Eq.trans (b := -(val_main_v353 (F := Ideal) x0 x1 x2 x3 x4 x5 x6 x7 (ix5 (0 : Fin 1) h n i k) : EReal) + if q : 63 ≤ i.val ∧ i.val - 63 < 1 then (val_main_v359 (F := Ideal) x0 x1 x2 x3 x4 x5 x6 x7 (ix4 (0 : Fin 1) h n k) : EReal) else 0) ?_ ?_
    · pointwise [val_main_v362, val_main_v356, val_main_v361, val_main_cst_37, val_main_v360]
    · by_cases q : 63 ≤ i.val
      · rw [dif_pos ⟨q, by omega⟩, if_pos q]
      · rw [dif_neg fun p => q p.1, if_neg q]))

/-- The products of states and their gradients, from the last row back. -/
theorem sum_B (h n : Fin 4) (k : Fin 64) : (val_main_v253 (F := Ideal) x0 x1 x2 x3 x4 x5 x6 x8 (ix4 (0 : Fin 1) h n k) : EReal) = ∑ v, (val_main_v252 (F := Ideal) x0 x1 x2 x3 x4 x5 x6 x8 (ix5 (0 : Fin 1) h n k v) : EReal) * (val_main_v185 (F := Ideal) x0 x1 x2 x3 x4 x5 x6 (ix5 (0 : Fin 1) h n k v) : EReal) := by
  have e (v : Fin 128) : (val_main_v185 (F := Ideal) x0 x1 x2 x3 x4 x5 x6 (ix5 (0 : Fin 1) h n k v) : EReal) = (val_main_v190 (F := Ideal) x0 x1 x2 x3 x4 x5 x6 (ix5 n (0 : Fin 1) h k v) : EReal) := by
    pointwise [val_main_v185, val_main_v190]
  simp only [e]
  have hn : n = 0 ∨ n = 1 ∨ n = 2 ∨ n = 3 := by omega
  rcases hn with rfl | rfl | rfl | rfl <;>
    (pointwise [val_main_v253, val_main_v250, val_main_v194, val_main_v244, val_main_cst_12, val_main_v240, val_main_v241, val_main_v242, val_main_v243, val_main_v239, val_main_v228, val_main_v217, val_main_v206, val_main_v238, val_main_v227, val_main_v216, val_main_v205, val_main_cst_21, val_main_v237, val_main_cst_19, val_main_v226, val_main_cst_17, val_main_v215, val_main_cst_15, val_main_v204, val_main_v236, val_main_v225, val_main_v214, val_main_v203, val_main_cst_20, val_main_v235, val_main_cst_18, val_main_v224, val_main_cst_16, val_main_v213, val_main_cst_14, val_main_v202, val_main_v230, val_main_v219, val_main_v208, val_main_v197, val_main_v229, val_main_v218, val_main_v207, val_main_v196, val_main_v252, val_main_v251, val_main_v195, val_main_v249, val_main_cst_13, val_main_v245, val_main_v246, val_main_v247, val_main_v248]; simp only [reduce_ends]; pointwise)

set_option maxHeartbeats 2000000 in
/-- The recurrence from the last row back. -/
def chain_B : Chain where
  K h n b k := (val_main_v118 (F := Ideal) x0 x1 x2 x3 x4 (ix5 (0 : Fin 1) h n b k) : EReal)
  V h n b v := (val_main_v120 (F := Ideal) x0 x1 x2 x3 x4 (ix5 (0 : Fin 1) h n b v) : EReal)
  a h n b k := (val_main_v122 (F := Ideal) x0 x1 x2 x3 x4 x5 x6 (ix5 (0 : Fin 1) h n b k) : EReal)
  c h n b k := (val_main_v123 (F := Ideal) x0 x1 x2 x3 x4 x5 x6 (ix5 (0 : Fin 1) h n b k) : EReal)
  S n h k v := (val_main_v185 (F := Ideal) x0 x1 x2 x3 x4 x5 x6 (ix5 (0 : Fin 1) h n k v) : EReal)
  G n h k v := (val_main_v252 (F := Ideal) x0 x1 x2 x3 x4 x5 x6 x8 (ix5 (0 : Fin 1) h n k v) : EReal)
  dV h n b v := (val_main_v256 (F := Ideal) x0 x1 x2 x3 x4 x5 x6 x8 (ix5 (0 : Fin 1) h n b v) : EReal)
  dK h n b k := (val_main_v260 (F := Ideal) x0 x1 x2 x3 x4 x5 x6 x8 (ix5 (0 : Fin 1) h n b k) : EReal)
  dkd h n b k := (val_main_v258 (F := Ideal) x0 x1 x2 x3 x4 x5 x6 x8 (ix5 (0 : Fin 1) h n b k) : EReal)
  m h n b k := (val_main_v261 (F := Ideal) x0 x1 x2 x3 x4 x5 x6 x8 (ix5 (0 : Fin 1) h n b k) : EReal)
  dcl h n k := (val_main_v267 (F := Ideal) x0 x1 x2 x3 x4 x5 x6 x8 (ix4 (0 : Fin 1) h n k) : EReal)
  da h n b k := (val_main_v271 (F := Ideal) x0 x1 x2 x3 x4 x5 x6 x8 (ix5 (0 : Fin 1) h n b k) : EReal)
  sum h n b k := window_upto reduceWindows_S1x4x4x64x64_S1x4x4x64x64_w1s1p0_0_w1s1p0_0_w1s1p0_0_w64s1p63_0_w1s1p0_0 _ ofBits_0 h n b k
  S0 h k v := by pointwise [val_main_v185, val_main_v183, val_main_v139, val_main_v177, val_main_cst_8, val_main_v173, val_main_v174, val_main_v175, val_main_v176, val_main_v43, val_main_cst_5]
  S1 h k v := by pointwise [val_main_v185, val_main_v183, val_main_v139, val_main_v177, val_main_cst_8, val_main_v173, val_main_v174, val_main_v175, val_main_v176, val_main_v43, val_main_v148, val_main_cst_5, val_main_v144, val_main_v147, val_main_v143, val_main_v146, val_main_v138, val_main_v145, val_main_v134, val_main_v142, val_main_v131, val_main_v141, val_main_v130, val_main_v136, val_main_v129, val_main_v133, val_main_v128, val_main_v132, val_main_v127, val_main_v125, val_main_v126, val_main_v124]
  S2 h k v := by pointwise [val_main_v185, val_main_v183, val_main_v139, val_main_v177, val_main_cst_8, val_main_v173, val_main_v174, val_main_v175, val_main_v176, val_main_v43, val_main_v156, val_main_cst_5, val_main_v152, val_main_v155, val_main_v151, val_main_v154, val_main_v138, val_main_v153, val_main_v134, val_main_v150, val_main_v131, val_main_v149, val_main_v130, val_main_v136, val_main_v129, val_main_v133, val_main_v128, val_main_v132, val_main_v127, val_main_v125, val_main_v126, val_main_v124]
  S3 h k v := by pointwise [val_main_v185, val_main_v183, val_main_v139, val_main_v177, val_main_cst_8, val_main_v173, val_main_v174, val_main_v175, val_main_v176, val_main_v43, val_main_v164, val_main_cst_5, val_main_v160, val_main_v163, val_main_v159, val_main_v162, val_main_v138, val_main_v161, val_main_v134, val_main_v158, val_main_v131, val_main_v157, val_main_v130, val_main_v136, val_main_v129, val_main_v133, val_main_v128, val_main_v132, val_main_v127, val_main_v125, val_main_v126, val_main_v124]
  G2 h k v := by pointwise [val_main_v252, val_main_v251, val_main_v195, val_main_v249, val_main_cst_13, val_main_v245, val_main_v246, val_main_v247, val_main_v248, val_main_v201, val_main_v200, val_main_v199, val_main_v198, val_main_v192, val_main_v184, val_main_v140, val_main_v182, val_main_cst_9, val_main_v178, val_main_v179, val_main_v180, val_main_v181, val_main_v145, val_main_v153, val_main_v161, val_main_v169, val_main_v142, val_main_v150, val_main_v158, val_main_v166, val_main_v141, val_main_v149, val_main_v157, val_main_v165, val_main_v136, val_main_v133, val_main_v132, val_main_v125, val_main_v124]
  G1 h k v := by pointwise [val_main_v252, val_main_v251, val_main_v195, val_main_v249, val_main_cst_13, val_main_v245, val_main_v246, val_main_v247, val_main_v248, val_main_v212, val_main_v211, val_main_v210, val_main_v209, val_main_v192, val_main_v184, val_main_v140, val_main_v182, val_main_cst_9, val_main_v178, val_main_v179, val_main_v180, val_main_v181, val_main_v145, val_main_v153, val_main_v161, val_main_v169, val_main_v142, val_main_v150, val_main_v158, val_main_v166, val_main_v141, val_main_v149, val_main_v157, val_main_v165, val_main_v136, val_main_v133, val_main_v132, val_main_v125, val_main_v124]
  G0 h k v := by pointwise [val_main_v252, val_main_v251, val_main_v195, val_main_v249, val_main_cst_13, val_main_v245, val_main_v246, val_main_v247, val_main_v248, val_main_v223, val_main_v222, val_main_v221, val_main_v220, val_main_v192, val_main_v184, val_main_v140, val_main_v182, val_main_cst_9, val_main_v178, val_main_v179, val_main_v180, val_main_v181, val_main_v145, val_main_v153, val_main_v161, val_main_v169, val_main_v142, val_main_v150, val_main_v158, val_main_v166, val_main_v141, val_main_v149, val_main_v157, val_main_v165, val_main_v136, val_main_v133, val_main_v132, val_main_v125, val_main_v124]
  edV h n b v := by pointwise [val_main_v256, val_main_v255, val_main_v130, val_main_v129, val_main_v128, val_main_v127, val_main_v126, val_main_v125, val_main_v124]
  edkd h n b k := by pointwise [val_main_v258, val_main_v257]
  edK h n b k := by pointwise [val_main_v260, val_main_v129, val_main_v128, val_main_v127, val_main_v126, val_main_v125, val_main_v124]
  em h n b k := by pointwise [val_main_v261, val_main_v129, val_main_v259, val_main_v128, val_main_v127, val_main_v126, val_main_v125, val_main_v124]
  edcl h n k := by
    rw [← sum_B]
    pointwise [val_main_v267, val_main_v254, val_main_v266, val_main_v132, val_main_v265, val_main_v125, val_main_cst_23, val_main_v263, val_main_v124, val_main_v262, val_main_cst_22]
    simp only [reduce_ends5]
    pointwise
  eda h n b k := (window_from reduceWindows_S1x4x4x64x64_S1x4x4x64x64_w1s1p0_0_w1s1p0_0_w1s1p0_0_w64s1p0_63_w1s1p0_0 _ ofBits_0 h n b k).trans (Finset.sum_congr rfl fun i _ => congrArg (fun t : EReal => if b ≤ i then t else 0) (by
    refine Eq.trans (b := -(val_main_v261 (F := Ideal) x0 x1 x2 x3 x4 x5 x6 x8 (ix5 (0 : Fin 1) h n i k) : EReal) + if q : 63 ≤ i.val ∧ i.val - 63 < 1 then (val_main_v267 (F := Ideal) x0 x1 x2 x3 x4 x5 x6 x8 (ix4 (0 : Fin 1) h n k) : EReal) else 0) ?_ ?_
    · pointwise [val_main_v270, val_main_v264, val_main_v269, val_main_cst_24, val_main_v268]
    · by_cases q : 63 ≤ i.val
      · rw [dif_pos ⟨q, by omega⟩, if_pos q]
      · rw [dif_neg fun p => q p.1, if_neg q]))

end Cert.CtxRefIdeal.Read

end
-- ==== Proof.Ctx.Fwd.lean ====
module

public import proofs.«01_k».proof.Proof.Gen.CtxRefIdeal.Read
public import proofs.«01_k».proof.Proof.Ctx.Heads

/-! The reference's forward values where its arguments are real, and its two recurrences on them. -/

@[expose] public section

set_option maxRecDepth 16384

noncomputable section

namespace Cert.CtxRefIdeal.Read

open Idealize.ShloMosaic Idealize.ShloMosaic.TcCoe Idealize.SL.Sem
open Cert.CtxRefIdeal Cert.CtxRefIdeal.Gen Cert.Ctx Cert.Common

variable {x0 : FVec Ideal S256x1024 .f32} {x1 x2 x3 : FVec Ideal S1x1024 .f32} {x4 : FVec Ideal S1024x5152 .f32}
  {x5 : FVec Ideal S2x16x256 .f32} {x6 : FVec Ideal S2x256 .f32} {x7 x8 : FVec Ideal S4x64x128 .f32} {A : Args}

/-- The reference's arguments hold the real arrays `A`. -/
structure Given (x0 : FVec Ideal S256x1024 .f32) (x1 x2 x3 : FVec Ideal S1x1024 .f32) (x4 : FVec Ideal S1024x5152 .f32)
    (x5 : FVec Ideal S2x16x256 .f32) (x6 : FVec Ideal S2x256 .f32) (x7 x8 : FVec Ideal S4x64x128 .f32) (A : Args) : Prop where
  x : ∀ i e, x0 (ix2 i e) = (A.x i e : EReal)
  g : ∀ e, x1 (ix2 (0 : Fin 1) e) = (A.g e : EReal)
  sc : ∀ e, x2 (ix2 (0 : Fin 1) e) = (A.sc e : EReal)
  sh : ∀ e, x3 (ix2 (0 : Fin 1) e) = (A.sh e : EReal)
  w : ∀ e q, x4 (ix2 e q) = (A.w e q : EReal)
  w2 : ∀ d r x, x5 (ix3 d r x) = (A.w2 d r x : EReal)
  gb : ∀ d x, x6 (ix2 d x) = (A.gb d x : EReal)
  dsF : ∀ h k v, x7 (ix3 h k v) = (A.dsF h k v : EReal)
  dsB : ∀ h k v, x8 (ix3 h k v) = (A.dsB h k v : EReal)

variable (G : Given x0 x1 x2 x3 x4 x5 x6 x7 x8 A)
include G

theorem r_ms (i : Fin 256) : val_main_v7 (F := Ideal) x0 (ix2 i (0 : Fin 1)) = ((A.ms i : ℝ) : EReal) := by
  have eq : (val_main_v7 (F := Ideal) x0 (ix2 i (0 : Fin 1)) : EReal) =
      Ideal.div (∑ l, x0 (ix2 i l) * x0 (ix2 i l)) (Ideal.ofBits .f32 0x44800000#32) + Ideal.ofBits .f32 0x358637BD#32 := by
    pointwise [val_main_v7, val_main_v5, val_main_v6, val_main_v3, val_main_v4, val_main_cst_1, val_main_v2, val_main_cst_0, val_main_cst, val_main_v1]
  rw [eq]
  simp only [G.x, ofBits_1024, ofBits_eps, ← EReal.coe_one, ← EReal.coe_add, ← EReal.coe_sub, ← EReal.coe_mul, ← coe_sum]
  rw [div_real _ (by norm_num), ← EReal.coe_add]
  rfl

theorem r_xn (i : Fin 256) (e : Fin 1024) : val_main_v13 (F := Ideal) x0 (ix2 i e) = ((A.xn i e : ℝ) : EReal) := by
  have eq : (val_main_v13 (F := Ideal) x0 (ix2 i e) : EReal) =
      x0 (ix2 i e) * Ideal.rsqrt (val_main_v7 (F := Ideal) x0 (ix2 i (0 : Fin 1)) : EReal) := by
    pointwise [val_main_v13, val_main_v12, val_main_v8]
  rw [eq]
  rw [r_ms G, G.x, rsqrt_real (A.ms_pos i), ← EReal.coe_mul]
  rfl

theorem r_hc (i : Fin 256) (e : Fin 1024) : val_main_v21 (F := Ideal) x0 x1 x2 x3 (ix2 i e) = ((A.hc i e : ℝ) : EReal) := by
  have eq : (val_main_v21 (F := Ideal) x0 x1 x2 x3 (ix2 i e) : EReal) =
      (val_main_v13 (F := Ideal) x0 (ix2 i e) : EReal) * x1 (ix2 (0 : Fin 1) e) * ((1 : EReal) + x2 (ix2 (0 : Fin 1) e)) + x3 (ix2 (0 : Fin 1) e) := by
    pointwise [val_main_v21, val_main_v19, val_main_v20, val_main_v15, val_main_v18, val_main_v14, val_main_v17, val_main_v16, val_main_cst_3]
  rw [eq]
  simp only [r_xn G, G.g, G.sc, G.sh, ← EReal.coe_one, ← EReal.coe_add, ← EReal.coe_sub, ← EReal.coe_mul, ← coe_sum]
  rw [show A.hc i e = A.xn i e * (A.g e * (1 + A.sc e)) + A.sh e from rfl, mul_assoc]

/-- The projection's columns. -/
theorem r_p (i : Fin 256) (q : Fin 800) : val_main_v22 (F := Ideal) x0 x1 x2 x3 x4 (ix2 i q) = ((∑ e, A.hc i e * A.w e ⟨256 + q.val, by omega⟩ : ℝ) : EReal) := by
  have eq : (val_main_v22 (F := Ideal) x0 x1 x2 x3 x4 (ix2 i q) : EReal) =
      ∑ e, (val_main_v21 (F := Ideal) x0 x1 x2 x3 (ix2 i e) : EReal) * x4 (ix2 e ⟨256 + q.val, by omega⟩) := by
    pointwise [val_main_v22, val_main_v0]
  rw [eq]
  simp only [r_hc G, G.w, ← EReal.coe_one, ← EReal.coe_add, ← EReal.coe_sub, ← EReal.coe_mul, ← coe_sum]

theorem r_K (i : Fin 256) (h : Fin 4) (k : Fin 64) : val_main_v25 (F := Ideal) x0 x1 x2 x3 x4 (ix4 (0 : Fin 1) i h k) = ((A.K i (kcol h k) : ℝ) : EReal) := by
  have eq : (val_main_v25 (F := Ideal) x0 x1 x2 x3 x4 (ix4 (0 : Fin 1) i h k) : EReal) =
      (val_main_v22 (F := Ideal) x0 x1 x2 x3 x4 (ix2 i ⟨h.val * 64 + k.val, by omega⟩) : EReal) := by
    pointwise [val_main_v25, val_main_v24, val_main_v23]
  rw [eq]
  rw [r_p G]
  exact congrArg _ (Finset.sum_congr rfl fun e _ => congrArg (fun q => A.hc i e * A.w e q) (Fin.ext (by simp only [kcol, vcol]; omega)))

theorem r_V (i : Fin 256) (h : Fin 4) (v : Fin 128) : val_main_v27 (F := Ideal) x0 x1 x2 x3 x4 (ix4 (0 : Fin 1) i h v) = ((A.V i (vcol h v) : ℝ) : EReal) := by
  have eq : (val_main_v27 (F := Ideal) x0 x1 x2 x3 x4 (ix4 (0 : Fin 1) i h v) : EReal) =
      (val_main_v22 (F := Ideal) x0 x1 x2 x3 x4 (ix2 i ⟨256 + (h.val * 128 + v.val), by omega⟩) : EReal) := by
    pointwise [val_main_v27, val_main_v26, val_main_v23]
  rw [eq]
  rw [r_p G]
  exact congrArg _ (Finset.sum_congr rfl fun e _ => congrArg (fun q => A.hc i e * A.w e q) (Fin.ext (by simp only [kcol, vcol]; omega)))

theorem r_L (i : Fin 256) (d : Fin 2) (r : Fin 16) : val_main_v29 (F := Ideal) x0 x1 x2 x3 x4 (ix4 (0 : Fin 1) i d r) = ((A.L i ⟨16 * d.val + r.val, by omega⟩ : ℝ) : EReal) := by
  have eq : (val_main_v29 (F := Ideal) x0 x1 x2 x3 x4 (ix4 (0 : Fin 1) i d r) : EReal) =
      (val_main_v22 (F := Ideal) x0 x1 x2 x3 x4 (ix2 i ⟨768 + (d.val * 16 + r.val), by omega⟩) : EReal) := by
    pointwise [val_main_v29, val_main_v28, val_main_v23]
  rw [eq]
  rw [r_p G]
  exact congrArg _ (Finset.sum_congr rfl fun e _ => congrArg (fun q => A.hc i e * A.w e q) (Fin.ext (by simp only [kcol, vcol]; omega)))

/-- The gates' logits. -/
theorem r_lg (i : Fin 256) (d : Fin 2) (x : Fin 256) : val_main_v34 (F := Ideal) x0 x1 x2 x3 x4 x5 x6 (ix4 (0 : Fin 1) i d x) = ((A.lg i d x : ℝ) : EReal) := by
  have eq : (val_main_v34 (F := Ideal) x0 x1 x2 x3 x4 x5 x6 (ix4 (0 : Fin 1) i d x) : EReal) =
      (∑ r, x5 (ix3 d r x) * (val_main_v29 (F := Ideal) x0 x1 x2 x3 x4 (ix4 (0 : Fin 1) i d r) : EReal)) + x6 (ix2 d x) := by
    pointwise [val_main_v34, val_main_v31, val_main_v33, val_main_v30, val_main_v32]
  rw [eq]
  simp only [r_L G, G.w2, G.gb, ← EReal.coe_one, ← EReal.coe_add, ← EReal.coe_sub, ← EReal.coe_mul, ← coe_sum]
  exact congrArg (fun t : ℝ => ((t + A.gb d x : ℝ) : EReal)) (Finset.sum_congr rfl fun r _ => mul_comm _ _)

theorem r_soft (i : Fin 256) (d : Fin 2) (x : Fin 256) : val_main_call0_v1_0 (F := Ideal) x0 x1 x2 x3 x4 x5 x6 (ix4 (0 : Fin 1) i d x) = ((-lsig (A.lg i d x) : ℝ) : EReal) := by
  have eq : (val_main_call0_v1_0 (F := Ideal) x0 x1 x2 x3 x4 x5 x6 (ix4 (0 : Fin 1) i d x) : EReal) =
      max (-(val_main_v34 (F := Ideal) x0 x1 x2 x3 x4 x5 x6 (ix4 (0 : Fin 1) i d x) : EReal)) 0 + Ideal.log1p (Ideal.exp (-max (-(val_main_v34 (F := Ideal) x0 x1 x2 x3 x4 x5 x6 (ix4 (0 : Fin 1) i d x) : EReal)) (-(-(val_main_v34 (F := Ideal) x0 x1 x2 x3 x4 x5 x6 (ix4 (0 : Fin 1) i d x) : EReal))))) := by
    pointwise [val_main_call0_v1_0, val_main_call0_call0_v11, val_main_call0_call0_v4, val_main_call0_call0_v6, val_main_call0_call0_v1, val_main_call0_call0_v10, val_main_call0_call0_v3, val_main_call0_call0_v5, val_main_call0_v0, val_main_call0_call0_v0, val_main_call0_call0_v9, val_main_call0_call0_v2, val_main_call0_call0_cst, val_main_call0_call0_v8, val_main_call0_call0_v7]
    rw [if_neg (not_not.mpr rfl)]
    rfl
  rw [eq]
  rw [r_lg G, lsig_max]

/-- The log decays. -/
theorem r_al (i : Fin 256) (d : Fin 2) (x : Fin 256) : val_main_v37 (F := Ideal) x0 x1 x2 x3 x4 x5 x6 (ix4 (0 : Fin 1) i d x) = ((lsig (A.lg i d x) / 16 : ℝ) : EReal) := by
  have eq : (val_main_v37 (F := Ideal) x0 x1 x2 x3 x4 x5 x6 (ix4 (0 : Fin 1) i d x) : EReal) =
      Ideal.div (-(val_main_call0_v1_0 (F := Ideal) x0 x1 x2 x3 x4 x5 x6 (ix4 (0 : Fin 1) i d x) : EReal)) (Ideal.ofBits .f32 0x41800000#32) := by
    pointwise [val_main_v37, val_main_v35_0, val_main_v36, val_main_cst_4]
  rw [eq]
  rw [r_soft G, ofBits_16, ← EReal.coe_neg, neg_neg, div_real _ (by norm_num)]

/-- The gates' slopes. -/
theorem r_sg (i : Fin 256) (d : Fin 2) (x : Fin 256) : val_main_v35_1 (F := Ideal) x0 x1 x2 x3 x4 x5 x6 (ix4 (0 : Fin 1) i d x) = ((Common.sig (-A.lg i d x) : ℝ) : EReal) := by
  have eq : (val_main_v35_1 (F := Ideal) x0 x1 x2 x3 x4 x5 x6 (ix4 (0 : Fin 1) i d x) : EReal) =
      Ideal.exp ((if -(val_main_v34 (F := Ideal) x0 x1 x2 x3 x4 x5 x6 (ix4 (0 : Fin 1) i d x) : EReal) = Ideal.ofBits FTy.f32 0x7F800000#32 then 0 else -(val_main_v34 (F := Ideal) x0 x1 x2 x3 x4 x5 x6 (ix4 (0 : Fin 1) i d x) : EReal)) - (if (val_main_call0_v1_0 (F := Ideal) x0 x1 x2 x3 x4 x5 x6 (ix4 (0 : Fin 1) i d x) : EReal) = Ideal.ofBits FTy.f32 0x7F800000#32 then 0 else (val_main_call0_v1_0 (F := Ideal) x0 x1 x2 x3 x4 x5 x6 (ix4 (0 : Fin 1) i d x) : EReal))) := by
    pointwise [val_main_v35_1, val_main_call0_call0_v21, val_main_call0_call0_v16, val_main_call0_call0_v20, val_main_call0_call0_v14, val_main_call0_call0_v15, val_main_call0_v0, val_main_call0_call0_v18, val_main_call0_call0_v19, val_main_call0_call0_v13, val_main_call0_call0_cst_1, val_main_call0_call0_v17, val_main_call0_call0_cst_3, val_main_call0_call0_cst_0, val_main_call0_call0_cst_2]
  rw [eq]
  rw [r_soft G, r_lg G, ofBits_inf, ← EReal.coe_neg, if_neg (EReal.coe_ne_top _), if_neg (EReal.coe_ne_top _), ← EReal.coe_sub, Ideal.exp_coe, sub_neg_eq_add, exp_lsig]

omit G in
theorem kcol_eq (h : Fin 4) (k : Fin 64) (l : h.val * 64 + k.val < 256) : (⟨h.val * 64 + k.val, l⟩ : Fin 256) = kcol h k := Fin.ext (by simp only [kcol]; omega)

omit G in
theorem rowF_eq (n : Fin 4) (b : Fin 64) (l : n.val * 64 + b.val < 256) : (⟨n.val * 64 + b.val, l⟩ : Fin 256) = rowF n b :=
  Fin.ext (by simp only [rowF]; omega)

omit G in
theorem rowB_eq (n : Fin 4) (b : Fin 64) (l : n.val * 64 + b.val < 256) : Fin.rev (⟨n.val * 64 + b.val, l⟩ : Fin 256) = rowB n b :=
  Fin.ext (by simp only [rowB, Fin.val_rev]; omega)

omit G in
theorem wide_at (f : Fin 4 → Fin 64 → Fin 128 → ℝ) (h : Fin 4) (k : Fin 64) (v : Fin 128) : wide f (vcol h v) (kcol h k) = f h k v := by
  unfold wide
  rw [if_pos (Chain.same_cols h k v)]
  refine congr (congr (congrArg f (Fin.ext ?_)) (Fin.ext ?_)) (Fin.ext ?_)
  · show (64 * h.val + k.val) / 64 = h.val; omega
  · show (64 * h.val + k.val) % 64 = k.val; omega
  · show (128 * h.val + v.val) % 128 = v.val; omega

set_option maxHeartbeats 400000 in
/-- The recurrence from the first row on is that of the real arrays. -/
theorem reads_F : Chain.Reads (chain_F x0 x1 x2 x3 x4 x5 x6 x7) A.F where
  hK h n b k := by
    refine Eq.trans (b := (val_main_v25 (F := Ideal) x0 x1 x2 x3 x4 (ix4 (0 : Fin 1) ⟨n.val * 64 + b.val, by omega⟩ h k) : EReal)) (by
      show (val_main_v45 (F := Ideal) x0 x1 x2 x3 x4 (ix5 (0 : Fin 1) h n b k) : EReal) = _
      pointwise [val_main_v45, val_main_v44]) ?_
    rw [rowF_eq, r_K G]
    rfl
  hV h n b v := by
    refine Eq.trans (b := (val_main_v27 (F := Ideal) x0 x1 x2 x3 x4 (ix4 (0 : Fin 1) ⟨n.val * 64 + b.val, by omega⟩ h v) : EReal)) (by
      show (val_main_v47 (F := Ideal) x0 x1 x2 x3 x4 (ix5 (0 : Fin 1) h n b v) : EReal) = _
      pointwise [val_main_v47, val_main_v46]) ?_
    rw [rowF_eq, r_V G]
    rfl
  ha h n b k := by
    refine Eq.trans (b := (val_main_v37 (F := Ideal) x0 x1 x2 x3 x4 x5 x6 (ix4 (0 : Fin 1) ⟨n.val * 64 + b.val, by omega⟩ 0 ⟨h.val * 64 + k.val, by omega⟩) : EReal)) (by
      show (val_main_v49 (F := Ideal) x0 x1 x2 x3 x4 x5 x6 (ix5 (0 : Fin 1) h n b k) : EReal) = _
      pointwise [val_main_v49, val_main_v48, val_main_v40, val_main_v39, val_main_v38]) ?_
    rw [rowF_eq, r_al G, kcol_eq]
    rfl
  hG h k v := by
    refine Eq.trans (b := (x7 (ix3 h k v) : EReal)) (by
      show (val_main_v344 (F := Ideal) x0 x1 x2 x3 x4 x5 x6 x7 (ix5 (0 : Fin 1) h 3 k v) : EReal) = _
      pointwise [val_main_v344, val_main_v343, val_main_v287, val_main_v341, val_main_cst_26, val_main_v337, val_main_v338, val_main_v339, val_main_v340, val_main_v315, val_main_v304, val_main_v293, val_main_v281, val_main_v314, val_main_v303, val_main_v292, val_main_v313, val_main_v302, val_main_v291, val_main_v312, val_main_v301, val_main_v290, val_main_v284, val_main_v111, val_main_v109, val_main_v67, val_main_v105, val_main_v106, val_main_v107, val_main_v108, val_main_cst_7, val_main_v72, val_main_v80, val_main_v88, val_main_v96, val_main_v69, val_main_v77, val_main_v85, val_main_v93, val_main_v68, val_main_v76, val_main_v84, val_main_v92, val_main_v63, val_main_v60, val_main_v59, val_main_v52, val_main_v51, val_main_v50, val_main_call1_call0_v0, val_main_v49, val_main_call1_call0_cst, val_main_v48, val_main_v40, val_main_v39, val_main_v38, val_main_v37, val_main_v35_0, val_main_v36, val_main_call0_v1_0, val_main_cst_4, val_main_call0_call0_v11, val_main_call0_call0_v4, val_main_call0_call0_v6, val_main_call0_call0_v1, val_main_call0_call0_v10, val_main_call0_call0_v3, val_main_call0_call0_v5, val_main_call0_v0, val_main_call0_call0_v0, val_main_call0_call0_v9, val_main_call0_call0_v2, val_main_call0_call0_cst, val_main_v34, val_main_call0_call0_v8, val_main_v31, val_main_v33, val_main_call0_call0_v7, val_main_v30, val_main_v32, val_main_v29, val_main_v28, val_main_v23, val_main_v22, val_main_v0, val_main_v21, val_main_v19, val_main_v20, val_main_v15, val_main_v18, val_main_v13, val_main_v14, val_main_v17, val_main_v12, val_main_v16, val_main_v8, val_main_cst_3, val_main_v7, val_main_v5, val_main_v6, val_main_v3, val_main_v4, val_main_cst_1, val_main_v2, val_main_cst_0, val_main_cst, val_main_v1]) ?_
    rw [G.dsF]
    exact congrArg Real.toEReal (wide_at A.dsF h k v).symm
  off v x e := if_neg e

set_option maxHeartbeats 400000 in
/-- The recurrence from the last row back is that of the real arrays. -/
theorem reads_B : Chain.Reads (chain_B x0 x1 x2 x3 x4 x5 x6 x8) A.B where
  hK h n b k := by
    refine Eq.trans (b := (val_main_v25 (F := Ideal) x0 x1 x2 x3 x4 (ix4 (0 : Fin 1) (Fin.rev (⟨n.val * 64 + b.val, by omega⟩ : Fin 256)) h k) : EReal)) (by
      show (val_main_v118 (F := Ideal) x0 x1 x2 x3 x4 (ix5 (0 : Fin 1) h n b k) : EReal) = _
      pointwise [val_main_v118, val_main_v117, val_main_v114]
      simp) ?_
    rw [rowB_eq, r_K G]
    rfl
  hV h n b v := by
    refine Eq.trans (b := (val_main_v27 (F := Ideal) x0 x1 x2 x3 x4 (ix4 (0 : Fin 1) (Fin.rev (⟨n.val * 64 + b.val, by omega⟩ : Fin 256)) h v) : EReal)) (by
      show (val_main_v120 (F := Ideal) x0 x1 x2 x3 x4 (ix5 (0 : Fin 1) h n b v) : EReal) = _
      pointwise [val_main_v120, val_main_v119, val_main_v115]
      simp) ?_
    rw [rowB_eq, r_V G]
    rfl
  ha h n b k := by
    refine Eq.trans (b := (val_main_v37 (F := Ideal) x0 x1 x2 x3 x4 x5 x6 (ix4 (0 : Fin 1) (Fin.rev (⟨n.val * 64 + b.val, by omega⟩ : Fin 256)) 1 ⟨h.val * 64 + k.val, by omega⟩) : EReal)) (by
      show (val_main_v122 (F := Ideal) x0 x1 x2 x3 x4 x5 x6 (ix5 (0 : Fin 1) h n b k) : EReal) = _
      pointwise [val_main_v122, val_main_v121, val_main_v116, val_main_v42, val_main_v41, val_main_v38]
      simp) ?_
    rw [rowB_eq, r_al G, kcol_eq]
    rfl
  hG h k v := by
    refine Eq.trans (b := (x8 (ix3 h k v) : EReal)) (by
      show (val_main_v252 (F := Ideal) x0 x1 x2 x3 x4 x5 x6 x8 (ix5 (0 : Fin 1) h 3 k v) : EReal) = _
      pointwise [val_main_v252, val_main_v251, val_main_v195, val_main_v249, val_main_cst_13, val_main_v245, val_main_v246, val_main_v247, val_main_v248, val_main_v223, val_main_v212, val_main_v201, val_main_v189, val_main_v222, val_main_v211, val_main_v200, val_main_v221, val_main_v210, val_main_v199, val_main_v220, val_main_v209, val_main_v198, val_main_v192, val_main_v184, val_main_v140, val_main_v182, val_main_cst_9, val_main_v178, val_main_v179, val_main_v180, val_main_v181, val_main_v145, val_main_v153, val_main_v161, val_main_v169, val_main_v142, val_main_v150, val_main_v158, val_main_v166, val_main_v141, val_main_v149, val_main_v157, val_main_v165, val_main_v136, val_main_v133, val_main_v132, val_main_v125, val_main_v124, val_main_v123, val_main_call5_call0_v0, val_main_v122, val_main_call5_call0_cst, val_main_v121, val_main_v116, val_main_v42, val_main_v41, val_main_v38, val_main_v37, val_main_v35_0, val_main_v36, val_main_call0_v1_0, val_main_cst_4, val_main_call0_call0_v11, val_main_call0_call0_v4, val_main_call0_call0_v6, val_main_call0_call0_v1, val_main_call0_call0_v10, val_main_call0_call0_v3, val_main_call0_call0_v5, val_main_call0_v0, val_main_call0_call0_v0, val_main_call0_call0_v9, val_main_call0_call0_v2, val_main_call0_call0_cst, val_main_v34, val_main_call0_call0_v8, val_main_v31, val_main_v33, val_main_call0_call0_v7, val_main_v30, val_main_v32, val_main_v29, val_main_v28, val_main_v23, val_main_v22, val_main_v0, val_main_v21, val_main_v19, val_main_v20, val_main_v15, val_main_v18, val_main_v13, val_main_v14, val_main_v17, val_main_v12, val_main_v16, val_main_v8, val_main_cst_3, val_main_v7, val_main_v5, val_main_v6, val_main_v3, val_main_v4, val_main_cst_1, val_main_v2, val_main_cst_0, val_main_cst, val_main_v1]) ?_
    rw [G.dsB]
    exact congrArg Real.toEReal (wide_at A.dsB h k v).symm
  off v x e := if_neg e

end Cert.CtxRefIdeal.Read

end
-- ==== Proof.Ctx.Ref.lean ====
module

public import proofs.«01_k».proof.Proof.Ctx.Fwd
public import proofs.«01_k».proof.Proof.Ctx.Heads

/-! The reference's six results where its arguments are real. -/

@[expose] public section

set_option maxRecDepth 16384

noncomputable section

namespace Cert.CtxRefIdeal.Read

open Idealize.ShloMosaic Idealize.ShloMosaic.TcCoe Idealize.SL.Sem
open Cert.CtxRefIdeal Cert.CtxRefIdeal.Gen Cert.Ctx Cert.Common

variable {x0 : FVec Ideal S256x1024 .f32} {x1 x2 x3 : FVec Ideal S1x1024 .f32} {x4 : FVec Ideal S1024x5152 .f32}
  {x5 : FVec Ideal S2x16x256 .f32} {x6 : FVec Ideal S2x256 .f32} {x7 x8 : FVec Ideal S4x64x128 .f32} {A : Args}

namespace Sums

/-- The gradient of a direction's logits, by row. -/
def dlog (A : Args) (i : Fin 256) (d : Fin 2) (x : Fin 256) : ℝ := if d = 0 then A.F.dlg (chF i) (inF i) x else A.B.dlg (chB i) (inB i) x

theorem row_back (i : Fin 256) : rowB (chB i) (inB i) = i := Fin.ext (by
  show 255 - (64 * ((255 - i.val) / 64) + (255 - i.val) % 64) = i.val; omega)

theorem row_fwd (i : Fin 256) : rowF (chF i) (inF i) = i := Fin.ext (by
  show 64 * (i.val / 64) + i.val % 64 = i.val; omega)

/-- A row's logit's gradient is its decay's times the gate's slope. -/
theorem dlog_eq (A : Args) (i : Fin 256) (d : Fin 2) (x : Fin 256) :
    dlog A i d x = (if d = 0 then A.F.da (chF i) (inF i) x else A.B.da (chB i) (inB i) x) / 16 * Common.sig (-A.lg i d x) := by
  unfold dlog
  split_ifs with h
  · subst h
    show A.F.da _ _ x * Common.sig (-A.lg (rowF (chF i) (inF i)) 0 x) * (1 / 16) = _
    rw [row_fwd]; ring
  · obtain rfl : d = 1 := by omega
    show A.B.da _ _ x * Common.sig (-A.lg (rowB (chB i) (inB i)) 1 x) * (1 / 16) = _
    rw [row_back]; ring

/-- The gradient of a gate feature, without the padding to 128. -/
theorem dl_low (A : Args) (i : Fin 256) (d : Fin 2) (r : Fin 16) (h : 16 * d.val + r.val < 128) :
    A.dl i ⟨16 * d.val + r.val, h⟩ = ∑ x, dlog A i d x * A.w2 d r x := by
  unfold Args.dl
  have g (q : Fin 2) (x : Fin 256) : A.gate q ⟨16 * d.val + r.val, h⟩ x = if q = d then A.w2 d r x else 0 := by
    unfold Args.gate
    by_cases e : q = d
    · subst e
      rw [if_pos rfl, dif_pos ⟨by simp only; omega, by simp only; omega⟩]
      exact congrArg (fun r => A.w2 q r x) (Fin.ext (by simp only; omega))
    · rw [if_neg e, dif_neg]
      rintro ⟨h1, h2⟩
      exact e (Fin.ext (by simp only at h1 h2; omega))
  simp only [g]
  unfold dlog
  obtain rfl | rfl : d = 0 ∨ d = 1 := by omega
  · simp
  · simp

theorem dl_high (A : Args) (i : Fin 256) (q : Fin 128) (h : ¬q.val < 32) : A.dl i q = 0 := by
  unfold Args.dl
  have g (d : Fin 2) (x : Fin 256) : A.gate d q x = 0 := by
    unfold Args.gate
    exact dif_neg fun e => h (by omega)
  simp only [g, mul_zero, Finset.sum_const_zero, add_zero]

/-- The sum over the projection's columns, by groups. -/
theorem sum_cols (f : Fin 800 → ℝ) :
    ∑ q, f q = (∑ x : Fin 256, f ⟨x.val, by omega⟩) + (∑ v : Fin 512, f ⟨256 + v.val, by omega⟩) + ∑ q : Fin 32, f ⟨768 + q.val, by omega⟩ :=
  (Fin.sum_univ_add (a := 768) (b := 32) f).trans (congrArg (· + _) (Fin.sum_univ_add (a := 256) (b := 512) fun i => f (Fin.castAdd 32 i)))

theorem which (q : Fin 800) :
    (∃ x : Fin 256, q = ⟨x.val, by omega⟩) ∨ (∃ v : Fin 512, q = ⟨256 + v.val, by omega⟩) ∨ ∃ l : Fin 32, q = ⟨768 + l.val, by omega⟩ := by
  by_cases h : q.val < 256
  · exact .inl ⟨⟨q.val, h⟩, rfl⟩
  · by_cases h2 : q.val < 768
    · exact .inr (.inl ⟨⟨q.val - 256, by omega⟩, Fin.ext (by simp only; omega)⟩)
    · exact .inr (.inr ⟨⟨q.val - 768, by omega⟩, Fin.ext (by simp only; omega)⟩)

theorem sum_wl (A : Args) (i : Fin 256) (e : Fin 1024) :
    ∑ q, A.dl i q * A.wl e q = ∑ q : Fin 32, A.dl i ⟨q.val, by omega⟩ * A.w e ⟨1024 + q.val, by omega⟩ := by
  refine (Fin.sum_univ_add (a := 32) (b := 96) _).trans ?_
  have z : ∑ q : Fin 96, A.dl i (Fin.natAdd 32 q) * A.wl e (Fin.natAdd 32 q) = 0 := Finset.sum_eq_zero fun q _ => by
    unfold Args.wl; rw [dif_neg (by show ¬32 + q.val < 32; omega), mul_zero]
  refine (congrArg (_ + ·) z).trans ((add_zero _).trans ?_)
  refine Finset.sum_congr rfl fun q _ => ?_
  unfold Args.wl
  rw [dif_pos (show (Fin.castAdd 96 q).val < 32 from q.isLt)]
  rfl

/-- A direction's rows by chunk and row, and back. -/
def placeF : Fin 256 ≃ Fin 4 × Fin 64 where
  toFun i := (chF i, inF i)
  invFun p := rowF p.1 p.2
  left_inv := row_fwd
  right_inv p := Prod.ext (Fin.ext (by show (64 * p.1.val + p.2.val) / 64 = p.1.val; omega)) (Fin.ext (by show (64 * p.1.val + p.2.val) % 64 = p.2.val; omega))

def placeB : Fin 256 ≃ Fin 4 × Fin 64 where
  toFun i := (chB i, inB i)
  invFun p := rowB p.1 p.2
  left_inv := row_back
  right_inv p := Prod.ext (Fin.ext (by show (255 - (255 - (64 * p.1.val + p.2.val))) / 64 = p.1.val; omega))
    (Fin.ext (by show (255 - (255 - (64 * p.1.val + p.2.val))) % 64 = p.2.val; omega))

theorem sum_dlog (A : Args) (d : Fin 2) (x : Fin 256) : ∑ i, dlog A i d x = A.dgb d x := by
  unfold dlog Args.dgb
  split_ifs
  · rw [← Fintype.sum_prod_type' (f := fun n a => A.F.dlg n a x)]
    exact Equiv.sum_comp placeF fun p => A.F.dlg p.1 p.2 x
  · rw [← Fintype.sum_prod_type' (f := fun n a => A.B.dlg n a x)]
    exact Equiv.sum_comp placeB fun p => A.B.dlg p.1 p.2 x

end Sums

variable (G : Given x0 x1 x2 x3 x4 x5 x6 x7 x8 A)
include G

omit G in
theorem kcol_at (x : Fin 256) (l : x.val / 64 < 4) (l' : x.val % 64 < 64) : kcol ⟨x.val / 64, l⟩ ⟨x.val % 64, l'⟩ = x := Fin.ext (by
  show 64 * (x.val / 64) + x.val % 64 = x.val; omega)

omit G in
theorem chB_eq (i : Fin 256) : (⟨i.rev.val / 64, by omega⟩ : Fin 4) = chB i ∧ (⟨i.rev.val % 64, by omega⟩ : Fin 64) = inB i := by
  refine ⟨Fin.ext ?_, Fin.ext ?_⟩
  · simp only [chB, Fin.val_rev]; omega
  · simp only [inB, Fin.val_rev]; omega

theorem r_dkF (i : Fin 256) (h : Fin 4) (k : Fin 64) : (val_main_v370 (F := Ideal) x0 x1 x2 x3 x4 x5 x6 x7 (ix4 (0 : Fin 1) i h k) : EReal) = (A.F.dK (chF i) (inF i) (kcol h k) : EReal) := by
  refine Eq.trans (b := (val_main_v352 (F := Ideal) x0 x1 x2 x3 x4 x5 x6 x7 (ix5 (0 : Fin 1) h ⟨i.val / 64, by omega⟩ ⟨i.val % 64, by omega⟩ k) : EReal)) (by pointwise [val_main_v370, val_main_v369]) ?_
  exact Chain.dK_at (reads_F G) h (chF i) (inF i) k

theorem r_dkB (i : Fin 256) (h : Fin 4) (k : Fin 64) : (val_main_v280 (F := Ideal) x0 x1 x2 x3 x4 x5 x6 x8 (ix4 (0 : Fin 1) i h k) : EReal) = (A.B.dK (chB i) (inB i) (kcol h k) : EReal) := by
  refine Eq.trans (b := (val_main_v260 (F := Ideal) x0 x1 x2 x3 x4 x5 x6 x8 (ix5 (0 : Fin 1) h ⟨i.rev.val / 64, by omega⟩ ⟨i.rev.val % 64, by omega⟩ k) : EReal)) (by
    pointwise [val_main_v280, val_main_v277, val_main_v276]
    simp) ?_
  rw [(chB_eq i).1, (chB_eq i).2]
  exact Chain.dK_at (reads_B G) h (chB i) (inB i) k

theorem r_dvF (i : Fin 256) (h : Fin 4) (v : Fin 128) : (val_main_v367 (F := Ideal) x0 x1 x2 x3 x4 x5 x6 x7 (ix4 (0 : Fin 1) i h v) : EReal) = (A.F.dV (chF i) (inF i) (vcol h v) : EReal) := by
  refine Eq.trans (b := (val_main_v348 (F := Ideal) x0 x1 x2 x3 x4 x5 x6 x7 (ix5 (0 : Fin 1) h ⟨i.val / 64, by omega⟩ ⟨i.val % 64, by omega⟩ v) : EReal)) (by pointwise [val_main_v367, val_main_v366]) ?_
  exact Chain.dV_at (reads_F G) h (chF i) (inF i) v

theorem r_dvB (i : Fin 256) (h : Fin 4) (v : Fin 128) : (val_main_v279 (F := Ideal) x0 x1 x2 x3 x4 x5 x6 x8 (ix4 (0 : Fin 1) i h v) : EReal) = (A.B.dV (chB i) (inB i) (vcol h v) : EReal) := by
  refine Eq.trans (b := (val_main_v256 (F := Ideal) x0 x1 x2 x3 x4 x5 x6 x8 (ix5 (0 : Fin 1) h ⟨i.rev.val / 64, by omega⟩ ⟨i.rev.val % 64, by omega⟩ v) : EReal)) (by
    pointwise [val_main_v279, val_main_v275, val_main_v274]
    simp) ?_
  rw [(chB_eq i).1, (chB_eq i).2]
  exact Chain.dV_at (reads_B G) h (chB i) (inB i) v

theorem r_daF (i : Fin 256) (h : Fin 4) (k : Fin 64) : (val_main_v365 (F := Ideal) x0 x1 x2 x3 x4 x5 x6 x7 (ix4 (0 : Fin 1) i h k) : EReal) = (A.F.da (chF i) (inF i) (kcol h k) : EReal) := by
  refine Eq.trans (b := (val_main_v363 (F := Ideal) x0 x1 x2 x3 x4 x5 x6 x7 (ix5 (0 : Fin 1) h ⟨i.val / 64, by omega⟩ ⟨i.val % 64, by omega⟩ k) : EReal)) (by pointwise [val_main_v365, val_main_v364]) ?_
  exact Chain.da_at (reads_F G) h (chF i) (inF i) k

theorem r_daB (i : Fin 256) (h : Fin 4) (k : Fin 64) : (val_main_v278 (F := Ideal) x0 x1 x2 x3 x4 x5 x6 x8 (ix4 (0 : Fin 1) i h k) : EReal) = (A.B.da (chB i) (inB i) (kcol h k) : EReal) := by
  refine Eq.trans (b := (val_main_v271 (F := Ideal) x0 x1 x2 x3 x4 x5 x6 x8 (ix5 (0 : Fin 1) h ⟨i.rev.val / 64, by omega⟩ ⟨i.rev.val % 64, by omega⟩ k) : EReal)) (by
    pointwise [val_main_v278, val_main_v273, val_main_v272]
    simp) ?_
  rw [(chB_eq i).1, (chB_eq i).2]
  exact Chain.da_at (reads_B G) h (chB i) (inB i) k

/-- The gradients of keys and values. -/
theorem r_dk (i : Fin 256) (h : Fin 4) (k : Fin 64) : val_main_v371 (F := Ideal) x0 x1 x2 x3 x4 x5 x6 x7 x8 (ix4 (0 : Fin 1) i h k) = ((A.dk i (kcol h k) : ℝ) : EReal) := by
  have eq : (val_main_v371 (F := Ideal) x0 x1 x2 x3 x4 x5 x6 x7 x8 (ix4 (0 : Fin 1) i h k) : EReal) =
      (val_main_v280 (F := Ideal) x0 x1 x2 x3 x4 x5 x6 x8 (ix4 (0 : Fin 1) i h k) : EReal) + (val_main_v370 (F := Ideal) x0 x1 x2 x3 x4 x5 x6 x7 (ix4 (0 : Fin 1) i h k) : EReal) := by
    pointwise [val_main_v371]
  rw [eq]
  rw [r_dkF G, r_dkB G, ← EReal.coe_add, add_comm]
  rfl

theorem r_dv (i : Fin 256) (h : Fin 4) (v : Fin 128) : val_main_v368 (F := Ideal) x0 x1 x2 x3 x4 x5 x6 x7 x8 (ix4 (0 : Fin 1) i h v) = ((A.dv i (vcol h v) : ℝ) : EReal) := by
  have eq : (val_main_v368 (F := Ideal) x0 x1 x2 x3 x4 x5 x6 x7 x8 (ix4 (0 : Fin 1) i h v) : EReal) =
      (val_main_v279 (F := Ideal) x0 x1 x2 x3 x4 x5 x6 x8 (ix4 (0 : Fin 1) i h v) : EReal) + (val_main_v367 (F := Ideal) x0 x1 x2 x3 x4 x5 x6 x7 (ix4 (0 : Fin 1) i h v) : EReal) := by
    pointwise [val_main_v368]
  rw [eq]
  rw [r_dvF G, r_dvB G, ← EReal.coe_add, add_comm]
  rfl

theorem r_da (i : Fin 256) (d : Fin 2) (h : Fin 4) (k : Fin 64) : val_main_v376 (F := Ideal) x0 x1 x2 x3 x4 x5 x6 x7 x8 (ix5 (0 : Fin 1) i d h k) = ((if d = 0 then A.F.da (chF i) (inF i) (kcol h k) else A.B.da (chB i) (inB i) (kcol h k) : ℝ) : EReal) := by
  have eq : (val_main_v376 (F := Ideal) x0 x1 x2 x3 x4 x5 x6 x7 x8 (ix5 (0 : Fin 1) i d h k) : EReal) =
      (if q : 1 ≤ d.val ∧ d.val - 1 < 1 then (val_main_v278 (F := Ideal) x0 x1 x2 x3 x4 x5 x6 x8 (ix4 (0 : Fin 1) i h k) : EReal) else 0) + (if q : d.val < 1 then (val_main_v365 (F := Ideal) x0 x1 x2 x3 x4 x5 x6 x7 (ix4 (0 : Fin 1) i h k) : EReal) else 0) := by
    pointwise [val_main_v376, val_main_v373, val_main_v375, val_main_cst_38, val_main_v372, val_main_cst_39, val_main_v374]
  rw [eq]
  rw [r_daF G, r_daB G]
  obtain rfl | rfl : d = 0 ∨ d = 1 := by omega
  · rw [dif_neg (by decide), dif_pos (by decide), if_pos rfl, zero_add]
  · rw [dif_pos (by decide), dif_neg (by decide), if_neg (by decide), add_zero]

theorem r_dq (i : Fin 256) (d : Fin 2) (x : Fin 256) : val_main_v379 (F := Ideal) x0 x1 x2 x3 x4 x5 x6 x7 x8 (ix4 (0 : Fin 1) i d x) = (((if d = 0 then A.F.da (chF i) (inF i) x else A.B.da (chB i) (inB i) x) / 16 : ℝ) : EReal) := by
  have eq : (val_main_v379 (F := Ideal) x0 x1 x2 x3 x4 x5 x6 x7 x8 (ix4 (0 : Fin 1) i d x) : EReal) =
      Ideal.div (val_main_v376 (F := Ideal) x0 x1 x2 x3 x4 x5 x6 x7 x8 (ix5 (0 : Fin 1) i d ⟨x.val / 64, by omega⟩ ⟨x.val % 64, by omega⟩) : EReal) (Ideal.ofBits .f32 0x41800000#32) := by
    pointwise [val_main_v379, val_main_v377, val_main_v378, val_main_cst_40]
  rw [eq]
  rw [r_da G, kcol_at, ofBits_16, div_real _ (by norm_num)]

/-- The gradient of the logits. -/
theorem r_dlog (i : Fin 256) (d : Fin 2) (x : Fin 256) : val_main_v380 (F := Ideal) x0 x1 x2 x3 x4 x5 x6 x7 x8 (ix4 (0 : Fin 1) i d x) = ((Sums.dlog A i d x : ℝ) : EReal) := by
  have eq : (val_main_v380 (F := Ideal) x0 x1 x2 x3 x4 x5 x6 x7 x8 (ix4 (0 : Fin 1) i d x) : EReal) =
      -(-(val_main_v379 (F := Ideal) x0 x1 x2 x3 x4 x5 x6 x7 x8 (ix4 (0 : Fin 1) i d x) : EReal) * (val_main_v35_1 (F := Ideal) x0 x1 x2 x3 x4 x5 x6 (ix4 (0 : Fin 1) i d x) : EReal)) := by
    pointwise [val_main_v380, val_main_call11_v1, val_main_call11_v0]
  rw [eq]
  rw [r_dq G, r_sg G, Sums.dlog_eq, ← EReal.coe_neg, ← EReal.coe_mul, ← EReal.coe_neg, neg_mul, neg_neg]

/-- The gradient of the gates' offset. -/
theorem r_dgb (d : Fin 2) (x : Fin 256) : val_main_v432 (F := Ideal) x0 x1 x2 x3 x4 x5 x6 x7 x8 (ix3 d (0 : Fin 1) x) = ((A.dgb d x : ℝ) : EReal) := by
  have eq : (val_main_v432 (F := Ideal) x0 x1 x2 x3 x4 x5 x6 x7 x8 (ix3 d (0 : Fin 1) x) : EReal) =
      ∑ i, (val_main_v380 (F := Ideal) x0 x1 x2 x3 x4 x5 x6 x7 x8 (ix4 (0 : Fin 1) i d x) : EReal) := by
    pointwise [val_main_v432, val_main_v383, val_main_cst_42, val_main_v382, val_main_v381, val_main_cst_41]
    rw [reduce_front]
    pointwise
  rw [eq]
  simp only [r_dlog G, ← coe_sum, Sums.sum_dlog]

/-- The gradient of the gate features. -/
theorem r_dl (i : Fin 256) (d : Fin 2) (r : Fin 16) : val_main_v386 (F := Ideal) x0 x1 x2 x3 x4 x5 x6 x7 x8 (ix4 (0 : Fin 1) i d r) = ((A.dl i ⟨16 * d.val + r.val, by omega⟩ : ℝ) : EReal) := by
  have eq : (val_main_v386 (F := Ideal) x0 x1 x2 x3 x4 x5 x6 x7 x8 (ix4 (0 : Fin 1) i d r) : EReal) =
      ∑ x, (val_main_v380 (F := Ideal) x0 x1 x2 x3 x4 x5 x6 x7 x8 (ix4 (0 : Fin 1) i d x) : EReal) * x5 (ix3 d r x) := by
    pointwise [val_main_v386, val_main_v385, val_main_v384]
  rw [eq]
  rw [Sums.dl_low]
  simp only [r_dlog G, G.w2, ← EReal.coe_mul, ← coe_sum]

omit G in
/-- The projection's gradient is put together from three groups of columns. -/
theorem groups (i : Fin 256) (q : Fin 800) : (val_main_v397 (F := Ideal) x0 x1 x2 x3 x4 x5 x6 x7 x8 (ix2 i q) : EReal) =
    ((if u : 768 ≤ (q).val ∧ (q).val - 768 < 32 then (val_main_v386 (F := Ideal) x0 x1 x2 x3 x4 x5 x6 x7 x8 (ix4 (0 : Fin 1) i ⟨((q).val - 768) / 16, by omega⟩ ⟨((q).val - 768) % 16, by omega⟩) : EReal) else 0)
        + (if u : 256 ≤ (q).val ∧ (q).val - 256 < 512 then (val_main_v368 (F := Ideal) x0 x1 x2 x3 x4 x5 x6 x7 x8 (ix4 (0 : Fin 1) i ⟨((q).val - 256) / 128, by omega⟩ ⟨((q).val - 256) % 128, by omega⟩) : EReal) else 0))
        + (if u : (q).val < 256 then (val_main_v371 (F := Ideal) x0 x1 x2 x3 x4 x5 x6 x7 x8 (ix4 (0 : Fin 1) i ⟨(q).val / 64, by omega⟩ ⟨(q).val % 64, by omega⟩) : EReal) else 0) := by
  pointwise [val_main_v397, val_main_cst_46, val_main_v396, val_main_v393, val_main_v395, val_main_v390, val_main_v392, val_main_cst_45, val_main_v394, val_main_cst_43, val_main_v389, val_main_cst_44, val_main_v391]
  simp only [Fin.sum_univ_one]

theorem r_pk (i x : Fin 256) : (val_main_v397 (F := Ideal) x0 x1 x2 x3 x4 x5 x6 x7 x8 (ix2 i ⟨x.val, by omega⟩) : EReal) = (A.dk i x : EReal) := by
  rw [groups, dif_neg (by simp only; omega), dif_neg (by simp only; omega), dif_pos x.isLt, zero_add, zero_add, r_dk G, kcol_at]

theorem r_pv (i : Fin 256) (v : Fin 512) : (val_main_v397 (F := Ideal) x0 x1 x2 x3 x4 x5 x6 x7 x8 (ix2 i ⟨256 + v.val, by omega⟩) : EReal) = (A.dv i v : EReal) := by
  rw [groups, dif_neg (by simp only; omega), dif_pos ⟨by simp only; omega, by simp only; omega⟩, dif_neg (by simp only; omega), zero_add, add_zero, r_dv G]
  refine congrArg (fun v => (A.dv i v : EReal)) (Fin.ext ?_)
  show 128 * ((256 + v.val - 256) / 128) + (256 + v.val - 256) % 128 = v.val
  omega

theorem r_pl (i : Fin 256) (q : Fin 32) : (val_main_v397 (F := Ideal) x0 x1 x2 x3 x4 x5 x6 x7 x8 (ix2 i ⟨768 + q.val, by omega⟩) : EReal) = (A.dl i ⟨q.val, by omega⟩ : EReal) := by
  rw [groups, dif_pos ⟨by simp only; omega, by simp only; omega⟩, dif_neg (by simp only; omega), dif_neg (by simp only; omega), add_zero, add_zero, r_dl G]
  refine congrArg (fun q => (A.dl i q : EReal)) (Fin.ext ?_)
  show 16 * ((768 + q.val - 768) / 16) + (768 + q.val - 768) % 16 = q.val
  omega

theorem r_dwk (e : Fin 1024) (x : Fin 256) : val_main_v429 (F := Ideal) x0 x1 x2 x3 x4 x5 x6 x7 x8 (ix2 e x) = ((A.dwk e x : ℝ) : EReal) := by
  have eq : (val_main_v429 (F := Ideal) x0 x1 x2 x3 x4 x5 x6 x7 x8 (ix2 e x) : EReal) =
      ∑ i, (val_main_v397 (F := Ideal) x0 x1 x2 x3 x4 x5 x6 x7 x8 (ix2 i ⟨x.val, by omega⟩) : EReal) * (val_main_v21 (F := Ideal) x0 x1 x2 x3 (ix2 i e) : EReal) := by
    pointwise [val_main_v429, val_main_v399, val_main_v398]
  rw [eq]
  simp only [r_pk G, r_hc G, ← EReal.coe_mul, ← coe_sum]
  exact congrArg Real.toEReal (Finset.sum_congr rfl fun i _ => mul_comm _ _)

theorem r_dwv (e : Fin 1024) (v : Fin 512) : val_main_v430 (F := Ideal) x0 x1 x2 x3 x4 x5 x6 x7 x8 (ix2 e v) = ((A.dwv e v : ℝ) : EReal) := by
  have eq : (val_main_v430 (F := Ideal) x0 x1 x2 x3 x4 x5 x6 x7 x8 (ix2 e v) : EReal) =
      ∑ i, (val_main_v397 (F := Ideal) x0 x1 x2 x3 x4 x5 x6 x7 x8 (ix2 i ⟨256 + v.val, by omega⟩) : EReal) * (val_main_v21 (F := Ideal) x0 x1 x2 x3 (ix2 i e) : EReal) := by
    pointwise [val_main_v430, val_main_v399, val_main_v398]
  rw [eq]
  simp only [r_pv G, r_hc G, ← EReal.coe_mul, ← coe_sum]
  exact congrArg Real.toEReal (Finset.sum_congr rfl fun i _ => mul_comm _ _)

theorem r_dwl (e : Fin 1024) (q : Fin 128) : (val_main_v428 (F := Ideal) x0 x1 x2 x3 x4 x5 x6 x7 x8 (ix2 e q) : EReal) = (A.dwl e q : EReal) := by
  have eq : (val_main_v428 (F := Ideal) x0 x1 x2 x3 x4 x5 x6 x7 x8 (ix2 e q) : EReal) = if h : q.val < 32 then ∑ i, (val_main_v397 (F := Ideal) x0 x1 x2 x3 x4 x5 x6 x7 x8 (ix2 i ⟨768 + q.val, by omega⟩) : EReal) * (val_main_v21 (F := Ideal) x0 x1 x2 x3 (ix2 i e) : EReal) else (FloatOps.sitofp (F := Ideal) FTy.f32 (0#32) : EReal) := by
    pointwise [val_main_v428, val_main_call12_v0, val_main_v427, val_main_c, val_main_v399, val_main_v398]
  rw [eq]
  unfold Args.dwl
  split_ifs with h
  · have p (i) := r_pl G i ⟨q.val, h⟩
    simp only at p
    simp only [p, r_hc G, ← EReal.coe_mul, ← coe_sum]
    exact congrArg Real.toEReal (Finset.sum_congr rfl fun i _ => mul_comm _ _)
  · simp only [Sums.dl_high A _ q h, mul_zero, Finset.sum_const_zero]
    show ((_ : ℝ) : EReal) = _
    norm_num

theorem r_dh (i : Fin 256) (e : Fin 1024) : (val_main_v400 (F := Ideal) x0 x1 x2 x3 x4 x5 x6 x7 x8 (ix2 i e) : EReal) = (A.dh i e : EReal) := by
  have p (q : Fin 800) : ∃ t : ℝ, (val_main_v397 (F := Ideal) x0 x1 x2 x3 x4 x5 x6 x7 x8 (ix2 i q) : EReal) = (t : EReal) := by
    rcases Sums.which q with ⟨x, rfl⟩ | ⟨v, rfl⟩ | ⟨l, rfl⟩
    · exact ⟨_, r_pk G i x⟩
    · exact ⟨_, r_pv G i v⟩
    · exact ⟨_, r_pl G i l⟩
  choose t ht using p
  have tk (x : Fin 256) : t ⟨x.val, by omega⟩ = A.dk i x := EReal.coe_injective ((ht _).symm.trans (r_pk G i x))
  have tv (v : Fin 512) : t ⟨256 + v.val, by omega⟩ = A.dv i v := EReal.coe_injective ((ht _).symm.trans (r_pv G i v))
  have tl (q : Fin 32) : t ⟨768 + q.val, by omega⟩ = A.dl i ⟨q.val, by omega⟩ := EReal.coe_injective ((ht _).symm.trans (r_pl G i q))
  have eq : (val_main_v400 (F := Ideal) x0 x1 x2 x3 x4 x5 x6 x7 x8 (ix2 i e) : EReal) = ∑ q : Fin 800, (val_main_v397 (F := Ideal) x0 x1 x2 x3 x4 x5 x6 x7 x8 (ix2 i q) : EReal) * x4 (ix2 e ⟨256 + q.val, by omega⟩) := by
    pointwise [val_main_v400, val_main_v0]
  rw [eq]
  simp only [ht, G.w, ← EReal.coe_mul, ← coe_sum]
  refine congrArg Real.toEReal ((Sums.sum_cols _).trans ?_)
  simp only [tk, tv, tl]
  unfold Args.dh
  rw [Sums.sum_wl]
  refine congr (congrArg _ (congrArg _ (Finset.sum_congr rfl fun v _ => ?_))) (Finset.sum_congr rfl fun q _ => ?_)
  · exact congrArg (fun j => A.dv i v * A.w e j) (Fin.ext (by simp only; omega))
  · exact congrArg (fun j => A.dl i ⟨q.val, by omega⟩ * A.w e j) (Fin.ext (by simp only; omega))

/-- The gradients of shift, scale and gain. -/
theorem r_dsh (e : Fin 1024) : val_main_v402 (F := Ideal) x0 x1 x2 x3 x4 x5 x6 x7 x8 (ix2 (0 : Fin 1) e) = ((A.dsh e : ℝ) : EReal) := by
  have eq : (val_main_v402 (F := Ideal) x0 x1 x2 x3 x4 x5 x6 x7 x8 (ix2 (0 : Fin 1) e) : EReal) =
      ∑ i, (val_main_v400 (F := Ideal) x0 x1 x2 x3 x4 x5 x6 x7 x8 (ix2 i e) : EReal) := by
    pointwise [val_main_v402, val_main_v401, val_main_cst_47]
  rw [eq]
  simp only [r_dh G, ← coe_sum]
  rfl

theorem r_dsc (e : Fin 1024) : val_main_v405 (F := Ideal) x0 x1 x2 x3 x4 x5 x6 x7 x8 (ix2 (0 : Fin 1) e) = ((A.dsc e : ℝ) : EReal) := by
  have eq : (val_main_v405 (F := Ideal) x0 x1 x2 x3 x4 x5 x6 x7 x8 (ix2 (0 : Fin 1) e) : EReal) =
      ∑ i, ((val_main_v13 (F := Ideal) x0 (ix2 i e) : EReal) * x1 (ix2 (0 : Fin 1) e)) * (val_main_v400 (F := Ideal) x0 x1 x2 x3 x4 x5 x6 x7 x8 (ix2 i e) : EReal) := by
    pointwise [val_main_v405, val_main_v404, val_main_cst_48, val_main_v403, val_main_v15, val_main_v14]
  rw [eq]
  simp only [r_dh G, r_xn G, G.g, ← EReal.coe_mul, ← coe_sum]
  unfold Args.dsc
  rw [Finset.sum_mul]
  exact congrArg Real.toEReal (Finset.sum_congr rfl fun i _ => by ring)

theorem r_dg (e : Fin 1024) : val_main_v410 (F := Ideal) x0 x1 x2 x3 x4 x5 x6 x7 x8 (ix2 (0 : Fin 1) e) = ((A.dg e : ℝ) : EReal) := by
  have eq : (val_main_v410 (F := Ideal) x0 x1 x2 x3 x4 x5 x6 x7 x8 (ix2 (0 : Fin 1) e) : EReal) =
      ∑ i, (val_main_v13 (F := Ideal) x0 (ix2 i e) : EReal) * ((val_main_v400 (F := Ideal) x0 x1 x2 x3 x4 x5 x6 x7 x8 (ix2 i e) : EReal) * ((1 : EReal) + x2 (ix2 (0 : Fin 1) e))) := by
    pointwise [val_main_v410, val_main_v409, val_main_cst_49, val_main_v408, val_main_v407, val_main_v406, val_main_v17, val_main_v16, val_main_cst_3]
  rw [eq]
  simp only [r_dh G, r_xn G, G.sc, ← EReal.coe_one, ← EReal.coe_add, ← EReal.coe_mul, ← coe_sum]
  unfold Args.dg
  rw [Finset.sum_mul]
  exact congrArg Real.toEReal (Finset.sum_congr rfl fun i _ => by ring)

theorem r_mod (q : Fin 2048) : val_main_v431 (F := Ideal) x0 x1 x2 x3 x4 x5 x6 x7 x8 (ix2 (0 : Fin 1) q) = ((mods A q : ℝ) : EReal) := by
  have eq : (val_main_v431 (F := Ideal) x0 x1 x2 x3 x4 x5 x6 x7 x8 (ix2 (0 : Fin 1) q) : EReal) =
      if h : q.val < 1024 then (val_main_v402 (F := Ideal) x0 x1 x2 x3 x4 x5 x6 x7 x8 (ix2 (0 : Fin 1) ⟨q.val, h⟩) : EReal) else (val_main_v405 (F := Ideal) x0 x1 x2 x3 x4 x5 x6 x7 x8 (ix2 (0 : Fin 1) ⟨q.val - 1024, by omega⟩) : EReal) := by
    pointwise [val_main_v431]
  rw [eq]
  unfold mods
  split_ifs with h
  · exact r_dsh G _
  · exact r_dsc G _

end Cert.CtxRefIdeal.Read

end
-- ==== Proof.Ctx.Claim.lean ====
module

public import proofs.«01_k».proof.Defs
public import proofs.«01_k».proof.Proof.Gen.Pre_finite_ctx
public import proofs.«01_k».proof.Proof.InBwd.Claim
public import proofs.«01_k».proof.Proof.Ctx.Arrays
public import proofs.«01_k».proof.Proof.Ctx.Ref

/-! The claim about the context chain's backward: under finite arguments six of its results are the reference's. -/

@[expose] public section

set_option maxRecDepth 16384

noncomputable section

namespace Cert.CtxClaim

open Idealize.ShloMosaic Idealize.ShloMosaic.TcCoe Idealize.SL.Sem Cert.Common
open Cert.InBwdClaim (ext1 ext2)

/-- The arguments' real parts. -/
def args (m : (ℓ : Loc Cert.CtxIdeal.nD Cert.CtxIdeal.τ Cert.CtxIdeal.sig) → Buf (Elt Ideal) ℓ) (c : Dev Cert.CtxIdeal.nD) : Cert.Ctx.Args where
  x i e := ((m ((c.tc : Thread Cert.CtxIdeal.nD Cert.CtxIdeal.τ).loc Cert.CtxIdeal.main_arg0) : FVec Ideal Cert.CtxIdeal.S256x1024 .f32) (ix2 i e)).toReal
  g e := ((m ((c.tc : Thread Cert.CtxIdeal.nD Cert.CtxIdeal.τ).loc Cert.CtxIdeal.main_arg1) : FVec Ideal Cert.CtxIdeal.S1x1024 .f32) (ix2 (0 : Fin 1) e)).toReal
  sc e := ((m ((c.tc : Thread Cert.CtxIdeal.nD Cert.CtxIdeal.τ).loc Cert.CtxIdeal.main_arg2) : FVec Ideal Cert.CtxIdeal.S1x1024 .f32) (ix2 (0 : Fin 1) e)).toReal
  sh e := ((m ((c.tc : Thread Cert.CtxIdeal.nD Cert.CtxIdeal.τ).loc Cert.CtxIdeal.main_arg3) : FVec Ideal Cert.CtxIdeal.S1x1024 .f32) (ix2 (0 : Fin 1) e)).toReal
  w e q := ((m ((c.tc : Thread Cert.CtxIdeal.nD Cert.CtxIdeal.τ).loc Cert.CtxIdeal.main_arg4) : FVec Ideal Cert.CtxIdeal.S1024x5152 .f32) (ix2 e q)).toReal
  w2 d r x := ((m ((c.tc : Thread Cert.CtxIdeal.nD Cert.CtxIdeal.τ).loc Cert.CtxIdeal.main_arg5) : FVec Ideal Cert.CtxIdeal.S2x16x256 .f32) (ix3 d r x)).toReal
  gb d x := ((m ((c.tc : Thread Cert.CtxIdeal.nD Cert.CtxIdeal.τ).loc Cert.CtxIdeal.main_arg6) : FVec Ideal Cert.CtxIdeal.S2x256 .f32) (ix2 d x)).toReal
  dsF h k v := ((m ((c.tc : Thread Cert.CtxIdeal.nD Cert.CtxIdeal.τ).loc Cert.CtxIdeal.main_arg7) : FVec Ideal Cert.CtxIdeal.S4x64x128 .f32) (ix3 h k v)).toReal
  dsB h k v := ((m ((c.tc : Thread Cert.CtxIdeal.nD Cert.CtxIdeal.τ).loc Cert.CtxIdeal.main_arg8) : FVec Ideal Cert.CtxIdeal.S4x64x128 .f32) (ix3 h k v)).toReal

/-- The precondition says that the arguments are real arrays. -/
theorem reals (m : (ℓ : Loc Cert.CtxIdeal.nD Cert.CtxIdeal.τ Cert.CtxIdeal.sig) → Buf (Elt Ideal) ℓ)
    (h : Cert.Pre_CtxIdeal_finite_ctx m) (c : Dev Cert.CtxIdeal.nD) : Cert.CtxIdeal.Value.Reals m c (args m c) := by
  obtain ⟨h0, h1, h2, h3, h4, h5, h6, h7, h8⟩ := h c
  exact ⟨fun i e => (real_of_test _ _ _ ofBits_inf (congrFun h0 (ix2 i e))).symm,
    fun e => (real_of_test _ _ _ ofBits_inf (congrFun h1 (ix2 0 e))).symm,
    fun e => (real_of_test _ _ _ ofBits_inf (congrFun h2 (ix2 0 e))).symm,
    fun e => (real_of_test _ _ _ ofBits_inf (congrFun h3 (ix2 0 e))).symm,
    fun e q => (real_of_test _ _ _ ofBits_inf (congrFun h4 (ix2 e q))).symm,
    fun d r x => (real_of_test _ _ _ ofBits_inf (congrFun h5 (ix3 d r x))).symm,
    fun d x => (real_of_test _ _ _ ofBits_inf (congrFun h6 (ix2 d x))).symm,
    fun h k v => (real_of_test _ _ _ ofBits_inf (congrFun h7 (ix3 h k v))).symm,
    fun h k v => (real_of_test _ _ _ ofBits_inf (congrFun h8 (ix3 h k v))).symm⟩

open Cert.CtxRefIdeal Cert.CtxRefIdeal.Read in
/-- The reference's run, each result read operation by operation. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      let a0 := m ((c.tc : Thread nD τ).loc main_arg0)
      let a1 := m ((c.tc : Thread nD τ).loc main_arg1)
      let a2 := m ((c.tc : Thread nD τ).loc main_arg2)
      let a3 := m ((c.tc : Thread nD τ).loc main_arg3)
      let a4 := m ((c.tc : Thread nD τ).loc main_arg4)
      let a5 := m ((c.tc : Thread nD τ).loc main_arg5)
      let a6 := m ((c.tc : Thread nD τ).loc main_arg6)
      let a7 := m ((c.tc : Thread nD τ).loc main_arg7)
      let a8 := m ((c.tc : Thread nD τ).loc main_arg8)
      r.2.mem ((c.tc : Thread nD τ).loc main_v429) = val_main_v429 a0 a1 a2 a3 a4 a5 a6 a7 a8
      ∧ r.2.mem ((c.tc : Thread nD τ).loc main_v430) = val_main_v430 a0 a1 a2 a3 a4 a5 a6 a7 a8
      ∧ r.2.mem ((c.tc : Thread nD τ).loc main_v428) = val_main_v428 a0 a1 a2 a3 a4 a5 a6 a7 a8
      ∧ r.2.mem ((c.tc : Thread nD τ).loc main_v431) = val_main_v431 a0 a1 a2 a3 a4 a5 a6 a7 a8
      ∧ r.2.mem ((c.tc : Thread nD τ).loc main_v410) = val_main_v410 a0 a1 a2 a3 a4 a5 a6 a7 a8
      ∧ r.2.mem ((c.tc : Thread nD τ).loc main_v432) = val_main_v432 a0 a1 a2 a3 a4 a5 a6 a7 a8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, h4, h5, hr⟩ := h c
    exact ⟨h0.trans (val_main_v429_eq (StableHlo.launchContents m c)), h1.trans (val_main_v430_eq (StableHlo.launchContents m c)), h2.trans (val_main_v428_eq (StableHlo.launchContents m c)), h3.trans (val_main_v431_eq (StableHlo.launchContents m c)), h4.trans (val_main_v410_eq (StableHlo.launchContents m c)), h5.trans (val_main_v432_eq (StableHlo.launchContents m c)), hr⟩) (Cert.CtxRefIdeal.Value.run m g)

/-- The reference leaves its arguments unchanged; it has no semaphores. -/
theorem frame_ref : Cert.quiescent_CtxRefIdeal := fun m g _ =>
  (θ_run Cert.CtxRefIdeal.defs _ _).mono (fun r h => ⟨fun c => (h c).2.2.2.2.2.2, sem_eq_zero_of_no_sems (by decide) r.2⟩) (run_ref m g)

open Cert.CtxRefIdeal.Read Cert.CtxIdeal.Value in
set_option maxHeartbeats 1000000 in
theorem algebraic : Cert.algebraic_CtxIdeal_CtxRefIdeal_pre_finite_ctx := by
  intro m g m' g' hpre hagree
  refine ⟨fun c => (Cert.CtxIdeal.Gen.dats m 0 c).arrAt 17 Cert.CtxIdeal.cfg0.N, fun c => (Cert.CtxIdeal.Gen.dats m 0 c).arrAt 18 Cert.CtxIdeal.cfg0.N, fun c => (Cert.CtxIdeal.Gen.dats m 0 c).arrAt 19 Cert.CtxIdeal.cfg0.N, fun c => (Cert.CtxIdeal.Gen.dats m 0 c).arrAt 20 Cert.CtxIdeal.cfg0.N, fun c => (Cert.CtxIdeal.Gen.dats m 0 c).arrAt 21 Cert.CtxIdeal.cfg0.N, fun c => (Cert.CtxIdeal.Gen.dats m 0 c).arrAt 23 Cert.CtxIdeal.cfg0.N, (θ_run _ _ _).mono (fun r h c => ?_) (run_blocks m g), (θ_run _ _ _).mono (fun r h c => ?_) (run_ref m' g')⟩
  · obtain ⟨h0, h1, h2, h3, h4, _, h6, _, hr⟩ := h c
    exact ⟨h0, h1, h2, h3, h4, h6, hr⟩
  obtain ⟨h0, h1, h2, h3, h4, h5, hr⟩ := h c
  have R := reals m hpre c
  obtain ⟨e0, e1, e2, e3, e4, e5, e6, e7, e8⟩ := hagree c
  have G : Given (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg5)) (m' ((c.tc : Thread Cert.CtxRefIdeal.nD Cert.CtxRefIdeal.τ).loc Cert.CtxRefIdeal.main_arg6)) (m' ((c.tc : Thread Cert.CtxRefIdeal.nD Cert.CtxRefIdeal.τ).loc Cert.CtxRefIdeal.main_arg7)) (m' ((c.tc : Thread Cert.CtxRefIdeal.nD Cert.CtxRefIdeal.τ).loc Cert.CtxRefIdeal.main_arg8)) (args m c) := by
    rw [e0, e1, e2, e3, e4, e5, e6, e7, e8]
    exact ⟨R.hx, R.hg, R.hsc, R.hsh, R.hw, R.hw2, R.hgb, R.hF, R.hB⟩
  refine ⟨h0.trans ?_, h1.trans ?_, h2.trans ?_, h3.trans ?_, h4.trans ?_, h5.trans ?_, hr⟩
  · exact (ext2 (a := 1024) (b := 256) fun i k => r_dwk G i k).trans (final_dwk R).symm
  · exact (ext2 (a := 1024) (b := 512) fun i k => r_dwv G i k).trans (final_dwv R).symm
  · exact (ext2 (a := 1024) (b := 128) fun i k => r_dwl G i k).trans (final_dwl R).symm
  · exact (ext1 (b := 2048) fun k => r_mod G k).trans (final_mod R).symm
  · exact (ext1 (b := 1024) fun k => r_dg G k).trans (final_dg R).symm
  · refine (funext fun y => ?_ : val_main_v432 _ _ _ _ _ _ _ _ _ = _).trans (final_dgb R).symm
    obtain ⟨d, i, x, rfl⟩ : ∃ (d : Fin 2) (i : Fin 1) (x : Fin 256), y = ix3 d i x := ⟨y 0, y 1, y 2, eq_ix3 (n0 := 2) (n1 := 1) (n2 := 256) y⟩
    obtain rfl : i = 0 := Subsingleton.elim _ _
    exact r_dgb G d x

end Cert.CtxClaim

end
-- ==== Proof.States.Arrays.lean ====
module

public import proofs.«01_k».proof.Proof.Gen.StatesIdeal.Value
public import proofs.«01_k».proof.Proof.Ctx.Points

/-! The context forward's operand blocks, by the arguments, and its two results, as the chunks' functions of them. -/

@[expose] public section

set_option maxRecDepth 16384

noncomputable section

namespace Cert.StatesIdeal.Value

open Idealize.ShloMosaic Idealize.ShloMosaic.TcCoe Idealize.SL.Sem
open Idealize.ShloMosaic.Pipeline (Dat)
open Cert.StatesIdeal Cert.StatesIdeal.Gen Cert.Ctx Cert.Common
open Cert.CtxIdeal.Value (Blk Holds readsF readsB)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 1] ∧ win0_5.index t = ![0, 1] ∧ win0_6.index t = ![0, 40] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

/-- The gate's weight. -/
abbrev argW2 (c : Dev nD) : FVec Ideal S2x16x256 .f32 := m ((c.tc : Thread nD τ).loc main_arg5)

/-- The arguments are real arrays. -/
structure Reals (c : Dev nD) (A : Args) : Prop where
  hx : ∀ i e, (m ((c.tc : Thread nD τ).loc main_arg0) : FVec Ideal S256x1024 .f32) (ix2 i e) = (A.x i e : EReal)
  hg : ∀ e, (m ((c.tc : Thread nD τ).loc main_arg1) : FVec Ideal S1x1024 .f32) (ix2 0 e) = (A.g e : EReal)
  hsc : ∀ e, (m ((c.tc : Thread nD τ).loc main_arg2) : FVec Ideal S1x1024 .f32) (ix2 0 e) = (A.sc e : EReal)
  hsh : ∀ e, (m ((c.tc : Thread nD τ).loc main_arg3) : FVec Ideal S1x1024 .f32) (ix2 0 e) = (A.sh e : EReal)
  hw : ∀ e j, (m ((c.tc : Thread nD τ).loc main_arg4) : FVec Ideal S1024x5152 .f32) (ix2 e j) = (A.w e j : EReal)
  hw2 : ∀ d r x, argW2 m c (ix3 d r x) = (A.w2 d r x : EReal)
  hgb : ∀ d x, (m ((c.tc : Thread nD τ).loc main_arg6) : FVec Ideal S2x256 .f32) (ix2 d x) = (A.gb d x : EReal)

/-- The operands' blocks, a state's gradient read as zero. -/
def blk (c : Dev nD) (t : Fin cfg0.N) : Blk := ⟨iblk m c 0 t, iblk m c 1 t, iblk m c 2 t, iblk m c 3 t, X0_4 m c t, X0_5 m c t, iblk m c 6 t,
  fun r => match r with | false => iblk m c 7 t | true => iblk m c 8 t, fun r => match r with | false => iblk m c 9 t | true => iblk m c 10 t,
  fun _ _ => (0 : EReal)⟩

theorem out11 (c : Dev nD) (t : Fin cfg0.N) (v : Fin 512) (x : Fin 256) : (outsAt0 m c t).1 (ix2 v x) = ((blk m c t).dir false).stt false 4 (ix2 v x) := by
  unfold outsAt0
  frame_out
  sl_kernel_rfl

theorem out12 (c : Dev nD) (t : Fin cfg0.N) (v : Fin 512) (x : Fin 256) : (outsAt0 m c t).2 (ix2 v x) = ((blk m c t).dir true).stt true 4 (ix2 v x) := by
  unfold outsAt0
  frame_out
  sl_kernel_rfl

variable {m} {c : Dev nD} {A : Args}

/-- The padded weight: its first columns, the columns after the low-rank group, that group, and zeros. -/
theorem padded (R : Reals m c A) (i : Fin 1024) (j : Fin 5248) : (V m c main_v7 : FVec Ideal S1024x5248 .bf16) (ix2 i j)
    = if h : j.val < 1024 then (A.w i ⟨j.val, by omega⟩ : EReal)
      else if h1 : j.val - 1024 < 4096 then (A.w i ⟨1056 + (j.val - 1024), by omega⟩ : EReal)
      else if h2 : j.val - 1024 - 4096 < 32 then (A.w i ⟨1024 + (j.val - 1024 - 4096), by omega⟩ : EReal) else 0 := by
  simp only [← R.hw]
  simp only [V, hostOps0, hostOps0_1, hostOps0_2, hostOps0_3, hostOps0_4, List.flatten_cons, List.flatten_nil, List.append_nil, List.cons_append, List.nil_append]; entry_read
  pointwise

/-- The gate's weight among zeros. -/
theorem gateF (R : Reals m c A) (q : Fin 128) (x : Fin 256) : (V m c main_v10 : FVec Ideal S128x256 .f32) (ix2 q x) = (A.gate 0 q x : EReal) := by
  have e : (V m c main_v10 : FVec Ideal S128x256 .f32) (ix2 q x) = if h : q.val < 16 then argW2 m c (ix3 0 ⟨q.val, h⟩ x) else 0 := by
    simp only [V, hostOps0, hostOps0_1, hostOps0_2, hostOps0_3, hostOps0_4, List.flatten_cons, List.flatten_nil, List.append_nil, List.cons_append, List.nil_append]; entry_read; simp -implicitDefEqProofs only [StableHlo.TRef.toBuf, StableHlo.TRef.ofBuf, cast_cast, cast_eq]; pointwise
    have z : FloatOps.sitofp (F := Ideal) FTy.f32 0#32 = 0 := by show ((_ : ℝ) : EReal) = _; norm_num
    rw [z]
  rw [e]
  exact Cert.CtxIdeal.Value.gate_first (fun d r y => R.hw2 d r y) q x

theorem gateB (R : Reals m c A) (q : Fin 128) (x : Fin 256) : (V m c main_v13 : FVec Ideal S128x256 .f32) (ix2 q x) = (A.gate 1 q x : EReal) := by
  have e : (V m c main_v13 : FVec Ideal S128x256 .f32) (ix2 q x) = if h : 16 ≤ q.val ∧ q.val - 16 < 16 then argW2 m c (ix3 1 ⟨q.val - 16, h.2⟩ x) else 0 := by
    simp only [V, hostOps0, hostOps0_1, hostOps0_2, hostOps0_3, hostOps0_4, List.flatten_cons, List.flatten_nil, List.append_nil, List.cons_append, List.nil_append]; entry_read; simp -implicitDefEqProofs only [StableHlo.TRef.toBuf, StableHlo.TRef.ofBuf, cast_cast, cast_eq]; pointwise
    have z : FloatOps.sitofp (F := Ideal) FTy.f32 0#32 = 0 := by show ((_ : ℝ) : EReal) = _; norm_num
    rw [z]
  rw [e]
  exact Cert.CtxIdeal.Value.gate_second (fun d r y => R.hw2 d r y) q x

theorem offF (R : Reals m c A) (x : Fin 256) : (V m c main_v14 : FVec Ideal S1x256 .f32) (ix2 0 x) = (A.gb 0 x : EReal) := by
  rw [← R.hgb]
  simp only [V, hostOps0, hostOps0_1, hostOps0_2, hostOps0_3, hostOps0_4, List.flatten_cons, List.flatten_nil, List.append_nil, List.cons_append, List.nil_append]; entry_read; pointwise

theorem offB (R : Reals m c A) (x : Fin 256) : (V m c main_v15 : FVec Ideal S1x256 .f32) (ix2 0 x) = (A.gb 1 x : EReal) := by
  rw [← R.hgb]
  simp only [V, hostOps0, hostOps0_1, hostOps0_2, hostOps0_3, hostOps0_4, List.flatten_cons, List.flatten_nil, List.append_nil, List.cons_append, List.nil_append]; entry_read; pointwise

set_option maxRecDepth 65536 in
set_option maxHeartbeats 2000000 in
theorem holds (R : Reals m c A) (zF : A.dsF = fun _ _ _ => 0) (zB : A.dsB = fun _ _ _ => 0) (t : Fin cfg0.N) : Holds (blk m c t) A where
  hx i e := (show (iblk m c 0 t : FVec Ideal S256x1024 .f32) (ix2 i e) = (V m c main_arg0 : FVec Ideal S256x1024 .f32) (ix2 i e) by blk_ext [iblk, idx t]).trans
    (by rw [V_main_arg0]; exact R.hx i e)
  hg e := (show (iblk m c 1 t : FVec Ideal S1x1024 .f32) (ix2 0 e) = (V m c main_arg1 : FVec Ideal S1x1024 .f32) (ix2 0 e) by blk_ext [iblk, idx t]).trans
    (by rw [V_main_arg1]; exact R.hg e)
  hsc e := (show (iblk m c 2 t : FVec Ideal S1x1024 .f32) (ix2 0 e) = (V m c main_arg2 : FVec Ideal S1x1024 .f32) (ix2 0 e) by blk_ext [iblk, idx t]).trans
    (by rw [V_main_arg2]; exact R.hsc e)
  hsh e := (show (iblk m c 3 t : FVec Ideal S1x1024 .f32) (ix2 0 e) = (V m c main_arg3 : FVec Ideal S1x1024 .f32) (ix2 0 e) by blk_ext [iblk, idx t]).trans
    (by rw [V_main_arg3]; exact R.hsh e)
  hwk e x := (show X0_4 m c t (ix2 e x) = (V m c main_v7 : FVec Ideal S1024x5248 .bf16) (ix2 e ⟨256 + x.val, by omega⟩) by
    unfold X0_4; unfold Pipeline.Window.fill; rw [dif_pos (moved0_4 t _)]; blk_ext [iblk, idx t]).trans (by rw [padded R, dif_pos (by dsimp only; omega)])
  hwv e x := (show X0_5 m c t (ix2 e x) = (V m c main_v7 : FVec Ideal S1024x5248 .bf16) (ix2 e ⟨512 + x.val, by omega⟩) by
    unfold X0_5; unfold Pipeline.Window.fill; rw [dif_pos (moved0_5 t _)]; blk_ext [iblk, idx t]).trans (by rw [padded R, dif_pos (by dsimp only; omega)])
  hwl e q := (show (iblk m c 6 t : FVec Ideal S1024x128 .bf16) (ix2 e q) = (V m c main_v7 : FVec Ideal S1024x5248 .bf16) (ix2 e ⟨5120 + q.val, by omega⟩) by
    blk_ext [iblk, idx t]).trans (by
      rw [padded R, dif_neg (by dsimp only; omega), dif_neg (by dsimp only; omega)]
      unfold Args.wl
      by_cases h : q.val < 32
      · rw [dif_pos (by dsimp only; omega), dif_pos h]; congr 3; dsimp only; omega
      · rw [dif_neg (by dsimp only; omega), dif_neg h]; rfl)
  hwF q x := (show (iblk m c 7 t : FVec Ideal S128x256 .f32) (ix2 q x) = (V m c main_v10 : FVec Ideal S128x256 .f32) (ix2 q x) by blk_ext [iblk, idx t]).trans (gateF R q x)
  hwB q x := (show (iblk m c 8 t : FVec Ideal S128x256 .f32) (ix2 q x) = (V m c main_v13 : FVec Ideal S128x256 .f32) (ix2 q x) by blk_ext [iblk, idx t]).trans (gateB R q x)
  hbF x := (show (iblk m c 9 t : FVec Ideal S1x256 .f32) (ix2 0 x) = (V m c main_v14 : FVec Ideal S1x256 .f32) (ix2 0 x) by blk_ext [iblk, idx t]).trans (offF R x)
  hbB x := (show (iblk m c 10 t : FVec Ideal S1x256 .f32) (ix2 0 x) = (V m c main_v15 : FVec Ideal S1x256 .f32) (ix2 0 x) by blk_ext [iblk, idx t]).trans (offB R x)
  hdF v x := by rw [zF]; unfold wide; rw [ite_self]; rfl
  hdB v x := by rw [zB]; unfold wide; rw [ite_self]; rfl

/-- The results: the two states. -/
theorem final_F (R : Reals m c A) (zF : A.dsF = fun _ _ _ => 0) (zB : A.dsB = fun _ _ _ => 0) :
    (dats m 0 c).arrAt 11 cfg0.N = ((fun y : S512x256.Idx => (A.F.st 4 (y 0) (y 1) : EReal)) : S512x256.Idx → EReal) := by
  refine (dats m 0 c).arrAt_eq_of_covers 11 _ (by decide +kernel) fun t hf y => ?_
  obtain ⟨a, k, rfl⟩ : ∃ (a : Fin 512) (k : Fin 256), y = ix2 a k := ⟨y 0, y 1, eq_ix2 (n0 := 512) (n1 := 256) y⟩
  blk_simp
  have e : ((win0_11.blk t).view.emb (ix2 a k) : S512x256.Idx) = ix2 a k := by blk_ext [idx t]
  rw [after0_11, out11, (readsF (holds R zF zB t)).stt, e]
  rfl

theorem final_B (R : Reals m c A) (zF : A.dsF = fun _ _ _ => 0) (zB : A.dsB = fun _ _ _ => 0) :
    (dats m 0 c).arrAt 12 cfg0.N = ((fun y : S512x256.Idx => (A.B.st 4 (y 0) (y 1) : EReal)) : S512x256.Idx → EReal) := by
  refine (dats m 0 c).arrAt_eq_of_covers 12 _ (by decide +kernel) fun t hf y => ?_
  obtain ⟨a, k, rfl⟩ : ∃ (a : Fin 512) (k : Fin 256), y = ix2 a k := ⟨y 0, y 1, eq_ix2 (n0 := 512) (n1 := 256) y⟩
  blk_simp
  have e : ((win0_12.blk t).view.emb (ix2 a k) : S512x256.Idx) = ix2 a k := by blk_ext [idx t]
  rw [after0_12, out12, (readsB (holds R zF zB t)).stt, e]
  rfl

end Cert.StatesIdeal.Value
-- ==== Proof.States.Ref.lean ====
module

public import proofs.«01_k».proof.Proof.Gen.StatesRefIdeal.Run
public import proofs.«01_k».proof.Proof.Gen.StatesRefIdeal.Read
public import proofs.«01_k».proof.Proof.Ctx.Fwd
public import Idealize.ShloMosaic.Lib.Tactic

/-! The reference's two states where its arguments are real. -/

@[expose] public section

set_option maxRecDepth 16384

noncomputable section

namespace Cert.CtxRefIdeal.Read

open Idealize.ShloMosaic Idealize.ShloMosaic.TcCoe Idealize.SL.Sem
open Cert.CtxRefIdeal Cert.CtxRefIdeal.Gen Cert.Ctx Cert.Common
open scoped BigOperators

variable {x0 : FVec Ideal S256x1024 .f32} {x1 x2 x3 : FVec Ideal S1x1024 .f32} {x4 : FVec Ideal S1024x5152 .f32}
  {x5 : FVec Ideal S2x16x256 .f32} {x6 : FVec Ideal S2x256 .f32} {x7 x8 : FVec Ideal S4x64x128 .f32} {A : Args}
  (G : Given x0 x1 x2 x3 x4 x5 x6 x7 x8 A)
include G

/-- The state after the last chunk, from the first row on and from the last row back. -/
theorem last_F (h : Fin 4) (k : Fin 64) (v : Fin 128) : val_main_v113 (F := Ideal) x0 x1 x2 x3 x4 x5 x6 (ix3 h k v) = (A.F.st 4 (vcol h v) (kcol h k) : EReal) := by
  refine Eq.trans (b := (Ideal.exp ((chain_F x0 x1 x2 x3 x4 x5 x6 x7).c h 3 63 k) * (chain_F x0 x1 x2 x3 x4 x5 x6 x7).S 3 h k v
    + ∑ b, ((chain_F x0 x1 x2 x3 x4 x5 x6 x7).K h 3 b k * Ideal.exp ((chain_F x0 x1 x2 x3 x4 x5 x6 x7).c h 3 63 k - (chain_F x0 x1 x2 x3 x4 x5 x6 x7).c h 3 b k)) * (chain_F x0 x1 x2 x3 x4 x5 x6 x7).V h 3 b v : EReal)) ?_ ?_
  · refine Eq.trans ?_ (congrArg (fun s : EReal => Ideal.exp ((chain_F x0 x1 x2 x3 x4 x5 x6 x7).c h 3 63 k) * s
      + ∑ b, ((chain_F x0 x1 x2 x3 x4 x5 x6 x7).K h 3 b k * Ideal.exp ((chain_F x0 x1 x2 x3 x4 x5 x6 x7).c h 3 63 k - (chain_F x0 x1 x2 x3 x4 x5 x6 x7).c h 3 b k)) * (chain_F x0 x1 x2 x3 x4 x5 x6 x7).V h 3 b v)
      (show (val_main_v91 (F := Ideal) x0 x1 x2 x3 x4 x5 x6 (ix4 (0 : Fin 1) h k v) : EReal) = (chain_F x0 x1 x2 x3 x4 x5 x6 x7).S 3 h k v by
        show _ = (val_main_v112 (F := Ideal) x0 x1 x2 x3 x4 x5 x6 (ix5 (0 : Fin 1) h 3 k v) : EReal)
        pointwise [val_main_v112, val_main_v110, val_main_v104, val_main_v100, val_main_v101, val_main_v102, val_main_v103]))
    show _ = (Ideal.exp (val_main_v50 (F := Ideal) x0 x1 x2 x3 x4 x5 x6 (ix5 (0 : Fin 1) h 3 63 k) : EReal) * (val_main_v91 (F := Ideal) x0 x1 x2 x3 x4 x5 x6 (ix4 (0 : Fin 1) h k v) : EReal)
      + ∑ b : Fin 64, ((val_main_v45 (F := Ideal) x0 x1 x2 x3 x4 (ix5 (0 : Fin 1) h 3 b k) : EReal) * Ideal.exp ((val_main_v50 (F := Ideal) x0 x1 x2 x3 x4 x5 x6 (ix5 (0 : Fin 1) h 3 63 k) : EReal)
        - (val_main_v50 (F := Ideal) x0 x1 x2 x3 x4 x5 x6 (ix5 (0 : Fin 1) h 3 b k) : EReal))) * (val_main_v47 (F := Ideal) x0 x1 x2 x3 x4 (ix5 (0 : Fin 1) h 3 b v) : EReal) : EReal)
    pointwise [val_main_v113, val_main_v99, val_main_v98, val_main_v97, val_main_v96, val_main_v93, val_main_v92, val_main_v63, val_main_v60, val_main_v59, val_main_v52, val_main_v51, val_main_v95, val_main_v94, val_main_v65, val_main_v61, val_main_v58, val_main_v57, val_main_v56, val_main_v55, val_main_v54, val_main_v53]
  · exact Chain.last_at (reads_F G) h k v

theorem last_B (h : Fin 4) (k : Fin 64) (v : Fin 128) : val_main_v186 (F := Ideal) x0 x1 x2 x3 x4 x5 x6 (ix3 h k v) = (A.B.st 4 (vcol h v) (kcol h k) : EReal) := by
  refine Eq.trans (b := (Ideal.exp ((chain_B x0 x1 x2 x3 x4 x5 x6 x8).c h 3 63 k) * (chain_B x0 x1 x2 x3 x4 x5 x6 x8).S 3 h k v
    + ∑ b, ((chain_B x0 x1 x2 x3 x4 x5 x6 x8).K h 3 b k * Ideal.exp ((chain_B x0 x1 x2 x3 x4 x5 x6 x8).c h 3 63 k - (chain_B x0 x1 x2 x3 x4 x5 x6 x8).c h 3 b k)) * (chain_B x0 x1 x2 x3 x4 x5 x6 x8).V h 3 b v : EReal)) ?_ ?_
  · refine Eq.trans ?_ (congrArg (fun s : EReal => Ideal.exp ((chain_B x0 x1 x2 x3 x4 x5 x6 x8).c h 3 63 k) * s
      + ∑ b, ((chain_B x0 x1 x2 x3 x4 x5 x6 x8).K h 3 b k * Ideal.exp ((chain_B x0 x1 x2 x3 x4 x5 x6 x8).c h 3 63 k - (chain_B x0 x1 x2 x3 x4 x5 x6 x8).c h 3 b k)) * (chain_B x0 x1 x2 x3 x4 x5 x6 x8).V h 3 b v)
      (show (val_main_v164 (F := Ideal) x0 x1 x2 x3 x4 x5 x6 (ix4 (0 : Fin 1) h k v) : EReal) = (chain_B x0 x1 x2 x3 x4 x5 x6 x8).S 3 h k v by
        show _ = (val_main_v185 (F := Ideal) x0 x1 x2 x3 x4 x5 x6 (ix5 (0 : Fin 1) h 3 k v) : EReal)
        pointwise [val_main_v185, val_main_v183, val_main_v177, val_main_v173, val_main_v174, val_main_v175, val_main_v176]))
    show _ = (Ideal.exp (val_main_v123 (F := Ideal) x0 x1 x2 x3 x4 x5 x6 (ix5 (0 : Fin 1) h 3 63 k) : EReal) * (val_main_v164 (F := Ideal) x0 x1 x2 x3 x4 x5 x6 (ix4 (0 : Fin 1) h k v) : EReal)
      + ∑ b : Fin 64, ((val_main_v118 (F := Ideal) x0 x1 x2 x3 x4 (ix5 (0 : Fin 1) h 3 b k) : EReal) * Ideal.exp ((val_main_v123 (F := Ideal) x0 x1 x2 x3 x4 x5 x6 (ix5 (0 : Fin 1) h 3 63 k) : EReal)
        - (val_main_v123 (F := Ideal) x0 x1 x2 x3 x4 x5 x6 (ix5 (0 : Fin 1) h 3 b k) : EReal))) * (val_main_v120 (F := Ideal) x0 x1 x2 x3 x4 (ix5 (0 : Fin 1) h 3 b v) : EReal) : EReal)
    pointwise [val_main_v186, val_main_v172, val_main_v171, val_main_v170, val_main_v169, val_main_v166, val_main_v165, val_main_v136, val_main_v133, val_main_v132, val_main_v125, val_main_v124, val_main_v168, val_main_v167, val_main_v138, val_main_v134, val_main_v131, val_main_v130, val_main_v129, val_main_v128, val_main_v127, val_main_v126]
  · exact Chain.last_at (reads_B G) h k v

end Cert.CtxRefIdeal.Read

namespace Cert.StatesRefIdeal.Read

open Idealize.ShloMosaic Idealize.ShloMosaic.TcCoe Idealize.SL.Sem
open Cert.StatesRefIdeal Cert.StatesRefIdeal.Gen Cert.Ctx Cert.Common
open Cert.CtxRefIdeal.Read (Given last_F last_B)

variable {x0 : FVec Ideal S256x1024 .f32} {x1 x2 x3 : FVec Ideal S1x1024 .f32} {x4 : FVec Ideal S1024x5152 .f32}
  {x5 : FVec Ideal S2x16x256 .f32} {x6 : FVec Ideal S2x256 .f32} {x7 x8 : FVec Ideal S4x64x128 .f32} {A : Args}

/-- The states are those of the backward's reference. -/
theorem same_F : val_main_v103 (F := Ideal) x0 x1 x2 x3 x4 x5 x6 = Cert.CtxRefIdeal.Read.val_main_v113 (F := Ideal) x0 x1 x2 x3 x4 x5 x6 := by sl_kernel_rfl
theorem same_B : val_main_v169 (F := Ideal) x0 x1 x2 x3 x4 x5 x6 = Cert.CtxRefIdeal.Read.val_main_v186 (F := Ideal) x0 x1 x2 x3 x4 x5 x6 := by sl_kernel_rfl

/-- A choice by equal heads. -/
theorem pick (v : Fin 512) (x : Fin 256) (a : EReal) : Scalar.select (IntOp.cmpi CmpIPredicate.eq (IntOp.addi (BitVec.ofNat 32 (v.val / 128)) 0#32) (BitVec.ofNat 32 (x.val / 64))) a 0
    = if Dir.same v x then a else 0 := by
  have h : ∀ p q : Fin 4, IntOp.cmpi CmpIPredicate.eq (IntOp.addi (BitVec.ofNat 32 p.val) 0#32) (BitVec.ofNat 32 q.val) = if p.val = q.val then 1#1 else 0#1 := by
    decide +kernel
  have := h ⟨v.val / 128, by omega⟩ ⟨x.val / 64, by omega⟩
  dsimp only at this
  rw [this]
  by_cases e : v.val / 128 = x.val / 64
  · rw [if_pos e, if_pos (show Dir.same v x from e)]; rfl
  · rw [if_neg e, if_neg (show ¬Dir.same v x from e)]; rfl

/-- A state by heads, laid out between zeros, is the whole state. -/
theorem between (D : Dir) (s : Fin 4 → Fin 64 → Fin 128 → EReal) (e : ∀ h k v, s h k v = (D.st 4 (vcol h v) (kcol h k) : EReal)) (v : Fin 512) (x : Fin 256) :
    (if Dir.same v x then s ⟨v.val / 128, by omega⟩ ⟨x.val % 64, by omega⟩ ⟨v.val % 128, by omega⟩ else 0) = (D.st 4 v x : EReal) := by
  split_ifs with h
  · rw [e]
    have h' : v.val / 128 = x.val / 64 := h
    congr 2
    · exact Fin.ext (by show 128 * (v.val / 128) + v.val % 128 = v.val; omega)
    · exact Fin.ext (by show 64 * (v.val / 128) + x.val % 64 = x.val; omega)
  · rw [D.off_st h]; rfl

variable (G : Given x0 x1 x2 x3 x4 x5 x6 x7 x8 A)
include G

theorem r_F (v : Fin 512) (x : Fin 256) : val_main_v179 (F := Ideal) x0 x1 x2 x3 x4 x5 x6 (ix2 v x) = (A.F.st 4 v x : EReal) := by
  refine Eq.trans ?_ (between A.F (fun h k v => val_main_v103 (F := Ideal) x0 x1 x2 x3 x4 x5 x6 (ix3 h k v)) (fun h k v => by rw [same_F]; exact last_F G h k v) v x)
  rw [← pick]
  pointwise [val_main_v179, val_main_v178, val_main_call6_v3, val_main_call6_v2, val_main_call6_v1, val_main_call6_v0, val_main_cst_7, val_main_v177, val_main_v176, val_main_v175, val_main_v174, val_main_v173, val_main_v172, val_main_c, val_main_v171, val_main_v170]
  exact congrArg (Scalar.select _ _) ofBits_0

theorem r_B (v : Fin 512) (x : Fin 256) : val_main_v189 (F := Ideal) x0 x1 x2 x3 x4 x5 x6 (ix2 v x) = (A.B.st 4 v x : EReal) := by
  refine Eq.trans ?_ (between A.B (fun h k v => val_main_v169 (F := Ideal) x0 x1 x2 x3 x4 x5 x6 (ix3 h k v)) (fun h k v => by rw [same_B]; exact last_B G h k v) v x)
  rw [← pick]
  pointwise [val_main_v189, val_main_v188, val_main_call7_v3, val_main_call7_v2, val_main_call7_v1, val_main_call7_v0, val_main_cst_9, val_main_v187, val_main_v186, val_main_v185, val_main_v184, val_main_v183, val_main_v182, val_main_c_8, val_main_v181, val_main_v180]
  exact congrArg (Scalar.select _ _) ofBits_0

end Cert.StatesRefIdeal.Read

end
-- ==== Proof.States.Claim.lean ====
module

public import proofs.«01_k».proof.Defs
public import proofs.«01_k».proof.Proof.Gen.Pre_finite_states
public import proofs.«01_k».proof.Proof.InBwd.Claim
public import proofs.«01_k».proof.Proof.States.Arrays
public import proofs.«01_k».proof.Proof.States.Ref

/-! The claim about the context chain's forward: under finite arguments its two states are the reference's. -/

@[expose] public section

set_option maxRecDepth 16384

noncomputable section

namespace Cert.StatesClaim

open Idealize.ShloMosaic Idealize.ShloMosaic.TcCoe Idealize.SL.Sem Cert.Common
open Cert.InBwdClaim (ext2)

/-- The arguments' real parts, with no gradients. -/
def args (m : (ℓ : Loc Cert.StatesIdeal.nD Cert.StatesIdeal.τ Cert.StatesIdeal.sig) → Buf (Elt Ideal) ℓ) (c : Dev Cert.StatesIdeal.nD) : Cert.Ctx.Args where
  x i e := ((m ((c.tc : Thread Cert.StatesIdeal.nD Cert.StatesIdeal.τ).loc Cert.StatesIdeal.main_arg0) : FVec Ideal Cert.StatesIdeal.S256x1024 .f32) (ix2 i e)).toReal
  g e := ((m ((c.tc : Thread Cert.StatesIdeal.nD Cert.StatesIdeal.τ).loc Cert.StatesIdeal.main_arg1) : FVec Ideal Cert.StatesIdeal.S1x1024 .f32) (ix2 (0 : Fin 1) e)).toReal
  sc e := ((m ((c.tc : Thread Cert.StatesIdeal.nD Cert.StatesIdeal.τ).loc Cert.StatesIdeal.main_arg2) : FVec Ideal Cert.StatesIdeal.S1x1024 .f32) (ix2 (0 : Fin 1) e)).toReal
  sh e := ((m ((c.tc : Thread Cert.StatesIdeal.nD Cert.StatesIdeal.τ).loc Cert.StatesIdeal.main_arg3) : FVec Ideal Cert.StatesIdeal.S1x1024 .f32) (ix2 (0 : Fin 1) e)).toReal
  w e q := ((m ((c.tc : Thread Cert.StatesIdeal.nD Cert.StatesIdeal.τ).loc Cert.StatesIdeal.main_arg4) : FVec Ideal Cert.StatesIdeal.S1024x5152 .f32) (ix2 e q)).toReal
  w2 d r x := ((m ((c.tc : Thread Cert.StatesIdeal.nD Cert.StatesIdeal.τ).loc Cert.StatesIdeal.main_arg5) : FVec Ideal Cert.StatesIdeal.S2x16x256 .f32) (ix3 d r x)).toReal
  gb d x := ((m ((c.tc : Thread Cert.StatesIdeal.nD Cert.StatesIdeal.τ).loc Cert.StatesIdeal.main_arg6) : FVec Ideal Cert.StatesIdeal.S2x256 .f32) (ix2 d x)).toReal
  dsF _ _ _ := 0
  dsB _ _ _ := 0

/-- The precondition says that the arguments are real arrays. -/
theorem reals (m : (ℓ : Loc Cert.StatesIdeal.nD Cert.StatesIdeal.τ Cert.StatesIdeal.sig) → Buf (Elt Ideal) ℓ)
    (h : Cert.Pre_StatesIdeal_finite_states m) (c : Dev Cert.StatesIdeal.nD) : Cert.StatesIdeal.Value.Reals m c (args m c) := by
  obtain ⟨h0, h1, h2, h3, h4, h5, h6⟩ := h c
  exact ⟨fun i e => (real_of_test _ _ _ ofBits_inf (congrFun h0 (ix2 i e))).symm,
    fun e => (real_of_test _ _ _ ofBits_inf (congrFun h1 (ix2 0 e))).symm,
    fun e => (real_of_test _ _ _ ofBits_inf (congrFun h2 (ix2 0 e))).symm,
    fun e => (real_of_test _ _ _ ofBits_inf (congrFun h3 (ix2 0 e))).symm,
    fun e q => (real_of_test _ _ _ ofBits_inf (congrFun h4 (ix2 e q))).symm,
    fun d r x => (real_of_test _ _ _ ofBits_inf (congrFun h5 (ix3 d r x))).symm,
    fun d x => (real_of_test _ _ _ ofBits_inf (congrFun h6 (ix2 d x))).symm⟩

open Cert.StatesRefIdeal Cert.StatesRefIdeal.Read in
/-- The reference's run, each result read operation by operation. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      let a0 := m ((c.tc : Thread nD τ).loc main_arg0)
      let a1 := m ((c.tc : Thread nD τ).loc main_arg1)
      let a2 := m ((c.tc : Thread nD τ).loc main_arg2)
      let a3 := m ((c.tc : Thread nD τ).loc main_arg3)
      let a4 := m ((c.tc : Thread nD τ).loc main_arg4)
      let a5 := m ((c.tc : Thread nD τ).loc main_arg5)
      let a6 := m ((c.tc : Thread nD τ).loc main_arg6)
      r.2.mem ((c.tc : Thread nD τ).loc main_v179) = val_main_v179 a0 a1 a2 a3 a4 a5 a6
      ∧ r.2.mem ((c.tc : Thread nD τ).loc main_v189) = val_main_v189 a0 a1 a2 a3 a4 a5 a6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, hr⟩ := h c
    exact ⟨h0.trans (val_main_v179_eq (StableHlo.launchContents m c)), h1.trans (val_main_v189_eq (StableHlo.launchContents m c)), hr⟩) (Cert.StatesRefIdeal.Value.run m g)

/-- The reference leaves its arguments unchanged; it has no semaphores. -/
theorem frame_ref : Cert.quiescent_StatesRefIdeal := fun m g _ =>
  (θ_run Cert.StatesRefIdeal.defs _ _).mono (fun r h => ⟨fun c => (h c).2.2, sem_eq_zero_of_no_sems (by decide) r.2⟩) (run_ref m g)

open Cert.StatesRefIdeal.Read Cert.StatesIdeal.Value in
theorem algebraic : Cert.algebraic_StatesIdeal_StatesRefIdeal_pre_finite_states := by
  intro m g m' g' hpre hagree
  refine ⟨fun c => (Cert.StatesIdeal.Gen.dats m 0 c).arrAt 11 Cert.StatesIdeal.cfg0.N, fun c => (Cert.StatesIdeal.Gen.dats m 0 c).arrAt 12 Cert.StatesIdeal.cfg0.N, run_blocks m g,
    (θ_run Cert.StatesRefIdeal.defs _ _).mono (fun r h c => ?_) (run_ref m' g')⟩
  obtain ⟨h0, h1, hr⟩ := h c
  have R := reals m hpre c
  obtain ⟨e0, e1, e2, e3, e4, e5, e6⟩ := hagree c
  have G : Cert.CtxRefIdeal.Read.Given (m' ((c.tc : Thread Cert.StatesRefIdeal.nD Cert.StatesRefIdeal.τ).loc Cert.StatesRefIdeal.main_arg0)) (m' ((c.tc : Thread Cert.StatesRefIdeal.nD Cert.StatesRefIdeal.τ).loc Cert.StatesRefIdeal.main_arg1)) (m' ((c.tc : Thread Cert.StatesRefIdeal.nD Cert.StatesRefIdeal.τ).loc Cert.StatesRefIdeal.main_arg2)) (m' ((c.tc : Thread Cert.StatesRefIdeal.nD Cert.StatesRefIdeal.τ).loc Cert.StatesRefIdeal.main_arg3)) (m' ((c.tc : Thread Cert.StatesRefIdeal.nD Cert.StatesRefIdeal.τ).loc Cert.StatesRefIdeal.main_arg4)) (m' ((c.tc : Thread Cert.StatesRefIdeal.nD Cert.StatesRefIdeal.τ).loc Cert.StatesRefIdeal.main_arg5)) (m' ((c.tc : Thread Cert.StatesRefIdeal.nD Cert.StatesRefIdeal.τ).loc Cert.StatesRefIdeal.main_arg6)) (fun _ => (0 : EReal)) (fun _ => (0 : EReal)) (args m c) := by
    rw [e0, e1, e2, e3, e4, e5, e6]
    exact ⟨R.hx, R.hg, R.hsc, R.hsh, R.hw, R.hw2, R.hgb, fun _ _ _ => rfl, fun _ _ _ => rfl⟩
  exact ⟨h0.trans ((ext2 (a := 512) (b := 256) fun i k => r_F G i k).trans (final_F R rfl rfl).symm),
    h1.trans ((ext2 (a := 512) (b := 256) fun i k => r_B G i k).trans (final_B R rfl rfl).symm), hr⟩

end Cert.StatesClaim

end
-- ==== Proof.Tail.Formula.lean ====
module

public import proofs.«01_k».proof.Proof.Common.Gates

/-! The modulation's gradients as formulas: of the gain, of the bias, of the weight's columns, of the context's learned row. -/

@[expose] public section

noncomputable section

namespace Cert.TailSum

open Idealize.ShloMosaic Cert.Common

/-- The logistic function's value, as the kernel computes it. -/
abbrev sg (x : EReal) : EReal := Ideal.div 1 (1 + Ideal.exp (0 - x))

/-- The arguments' entries. -/
structure Args where
  r : Fin 8 → Fin 1024 → EReal
  x : Fin 1024 → EReal
  w : Fin 1024 → Fin 384 → EReal
  n : Fin 8 → Fin 1024 → EReal
  o : Fin 8 → Fin 1024 → EReal
  h : Fin 8 → Fin 1024 → EReal
  s : Fin 8 → Fin 1024 → EReal
  g : Fin 8 → Fin 1024 → EReal
  d : Fin 8 → Fin 2048 → EReal

/-- The entries of nine arrays. -/
def Args.of (x0 : (⟨2, ![8, 1024]⟩ : Shape).Idx → EReal) (x1 : (⟨1, ![1024]⟩ : Shape).Idx → EReal) (x2 : (⟨3, ![1, 1024, 384]⟩ : Shape).Idx → EReal)
    (x3 x4 x5 x6 x7 : (⟨2, ![8, 1024]⟩ : Shape).Idx → EReal) (x8 : (⟨2, ![8, 2048]⟩ : Shape).Idx → EReal) : Args where
  r j k := x0 (ix2 j k)
  x k := x1 (ix1 k)
  w k q := x2 (ix3 0 k q)
  n j k := x3 (ix2 j k)
  o j k := x4 (ix2 j k)
  h j k := x5 (ix2 j k)
  s j k := x6 (ix2 j k)
  g j k := x7 (ix2 j k)
  d j k := x8 (ix2 j k)

variable (A : Args)

/-- The context's part, summed over the devices. -/
def Args.tot (k : Fin 2048) : EReal := ∑ j, A.d j k

/-- The three parts side by side. -/
def Args.row (j : Fin 8) (k : Fin 3072) : EReal :=
  if h : k.val < 1024 then A.h j ⟨k.val, h⟩ else if h1 : k.val - 1024 < 1024 then A.s j ⟨k.val - 1024, h1⟩
    else A.g j ⟨k.val - 1024 - 1024, by omega⟩

def Args.gN (k : Fin 1024) : EReal := ∑ j, (A.n j k + A.o j k)

def Args.gB (k : Fin 3072) : EReal := (∑ j, A.row j k) + if h : k.val < 2048 then A.tot ⟨k.val, h⟩ else 0

def Args.gW (k : Fin 1024) (q : Fin 384) : EReal :=
  (∑ j, A.r j k * sg (A.r j k) * A.h j ⟨q.val, by omega⟩) + A.x k * sg (A.x k) * A.tot ⟨q.val, by omega⟩

def Args.part (k : Fin 1024) : EReal := ∑ q : Fin 384, A.tot ⟨q.val, by omega⟩ * A.w k q

def Args.gC (k : Fin 1024) : EReal := A.part k * (sg (A.x k) * (1 + A.x k * (1 - sg (A.x k))))

/-- The two ways to write the gate's gradient agree where the entries are real. -/
theorem Args.gC_eq (hx : ∀ k, ∃ z : ℝ, A.x k = z) (hw : ∀ k q, ∃ z : ℝ, A.w k q = z) (hd : ∀ j k, ∃ z : ℝ, A.d j k = z) (k : Fin 1024) :
    A.part k * sg (A.x k) + A.x k * A.part k * (sg (A.x k) * (1 - sg (A.x k))) = A.gC k := by
  choose x hx using hx
  choose w hw using hw
  choose d hd using hd
  have hp : A.part k = ((∑ q : Fin 384, (∑ j, d j ⟨q.val, by omega⟩) * w k q : ℝ) : EReal) := by
    rw [coe_sum]
    refine Finset.sum_congr rfl fun q _ => ?_
    rw [EReal.coe_mul, coe_sum, hw, Args.tot]
    simp only [hd]
  rw [Args.gC, hp, hx, sg, sig_real']
  simp only [← EReal.coe_one, ← EReal.coe_add, ← EReal.coe_sub, ← EReal.coe_mul]
  congr 1
  ring

end Cert.TailSum
-- ==== Proof.Tail.Arrays.lean ====
module

public import proofs.«01_k».proof.Proof.Gen.TailIdeal.Value
public import proofs.«01_k».proof.Proof.Tail.Formula
public import Idealize.ShloMosaic.Lib.Pipeline.ReadBack
public import Idealize.ShloMosaic.Lib.Pipeline.ValueKit
public import Idealize.ShloMosaic.Lib.Claim
public import Idealize.ShloMosaic.Lib.Pointwise

/-! The modulation's gradients: what the kernel's run leaves, by its operands' blocks. -/

@[expose] public section

set_option maxRecDepth 16384

noncomputable section

namespace Cert.TailIdeal.Value

open Idealize.ShloMosaic Idealize.ShloMosaic.TcCoe Idealize.SL.Sem
open Idealize.ShloMosaic.Pipeline (Dat)
open Cert.TailIdeal Cert.TailIdeal.Gen Cert.TailSum Cert.Common

variable (m : (ℓ : Loc nD τ sig) → Buf (Elt Ideal) ℓ)

/-- The operands' blocks: the gain's two parts, the three parts of the modulation's gradient, the context's, the rows, the weight. -/
abbrev bN (c : Dev nD) (t : Fin cfg0.N) : FVec Ideal S8x1x1024 .f32 := iblk m c 0 t
abbrev bM (c : Dev nD) (t : Fin cfg0.N) : FVec Ideal S8x1x1024 .f32 := iblk m c 1 t
abbrev bH (c : Dev nD) (t : Fin cfg0.N) : FVec Ideal S8x1x1024 .f32 := iblk m c 2 t
abbrev bS (c : Dev nD) (t : Fin cfg0.N) : FVec Ideal S8x1x1024 .f32 := iblk m c 3 t
abbrev bG (c : Dev nD) (t : Fin cfg0.N) : FVec Ideal S8x1x1024 .f32 := iblk m c 4 t
abbrev bC (c : Dev nD) (t : Fin cfg0.N) : FVec Ideal S8x1x2048 .f32 := iblk m c 5 t
abbrev bR (c : Dev nD) (t : Fin cfg0.N) : FVec Ideal S16x1024 .f32 := iblk m c 6 t
abbrev bW (c : Dev nD) (t : Fin cfg0.N) : FVec Ideal S1x1024x384 .f32 := iblk m c 7 t

theorem out9 (c : Dev nD) (t : Fin cfg0.N) (k : Fin 1024) : (outsAt0 m c t).2.1 (ix2 0 k)
    = ∑ j : Fin 8, (bN m c t (ix3 j 0 k) + bM m c t (ix3 j 0 k)) := by
  unfold outsAt0
  frame_out
  simp (disch := decide) only [View.readCov_fill, read_unread_whole]
  rw [Fin.sum_univ_eight]
  pointwise [k0_pay4, k0_pay3, k0_pay1, View.ld_apply]

/-- The context's part of the modulation's gradient, summed over the devices. -/
abbrev ctxTot (C : FVec Ideal S8x1x2048 .f32) (k : Fin 2048) : EReal := ∑ j : Fin 8, C (ix3 j 0 k)

theorem out11 (c : Dev nD) (t : Fin cfg0.N) (k : Fin 1024) : (outsAt0 m c t).2.2.2 (ix2 0 k)
    = (∑ x : Fin 384, ctxTot (bC m c t) ⟨x.val, by omega⟩ * bW m c t (ix3 0 k x))
      * (sg (bR m c t (ix2 8 k)) * (1 + bR m c t (ix2 8 k) * (1 - sg (bR m c t (ix2 8 k))))) := by
  unfold outsAt0
  frame_out
  simp (disch := decide) only [View.readCov_fill, read_unread_whole]
  simp only [bC, bR, bW]
  generalize (iblk m c 5 t) = C
  generalize (iblk m c 6 t) = R
  generalize (iblk m c 7 t) = W
  simp only [ctxTot, Fin.sum_univ_eight]
  pointwise [k0_pay14, k0_pay13, k0_pay12, k0_pay11, k0_pay10, k0_pay7, k0_pay6, k0_pay5, View.ld_apply]
  refine congrArg (· * _) (Finset.sum_congr rfl fun x _ => congrArg (· * _) ?_)
  exact dif_pos (show x.val < 2048 by omega)

theorem out10 (c : Dev nD) (t : Fin cfg0.N) (k : Fin 3072) : (outsAt0 m c t).2.2.1 (ix2 0 k)
    = (∑ j : Fin 8, if h : k.val < 1024 then bH m c t (ix3 j 0 ⟨k.val, h⟩) else if h1 : k.val - 1024 < 1024 then bS m c t (ix3 j 0 ⟨k.val - 1024, h1⟩)
        else bG m c t (ix3 j 0 ⟨k.val - 1024 - 1024, by omega⟩))
      + if h : k.val < 2048 then ctxTot (bC m c t) ⟨k.val, h⟩ else 0 := by
  unfold outsAt0
  frame_out
  simp (disch := decide) only [View.readCov_fill, read_unread_whole]
  simp only [ctxTot, Fin.sum_univ_eight]
  pointwise [k0_pay9, k0_pay8, k0_pay7, k0_pay6, k0_pay5, k0_pay2, View.ld_apply]

/-- Sixteen rows, of which the last seven are zeros. -/
theorem sum_rows (f : Fin 16 → EReal) (h : ∀ i : Fin 16, 9 ≤ i.val → f i = 0) : ∑ i, f i = (∑ j : Fin 8, f ⟨j.val, by omega⟩) + f 8 := by
  rw [show ∑ i, f i = ∑ i : Fin (8 + 8), f i from rfl, Fin.sum_univ_add]
  refine congrArg₂ (· + ·) rfl ?_
  rw [Finset.sum_eq_single (0 : Fin 8) (fun j _ hj => h _ (by
    have : j.val ≠ 0 := fun e => hj (Fin.ext e)
    show 9 ≤ 8 + j.val; omega)) (fun e => absurd (Finset.mem_univ _) e)]
  rfl

theorem out8 (c : Dev nD) (t : Fin cfg0.N) (k : Fin 1024) (q : Fin 384) : (outsAt0 m c t).1 (ix3 0 k q)
    = (∑ j : Fin 8, bR m c t (ix2 ⟨j.val, by omega⟩ k) * sg (bR m c t (ix2 ⟨j.val, by omega⟩ k)) * bH m c t (ix3 j 0 ⟨q.val, by omega⟩))
      + bR m c t (ix2 8 k) * sg (bR m c t (ix2 8 k)) * ctxTot (bC m c t) ⟨q.val, by omega⟩ := by
  unfold outsAt0
  frame_out
  simp (disch := decide) only [View.readCov_fill, read_unread_whole]
  simp only [bC, bR, bH]
  generalize (iblk m c 2 t) = H
  generalize (iblk m c 3 t) = S
  generalize (iblk m c 4 t) = G
  generalize (iblk m c 5 t) = C
  generalize (iblk m c 6 t) = R
  simp only [ctxTot]
  pointwise [k0_pay15, k0_pay13, k0_pay12, k0_pay11, View.ld_apply]
  rw [sum_rows]
  · refine congrArg₂ (· + ·) (Finset.sum_congr rfl fun j _ => congrArg₂ (· * ·) rfl ?_) (congrArg₂ (· * ·) rfl ?_)
    · have h1 : q.val < 1024 := by omega
      fin_cases j <;> pointwise [k0_pay10, k0_pay2, View.ld_apply] <;> exact dif_pos h1
    · simp only [Fin.sum_univ_eight]
      pointwise [k0_pay10, k0_pay7, k0_pay6, k0_pay5, View.ld_apply]
      exact dif_pos (show q.val < 2048 by omega)
  · intro i hi
    refine mul_eq_zero_of_right _ ?_
    pointwise [k0_pay10]
    repeat rw [dif_neg (by omega)]

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0] ∧ win0_7.index t = ![0, 0, 0] ∧ win0_8.index t = ![0, 0, 0]
    ∧ win0_9.index t = ![0, 0] ∧ win0_10.index t = ![0, 0] ∧ win0_11.index t = ![0, 0] :=
  (by decide +kernel : ∀ t : Fin grid0.N, _)

/-- The launch's arguments. -/
abbrev args (c : Dev nD) : Args :=
  Args.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The blocks, by the arguments. -/
theorem at_n (c : Dev nD) (t : Fin cfg0.N) (j : Fin 8) (k : Fin 1024) : bN m c t (ix3 j 0 k) = (args m c).n j k :=
  (show (iblk m c 0 t : FVec Ideal S8x1x1024 .f32) (ix3 j 0 k) = (V m c main_v3 : FVec Ideal S8x1x1024 .f32) (ix3 j 0 k) by blk_ext [iblk, idx t]).trans (by
    simp only [V, hostOps0, Args.of]; entry_read; pointwise)

theorem at_o (c : Dev nD) (t : Fin cfg0.N) (j : Fin 8) (k : Fin 1024) : bM m c t (ix3 j 0 k) = (args m c).o j k :=
  (show (iblk m c 1 t : FVec Ideal S8x1x1024 .f32) (ix3 j 0 k) = (V m c main_v4 : FVec Ideal S8x1x1024 .f32) (ix3 j 0 k) by blk_ext [iblk, idx t]).trans (by
    simp only [V, hostOps0, Args.of]; entry_read; pointwise)

theorem at_h (c : Dev nD) (t : Fin cfg0.N) (j : Fin 8) (k : Fin 1024) : bH m c t (ix3 j 0 k) = (args m c).h j k :=
  (show (iblk m c 2 t : FVec Ideal S8x1x1024 .f32) (ix3 j 0 k) = (V m c main_v5 : FVec Ideal S8x1x1024 .f32) (ix3 j 0 k) by blk_ext [iblk, idx t]).trans (by
    simp only [V, hostOps0, Args.of]; entry_read; pointwise)

theorem at_s (c : Dev nD) (t : Fin cfg0.N) (j : Fin 8) (k : Fin 1024) : bS m c t (ix3 j 0 k) = (args m c).s j k :=
  (show (iblk m c 3 t : FVec Ideal S8x1x1024 .f32) (ix3 j 0 k) = (V m c main_v6 : FVec Ideal S8x1x1024 .f32) (ix3 j 0 k) by blk_ext [iblk, idx t]).trans (by
    simp only [V, hostOps0, Args.of]; entry_read; pointwise)

theorem at_g (c : Dev nD) (t : Fin cfg0.N) (j : Fin 8) (k : Fin 1024) : bG m c t (ix3 j 0 k) = (args m c).g j k :=
  (show (iblk m c 4 t : FVec Ideal S8x1x1024 .f32) (ix3 j 0 k) = (V m c main_v7 : FVec Ideal S8x1x1024 .f32) (ix3 j 0 k) by blk_ext [iblk, idx t]).trans (by
    simp only [V, hostOps0, Args.of]; entry_read; pointwise)

theorem at_d (c : Dev nD) (t : Fin cfg0.N) (j : Fin 8) (k : Fin 2048) : bC m c t (ix3 j 0 k) = (args m c).d j k :=
  (show (iblk m c 5 t : FVec Ideal S8x1x2048 .f32) (ix3 j 0 k) = (V m c main_v8 : FVec Ideal S8x1x2048 .f32) (ix3 j 0 k) by blk_ext [iblk, idx t]).trans (by
    simp only [V, hostOps0, Args.of]; entry_read; pointwise)

/-- The modulation's rows: the devices' rows, the learned row, zeros. -/
theorem rows (c : Dev nD) : ∃ z : FVec Ideal S7x1024 .f32, (V m c main_v2 : FVec Ideal S16x1024 .f32)
    = concatenate S16x1024 0 [⟨S8x1024, (m ((c.tc : Thread nD τ).loc main_arg0) : FVec Ideal S8x1024 .f32)⟩,
        ⟨S1x1024, (shapeCast S1x1024 (m ((c.tc : Thread nD τ).loc main_arg1) : FVec Ideal S1024 .f32) shapeCasts_S1024_S1x1024 : FVec Ideal S1x1024 .f32)⟩, ⟨S7x1024, z⟩] concatenates_S8x1024_S1x1024_S7x1024_S16x1024_d0 := by
  refine ⟨broadcastInDim S7x1024 ![] bcast_S_S7x1024 (constant S_ .f32 0x00000000#32), ?_⟩
  unfold V hostOps0
  after_results
  rfl

theorem at_r (c : Dev nD) (t : Fin cfg0.N) (j : Fin 8) (k : Fin 1024) : bR m c t (ix2 ⟨j.val, by omega⟩ k) = (args m c).r j k :=
  (show (iblk m c 6 t : FVec Ideal S16x1024 .f32) (ix2 ⟨j.val, by omega⟩ k) = (V m c main_v2 : FVec Ideal S16x1024 .f32) (ix2 ⟨j.val, by omega⟩ k) by blk_ext [iblk, idx t]).trans (by
    obtain ⟨z, hz⟩ := rows m c
    rw [hz]; simp only [Args.of]; pointwise)

theorem at_x (c : Dev nD) (t : Fin cfg0.N) (k : Fin 1024) : bR m c t (ix2 8 k) = (args m c).x k :=
  (show (iblk m c 6 t : FVec Ideal S16x1024 .f32) (ix2 8 k) = (V m c main_v2 : FVec Ideal S16x1024 .f32) (ix2 8 k) by blk_ext [iblk, idx t]).trans (by
    obtain ⟨z, hz⟩ := rows m c
    rw [hz]; simp only [Args.of]; pointwise)

theorem at_w (c : Dev nD) (t : Fin cfg0.N) (k : Fin 1024) (q : Fin 384) : bW m c t (ix3 0 k q) = (args m c).w k q :=
  (show (iblk m c 7 t : FVec Ideal S1x1024x384 .f32) (ix3 0 k q) = (V m c main_arg2 : FVec Ideal S1x1024x384 .f32) (ix3 0 k q) by blk_ext [iblk, idx t]).trans (by
    rw [V_main_arg2]; rfl)

theorem tot_eq (c : Dev nD) (t : Fin cfg0.N) (k : Fin 2048) : ctxTot (bC m c t) k = (args m c).tot k :=
  Finset.sum_congr rfl fun j _ => at_d m c t j k

/-- The results: the gradients of the weight's columns, of the gain, of the bias, of the learned row. -/
theorem final_weight (c : Dev nD) : (dats m 0 c).arrAt 8 cfg0.N = ((fun y : S1x1024x384.Idx => (args m c).gW (y 1) (y 2)) : S1x1024x384.Idx → EReal) := by
  refine (dats m 0 c).arrAt_eq_of_covers 8 _ (by decide +kernel) fun t hf y => ?_
  obtain ⟨a, k, q, rfl⟩ : ∃ (a : Fin 1) (k : Fin 1024) (q : Fin 384), y = ix3 a k q := ⟨y 0, y 1, y 2, eq_ix3 (n0 := 1) (n1 := 1024) (n2 := 384) y⟩
  obtain rfl : a = 0 := Subsingleton.elim _ _
  blk_simp
  have e : ((win0_8.blk t).view.emb (ix3 0 k q) : S1x1024x384.Idx) = ix3 0 k q := by blk_ext [idx t]
  rw [after0_8, out8, e]
  simp only [at_r, at_x, at_h, tot_eq]
  rfl

theorem final_gain (c : Dev nD) : (dats m 0 c).arrAt 9 cfg0.N = ((fun y : S1x1024.Idx => (args m c).gN (y 1)) : S1x1024.Idx → EReal) := by
  refine (dats m 0 c).arrAt_eq_of_covers 9 _ (by decide +kernel) fun t hf y => ?_
  obtain ⟨a, k, rfl⟩ : ∃ (a : Fin 1) (k : Fin 1024), y = ix2 a k := ⟨y 0, y 1, eq_ix2 (n0 := 1) (n1 := 1024) y⟩
  obtain rfl : a = 0 := Subsingleton.elim _ _
  blk_simp
  have e : ((win0_9.blk t).view.emb (ix2 0 k) : S1x1024.Idx) = ix2 0 k := by blk_ext [idx t]
  rw [after0_9, out9, e]
  simp only [at_n, at_o]
  rfl

theorem final_bias (c : Dev nD) : (dats m 0 c).arrAt 10 cfg0.N = ((fun y : S1x3072.Idx => (args m c).gB (y 1)) : S1x3072.Idx → EReal) := by
  refine (dats m 0 c).arrAt_eq_of_covers 10 _ (by decide +kernel) fun t hf y => ?_
  obtain ⟨a, k, rfl⟩ : ∃ (a : Fin 1) (k : Fin 3072), y = ix2 a k := ⟨y 0, y 1, eq_ix2 (n0 := 1) (n1 := 3072) y⟩
  obtain rfl : a = 0 := Subsingleton.elim _ _
  blk_simp
  have e : ((win0_10.blk t).view.emb (ix2 0 k) : S1x3072.Idx) = ix2 0 k := by blk_ext [idx t]
  rw [after0_10, out10, e]
  simp only [at_h, at_s, at_g, tot_eq]
  rfl

theorem final_ctx (c : Dev nD) : (dats m 0 c).arrAt 11 cfg0.N = ((fun y : S1x1024.Idx => (args m c).gC (y 1)) : S1x1024.Idx → EReal) := by
  refine (dats m 0 c).arrAt_eq_of_covers 11 _ (by decide +kernel) fun t hf y => ?_
  obtain ⟨a, k, rfl⟩ : ∃ (a : Fin 1) (k : Fin 1024), y = ix2 a k := ⟨y 0, y 1, eq_ix2 (n0 := 1) (n1 := 1024) y⟩
  obtain rfl : a = 0 := Subsingleton.elim _ _
  blk_simp
  have e : ((win0_11.blk t).view.emb (ix2 0 k) : S1x1024.Idx) = ix2 0 k := by blk_ext [idx t]
  rw [after0_11, out11, e]
  simp only [at_x, at_w, tot_eq]
  rfl

end Cert.TailIdeal.Value
-- ==== Proof.Tail.Ref.lean ====
module

public import proofs.«01_k».proof.Proof.Gen.TailRefIdeal.Read
public import proofs.«01_k».proof.Proof.Tail.Formula
public import Idealize.ShloMosaic.Lib.Pointwise

/-! The reference's four results, as the formulas. -/

@[expose] public section

set_option maxRecDepth 16384

noncomputable section

namespace Cert.TailRefIdeal.Read

open Idealize.ShloMosaic Idealize.ShloMosaic.TcCoe Idealize.SL.Sem
open Cert.TailRefIdeal Cert.TailRefIdeal.Gen Cert.TailSum Cert.Common

variable (x0 : FVec Ideal S8x1024 .f32) (x1 : FVec Ideal S1024 .f32) (x2 : FVec Ideal S1x1024x384 .f32)
  (x3 x4 x5 x6 x7 : FVec Ideal S8x1024 .f32) (x8 : FVec Ideal S8x2048 .f32)

theorem r_gain (k : Fin 1024) : val_main_v32 (F := Ideal) x3 x4 (ix2 0 k) = (Args.of x0 x1 x2 x3 x4 x5 x6 x7 x8).gN k := by
  have e : val_main_v32 (F := Ideal) x3 x4 (ix2 0 k) = (∑ j, x4 (ix2 j k)) + ∑ j, x3 (ix2 j k) := by
    pointwise [val_main_v32, val_main_v31, val_main_v30, val_main_v29, val_main_v28, val_main_cst_6, val_main_cst_7]
  rw [e, add_comm, ← Finset.sum_add_distrib]; rfl

theorem r_bias (k : Fin 3072) : val_main_v45 (F := Ideal) x5 x6 x7 x8 (ix2 0 k) = (Args.of x0 x1 x2 x3 x4 x5 x6 x7 x8).gB k := by
  have e : val_main_v45 (F := Ideal) x5 x6 x7 x8 (ix2 0 k) = (if h : k.val < 2048 then ∑ j, x8 (ix2 j ⟨k.val, h⟩) else 0)
      + ∑ j, (Args.of x0 x1 x2 x3 x4 x5 x6 x7 x8).row j k := by
    simp only [Args.row, Args.of]
    pointwise [val_main_v45, val_main_v44, val_main_v43, val_main_v42, val_main_v33, val_main_v27, val_main_v26, val_main_cst_8, val_main_cst_5, val_main_cst_10]
  rw [e, add_comm]; rfl

theorem r_tot (q : Fin 384) : val_main_v35 (F := Ideal) x8 (ix2 0 q) = (Args.of x0 x1 x2 x3 x4 x5 x6 x7 x8).tot ⟨q.val, by omega⟩ := by
  simp only [Args.tot, Args.of]
  pointwise [val_main_v35, val_main_v34, val_main_v27, val_main_v26, val_main_cst_9, val_main_cst_5]
  exact dif_pos (by omega)

theorem r_weight (k : Fin 1024) (q : Fin 384) : val_main_v51 (F := Ideal) x0 x1 x5 x6 x7 x8 (ix3 0 k q) = (Args.of x0 x1 x2 x3 x4 x5 x6 x7 x8).gW k q := by
  have e : val_main_v51 (F := Ideal) x0 x1 x5 x6 x7 x8 (ix3 0 k q) = val_main_v35 (F := Ideal) x8 (ix2 0 q) * (x1 (ix1 k) * Ideal.div 1 (1 + Ideal.exp (-x1 (ix1 k))))
      + ∑ j : Fin 8, x5 (ix2 j ⟨q.val, by omega⟩) * (x0 (ix2 j k) * Ideal.div 1 (1 + Ideal.exp (-x0 (ix2 j k)))) := by
    pointwise [val_main_v51, val_main_v50, val_main_v49, val_main_v48, val_main_v46, val_main_v42, val_main_v40, val_main_v38, val_main_v37,
      val_main_v3, val_main_call0_v5, val_main_call0_v4, val_main_call0_cst_0, val_main_call0_v3, val_main_call0_v2, val_main_call0_cst, val_main_call0_v1, val_main_call0_v0,
      val_main_v14_0, val_main_v14_2, val_main_call1_v4, val_main_call1_cst_0, val_main_call1_v3, val_main_call1_v2, val_main_call1_cst, val_main_call1_v1, val_main_call1_v0, val_main_v0]
    simp only [dif_pos (show q.val < 1024 by omega), Fin.sum_univ_one]
  rw [e, r_tot x0 x1 x2 x3 x4 x5 x6 x7 x8, add_comm]
  simp only [Args.gW, sg, zero_sub]
  rw [mul_comm]
  exact congrArg (· + _) (Finset.sum_congr rfl fun j _ => mul_comm _ _)

theorem r_ctx (k : Fin 1024) : val_main_v41 (F := Ideal) x1 x2 x8 (ix2 0 k)
    = (Args.of x0 x1 x2 x3 x4 x5 x6 x7 x8).part k * sg (x1 (ix1 k)) + x1 (ix1 k) * (Args.of x0 x1 x2 x3 x4 x5 x6 x7 x8).part k * (sg (x1 (ix1 k)) * (1 - sg (x1 (ix1 k)))) := by
  have p : val_main_v39 (F := Ideal) x2 x8 (ix2 0 k) = (Args.of x0 x1 x2 x3 x4 x5 x6 x7 x8).part k := by
    have e : val_main_v39 (F := Ideal) x2 x8 (ix2 0 k) = ∑ q, val_main_v35 (F := Ideal) x8 (ix2 0 q) * x2 (ix3 0 k q) := by pointwise [val_main_v39, val_main_v15]
    rw [e]
    exact Finset.sum_congr rfl fun q _ => by rw [r_tot x0 x1 x2 x3 x4 x5 x6 x7 x8]; rfl
  rw [← p]
  simp only [sg, zero_sub]
  pointwise [val_main_v41, val_main_call2_v2, val_main_call2_v1, val_main_call2_v0, val_main_v14_1, val_main_call1_v7, val_main_call1_v6, val_main_call1_cst_1,
      val_main_v14_2, val_main_call1_v4, val_main_call1_cst_0, val_main_call1_v3, val_main_call1_v2, val_main_call1_cst, val_main_call1_v1, val_main_call1_v0, val_main_v0]

end Cert.TailRefIdeal.Read
-- ==== Proof.Tail.Claim.lean ====
module

public import proofs.«01_k».proof.Defs
public import proofs.«01_k».proof.Proof.Gen.TailRefIdeal.Run
public import proofs.«01_k».proof.Proof.Gen.Pre_finite_tail
public import proofs.«01_k».proof.Proof.InBwd.Claim
public import proofs.«01_k».proof.Proof.Tail.Arrays
public import proofs.«01_k».proof.Proof.Tail.Ref

/-! The claim about the modulation's gradients: where the row, the weight and the context's part are finite, the four are the reference's. -/

@[expose] public section

set_option maxRecDepth 16384

noncomputable section

namespace Cert.TailClaim

open Idealize.ShloMosaic Idealize.ShloMosaic.TcCoe Idealize.SL.Sem Cert.Common Cert.TailSum
open Cert.InBwdClaim (ext2)

/-- The two ways to write the learned row's gradient agree under the precondition. -/
theorem ctx_eq (m : (ℓ : Loc Cert.TailIdeal.nD Cert.TailIdeal.τ Cert.TailIdeal.sig) → Buf (Elt Ideal) ℓ) (h : Cert.Pre_TailIdeal_finite_tail m)
    (c : Dev Cert.TailIdeal.nD) (A : Args) (e : A = Cert.TailIdeal.Value.args m c) (k : Fin 1024) :
    A.part k * sg (A.x k) + A.x k * A.part k * (sg (A.x k) * (1 - sg (A.x k))) = A.gC k := by
  obtain ⟨h1, h2, h8⟩ := h c
  subst e
  exact Args.gC_eq _ (fun k => ⟨_, (real_of_test _ _ _ ofBits_inf (congrFun h1 (ix1 k))).symm⟩)
    (fun k q => ⟨_, (real_of_test _ _ _ ofBits_inf (congrFun h2 (ix3 0 k q))).symm⟩)
    (fun j k => ⟨_, (real_of_test _ _ _ ofBits_inf (congrFun h8 (ix2 j k))).symm⟩) k

open Cert.TailRefIdeal Cert.TailRefIdeal.Read in
/-- The reference's run, each result read operation by operation. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      let a0 := m ((c.tc : Thread nD τ).loc main_arg0)
      let a1 := m ((c.tc : Thread nD τ).loc main_arg1)
      let a2 := m ((c.tc : Thread nD τ).loc main_arg2)
      let a3 := m ((c.tc : Thread nD τ).loc main_arg3)
      let a4 := m ((c.tc : Thread nD τ).loc main_arg4)
      let a5 := m ((c.tc : Thread nD τ).loc main_arg5)
      let a6 := m ((c.tc : Thread nD τ).loc main_arg6)
      let a7 := m ((c.tc : Thread nD τ).loc main_arg7)
      let a8 := m ((c.tc : Thread nD τ).loc main_arg8)
      r.2.mem ((c.tc : Thread nD τ).loc main_v51) = val_main_v51 a0 a1 a5 a6 a7 a8
      ∧ r.2.mem ((c.tc : Thread nD τ).loc main_v32) = val_main_v32 a3 a4
      ∧ r.2.mem ((c.tc : Thread nD τ).loc main_v45) = val_main_v45 a5 a6 a7 a8
      ∧ r.2.mem ((c.tc : Thread nD τ).loc main_v41) = val_main_v41 a1 a2 a8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, hr⟩ := h c
    exact ⟨h0.trans (val_main_v51_eq _ _ _ _ _ _), h1.trans (val_main_v32_eq _ _),
      h2.trans (val_main_v45_eq _ _ _ _), h3.trans (val_main_v41_eq _ _ _), hr⟩) (Cert.TailRefIdeal.Value.run m g)

/-- The reference leaves its arguments unchanged; it has no semaphores. -/
theorem frame_ref : Cert.quiescent_TailRefIdeal := fun m g _ =>
  (θ_run Cert.TailRefIdeal.defs _ _).mono (fun r h => ⟨fun c => (h c).2.2.2.2, sem_eq_zero_of_no_sems (by decide) r.2⟩) (run_ref m g)

/-- Arrays of three axes are equal entry by entry. -/
theorem ext3 {a b d : ℕ} {α : Type} {f h : (⟨3, ![a, b, d]⟩ : Shape).Idx → α} (e : ∀ i k q, f (ix3 i k q) = h (ix3 i k q)) : f = h :=
  funext fun y => by rw [eq_ix3 y]; exact e _ _ _

open Cert.TailRefIdeal.Read Cert.TailIdeal.Value in
theorem algebraic : Cert.algebraic_TailIdeal_TailRefIdeal_pre_finite_tail := by
  intro m g m' g' hpre hagree
  refine ⟨fun c => (Cert.TailIdeal.Gen.dats m 0 c).arrAt 8 Cert.TailIdeal.cfg0.N, fun c => (Cert.TailIdeal.Gen.dats m 0 c).arrAt 9 Cert.TailIdeal.cfg0.N,
    fun c => (Cert.TailIdeal.Gen.dats m 0 c).arrAt 10 Cert.TailIdeal.cfg0.N, fun c => (Cert.TailIdeal.Gen.dats m 0 c).arrAt 11 Cert.TailIdeal.cfg0.N, run_blocks m g,
    (θ_run Cert.TailRefIdeal.defs _ _).mono (fun r h c => ?_) (run_ref m' g')⟩
  obtain ⟨h0, h1, h2, h3, hr⟩ := h c
  obtain ⟨e0, e1, e2, e3, e4, e5, e6, e7, e8⟩ := hagree c
  rw [e0, e1, e5, e6, e7, e8] at h0
  rw [e3, e4] at h1
  rw [e5, e6, e7, e8] at h2
  rw [e1, e2, e8] at h3
  have z : ∀ a : Fin 1, a = 0 := fun a => Subsingleton.elim _ _
  exact ⟨h0.trans ((ext3 (a := 1) (b := 1024) (d := 384) (h := fun y => (args m c).gW (y 1) (y 2)) fun i k q => by rw [z i]; exact r_weight _ _ _ _ _ _ _ _ _ k q).trans (final_weight m c).symm),
    h1.trans ((ext2 (a := 1) (b := 1024) (h := fun y => (args m c).gN (y 1)) fun i k => by rw [z i]; exact r_gain _ _ _ _ _ _ _ _ _ k).trans (final_gain m c).symm),
    h2.trans ((ext2 (a := 1) (b := 3072) (h := fun y => (args m c).gB (y 1)) fun i k => by rw [z i]; exact r_bias _ _ _ _ _ _ _ _ _ k).trans (final_bias m c).symm),
    h3.trans ((ext2 (a := 1) (b := 1024) (h := fun y => (args m c).gC (y 1)) fun i k => by
      rw [z i]; exact (r_ctx _ _ _ _ _ _ _ _ _ k).trans (ctx_eq m hpre c _ rfl k)).trans (final_ctx m c).symm), hr⟩

end Cert.TailClaim

end
-- ==== Proof.Proj.Formula.lean ====
module

public import Idealize.ShloMosaic.Lib.Pointwise

/-! The input's projection as formulas: the normed, scaled and shifted rows, and their products with the weight as it is stored. -/

@[expose] public section

noncomputable section

namespace Cert.ProjRow

open Idealize.ShloMosaic

/-- The reciprocal root mean square of a row. -/
def root (x : Fin 1024 → EReal) : EReal :=
  Ideal.rsqrt (Ideal.div (∑ l, x l * x l) (Ideal.ofBits FTy.f32 1149239296#32) + Ideal.ofBits FTy.f32 897988541#32)

/-- A row normed, scaled and shifted. -/
def normed (x g s h : Fin 1024 → EReal) (k : Fin 1024) : EReal := x k * root x * (g k * (1 + s k)) + h k

/-- The columns as stored: the first ones, the ones after the low-rank group, that group, zeros. -/
def stored (f : Fin 5152 → EReal) (q : Fin 5248) : EReal :=
  if h : q.val < 1024 then f ⟨q.val, by omega⟩
  else if h1 : q.val - 1024 < 4096 then f ⟨1056 + (q.val - 1024), by omega⟩
  else if h2 : q.val - 1024 - 4096 < 32 then f ⟨1024 + (q.val - 1024 - 4096), by omega⟩ else 0

/-- The products with the stored columns are the stored products. -/
theorem stored_sum (a : Fin 1024 → EReal) (w : Fin 1024 → Fin 5152 → EReal) (q : Fin 5248) :
    ∑ k, a k * stored (w k) q = stored (fun j => ∑ k, a k * w k j) q := by
  unfold stored
  split_ifs
  · rfl
  · rfl
  · rfl
  · exact Finset.sum_eq_zero fun k _ => mul_zero _

end Cert.ProjRow
-- ==== Proof.Proj.Arrays.lean ====
module

public import proofs.«01_k».proof.Proof.Gen.ProjIdeal.Value
public import proofs.«01_k».proof.Proof.Proj.Formula
public import Idealize.ShloMosaic.Lib.Pipeline.ReadBack
public import Idealize.ShloMosaic.Lib.Pipeline.ValueKit
public import Idealize.ShloMosaic.Lib.Claim
public import Idealize.ShloMosaic.Lib.Pointwise

/-! The input's projection: what the kernel's run leaves. Each step projects the rows that the step before has normed, and norms the next. -/

@[expose] public section

set_option maxRecDepth 16384

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjRow

variable (m : (ℓ : Loc nD τ sig) → Buf (Elt Ideal) ℓ)

/-- One step's rows. -/
theorem pay_rows (X : FVec Ideal S512x1024 .f32) (g s h : FVec Ideal S1x1024 .f32) (i : Fin 512) (k : Fin 1024) : k0_pay2 (F := Ideal) X g s h (ix2 i k)
    = normed (fun l => X (ix2 i l)) (fun l => g (ix2 0 l)) (fun l => s (ix2 0 l)) (fun l => h (ix2 0 l)) k := by
  unfold normed root
  pointwise [k0_pay2]

theorem pay_out (H : FVec Ideal S512x1024 .bf16) (W : FVec Ideal S1024x5248 .bf16) (i : Fin 512) (q : Fin 5248) :
    k0_pay3 (F := Ideal) H W (ix2 i q) = ∑ k : Fin 1024, H (ix2 i k) * W (ix2 k q) := by
  pointwise [k0_pay3]

/-- What a step leaves for the next. -/
theorem left (c : Dev nD) (t : Fin cfg0.N) :
    (outsAt0 m c t.val t.isLt).2.2 = k0_pay2 (F := Ideal) (iblk m c 1 t) (iblk m c 2 t) (iblk m c 3 t) (iblk m c 4 t) := by
  by_cases h0 : t.val % 16 = 0
  · rw [outsAt0_A m c t h0]
    frame_out
    rfl
  · rw [outsAt0_B m c t h0]
    frame_out
    rfl

/-- The rows that a step projects. -/
def rows (c : Dev nD) (t : Fin cfg0.N) : FVec Ideal S512x1024 .bf16 :=
  if t.val % 16 = 0 then k0_pay2 (F := Ideal) (iblk m c 0 t) (iblk m c 2 t) (iblk m c 3 t) (iblk m c 4 t)
  else (outsAt0 m c (t.val - 1) (Nat.lt_of_le_of_lt (Nat.sub_le _ _) t.isLt)).2.2

theorem out7 (c : Dev nD) (t : Fin cfg0.N) : (outsAt0 m c t.val t.isLt).2.1 = rows m c t := by
  unfold rows
  split_ifs with h0
  · rw [outsAt0_A m c t h0]
    frame_out
    try simp (disch := decide) only [View.readCov_fill, read_unread_whole]
  · rw [outsAt0_B m c t h0]
    frame_out
    try simp (disch := decide) only [View.readCov_fill, read_unread_whole]

theorem out6 (c : Dev nD) (t : Fin cfg0.N) : (outsAt0 m c t.val t.isLt).1 = k0_pay3 (F := Ideal) (rows m c t) (iblk m c 5 t) := by
  unfold rows
  split_ifs with h0
  · rw [outsAt0_A m c t h0]
    frame_out
    try simp (disch := decide) only [View.readCov_fill, read_unread_whole]
  · rw [outsAt0_B m c t h0]
    frame_out
    try simp (disch := decide) only [View.readCov_fill, read_unread_whole]

theorem idx : ∀ t : Fin cfg0.N, win0_0.index t = ![0, 0] ∧ win0_1.index t = ![min (t.val + 1) 15, 0] ∧ win0_2.index t = ![0, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

/-- The rows of the launch's arguments, normed. -/
abbrev at_row (c : Dev nD) (i : Fin 8192) (k : Fin 1024) : EReal :=
  normed (fun l => (m ((c.tc : Thread nD τ).loc main_arg0) : FVec Ideal S8192x1024 .f32) (ix2 i l)) (fun l => (m ((c.tc : Thread nD τ).loc main_arg1) : FVec Ideal S1x1024 .f32) (ix2 0 l))
    (fun l => (m ((c.tc : Thread nD τ).loc main_arg2) : FVec Ideal S1x1024 .f32) (ix2 0 l)) (fun l => (m ((c.tc : Thread nD τ).loc main_arg3) : FVec Ideal S1x1024 .f32) (ix2 0 l)) k

/-- The weight. -/
abbrev weight (c : Dev nD) : FVec Ideal S1024x5152 .f32 := m ((c.tc : Thread nD τ).loc main_arg4)

theorem padded (c : Dev nD) (k : Fin 1024) (q : Fin 5248) : (V m c main_v7 : FVec Ideal S1024x5248 .bf16) (ix2 k q) = stored (fun j => weight m c (ix2 k j)) q := by
  unfold stored
  simp only [V, hostOps0]; entry_read
  pointwise

theorem at_gain (c : Dev nD) (t : Fin cfg0.N) (l : Fin 1024) : (iblk m c 2 t : FVec Ideal S1x1024 .f32) (ix2 0 l) = (m ((c.tc : Thread nD τ).loc main_arg1) : FVec Ideal S1x1024 .f32) (ix2 0 l) :=
  (show _ = (V m c main_arg1 : FVec Ideal S1x1024 .f32) (ix2 0 l) by blk_ext [iblk, idx t]).trans (by rw [V_main_arg1])

theorem at_scale (c : Dev nD) (t : Fin cfg0.N) (l : Fin 1024) : (iblk m c 3 t : FVec Ideal S1x1024 .f32) (ix2 0 l) = (m ((c.tc : Thread nD τ).loc main_arg2) : FVec Ideal S1x1024 .f32) (ix2 0 l) :=
  (show _ = (V m c main_arg2 : FVec Ideal S1x1024 .f32) (ix2 0 l) by blk_ext [iblk, idx t]).trans (by rw [V_main_arg2])

theorem at_shift (c : Dev nD) (t : Fin cfg0.N) (l : Fin 1024) : (iblk m c 4 t : FVec Ideal S1x1024 .f32) (ix2 0 l) = (m ((c.tc : Thread nD τ).loc main_arg3) : FVec Ideal S1x1024 .f32) (ix2 0 l) :=
  (show _ = (V m c main_arg3 : FVec Ideal S1x1024 .f32) (ix2 0 l) by blk_ext [iblk, idx t]).trans (by rw [V_main_arg3])

theorem at_weight (c : Dev nD) (t : Fin cfg0.N) (k : Fin 1024) (q : Fin 5248) : (iblk m c 5 t : FVec Ideal S1024x5248 .bf16) (ix2 k q) = stored (fun j => weight m c (ix2 k j)) q :=
  (show _ = (V m c main_v7 : FVec Ideal S1024x5248 .bf16) (ix2 k q) by blk_ext [iblk, idx t]).trans (padded m c k q)

theorem at_first (c : Dev nD) (t : Fin cfg0.N) (i : Fin 512) (l : Fin 1024) :
    (iblk m c 0 t : FVec Ideal S512x1024 .f32) (ix2 i l) = (m ((c.tc : Thread nD τ).loc main_arg0) : FVec Ideal S8192x1024 .f32) (ix2 ⟨i.val, by omega⟩ l) :=
  (show _ = (V m c main_arg0 : FVec Ideal S8192x1024 .f32) (ix2 ⟨i.val, by omega⟩ l) by blk_ext [iblk, idx t]).trans (by rw [V_main_arg0])

theorem at_next (c : Dev nD) (t : Fin cfg0.N) (ht : t.val < 15) (i : Fin 512) (l : Fin 1024) :
    (iblk m c 1 t : FVec Ideal S512x1024 .f32) (ix2 i l) = (m ((c.tc : Thread nD τ).loc main_arg0) : FVec Ideal S8192x1024 .f32) (ix2 ⟨512 * (t.val + 1) + i.val, by omega⟩ l) :=
  (show _ = (V m c main_arg0 : FVec Ideal S8192x1024 .f32) (ix2 ⟨512 * (t.val + 1) + i.val, by omega⟩ l) by
    have e : min (t.val + 1) 15 = t.val + 1 := by omega
    blk_ext [iblk, idx t, e]).trans (by rw [V_main_arg0])

theorem lt16 (t : Fin cfg0.N) : t.val < 16 := t.isLt

theorem rows_eq (c : Dev nD) (t : Fin cfg0.N) (i : Fin 512) (k : Fin 1024) :
    rows m c t (ix2 i k) = at_row m c ⟨512 * t.val + i.val, by have := lt16 t; omega⟩ k := by
  unfold rows
  split_ifs with h0
  · have ht : t.val = 0 := by have := lt16 t; omega
    rw [pay_rows]
    simp only [at_first, at_gain, at_scale, at_shift, at_row, ht, Nat.mul_zero, Nat.zero_add]
  · have ht : t.val ≠ 0 := fun e => h0 (by rw [e])
    have hl := lt16 t
    obtain ⟨n, hn⟩ : ∃ n : Fin cfg0.N, n.val = t.val - 1 := ⟨⟨t.val - 1, Nat.lt_of_le_of_lt (Nat.sub_le _ _) t.isLt⟩, rfl⟩
    have e : (outsAt0 m c (t.val - 1) (Nat.lt_of_le_of_lt (Nat.sub_le _ _) t.isLt)).2.2 = (outsAt0 m c n.val n.isLt).2.2 := by simp only [hn]
    rw [e, left, pay_rows]
    have h1 : n.val < 15 := by omega
    have h2 : n.val + 1 = t.val := by omega
    simp only [at_next m c n h1, at_gain, at_scale, at_shift, at_row, h2]

theorem final_rows (c : Dev nD) : (dats m 0 c).arrAt 7 cfg0.N = ((fun y : S8192x1024.Idx => at_row m c (y 0) (y 1)) : S8192x1024.Idx → EReal) := by
  refine (dats m 0 c).arrAt_eq_of_covers 7 _ (by decide +kernel) fun t hf y => ?_
  obtain ⟨i, k, rfl⟩ : ∃ (i : Fin 512) (k : Fin 1024), y = ix2 i k := ⟨y 0, y 1, eq_ix2 (n0 := 512) (n1 := 1024) y⟩
  have ht := lt16 t
  blk_simp
  have e : ((win0_7.blk t).view.emb (ix2 i k) : S8192x1024.Idx) = ix2 ⟨512 * t.val + i.val, by omega⟩ k := by blk_ext [idx t]
  rw [after0_7, out7, rows_eq, e]
  rfl

theorem final_products (c : Dev nD) : (dats m 0 c).arrAt 6 cfg0.N
    = ((fun y : S8192x5248.Idx => stored (fun j => ∑ k, at_row m c (y 0) k * weight m c (ix2 k j)) (y 1)) : S8192x5248.Idx → EReal) := by
  refine (dats m 0 c).arrAt_eq_of_covers 6 _ (by decide +kernel) fun t hf y => ?_
  obtain ⟨i, q, rfl⟩ : ∃ (i : Fin 512) (q : Fin 5248), y = ix2 i q := ⟨y 0, y 1, eq_ix2 (n0 := 512) (n1 := 5248) y⟩
  have ht := lt16 t
  blk_simp
  have e : ((win0_6.blk t).view.emb (ix2 i q) : S8192x5248.Idx) = ix2 ⟨512 * t.val + i.val, by omega⟩ q := by blk_ext [idx t]
  rw [after0_6, out6, pay_out, e]
  simp only [rows_eq, at_weight, stored_sum]
  rfl

end Cert.ProjIdeal.Value
-- ==== Proof.Proj.Ref.lean ====
module

public import proofs.«01_k».proof.Proof.Gen.ProjRefIdeal.Read
public import proofs.«01_k».proof.Proof.Proj.Formula

/-! The reference's two results, as the formulas. -/

@[expose] public section

set_option maxRecDepth 16384

noncomputable section

namespace Cert.ProjRefIdeal.Read

open Idealize.ShloMosaic Idealize.ShloMosaic.TcCoe Idealize.SL.Sem
open Cert.ProjRefIdeal Cert.ProjRefIdeal.Gen Cert.ProjRow

variable (x0 : FVec Ideal S8192x1024 .f32) (x1 x2 x3 : FVec Ideal S1x1024 .f32) (x4 : FVec Ideal S1024x5152 .f32)

theorem r_row (i : Fin 8192) (k : Fin 1024) : val_main_v17 (F := Ideal) x0 x1 x2 x3 (ix2 i k)
    = normed (fun l => x0 (ix2 i l)) (fun l => x1 (ix2 0 l)) (fun l => x2 (ix2 0 l)) (fun l => x3 (ix2 0 l)) k := by
  have e : val_main_v17 (F := Ideal) x0 x1 x2 x3 (ix2 i k) = x0 (ix2 i k) * root (fun l => x0 (ix2 i l)) * x1 (ix2 0 k) * (1 + x2 (ix2 0 k)) + x3 (ix2 0 k) := by
    unfold root
    pointwise [val_main_v17, val_main_v16, val_main_v15, val_main_v14, val_main_v13, val_main_v12, val_main_cst_2, val_main_v11, val_main_v10, val_main_v9, val_main_v8,
      val_main_v7, val_main_v6, val_main_v5, val_main_cst_1, val_main_v4, val_main_v3, val_main_cst_0, val_main_v2, val_main_v1, val_main_cst, val_main_v0]
  rw [e, normed, mul_assoc (_ * _) (x1 _)]

theorem r_rows (i : Fin 8192) (k : Fin 1024) : val_main_v25 (F := Ideal) x0 x1 x2 x3 (ix2 i k)
    = normed (fun l => x0 (ix2 i l)) (fun l => x1 (ix2 0 l)) (fun l => x2 (ix2 0 l)) (fun l => x3 (ix2 0 l)) k := by
  rw [← r_row]
  pointwise [val_main_v25]

theorem r_products (i : Fin 8192) (q : Fin 5248) : val_main_v24 (F := Ideal) x0 x1 x2 x3 x4 (ix2 i q)
    = stored (fun j => ∑ k, normed (fun l => x0 (ix2 i l)) (fun l => x1 (ix2 0 l)) (fun l => x2 (ix2 0 l)) (fun l => x3 (ix2 0 l)) k * x4 (ix2 k j)) q := by
  simp only [← r_row]
  unfold stored
  pointwise [val_main_v24, val_main_v23, val_main_v22, val_main_cst_3, val_main_v21, val_main_v20, val_main_v19, val_main_v18]

end Cert.ProjRefIdeal.Read
-- ==== Proof.Proj.Claim.lean ====
module

public import proofs.«01_k».proof.Defs
public import proofs.«01_k».proof.Proof.Gen.ProjRefIdeal.Run
public import proofs.«01_k».proof.Proof.InBwd.Claim
public import proofs.«01_k».proof.Proof.Proj.Arrays
public import proofs.«01_k».proof.Proof.Proj.Ref

/-! The claim about the input's projection: its rows and its products are the reference's, for all arguments. -/

@[expose] public section

set_option maxRecDepth 16384

noncomputable section

namespace Cert.ProjClaim

open Idealize.ShloMosaic Idealize.ShloMosaic.TcCoe Idealize.SL.Sem Cert.ProjRow
open Cert.InBwdClaim (ext2)

open Cert.ProjRefIdeal Cert.ProjRefIdeal.Read in
/-- The reference's run, each result read operation by operation. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      let a0 := m ((c.tc : Thread nD τ).loc main_arg0)
      let a1 := m ((c.tc : Thread nD τ).loc main_arg1)
      let a2 := m ((c.tc : Thread nD τ).loc main_arg2)
      let a3 := m ((c.tc : Thread nD τ).loc main_arg3)
      let a4 := m ((c.tc : Thread nD τ).loc main_arg4)
      r.2.mem ((c.tc : Thread nD τ).loc main_v24) = val_main_v24 a0 a1 a2 a3 a4
      ∧ r.2.mem ((c.tc : Thread nD τ).loc main_v25) = val_main_v25 a0 a1 a2 a3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, hr⟩ := h c
    exact ⟨h0.trans (val_main_v24_eq _ _ _ _ _), h1.trans (val_main_v25_eq _ _ _ _), hr⟩) (Cert.ProjRefIdeal.Value.run m g)

/-- The reference leaves its arguments unchanged; it has no semaphores. -/
theorem frame_ref : Cert.quiescent_ProjRefIdeal := fun m g _ =>
  (θ_run Cert.ProjRefIdeal.defs _ _).mono (fun r h => ⟨fun c => (h c).2.2, sem_eq_zero_of_no_sems (by decide) r.2⟩) (run_ref m g)

open Cert.ProjRefIdeal.Read Cert.ProjIdeal.Value in
theorem algebraic : Cert.algebraic_ProjIdeal_ProjRefIdeal := by
  intro m g m' g' hpre hagree
  refine ⟨fun c => (Cert.ProjIdeal.Gen.dats m 0 c).arrAt 6 Cert.ProjIdeal.cfg0.N, fun c => (Cert.ProjIdeal.Gen.dats m 0 c).arrAt 7 Cert.ProjIdeal.cfg0.N, run_blocks m g,
    (θ_run Cert.ProjRefIdeal.defs _ _).mono (fun r h c => ?_) (run_ref m' g')⟩
  obtain ⟨h0, h1, hr⟩ := h c
  obtain ⟨e0, e1, e2, e3, e4⟩ := hagree c
  rw [e0, e1, e2, e3, e4] at h0
  rw [e0, e1, e2, e3] at h1
  exact ⟨h0.trans ((ext2 (a := 8192) (b := 5248) (h := fun y => stored (fun j => ∑ k, at_row m c (y 0) k * weight m c (ix2 k j)) (y 1)) fun i q => r_products _ _ _ _ _ i q).trans
      (final_products m c).symm),
    h1.trans ((ext2 (a := 8192) (b := 1024) (h := fun y => at_row m c (y 0) (y 1)) fun i k => r_rows _ _ _ _ i k).trans (final_rows m c).symm), hr⟩

end Cert.ProjClaim

end
-- ==== Proof.lean ====
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Value
public import proofs.«01_k».proof.Proof.Gen.InRefIdeal.Run
public import proofs.«01_k».proof.Proof.Gen.InRefIdeal.Read
public import proofs.«01_k».proof.Proof.Gen.Mid
public import proofs.«01_k».proof.Proof.Gen.Pre_finite_mid
public import proofs.«01_k».proof.Proof.Gen.MidIdeal.Frame.Runs
public import proofs.«01_k».proof.Proof.Gen.MidRefIdeal.Run
public import proofs.«01_k».proof.Proof.Gen.MidRefIdeal.Read
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InRefIdeal
public import proofs.«01_k».proof.Proof.Gen.Pre_finite_in
public import proofs.«01_k».proof.Proof.InBwd.Claim
public import proofs.«01_k».proof.Proof.Mid.Claim
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.Pre_finite_ctx
public import proofs.«01_k».proof.Proof.Ctx.Claim
public import proofs.«01_k».proof.Proof.Gen.States
public import proofs.«01_k».proof.Proof.Gen.States.Frame
public import proofs.«01_k».proof.Proof.Gen.StatesIdeal
public import proofs.«01_k».proof.Proof.Gen.StatesIdeal.Frame
public import proofs.«01_k».proof.Proof.Gen.StatesIdeal.Value
public import proofs.«01_k».proof.Proof.Gen.StatesRefIdeal
public import proofs.«01_k».proof.Proof.Gen.StatesRefIdeal.Run
public import proofs.«01_k».proof.Proof.Gen.StatesRefIdeal.Read
public import proofs.«01_k».proof.Proof.Gen.Pre_finite_states
public import proofs.«01_k».proof.Proof.States.Claim
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.Gen.Pre_finite_tail
public import proofs.«01_k».proof.Proof.Tail.Claim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Proj.Claim
public import Idealize.ShloMosaic.Adequacy
public import Idealize.ShloMosaic.Init

@[expose] public section

noncomputable section

/-! The claims, from the modules of the calls. -/

namespace Cert.Proof

open Idealize.ShloMosaic Idealize.SL.Sem

theorem claim : Cert.Claim := ⟨Cert.InBwd.Gen.facts, Cert.InBwdIdeal.Gen.facts, Cert.InRefIdeal.Gen.facts, Cert.Mid.Gen.facts, Cert.MidIdeal.Gen.facts,
    Cert.MidRefIdeal.Gen.facts, Cert.Ctx.Gen.facts, Cert.CtxIdeal.Gen.facts, Cert.CtxRefIdeal.Gen.facts,
    Cert.States.Gen.facts, Cert.StatesIdeal.Gen.facts, Cert.StatesRefIdeal.Gen.facts,
    Cert.Tail.Gen.facts, Cert.TailIdeal.Gen.facts, Cert.TailRefIdeal.Gen.facts,
    Cert.Proj.Gen.facts, Cert.ProjIdeal.Gen.facts, Cert.ProjRefIdeal.Gen.facts,
    Cert.Pre_finite_in.Gen.facts, Cert.Pre_finite_mid.Gen.facts, Cert.Pre_finite_ctx.Gen.facts, Cert.Pre_finite_states.Gen.facts, Cert.Pre_finite_tail.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.InBwd.Gen.frame m ρ
  · exact fun m ρ _ => Cert.InBwdIdeal.Gen.frame m ρ
  · exact fun m ρ _ => Cert.InBwdIdeal.Gen.frame m ρ
  · exact fun m g _ => Cert.InBwdClaim.frame_ref m g trivial
  · exact fun m g _ => Cert.InBwdClaim.frame_ref m g trivial
  · exact Cert.MidClaim.frame_kernel
  · exact Cert.MidClaim.frame_ideal
  · exact fun m ρ _ => Cert.MidClaim.frame_ideal m ρ trivial
  · exact fun m g _ => Cert.MidClaim.frame_ref m g trivial
  · exact fun m g _ => Cert.MidClaim.frame_ref m g trivial
  · exact fun m ρ _ => Cert.Ctx.Gen.frame m ρ
  · exact fun m ρ _ => Cert.CtxIdeal.Gen.frame m ρ
  · exact fun m ρ _ => Cert.CtxIdeal.Gen.frame m ρ
  · exact fun m g _ => Cert.CtxClaim.frame_ref m g trivial
  · exact fun m g _ => Cert.CtxClaim.frame_ref m g trivial
  · exact fun m ρ _ => Cert.States.Gen.frame m ρ
  · exact fun m ρ _ => Cert.StatesIdeal.Gen.frame m ρ
  · exact fun m ρ _ => Cert.StatesIdeal.Gen.frame m ρ
  · exact fun m g _ => Cert.StatesClaim.frame_ref m g trivial
  · exact fun m g _ => Cert.StatesClaim.frame_ref m g trivial
  · exact fun m ρ _ => Cert.Tail.Gen.frame m ρ
  · exact fun m ρ _ => Cert.TailIdeal.Gen.frame m ρ
  · exact fun m ρ _ => Cert.TailIdeal.Gen.frame m ρ
  · exact fun m g _ => Cert.TailClaim.frame_ref m g trivial
  · exact fun m g _ => Cert.TailClaim.frame_ref m g trivial
  · exact fun m ρ _ => Cert.Proj.Gen.frame m ρ
  · exact fun m ρ _ => Cert.ProjIdeal.Gen.frame m ρ
  · exact Cert.ProjClaim.frame_ref
  · trivial
  · exact Cert.InBwdClaim.algebraic
  · trivial
  · exact Cert.MidClaim.algebraic
  · trivial
  · exact Cert.CtxClaim.algebraic
  · trivial
  · exact Cert.StatesClaim.algebraic
  · trivial
  · exact Cert.TailClaim.algebraic
  · trivial
  · exact Cert.ProjClaim.algebraic⟩

end Cert.Proof

end
